-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteRefIdeal (m : (ℓ : Loc Cert.RouteRefIdeal.nD Cert.RouteRefIdeal.τ Cert.RouteRefIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseRefIdeal (m : (ℓ : Loc Cert.DenseRefIdeal.nD Cert.DenseRefIdeal.τ Cert.DenseRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInRefIdeal (m : (ℓ : Loc Cert.GlaInRefIdeal.nD Cert.GlaInRefIdeal.τ Cert.GlaInRefIdeal.sig) → Buf (Elt Ideal) ℓ) : Prop :=
  True

def Pre_DeltaIn (m : (ℓ : Loc Cert.DeltaIn.nD Cert.DeltaIn.τ Cert.DeltaIn.sig) → Buf (Elt Bits) ℓ) : Prop :=
  True

def Pre_DeltaInIdeal (m : (ℓ : Loc Cert.DeltaInIdeal.nD Cert.DeltaInIdeal.τ Cert.DeltaInIdeal.sig) → Buf (Elt Ideal) ℓ) : Prop :=
  True

def Pre_DeltaInRefIdeal (m : (ℓ : Loc Cert.DeltaInRefIdeal.nD Cert.DeltaInRefIdeal.τ Cert.DeltaInRefIdeal.sig) → Buf (Elt Ideal) ℓ) : Prop :=
  True

def Pre_HyenaIn (m : (ℓ : Loc Cert.HyenaIn.nD Cert.HyenaIn.τ Cert.HyenaIn.sig) → Buf (Elt Bits) ℓ) : Prop :=
  True

def Pre_HyenaInIdeal (m : (ℓ : Loc Cert.HyenaInIdeal.nD Cert.HyenaInIdeal.τ Cert.HyenaInIdeal.sig) → Buf (Elt Ideal) ℓ) : Prop :=
  True

def Pre_HyenaInRefIdeal (m : (ℓ : Loc Cert.HyenaInRefIdeal.nD Cert.HyenaInRefIdeal.τ Cert.HyenaInRefIdeal.sig) → Buf (Elt Ideal) ℓ) : Prop :=
  True

def Pre_CtxKernel (m : (ℓ : Loc Cert.CtxKernel.nD Cert.CtxKernel.τ Cert.CtxKernel.sig) → Buf (Elt Bits) ℓ) : Prop :=
  True

def Pre_CtxKernelIdeal (m : (ℓ : Loc Cert.CtxKernelIdeal.nD Cert.CtxKernelIdeal.τ Cert.CtxKernelIdeal.sig) → Buf (Elt Ideal) ℓ) : Prop :=
  True

def Pre_CtxReferenceIdeal (m : (ℓ : Loc Cert.CtxReferenceIdeal.nD Cert.CtxReferenceIdeal.τ Cert.CtxReferenceIdeal.sig) → Buf (Elt Ideal) ℓ) : Prop :=
  True

def Pre_CtxCombine (m : (ℓ : Loc Cert.CtxCombine.nD Cert.CtxCombine.τ Cert.CtxCombine.sig) → Buf (Elt Bits) ℓ) : Prop :=
  True

def Pre_CtxCombineIdeal (m : (ℓ : Loc Cert.CtxCombineIdeal.nD Cert.CtxCombineIdeal.τ Cert.CtxCombineIdeal.sig) → Buf (Elt Ideal) ℓ) : Prop :=
  True

def Pre_CtxCombineRefIdeal (m : (ℓ : Loc Cert.CtxCombineRefIdeal.nD Cert.CtxCombineRefIdeal.τ Cert.CtxCombineRefIdeal.sig) → Buf (Elt Ideal) ℓ) : Prop :=
  True

def Pre_CtxRoute (m : (ℓ : Loc Cert.CtxRoute.nD Cert.CtxRoute.τ Cert.CtxRoute.sig) → Buf (Elt Bits) ℓ) : Prop :=
  True

def Pre_CtxRouteIdeal (m : (ℓ : Loc Cert.CtxRouteIdeal.nD Cert.CtxRouteIdeal.τ Cert.CtxRouteIdeal.sig) → Buf (Elt Ideal) ℓ) : Prop :=
  True

def Pre_CtxRouteRefIdeal (m : (ℓ : Loc Cert.CtxRouteRefIdeal.nD Cert.CtxRouteRefIdeal.τ Cert.CtxRouteRefIdeal.sig) → Buf (Elt Ideal) ℓ) : Prop :=
  True

def Pre_CtxDense (m : (ℓ : Loc Cert.CtxDense.nD Cert.CtxDense.τ Cert.CtxDense.sig) → Buf (Elt Bits) ℓ) : Prop :=
  True

def Pre_CtxDenseIdeal (m : (ℓ : Loc Cert.CtxDenseIdeal.nD Cert.CtxDenseIdeal.τ Cert.CtxDenseIdeal.sig) → Buf (Elt Ideal) ℓ) : Prop :=
  True

def Pre_CtxDenseRefIdeal (m : (ℓ : Loc Cert.CtxDenseRefIdeal.nD Cert.CtxDenseRefIdeal.τ Cert.CtxDenseRefIdeal.sig) → Buf (Elt Ideal) ℓ) : Prop :=
  True

def Pre_CtxOut (m : (ℓ : Loc Cert.CtxOut.nD Cert.CtxOut.τ Cert.CtxOut.sig) → Buf (Elt Bits) ℓ) : Prop :=
  True

def Pre_CtxOutIdeal (m : (ℓ : Loc Cert.CtxOutIdeal.nD Cert.CtxOutIdeal.τ Cert.CtxOutIdeal.sig) → Buf (Elt Ideal) ℓ) : Prop :=
  True

def Pre_CtxOutRefIdeal (m : (ℓ : Loc Cert.CtxOutRefIdeal.nD Cert.CtxOutRefIdeal.τ Cert.CtxOutRefIdeal.sig) → Buf (Elt Ideal) ℓ) : Prop :=
  True

def Pre_CtxGlaIn (m : (ℓ : Loc Cert.CtxGlaIn.nD Cert.CtxGlaIn.τ Cert.CtxGlaIn.sig) → Buf (Elt Bits) ℓ) : Prop :=
  True

def Pre_CtxGlaInIdeal (m : (ℓ : Loc Cert.CtxGlaInIdeal.nD Cert.CtxGlaInIdeal.τ Cert.CtxGlaInIdeal.sig) → Buf (Elt Ideal) ℓ) : Prop :=
  True

def Pre_CtxGlaInRefIdeal (m : (ℓ : Loc Cert.CtxGlaInRefIdeal.nD Cert.CtxGlaInRefIdeal.τ Cert.CtxGlaInRefIdeal.sig) → Buf (Elt Ideal) ℓ) : Prop :=
  True

def Pre_CtxDeltaIn (m : (ℓ : Loc Cert.CtxDeltaIn.nD Cert.CtxDeltaIn.τ Cert.CtxDeltaIn.sig) → Buf (Elt Bits) ℓ) : Prop :=
  True

def Pre_CtxDeltaInIdeal (m : (ℓ : Loc Cert.CtxDeltaInIdeal.nD Cert.CtxDeltaInIdeal.τ Cert.CtxDeltaInIdeal.sig) → Buf (Elt Ideal) ℓ) : Prop :=
  True

def Pre_CtxDeltaInRefIdeal (m : (ℓ : Loc Cert.CtxDeltaInRefIdeal.nD Cert.CtxDeltaInRefIdeal.τ Cert.CtxDeltaInRefIdeal.sig) → Buf (Elt Ideal) ℓ) : Prop :=
  True

def Pre_CtxHyenaIn (m : (ℓ : Loc Cert.CtxHyenaIn.nD Cert.CtxHyenaIn.τ Cert.CtxHyenaIn.sig) → Buf (Elt Bits) ℓ) : Prop :=
  True

def Pre_CtxHyenaInIdeal (m : (ℓ : Loc Cert.CtxHyenaInIdeal.nD Cert.CtxHyenaInIdeal.τ Cert.CtxHyenaInIdeal.sig) → Buf (Elt Ideal) ℓ) : Prop :=
  True

def Pre_CtxHyenaInRefIdeal (m : (ℓ : Loc Cert.CtxHyenaInRefIdeal.nD Cert.CtxHyenaInRefIdeal.τ Cert.CtxHyenaInRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ r.2.sem = fun _ => 0)

def quiescent_DenseRefIdeal [hDenseRefIdeal : Cert.DenseRefIdeal.Facts] : Prop :=
  ∀ (m : (ℓ : Loc Cert.DenseRefIdeal.nD Cert.DenseRefIdeal.τ Cert.DenseRefIdeal.sig) → Buf (Elt Ideal) ℓ) (g : Dev Cert.DenseRefIdeal.nD → PrngReg), Pre_DenseRefIdeal m →
    θ_run (Cert.DenseRefIdeal.defs (F := Ideal)) (onTc (τ := Cert.DenseRefIdeal.τ) (Cert.DenseRefIdeal.main (F := Ideal))) ⟨m, fun _ => 0, g⟩ (fun r => (∀ c : Dev Cert.DenseRefIdeal.nD,
      r.2.mem ((c.tc : Thread Cert.DenseRefIdeal.nD Cert.DenseRefIdeal.τ).loc Cert.DenseRefIdeal.main_arg0) = m ((c.tc : Thread Cert.DenseRefIdeal.nD Cert.DenseRefIdeal.τ).loc Cert.DenseRefIdeal.main_arg0)
      ∧ r.2.mem ((c.tc : Thread Cert.DenseRefIdeal.nD Cert.DenseRefIdeal.τ).loc Cert.DenseRefIdeal.main_arg1) = m ((c.tc : Thread Cert.DenseRefIdeal.nD Cert.DenseRefIdeal.τ).loc Cert.DenseRefIdeal.main_arg1)
      ∧ r.2.mem ((c.tc : Thread Cert.DenseRefIdeal.nD Cert.DenseRefIdeal.τ).loc Cert.DenseRefIdeal.main_arg2) = m ((c.tc : Thread Cert.DenseRefIdeal.nD Cert.DenseRefIdeal.τ).loc Cert.DenseRefIdeal.main_arg2)
      ∧ r.2.mem ((c.tc : Thread Cert.DenseRefIdeal.nD Cert.DenseRefIdeal.τ).loc Cert.DenseRefIdeal.main_arg3) = m ((c.tc : Thread Cert.DenseRefIdeal.nD Cert.DenseRefIdeal.τ).loc Cert.DenseRefIdeal.main_arg3)
      ∧ r.2.mem ((c.tc : Thread Cert.DenseRefIdeal.nD Cert.DenseRefIdeal.τ).loc Cert.DenseRefIdeal.main_arg4) = m ((c.tc : Thread Cert.DenseRefIdeal.nD Cert.DenseRefIdeal.τ).loc Cert.DenseRefIdeal.main_arg4)
      ∧ r.2.mem ((c.tc : Thread Cert.DenseRefIdeal.nD Cert.DenseRefIdeal.τ).loc Cert.DenseRefIdeal.main_arg5) = m ((c.tc : Thread Cert.DenseRefIdeal.nD Cert.DenseRefIdeal.τ).loc Cert.DenseRefIdeal.main_arg5)
      ∧ r.2.mem ((c.tc : Thread Cert.DenseRefIdeal.nD Cert.DenseRefIdeal.τ).loc Cert.DenseRefIdeal.main_arg6) = m ((c.tc : Thread Cert.DenseRefIdeal.nD Cert.DenseRefIdeal.τ).loc Cert.DenseRefIdeal.main_arg6)
      ∧ r.2.mem ((c.tc : Thread Cert.DenseRefIdeal.nD Cert.DenseRefIdeal.τ).loc Cert.DenseRefIdeal.main_arg7) = m ((c.tc : Thread Cert.DenseRefIdeal.nD Cert.DenseRefIdeal.τ).loc Cert.DenseRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1)
      ∧ r.2.mem ((c.tc : Thread Cert.GlaIn.nD Cert.GlaIn.τ).loc Cert.GlaIn.main_arg2) = m ((c.tc : Thread Cert.GlaIn.nD Cert.GlaIn.τ).loc Cert.GlaIn.main_arg2)
      ∧ r.2.mem ((c.tc : Thread Cert.GlaIn.nD Cert.GlaIn.τ).loc Cert.GlaIn.main_arg3) = m ((c.tc : Thread Cert.GlaIn.nD Cert.GlaIn.τ).loc Cert.GlaIn.main_arg3)
      ∧ r.2.mem ((c.tc : Thread Cert.GlaIn.nD Cert.GlaIn.τ).loc Cert.GlaIn.main_arg4) = m ((c.tc : Thread Cert.GlaIn.nD Cert.GlaIn.τ).loc Cert.GlaIn.main_arg4))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
      ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
      ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
      ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1)
      ∧ r.2.mem ((c.tc : Thread Cert.GlaInRefIdeal.nD Cert.GlaInRefIdeal.τ).loc Cert.GlaInRefIdeal.main_arg2) = m ((c.tc : Thread Cert.GlaInRefIdeal.nD Cert.GlaInRefIdeal.τ).loc Cert.GlaInRefIdeal.main_arg2)
      ∧ r.2.mem ((c.tc : Thread Cert.GlaInRefIdeal.nD Cert.GlaInRefIdeal.τ).loc Cert.GlaInRefIdeal.main_arg3) = m ((c.tc : Thread Cert.GlaInRefIdeal.nD Cert.GlaInRefIdeal.τ).loc Cert.GlaInRefIdeal.main_arg3)
      ∧ r.2.mem ((c.tc : Thread Cert.GlaInRefIdeal.nD Cert.GlaInRefIdeal.τ).loc Cert.GlaInRefIdeal.main_arg4) = m ((c.tc : Thread Cert.GlaInRefIdeal.nD Cert.GlaInRefIdeal.τ).loc Cert.GlaInRefIdeal.main_arg4))
      ∧ r.2.sem = fun _ => 0)

def quiescent_DeltaIn [hDeltaIn : Cert.DeltaIn.Facts] : Prop :=
  ∀ (m : (ℓ : Loc Cert.DeltaIn.nD Cert.DeltaIn.τ Cert.DeltaIn.sig) → Buf (Elt Bits) ℓ) (g : Dev Cert.DeltaIn.nD → PrngReg), Pre_DeltaIn m →
    θ_run (Cert.DeltaIn.defs (F := Bits)) (onTc (τ := Cert.DeltaIn.τ) (Cert.DeltaIn.main (F := Bits))) ⟨m, fun _ => 0, g⟩ (fun r => (∀ c : Dev Cert.DeltaIn.nD,
      r.2.mem ((c.tc : Thread Cert.DeltaIn.nD Cert.DeltaIn.τ).loc Cert.DeltaIn.main_arg0) = m ((c.tc : Thread Cert.DeltaIn.nD Cert.DeltaIn.τ).loc Cert.DeltaIn.main_arg0)
      ∧ r.2.mem ((c.tc : Thread Cert.DeltaIn.nD Cert.DeltaIn.τ).loc Cert.DeltaIn.main_arg1) = m ((c.tc : Thread Cert.DeltaIn.nD Cert.DeltaIn.τ).loc Cert.DeltaIn.main_arg1)
      ∧ r.2.mem ((c.tc : Thread Cert.DeltaIn.nD Cert.DeltaIn.τ).loc Cert.DeltaIn.main_arg2) = m ((c.tc : Thread Cert.DeltaIn.nD Cert.DeltaIn.τ).loc Cert.DeltaIn.main_arg2)
      ∧ r.2.mem ((c.tc : Thread Cert.DeltaIn.nD Cert.DeltaIn.τ).loc Cert.DeltaIn.main_arg3) = m ((c.tc : Thread Cert.DeltaIn.nD Cert.DeltaIn.τ).loc Cert.DeltaIn.main_arg3))
      ∧ r.2.sem = fun _ => 0)

def quiescent_DeltaInIdeal [hDeltaInIdeal : Cert.DeltaInIdeal.Facts] : Prop :=
  ∀ (m : (ℓ : Loc Cert.DeltaInIdeal.nD Cert.DeltaInIdeal.τ Cert.DeltaInIdeal.sig) → Buf (Elt Ideal) ℓ) (g : Dev Cert.DeltaInIdeal.nD → PrngReg), Pre_DeltaInIdeal m →
    θ_run (Cert.DeltaInIdeal.defs (F := Ideal)) (onTc (τ := Cert.DeltaInIdeal.τ) (Cert.DeltaInIdeal.main (F := Ideal))) ⟨m, fun _ => 0, g⟩ (fun r => (∀ c : Dev Cert.DeltaInIdeal.nD,
      r.2.mem ((c.tc : Thread Cert.DeltaInIdeal.nD Cert.DeltaInIdeal.τ).loc Cert.DeltaInIdeal.main_arg0) = m ((c.tc : Thread Cert.DeltaInIdeal.nD Cert.DeltaInIdeal.τ).loc Cert.DeltaInIdeal.main_arg0)
      ∧ r.2.mem ((c.tc : Thread Cert.DeltaInIdeal.nD Cert.DeltaInIdeal.τ).loc Cert.DeltaInIdeal.main_arg1) = m ((c.tc : Thread Cert.DeltaInIdeal.nD Cert.DeltaInIdeal.τ).loc Cert.DeltaInIdeal.main_arg1)
      ∧ r.2.mem ((c.tc : Thread Cert.DeltaInIdeal.nD Cert.DeltaInIdeal.τ).loc Cert.DeltaInIdeal.main_arg2) = m ((c.tc : Thread Cert.DeltaInIdeal.nD Cert.DeltaInIdeal.τ).loc Cert.DeltaInIdeal.main_arg2)
      ∧ r.2.mem ((c.tc : Thread Cert.DeltaInIdeal.nD Cert.DeltaInIdeal.τ).loc Cert.DeltaInIdeal.main_arg3) = m ((c.tc : Thread Cert.DeltaInIdeal.nD Cert.DeltaInIdeal.τ).loc Cert.DeltaInIdeal.main_arg3))
      ∧ r.2.sem = fun _ => 0)

def quiescent_DeltaInRefIdeal [hDeltaInRefIdeal : Cert.DeltaInRefIdeal.Facts] : Prop :=
  ∀ (m : (ℓ : Loc Cert.DeltaInRefIdeal.nD Cert.DeltaInRefIdeal.τ Cert.DeltaInRefIdeal.sig) → Buf (Elt Ideal) ℓ) (g : Dev Cert.DeltaInRefIdeal.nD → PrngReg), Pre_DeltaInRefIdeal m →
    θ_run (Cert.DeltaInRefIdeal.defs (F := Ideal)) (onTc (τ := Cert.DeltaInRefIdeal.τ) (Cert.DeltaInRefIdeal.main (F := Ideal))) ⟨m, fun _ => 0, g⟩ (fun r => (∀ c : Dev Cert.DeltaInRefIdeal.nD,
      r.2.mem ((c.tc : Thread Cert.DeltaInRefIdeal.nD Cert.DeltaInRefIdeal.τ).loc Cert.DeltaInRefIdeal.main_arg0) = m ((c.tc : Thread Cert.DeltaInRefIdeal.nD Cert.DeltaInRefIdeal.τ).loc Cert.DeltaInRefIdeal.main_arg0)
      ∧ r.2.mem ((c.tc : Thread Cert.DeltaInRefIdeal.nD Cert.DeltaInRefIdeal.τ).loc Cert.DeltaInRefIdeal.main_arg1) = m ((c.tc : Thread Cert.DeltaInRefIdeal.nD Cert.DeltaInRefIdeal.τ).loc Cert.DeltaInRefIdeal.main_arg1)
      ∧ r.2.mem ((c.tc : Thread Cert.DeltaInRefIdeal.nD Cert.DeltaInRefIdeal.τ).loc Cert.DeltaInRefIdeal.main_arg2) = m ((c.tc : Thread Cert.DeltaInRefIdeal.nD Cert.DeltaInRefIdeal.τ).loc Cert.DeltaInRefIdeal.main_arg2)
      ∧ r.2.mem ((c.tc : Thread Cert.DeltaInRefIdeal.nD Cert.DeltaInRefIdeal.τ).loc Cert.DeltaInRefIdeal.main_arg3) = m ((c.tc : Thread Cert.DeltaInRefIdeal.nD Cert.DeltaInRefIdeal.τ).loc Cert.DeltaInRefIdeal.main_arg3))
      ∧ r.2.sem = fun _ => 0)

def quiescent_HyenaIn [hHyenaIn : Cert.HyenaIn.Facts] : Prop :=
  ∀ (m : (ℓ : Loc Cert.HyenaIn.nD Cert.HyenaIn.τ Cert.HyenaIn.sig) → Buf (Elt Bits) ℓ) (g : Dev Cert.HyenaIn.nD → PrngReg), Pre_HyenaIn m →
    θ_run (Cert.HyenaIn.defs (F := Bits)) (onTc (τ := Cert.HyenaIn.τ) (Cert.HyenaIn.main (F := Bits))) ⟨m, fun _ => 0, g⟩ (fun r => (∀ c : Dev Cert.HyenaIn.nD,
      r.2.mem ((c.tc : Thread Cert.HyenaIn.nD Cert.HyenaIn.τ).loc Cert.HyenaIn.main_arg0) = m ((c.tc : Thread Cert.HyenaIn.nD Cert.HyenaIn.τ).loc Cert.HyenaIn.main_arg0)
      ∧ r.2.mem ((c.tc : Thread Cert.HyenaIn.nD Cert.HyenaIn.τ).loc Cert.HyenaIn.main_arg1) = m ((c.tc : Thread Cert.HyenaIn.nD Cert.HyenaIn.τ).loc Cert.HyenaIn.main_arg1)
      ∧ r.2.mem ((c.tc : Thread Cert.HyenaIn.nD Cert.HyenaIn.τ).loc Cert.HyenaIn.main_arg2) = m ((c.tc : Thread Cert.HyenaIn.nD Cert.HyenaIn.τ).loc Cert.HyenaIn.main_arg2)
      ∧ r.2.mem ((c.tc : Thread Cert.HyenaIn.nD Cert.HyenaIn.τ).loc Cert.HyenaIn.main_arg3) = m ((c.tc : Thread Cert.HyenaIn.nD Cert.HyenaIn.τ).loc Cert.HyenaIn.main_arg3))
      ∧ r.2.sem = fun _ => 0)

def quiescent_HyenaInIdeal [hHyenaInIdeal : Cert.HyenaInIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg), Pre_HyenaInIdeal m →
    θ_run (Cert.HyenaInIdeal.defs (F := Ideal)) (onTc (τ := Cert.HyenaInIdeal.τ) (Cert.HyenaInIdeal.main (F := Ideal))) ⟨m, fun _ => 0, g⟩ (fun r => (∀ c : Dev Cert.HyenaInIdeal.nD,
      r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
      ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1)
      ∧ r.2.mem ((c.tc : Thread Cert.HyenaInIdeal.nD Cert.HyenaInIdeal.τ).loc Cert.HyenaInIdeal.main_arg2) = m ((c.tc : Thread Cert.HyenaInIdeal.nD Cert.HyenaInIdeal.τ).loc Cert.HyenaInIdeal.main_arg2)
      ∧ r.2.mem ((c.tc : Thread Cert.HyenaInIdeal.nD Cert.HyenaInIdeal.τ).loc Cert.HyenaInIdeal.main_arg3) = m ((c.tc : Thread Cert.HyenaInIdeal.nD Cert.HyenaInIdeal.τ).loc Cert.HyenaInIdeal.main_arg3))
      ∧ r.2.sem = fun _ => 0)

def quiescent_HyenaInRefIdeal [hHyenaInRefIdeal : Cert.HyenaInRefIdeal.Facts] : Prop :=
  ∀ (m : (ℓ : Loc Cert.HyenaInRefIdeal.nD Cert.HyenaInRefIdeal.τ Cert.HyenaInRefIdeal.sig) → Buf (Elt Ideal) ℓ) (g : Dev Cert.HyenaInRefIdeal.nD → PrngReg), Pre_HyenaInRefIdeal m →
    θ_run (Cert.HyenaInRefIdeal.defs (F := Ideal)) (onTc (τ := Cert.HyenaInRefIdeal.τ) (Cert.HyenaInRefIdeal.main (F := Ideal))) ⟨m, fun _ => 0, g⟩ (fun r => (∀ c : Dev Cert.HyenaInRefIdeal.nD,
      r.2.mem ((c.tc : Thread Cert.HyenaInRefIdeal.nD Cert.HyenaInRefIdeal.τ).loc Cert.HyenaInRefIdeal.main_arg0) = m ((c.tc : Thread Cert.HyenaInRefIdeal.nD Cert.HyenaInRefIdeal.τ).loc Cert.HyenaInRefIdeal.main_arg0)
      ∧ r.2.mem ((c.tc : Thread Cert.HyenaInRefIdeal.nD Cert.HyenaInRefIdeal.τ).loc Cert.HyenaInRefIdeal.main_arg1) = m ((c.tc : Thread Cert.HyenaInRefIdeal.nD Cert.HyenaInRefIdeal.τ).loc Cert.HyenaInRefIdeal.main_arg1)
      ∧ r.2.mem ((c.tc : Thread Cert.HyenaInRefIdeal.nD Cert.HyenaInRefIdeal.τ).loc Cert.HyenaInRefIdeal.main_arg2) = m ((c.tc : Thread Cert.HyenaInRefIdeal.nD Cert.HyenaInRefIdeal.τ).loc Cert.HyenaInRefIdeal.main_arg2)
      ∧ r.2.mem ((c.tc : Thread Cert.HyenaInRefIdeal.nD Cert.HyenaInRefIdeal.τ).loc Cert.HyenaInRefIdeal.main_arg3) = m ((c.tc : Thread Cert.HyenaInRefIdeal.nD Cert.HyenaInRefIdeal.τ).loc Cert.HyenaInRefIdeal.main_arg3))
      ∧ r.2.sem = fun _ => 0)

def quiescent_CtxKernel [hCtxKernel : Cert.CtxKernel.Facts] : Prop :=
  ∀ (m : (ℓ : Loc Cert.CtxKernel.nD Cert.CtxKernel.τ Cert.CtxKernel.sig) → Buf (Elt Bits) ℓ) (g : Dev Cert.CtxKernel.nD → PrngReg), Pre_CtxKernel m →
    θ_run (Cert.CtxKernel.defs (F := Bits)) (onTc (τ := Cert.CtxKernel.τ) (Cert.CtxKernel.main (F := Bits))) ⟨m, fun _ => 0, g⟩ (fun r => (∀ c : Dev Cert.CtxKernel.nD,
      r.2.mem ((c.tc : Thread Cert.CtxKernel.nD Cert.CtxKernel.τ).loc Cert.CtxKernel.main_arg0) = m ((c.tc : Thread Cert.CtxKernel.nD Cert.CtxKernel.τ).loc Cert.CtxKernel.main_arg0)
      ∧ r.2.mem ((c.tc : Thread Cert.CtxKernel.nD Cert.CtxKernel.τ).loc Cert.CtxKernel.main_arg1) = m ((c.tc : Thread Cert.CtxKernel.nD Cert.CtxKernel.τ).loc Cert.CtxKernel.main_arg1)
      ∧ r.2.mem ((c.tc : Thread Cert.CtxKernel.nD Cert.CtxKernel.τ).loc Cert.CtxKernel.main_arg2) = m ((c.tc : Thread Cert.CtxKernel.nD Cert.CtxKernel.τ).loc Cert.CtxKernel.main_arg2)
      ∧ r.2.mem ((c.tc : Thread Cert.CtxKernel.nD Cert.CtxKernel.τ).loc Cert.CtxKernel.main_arg3) = m ((c.tc : Thread Cert.CtxKernel.nD Cert.CtxKernel.τ).loc Cert.CtxKernel.main_arg3))
      ∧ r.2.sem = fun _ => 0)

def quiescent_CtxKernelIdeal [hCtxKernelIdeal : Cert.CtxKernelIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg), Pre_CtxKernelIdeal m →
    θ_run (Cert.CtxKernelIdeal.defs (F := Ideal)) (onTc (τ := Cert.CtxKernelIdeal.τ) (Cert.CtxKernelIdeal.main (F := Ideal))) ⟨m, fun _ => 0, g⟩ (fun r => (∀ c : Dev Cert.CtxKernelIdeal.nD,
      r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
      ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
      ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
      ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3))
      ∧ r.2.sem = fun _ => 0)

def quiescent_CtxReferenceIdeal [hCtxReferenceIdeal : Cert.CtxReferenceIdeal.Facts] : Prop :=
  ∀ (m : (ℓ : Loc Cert.CtxReferenceIdeal.nD Cert.CtxReferenceIdeal.τ Cert.CtxReferenceIdeal.sig) → Buf (Elt Ideal) ℓ) (g : Dev Cert.CtxReferenceIdeal.nD → PrngReg), Pre_CtxReferenceIdeal m →
    θ_run (Cert.CtxReferenceIdeal.defs (F := Ideal)) (onTc (τ := Cert.CtxReferenceIdeal.τ) (Cert.CtxReferenceIdeal.main (F := Ideal))) ⟨m, fun _ => 0, g⟩ (fun r => (∀ c : Dev Cert.CtxReferenceIdeal.nD,
      r.2.mem ((c.tc : Thread Cert.CtxReferenceIdeal.nD Cert.CtxReferenceIdeal.τ).loc Cert.CtxReferenceIdeal.main_arg0) = m ((c.tc : Thread Cert.CtxReferenceIdeal.nD Cert.CtxReferenceIdeal.τ).loc Cert.CtxReferenceIdeal.main_arg0)
      ∧ r.2.mem ((c.tc : Thread Cert.CtxReferenceIdeal.nD Cert.CtxReferenceIdeal.τ).loc Cert.CtxReferenceIdeal.main_arg1) = m ((c.tc : Thread Cert.CtxReferenceIdeal.nD Cert.CtxReferenceIdeal.τ).loc Cert.CtxReferenceIdeal.main_arg1)
      ∧ r.2.mem ((c.tc : Thread Cert.CtxReferenceIdeal.nD Cert.CtxReferenceIdeal.τ).loc Cert.CtxReferenceIdeal.main_arg2) = m ((c.tc : Thread Cert.CtxReferenceIdeal.nD Cert.CtxReferenceIdeal.τ).loc Cert.CtxReferenceIdeal.main_arg2)
      ∧ r.2.mem ((c.tc : Thread Cert.CtxReferenceIdeal.nD Cert.CtxReferenceIdeal.τ).loc Cert.CtxReferenceIdeal.main_arg3) = m ((c.tc : Thread Cert.CtxReferenceIdeal.nD Cert.CtxReferenceIdeal.τ).loc Cert.CtxReferenceIdeal.main_arg3))
      ∧ r.2.sem = fun _ => 0)

def quiescent_CtxCombine [hCtxCombine : Cert.CtxCombine.Facts] : Prop :=
  ∀ (m : (ℓ : Loc Cert.CtxCombine.nD Cert.CtxCombine.τ Cert.CtxCombine.sig) → Buf (Elt Bits) ℓ) (g : Dev Cert.CtxCombine.nD → PrngReg), Pre_CtxCombine m →
    θ_run (Cert.CtxCombine.defs (F := Bits)) (onTc (τ := Cert.CtxCombine.τ) (Cert.CtxCombine.main (F := Bits))) ⟨m, fun _ => 0, g⟩ (fun r => (∀ c : Dev Cert.CtxCombine.nD,
      r.2.mem ((c.tc : Thread Cert.CtxCombine.nD Cert.CtxCombine.τ).loc Cert.CtxCombine.main_arg0) = m ((c.tc : Thread Cert.CtxCombine.nD Cert.CtxCombine.τ).loc Cert.CtxCombine.main_arg0)
      ∧ r.2.mem ((c.tc : Thread Cert.CtxCombine.nD Cert.CtxCombine.τ).loc Cert.CtxCombine.main_arg1) = m ((c.tc : Thread Cert.CtxCombine.nD Cert.CtxCombine.τ).loc Cert.CtxCombine.main_arg1)
      ∧ r.2.mem ((c.tc : Thread Cert.CtxCombine.nD Cert.CtxCombine.τ).loc Cert.CtxCombine.main_arg2) = m ((c.tc : Thread Cert.CtxCombine.nD Cert.CtxCombine.τ).loc Cert.CtxCombine.main_arg2)
      ∧ r.2.mem ((c.tc : Thread Cert.CtxCombine.nD Cert.CtxCombine.τ).loc Cert.CtxCombine.main_arg3) = m ((c.tc : Thread Cert.CtxCombine.nD Cert.CtxCombine.τ).loc Cert.CtxCombine.main_arg3)
      ∧ r.2.mem ((c.tc : Thread Cert.CtxCombine.nD Cert.CtxCombine.τ).loc Cert.CtxCombine.main_arg4) = m ((c.tc : Thread Cert.CtxCombine.nD Cert.CtxCombine.τ).loc Cert.CtxCombine.main_arg4)
      ∧ r.2.mem ((c.tc : Thread Cert.CtxCombine.nD Cert.CtxCombine.τ).loc Cert.CtxCombine.main_arg5) = m ((c.tc : Thread Cert.CtxCombine.nD Cert.CtxCombine.τ).loc Cert.CtxCombine.main_arg5))
      ∧ r.2.sem = fun _ => 0)

def quiescent_CtxCombineIdeal [hCtxCombineIdeal : Cert.CtxCombineIdeal.Facts] : Prop :=
  ∀ (m : (ℓ : Loc Cert.CtxCombineIdeal.nD Cert.CtxCombineIdeal.τ Cert.CtxCombineIdeal.sig) → Buf (Elt Ideal) ℓ) (g : Dev Cert.CtxCombineIdeal.nD → PrngReg), Pre_CtxCombineIdeal m →
    θ_run (Cert.CtxCombineIdeal.defs (F := Ideal)) (onTc (τ := Cert.CtxCombineIdeal.τ) (Cert.CtxCombineIdeal.main (F := Ideal))) ⟨m, fun _ => 0, g⟩ (fun r => (∀ c : Dev Cert.CtxCombineIdeal.nD,
      r.2.mem ((c.tc : Thread Cert.CtxCombineIdeal.nD Cert.CtxCombineIdeal.τ).loc Cert.CtxCombineIdeal.main_arg0) = m ((c.tc : Thread Cert.CtxCombineIdeal.nD Cert.CtxCombineIdeal.τ).loc Cert.CtxCombineIdeal.main_arg0)
      ∧ r.2.mem ((c.tc : Thread Cert.CtxCombineIdeal.nD Cert.CtxCombineIdeal.τ).loc Cert.CtxCombineIdeal.main_arg1) = m ((c.tc : Thread Cert.CtxCombineIdeal.nD Cert.CtxCombineIdeal.τ).loc Cert.CtxCombineIdeal.main_arg1)
      ∧ r.2.mem ((c.tc : Thread Cert.CtxCombineIdeal.nD Cert.CtxCombineIdeal.τ).loc Cert.CtxCombineIdeal.main_arg2) = m ((c.tc : Thread Cert.CtxCombineIdeal.nD Cert.CtxCombineIdeal.τ).loc Cert.CtxCombineIdeal.main_arg2)
      ∧ r.2.mem ((c.tc : Thread Cert.CtxCombineIdeal.nD Cert.CtxCombineIdeal.τ).loc Cert.CtxCombineIdeal.main_arg3) = m ((c.tc : Thread Cert.CtxCombineIdeal.nD Cert.CtxCombineIdeal.τ).loc Cert.CtxCombineIdeal.main_arg3)
      ∧ r.2.mem ((c.tc : Thread Cert.CtxCombineIdeal.nD Cert.CtxCombineIdeal.τ).loc Cert.CtxCombineIdeal.main_arg4) = m ((c.tc : Thread Cert.CtxCombineIdeal.nD Cert.CtxCombineIdeal.τ).loc Cert.CtxCombineIdeal.main_arg4)
      ∧ r.2.mem ((c.tc : Thread Cert.CtxCombineIdeal.nD Cert.CtxCombineIdeal.τ).loc Cert.CtxCombineIdeal.main_arg5) = m ((c.tc : Thread Cert.CtxCombineIdeal.nD Cert.CtxCombineIdeal.τ).loc Cert.CtxCombineIdeal.main_arg5))
      ∧ r.2.sem = fun _ => 0)

def quiescent_CtxCombineRefIdeal [hCtxCombineRefIdeal : Cert.CtxCombineRefIdeal.Facts] : Prop :=
  ∀ (m : (ℓ : Loc Cert.CtxCombineRefIdeal.nD Cert.CtxCombineRefIdeal.τ Cert.CtxCombineRefIdeal.sig) → Buf (Elt Ideal) ℓ) (g : Dev Cert.CtxCombineRefIdeal.nD → PrngReg), Pre_CtxCombineRefIdeal m →
    θ_run (Cert.CtxCombineRefIdeal.defs (F := Ideal)) (onTc (τ := Cert.CtxCombineRefIdeal.τ) (Cert.CtxCombineRefIdeal.main (F := Ideal))) ⟨m, fun _ => 0, g⟩ (fun r => (∀ c : Dev Cert.CtxCombineRefIdeal.nD,
      r.2.mem ((c.tc : Thread Cert.CtxCombineRefIdeal.nD Cert.CtxCombineRefIdeal.τ).loc Cert.CtxCombineRefIdeal.main_arg0) = m ((c.tc : Thread Cert.CtxCombineRefIdeal.nD Cert.CtxCombineRefIdeal.τ).loc Cert.CtxCombineRefIdeal.main_arg0)
      ∧ r.2.mem ((c.tc : Thread Cert.CtxCombineRefIdeal.nD Cert.CtxCombineRefIdeal.τ).loc Cert.CtxCombineRefIdeal.main_arg1) = m ((c.tc : Thread Cert.CtxCombineRefIdeal.nD Cert.CtxCombineRefIdeal.τ).loc Cert.CtxCombineRefIdeal.main_arg1)
      ∧ r.2.mem ((c.tc : Thread Cert.CtxCombineRefIdeal.nD Cert.CtxCombineRefIdeal.τ).loc Cert.CtxCombineRefIdeal.main_arg2) = m ((c.tc : Thread Cert.CtxCombineRefIdeal.nD Cert.CtxCombineRefIdeal.τ).loc Cert.CtxCombineRefIdeal.main_arg2)
      ∧ r.2.mem ((c.tc : Thread Cert.CtxCombineRefIdeal.nD Cert.CtxCombineRefIdeal.τ).loc Cert.CtxCombineRefIdeal.main_arg3) = m ((c.tc : Thread Cert.CtxCombineRefIdeal.nD Cert.CtxCombineRefIdeal.τ).loc Cert.CtxCombineRefIdeal.main_arg3)
      ∧ r.2.mem ((c.tc : Thread Cert.CtxCombineRefIdeal.nD Cert.CtxCombineRefIdeal.τ).loc Cert.CtxCombineRefIdeal.main_arg4) = m ((c.tc : Thread Cert.CtxCombineRefIdeal.nD Cert.CtxCombineRefIdeal.τ).loc Cert.CtxCombineRefIdeal.main_arg4)
      ∧ r.2.mem ((c.tc : Thread Cert.CtxCombineRefIdeal.nD Cert.CtxCombineRefIdeal.τ).loc Cert.CtxCombineRefIdeal.main_arg5) = m ((c.tc : Thread Cert.CtxCombineRefIdeal.nD Cert.CtxCombineRefIdeal.τ).loc Cert.CtxCombineRefIdeal.main_arg5))
      ∧ r.2.sem = fun _ => 0)

def quiescent_CtxRoute [hCtxRoute : Cert.CtxRoute.Facts] : Prop :=
  ∀ (m : (ℓ : Loc Cert.CtxRoute.nD Cert.CtxRoute.τ Cert.CtxRoute.sig) → Buf (Elt Bits) ℓ) (g : Dev Cert.CtxRoute.nD → PrngReg), Pre_CtxRoute m →
    θ_run (Cert.CtxRoute.defs (F := Bits)) (onTc (τ := Cert.CtxRoute.τ) (Cert.CtxRoute.main (F := Bits))) ⟨m, fun _ => 0, g⟩ (fun r => (∀ c : Dev Cert.CtxRoute.nD,
      r.2.mem ((c.tc : Thread Cert.CtxRoute.nD Cert.CtxRoute.τ).loc Cert.CtxRoute.main_arg0) = m ((c.tc : Thread Cert.CtxRoute.nD Cert.CtxRoute.τ).loc Cert.CtxRoute.main_arg0)
      ∧ r.2.mem ((c.tc : Thread Cert.CtxRoute.nD Cert.CtxRoute.τ).loc Cert.CtxRoute.main_arg1) = m ((c.tc : Thread Cert.CtxRoute.nD Cert.CtxRoute.τ).loc Cert.CtxRoute.main_arg1)
      ∧ r.2.mem ((c.tc : Thread Cert.CtxRoute.nD Cert.CtxRoute.τ).loc Cert.CtxRoute.main_arg2) = m ((c.tc : Thread Cert.CtxRoute.nD Cert.CtxRoute.τ).loc Cert.CtxRoute.main_arg2)
      ∧ r.2.mem ((c.tc : Thread Cert.CtxRoute.nD Cert.CtxRoute.τ).loc Cert.CtxRoute.main_arg3) = m ((c.tc : Thread Cert.CtxRoute.nD Cert.CtxRoute.τ).loc Cert.CtxRoute.main_arg3))
      ∧ r.2.sem = fun _ => 0)

def quiescent_CtxRouteIdeal [hCtxRouteIdeal : Cert.CtxRouteIdeal.Facts] : Prop :=
  ∀ (m : (ℓ : Loc Cert.CtxRouteIdeal.nD Cert.CtxRouteIdeal.τ Cert.CtxRouteIdeal.sig) → Buf (Elt Ideal) ℓ) (g : Dev Cert.CtxRouteIdeal.nD → PrngReg), Pre_CtxRouteIdeal m →
    θ_run (Cert.CtxRouteIdeal.defs (F := Ideal)) (onTc (τ := Cert.CtxRouteIdeal.τ) (Cert.CtxRouteIdeal.main (F := Ideal))) ⟨m, fun _ => 0, g⟩ (fun r => (∀ c : Dev Cert.CtxRouteIdeal.nD,
      r.2.mem ((c.tc : Thread Cert.CtxRouteIdeal.nD Cert.CtxRouteIdeal.τ).loc Cert.CtxRouteIdeal.main_arg0) = m ((c.tc : Thread Cert.CtxRouteIdeal.nD Cert.CtxRouteIdeal.τ).loc Cert.CtxRouteIdeal.main_arg0)
      ∧ r.2.mem ((c.tc : Thread Cert.CtxRouteIdeal.nD Cert.CtxRouteIdeal.τ).loc Cert.CtxRouteIdeal.main_arg1) = m ((c.tc : Thread Cert.CtxRouteIdeal.nD Cert.CtxRouteIdeal.τ).loc Cert.CtxRouteIdeal.main_arg1)
      ∧ r.2.mem ((c.tc : Thread Cert.CtxRouteIdeal.nD Cert.CtxRouteIdeal.τ).loc Cert.CtxRouteIdeal.main_arg2) = m ((c.tc : Thread Cert.CtxRouteIdeal.nD Cert.CtxRouteIdeal.τ).loc Cert.CtxRouteIdeal.main_arg2)
      ∧ r.2.mem ((c.tc : Thread Cert.CtxRouteIdeal.nD Cert.CtxRouteIdeal.τ).loc Cert.CtxRouteIdeal.main_arg3) = m ((c.tc : Thread Cert.CtxRouteIdeal.nD Cert.CtxRouteIdeal.τ).loc Cert.CtxRouteIdeal.main_arg3))
      ∧ r.2.sem = fun _ => 0)

def quiescent_CtxRouteRefIdeal [hCtxRouteRefIdeal : Cert.CtxRouteRefIdeal.Facts] : Prop :=
  ∀ (m : (ℓ : Loc Cert.CtxRouteRefIdeal.nD Cert.CtxRouteRefIdeal.τ Cert.CtxRouteRefIdeal.sig) → Buf (Elt Ideal) ℓ) (g : Dev Cert.CtxRouteRefIdeal.nD → PrngReg), Pre_CtxRouteRefIdeal m →
    θ_run (Cert.CtxRouteRefIdeal.defs (F := Ideal)) (onTc (τ := Cert.CtxRouteRefIdeal.τ) (Cert.CtxRouteRefIdeal.main (F := Ideal))) ⟨m, fun _ => 0, g⟩ (fun r => (∀ c : Dev Cert.CtxRouteRefIdeal.nD,
      r.2.mem ((c.tc : Thread Cert.CtxRouteRefIdeal.nD Cert.CtxRouteRefIdeal.τ).loc Cert.CtxRouteRefIdeal.main_arg0) = m ((c.tc : Thread Cert.CtxRouteRefIdeal.nD Cert.CtxRouteRefIdeal.τ).loc Cert.CtxRouteRefIdeal.main_arg0)
      ∧ r.2.mem ((c.tc : Thread Cert.CtxRouteRefIdeal.nD Cert.CtxRouteRefIdeal.τ).loc Cert.CtxRouteRefIdeal.main_arg1) = m ((c.tc : Thread Cert.CtxRouteRefIdeal.nD Cert.CtxRouteRefIdeal.τ).loc Cert.CtxRouteRefIdeal.main_arg1)
      ∧ r.2.mem ((c.tc : Thread Cert.CtxRouteRefIdeal.nD Cert.CtxRouteRefIdeal.τ).loc Cert.CtxRouteRefIdeal.main_arg2) = m ((c.tc : Thread Cert.CtxRouteRefIdeal.nD Cert.CtxRouteRefIdeal.τ).loc Cert.CtxRouteRefIdeal.main_arg2)
      ∧ r.2.mem ((c.tc : Thread Cert.CtxRouteRefIdeal.nD Cert.CtxRouteRefIdeal.τ).loc Cert.CtxRouteRefIdeal.main_arg3) = m ((c.tc : Thread Cert.CtxRouteRefIdeal.nD Cert.CtxRouteRefIdeal.τ).loc Cert.CtxRouteRefIdeal.main_arg3))
      ∧ r.2.sem = fun _ => 0)

def quiescent_CtxDense [hCtxDense : Cert.CtxDense.Facts] : Prop :=
  ∀ (m : (ℓ : Loc Cert.CtxDense.nD Cert.CtxDense.τ Cert.CtxDense.sig) → Buf (Elt Bits) ℓ) (g : Dev Cert.CtxDense.nD → PrngReg), Pre_CtxDense m →
    θ_run (Cert.CtxDense.defs (F := Bits)) (onTc (τ := Cert.CtxDense.τ) (Cert.CtxDense.main (F := Bits))) ⟨m, fun _ => 0, g⟩ (fun r => (∀ c : Dev Cert.CtxDense.nD,
      r.2.mem ((c.tc : Thread Cert.CtxDense.nD Cert.CtxDense.τ).loc Cert.CtxDense.main_arg0) = m ((c.tc : Thread Cert.CtxDense.nD Cert.CtxDense.τ).loc Cert.CtxDense.main_arg0)
      ∧ r.2.mem ((c.tc : Thread Cert.CtxDense.nD Cert.CtxDense.τ).loc Cert.CtxDense.main_arg1) = m ((c.tc : Thread Cert.CtxDense.nD Cert.CtxDense.τ).loc Cert.CtxDense.main_arg1)
      ∧ r.2.mem ((c.tc : Thread Cert.CtxDense.nD Cert.CtxDense.τ).loc Cert.CtxDense.main_arg2) = m ((c.tc : Thread Cert.CtxDense.nD Cert.CtxDense.τ).loc Cert.CtxDense.main_arg2)
      ∧ r.2.mem ((c.tc : Thread Cert.CtxDense.nD Cert.CtxDense.τ).loc Cert.CtxDense.main_arg3) = m ((c.tc : Thread Cert.CtxDense.nD Cert.CtxDense.τ).loc Cert.CtxDense.main_arg3)
      ∧ r.2.mem ((c.tc : Thread Cert.CtxDense.nD Cert.CtxDense.τ).loc Cert.CtxDense.main_arg4) = m ((c.tc : Thread Cert.CtxDense.nD Cert.CtxDense.τ).loc Cert.CtxDense.main_arg4)
      ∧ r.2.mem ((c.tc : Thread Cert.CtxDense.nD Cert.CtxDense.τ).loc Cert.CtxDense.main_arg5) = m ((c.tc : Thread Cert.CtxDense.nD Cert.CtxDense.τ).loc Cert.CtxDense.main_arg5)
      ∧ r.2.mem ((c.tc : Thread Cert.CtxDense.nD Cert.CtxDense.τ).loc Cert.CtxDense.main_arg6) = m ((c.tc : Thread Cert.CtxDense.nD Cert.CtxDense.τ).loc Cert.CtxDense.main_arg6)
      ∧ r.2.mem ((c.tc : Thread Cert.CtxDense.nD Cert.CtxDense.τ).loc Cert.CtxDense.main_arg7) = m ((c.tc : Thread Cert.CtxDense.nD Cert.CtxDense.τ).loc Cert.CtxDense.main_arg7))
      ∧ r.2.sem = fun _ => 0)

def quiescent_CtxDenseIdeal [hCtxDenseIdeal : Cert.CtxDenseIdeal.Facts] : Prop :=
  ∀ (m : (ℓ : Loc Cert.CtxDenseIdeal.nD Cert.CtxDenseIdeal.τ Cert.CtxDenseIdeal.sig) → Buf (Elt Ideal) ℓ) (g : Dev Cert.CtxDenseIdeal.nD → PrngReg), Pre_CtxDenseIdeal m →
    θ_run (Cert.CtxDenseIdeal.defs (F := Ideal)) (onTc (τ := Cert.CtxDenseIdeal.τ) (Cert.CtxDenseIdeal.main (F := Ideal))) ⟨m, fun _ => 0, g⟩ (fun r => (∀ c : Dev Cert.CtxDenseIdeal.nD,
      r.2.mem ((c.tc : Thread Cert.CtxDenseIdeal.nD Cert.CtxDenseIdeal.τ).loc Cert.CtxDenseIdeal.main_arg0) = m ((c.tc : Thread Cert.CtxDenseIdeal.nD Cert.CtxDenseIdeal.τ).loc Cert.CtxDenseIdeal.main_arg0)
      ∧ r.2.mem ((c.tc : Thread Cert.CtxDenseIdeal.nD Cert.CtxDenseIdeal.τ).loc Cert.CtxDenseIdeal.main_arg1) = m ((c.tc : Thread Cert.CtxDenseIdeal.nD Cert.CtxDenseIdeal.τ).loc Cert.CtxDenseIdeal.main_arg1)
      ∧ r.2.mem ((c.tc : Thread Cert.CtxDenseIdeal.nD Cert.CtxDenseIdeal.τ).loc Cert.CtxDenseIdeal.main_arg2) = m ((c.tc : Thread Cert.CtxDenseIdeal.nD Cert.CtxDenseIdeal.τ).loc Cert.CtxDenseIdeal.main_arg2)
      ∧ r.2.mem ((c.tc : Thread Cert.CtxDenseIdeal.nD Cert.CtxDenseIdeal.τ).loc Cert.CtxDenseIdeal.main_arg3) = m ((c.tc : Thread Cert.CtxDenseIdeal.nD Cert.CtxDenseIdeal.τ).loc Cert.CtxDenseIdeal.main_arg3)
      ∧ r.2.mem ((c.tc : Thread Cert.CtxDenseIdeal.nD Cert.CtxDenseIdeal.τ).loc Cert.CtxDenseIdeal.main_arg4) = m ((c.tc : Thread Cert.CtxDenseIdeal.nD Cert.CtxDenseIdeal.τ).loc Cert.CtxDenseIdeal.main_arg4)
      ∧ r.2.mem ((c.tc : Thread Cert.CtxDenseIdeal.nD Cert.CtxDenseIdeal.τ).loc Cert.CtxDenseIdeal.main_arg5) = m ((c.tc : Thread Cert.CtxDenseIdeal.nD Cert.CtxDenseIdeal.τ).loc Cert.CtxDenseIdeal.main_arg5)
      ∧ r.2.mem ((c.tc : Thread Cert.CtxDenseIdeal.nD Cert.CtxDenseIdeal.τ).loc Cert.CtxDenseIdeal.main_arg6) = m ((c.tc : Thread Cert.CtxDenseIdeal.nD Cert.CtxDenseIdeal.τ).loc Cert.CtxDenseIdeal.main_arg6)
      ∧ r.2.mem ((c.tc : Thread Cert.CtxDenseIdeal.nD Cert.CtxDenseIdeal.τ).loc Cert.CtxDenseIdeal.main_arg7) = m ((c.tc : Thread Cert.CtxDenseIdeal.nD Cert.CtxDenseIdeal.τ).loc Cert.CtxDenseIdeal.main_arg7))
      ∧ r.2.sem = fun _ => 0)

def quiescent_CtxDenseRefIdeal [hCtxDenseRefIdeal : Cert.CtxDenseRefIdeal.Facts] : Prop :=
  ∀ (m : (ℓ : Loc Cert.CtxDenseRefIdeal.nD Cert.CtxDenseRefIdeal.τ Cert.CtxDenseRefIdeal.sig) → Buf (Elt Ideal) ℓ) (g : Dev Cert.CtxDenseRefIdeal.nD → PrngReg), Pre_CtxDenseRefIdeal m →
    θ_run (Cert.CtxDenseRefIdeal.defs (F := Ideal)) (onTc (τ := Cert.CtxDenseRefIdeal.τ) (Cert.CtxDenseRefIdeal.main (F := Ideal))) ⟨m, fun _ => 0, g⟩ (fun r => (∀ c : Dev Cert.CtxDenseRefIdeal.nD,
      r.2.mem ((c.tc : Thread Cert.CtxDenseRefIdeal.nD Cert.CtxDenseRefIdeal.τ).loc Cert.CtxDenseRefIdeal.main_arg0) = m ((c.tc : Thread Cert.CtxDenseRefIdeal.nD Cert.CtxDenseRefIdeal.τ).loc Cert.CtxDenseRefIdeal.main_arg0)
      ∧ r.2.mem ((c.tc : Thread Cert.CtxDenseRefIdeal.nD Cert.CtxDenseRefIdeal.τ).loc Cert.CtxDenseRefIdeal.main_arg1) = m ((c.tc : Thread Cert.CtxDenseRefIdeal.nD Cert.CtxDenseRefIdeal.τ).loc Cert.CtxDenseRefIdeal.main_arg1)
      ∧ r.2.mem ((c.tc : Thread Cert.CtxDenseRefIdeal.nD Cert.CtxDenseRefIdeal.τ).loc Cert.CtxDenseRefIdeal.main_arg2) = m ((c.tc : Thread Cert.CtxDenseRefIdeal.nD Cert.CtxDenseRefIdeal.τ).loc Cert.CtxDenseRefIdeal.main_arg2)
      ∧ r.2.mem ((c.tc : Thread Cert.CtxDenseRefIdeal.nD Cert.CtxDenseRefIdeal.τ).loc Cert.CtxDenseRefIdeal.main_arg3) = m ((c.tc : Thread Cert.CtxDenseRefIdeal.nD Cert.CtxDenseRefIdeal.τ).loc Cert.CtxDenseRefIdeal.main_arg3)
      ∧ r.2.mem ((c.tc : Thread Cert.CtxDenseRefIdeal.nD Cert.CtxDenseRefIdeal.τ).loc Cert.CtxDenseRefIdeal.main_arg4) = m ((c.tc : Thread Cert.CtxDenseRefIdeal.nD Cert.CtxDenseRefIdeal.τ).loc Cert.CtxDenseRefIdeal.main_arg4)
      ∧ r.2.mem ((c.tc : Thread Cert.CtxDenseRefIdeal.nD Cert.CtxDenseRefIdeal.τ).loc Cert.CtxDenseRefIdeal.main_arg5) = m ((c.tc : Thread Cert.CtxDenseRefIdeal.nD Cert.CtxDenseRefIdeal.τ).loc Cert.CtxDenseRefIdeal.main_arg5)
      ∧ r.2.mem ((c.tc : Thread Cert.CtxDenseRefIdeal.nD Cert.CtxDenseRefIdeal.τ).loc Cert.CtxDenseRefIdeal.main_arg6) = m ((c.tc : Thread Cert.CtxDenseRefIdeal.nD Cert.CtxDenseRefIdeal.τ).loc Cert.CtxDenseRefIdeal.main_arg6)
      ∧ r.2.mem ((c.tc : Thread Cert.CtxDenseRefIdeal.nD Cert.CtxDenseRefIdeal.τ).loc Cert.CtxDenseRefIdeal.main_arg7) = m ((c.tc : Thread Cert.CtxDenseRefIdeal.nD Cert.CtxDenseRefIdeal.τ).loc Cert.CtxDenseRefIdeal.main_arg7))
      ∧ r.2.sem = fun _ => 0)

def quiescent_CtxOut [hCtxOut : Cert.CtxOut.Facts] : Prop :=
  ∀ (m : (ℓ : Loc Cert.CtxOut.nD Cert.CtxOut.τ Cert.CtxOut.sig) → Buf (Elt Bits) ℓ) (g : Dev Cert.CtxOut.nD → PrngReg), Pre_CtxOut m →
    θ_run (Cert.CtxOut.defs (F := Bits)) (onTc (τ := Cert.CtxOut.τ) (Cert.CtxOut.main (F := Bits))) ⟨m, fun _ => 0, g⟩ (fun r => (∀ c : Dev Cert.CtxOut.nD,
      r.2.mem ((c.tc : Thread Cert.CtxOut.nD Cert.CtxOut.τ).loc Cert.CtxOut.main_arg0) = m ((c.tc : Thread Cert.CtxOut.nD Cert.CtxOut.τ).loc Cert.CtxOut.main_arg0)
      ∧ r.2.mem ((c.tc : Thread Cert.CtxOut.nD Cert.CtxOut.τ).loc Cert.CtxOut.main_arg1) = m ((c.tc : Thread Cert.CtxOut.nD Cert.CtxOut.τ).loc Cert.CtxOut.main_arg1)
      ∧ r.2.mem ((c.tc : Thread Cert.CtxOut.nD Cert.CtxOut.τ).loc Cert.CtxOut.main_arg2) = m ((c.tc : Thread Cert.CtxOut.nD Cert.CtxOut.τ).loc Cert.CtxOut.main_arg2)
      ∧ r.2.mem ((c.tc : Thread Cert.CtxOut.nD Cert.CtxOut.τ).loc Cert.CtxOut.main_arg3) = m ((c.tc : Thread Cert.CtxOut.nD Cert.CtxOut.τ).loc Cert.CtxOut.main_arg3)
      ∧ r.2.mem ((c.tc : Thread Cert.CtxOut.nD Cert.CtxOut.τ).loc Cert.CtxOut.main_arg4) = m ((c.tc : Thread Cert.CtxOut.nD Cert.CtxOut.τ).loc Cert.CtxOut.main_arg4)
      ∧ r.2.mem ((c.tc : Thread Cert.CtxOut.nD Cert.CtxOut.τ).loc Cert.CtxOut.main_arg5) = m ((c.tc : Thread Cert.CtxOut.nD Cert.CtxOut.τ).loc Cert.CtxOut.main_arg5))
      ∧ r.2.sem = fun _ => 0)

def quiescent_CtxOutIdeal [hCtxOutIdeal : Cert.CtxOutIdeal.Facts] : Prop :=
  ∀ (m : (ℓ : Loc Cert.CtxOutIdeal.nD Cert.CtxOutIdeal.τ Cert.CtxOutIdeal.sig) → Buf (Elt Ideal) ℓ) (g : Dev Cert.CtxOutIdeal.nD → PrngReg), Pre_CtxOutIdeal m →
    θ_run (Cert.CtxOutIdeal.defs (F := Ideal)) (onTc (τ := Cert.CtxOutIdeal.τ) (Cert.CtxOutIdeal.main (F := Ideal))) ⟨m, fun _ => 0, g⟩ (fun r => (∀ c : Dev Cert.CtxOutIdeal.nD,
      r.2.mem ((c.tc : Thread Cert.CtxOutIdeal.nD Cert.CtxOutIdeal.τ).loc Cert.CtxOutIdeal.main_arg0) = m ((c.tc : Thread Cert.CtxOutIdeal.nD Cert.CtxOutIdeal.τ).loc Cert.CtxOutIdeal.main_arg0)
      ∧ r.2.mem ((c.tc : Thread Cert.CtxOutIdeal.nD Cert.CtxOutIdeal.τ).loc Cert.CtxOutIdeal.main_arg1) = m ((c.tc : Thread Cert.CtxOutIdeal.nD Cert.CtxOutIdeal.τ).loc Cert.CtxOutIdeal.main_arg1)
      ∧ r.2.mem ((c.tc : Thread Cert.CtxOutIdeal.nD Cert.CtxOutIdeal.τ).loc Cert.CtxOutIdeal.main_arg2) = m ((c.tc : Thread Cert.CtxOutIdeal.nD Cert.CtxOutIdeal.τ).loc Cert.CtxOutIdeal.main_arg2)
      ∧ r.2.mem ((c.tc : Thread Cert.CtxOutIdeal.nD Cert.CtxOutIdeal.τ).loc Cert.CtxOutIdeal.main_arg3) = m ((c.tc : Thread Cert.CtxOutIdeal.nD Cert.CtxOutIdeal.τ).loc Cert.CtxOutIdeal.main_arg3)
      ∧ r.2.mem ((c.tc : Thread Cert.CtxOutIdeal.nD Cert.CtxOutIdeal.τ).loc Cert.CtxOutIdeal.main_arg4) = m ((c.tc : Thread Cert.CtxOutIdeal.nD Cert.CtxOutIdeal.τ).loc Cert.CtxOutIdeal.main_arg4)
      ∧ r.2.mem ((c.tc : Thread Cert.CtxOutIdeal.nD Cert.CtxOutIdeal.τ).loc Cert.CtxOutIdeal.main_arg5) = m ((c.tc : Thread Cert.CtxOutIdeal.nD Cert.CtxOutIdeal.τ).loc Cert.CtxOutIdeal.main_arg5))
      ∧ r.2.sem = fun _ => 0)

def quiescent_CtxOutRefIdeal [hCtxOutRefIdeal : Cert.CtxOutRefIdeal.Facts] : Prop :=
  ∀ (m : (ℓ : Loc Cert.CtxOutRefIdeal.nD Cert.CtxOutRefIdeal.τ Cert.CtxOutRefIdeal.sig) → Buf (Elt Ideal) ℓ) (g : Dev Cert.CtxOutRefIdeal.nD → PrngReg), Pre_CtxOutRefIdeal m →
    θ_run (Cert.CtxOutRefIdeal.defs (F := Ideal)) (onTc (τ := Cert.CtxOutRefIdeal.τ) (Cert.CtxOutRefIdeal.main (F := Ideal))) ⟨m, fun _ => 0, g⟩ (fun r => (∀ c : Dev Cert.CtxOutRefIdeal.nD,
      r.2.mem ((c.tc : Thread Cert.CtxOutRefIdeal.nD Cert.CtxOutRefIdeal.τ).loc Cert.CtxOutRefIdeal.main_arg0) = m ((c.tc : Thread Cert.CtxOutRefIdeal.nD Cert.CtxOutRefIdeal.τ).loc Cert.CtxOutRefIdeal.main_arg0)
      ∧ r.2.mem ((c.tc : Thread Cert.CtxOutRefIdeal.nD Cert.CtxOutRefIdeal.τ).loc Cert.CtxOutRefIdeal.main_arg1) = m ((c.tc : Thread Cert.CtxOutRefIdeal.nD Cert.CtxOutRefIdeal.τ).loc Cert.CtxOutRefIdeal.main_arg1)
      ∧ r.2.mem ((c.tc : Thread Cert.CtxOutRefIdeal.nD Cert.CtxOutRefIdeal.τ).loc Cert.CtxOutRefIdeal.main_arg2) = m ((c.tc : Thread Cert.CtxOutRefIdeal.nD Cert.CtxOutRefIdeal.τ).loc Cert.CtxOutRefIdeal.main_arg2)
      ∧ r.2.mem ((c.tc : Thread Cert.CtxOutRefIdeal.nD Cert.CtxOutRefIdeal.τ).loc Cert.CtxOutRefIdeal.main_arg3) = m ((c.tc : Thread Cert.CtxOutRefIdeal.nD Cert.CtxOutRefIdeal.τ).loc Cert.CtxOutRefIdeal.main_arg3)
      ∧ r.2.mem ((c.tc : Thread Cert.CtxOutRefIdeal.nD Cert.CtxOutRefIdeal.τ).loc Cert.CtxOutRefIdeal.main_arg4) = m ((c.tc : Thread Cert.CtxOutRefIdeal.nD Cert.CtxOutRefIdeal.τ).loc Cert.CtxOutRefIdeal.main_arg4)
      ∧ r.2.mem ((c.tc : Thread Cert.CtxOutRefIdeal.nD Cert.CtxOutRefIdeal.τ).loc Cert.CtxOutRefIdeal.main_arg5) = m ((c.tc : Thread Cert.CtxOutRefIdeal.nD Cert.CtxOutRefIdeal.τ).loc Cert.CtxOutRefIdeal.main_arg5))
      ∧ r.2.sem = fun _ => 0)

def quiescent_CtxGlaIn [hCtxGlaIn : Cert.CtxGlaIn.Facts] : Prop :=
  ∀ (m : (ℓ : Loc Cert.CtxGlaIn.nD Cert.CtxGlaIn.τ Cert.CtxGlaIn.sig) → Buf (Elt Bits) ℓ) (g : Dev Cert.CtxGlaIn.nD → PrngReg), Pre_CtxGlaIn m →
    θ_run (Cert.CtxGlaIn.defs (F := Bits)) (onTc (τ := Cert.CtxGlaIn.τ) (Cert.CtxGlaIn.main (F := Bits))) ⟨m, fun _ => 0, g⟩ (fun r => (∀ c : Dev Cert.CtxGlaIn.nD,
      r.2.mem ((c.tc : Thread Cert.CtxGlaIn.nD Cert.CtxGlaIn.τ).loc Cert.CtxGlaIn.main_arg0) = m ((c.tc : Thread Cert.CtxGlaIn.nD Cert.CtxGlaIn.τ).loc Cert.CtxGlaIn.main_arg0)
      ∧ r.2.mem ((c.tc : Thread Cert.CtxGlaIn.nD Cert.CtxGlaIn.τ).loc Cert.CtxGlaIn.main_arg1) = m ((c.tc : Thread Cert.CtxGlaIn.nD Cert.CtxGlaIn.τ).loc Cert.CtxGlaIn.main_arg1)
      ∧ r.2.mem ((c.tc : Thread Cert.CtxGlaIn.nD Cert.CtxGlaIn.τ).loc Cert.CtxGlaIn.main_arg2) = m ((c.tc : Thread Cert.CtxGlaIn.nD Cert.CtxGlaIn.τ).loc Cert.CtxGlaIn.main_arg2)
      ∧ r.2.mem ((c.tc : Thread Cert.CtxGlaIn.nD Cert.CtxGlaIn.τ).loc Cert.CtxGlaIn.main_arg3) = m ((c.tc : Thread Cert.CtxGlaIn.nD Cert.CtxGlaIn.τ).loc Cert.CtxGlaIn.main_arg3)
      ∧ r.2.mem ((c.tc : Thread Cert.CtxGlaIn.nD Cert.CtxGlaIn.τ).loc Cert.CtxGlaIn.main_arg4) = m ((c.tc : Thread Cert.CtxGlaIn.nD Cert.CtxGlaIn.τ).loc Cert.CtxGlaIn.main_arg4))
      ∧ r.2.sem = fun _ => 0)

def quiescent_CtxGlaInIdeal [hCtxGlaInIdeal : Cert.CtxGlaInIdeal.Facts] : Prop :=
  ∀ (m : (ℓ : Loc Cert.CtxGlaInIdeal.nD Cert.CtxGlaInIdeal.τ Cert.CtxGlaInIdeal.sig) → Buf (Elt Ideal) ℓ) (g : Dev Cert.CtxGlaInIdeal.nD → PrngReg), Pre_CtxGlaInIdeal m →
    θ_run (Cert.CtxGlaInIdeal.defs (F := Ideal)) (onTc (τ := Cert.CtxGlaInIdeal.τ) (Cert.CtxGlaInIdeal.main (F := Ideal))) ⟨m, fun _ => 0, g⟩ (fun r => (∀ c : Dev Cert.CtxGlaInIdeal.nD,
      r.2.mem ((c.tc : Thread Cert.CtxGlaInIdeal.nD Cert.CtxGlaInIdeal.τ).loc Cert.CtxGlaInIdeal.main_arg0) = m ((c.tc : Thread Cert.CtxGlaInIdeal.nD Cert.CtxGlaInIdeal.τ).loc Cert.CtxGlaInIdeal.main_arg0)
      ∧ r.2.mem ((c.tc : Thread Cert.CtxGlaInIdeal.nD Cert.CtxGlaInIdeal.τ).loc Cert.CtxGlaInIdeal.main_arg1) = m ((c.tc : Thread Cert.CtxGlaInIdeal.nD Cert.CtxGlaInIdeal.τ).loc Cert.CtxGlaInIdeal.main_arg1)
      ∧ r.2.mem ((c.tc : Thread Cert.CtxGlaInIdeal.nD Cert.CtxGlaInIdeal.τ).loc Cert.CtxGlaInIdeal.main_arg2) = m ((c.tc : Thread Cert.CtxGlaInIdeal.nD Cert.CtxGlaInIdeal.τ).loc Cert.CtxGlaInIdeal.main_arg2)
      ∧ r.2.mem ((c.tc : Thread Cert.CtxGlaInIdeal.nD Cert.CtxGlaInIdeal.τ).loc Cert.CtxGlaInIdeal.main_arg3) = m ((c.tc : Thread Cert.CtxGlaInIdeal.nD Cert.CtxGlaInIdeal.τ).loc Cert.CtxGlaInIdeal.main_arg3)
      ∧ r.2.mem ((c.tc : Thread Cert.CtxGlaInIdeal.nD Cert.CtxGlaInIdeal.τ).loc Cert.CtxGlaInIdeal.main_arg4) = m ((c.tc : Thread Cert.CtxGlaInIdeal.nD Cert.CtxGlaInIdeal.τ).loc Cert.CtxGlaInIdeal.main_arg4))
      ∧ r.2.sem = fun _ => 0)

def quiescent_CtxGlaInRefIdeal [hCtxGlaInRefIdeal : Cert.CtxGlaInRefIdeal.Facts] : Prop :=
  ∀ (m : (ℓ : Loc Cert.CtxGlaInRefIdeal.nD Cert.CtxGlaInRefIdeal.τ Cert.CtxGlaInRefIdeal.sig) → Buf (Elt Ideal) ℓ) (g : Dev Cert.CtxGlaInRefIdeal.nD → PrngReg), Pre_CtxGlaInRefIdeal m →
    θ_run (Cert.CtxGlaInRefIdeal.defs (F := Ideal)) (onTc (τ := Cert.CtxGlaInRefIdeal.τ) (Cert.CtxGlaInRefIdeal.main (F := Ideal))) ⟨m, fun _ => 0, g⟩ (fun r => (∀ c : Dev Cert.CtxGlaInRefIdeal.nD,
      r.2.mem ((c.tc : Thread Cert.CtxGlaInRefIdeal.nD Cert.CtxGlaInRefIdeal.τ).loc Cert.CtxGlaInRefIdeal.main_arg0) = m ((c.tc : Thread Cert.CtxGlaInRefIdeal.nD Cert.CtxGlaInRefIdeal.τ).loc Cert.CtxGlaInRefIdeal.main_arg0)
      ∧ r.2.mem ((c.tc : Thread Cert.CtxGlaInRefIdeal.nD Cert.CtxGlaInRefIdeal.τ).loc Cert.CtxGlaInRefIdeal.main_arg1) = m ((c.tc : Thread Cert.CtxGlaInRefIdeal.nD Cert.CtxGlaInRefIdeal.τ).loc Cert.CtxGlaInRefIdeal.main_arg1)
      ∧ r.2.mem ((c.tc : Thread Cert.CtxGlaInRefIdeal.nD Cert.CtxGlaInRefIdeal.τ).loc Cert.CtxGlaInRefIdeal.main_arg2) = m ((c.tc : Thread Cert.CtxGlaInRefIdeal.nD Cert.CtxGlaInRefIdeal.τ).loc Cert.CtxGlaInRefIdeal.main_arg2)
      ∧ r.2.mem ((c.tc : Thread Cert.CtxGlaInRefIdeal.nD Cert.CtxGlaInRefIdeal.τ).loc Cert.CtxGlaInRefIdeal.main_arg3) = m ((c.tc : Thread Cert.CtxGlaInRefIdeal.nD Cert.CtxGlaInRefIdeal.τ).loc Cert.CtxGlaInRefIdeal.main_arg3)
      ∧ r.2.mem ((c.tc : Thread Cert.CtxGlaInRefIdeal.nD Cert.CtxGlaInRefIdeal.τ).loc Cert.CtxGlaInRefIdeal.main_arg4) = m ((c.tc : Thread Cert.CtxGlaInRefIdeal.nD Cert.CtxGlaInRefIdeal.τ).loc Cert.CtxGlaInRefIdeal.main_arg4))
      ∧ r.2.sem = fun _ => 0)

def quiescent_CtxDeltaIn [hCtxDeltaIn : Cert.CtxDeltaIn.Facts] : Prop :=
  ∀ (m : (ℓ : Loc Cert.CtxDeltaIn.nD Cert.CtxDeltaIn.τ Cert.CtxDeltaIn.sig) → Buf (Elt Bits) ℓ) (g : Dev Cert.CtxDeltaIn.nD → PrngReg), Pre_CtxDeltaIn m →
    θ_run (Cert.CtxDeltaIn.defs (F := Bits)) (onTc (τ := Cert.CtxDeltaIn.τ) (Cert.CtxDeltaIn.main (F := Bits))) ⟨m, fun _ => 0, g⟩ (fun r => (∀ c : Dev Cert.CtxDeltaIn.nD,
      r.2.mem ((c.tc : Thread Cert.CtxDeltaIn.nD Cert.CtxDeltaIn.τ).loc Cert.CtxDeltaIn.main_arg0) = m ((c.tc : Thread Cert.CtxDeltaIn.nD Cert.CtxDeltaIn.τ).loc Cert.CtxDeltaIn.main_arg0)
      ∧ r.2.mem ((c.tc : Thread Cert.CtxDeltaIn.nD Cert.CtxDeltaIn.τ).loc Cert.CtxDeltaIn.main_arg1) = m ((c.tc : Thread Cert.CtxDeltaIn.nD Cert.CtxDeltaIn.τ).loc Cert.CtxDeltaIn.main_arg1)
      ∧ r.2.mem ((c.tc : Thread Cert.CtxDeltaIn.nD Cert.CtxDeltaIn.τ).loc Cert.CtxDeltaIn.main_arg2) = m ((c.tc : Thread Cert.CtxDeltaIn.nD Cert.CtxDeltaIn.τ).loc Cert.CtxDeltaIn.main_arg2)
      ∧ r.2.mem ((c.tc : Thread Cert.CtxDeltaIn.nD Cert.CtxDeltaIn.τ).loc Cert.CtxDeltaIn.main_arg3) = m ((c.tc : Thread Cert.CtxDeltaIn.nD Cert.CtxDeltaIn.τ).loc Cert.CtxDeltaIn.main_arg3))
      ∧ r.2.sem = fun _ => 0)

def quiescent_CtxDeltaInIdeal [hCtxDeltaInIdeal : Cert.CtxDeltaInIdeal.Facts] : Prop :=
  ∀ (m : (ℓ : Loc Cert.CtxDeltaInIdeal.nD Cert.CtxDeltaInIdeal.τ Cert.CtxDeltaInIdeal.sig) → Buf (Elt Ideal) ℓ) (g : Dev Cert.CtxDeltaInIdeal.nD → PrngReg), Pre_CtxDeltaInIdeal m →
    θ_run (Cert.CtxDeltaInIdeal.defs (F := Ideal)) (onTc (τ := Cert.CtxDeltaInIdeal.τ) (Cert.CtxDeltaInIdeal.main (F := Ideal))) ⟨m, fun _ => 0, g⟩ (fun r => (∀ c : Dev Cert.CtxDeltaInIdeal.nD,
      r.2.mem ((c.tc : Thread Cert.CtxDeltaInIdeal.nD Cert.CtxDeltaInIdeal.τ).loc Cert.CtxDeltaInIdeal.main_arg0) = m ((c.tc : Thread Cert.CtxDeltaInIdeal.nD Cert.CtxDeltaInIdeal.τ).loc Cert.CtxDeltaInIdeal.main_arg0)
      ∧ r.2.mem ((c.tc : Thread Cert.CtxDeltaInIdeal.nD Cert.CtxDeltaInIdeal.τ).loc Cert.CtxDeltaInIdeal.main_arg1) = m ((c.tc : Thread Cert.CtxDeltaInIdeal.nD Cert.CtxDeltaInIdeal.τ).loc Cert.CtxDeltaInIdeal.main_arg1)
      ∧ r.2.mem ((c.tc : Thread Cert.CtxDeltaInIdeal.nD Cert.CtxDeltaInIdeal.τ).loc Cert.CtxDeltaInIdeal.main_arg2) = m ((c.tc : Thread Cert.CtxDeltaInIdeal.nD Cert.CtxDeltaInIdeal.τ).loc Cert.CtxDeltaInIdeal.main_arg2)
      ∧ r.2.mem ((c.tc : Thread Cert.CtxDeltaInIdeal.nD Cert.CtxDeltaInIdeal.τ).loc Cert.CtxDeltaInIdeal.main_arg3) = m ((c.tc : Thread Cert.CtxDeltaInIdeal.nD Cert.CtxDeltaInIdeal.τ).loc Cert.CtxDeltaInIdeal.main_arg3))
      ∧ r.2.sem = fun _ => 0)

def quiescent_CtxDeltaInRefIdeal [hCtxDeltaInRefIdeal : Cert.CtxDeltaInRefIdeal.Facts] : Prop :=
  ∀ (m : (ℓ : Loc Cert.CtxDeltaInRefIdeal.nD Cert.CtxDeltaInRefIdeal.τ Cert.CtxDeltaInRefIdeal.sig) → Buf (Elt Ideal) ℓ) (g : Dev Cert.CtxDeltaInRefIdeal.nD → PrngReg), Pre_CtxDeltaInRefIdeal m →
    θ_run (Cert.CtxDeltaInRefIdeal.defs (F := Ideal)) (onTc (τ := Cert.CtxDeltaInRefIdeal.τ) (Cert.CtxDeltaInRefIdeal.main (F := Ideal))) ⟨m, fun _ => 0, g⟩ (fun r => (∀ c : Dev Cert.CtxDeltaInRefIdeal.nD,
      r.2.mem ((c.tc : Thread Cert.CtxDeltaInRefIdeal.nD Cert.CtxDeltaInRefIdeal.τ).loc Cert.CtxDeltaInRefIdeal.main_arg0) = m ((c.tc : Thread Cert.CtxDeltaInRefIdeal.nD Cert.CtxDeltaInRefIdeal.τ).loc Cert.CtxDeltaInRefIdeal.main_arg0)
      ∧ r.2.mem ((c.tc : Thread Cert.CtxDeltaInRefIdeal.nD Cert.CtxDeltaInRefIdeal.τ).loc Cert.CtxDeltaInRefIdeal.main_arg1) = m ((c.tc : Thread Cert.CtxDeltaInRefIdeal.nD Cert.CtxDeltaInRefIdeal.τ).loc Cert.CtxDeltaInRefIdeal.main_arg1)
      ∧ r.2.mem ((c.tc : Thread Cert.CtxDeltaInRefIdeal.nD Cert.CtxDeltaInRefIdeal.τ).loc Cert.CtxDeltaInRefIdeal.main_arg2) = m ((c.tc : Thread Cert.CtxDeltaInRefIdeal.nD Cert.CtxDeltaInRefIdeal.τ).loc Cert.CtxDeltaInRefIdeal.main_arg2)
      ∧ r.2.mem ((c.tc : Thread Cert.CtxDeltaInRefIdeal.nD Cert.CtxDeltaInRefIdeal.τ).loc Cert.CtxDeltaInRefIdeal.main_arg3) = m ((c.tc : Thread Cert.CtxDeltaInRefIdeal.nD Cert.CtxDeltaInRefIdeal.τ).loc Cert.CtxDeltaInRefIdeal.main_arg3))
      ∧ r.2.sem = fun _ => 0)

def quiescent_CtxHyenaIn [hCtxHyenaIn : Cert.CtxHyenaIn.Facts] : Prop :=
  ∀ (m : (ℓ : Loc Cert.CtxHyenaIn.nD Cert.CtxHyenaIn.τ Cert.CtxHyenaIn.sig) → Buf (Elt Bits) ℓ) (g : Dev Cert.CtxHyenaIn.nD → PrngReg), Pre_CtxHyenaIn m →
    θ_run (Cert.CtxHyenaIn.defs (F := Bits)) (onTc (τ := Cert.CtxHyenaIn.τ) (Cert.CtxHyenaIn.main (F := Bits))) ⟨m, fun _ => 0, g⟩ (fun r => (∀ c : Dev Cert.CtxHyenaIn.nD,
      r.2.mem ((c.tc : Thread Cert.CtxHyenaIn.nD Cert.CtxHyenaIn.τ).loc Cert.CtxHyenaIn.main_arg0) = m ((c.tc : Thread Cert.CtxHyenaIn.nD Cert.CtxHyenaIn.τ).loc Cert.CtxHyenaIn.main_arg0)
      ∧ r.2.mem ((c.tc : Thread Cert.CtxHyenaIn.nD Cert.CtxHyenaIn.τ).loc Cert.CtxHyenaIn.main_arg1) = m ((c.tc : Thread Cert.CtxHyenaIn.nD Cert.CtxHyenaIn.τ).loc Cert.CtxHyenaIn.main_arg1)
      ∧ r.2.mem ((c.tc : Thread Cert.CtxHyenaIn.nD Cert.CtxHyenaIn.τ).loc Cert.CtxHyenaIn.main_arg2) = m ((c.tc : Thread Cert.CtxHyenaIn.nD Cert.CtxHyenaIn.τ).loc Cert.CtxHyenaIn.main_arg2)
      ∧ r.2.mem ((c.tc : Thread Cert.CtxHyenaIn.nD Cert.CtxHyenaIn.τ).loc Cert.CtxHyenaIn.main_arg3) = m ((c.tc : Thread Cert.CtxHyenaIn.nD Cert.CtxHyenaIn.τ).loc Cert.CtxHyenaIn.main_arg3))
      ∧ r.2.sem = fun _ => 0)

def quiescent_CtxHyenaInIdeal [hCtxHyenaInIdeal : Cert.CtxHyenaInIdeal.Facts] : Prop :=
  ∀ (m : (ℓ : Loc Cert.CtxHyenaInIdeal.nD Cert.CtxHyenaInIdeal.τ Cert.CtxHyenaInIdeal.sig) → Buf (Elt Ideal) ℓ) (g : Dev Cert.CtxHyenaInIdeal.nD → PrngReg), Pre_CtxHyenaInIdeal m →
    θ_run (Cert.CtxHyenaInIdeal.defs (F := Ideal)) (onTc (τ := Cert.CtxHyenaInIdeal.τ) (Cert.CtxHyenaInIdeal.main (F := Ideal))) ⟨m, fun _ => 0, g⟩ (fun r => (∀ c : Dev Cert.CtxHyenaInIdeal.nD,
      r.2.mem ((c.tc : Thread Cert.CtxHyenaInIdeal.nD Cert.CtxHyenaInIdeal.τ).loc Cert.CtxHyenaInIdeal.main_arg0) = m ((c.tc : Thread Cert.CtxHyenaInIdeal.nD Cert.CtxHyenaInIdeal.τ).loc Cert.CtxHyenaInIdeal.main_arg0)
      ∧ r.2.mem ((c.tc : Thread Cert.CtxHyenaInIdeal.nD Cert.CtxHyenaInIdeal.τ).loc Cert.CtxHyenaInIdeal.main_arg1) = m ((c.tc : Thread Cert.CtxHyenaInIdeal.nD Cert.CtxHyenaInIdeal.τ).loc Cert.CtxHyenaInIdeal.main_arg1)
      ∧ r.2.mem ((c.tc : Thread Cert.CtxHyenaInIdeal.nD Cert.CtxHyenaInIdeal.τ).loc Cert.CtxHyenaInIdeal.main_arg2) = m ((c.tc : Thread Cert.CtxHyenaInIdeal.nD Cert.CtxHyenaInIdeal.τ).loc Cert.CtxHyenaInIdeal.main_arg2)
      ∧ r.2.mem ((c.tc : Thread Cert.CtxHyenaInIdeal.nD Cert.CtxHyenaInIdeal.τ).loc Cert.CtxHyenaInIdeal.main_arg3) = m ((c.tc : Thread Cert.CtxHyenaInIdeal.nD Cert.CtxHyenaInIdeal.τ).loc Cert.CtxHyenaInIdeal.main_arg3))
      ∧ r.2.sem = fun _ => 0)

def quiescent_CtxHyenaInRefIdeal [hCtxHyenaInRefIdeal : Cert.CtxHyenaInRefIdeal.Facts] : Prop :=
  ∀ (m : (ℓ : Loc Cert.CtxHyenaInRefIdeal.nD Cert.CtxHyenaInRefIdeal.τ Cert.CtxHyenaInRefIdeal.sig) → Buf (Elt Ideal) ℓ) (g : Dev Cert.CtxHyenaInRefIdeal.nD → PrngReg), Pre_CtxHyenaInRefIdeal m →
    θ_run (Cert.CtxHyenaInRefIdeal.defs (F := Ideal)) (onTc (τ := Cert.CtxHyenaInRefIdeal.τ) (Cert.CtxHyenaInRefIdeal.main (F := Ideal))) ⟨m, fun _ => 0, g⟩ (fun r => (∀ c : Dev Cert.CtxHyenaInRefIdeal.nD,
      r.2.mem ((c.tc : Thread Cert.CtxHyenaInRefIdeal.nD Cert.CtxHyenaInRefIdeal.τ).loc Cert.CtxHyenaInRefIdeal.main_arg0) = m ((c.tc : Thread Cert.CtxHyenaInRefIdeal.nD Cert.CtxHyenaInRefIdeal.τ).loc Cert.CtxHyenaInRefIdeal.main_arg0)
      ∧ r.2.mem ((c.tc : Thread Cert.CtxHyenaInRefIdeal.nD Cert.CtxHyenaInRefIdeal.τ).loc Cert.CtxHyenaInRefIdeal.main_arg1) = m ((c.tc : Thread Cert.CtxHyenaInRefIdeal.nD Cert.CtxHyenaInRefIdeal.τ).loc Cert.CtxHyenaInRefIdeal.main_arg1)
      ∧ r.2.mem ((c.tc : Thread Cert.CtxHyenaInRefIdeal.nD Cert.CtxHyenaInRefIdeal.τ).loc Cert.CtxHyenaInRefIdeal.main_arg2) = m ((c.tc : Thread Cert.CtxHyenaInRefIdeal.nD Cert.CtxHyenaInRefIdeal.τ).loc Cert.CtxHyenaInRefIdeal.main_arg2)
      ∧ r.2.mem ((c.tc : Thread Cert.CtxHyenaInRefIdeal.nD Cert.CtxHyenaInRefIdeal.τ).loc Cert.CtxHyenaInRefIdeal.main_arg3) = m ((c.tc : Thread Cert.CtxHyenaInRefIdeal.nD Cert.CtxHyenaInRefIdeal.τ).loc Cert.CtxHyenaInRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v91)) (v1 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_v100) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Combine_CombineIdeal : Prop :=
  IdealRules.named_const.Statement Cert.CombineIdeal.κ "alpha" .f32 0x3FD744FD#32 ((Real.sqrt (Real.sqrt 8) : ℝ) : EReal)

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v34) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def preserves_Route_RouteIdeal : Prop :=
  True

def algebraic_RouteIdeal_RouteRefIdeal [hRouteIdeal : Cert.RouteIdeal.Facts] [hRouteRefIdeal : Cert.RouteRefIdeal.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)) →
    ∃ (v0 : (c : Dev Cert.RouteIdeal.nD) → Buf (Elt Ideal) ((c.tc : Thread Cert.RouteIdeal.nD Cert.RouteIdeal.τ).loc Cert.RouteIdeal.main_v2_0)) (v1 : (c : Dev Cert.RouteIdeal.nD) → Buf (Elt Ideal) ((c.tc : Thread Cert.RouteIdeal.nD Cert.RouteIdeal.τ).loc Cert.RouteIdeal.main_v3)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v2_0) = v0 c
          ∧ r.2.mem ((c.tc : Thread Cert.RouteIdeal.nD Cert.RouteIdeal.τ).loc Cert.RouteIdeal.main_v3) = v1 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v7) = v0 c
          ∧ r.2.mem ((c.tc : Thread Cert.RouteRefIdeal.nD Cert.RouteRefIdeal.τ).loc Cert.RouteRefIdeal.main_v8) = v1 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3))

def preserves_Dense_DenseIdeal : Prop :=
  IdealRules.named_const.Statement Cert.DenseIdeal.κ "alpha" .f32 0x3FD744FD#32 ((Real.sqrt (Real.sqrt 8) : ℝ) : EReal)

def algebraic_DenseIdeal_DenseRefIdeal [hDenseIdeal : Cert.DenseIdeal.Facts] [hDenseRefIdeal : Cert.DenseRefIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseRefIdeal.nD Cert.DenseRefIdeal.τ Cert.DenseRefIdeal.sig) → Buf (Elt Ideal) ℓ) (g' : Dev Cert.DenseRefIdeal.nD → PrngReg), Pre_DenseIdeal m →
    (∀ c : Dev Cert.DenseIdeal.nD,
      m' ((c.tc : Thread Cert.DenseRefIdeal.nD Cert.DenseRefIdeal.τ).loc Cert.DenseRefIdeal.main_arg0) = m ((c.tc : Thread Cert.DenseIdeal.nD Cert.DenseIdeal.τ).loc Cert.DenseIdeal.main_arg0)
      ∧ m' ((c.tc : Thread Cert.DenseRefIdeal.nD Cert.DenseRefIdeal.τ).loc Cert.DenseRefIdeal.main_arg1) = m ((c.tc : Thread Cert.DenseIdeal.nD Cert.DenseIdeal.τ).loc Cert.DenseIdeal.main_arg1)
      ∧ m' ((c.tc : Thread Cert.DenseRefIdeal.nD Cert.DenseRefIdeal.τ).loc Cert.DenseRefIdeal.main_arg2) = m ((c.tc : Thread Cert.DenseIdeal.nD Cert.DenseIdeal.τ).loc Cert.DenseIdeal.main_arg2)
      ∧ m' ((c.tc : Thread Cert.DenseRefIdeal.nD Cert.DenseRefIdeal.τ).loc Cert.DenseRefIdeal.main_arg3) = m ((c.tc : Thread Cert.DenseIdeal.nD Cert.DenseIdeal.τ).loc Cert.DenseIdeal.main_arg3)
      ∧ m' ((c.tc : Thread Cert.DenseRefIdeal.nD Cert.DenseRefIdeal.τ).loc Cert.DenseRefIdeal.main_arg4) = m ((c.tc : Thread Cert.DenseIdeal.nD Cert.DenseIdeal.τ).loc Cert.DenseIdeal.main_arg4)
      ∧ m' ((c.tc : Thread Cert.DenseRefIdeal.nD Cert.DenseRefIdeal.τ).loc Cert.DenseRefIdeal.main_arg5) = m ((c.tc : Thread Cert.DenseIdeal.nD Cert.DenseIdeal.τ).loc Cert.DenseIdeal.main_arg5)
      ∧ m' ((c.tc : Thread Cert.DenseRefIdeal.nD Cert.DenseRefIdeal.τ).loc Cert.DenseRefIdeal.main_arg6) = m ((c.tc : Thread Cert.DenseIdeal.nD Cert.DenseIdeal.τ).loc Cert.DenseIdeal.main_arg6)
      ∧ m' ((c.tc : Thread Cert.DenseRefIdeal.nD Cert.DenseRefIdeal.τ).loc Cert.DenseRefIdeal.main_arg7) = m ((c.tc : Thread Cert.DenseIdeal.nD Cert.DenseIdeal.τ).loc Cert.DenseIdeal.main_arg7)) →
    ∃ (v0 : (c : Dev Cert.DenseIdeal.nD) → Buf (Elt Ideal) ((c.tc : Thread Cert.DenseIdeal.nD Cert.DenseIdeal.τ).loc Cert.DenseIdeal.main_v7)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v7) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7))
      ∧ θ_run (Cert.DenseRefIdeal.defs (F := Ideal)) (onTc (τ := Cert.DenseRefIdeal.τ) (Cert.DenseRefIdeal.main (F := Ideal))) ⟨m', fun _ => 0, g'⟩ (fun r => ∀ c : Dev Cert.DenseRefIdeal.nD,
          r.2.mem ((c.tc : Thread Cert.DenseRefIdeal.nD Cert.DenseRefIdeal.τ).loc Cert.DenseRefIdeal.main_v42) = v0 c
          ∧ r.2.mem ((c.tc : Thread Cert.DenseRefIdeal.nD Cert.DenseRefIdeal.τ).loc Cert.DenseRefIdeal.main_arg0) = m' ((c.tc : Thread Cert.DenseRefIdeal.nD Cert.DenseRefIdeal.τ).loc Cert.DenseRefIdeal.main_arg0)
          ∧ r.2.mem ((c.tc : Thread Cert.DenseRefIdeal.nD Cert.DenseRefIdeal.τ).loc Cert.DenseRefIdeal.main_arg1) = m' ((c.tc : Thread Cert.DenseRefIdeal.nD Cert.DenseRefIdeal.τ).loc Cert.DenseRefIdeal.main_arg1)
          ∧ r.2.mem ((c.tc : Thread Cert.DenseRefIdeal.nD Cert.DenseRefIdeal.τ).loc Cert.DenseRefIdeal.main_arg2) = m' ((c.tc : Thread Cert.DenseRefIdeal.nD Cert.DenseRefIdeal.τ).loc Cert.DenseRefIdeal.main_arg2)
          ∧ r.2.mem ((c.tc : Thread Cert.DenseRefIdeal.nD Cert.DenseRefIdeal.τ).loc Cert.DenseRefIdeal.main_arg3) = m' ((c.tc : Thread Cert.DenseRefIdeal.nD Cert.DenseRefIdeal.τ).loc Cert.DenseRefIdeal.main_arg3)
          ∧ r.2.mem ((c.tc : Thread Cert.DenseRefIdeal.nD Cert.DenseRefIdeal.τ).loc Cert.DenseRefIdeal.main_arg4) = m' ((c.tc : Thread Cert.DenseRefIdeal.nD Cert.DenseRefIdeal.τ).loc Cert.DenseRefIdeal.main_arg4)
          ∧ r.2.mem ((c.tc : Thread Cert.DenseRefIdeal.nD Cert.DenseRefIdeal.τ).loc Cert.DenseRefIdeal.main_arg5) = m' ((c.tc : Thread Cert.DenseRefIdeal.nD Cert.DenseRefIdeal.τ).loc Cert.DenseRefIdeal.main_arg5)
          ∧ r.2.mem ((c.tc : Thread Cert.DenseRefIdeal.nD Cert.DenseRefIdeal.τ).loc Cert.DenseRefIdeal.main_arg6) = m' ((c.tc : Thread Cert.DenseRefIdeal.nD Cert.DenseRefIdeal.τ).loc Cert.DenseRefIdeal.main_arg6)
          ∧ r.2.mem ((c.tc : Thread Cert.DenseRefIdeal.nD Cert.DenseRefIdeal.τ).loc Cert.DenseRefIdeal.main_arg7) = m' ((c.tc : Thread Cert.DenseRefIdeal.nD Cert.DenseRefIdeal.τ).loc Cert.DenseRefIdeal.main_arg7))

def preserves_Out_OutIdeal : Prop :=
  IdealRules.named_const.Statement Cert.OutIdeal.κ "alpha" .f32 0x3FD744FD#32 ((Real.sqrt (Real.sqrt 8) : ℝ) : EReal)

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v32) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_GlaIn_GlaInIdeal : Prop :=
  True

def algebraic_GlaInIdeal_GlaInRefIdeal [hGlaInIdeal : Cert.GlaInIdeal.Facts] [hGlaInRefIdeal : Cert.GlaInRefIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)
      ∧ m' ((c.tc : Thread Cert.GlaInRefIdeal.nD Cert.GlaInRefIdeal.τ).loc Cert.GlaInRefIdeal.main_arg2) = m ((c.tc : Thread Cert.GlaInIdeal.nD Cert.GlaInIdeal.τ).loc Cert.GlaInIdeal.main_arg2)
      ∧ m' ((c.tc : Thread Cert.GlaInRefIdeal.nD Cert.GlaInRefIdeal.τ).loc Cert.GlaInRefIdeal.main_arg3) = m ((c.tc : Thread Cert.GlaInIdeal.nD Cert.GlaInIdeal.τ).loc Cert.GlaInIdeal.main_arg3)
      ∧ m' ((c.tc : Thread Cert.GlaInRefIdeal.nD Cert.GlaInRefIdeal.τ).loc Cert.GlaInRefIdeal.main_arg4) = m ((c.tc : Thread Cert.GlaInIdeal.nD Cert.GlaInIdeal.τ).loc Cert.GlaInIdeal.main_arg4)) →
    ∃ (v0 : (c : Dev Cert.GlaInIdeal.nD) → Buf (Elt Ideal) ((c.tc : Thread Cert.GlaInIdeal.nD Cert.GlaInIdeal.τ).loc Cert.GlaInIdeal.main_v9)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v9) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
          ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
          ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
          ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v15) = v0 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1)
          ∧ r.2.mem ((c.tc : Thread Cert.GlaInRefIdeal.nD Cert.GlaInRefIdeal.τ).loc Cert.GlaInRefIdeal.main_arg2) = m' ((c.tc : Thread Cert.GlaInRefIdeal.nD Cert.GlaInRefIdeal.τ).loc Cert.GlaInRefIdeal.main_arg2)
          ∧ r.2.mem ((c.tc : Thread Cert.GlaInRefIdeal.nD Cert.GlaInRefIdeal.τ).loc Cert.GlaInRefIdeal.main_arg3) = m' ((c.tc : Thread Cert.GlaInRefIdeal.nD Cert.GlaInRefIdeal.τ).loc Cert.GlaInRefIdeal.main_arg3)
          ∧ r.2.mem ((c.tc : Thread Cert.GlaInRefIdeal.nD Cert.GlaInRefIdeal.τ).loc Cert.GlaInRefIdeal.main_arg4) = m' ((c.tc : Thread Cert.GlaInRefIdeal.nD Cert.GlaInRefIdeal.τ).loc Cert.GlaInRefIdeal.main_arg4))

def preserves_DeltaIn_DeltaInIdeal : Prop :=
  True

def algebraic_DeltaInIdeal_DeltaInRefIdeal [hDeltaInIdeal : Cert.DeltaInIdeal.Facts] [hDeltaInRefIdeal : Cert.DeltaInRefIdeal.Facts] : Prop :=
  ∀ (m : (ℓ : Loc Cert.DeltaInIdeal.nD Cert.DeltaInIdeal.τ Cert.DeltaInIdeal.sig) → Buf (Elt Ideal) ℓ) (g : Dev Cert.DeltaInIdeal.nD → PrngReg)
    (m' : (ℓ : Loc Cert.DeltaInRefIdeal.nD Cert.DeltaInRefIdeal.τ Cert.DeltaInRefIdeal.sig) → Buf (Elt Ideal) ℓ) (g' : Dev Cert.DeltaInRefIdeal.nD → PrngReg), Pre_DeltaInIdeal m →
    (∀ c : Dev Cert.DeltaInIdeal.nD,
      m' ((c.tc : Thread Cert.DeltaInRefIdeal.nD Cert.DeltaInRefIdeal.τ).loc Cert.DeltaInRefIdeal.main_arg0) = m ((c.tc : Thread Cert.DeltaInIdeal.nD Cert.DeltaInIdeal.τ).loc Cert.DeltaInIdeal.main_arg0)
      ∧ m' ((c.tc : Thread Cert.DeltaInRefIdeal.nD Cert.DeltaInRefIdeal.τ).loc Cert.DeltaInRefIdeal.main_arg1) = m ((c.tc : Thread Cert.DeltaInIdeal.nD Cert.DeltaInIdeal.τ).loc Cert.DeltaInIdeal.main_arg1)
      ∧ m' ((c.tc : Thread Cert.DeltaInRefIdeal.nD Cert.DeltaInRefIdeal.τ).loc Cert.DeltaInRefIdeal.main_arg2) = m ((c.tc : Thread Cert.DeltaInIdeal.nD Cert.DeltaInIdeal.τ).loc Cert.DeltaInIdeal.main_arg2)
      ∧ m' ((c.tc : Thread Cert.DeltaInRefIdeal.nD Cert.DeltaInRefIdeal.τ).loc Cert.DeltaInRefIdeal.main_arg3) = m ((c.tc : Thread Cert.DeltaInIdeal.nD Cert.DeltaInIdeal.τ).loc Cert.DeltaInIdeal.main_arg3)) →
    ∃ (v0 : (c : Dev Cert.DeltaInIdeal.nD) → Buf (Elt Ideal) ((c.tc : Thread Cert.DeltaInIdeal.nD Cert.DeltaInIdeal.τ).loc Cert.DeltaInIdeal.main_v4)),
      θ_run (Cert.DeltaInIdeal.defs (F := Ideal)) (onTc (τ := Cert.DeltaInIdeal.τ) (Cert.DeltaInIdeal.main (F := Ideal))) ⟨m, fun _ => 0, g⟩ (fun r => ∀ c : Dev Cert.DeltaInIdeal.nD,
          r.2.mem ((c.tc : Thread Cert.DeltaInIdeal.nD Cert.DeltaInIdeal.τ).loc Cert.DeltaInIdeal.main_v4) = v0 c
          ∧ r.2.mem ((c.tc : Thread Cert.DeltaInIdeal.nD Cert.DeltaInIdeal.τ).loc Cert.DeltaInIdeal.main_arg0) = m ((c.tc : Thread Cert.DeltaInIdeal.nD Cert.DeltaInIdeal.τ).loc Cert.DeltaInIdeal.main_arg0)
          ∧ r.2.mem ((c.tc : Thread Cert.DeltaInIdeal.nD Cert.DeltaInIdeal.τ).loc Cert.DeltaInIdeal.main_arg1) = m ((c.tc : Thread Cert.DeltaInIdeal.nD Cert.DeltaInIdeal.τ).loc Cert.DeltaInIdeal.main_arg1)
          ∧ r.2.mem ((c.tc : Thread Cert.DeltaInIdeal.nD Cert.DeltaInIdeal.τ).loc Cert.DeltaInIdeal.main_arg2) = m ((c.tc : Thread Cert.DeltaInIdeal.nD Cert.DeltaInIdeal.τ).loc Cert.DeltaInIdeal.main_arg2)
          ∧ r.2.mem ((c.tc : Thread Cert.DeltaInIdeal.nD Cert.DeltaInIdeal.τ).loc Cert.DeltaInIdeal.main_arg3) = m ((c.tc : Thread Cert.DeltaInIdeal.nD Cert.DeltaInIdeal.τ).loc Cert.DeltaInIdeal.main_arg3))
      ∧ θ_run (Cert.DeltaInRefIdeal.defs (F := Ideal)) (onTc (τ := Cert.DeltaInRefIdeal.τ) (Cert.DeltaInRefIdeal.main (F := Ideal))) ⟨m', fun _ => 0, g'⟩ (fun r => ∀ c : Dev Cert.DeltaInRefIdeal.nD,
          r.2.mem ((c.tc : Thread Cert.DeltaInRefIdeal.nD Cert.DeltaInRefIdeal.τ).loc Cert.DeltaInRefIdeal.main_v7) = v0 c
          ∧ r.2.mem ((c.tc : Thread Cert.DeltaInRefIdeal.nD Cert.DeltaInRefIdeal.τ).loc Cert.DeltaInRefIdeal.main_arg0) = m' ((c.tc : Thread Cert.DeltaInRefIdeal.nD Cert.DeltaInRefIdeal.τ).loc Cert.DeltaInRefIdeal.main_arg0)
          ∧ r.2.mem ((c.tc : Thread Cert.DeltaInRefIdeal.nD Cert.DeltaInRefIdeal.τ).loc Cert.DeltaInRefIdeal.main_arg1) = m' ((c.tc : Thread Cert.DeltaInRefIdeal.nD Cert.DeltaInRefIdeal.τ).loc Cert.DeltaInRefIdeal.main_arg1)
          ∧ r.2.mem ((c.tc : Thread Cert.DeltaInRefIdeal.nD Cert.DeltaInRefIdeal.τ).loc Cert.DeltaInRefIdeal.main_arg2) = m' ((c.tc : Thread Cert.DeltaInRefIdeal.nD Cert.DeltaInRefIdeal.τ).loc Cert.DeltaInRefIdeal.main_arg2)
          ∧ r.2.mem ((c.tc : Thread Cert.DeltaInRefIdeal.nD Cert.DeltaInRefIdeal.τ).loc Cert.DeltaInRefIdeal.main_arg3) = m' ((c.tc : Thread Cert.DeltaInRefIdeal.nD Cert.DeltaInRefIdeal.τ).loc Cert.DeltaInRefIdeal.main_arg3))

def preserves_HyenaIn_HyenaInIdeal : Prop :=
  True

def algebraic_HyenaInIdeal_HyenaInRefIdeal [hHyenaInIdeal : Cert.HyenaInIdeal.Facts] [hHyenaInRefIdeal : Cert.HyenaInRefIdeal.Facts] : Prop :=
  ∀ (m : (ℓ : Loc Cert.HyenaInIdeal.nD Cert.HyenaInIdeal.τ Cert.HyenaInIdeal.sig) → Buf (Elt Ideal) ℓ) (g : Dev Cert.HyenaInIdeal.nD → PrngReg)
    (m' : (ℓ : Loc Cert.HyenaInRefIdeal.nD Cert.HyenaInRefIdeal.τ Cert.HyenaInRefIdeal.sig) → Buf (Elt Ideal) ℓ) (g' : Dev Cert.HyenaInRefIdeal.nD → PrngReg), Pre_HyenaInIdeal m →
    (∀ c : Dev Cert.HyenaInIdeal.nD,
      m' ((c.tc : Thread Cert.HyenaInRefIdeal.nD Cert.HyenaInRefIdeal.τ).loc Cert.HyenaInRefIdeal.main_arg0) = m ((c.tc : Thread Cert.HyenaInIdeal.nD Cert.HyenaInIdeal.τ).loc Cert.HyenaInIdeal.main_arg0)
      ∧ m' ((c.tc : Thread Cert.HyenaInRefIdeal.nD Cert.HyenaInRefIdeal.τ).loc Cert.HyenaInRefIdeal.main_arg1) = m ((c.tc : Thread Cert.HyenaInIdeal.nD Cert.HyenaInIdeal.τ).loc Cert.HyenaInIdeal.main_arg1)
      ∧ m' ((c.tc : Thread Cert.HyenaInRefIdeal.nD Cert.HyenaInRefIdeal.τ).loc Cert.HyenaInRefIdeal.main_arg2) = m ((c.tc : Thread Cert.HyenaInIdeal.nD Cert.HyenaInIdeal.τ).loc Cert.HyenaInIdeal.main_arg2)
      ∧ m' ((c.tc : Thread Cert.HyenaInRefIdeal.nD Cert.HyenaInRefIdeal.τ).loc Cert.HyenaInRefIdeal.main_arg3) = m ((c.tc : Thread Cert.HyenaInIdeal.nD Cert.HyenaInIdeal.τ).loc Cert.HyenaInIdeal.main_arg3)) →
    ∃ (v0 : (c : Dev Cert.HyenaInIdeal.nD) → Buf (Elt Ideal) ((c.tc : Thread Cert.HyenaInIdeal.nD Cert.HyenaInIdeal.τ).loc Cert.HyenaInIdeal.main_v3)),
      θ_run (Cert.HyenaInIdeal.defs (F := Ideal)) (onTc (τ := Cert.HyenaInIdeal.τ) (Cert.HyenaInIdeal.main (F := Ideal))) ⟨m, fun _ => 0, g⟩ (fun r => ∀ c : Dev Cert.HyenaInIdeal.nD,
          r.2.mem ((c.tc : Thread Cert.HyenaInIdeal.nD Cert.HyenaInIdeal.τ).loc Cert.HyenaInIdeal.main_v3) = v0 c
          ∧ r.2.mem ((c.tc : Thread Cert.HyenaInIdeal.nD Cert.HyenaInIdeal.τ).loc Cert.HyenaInIdeal.main_arg0) = m ((c.tc : Thread Cert.HyenaInIdeal.nD Cert.HyenaInIdeal.τ).loc Cert.HyenaInIdeal.main_arg0)
          ∧ r.2.mem ((c.tc : Thread Cert.HyenaInIdeal.nD Cert.HyenaInIdeal.τ).loc Cert.HyenaInIdeal.main_arg1) = m ((c.tc : Thread Cert.HyenaInIdeal.nD Cert.HyenaInIdeal.τ).loc Cert.HyenaInIdeal.main_arg1)
          ∧ r.2.mem ((c.tc : Thread Cert.HyenaInIdeal.nD Cert.HyenaInIdeal.τ).loc Cert.HyenaInIdeal.main_arg2) = m ((c.tc : Thread Cert.HyenaInIdeal.nD Cert.HyenaInIdeal.τ).loc Cert.HyenaInIdeal.main_arg2)
          ∧ r.2.mem ((c.tc : Thread Cert.HyenaInIdeal.nD Cert.HyenaInIdeal.τ).loc Cert.HyenaInIdeal.main_arg3) = m ((c.tc : Thread Cert.HyenaInIdeal.nD Cert.HyenaInIdeal.τ).loc Cert.HyenaInIdeal.main_arg3))
      ∧ θ_run (Cert.HyenaInRefIdeal.defs (F := Ideal)) (onTc (τ := Cert.HyenaInRefIdeal.τ) (Cert.HyenaInRefIdeal.main (F := Ideal))) ⟨m', fun _ => 0, g'⟩ (fun r => ∀ c : Dev Cert.HyenaInRefIdeal.nD,
          r.2.mem ((c.tc : Thread Cert.HyenaInRefIdeal.nD Cert.HyenaInRefIdeal.τ).loc Cert.HyenaInRefIdeal.main_v7) = v0 c
          ∧ r.2.mem ((c.tc : Thread Cert.HyenaInRefIdeal.nD Cert.HyenaInRefIdeal.τ).loc Cert.HyenaInRefIdeal.main_arg0) = m' ((c.tc : Thread Cert.HyenaInRefIdeal.nD Cert.HyenaInRefIdeal.τ).loc Cert.HyenaInRefIdeal.main_arg0)
          ∧ r.2.mem ((c.tc : Thread Cert.HyenaInRefIdeal.nD Cert.HyenaInRefIdeal.τ).loc Cert.HyenaInRefIdeal.main_arg1) = m' ((c.tc : Thread Cert.HyenaInRefIdeal.nD Cert.HyenaInRefIdeal.τ).loc Cert.HyenaInRefIdeal.main_arg1)
          ∧ r.2.mem ((c.tc : Thread Cert.HyenaInRefIdeal.nD Cert.HyenaInRefIdeal.τ).loc Cert.HyenaInRefIdeal.main_arg2) = m' ((c.tc : Thread Cert.HyenaInRefIdeal.nD Cert.HyenaInRefIdeal.τ).loc Cert.HyenaInRefIdeal.main_arg2)
          ∧ r.2.mem ((c.tc : Thread Cert.HyenaInRefIdeal.nD Cert.HyenaInRefIdeal.τ).loc Cert.HyenaInRefIdeal.main_arg3) = m' ((c.tc : Thread Cert.HyenaInRefIdeal.nD Cert.HyenaInRefIdeal.τ).loc Cert.HyenaInRefIdeal.main_arg3))

def preserves_CtxKernel_CtxKernelIdeal : Prop :=
  True

def algebraic_CtxKernelIdeal_CtxReferenceIdeal [hCtxKernelIdeal : Cert.CtxKernelIdeal.Facts] [hCtxReferenceIdeal : Cert.CtxReferenceIdeal.Facts] : Prop :=
  ∀ (m : (ℓ : Loc Cert.CtxKernelIdeal.nD Cert.CtxKernelIdeal.τ Cert.CtxKernelIdeal.sig) → Buf (Elt Ideal) ℓ) (g : Dev Cert.CtxKernelIdeal.nD → PrngReg)
    (m' : (ℓ : Loc Cert.CtxReferenceIdeal.nD Cert.CtxReferenceIdeal.τ Cert.CtxReferenceIdeal.sig) → Buf (Elt Ideal) ℓ) (g' : Dev Cert.CtxReferenceIdeal.nD → PrngReg), Pre_CtxKernelIdeal m →
    (∀ c : Dev Cert.CtxKernelIdeal.nD,
      m' ((c.tc : Thread Cert.CtxReferenceIdeal.nD Cert.CtxReferenceIdeal.τ).loc Cert.CtxReferenceIdeal.main_arg0) = m ((c.tc : Thread Cert.CtxKernelIdeal.nD Cert.CtxKernelIdeal.τ).loc Cert.CtxKernelIdeal.main_arg0)
      ∧ m' ((c.tc : Thread Cert.CtxReferenceIdeal.nD Cert.CtxReferenceIdeal.τ).loc Cert.CtxReferenceIdeal.main_arg1) = m ((c.tc : Thread Cert.CtxKernelIdeal.nD Cert.CtxKernelIdeal.τ).loc Cert.CtxKernelIdeal.main_arg1)
      ∧ m' ((c.tc : Thread Cert.CtxReferenceIdeal.nD Cert.CtxReferenceIdeal.τ).loc Cert.CtxReferenceIdeal.main_arg2) = m ((c.tc : Thread Cert.CtxKernelIdeal.nD Cert.CtxKernelIdeal.τ).loc Cert.CtxKernelIdeal.main_arg2)
      ∧ m' ((c.tc : Thread Cert.CtxReferenceIdeal.nD Cert.CtxReferenceIdeal.τ).loc Cert.CtxReferenceIdeal.main_arg3) = m ((c.tc : Thread Cert.CtxKernelIdeal.nD Cert.CtxKernelIdeal.τ).loc Cert.CtxKernelIdeal.main_arg3)) →
    ∃ (v0 : (c : Dev Cert.CtxKernelIdeal.nD) → Buf (Elt Ideal) ((c.tc : Thread Cert.CtxKernelIdeal.nD Cert.CtxKernelIdeal.τ).loc Cert.CtxKernelIdeal.main_v91)) (v1 : (c : Dev Cert.CtxKernelIdeal.nD) → Buf (Elt Ideal) ((c.tc : Thread Cert.CtxKernelIdeal.nD Cert.CtxKernelIdeal.τ).loc Cert.CtxKernelIdeal.main_v100)),
      θ_run (Cert.CtxKernelIdeal.defs (F := Ideal)) (onTc (τ := Cert.CtxKernelIdeal.τ) (Cert.CtxKernelIdeal.main (F := Ideal))) ⟨m, fun _ => 0, g⟩ (fun r => ∀ c : Dev Cert.CtxKernelIdeal.nD,
          r.2.mem ((c.tc : Thread Cert.CtxKernelIdeal.nD Cert.CtxKernelIdeal.τ).loc Cert.CtxKernelIdeal.main_v91) = v0 c
          ∧ r.2.mem ((c.tc : Thread Cert.CtxKernelIdeal.nD Cert.CtxKernelIdeal.τ).loc Cert.CtxKernelIdeal.main_v100) = v1 c
          ∧ r.2.mem ((c.tc : Thread Cert.CtxKernelIdeal.nD Cert.CtxKernelIdeal.τ).loc Cert.CtxKernelIdeal.main_arg0) = m ((c.tc : Thread Cert.CtxKernelIdeal.nD Cert.CtxKernelIdeal.τ).loc Cert.CtxKernelIdeal.main_arg0)
          ∧ r.2.mem ((c.tc : Thread Cert.CtxKernelIdeal.nD Cert.CtxKernelIdeal.τ).loc Cert.CtxKernelIdeal.main_arg1) = m ((c.tc : Thread Cert.CtxKernelIdeal.nD Cert.CtxKernelIdeal.τ).loc Cert.CtxKernelIdeal.main_arg1)
          ∧ r.2.mem ((c.tc : Thread Cert.CtxKernelIdeal.nD Cert.CtxKernelIdeal.τ).loc Cert.CtxKernelIdeal.main_arg2) = m ((c.tc : Thread Cert.CtxKernelIdeal.nD Cert.CtxKernelIdeal.τ).loc Cert.CtxKernelIdeal.main_arg2)
          ∧ r.2.mem ((c.tc : Thread Cert.CtxKernelIdeal.nD Cert.CtxKernelIdeal.τ).loc Cert.CtxKernelIdeal.main_arg3) = m ((c.tc : Thread Cert.CtxKernelIdeal.nD Cert.CtxKernelIdeal.τ).loc Cert.CtxKernelIdeal.main_arg3))
      ∧ θ_run (Cert.CtxReferenceIdeal.defs (F := Ideal)) (onTc (τ := Cert.CtxReferenceIdeal.τ) (Cert.CtxReferenceIdeal.main (F := Ideal))) ⟨m', fun _ => 0, g'⟩ (fun r => ∀ c : Dev Cert.CtxReferenceIdeal.nD,
          r.2.mem ((c.tc : Thread Cert.CtxReferenceIdeal.nD Cert.CtxReferenceIdeal.τ).loc Cert.CtxReferenceIdeal.main_v27) = v0 c
          ∧ r.2.mem ((c.tc : Thread Cert.CtxReferenceIdeal.nD Cert.CtxReferenceIdeal.τ).loc Cert.CtxReferenceIdeal.main_v30) = v1 c
          ∧ r.2.mem ((c.tc : Thread Cert.CtxReferenceIdeal.nD Cert.CtxReferenceIdeal.τ).loc Cert.CtxReferenceIdeal.main_arg0) = m' ((c.tc : Thread Cert.CtxReferenceIdeal.nD Cert.CtxReferenceIdeal.τ).loc Cert.CtxReferenceIdeal.main_arg0)
          ∧ r.2.mem ((c.tc : Thread Cert.CtxReferenceIdeal.nD Cert.CtxReferenceIdeal.τ).loc Cert.CtxReferenceIdeal.main_arg1) = m' ((c.tc : Thread Cert.CtxReferenceIdeal.nD Cert.CtxReferenceIdeal.τ).loc Cert.CtxReferenceIdeal.main_arg1)
          ∧ r.2.mem ((c.tc : Thread Cert.CtxReferenceIdeal.nD Cert.CtxReferenceIdeal.τ).loc Cert.CtxReferenceIdeal.main_arg2) = m' ((c.tc : Thread Cert.CtxReferenceIdeal.nD Cert.CtxReferenceIdeal.τ).loc Cert.CtxReferenceIdeal.main_arg2)
          ∧ r.2.mem ((c.tc : Thread Cert.CtxReferenceIdeal.nD Cert.CtxReferenceIdeal.τ).loc Cert.CtxReferenceIdeal.main_arg3) = m' ((c.tc : Thread Cert.CtxReferenceIdeal.nD Cert.CtxReferenceIdeal.τ).loc Cert.CtxReferenceIdeal.main_arg3))

def preserves_CtxCombine_CtxCombineIdeal : Prop :=
  IdealRules.named_const.Statement Cert.CtxCombineIdeal.κ "alpha" .f32 0x3FD744FD#32 ((Real.sqrt (Real.sqrt 8) : ℝ) : EReal)

def algebraic_CtxCombineIdeal_CtxCombineRefIdeal [hCtxCombineIdeal : Cert.CtxCombineIdeal.Facts] [hCtxCombineRefIdeal : Cert.CtxCombineRefIdeal.Facts] : Prop :=
  ∀ (m : (ℓ : Loc Cert.CtxCombineIdeal.nD Cert.CtxCombineIdeal.τ Cert.CtxCombineIdeal.sig) → Buf (Elt Ideal) ℓ) (g : Dev Cert.CtxCombineIdeal.nD → PrngReg)
    (m' : (ℓ : Loc Cert.CtxCombineRefIdeal.nD Cert.CtxCombineRefIdeal.τ Cert.CtxCombineRefIdeal.sig) → Buf (Elt Ideal) ℓ) (g' : Dev Cert.CtxCombineRefIdeal.nD → PrngReg), Pre_CtxCombineIdeal m →
    (∀ c : Dev Cert.CtxCombineIdeal.nD,
      m' ((c.tc : Thread Cert.CtxCombineRefIdeal.nD Cert.CtxCombineRefIdeal.τ).loc Cert.CtxCombineRefIdeal.main_arg0) = m ((c.tc : Thread Cert.CtxCombineIdeal.nD Cert.CtxCombineIdeal.τ).loc Cert.CtxCombineIdeal.main_arg0)
      ∧ m' ((c.tc : Thread Cert.CtxCombineRefIdeal.nD Cert.CtxCombineRefIdeal.τ).loc Cert.CtxCombineRefIdeal.main_arg1) = m ((c.tc : Thread Cert.CtxCombineIdeal.nD Cert.CtxCombineIdeal.τ).loc Cert.CtxCombineIdeal.main_arg1)
      ∧ m' ((c.tc : Thread Cert.CtxCombineRefIdeal.nD Cert.CtxCombineRefIdeal.τ).loc Cert.CtxCombineRefIdeal.main_arg2) = m ((c.tc : Thread Cert.CtxCombineIdeal.nD Cert.CtxCombineIdeal.τ).loc Cert.CtxCombineIdeal.main_arg2)
      ∧ m' ((c.tc : Thread Cert.CtxCombineRefIdeal.nD Cert.CtxCombineRefIdeal.τ).loc Cert.CtxCombineRefIdeal.main_arg3) = m ((c.tc : Thread Cert.CtxCombineIdeal.nD Cert.CtxCombineIdeal.τ).loc Cert.CtxCombineIdeal.main_arg3)
      ∧ m' ((c.tc : Thread Cert.CtxCombineRefIdeal.nD Cert.CtxCombineRefIdeal.τ).loc Cert.CtxCombineRefIdeal.main_arg4) = m ((c.tc : Thread Cert.CtxCombineIdeal.nD Cert.CtxCombineIdeal.τ).loc Cert.CtxCombineIdeal.main_arg4)
      ∧ m' ((c.tc : Thread Cert.CtxCombineRefIdeal.nD Cert.CtxCombineRefIdeal.τ).loc Cert.CtxCombineRefIdeal.main_arg5) = m ((c.tc : Thread Cert.CtxCombineIdeal.nD Cert.CtxCombineIdeal.τ).loc Cert.CtxCombineIdeal.main_arg5)) →
    ∃ (v0 : (c : Dev Cert.CtxCombineIdeal.nD) → Buf (Elt Ideal) ((c.tc : Thread Cert.CtxCombineIdeal.nD Cert.CtxCombineIdeal.τ).loc Cert.CtxCombineIdeal.main_v2)),
      θ_run (Cert.CtxCombineIdeal.defs (F := Ideal)) (onTc (τ := Cert.CtxCombineIdeal.τ) (Cert.CtxCombineIdeal.main (F := Ideal))) ⟨m, fun _ => 0, g⟩ (fun r => ∀ c : Dev Cert.CtxCombineIdeal.nD,
          r.2.mem ((c.tc : Thread Cert.CtxCombineIdeal.nD Cert.CtxCombineIdeal.τ).loc Cert.CtxCombineIdeal.main_v2) = v0 c
          ∧ r.2.mem ((c.tc : Thread Cert.CtxCombineIdeal.nD Cert.CtxCombineIdeal.τ).loc Cert.CtxCombineIdeal.main_arg0) = m ((c.tc : Thread Cert.CtxCombineIdeal.nD Cert.CtxCombineIdeal.τ).loc Cert.CtxCombineIdeal.main_arg0)
          ∧ r.2.mem ((c.tc : Thread Cert.CtxCombineIdeal.nD Cert.CtxCombineIdeal.τ).loc Cert.CtxCombineIdeal.main_arg1) = m ((c.tc : Thread Cert.CtxCombineIdeal.nD Cert.CtxCombineIdeal.τ).loc Cert.CtxCombineIdeal.main_arg1)
          ∧ r.2.mem ((c.tc : Thread Cert.CtxCombineIdeal.nD Cert.CtxCombineIdeal.τ).loc Cert.CtxCombineIdeal.main_arg2) = m ((c.tc : Thread Cert.CtxCombineIdeal.nD Cert.CtxCombineIdeal.τ).loc Cert.CtxCombineIdeal.main_arg2)
          ∧ r.2.mem ((c.tc : Thread Cert.CtxCombineIdeal.nD Cert.CtxCombineIdeal.τ).loc Cert.CtxCombineIdeal.main_arg3) = m ((c.tc : Thread Cert.CtxCombineIdeal.nD Cert.CtxCombineIdeal.τ).loc Cert.CtxCombineIdeal.main_arg3)
          ∧ r.2.mem ((c.tc : Thread Cert.CtxCombineIdeal.nD Cert.CtxCombineIdeal.τ).loc Cert.CtxCombineIdeal.main_arg4) = m ((c.tc : Thread Cert.CtxCombineIdeal.nD Cert.CtxCombineIdeal.τ).loc Cert.CtxCombineIdeal.main_arg4)
          ∧ r.2.mem ((c.tc : Thread Cert.CtxCombineIdeal.nD Cert.CtxCombineIdeal.τ).loc Cert.CtxCombineIdeal.main_arg5) = m ((c.tc : Thread Cert.CtxCombineIdeal.nD Cert.CtxCombineIdeal.τ).loc Cert.CtxCombineIdeal.main_arg5))
      ∧ θ_run (Cert.CtxCombineRefIdeal.defs (F := Ideal)) (onTc (τ := Cert.CtxCombineRefIdeal.τ) (Cert.CtxCombineRefIdeal.main (F := Ideal))) ⟨m', fun _ => 0, g'⟩ (fun r => ∀ c : Dev Cert.CtxCombineRefIdeal.nD,
          r.2.mem ((c.tc : Thread Cert.CtxCombineRefIdeal.nD Cert.CtxCombineRefIdeal.τ).loc Cert.CtxCombineRefIdeal.main_v34) = v0 c
          ∧ r.2.mem ((c.tc : Thread Cert.CtxCombineRefIdeal.nD Cert.CtxCombineRefIdeal.τ).loc Cert.CtxCombineRefIdeal.main_arg0) = m' ((c.tc : Thread Cert.CtxCombineRefIdeal.nD Cert.CtxCombineRefIdeal.τ).loc Cert.CtxCombineRefIdeal.main_arg0)
          ∧ r.2.mem ((c.tc : Thread Cert.CtxCombineRefIdeal.nD Cert.CtxCombineRefIdeal.τ).loc Cert.CtxCombineRefIdeal.main_arg1) = m' ((c.tc : Thread Cert.CtxCombineRefIdeal.nD Cert.CtxCombineRefIdeal.τ).loc Cert.CtxCombineRefIdeal.main_arg1)
          ∧ r.2.mem ((c.tc : Thread Cert.CtxCombineRefIdeal.nD Cert.CtxCombineRefIdeal.τ).loc Cert.CtxCombineRefIdeal.main_arg2) = m' ((c.tc : Thread Cert.CtxCombineRefIdeal.nD Cert.CtxCombineRefIdeal.τ).loc Cert.CtxCombineRefIdeal.main_arg2)
          ∧ r.2.mem ((c.tc : Thread Cert.CtxCombineRefIdeal.nD Cert.CtxCombineRefIdeal.τ).loc Cert.CtxCombineRefIdeal.main_arg3) = m' ((c.tc : Thread Cert.CtxCombineRefIdeal.nD Cert.CtxCombineRefIdeal.τ).loc Cert.CtxCombineRefIdeal.main_arg3)
          ∧ r.2.mem ((c.tc : Thread Cert.CtxCombineRefIdeal.nD Cert.CtxCombineRefIdeal.τ).loc Cert.CtxCombineRefIdeal.main_arg4) = m' ((c.tc : Thread Cert.CtxCombineRefIdeal.nD Cert.CtxCombineRefIdeal.τ).loc Cert.CtxCombineRefIdeal.main_arg4)
          ∧ r.2.mem ((c.tc : Thread Cert.CtxCombineRefIdeal.nD Cert.CtxCombineRefIdeal.τ).loc Cert.CtxCombineRefIdeal.main_arg5) = m' ((c.tc : Thread Cert.CtxCombineRefIdeal.nD Cert.CtxCombineRefIdeal.τ).loc Cert.CtxCombineRefIdeal.main_arg5))

def preserves_CtxRoute_CtxRouteIdeal : Prop :=
  True

def algebraic_CtxRouteIdeal_CtxRouteRefIdeal [hCtxRouteIdeal : Cert.CtxRouteIdeal.Facts] [hCtxRouteRefIdeal : Cert.CtxRouteRefIdeal.Facts] : Prop :=
  ∀ (m : (ℓ : Loc Cert.CtxRouteIdeal.nD Cert.CtxRouteIdeal.τ Cert.CtxRouteIdeal.sig) → Buf (Elt Ideal) ℓ) (g : Dev Cert.CtxRouteIdeal.nD → PrngReg)
    (m' : (ℓ : Loc Cert.CtxRouteRefIdeal.nD Cert.CtxRouteRefIdeal.τ Cert.CtxRouteRefIdeal.sig) → Buf (Elt Ideal) ℓ) (g' : Dev Cert.CtxRouteRefIdeal.nD → PrngReg), Pre_CtxRouteIdeal m →
    (∀ c : Dev Cert.CtxRouteIdeal.nD,
      m' ((c.tc : Thread Cert.CtxRouteRefIdeal.nD Cert.CtxRouteRefIdeal.τ).loc Cert.CtxRouteRefIdeal.main_arg0) = m ((c.tc : Thread Cert.CtxRouteIdeal.nD Cert.CtxRouteIdeal.τ).loc Cert.CtxRouteIdeal.main_arg0)
      ∧ m' ((c.tc : Thread Cert.CtxRouteRefIdeal.nD Cert.CtxRouteRefIdeal.τ).loc Cert.CtxRouteRefIdeal.main_arg1) = m ((c.tc : Thread Cert.CtxRouteIdeal.nD Cert.CtxRouteIdeal.τ).loc Cert.CtxRouteIdeal.main_arg1)
      ∧ m' ((c.tc : Thread Cert.CtxRouteRefIdeal.nD Cert.CtxRouteRefIdeal.τ).loc Cert.CtxRouteRefIdeal.main_arg2) = m ((c.tc : Thread Cert.CtxRouteIdeal.nD Cert.CtxRouteIdeal.τ).loc Cert.CtxRouteIdeal.main_arg2)
      ∧ m' ((c.tc : Thread Cert.CtxRouteRefIdeal.nD Cert.CtxRouteRefIdeal.τ).loc Cert.CtxRouteRefIdeal.main_arg3) = m ((c.tc : Thread Cert.CtxRouteIdeal.nD Cert.CtxRouteIdeal.τ).loc Cert.CtxRouteIdeal.main_arg3)) →
    ∃ (v0 : (c : Dev Cert.CtxRouteIdeal.nD) → Buf (Elt Ideal) ((c.tc : Thread Cert.CtxRouteIdeal.nD Cert.CtxRouteIdeal.τ).loc Cert.CtxRouteIdeal.main_v2_0)) (v1 : (c : Dev Cert.CtxRouteIdeal.nD) → Buf (Elt Ideal) ((c.tc : Thread Cert.CtxRouteIdeal.nD Cert.CtxRouteIdeal.τ).loc Cert.CtxRouteIdeal.main_v3)),
      θ_run (Cert.CtxRouteIdeal.defs (F := Ideal)) (onTc (τ := Cert.CtxRouteIdeal.τ) (Cert.CtxRouteIdeal.main (F := Ideal))) ⟨m, fun _ => 0, g⟩ (fun r => ∀ c : Dev Cert.CtxRouteIdeal.nD,
          r.2.mem ((c.tc : Thread Cert.CtxRouteIdeal.nD Cert.CtxRouteIdeal.τ).loc Cert.CtxRouteIdeal.main_v2_0) = v0 c
          ∧ r.2.mem ((c.tc : Thread Cert.CtxRouteIdeal.nD Cert.CtxRouteIdeal.τ).loc Cert.CtxRouteIdeal.main_v3) = v1 c
          ∧ r.2.mem ((c.tc : Thread Cert.CtxRouteIdeal.nD Cert.CtxRouteIdeal.τ).loc Cert.CtxRouteIdeal.main_arg0) = m ((c.tc : Thread Cert.CtxRouteIdeal.nD Cert.CtxRouteIdeal.τ).loc Cert.CtxRouteIdeal.main_arg0)
          ∧ r.2.mem ((c.tc : Thread Cert.CtxRouteIdeal.nD Cert.CtxRouteIdeal.τ).loc Cert.CtxRouteIdeal.main_arg1) = m ((c.tc : Thread Cert.CtxRouteIdeal.nD Cert.CtxRouteIdeal.τ).loc Cert.CtxRouteIdeal.main_arg1)
          ∧ r.2.mem ((c.tc : Thread Cert.CtxRouteIdeal.nD Cert.CtxRouteIdeal.τ).loc Cert.CtxRouteIdeal.main_arg2) = m ((c.tc : Thread Cert.CtxRouteIdeal.nD Cert.CtxRouteIdeal.τ).loc Cert.CtxRouteIdeal.main_arg2)
          ∧ r.2.mem ((c.tc : Thread Cert.CtxRouteIdeal.nD Cert.CtxRouteIdeal.τ).loc Cert.CtxRouteIdeal.main_arg3) = m ((c.tc : Thread Cert.CtxRouteIdeal.nD Cert.CtxRouteIdeal.τ).loc Cert.CtxRouteIdeal.main_arg3))
      ∧ θ_run (Cert.CtxRouteRefIdeal.defs (F := Ideal)) (onTc (τ := Cert.CtxRouteRefIdeal.τ) (Cert.CtxRouteRefIdeal.main (F := Ideal))) ⟨m', fun _ => 0, g'⟩ (fun r => ∀ c : Dev Cert.CtxRouteRefIdeal.nD,
          r.2.mem ((c.tc : Thread Cert.CtxRouteRefIdeal.nD Cert.CtxRouteRefIdeal.τ).loc Cert.CtxRouteRefIdeal.main_v7) = v0 c
          ∧ r.2.mem ((c.tc : Thread Cert.CtxRouteRefIdeal.nD Cert.CtxRouteRefIdeal.τ).loc Cert.CtxRouteRefIdeal.main_v8) = v1 c
          ∧ r.2.mem ((c.tc : Thread Cert.CtxRouteRefIdeal.nD Cert.CtxRouteRefIdeal.τ).loc Cert.CtxRouteRefIdeal.main_arg0) = m' ((c.tc : Thread Cert.CtxRouteRefIdeal.nD Cert.CtxRouteRefIdeal.τ).loc Cert.CtxRouteRefIdeal.main_arg0)
          ∧ r.2.mem ((c.tc : Thread Cert.CtxRouteRefIdeal.nD Cert.CtxRouteRefIdeal.τ).loc Cert.CtxRouteRefIdeal.main_arg1) = m' ((c.tc : Thread Cert.CtxRouteRefIdeal.nD Cert.CtxRouteRefIdeal.τ).loc Cert.CtxRouteRefIdeal.main_arg1)
          ∧ r.2.mem ((c.tc : Thread Cert.CtxRouteRefIdeal.nD Cert.CtxRouteRefIdeal.τ).loc Cert.CtxRouteRefIdeal.main_arg2) = m' ((c.tc : Thread Cert.CtxRouteRefIdeal.nD Cert.CtxRouteRefIdeal.τ).loc Cert.CtxRouteRefIdeal.main_arg2)
          ∧ r.2.mem ((c.tc : Thread Cert.CtxRouteRefIdeal.nD Cert.CtxRouteRefIdeal.τ).loc Cert.CtxRouteRefIdeal.main_arg3) = m' ((c.tc : Thread Cert.CtxRouteRefIdeal.nD Cert.CtxRouteRefIdeal.τ).loc Cert.CtxRouteRefIdeal.main_arg3))

def preserves_CtxDense_CtxDenseIdeal : Prop :=
  IdealRules.named_const.Statement Cert.CtxDenseIdeal.κ "alpha" .f32 0x3FD744FD#32 ((Real.sqrt (Real.sqrt 8) : ℝ) : EReal)

def algebraic_CtxDenseIdeal_CtxDenseRefIdeal [hCtxDenseIdeal : Cert.CtxDenseIdeal.Facts] [hCtxDenseRefIdeal : Cert.CtxDenseRefIdeal.Facts] : Prop :=
  ∀ (m : (ℓ : Loc Cert.CtxDenseIdeal.nD Cert.CtxDenseIdeal.τ Cert.CtxDenseIdeal.sig) → Buf (Elt Ideal) ℓ) (g : Dev Cert.CtxDenseIdeal.nD → PrngReg)
    (m' : (ℓ : Loc Cert.CtxDenseRefIdeal.nD Cert.CtxDenseRefIdeal.τ Cert.CtxDenseRefIdeal.sig) → Buf (Elt Ideal) ℓ) (g' : Dev Cert.CtxDenseRefIdeal.nD → PrngReg), Pre_CtxDenseIdeal m →
    (∀ c : Dev Cert.CtxDenseIdeal.nD,
      m' ((c.tc : Thread Cert.CtxDenseRefIdeal.nD Cert.CtxDenseRefIdeal.τ).loc Cert.CtxDenseRefIdeal.main_arg0) = m ((c.tc : Thread Cert.CtxDenseIdeal.nD Cert.CtxDenseIdeal.τ).loc Cert.CtxDenseIdeal.main_arg0)
      ∧ m' ((c.tc : Thread Cert.CtxDenseRefIdeal.nD Cert.CtxDenseRefIdeal.τ).loc Cert.CtxDenseRefIdeal.main_arg1) = m ((c.tc : Thread Cert.CtxDenseIdeal.nD Cert.CtxDenseIdeal.τ).loc Cert.CtxDenseIdeal.main_arg1)
      ∧ m' ((c.tc : Thread Cert.CtxDenseRefIdeal.nD Cert.CtxDenseRefIdeal.τ).loc Cert.CtxDenseRefIdeal.main_arg2) = m ((c.tc : Thread Cert.CtxDenseIdeal.nD Cert.CtxDenseIdeal.τ).loc Cert.CtxDenseIdeal.main_arg2)
      ∧ m' ((c.tc : Thread Cert.CtxDenseRefIdeal.nD Cert.CtxDenseRefIdeal.τ).loc Cert.CtxDenseRefIdeal.main_arg3) = m ((c.tc : Thread Cert.CtxDenseIdeal.nD Cert.CtxDenseIdeal.τ).loc Cert.CtxDenseIdeal.main_arg3)
      ∧ m' ((c.tc : Thread Cert.CtxDenseRefIdeal.nD Cert.CtxDenseRefIdeal.τ).loc Cert.CtxDenseRefIdeal.main_arg4) = m ((c.tc : Thread Cert.CtxDenseIdeal.nD Cert.CtxDenseIdeal.τ).loc Cert.CtxDenseIdeal.main_arg4)
      ∧ m' ((c.tc : Thread Cert.CtxDenseRefIdeal.nD Cert.CtxDenseRefIdeal.τ).loc Cert.CtxDenseRefIdeal.main_arg5) = m ((c.tc : Thread Cert.CtxDenseIdeal.nD Cert.CtxDenseIdeal.τ).loc Cert.CtxDenseIdeal.main_arg5)
      ∧ m' ((c.tc : Thread Cert.CtxDenseRefIdeal.nD Cert.CtxDenseRefIdeal.τ).loc Cert.CtxDenseRefIdeal.main_arg6) = m ((c.tc : Thread Cert.CtxDenseIdeal.nD Cert.CtxDenseIdeal.τ).loc Cert.CtxDenseIdeal.main_arg6)
      ∧ m' ((c.tc : Thread Cert.CtxDenseRefIdeal.nD Cert.CtxDenseRefIdeal.τ).loc Cert.CtxDenseRefIdeal.main_arg7) = m ((c.tc : Thread Cert.CtxDenseIdeal.nD Cert.CtxDenseIdeal.τ).loc Cert.CtxDenseIdeal.main_arg7)) →
    ∃ (v0 : (c : Dev Cert.CtxDenseIdeal.nD) → Buf (Elt Ideal) ((c.tc : Thread Cert.CtxDenseIdeal.nD Cert.CtxDenseIdeal.τ).loc Cert.CtxDenseIdeal.main_v7)),
      θ_run (Cert.CtxDenseIdeal.defs (F := Ideal)) (onTc (τ := Cert.CtxDenseIdeal.τ) (Cert.CtxDenseIdeal.main (F := Ideal))) ⟨m, fun _ => 0, g⟩ (fun r => ∀ c : Dev Cert.CtxDenseIdeal.nD,
          r.2.mem ((c.tc : Thread Cert.CtxDenseIdeal.nD Cert.CtxDenseIdeal.τ).loc Cert.CtxDenseIdeal.main_v7) = v0 c
          ∧ r.2.mem ((c.tc : Thread Cert.CtxDenseIdeal.nD Cert.CtxDenseIdeal.τ).loc Cert.CtxDenseIdeal.main_arg0) = m ((c.tc : Thread Cert.CtxDenseIdeal.nD Cert.CtxDenseIdeal.τ).loc Cert.CtxDenseIdeal.main_arg0)
          ∧ r.2.mem ((c.tc : Thread Cert.CtxDenseIdeal.nD Cert.CtxDenseIdeal.τ).loc Cert.CtxDenseIdeal.main_arg1) = m ((c.tc : Thread Cert.CtxDenseIdeal.nD Cert.CtxDenseIdeal.τ).loc Cert.CtxDenseIdeal.main_arg1)
          ∧ r.2.mem ((c.tc : Thread Cert.CtxDenseIdeal.nD Cert.CtxDenseIdeal.τ).loc Cert.CtxDenseIdeal.main_arg2) = m ((c.tc : Thread Cert.CtxDenseIdeal.nD Cert.CtxDenseIdeal.τ).loc Cert.CtxDenseIdeal.main_arg2)
          ∧ r.2.mem ((c.tc : Thread Cert.CtxDenseIdeal.nD Cert.CtxDenseIdeal.τ).loc Cert.CtxDenseIdeal.main_arg3) = m ((c.tc : Thread Cert.CtxDenseIdeal.nD Cert.CtxDenseIdeal.τ).loc Cert.CtxDenseIdeal.main_arg3)
          ∧ r.2.mem ((c.tc : Thread Cert.CtxDenseIdeal.nD Cert.CtxDenseIdeal.τ).loc Cert.CtxDenseIdeal.main_arg4) = m ((c.tc : Thread Cert.CtxDenseIdeal.nD Cert.CtxDenseIdeal.τ).loc Cert.CtxDenseIdeal.main_arg4)
          ∧ r.2.mem ((c.tc : Thread Cert.CtxDenseIdeal.nD Cert.CtxDenseIdeal.τ).loc Cert.CtxDenseIdeal.main_arg5) = m ((c.tc : Thread Cert.CtxDenseIdeal.nD Cert.CtxDenseIdeal.τ).loc Cert.CtxDenseIdeal.main_arg5)
          ∧ r.2.mem ((c.tc : Thread Cert.CtxDenseIdeal.nD Cert.CtxDenseIdeal.τ).loc Cert.CtxDenseIdeal.main_arg6) = m ((c.tc : Thread Cert.CtxDenseIdeal.nD Cert.CtxDenseIdeal.τ).loc Cert.CtxDenseIdeal.main_arg6)
          ∧ r.2.mem ((c.tc : Thread Cert.CtxDenseIdeal.nD Cert.CtxDenseIdeal.τ).loc Cert.CtxDenseIdeal.main_arg7) = m ((c.tc : Thread Cert.CtxDenseIdeal.nD Cert.CtxDenseIdeal.τ).loc Cert.CtxDenseIdeal.main_arg7))
      ∧ θ_run (Cert.CtxDenseRefIdeal.defs (F := Ideal)) (onTc (τ := Cert.CtxDenseRefIdeal.τ) (Cert.CtxDenseRefIdeal.main (F := Ideal))) ⟨m', fun _ => 0, g'⟩ (fun r => ∀ c : Dev Cert.CtxDenseRefIdeal.nD,
          r.2.mem ((c.tc : Thread Cert.CtxDenseRefIdeal.nD Cert.CtxDenseRefIdeal.τ).loc Cert.CtxDenseRefIdeal.main_v42) = v0 c
          ∧ r.2.mem ((c.tc : Thread Cert.CtxDenseRefIdeal.nD Cert.CtxDenseRefIdeal.τ).loc Cert.CtxDenseRefIdeal.main_arg0) = m' ((c.tc : Thread Cert.CtxDenseRefIdeal.nD Cert.CtxDenseRefIdeal.τ).loc Cert.CtxDenseRefIdeal.main_arg0)
          ∧ r.2.mem ((c.tc : Thread Cert.CtxDenseRefIdeal.nD Cert.CtxDenseRefIdeal.τ).loc Cert.CtxDenseRefIdeal.main_arg1) = m' ((c.tc : Thread Cert.CtxDenseRefIdeal.nD Cert.CtxDenseRefIdeal.τ).loc Cert.CtxDenseRefIdeal.main_arg1)
          ∧ r.2.mem ((c.tc : Thread Cert.CtxDenseRefIdeal.nD Cert.CtxDenseRefIdeal.τ).loc Cert.CtxDenseRefIdeal.main_arg2) = m' ((c.tc : Thread Cert.CtxDenseRefIdeal.nD Cert.CtxDenseRefIdeal.τ).loc Cert.CtxDenseRefIdeal.main_arg2)
          ∧ r.2.mem ((c.tc : Thread Cert.CtxDenseRefIdeal.nD Cert.CtxDenseRefIdeal.τ).loc Cert.CtxDenseRefIdeal.main_arg3) = m' ((c.tc : Thread Cert.CtxDenseRefIdeal.nD Cert.CtxDenseRefIdeal.τ).loc Cert.CtxDenseRefIdeal.main_arg3)
          ∧ r.2.mem ((c.tc : Thread Cert.CtxDenseRefIdeal.nD Cert.CtxDenseRefIdeal.τ).loc Cert.CtxDenseRefIdeal.main_arg4) = m' ((c.tc : Thread Cert.CtxDenseRefIdeal.nD Cert.CtxDenseRefIdeal.τ).loc Cert.CtxDenseRefIdeal.main_arg4)
          ∧ r.2.mem ((c.tc : Thread Cert.CtxDenseRefIdeal.nD Cert.CtxDenseRefIdeal.τ).loc Cert.CtxDenseRefIdeal.main_arg5) = m' ((c.tc : Thread Cert.CtxDenseRefIdeal.nD Cert.CtxDenseRefIdeal.τ).loc Cert.CtxDenseRefIdeal.main_arg5)
          ∧ r.2.mem ((c.tc : Thread Cert.CtxDenseRefIdeal.nD Cert.CtxDenseRefIdeal.τ).loc Cert.CtxDenseRefIdeal.main_arg6) = m' ((c.tc : Thread Cert.CtxDenseRefIdeal.nD Cert.CtxDenseRefIdeal.τ).loc Cert.CtxDenseRefIdeal.main_arg6)
          ∧ r.2.mem ((c.tc : Thread Cert.CtxDenseRefIdeal.nD Cert.CtxDenseRefIdeal.τ).loc Cert.CtxDenseRefIdeal.main_arg7) = m' ((c.tc : Thread Cert.CtxDenseRefIdeal.nD Cert.CtxDenseRefIdeal.τ).loc Cert.CtxDenseRefIdeal.main_arg7))

def preserves_CtxOut_CtxOutIdeal : Prop :=
  IdealRules.named_const.Statement Cert.CtxOutIdeal.κ "alpha" .f32 0x3FD744FD#32 ((Real.sqrt (Real.sqrt 8) : ℝ) : EReal)

def algebraic_CtxOutIdeal_CtxOutRefIdeal [hCtxOutIdeal : Cert.CtxOutIdeal.Facts] [hCtxOutRefIdeal : Cert.CtxOutRefIdeal.Facts] : Prop :=
  ∀ (m : (ℓ : Loc Cert.CtxOutIdeal.nD Cert.CtxOutIdeal.τ Cert.CtxOutIdeal.sig) → Buf (Elt Ideal) ℓ) (g : Dev Cert.CtxOutIdeal.nD → PrngReg)
    (m' : (ℓ : Loc Cert.CtxOutRefIdeal.nD Cert.CtxOutRefIdeal.τ Cert.CtxOutRefIdeal.sig) → Buf (Elt Ideal) ℓ) (g' : Dev Cert.CtxOutRefIdeal.nD → PrngReg), Pre_CtxOutIdeal m →
    (∀ c : Dev Cert.CtxOutIdeal.nD,
      m' ((c.tc : Thread Cert.CtxOutRefIdeal.nD Cert.CtxOutRefIdeal.τ).loc Cert.CtxOutRefIdeal.main_arg0) = m ((c.tc : Thread Cert.CtxOutIdeal.nD Cert.CtxOutIdeal.τ).loc Cert.CtxOutIdeal.main_arg0)
      ∧ m' ((c.tc : Thread Cert.CtxOutRefIdeal.nD Cert.CtxOutRefIdeal.τ).loc Cert.CtxOutRefIdeal.main_arg1) = m ((c.tc : Thread Cert.CtxOutIdeal.nD Cert.CtxOutIdeal.τ).loc Cert.CtxOutIdeal.main_arg1)
      ∧ m' ((c.tc : Thread Cert.CtxOutRefIdeal.nD Cert.CtxOutRefIdeal.τ).loc Cert.CtxOutRefIdeal.main_arg2) = m ((c.tc : Thread Cert.CtxOutIdeal.nD Cert.CtxOutIdeal.τ).loc Cert.CtxOutIdeal.main_arg2)
      ∧ m' ((c.tc : Thread Cert.CtxOutRefIdeal.nD Cert.CtxOutRefIdeal.τ).loc Cert.CtxOutRefIdeal.main_arg3) = m ((c.tc : Thread Cert.CtxOutIdeal.nD Cert.CtxOutIdeal.τ).loc Cert.CtxOutIdeal.main_arg3)
      ∧ m' ((c.tc : Thread Cert.CtxOutRefIdeal.nD Cert.CtxOutRefIdeal.τ).loc Cert.CtxOutRefIdeal.main_arg4) = m ((c.tc : Thread Cert.CtxOutIdeal.nD Cert.CtxOutIdeal.τ).loc Cert.CtxOutIdeal.main_arg4)
      ∧ m' ((c.tc : Thread Cert.CtxOutRefIdeal.nD Cert.CtxOutRefIdeal.τ).loc Cert.CtxOutRefIdeal.main_arg5) = m ((c.tc : Thread Cert.CtxOutIdeal.nD Cert.CtxOutIdeal.τ).loc Cert.CtxOutIdeal.main_arg5)) →
    ∃ (v0 : (c : Dev Cert.CtxOutIdeal.nD) → Buf (Elt Ideal) ((c.tc : Thread Cert.CtxOutIdeal.nD Cert.CtxOutIdeal.τ).loc Cert.CtxOutIdeal.main_v4)),
      θ_run (Cert.CtxOutIdeal.defs (F := Ideal)) (onTc (τ := Cert.CtxOutIdeal.τ) (Cert.CtxOutIdeal.main (F := Ideal))) ⟨m, fun _ => 0, g⟩ (fun r => ∀ c : Dev Cert.CtxOutIdeal.nD,
          r.2.mem ((c.tc : Thread Cert.CtxOutIdeal.nD Cert.CtxOutIdeal.τ).loc Cert.CtxOutIdeal.main_v4) = v0 c
          ∧ r.2.mem ((c.tc : Thread Cert.CtxOutIdeal.nD Cert.CtxOutIdeal.τ).loc Cert.CtxOutIdeal.main_arg0) = m ((c.tc : Thread Cert.CtxOutIdeal.nD Cert.CtxOutIdeal.τ).loc Cert.CtxOutIdeal.main_arg0)
          ∧ r.2.mem ((c.tc : Thread Cert.CtxOutIdeal.nD Cert.CtxOutIdeal.τ).loc Cert.CtxOutIdeal.main_arg1) = m ((c.tc : Thread Cert.CtxOutIdeal.nD Cert.CtxOutIdeal.τ).loc Cert.CtxOutIdeal.main_arg1)
          ∧ r.2.mem ((c.tc : Thread Cert.CtxOutIdeal.nD Cert.CtxOutIdeal.τ).loc Cert.CtxOutIdeal.main_arg2) = m ((c.tc : Thread Cert.CtxOutIdeal.nD Cert.CtxOutIdeal.τ).loc Cert.CtxOutIdeal.main_arg2)
          ∧ r.2.mem ((c.tc : Thread Cert.CtxOutIdeal.nD Cert.CtxOutIdeal.τ).loc Cert.CtxOutIdeal.main_arg3) = m ((c.tc : Thread Cert.CtxOutIdeal.nD Cert.CtxOutIdeal.τ).loc Cert.CtxOutIdeal.main_arg3)
          ∧ r.2.mem ((c.tc : Thread Cert.CtxOutIdeal.nD Cert.CtxOutIdeal.τ).loc Cert.CtxOutIdeal.main_arg4) = m ((c.tc : Thread Cert.CtxOutIdeal.nD Cert.CtxOutIdeal.τ).loc Cert.CtxOutIdeal.main_arg4)
          ∧ r.2.mem ((c.tc : Thread Cert.CtxOutIdeal.nD Cert.CtxOutIdeal.τ).loc Cert.CtxOutIdeal.main_arg5) = m ((c.tc : Thread Cert.CtxOutIdeal.nD Cert.CtxOutIdeal.τ).loc Cert.CtxOutIdeal.main_arg5))
      ∧ θ_run (Cert.CtxOutRefIdeal.defs (F := Ideal)) (onTc (τ := Cert.CtxOutRefIdeal.τ) (Cert.CtxOutRefIdeal.main (F := Ideal))) ⟨m', fun _ => 0, g'⟩ (fun r => ∀ c : Dev Cert.CtxOutRefIdeal.nD,
          r.2.mem ((c.tc : Thread Cert.CtxOutRefIdeal.nD Cert.CtxOutRefIdeal.τ).loc Cert.CtxOutRefIdeal.main_v32) = v0 c
          ∧ r.2.mem ((c.tc : Thread Cert.CtxOutRefIdeal.nD Cert.CtxOutRefIdeal.τ).loc Cert.CtxOutRefIdeal.main_arg0) = m' ((c.tc : Thread Cert.CtxOutRefIdeal.nD Cert.CtxOutRefIdeal.τ).loc Cert.CtxOutRefIdeal.main_arg0)
          ∧ r.2.mem ((c.tc : Thread Cert.CtxOutRefIdeal.nD Cert.CtxOutRefIdeal.τ).loc Cert.CtxOutRefIdeal.main_arg1) = m' ((c.tc : Thread Cert.CtxOutRefIdeal.nD Cert.CtxOutRefIdeal.τ).loc Cert.CtxOutRefIdeal.main_arg1)
          ∧ r.2.mem ((c.tc : Thread Cert.CtxOutRefIdeal.nD Cert.CtxOutRefIdeal.τ).loc Cert.CtxOutRefIdeal.main_arg2) = m' ((c.tc : Thread Cert.CtxOutRefIdeal.nD Cert.CtxOutRefIdeal.τ).loc Cert.CtxOutRefIdeal.main_arg2)
          ∧ r.2.mem ((c.tc : Thread Cert.CtxOutRefIdeal.nD Cert.CtxOutRefIdeal.τ).loc Cert.CtxOutRefIdeal.main_arg3) = m' ((c.tc : Thread Cert.CtxOutRefIdeal.nD Cert.CtxOutRefIdeal.τ).loc Cert.CtxOutRefIdeal.main_arg3)
          ∧ r.2.mem ((c.tc : Thread Cert.CtxOutRefIdeal.nD Cert.CtxOutRefIdeal.τ).loc Cert.CtxOutRefIdeal.main_arg4) = m' ((c.tc : Thread Cert.CtxOutRefIdeal.nD Cert.CtxOutRefIdeal.τ).loc Cert.CtxOutRefIdeal.main_arg4)
          ∧ r.2.mem ((c.tc : Thread Cert.CtxOutRefIdeal.nD Cert.CtxOutRefIdeal.τ).loc Cert.CtxOutRefIdeal.main_arg5) = m' ((c.tc : Thread Cert.CtxOutRefIdeal.nD Cert.CtxOutRefIdeal.τ).loc Cert.CtxOutRefIdeal.main_arg5))

def preserves_CtxGlaIn_CtxGlaInIdeal : Prop :=
  True

def algebraic_CtxGlaInIdeal_CtxGlaInRefIdeal [hCtxGlaInIdeal : Cert.CtxGlaInIdeal.Facts] [hCtxGlaInRefIdeal : Cert.CtxGlaInRefIdeal.Facts] : Prop :=
  ∀ (m : (ℓ : Loc Cert.CtxGlaInIdeal.nD Cert.CtxGlaInIdeal.τ Cert.CtxGlaInIdeal.sig) → Buf (Elt Ideal) ℓ) (g : Dev Cert.CtxGlaInIdeal.nD → PrngReg)
    (m' : (ℓ : Loc Cert.CtxGlaInRefIdeal.nD Cert.CtxGlaInRefIdeal.τ Cert.CtxGlaInRefIdeal.sig) → Buf (Elt Ideal) ℓ) (g' : Dev Cert.CtxGlaInRefIdeal.nD → PrngReg), Pre_CtxGlaInIdeal m →
    (∀ c : Dev Cert.CtxGlaInIdeal.nD,
      m' ((c.tc : Thread Cert.CtxGlaInRefIdeal.nD Cert.CtxGlaInRefIdeal.τ).loc Cert.CtxGlaInRefIdeal.main_arg0) = m ((c.tc : Thread Cert.CtxGlaInIdeal.nD Cert.CtxGlaInIdeal.τ).loc Cert.CtxGlaInIdeal.main_arg0)
      ∧ m' ((c.tc : Thread Cert.CtxGlaInRefIdeal.nD Cert.CtxGlaInRefIdeal.τ).loc Cert.CtxGlaInRefIdeal.main_arg1) = m ((c.tc : Thread Cert.CtxGlaInIdeal.nD Cert.CtxGlaInIdeal.τ).loc Cert.CtxGlaInIdeal.main_arg1)
      ∧ m' ((c.tc : Thread Cert.CtxGlaInRefIdeal.nD Cert.CtxGlaInRefIdeal.τ).loc Cert.CtxGlaInRefIdeal.main_arg2) = m ((c.tc : Thread Cert.CtxGlaInIdeal.nD Cert.CtxGlaInIdeal.τ).loc Cert.CtxGlaInIdeal.main_arg2)
      ∧ m' ((c.tc : Thread Cert.CtxGlaInRefIdeal.nD Cert.CtxGlaInRefIdeal.τ).loc Cert.CtxGlaInRefIdeal.main_arg3) = m ((c.tc : Thread Cert.CtxGlaInIdeal.nD Cert.CtxGlaInIdeal.τ).loc Cert.CtxGlaInIdeal.main_arg3)
      ∧ m' ((c.tc : Thread Cert.CtxGlaInRefIdeal.nD Cert.CtxGlaInRefIdeal.τ).loc Cert.CtxGlaInRefIdeal.main_arg4) = m ((c.tc : Thread Cert.CtxGlaInIdeal.nD Cert.CtxGlaInIdeal.τ).loc Cert.CtxGlaInIdeal.main_arg4)) →
    ∃ (v0 : (c : Dev Cert.CtxGlaInIdeal.nD) → Buf (Elt Ideal) ((c.tc : Thread Cert.CtxGlaInIdeal.nD Cert.CtxGlaInIdeal.τ).loc Cert.CtxGlaInIdeal.main_v9)),
      θ_run (Cert.CtxGlaInIdeal.defs (F := Ideal)) (onTc (τ := Cert.CtxGlaInIdeal.τ) (Cert.CtxGlaInIdeal.main (F := Ideal))) ⟨m, fun _ => 0, g⟩ (fun r => ∀ c : Dev Cert.CtxGlaInIdeal.nD,
          r.2.mem ((c.tc : Thread Cert.CtxGlaInIdeal.nD Cert.CtxGlaInIdeal.τ).loc Cert.CtxGlaInIdeal.main_v9) = v0 c
          ∧ r.2.mem ((c.tc : Thread Cert.CtxGlaInIdeal.nD Cert.CtxGlaInIdeal.τ).loc Cert.CtxGlaInIdeal.main_arg0) = m ((c.tc : Thread Cert.CtxGlaInIdeal.nD Cert.CtxGlaInIdeal.τ).loc Cert.CtxGlaInIdeal.main_arg0)
          ∧ r.2.mem ((c.tc : Thread Cert.CtxGlaInIdeal.nD Cert.CtxGlaInIdeal.τ).loc Cert.CtxGlaInIdeal.main_arg1) = m ((c.tc : Thread Cert.CtxGlaInIdeal.nD Cert.CtxGlaInIdeal.τ).loc Cert.CtxGlaInIdeal.main_arg1)
          ∧ r.2.mem ((c.tc : Thread Cert.CtxGlaInIdeal.nD Cert.CtxGlaInIdeal.τ).loc Cert.CtxGlaInIdeal.main_arg2) = m ((c.tc : Thread Cert.CtxGlaInIdeal.nD Cert.CtxGlaInIdeal.τ).loc Cert.CtxGlaInIdeal.main_arg2)
          ∧ r.2.mem ((c.tc : Thread Cert.CtxGlaInIdeal.nD Cert.CtxGlaInIdeal.τ).loc Cert.CtxGlaInIdeal.main_arg3) = m ((c.tc : Thread Cert.CtxGlaInIdeal.nD Cert.CtxGlaInIdeal.τ).loc Cert.CtxGlaInIdeal.main_arg3)
          ∧ r.2.mem ((c.tc : Thread Cert.CtxGlaInIdeal.nD Cert.CtxGlaInIdeal.τ).loc Cert.CtxGlaInIdeal.main_arg4) = m ((c.tc : Thread Cert.CtxGlaInIdeal.nD Cert.CtxGlaInIdeal.τ).loc Cert.CtxGlaInIdeal.main_arg4))
      ∧ θ_run (Cert.CtxGlaInRefIdeal.defs (F := Ideal)) (onTc (τ := Cert.CtxGlaInRefIdeal.τ) (Cert.CtxGlaInRefIdeal.main (F := Ideal))) ⟨m', fun _ => 0, g'⟩ (fun r => ∀ c : Dev Cert.CtxGlaInRefIdeal.nD,
          r.2.mem ((c.tc : Thread Cert.CtxGlaInRefIdeal.nD Cert.CtxGlaInRefIdeal.τ).loc Cert.CtxGlaInRefIdeal.main_v15) = v0 c
          ∧ r.2.mem ((c.tc : Thread Cert.CtxGlaInRefIdeal.nD Cert.CtxGlaInRefIdeal.τ).loc Cert.CtxGlaInRefIdeal.main_arg0) = m' ((c.tc : Thread Cert.CtxGlaInRefIdeal.nD Cert.CtxGlaInRefIdeal.τ).loc Cert.CtxGlaInRefIdeal.main_arg0)
          ∧ r.2.mem ((c.tc : Thread Cert.CtxGlaInRefIdeal.nD Cert.CtxGlaInRefIdeal.τ).loc Cert.CtxGlaInRefIdeal.main_arg1) = m' ((c.tc : Thread Cert.CtxGlaInRefIdeal.nD Cert.CtxGlaInRefIdeal.τ).loc Cert.CtxGlaInRefIdeal.main_arg1)
          ∧ r.2.mem ((c.tc : Thread Cert.CtxGlaInRefIdeal.nD Cert.CtxGlaInRefIdeal.τ).loc Cert.CtxGlaInRefIdeal.main_arg2) = m' ((c.tc : Thread Cert.CtxGlaInRefIdeal.nD Cert.CtxGlaInRefIdeal.τ).loc Cert.CtxGlaInRefIdeal.main_arg2)
          ∧ r.2.mem ((c.tc : Thread Cert.CtxGlaInRefIdeal.nD Cert.CtxGlaInRefIdeal.τ).loc Cert.CtxGlaInRefIdeal.main_arg3) = m' ((c.tc : Thread Cert.CtxGlaInRefIdeal.nD Cert.CtxGlaInRefIdeal.τ).loc Cert.CtxGlaInRefIdeal.main_arg3)
          ∧ r.2.mem ((c.tc : Thread Cert.CtxGlaInRefIdeal.nD Cert.CtxGlaInRefIdeal.τ).loc Cert.CtxGlaInRefIdeal.main_arg4) = m' ((c.tc : Thread Cert.CtxGlaInRefIdeal.nD Cert.CtxGlaInRefIdeal.τ).loc Cert.CtxGlaInRefIdeal.main_arg4))

def preserves_CtxDeltaIn_CtxDeltaInIdeal : Prop :=
  True

def algebraic_CtxDeltaInIdeal_CtxDeltaInRefIdeal [hCtxDeltaInIdeal : Cert.CtxDeltaInIdeal.Facts] [hCtxDeltaInRefIdeal : Cert.CtxDeltaInRefIdeal.Facts] : Prop :=
  ∀ (m : (ℓ : Loc Cert.CtxDeltaInIdeal.nD Cert.CtxDeltaInIdeal.τ Cert.CtxDeltaInIdeal.sig) → Buf (Elt Ideal) ℓ) (g : Dev Cert.CtxDeltaInIdeal.nD → PrngReg)
    (m' : (ℓ : Loc Cert.CtxDeltaInRefIdeal.nD Cert.CtxDeltaInRefIdeal.τ Cert.CtxDeltaInRefIdeal.sig) → Buf (Elt Ideal) ℓ) (g' : Dev Cert.CtxDeltaInRefIdeal.nD → PrngReg), Pre_CtxDeltaInIdeal m →
    (∀ c : Dev Cert.CtxDeltaInIdeal.nD,
      m' ((c.tc : Thread Cert.CtxDeltaInRefIdeal.nD Cert.CtxDeltaInRefIdeal.τ).loc Cert.CtxDeltaInRefIdeal.main_arg0) = m ((c.tc : Thread Cert.CtxDeltaInIdeal.nD Cert.CtxDeltaInIdeal.τ).loc Cert.CtxDeltaInIdeal.main_arg0)
      ∧ m' ((c.tc : Thread Cert.CtxDeltaInRefIdeal.nD Cert.CtxDeltaInRefIdeal.τ).loc Cert.CtxDeltaInRefIdeal.main_arg1) = m ((c.tc : Thread Cert.CtxDeltaInIdeal.nD Cert.CtxDeltaInIdeal.τ).loc Cert.CtxDeltaInIdeal.main_arg1)
      ∧ m' ((c.tc : Thread Cert.CtxDeltaInRefIdeal.nD Cert.CtxDeltaInRefIdeal.τ).loc Cert.CtxDeltaInRefIdeal.main_arg2) = m ((c.tc : Thread Cert.CtxDeltaInIdeal.nD Cert.CtxDeltaInIdeal.τ).loc Cert.CtxDeltaInIdeal.main_arg2)
      ∧ m' ((c.tc : Thread Cert.CtxDeltaInRefIdeal.nD Cert.CtxDeltaInRefIdeal.τ).loc Cert.CtxDeltaInRefIdeal.main_arg3) = m ((c.tc : Thread Cert.CtxDeltaInIdeal.nD Cert.CtxDeltaInIdeal.τ).loc Cert.CtxDeltaInIdeal.main_arg3)) →
    ∃ (v0 : (c : Dev Cert.CtxDeltaInIdeal.nD) → Buf (Elt Ideal) ((c.tc : Thread Cert.CtxDeltaInIdeal.nD Cert.CtxDeltaInIdeal.τ).loc Cert.CtxDeltaInIdeal.main_v4)),
      θ_run (Cert.CtxDeltaInIdeal.defs (F := Ideal)) (onTc (τ := Cert.CtxDeltaInIdeal.τ) (Cert.CtxDeltaInIdeal.main (F := Ideal))) ⟨m, fun _ => 0, g⟩ (fun r => ∀ c : Dev Cert.CtxDeltaInIdeal.nD,
          r.2.mem ((c.tc : Thread Cert.CtxDeltaInIdeal.nD Cert.CtxDeltaInIdeal.τ).loc Cert.CtxDeltaInIdeal.main_v4) = v0 c
          ∧ r.2.mem ((c.tc : Thread Cert.CtxDeltaInIdeal.nD Cert.CtxDeltaInIdeal.τ).loc Cert.CtxDeltaInIdeal.main_arg0) = m ((c.tc : Thread Cert.CtxDeltaInIdeal.nD Cert.CtxDeltaInIdeal.τ).loc Cert.CtxDeltaInIdeal.main_arg0)
          ∧ r.2.mem ((c.tc : Thread Cert.CtxDeltaInIdeal.nD Cert.CtxDeltaInIdeal.τ).loc Cert.CtxDeltaInIdeal.main_arg1) = m ((c.tc : Thread Cert.CtxDeltaInIdeal.nD Cert.CtxDeltaInIdeal.τ).loc Cert.CtxDeltaInIdeal.main_arg1)
          ∧ r.2.mem ((c.tc : Thread Cert.CtxDeltaInIdeal.nD Cert.CtxDeltaInIdeal.τ).loc Cert.CtxDeltaInIdeal.main_arg2) = m ((c.tc : Thread Cert.CtxDeltaInIdeal.nD Cert.CtxDeltaInIdeal.τ).loc Cert.CtxDeltaInIdeal.main_arg2)
          ∧ r.2.mem ((c.tc : Thread Cert.CtxDeltaInIdeal.nD Cert.CtxDeltaInIdeal.τ).loc Cert.CtxDeltaInIdeal.main_arg3) = m ((c.tc : Thread Cert.CtxDeltaInIdeal.nD Cert.CtxDeltaInIdeal.τ).loc Cert.CtxDeltaInIdeal.main_arg3))
      ∧ θ_run (Cert.CtxDeltaInRefIdeal.defs (F := Ideal)) (onTc (τ := Cert.CtxDeltaInRefIdeal.τ) (Cert.CtxDeltaInRefIdeal.main (F := Ideal))) ⟨m', fun _ => 0, g'⟩ (fun r => ∀ c : Dev Cert.CtxDeltaInRefIdeal.nD,
          r.2.mem ((c.tc : Thread Cert.CtxDeltaInRefIdeal.nD Cert.CtxDeltaInRefIdeal.τ).loc Cert.CtxDeltaInRefIdeal.main_v7) = v0 c
          ∧ r.2.mem ((c.tc : Thread Cert.CtxDeltaInRefIdeal.nD Cert.CtxDeltaInRefIdeal.τ).loc Cert.CtxDeltaInRefIdeal.main_arg0) = m' ((c.tc : Thread Cert.CtxDeltaInRefIdeal.nD Cert.CtxDeltaInRefIdeal.τ).loc Cert.CtxDeltaInRefIdeal.main_arg0)
          ∧ r.2.mem ((c.tc : Thread Cert.CtxDeltaInRefIdeal.nD Cert.CtxDeltaInRefIdeal.τ).loc Cert.CtxDeltaInRefIdeal.main_arg1) = m' ((c.tc : Thread Cert.CtxDeltaInRefIdeal.nD Cert.CtxDeltaInRefIdeal.τ).loc Cert.CtxDeltaInRefIdeal.main_arg1)
          ∧ r.2.mem ((c.tc : Thread Cert.CtxDeltaInRefIdeal.nD Cert.CtxDeltaInRefIdeal.τ).loc Cert.CtxDeltaInRefIdeal.main_arg2) = m' ((c.tc : Thread Cert.CtxDeltaInRefIdeal.nD Cert.CtxDeltaInRefIdeal.τ).loc Cert.CtxDeltaInRefIdeal.main_arg2)
          ∧ r.2.mem ((c.tc : Thread Cert.CtxDeltaInRefIdeal.nD Cert.CtxDeltaInRefIdeal.τ).loc Cert.CtxDeltaInRefIdeal.main_arg3) = m' ((c.tc : Thread Cert.CtxDeltaInRefIdeal.nD Cert.CtxDeltaInRefIdeal.τ).loc Cert.CtxDeltaInRefIdeal.main_arg3))

def preserves_CtxHyenaIn_CtxHyenaInIdeal : Prop :=
  True

def algebraic_CtxHyenaInIdeal_CtxHyenaInRefIdeal [hCtxHyenaInIdeal : Cert.CtxHyenaInIdeal.Facts] [hCtxHyenaInRefIdeal : Cert.CtxHyenaInRefIdeal.Facts] : Prop :=
  ∀ (m : (ℓ : Loc Cert.CtxHyenaInIdeal.nD Cert.CtxHyenaInIdeal.τ Cert.CtxHyenaInIdeal.sig) → Buf (Elt Ideal) ℓ) (g : Dev Cert.CtxHyenaInIdeal.nD → PrngReg)
    (m' : (ℓ : Loc Cert.CtxHyenaInRefIdeal.nD Cert.CtxHyenaInRefIdeal.τ Cert.CtxHyenaInRefIdeal.sig) → Buf (Elt Ideal) ℓ) (g' : Dev Cert.CtxHyenaInRefIdeal.nD → PrngReg), Pre_CtxHyenaInIdeal m →
    (∀ c : Dev Cert.CtxHyenaInIdeal.nD,
      m' ((c.tc : Thread Cert.CtxHyenaInRefIdeal.nD Cert.CtxHyenaInRefIdeal.τ).loc Cert.CtxHyenaInRefIdeal.main_arg0) = m ((c.tc : Thread Cert.CtxHyenaInIdeal.nD Cert.CtxHyenaInIdeal.τ).loc Cert.CtxHyenaInIdeal.main_arg0)
      ∧ m' ((c.tc : Thread Cert.CtxHyenaInRefIdeal.nD Cert.CtxHyenaInRefIdeal.τ).loc Cert.CtxHyenaInRefIdeal.main_arg1) = m ((c.tc : Thread Cert.CtxHyenaInIdeal.nD Cert.CtxHyenaInIdeal.τ).loc Cert.CtxHyenaInIdeal.main_arg1)
      ∧ m' ((c.tc : Thread Cert.CtxHyenaInRefIdeal.nD Cert.CtxHyenaInRefIdeal.τ).loc Cert.CtxHyenaInRefIdeal.main_arg2) = m ((c.tc : Thread Cert.CtxHyenaInIdeal.nD Cert.CtxHyenaInIdeal.τ).loc Cert.CtxHyenaInIdeal.main_arg2)
      ∧ m' ((c.tc : Thread Cert.CtxHyenaInRefIdeal.nD Cert.CtxHyenaInRefIdeal.τ).loc Cert.CtxHyenaInRefIdeal.main_arg3) = m ((c.tc : Thread Cert.CtxHyenaInIdeal.nD Cert.CtxHyenaInIdeal.τ).loc Cert.CtxHyenaInIdeal.main_arg3)) →
    ∃ (v0 : (c : Dev Cert.CtxHyenaInIdeal.nD) → Buf (Elt Ideal) ((c.tc : Thread Cert.CtxHyenaInIdeal.nD Cert.CtxHyenaInIdeal.τ).loc Cert.CtxHyenaInIdeal.main_v3)),
      θ_run (Cert.CtxHyenaInIdeal.defs (F := Ideal)) (onTc (τ := Cert.CtxHyenaInIdeal.τ) (Cert.CtxHyenaInIdeal.main (F := Ideal))) ⟨m, fun _ => 0, g⟩ (fun r => ∀ c : Dev Cert.CtxHyenaInIdeal.nD,
          r.2.mem ((c.tc : Thread Cert.CtxHyenaInIdeal.nD Cert.CtxHyenaInIdeal.τ).loc Cert.CtxHyenaInIdeal.main_v3) = v0 c
          ∧ r.2.mem ((c.tc : Thread Cert.CtxHyenaInIdeal.nD Cert.CtxHyenaInIdeal.τ).loc Cert.CtxHyenaInIdeal.main_arg0) = m ((c.tc : Thread Cert.CtxHyenaInIdeal.nD Cert.CtxHyenaInIdeal.τ).loc Cert.CtxHyenaInIdeal.main_arg0)
          ∧ r.2.mem ((c.tc : Thread Cert.CtxHyenaInIdeal.nD Cert.CtxHyenaInIdeal.τ).loc Cert.CtxHyenaInIdeal.main_arg1) = m ((c.tc : Thread Cert.CtxHyenaInIdeal.nD Cert.CtxHyenaInIdeal.τ).loc Cert.CtxHyenaInIdeal.main_arg1)
          ∧ r.2.mem ((c.tc : Thread Cert.CtxHyenaInIdeal.nD Cert.CtxHyenaInIdeal.τ).loc Cert.CtxHyenaInIdeal.main_arg2) = m ((c.tc : Thread Cert.CtxHyenaInIdeal.nD Cert.CtxHyenaInIdeal.τ).loc Cert.CtxHyenaInIdeal.main_arg2)
          ∧ r.2.mem ((c.tc : Thread Cert.CtxHyenaInIdeal.nD Cert.CtxHyenaInIdeal.τ).loc Cert.CtxHyenaInIdeal.main_arg3) = m ((c.tc : Thread Cert.CtxHyenaInIdeal.nD Cert.CtxHyenaInIdeal.τ).loc Cert.CtxHyenaInIdeal.main_arg3))
      ∧ θ_run (Cert.CtxHyenaInRefIdeal.defs (F := Ideal)) (onTc (τ := Cert.CtxHyenaInRefIdeal.τ) (Cert.CtxHyenaInRefIdeal.main (F := Ideal))) ⟨m', fun _ => 0, g'⟩ (fun r => ∀ c : Dev Cert.CtxHyenaInRefIdeal.nD,
          r.2.mem ((c.tc : Thread Cert.CtxHyenaInRefIdeal.nD Cert.CtxHyenaInRefIdeal.τ).loc Cert.CtxHyenaInRefIdeal.main_v7) = v0 c
          ∧ r.2.mem ((c.tc : Thread Cert.CtxHyenaInRefIdeal.nD Cert.CtxHyenaInRefIdeal.τ).loc Cert.CtxHyenaInRefIdeal.main_arg0) = m' ((c.tc : Thread Cert.CtxHyenaInRefIdeal.nD Cert.CtxHyenaInRefIdeal.τ).loc Cert.CtxHyenaInRefIdeal.main_arg0)
          ∧ r.2.mem ((c.tc : Thread Cert.CtxHyenaInRefIdeal.nD Cert.CtxHyenaInRefIdeal.τ).loc Cert.CtxHyenaInRefIdeal.main_arg1) = m' ((c.tc : Thread Cert.CtxHyenaInRefIdeal.nD Cert.CtxHyenaInRefIdeal.τ).loc Cert.CtxHyenaInRefIdeal.main_arg1)
          ∧ r.2.mem ((c.tc : Thread Cert.CtxHyenaInRefIdeal.nD Cert.CtxHyenaInRefIdeal.τ).loc Cert.CtxHyenaInRefIdeal.main_arg2) = m' ((c.tc : Thread Cert.CtxHyenaInRefIdeal.nD Cert.CtxHyenaInRefIdeal.τ).loc Cert.CtxHyenaInRefIdeal.main_arg2)
          ∧ r.2.mem ((c.tc : Thread Cert.CtxHyenaInRefIdeal.nD Cert.CtxHyenaInRefIdeal.τ).loc Cert.CtxHyenaInRefIdeal.main_arg3) = m' ((c.tc : Thread Cert.CtxHyenaInRefIdeal.nD Cert.CtxHyenaInRefIdeal.τ).loc Cert.CtxHyenaInRefIdeal.main_arg3))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineRefIdeal : Cert.CombineRefIdeal.Facts) (hRoute : Cert.Route.Facts) (hRouteIdeal : Cert.RouteIdeal.Facts) (hRouteRefIdeal : Cert.RouteRefIdeal.Facts) (hDense : Cert.Dense.Facts) (hDenseIdeal : Cert.DenseIdeal.Facts) (hDenseRefIdeal : Cert.DenseRefIdeal.Facts) (hOut : Cert.Out.Facts) (hOutIdeal : Cert.OutIdeal.Facts) (hOutRefIdeal : Cert.OutRefIdeal.Facts) (hGlaIn : Cert.GlaIn.Facts) (hGlaInIdeal : Cert.GlaInIdeal.Facts) (hGlaInRefIdeal : Cert.GlaInRefIdeal.Facts) (hDeltaIn : Cert.DeltaIn.Facts) (hDeltaInIdeal : Cert.DeltaInIdeal.Facts) (hDeltaInRefIdeal : Cert.DeltaInRefIdeal.Facts) (hHyenaIn : Cert.HyenaIn.Facts) (hHyenaInIdeal : Cert.HyenaInIdeal.Facts) (hHyenaInRefIdeal : Cert.HyenaInRefIdeal.Facts) (hCtxKernel : Cert.CtxKernel.Facts) (hCtxKernelIdeal : Cert.CtxKernelIdeal.Facts) (hCtxReferenceIdeal : Cert.CtxReferenceIdeal.Facts) (hCtxCombine : Cert.CtxCombine.Facts) (hCtxCombineIdeal : Cert.CtxCombineIdeal.Facts) (hCtxCombineRefIdeal : Cert.CtxCombineRefIdeal.Facts) (hCtxRoute : Cert.CtxRoute.Facts) (hCtxRouteIdeal : Cert.CtxRouteIdeal.Facts) (hCtxRouteRefIdeal : Cert.CtxRouteRefIdeal.Facts) (hCtxDense : Cert.CtxDense.Facts) (hCtxDenseIdeal : Cert.CtxDenseIdeal.Facts) (hCtxDenseRefIdeal : Cert.CtxDenseRefIdeal.Facts) (hCtxOut : Cert.CtxOut.Facts) (hCtxOutIdeal : Cert.CtxOutIdeal.Facts) (hCtxOutRefIdeal : Cert.CtxOutRefIdeal.Facts) (hCtxGlaIn : Cert.CtxGlaIn.Facts) (hCtxGlaInIdeal : Cert.CtxGlaInIdeal.Facts) (hCtxGlaInRefIdeal : Cert.CtxGlaInRefIdeal.Facts) (hCtxDeltaIn : Cert.CtxDeltaIn.Facts) (hCtxDeltaInIdeal : Cert.CtxDeltaInIdeal.Facts) (hCtxDeltaInRefIdeal : Cert.CtxDeltaInRefIdeal.Facts) (hCtxHyenaIn : Cert.CtxHyenaIn.Facts) (hCtxHyenaInIdeal : Cert.CtxHyenaInIdeal.Facts) (hCtxHyenaInRefIdeal : Cert.CtxHyenaInRefIdeal.Facts),
    quiescent_Kernel (hKernel := hKernel)
    ∧ quiescent_KernelIdeal (hKernelIdeal := hKernelIdeal)
    ∧ quiescent_ReferenceIdeal (hReferenceIdeal := hReferenceIdeal)
    ∧ quiescent_Combine (hCombine := hCombine)
    ∧ quiescent_CombineIdeal (hCombineIdeal := hCombineIdeal)
    ∧ quiescent_CombineRefIdeal (hCombineRefIdeal := hCombineRefIdeal)
    ∧ quiescent_Route (hRoute := hRoute)
    ∧ quiescent_RouteIdeal (hRouteIdeal := hRouteIdeal)
    ∧ quiescent_RouteRefIdeal (hRouteRefIdeal := hRouteRefIdeal)
    ∧ quiescent_Dense (hDense := hDense)
    ∧ quiescent_DenseIdeal (hDenseIdeal := hDenseIdeal)
    ∧ quiescent_DenseRefIdeal (hDenseRefIdeal := hDenseRefIdeal)
    ∧ quiescent_Out (hOut := hOut)
    ∧ quiescent_OutIdeal (hOutIdeal := hOutIdeal)
    ∧ quiescent_OutRefIdeal (hOutRefIdeal := hOutRefIdeal)
    ∧ quiescent_GlaIn (hGlaIn := hGlaIn)
    ∧ quiescent_GlaInIdeal (hGlaInIdeal := hGlaInIdeal)
    ∧ quiescent_GlaInRefIdeal (hGlaInRefIdeal := hGlaInRefIdeal)
    ∧ quiescent_DeltaIn (hDeltaIn := hDeltaIn)
    ∧ quiescent_DeltaInIdeal (hDeltaInIdeal := hDeltaInIdeal)
    ∧ quiescent_DeltaInRefIdeal (hDeltaInRefIdeal := hDeltaInRefIdeal)
    ∧ quiescent_HyenaIn (hHyenaIn := hHyenaIn)
    ∧ quiescent_HyenaInIdeal (hHyenaInIdeal := hHyenaInIdeal)
    ∧ quiescent_HyenaInRefIdeal (hHyenaInRefIdeal := hHyenaInRefIdeal)
    ∧ quiescent_CtxKernel (hCtxKernel := hCtxKernel)
    ∧ quiescent_CtxKernelIdeal (hCtxKernelIdeal := hCtxKernelIdeal)
    ∧ quiescent_CtxReferenceIdeal (hCtxReferenceIdeal := hCtxReferenceIdeal)
    ∧ quiescent_CtxCombine (hCtxCombine := hCtxCombine)
    ∧ quiescent_CtxCombineIdeal (hCtxCombineIdeal := hCtxCombineIdeal)
    ∧ quiescent_CtxCombineRefIdeal (hCtxCombineRefIdeal := hCtxCombineRefIdeal)
    ∧ quiescent_CtxRoute (hCtxRoute := hCtxRoute)
    ∧ quiescent_CtxRouteIdeal (hCtxRouteIdeal := hCtxRouteIdeal)
    ∧ quiescent_CtxRouteRefIdeal (hCtxRouteRefIdeal := hCtxRouteRefIdeal)
    ∧ quiescent_CtxDense (hCtxDense := hCtxDense)
    ∧ quiescent_CtxDenseIdeal (hCtxDenseIdeal := hCtxDenseIdeal)
    ∧ quiescent_CtxDenseRefIdeal (hCtxDenseRefIdeal := hCtxDenseRefIdeal)
    ∧ quiescent_CtxOut (hCtxOut := hCtxOut)
    ∧ quiescent_CtxOutIdeal (hCtxOutIdeal := hCtxOutIdeal)
    ∧ quiescent_CtxOutRefIdeal (hCtxOutRefIdeal := hCtxOutRefIdeal)
    ∧ quiescent_CtxGlaIn (hCtxGlaIn := hCtxGlaIn)
    ∧ quiescent_CtxGlaInIdeal (hCtxGlaInIdeal := hCtxGlaInIdeal)
    ∧ quiescent_CtxGlaInRefIdeal (hCtxGlaInRefIdeal := hCtxGlaInRefIdeal)
    ∧ quiescent_CtxDeltaIn (hCtxDeltaIn := hCtxDeltaIn)
    ∧ quiescent_CtxDeltaInIdeal (hCtxDeltaInIdeal := hCtxDeltaInIdeal)
    ∧ quiescent_CtxDeltaInRefIdeal (hCtxDeltaInRefIdeal := hCtxDeltaInRefIdeal)
    ∧ quiescent_CtxHyenaIn (hCtxHyenaIn := hCtxHyenaIn)
    ∧ quiescent_CtxHyenaInIdeal (hCtxHyenaInIdeal := hCtxHyenaInIdeal)
    ∧ quiescent_CtxHyenaInRefIdeal (hCtxHyenaInRefIdeal := hCtxHyenaInRefIdeal)
    ∧ preserves_Kernel_KernelIdeal
    ∧ algebraic_KernelIdeal_ReferenceIdeal (hKernelIdeal := hKernelIdeal) (hReferenceIdeal := hReferenceIdeal)
    ∧ preserves_Combine_CombineIdeal
    ∧ algebraic_CombineIdeal_CombineRefIdeal (hCombineIdeal := hCombineIdeal) (hCombineRefIdeal := hCombineRefIdeal)
    ∧ preserves_Route_RouteIdeal
    ∧ algebraic_RouteIdeal_RouteRefIdeal (hRouteIdeal := hRouteIdeal) (hRouteRefIdeal := hRouteRefIdeal)
    ∧ preserves_Dense_DenseIdeal
    ∧ algebraic_DenseIdeal_DenseRefIdeal (hDenseIdeal := hDenseIdeal) (hDenseRefIdeal := hDenseRefIdeal)
    ∧ preserves_Out_OutIdeal
    ∧ algebraic_OutIdeal_OutRefIdeal (hOutIdeal := hOutIdeal) (hOutRefIdeal := hOutRefIdeal)
    ∧ preserves_GlaIn_GlaInIdeal
    ∧ algebraic_GlaInIdeal_GlaInRefIdeal (hGlaInIdeal := hGlaInIdeal) (hGlaInRefIdeal := hGlaInRefIdeal)
    ∧ preserves_DeltaIn_DeltaInIdeal
    ∧ algebraic_DeltaInIdeal_DeltaInRefIdeal (hDeltaInIdeal := hDeltaInIdeal) (hDeltaInRefIdeal := hDeltaInRefIdeal)
    ∧ preserves_HyenaIn_HyenaInIdeal
    ∧ algebraic_HyenaInIdeal_HyenaInRefIdeal (hHyenaInIdeal := hHyenaInIdeal) (hHyenaInRefIdeal := hHyenaInRefIdeal)
    ∧ preserves_CtxKernel_CtxKernelIdeal
    ∧ algebraic_CtxKernelIdeal_CtxReferenceIdeal (hCtxKernelIdeal := hCtxKernelIdeal) (hCtxReferenceIdeal := hCtxReferenceIdeal)
    ∧ preserves_CtxCombine_CtxCombineIdeal
    ∧ algebraic_CtxCombineIdeal_CtxCombineRefIdeal (hCtxCombineIdeal := hCtxCombineIdeal) (hCtxCombineRefIdeal := hCtxCombineRefIdeal)
    ∧ preserves_CtxRoute_CtxRouteIdeal
    ∧ algebraic_CtxRouteIdeal_CtxRouteRefIdeal (hCtxRouteIdeal := hCtxRouteIdeal) (hCtxRouteRefIdeal := hCtxRouteRefIdeal)
    ∧ preserves_CtxDense_CtxDenseIdeal
    ∧ algebraic_CtxDenseIdeal_CtxDenseRefIdeal (hCtxDenseIdeal := hCtxDenseIdeal) (hCtxDenseRefIdeal := hCtxDenseRefIdeal)
    ∧ preserves_CtxOut_CtxOutIdeal
    ∧ algebraic_CtxOutIdeal_CtxOutRefIdeal (hCtxOutIdeal := hCtxOutIdeal) (hCtxOutRefIdeal := hCtxOutRefIdeal)
    ∧ preserves_CtxGlaIn_CtxGlaInIdeal
    ∧ algebraic_CtxGlaInIdeal_CtxGlaInRefIdeal (hCtxGlaInIdeal := hCtxGlaInIdeal) (hCtxGlaInRefIdeal := hCtxGlaInRefIdeal)
    ∧ preserves_CtxDeltaIn_CtxDeltaInIdeal
    ∧ algebraic_CtxDeltaInIdeal_CtxDeltaInRefIdeal (hCtxDeltaInIdeal := hCtxDeltaInIdeal) (hCtxDeltaInRefIdeal := hCtxDeltaInRefIdeal)
    ∧ preserves_CtxHyenaIn_CtxHyenaInIdeal
    ∧ algebraic_CtxHyenaInIdeal_CtxHyenaInRefIdeal (hCtxHyenaInIdeal := hCtxHyenaInIdeal) (hCtxHyenaInRefIdeal := hCtxHyenaInRefIdeal)
-- ==== Kernel.lean ====
abbrev S65536x1024 : Shape := ⟨2, ![65536, 1024]⟩
abbrev S65536x8 : Shape := ⟨2, ![65536, 8]⟩
abbrev S8x1024x7168 : Shape := ⟨3, ![8, 1024, 7168]⟩
abbrev S8x3584x1024 : Shape := ⟨3, ![8, 3584, 1024]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S131072 : Shape := ⟨1, ![131072]⟩
abbrev S131072x1 : Shape := ⟨2, ![131072, 1]⟩
abbrev S8 : Shape := ⟨1, ![8]⟩
abbrev S1x8 : Shape := ⟨2, ![1, 8]⟩
abbrev S131072x8 : Shape := ⟨2, ![131072, 8]⟩
abbrev S135168 : Shape := ⟨1, ![135168]⟩
abbrev S264 : Shape := ⟨1, ![264]⟩
abbrev S264x1 : Shape := ⟨2, ![264, 1]⟩
abbrev S264x8 : Shape := ⟨2, ![264, 8]⟩
abbrev S135168x1 : Shape := ⟨2, ![135168, 1]⟩
abbrev S135168x1024 : Shape := ⟨2, ![135168, 1024]⟩
abbrev S512x1024 : Shape := ⟨2, ![512, 1024]⟩
abbrev S1x1024x1792 : Shape := ⟨3, ![1, 1024, 1792]⟩
abbrev S1 : Shape := ⟨1, ![1]⟩
abbrev S1x1792x1024 : Shape := ⟨3, ![1, 1792, 1024]⟩
abbrev S512x1 : Shape := ⟨2, ![512, 1]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 168
  | .vmem => 13
  | .smem => 1
  | _ => 0

abbrev hbmTy0_0 (i : Nat) : BufTy := match i % 128 with
  | 0 => ⟨S65536x1024, .bf16⟩
  | 1 => ⟨S65536x8, .f32⟩
  | 2 => ⟨S8x1024x7168, .f32⟩
  | 3 => ⟨S8x3584x1024, .f32⟩
  | 4 => ⟨S65536x2, .f32⟩
  | 5 => ⟨S65536x2, .i32⟩
  | 6 => ⟨S_, .f32⟩
  | 7 => ⟨S65536, .f32⟩
  | 8 => ⟨S_, .f32⟩
  | 9 => ⟨S65536, .f32⟩
  | 10 => ⟨S65536, .f32⟩
  | 11 => ⟨S65536x1, .f32⟩
  | 12 => ⟨S65536x2, .f32⟩
  | 13 => ⟨S65536x2, .f32⟩
  | 14 => ⟨S65536x2, .f32⟩
  | 15 => ⟨S_, .f32⟩
  | 16 => ⟨S65536, .f32⟩
  | 17 => ⟨S65536x1, .f32⟩
  | 18 => ⟨S65536x2, .f32⟩
  | 19 => ⟨S65536x2, .f32⟩
  | 20 => ⟨S131072, .i32⟩
  | 21 => ⟨S131072x1, .i32⟩
  | 22 => ⟨S8, .i32⟩
  | 23 => ⟨S1x8, .i32⟩
  | 24 => ⟨S131072x8, .i32⟩
  | 25 => ⟨S131072x8, .i32⟩
  | 26 => ⟨S131072x8, .i1⟩
  | 27 => ⟨S131072x8, .i32⟩
  | 28 => ⟨S_, .i32⟩
  | 29 => ⟨S_, .i32⟩
  | 30 => ⟨S131072x8, .i32⟩
  | 31 => ⟨S131072x8, .i32⟩
  | 32 => ⟨S131072x8, .i32⟩
  | 33 => ⟨S_, .i32⟩
  | 34 => ⟨S131072, .i32⟩
  | 35 => ⟨S_, .i32⟩
  | 36 => ⟨S8, .i32⟩
  | 37 => ⟨S_, .i32⟩
  | 38 => ⟨S8, .i32⟩
  | 39 => ⟨S8, .i32⟩
  | 40 => ⟨S_, .i32⟩
  | 41 => ⟨S8, .i32⟩
  | 42 => ⟨S8, .i32⟩
  | 43 => ⟨S_, .i32⟩
  | 44 => ⟨S_, .i32⟩
  | 45 => ⟨S8, .i32⟩
  | 46 => ⟨S8, .i32⟩
  | 47 => ⟨S8, .i32⟩
  | 48 => ⟨S_, .i32⟩
  | 49 => ⟨S8, .i32⟩
  | 50 => ⟨S8, .i1⟩
  | 51 => ⟨S8, .i32⟩
  | 52 => ⟨S8, .i32⟩
  | 53 => ⟨S_, .i32⟩
  | 54 => ⟨S8, .i32⟩
  | 55 => ⟨S8, .i1⟩
  | 56 => ⟨S8, .i1⟩
  | 57 => ⟨S_, .i32⟩
  | 58 => ⟨S8, .i32⟩
  | 59 => ⟨S8, .i32⟩
  | 60 => ⟨S8, .i32⟩
  | 61 => ⟨S_, .i32⟩
  | 62 => ⟨S8, .i32⟩
  | 63 => ⟨S8, .i32⟩
  | 64 => ⟨S_, .i32⟩
  | 65 => ⟨S_, .i32⟩
  | 66 => ⟨S8, .i32⟩
  | 67 => ⟨S8, .i32⟩
  | 68 => ⟨S_, .i32⟩
  | 69 => ⟨S131072, .i32⟩
  | 70 => ⟨S131072, .i1⟩
  | 71 => ⟨S_, .i32⟩
  | 72 => ⟨S131072, .i32⟩
  | 73 => ⟨S131072, .i32⟩
  | 74 => ⟨S131072, .i32⟩
  | 75 => ⟨S131072x1, .i32⟩
  | 76 => ⟨S131072, .i32⟩
  | 77 => ⟨S131072, .i32⟩
  | 78 => ⟨S_, .i32⟩
  | 79 => ⟨S135168, .i32⟩
  | 80 => ⟨S131072, .i32⟩
  | 81 => ⟨S_, .i32⟩
  | 82 => ⟨S131072, .i32⟩
  | 83 => ⟨S131072, .i1⟩
  | 84 => ⟨S_, .i32⟩
  | 85 => ⟨S131072, .i32⟩
  | 86 => ⟨S131072, .i32⟩
  | 87 => ⟨S131072, .i32⟩
  | 88 => ⟨S131072x1, .i32⟩
  | 89 => ⟨S135168, .i32⟩
  | 90 => ⟨S264, .i32⟩
  | 91 => ⟨S_, .i32⟩
  | 92 => ⟨S264, .i32⟩
  | 93 => ⟨S264, .i32⟩
  | 94 => ⟨S1x8, .i32⟩
  | 95 => ⟨S264x1, .i32⟩
  | 96 => ⟨S264x8, .i32⟩
  | 97 => ⟨S264x8, .i32⟩
  | 98 => ⟨S264x8, .i1⟩
  | 99 => ⟨S264x8, .i32⟩
  | 100 => ⟨S_, .i32⟩
  | 101 => ⟨S264, .i32⟩
  | 102 => ⟨S_, .i32⟩
  | 103 => ⟨S264, .i32⟩
  | 104 => ⟨S_, .i32⟩
  | 105 => ⟨S_, .i32⟩
  | 106 => ⟨S135168, .i32⟩
  | 107 => ⟨S135168, .i32⟩
  | 108 => ⟨S135168, .i32⟩
  | 109 => ⟨S_, .i32⟩
  | 110 => ⟨S135168, .i32⟩
  | 111 => ⟨S135168, .i1⟩
  | 112 => ⟨S135168, .i32⟩
  | 113 => ⟨S135168, .i32⟩
  | 114 => ⟨S_, .i32⟩
  | 115 => ⟨S135168, .i32⟩
  | 116 => ⟨S135168, .i1⟩
  | 117 => ⟨S135168, .i1⟩
  | 118 => ⟨S_, .i32⟩
  | 119 => ⟨S135168, .i32⟩
  | 120 => ⟨S135168, .i32⟩
  | 121 => ⟨S135168, .i32⟩
  | 122 => ⟨S_, .i32⟩
  | 123 => ⟨S135168, .i32⟩
  | 124 => ⟨S135168, .i1⟩
  | 125 => ⟨S_, .i32⟩
  | 126 => ⟨S135168, .i32⟩
  | 127 => ⟨S135168, .i32⟩
  | _ => ⟨S65536x1024, .bf16⟩

abbrev hbmTy0_1 (i : Nat) : BufTy := match i % 128 with
  | 0 => ⟨S135168, .i32⟩
  | 1 => ⟨S135168x1, .i32⟩
  | 2 => ⟨S135168x1024, .bf16⟩
  | 3 => ⟨S131072, .f32⟩
  | 4 => ⟨S_, .i32⟩
  | 5 => ⟨S135168, .i32⟩
  | 6 => ⟨S135168, .i1⟩
  | 7 => ⟨S_, .i32⟩
  | 8 => ⟨S135168, .i32⟩
  | 9 => ⟨S135168, .i32⟩
  | 10 => ⟨S135168, .i32⟩
  | 11 => ⟨S135168x1, .i32⟩
  | 12 => ⟨S135168, .f32⟩
  | 13 => ⟨S135168x1, .f32⟩
  | 14 => ⟨S8x1024x7168, .bf16⟩
  | 15 => ⟨S8x3584x1024, .bf16⟩
  | 16 => ⟨S135168x1024, .bf16⟩
  | 17 => ⟨S65536x2, .i32⟩
  | 18 => ⟨S65536x1, .i32⟩
  | 19 => ⟨S65536, .i32⟩
  | 20 => ⟨S_, .i32⟩
  | 21 => ⟨S65536, .i32⟩
  | 22 => ⟨S65536, .i1⟩
  | 23 => ⟨S_, .i32⟩
  | 24 => ⟨S65536, .i32⟩
  | 25 => ⟨S65536, .i32⟩
  | 26 => ⟨S65536, .i32⟩
  | 27 => ⟨S65536x1, .i32⟩
  | 28 => ⟨S65536x1024, .bf16⟩
  | 29 => ⟨S65536x1, .i32⟩
  | 30 => ⟨S65536, .i32⟩
  | 31 => ⟨S_, .i32⟩
  | 32 => ⟨S65536, .i32⟩
  | 33 => ⟨S65536, .i1⟩
  | 34 => ⟨S_, .i32⟩
  | 35 => ⟨S65536, .i32⟩
  | 36 => ⟨S65536, .i32⟩
  | 37 => ⟨S65536, .i32⟩
  | 38 => ⟨S65536x1, .i32⟩
  | 39 => ⟨S65536x1024, .bf16⟩
  | _ => ⟨S65536x1024, .bf16⟩

abbrev hbmTy (i : Nat) : BufTy := match i / 128 with
  | 0 => hbmTy0_0 i
  | 1 => hbmTy0_1 i
  | _ => ⟨S65536x1024, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1, .f32⟩
  | .local _ .vmem, ⟨9, _⟩ => ⟨S512x1, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .smem, ⟨0, _⟩ => ⟨S264, .i32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_call0_c : Ref sig .tc := ⟨.hbm, 28, rfl⟩
abbrev main_call0_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v28 : Ref sig .tc := ⟨.hbm, 60, rfl⟩
abbrev main_c_6 : Ref sig .tc := ⟨.hbm, 61, rfl⟩
abbrev main_v29 : Ref sig .tc := ⟨.hbm, 62, rfl⟩
abbrev main_v30 : Ref sig .tc := ⟨.hbm, 63, rfl⟩
abbrev main_call2_call0_c : Ref sig .tc := ⟨.hbm, 64, rfl⟩
abbrev main_call2_call0_v0 : Ref sig .tc := ⟨.hbm, 65, rfl⟩
abbrev main_v31 : Ref sig .tc := ⟨.hbm, 66, rfl⟩
abbrev main_v32 : Ref sig .tc := ⟨.hbm, 67, rfl⟩
abbrev main_c_7 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_9 : Ref sig .tc := ⟨.hbm, 78, rfl⟩
abbrev main_v41 : Ref sig .tc := ⟨.hbm, 79, rfl⟩
abbrev main_v42 : Ref sig .tc := ⟨.hbm, 80, rfl⟩
abbrev main_c_10 : Ref sig .tc := ⟨.hbm, 81, rfl⟩
abbrev main_v43 : Ref sig .tc := ⟨.hbm, 82, rfl⟩
abbrev main_v44 : Ref sig .tc := ⟨.hbm, 83, rfl⟩
abbrev main_c_11 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_12 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_13 : Ref sig .tc := ⟨.hbm, 100, rfl⟩
abbrev main_v59 : Ref sig .tc := ⟨.hbm, 101, rfl⟩
abbrev main_c_14 : Ref sig .tc := ⟨.hbm, 102, rfl⟩
abbrev main_v60 : Ref sig .tc := ⟨.hbm, 103, rfl⟩
abbrev main_c_15 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_v6 : Ref sig .tc := ⟨.hbm, 111, rfl⟩
abbrev main_call3_v7 : Ref sig .tc := ⟨.hbm, 112, rfl⟩
abbrev main_call3_v8 : Ref sig .tc := ⟨.hbm, 113, rfl⟩
abbrev main_call3_c : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_0 : Ref sig .tc := ⟨.hbm, 118, rfl⟩
abbrev main_call3_v12 : Ref sig .tc := ⟨.hbm, 119, rfl⟩
abbrev main_call3_v13 : Ref sig .tc := ⟨.hbm, 120, rfl⟩
abbrev main_v62 : Ref sig .tc := ⟨.hbm, 121, rfl⟩
abbrev main_c_16 : Ref sig .tc := ⟨.hbm, 122, rfl⟩
abbrev main_v63 : Ref sig .tc := ⟨.hbm, 123, rfl⟩
abbrev main_v64 : Ref sig .tc := ⟨.hbm, 124, rfl⟩
abbrev main_c_17 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_c_18 : Ref sig .tc := ⟨.hbm, 132, rfl⟩
abbrev main_v71 : Ref sig .tc := ⟨.hbm, 133, rfl⟩
abbrev main_v72 : Ref sig .tc := ⟨.hbm, 134, rfl⟩
abbrev main_c_19 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_20 : Ref sig .tc := ⟨.hbm, 148, rfl⟩
abbrev main_v85 : Ref sig .tc := ⟨.hbm, 149, rfl⟩
abbrev main_v86 : Ref sig .tc := ⟨.hbm, 150, rfl⟩
abbrev main_c_21 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_c_22 : Ref sig .tc := ⟨.hbm, 159, rfl⟩
abbrev main_v94 : Ref sig .tc := ⟨.hbm, 160, rfl⟩
abbrev main_v95 : Ref sig .tc := ⟨.hbm, 161, rfl⟩
abbrev main_c_23 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v61 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![264, 2], ![false, false]⟩

abbrev pre0 : Pipeline.Prefetch sig := ⟨1, ![main_v61.idx], fun | 0 => main_v61.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c2_i32 : BitVec 32 := 2#32
  let v2 : BitVec 32 := Scalar.addi arg1 c2_i32
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
abbrev S65536x1024 : Shape := ⟨2, ![65536, 1024]⟩
abbrev S65536x8 : Shape := ⟨2, ![65536, 8]⟩
abbrev S8x1024x7168 : Shape := ⟨3, ![8, 1024, 7168]⟩
abbrev S8x3584x1024 : Shape := ⟨3, ![8, 3584, 1024]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S131072 : Shape := ⟨1, ![131072]⟩
abbrev S131072x1 : Shape := ⟨2, ![131072, 1]⟩
abbrev S8 : Shape := ⟨1, ![8]⟩
abbrev S1x8 : Shape := ⟨2, ![1, 8]⟩
abbrev S131072x8 : Shape := ⟨2, ![131072, 8]⟩
abbrev S135168 : Shape := ⟨1, ![135168]⟩
abbrev S264 : Shape := ⟨1, ![264]⟩
abbrev S264x1 : Shape := ⟨2, ![264, 1]⟩
abbrev S264x8 : Shape := ⟨2, ![264, 8]⟩
abbrev S135168x1 : Shape := ⟨2, ![135168, 1]⟩
abbrev S135168x1024 : Shape := ⟨2, ![135168, 1024]⟩
abbrev S512x1024 : Shape := ⟨2, ![512, 1024]⟩
abbrev S1x1024x1792 : Shape := ⟨3, ![1, 1024, 1792]⟩
abbrev S1 : Shape := ⟨1, ![1]⟩
abbrev S1x1792x1024 : Shape := ⟨3, ![1, 1792, 1024]⟩
abbrev S512x1 : Shape := ⟨2, ![512, 1]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 168
  | .vmem => 13
  | .smem => 1
  | _ => 0

abbrev hbmTy0_0 (i : Nat) : BufTy := match i % 128 with
  | 0 => ⟨S65536x1024, .bf16⟩
  | 1 => ⟨S65536x8, .f32⟩
  | 2 => ⟨S8x1024x7168, .f32⟩
  | 3 => ⟨S8x3584x1024, .f32⟩
  | 4 => ⟨S65536x2, .f32⟩
  | 5 => ⟨S65536x2, .i32⟩
  | 6 => ⟨S_, .f32⟩
  | 7 => ⟨S65536, .f32⟩
  | 8 => ⟨S_, .f32⟩
  | 9 => ⟨S65536, .f32⟩
  | 10 => ⟨S65536, .f32⟩
  | 11 => ⟨S65536x1, .f32⟩
  | 12 => ⟨S65536x2, .f32⟩
  | 13 => ⟨S65536x2, .f32⟩
  | 14 => ⟨S65536x2, .f32⟩
  | 15 => ⟨S_, .f32⟩
  | 16 => ⟨S65536, .f32⟩
  | 17 => ⟨S65536x1, .f32⟩
  | 18 => ⟨S65536x2, .f32⟩
  | 19 => ⟨S65536x2, .f32⟩
  | 20 => ⟨S131072, .i32⟩
  | 21 => ⟨S131072x1, .i32⟩
  | 22 => ⟨S8, .i32⟩
  | 23 => ⟨S1x8, .i32⟩
  | 24 => ⟨S131072x8, .i32⟩
  | 25 => ⟨S131072x8, .i32⟩
  | 26 => ⟨S131072x8, .i1⟩
  | 27 => ⟨S131072x8, .i32⟩
  | 28 => ⟨S_, .i32⟩
  | 29 => ⟨S_, .i32⟩
  | 30 => ⟨S131072x8, .i32⟩
  | 31 => ⟨S131072x8, .i32⟩
  | 32 => ⟨S131072x8, .i32⟩
  | 33 => ⟨S_, .i32⟩
  | 34 => ⟨S131072, .i32⟩
  | 35 => ⟨S_, .i32⟩
  | 36 => ⟨S8, .i32⟩
  | 37 => ⟨S_, .i32⟩
  | 38 => ⟨S8, .i32⟩
  | 39 => ⟨S8, .i32⟩
  | 40 => ⟨S_, .i32⟩
  | 41 => ⟨S8, .i32⟩
  | 42 => ⟨S8, .i32⟩
  | 43 => ⟨S_, .i32⟩
  | 44 => ⟨S_, .i32⟩
  | 45 => ⟨S8, .i32⟩
  | 46 => ⟨S8, .i32⟩
  | 47 => ⟨S8, .i32⟩
  | 48 => ⟨S_, .i32⟩
  | 49 => ⟨S8, .i32⟩
  | 50 => ⟨S8, .i1⟩
  | 51 => ⟨S8, .i32⟩
  | 52 => ⟨S8, .i32⟩
  | 53 => ⟨S_, .i32⟩
  | 54 => ⟨S8, .i32⟩
  | 55 => ⟨S8, .i1⟩
  | 56 => ⟨S8, .i1⟩
  | 57 => ⟨S_, .i32⟩
  | 58 => ⟨S8, .i32⟩
  | 59 => ⟨S8, .i32⟩
  | 60 => ⟨S8, .i32⟩
  | 61 => ⟨S_, .i32⟩
  | 62 => ⟨S8, .i32⟩
  | 63 => ⟨S8, .i32⟩
  | 64 => ⟨S_, .i32⟩
  | 65 => ⟨S_, .i32⟩
  | 66 => ⟨S8, .i32⟩
  | 67 => ⟨S8, .i32⟩
  | 68 => ⟨S_, .i32⟩
  | 69 => ⟨S131072, .i32⟩
  | 70 => ⟨S131072, .i1⟩
  | 71 => ⟨S_, .i32⟩
  | 72 => ⟨S131072, .i32⟩
  | 73 => ⟨S131072, .i32⟩
  | 74 => ⟨S131072, .i32⟩
  | 75 => ⟨S131072x1, .i32⟩
  | 76 => ⟨S131072, .i32⟩
  | 77 => ⟨S131072, .i32⟩
  | 78 => ⟨S_, .i32⟩
  | 79 => ⟨S135168, .i32⟩
  | 80 => ⟨S131072, .i32⟩
  | 81 => ⟨S_, .i32⟩
  | 82 => ⟨S131072, .i32⟩
  | 83 => ⟨S131072, .i1⟩
  | 84 => ⟨S_, .i32⟩
  | 85 => ⟨S131072, .i32⟩
  | 86 => ⟨S131072, .i32⟩
  | 87 => ⟨S131072, .i32⟩
  | 88 => ⟨S131072x1, .i32⟩
  | 89 => ⟨S135168, .i32⟩
  | 90 => ⟨S264, .i32⟩
  | 91 => ⟨S_, .i32⟩
  | 92 => ⟨S264, .i32⟩
  | 93 => ⟨S264, .i32⟩
  | 94 => ⟨S1x8, .i32⟩
  | 95 => ⟨S264x1, .i32⟩
  | 96 => ⟨S264x8, .i32⟩
  | 97 => ⟨S264x8, .i32⟩
  | 98 => ⟨S264x8, .i1⟩
  | 99 => ⟨S264x8, .i32⟩
  | 100 => ⟨S_, .i32⟩
  | 101 => ⟨S264, .i32⟩
  | 102 => ⟨S_, .i32⟩
  | 103 => ⟨S264, .i32⟩
  | 104 => ⟨S_, .i32⟩
  | 105 => ⟨S_, .i32⟩
  | 106 => ⟨S135168, .i32⟩
  | 107 => ⟨S135168, .i32⟩
  | 108 => ⟨S135168, .i32⟩
  | 109 => ⟨S_, .i32⟩
  | 110 => ⟨S135168, .i32⟩
  | 111 => ⟨S135168, .i1⟩
  | 112 => ⟨S135168, .i32⟩
  | 113 => ⟨S135168, .i32⟩
  | 114 => ⟨S_, .i32⟩
  | 115 => ⟨S135168, .i32⟩
  | 116 => ⟨S135168, .i1⟩
  | 117 => ⟨S135168, .i1⟩
  | 118 => ⟨S_, .i32⟩
  | 119 => ⟨S135168, .i32⟩
  | 120 => ⟨S135168, .i32⟩
  | 121 => ⟨S135168, .i32⟩
  | 122 => ⟨S_, .i32⟩
  | 123 => ⟨S135168, .i32⟩
  | 124 => ⟨S135168, .i1⟩
  | 125 => ⟨S_, .i32⟩
  | 126 => ⟨S135168, .i32⟩
  | 127 => ⟨S135168, .i32⟩
  | _ => ⟨S65536x1024, .bf16⟩

abbrev hbmTy0_1 (i : Nat) : BufTy := match i % 128 with
  | 0 => ⟨S135168, .i32⟩
  | 1 => ⟨S135168x1, .i32⟩
  | 2 => ⟨S135168x1024, .bf16⟩
  | 3 => ⟨S131072, .f32⟩
  | 4 => ⟨S_, .i32⟩
  | 5 => ⟨S135168, .i32⟩
  | 6 => ⟨S135168, .i1⟩
  | 7 => ⟨S_, .i32⟩
  | 8 => ⟨S135168, .i32⟩
  | 9 => ⟨S135168, .i32⟩
  | 10 => ⟨S135168, .i32⟩
  | 11 => ⟨S135168x1, .i32⟩
  | 12 => ⟨S135168, .f32⟩
  | 13 => ⟨S135168x1, .f32⟩
  | 14 => ⟨S8x1024x7168, .bf16⟩
  | 15 => ⟨S8x3584x1024, .bf16⟩
  | 16 => ⟨S135168x1024, .bf16⟩
  | 17 => ⟨S65536x2, .i32⟩
  | 18 => ⟨S65536x1, .i32⟩
  | 19 => ⟨S65536, .i32⟩
  | 20 => ⟨S_, .i32⟩
  | 21 => ⟨S65536, .i32⟩
  | 22 => ⟨S65536, .i1⟩
  | 23 => ⟨S_, .i32⟩
  | 24 => ⟨S65536, .i32⟩
  | 25 => ⟨S65536, .i32⟩
  | 26 => ⟨S65536, .i32⟩
  | 27 => ⟨S65536x1, .i32⟩
  | 28 => ⟨S65536x1024, .bf16⟩
  | 29 => ⟨S65536x1, .i32⟩
  | 30 => ⟨S65536, .i32⟩
  | 31 => ⟨S_, .i32⟩
  | 32 => ⟨S65536, .i32⟩
  | 33 => ⟨S65536, .i1⟩
  | 34 => ⟨S_, .i32⟩
  | 35 => ⟨S65536, .i32⟩
  | 36 => ⟨S65536, .i32⟩
  | 37 => ⟨S65536, .i32⟩
  | 38 => ⟨S65536x1, .i32⟩
  | 39 => ⟨S65536x1024, .bf16⟩
  | _ => ⟨S65536x1024, .bf16⟩

abbrev hbmTy (i : Nat) : BufTy := match i / 128 with
  | 0 => hbmTy0_0 i
  | 1 => hbmTy0_1 i
  | _ => ⟨S65536x1024, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1, .f32⟩
  | .local _ .vmem, ⟨9, _⟩ => ⟨S512x1, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .smem, ⟨0, _⟩ => ⟨S264, .i32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_call0_c : Ref sig .tc := ⟨.hbm, 28, rfl⟩
abbrev main_call0_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v28 : Ref sig .tc := ⟨.hbm, 60, rfl⟩
abbrev main_c_6 : Ref sig .tc := ⟨.hbm, 61, rfl⟩
abbrev main_v29 : Ref sig .tc := ⟨.hbm, 62, rfl⟩
abbrev main_v30 : Ref sig .tc := ⟨.hbm, 63, rfl⟩
abbrev main_call2_call0_c : Ref sig .tc := ⟨.hbm, 64, rfl⟩
abbrev main_call2_call0_v0 : Ref sig .tc := ⟨.hbm, 65, rfl⟩
abbrev main_v31 : Ref sig .tc := ⟨.hbm, 66, rfl⟩
abbrev main_v32 : Ref sig .tc := ⟨.hbm, 67, rfl⟩
abbrev main_c_7 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_9 : Ref sig .tc := ⟨.hbm, 78, rfl⟩
abbrev main_v41 : Ref sig .tc := ⟨.hbm, 79, rfl⟩
abbrev main_v42 : Ref sig .tc := ⟨.hbm, 80, rfl⟩
abbrev main_c_10 : Ref sig .tc := ⟨.hbm, 81, rfl⟩
abbrev main_v43 : Ref sig .tc := ⟨.hbm, 82, rfl⟩
abbrev main_v44 : Ref sig .tc := ⟨.hbm, 83, rfl⟩
abbrev main_c_11 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_12 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_13 : Ref sig .tc := ⟨.hbm, 100, rfl⟩
abbrev main_v59 : Ref sig .tc := ⟨.hbm, 101, rfl⟩
abbrev main_c_14 : Ref sig .tc := ⟨.hbm, 102, rfl⟩
abbrev main_v60 : Ref sig .tc := ⟨.hbm, 103, rfl⟩
abbrev main_c_15 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_v6 : Ref sig .tc := ⟨.hbm, 111, rfl⟩
abbrev main_call3_v7 : Ref sig .tc := ⟨.hbm, 112, rfl⟩
abbrev main_call3_v8 : Ref sig .tc := ⟨.hbm, 113, rfl⟩
abbrev main_call3_c : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_0 : Ref sig .tc := ⟨.hbm, 118, rfl⟩
abbrev main_call3_v12 : Ref sig .tc := ⟨.hbm, 119, rfl⟩
abbrev main_call3_v13 : Ref sig .tc := ⟨.hbm, 120, rfl⟩
abbrev main_v62 : Ref sig .tc := ⟨.hbm, 121, rfl⟩
abbrev main_c_16 : Ref sig .tc := ⟨.hbm, 122, rfl⟩
abbrev main_v63 : Ref sig .tc := ⟨.hbm, 123, rfl⟩
abbrev main_v64 : Ref sig .tc := ⟨.hbm, 124, rfl⟩
abbrev main_c_17 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_c_18 : Ref sig .tc := ⟨.hbm, 132, rfl⟩
abbrev main_v71 : Ref sig .tc := ⟨.hbm, 133, rfl⟩
abbrev main_v72 : Ref sig .tc := ⟨.hbm, 134, rfl⟩
abbrev main_c_19 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_20 : Ref sig .tc := ⟨.hbm, 148, rfl⟩
abbrev main_v85 : Ref sig .tc := ⟨.hbm, 149, rfl⟩
abbrev main_v86 : Ref sig .tc := ⟨.hbm, 150, rfl⟩
abbrev main_c_21 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_c_22 : Ref sig .tc := ⟨.hbm, 159, rfl⟩
abbrev main_v94 : Ref sig .tc := ⟨.hbm, 160, rfl⟩
abbrev main_v95 : Ref sig .tc := ⟨.hbm, 161, rfl⟩
abbrev main_c_23 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v61 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![264, 2], ![false, false]⟩

abbrev pre0 : Pipeline.Prefetch sig := ⟨1, ![main_v61.idx], fun | 0 => main_v61.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c2_i32 : BitVec 32 := 2#32
  let v2 : BitVec 32 := Scalar.addi arg1 c2_i32
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S264.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S264) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S65536x1024 : Shape := ⟨2, ![65536, 1024]⟩
abbrev S65536x8 : Shape := ⟨2, ![65536, 8]⟩
abbrev S8x1024x7168 : Shape := ⟨3, ![8, 1024, 7168]⟩
abbrev S8x3584x1024 : Shape := ⟨3, ![8, 3584, 1024]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S8x7168x65536 : Shape := ⟨3, ![8, 7168, 65536]⟩
abbrev S8x65536x7168 : Shape := ⟨3, ![8, 65536, 7168]⟩
abbrev S8x65536x3584 : Shape := ⟨3, ![8, 65536, 3584]⟩
abbrev S8x65536x1024 : Shape := ⟨3, ![8, 65536, 1024]⟩
abbrev S65536x2x1 : Shape := ⟨3, ![65536, 2, 1]⟩
abbrev S1x1x8 : Shape := ⟨3, ![1, 1, 8]⟩
abbrev S65536x2x8 : Shape := ⟨3, ![65536, 2, 8]⟩
abbrev S65536x1024x2 : Shape := ⟨3, ![65536, 1024, 2]⟩
abbrev S2x65536x1024 : Shape := ⟨3, ![2, 65536, 1024]⟩
abbrev S1x65536x1024 : Shape := ⟨3, ![1, 65536, 1024]⟩

abbrev nBuf : Space → Nat
  | .hbm => 53
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S65536x8, .f32⟩
  | .hbm, ⟨2, _⟩ => ⟨S8x1024x7168, .f32⟩
  | .hbm, ⟨3, _⟩ => ⟨S8x3584x1024, .f32⟩
  | .hbm, ⟨4, _⟩ => ⟨S65536x1024, .f32⟩
  | .hbm, ⟨5, _⟩ => ⟨S65536x2, .f32⟩
  | .hbm, ⟨6, _⟩ => ⟨S65536x2, .i32⟩
  | .hbm, ⟨7, _⟩ => ⟨S_, .f32⟩
  | .hbm, ⟨8, _⟩ => ⟨S65536, .f32⟩
  | .hbm, ⟨9, _⟩ => ⟨S_, .f32⟩
  | .hbm, ⟨10, _⟩ => ⟨S65536, .f32⟩
  | .hbm, ⟨11, _⟩ => ⟨S65536, .f32⟩
  | .hbm, ⟨12, _⟩ => ⟨S65536x1, .f32⟩
  | .hbm, ⟨13, _⟩ => ⟨S65536x2, .f32⟩
  | .hbm, ⟨14, _⟩ => ⟨S65536x2, .f32⟩
  | .hbm, ⟨15, _⟩ => ⟨S65536x2, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S65536x2, .f32⟩
  | .hbm, ⟨20, _⟩ => ⟨S65536x2, .f32⟩
  | .hbm, ⟨21, _⟩ => ⟨S8x7168x65536, .f32⟩
  | .hbm, ⟨22, _⟩ => ⟨S8x65536x7168, .f32⟩
  | .hbm, ⟨23, _⟩ => ⟨S8x65536x3584, .f32⟩
  | .hbm, ⟨24, _⟩ => ⟨S8x65536x3584, .f32⟩
  | .hbm, ⟨25, _⟩ => ⟨S8x65536x3584, .f32⟩
  | .hbm, ⟨26, _⟩ => ⟨S8x65536x3584, .f32⟩
  | .hbm, ⟨27, _⟩ => ⟨S_, .f32⟩
  | .hbm, ⟨28, _⟩ => ⟨S8x65536x3584, .f32⟩
  | .hbm, ⟨29, _⟩ => ⟨S8x65536x3584, .f32⟩
  | .hbm, ⟨30, _⟩ => ⟨S_, .f32⟩
  | .hbm, ⟨31, _⟩ => ⟨S8x65536x3584, .f32⟩
  | .hbm, ⟨32, _⟩ => ⟨S8x65536x3584, .f32⟩
  | .hbm, ⟨33, _⟩ => ⟨S8x65536x3584, .f32⟩
  | .hbm, ⟨34, _⟩ => ⟨S8x65536x3584, .f32⟩
  | .hbm, ⟨35, _⟩ => ⟨S8x65536x1024, .f32⟩
  | .hbm, ⟨36, _⟩ => ⟨S65536x2x1, .f32⟩
  | .hbm, ⟨37, _⟩ => ⟨S65536x2x1, .i32⟩
  | .hbm, ⟨38, _⟩ => ⟨S1x1x8, .i32⟩
  | .hbm, ⟨39, _⟩ => ⟨S65536x2x8, .i32⟩
  | .hbm, ⟨40, _⟩ => ⟨S65536x2x8, .i32⟩
  | .hbm, ⟨41, _⟩ => ⟨S65536x2x8, .i1⟩
  | .hbm, ⟨42, _⟩ => ⟨S65536x2x8, .f32⟩
  | .hbm, ⟨43, _⟩ => ⟨S65536x2x8, .f32⟩
  | .hbm, ⟨44, _⟩ => ⟨S65536x2x8, .f32⟩
  | .hbm, ⟨45, _⟩ => ⟨S65536x1024x2, .f32⟩
  | .hbm, ⟨46, _⟩ => ⟨S2x65536x1024, .f32⟩
  | .hbm, ⟨47, _⟩ => ⟨S1x65536x1024, .f32⟩
  | .hbm, ⟨48, _⟩ => ⟨S65536x1024, .f32⟩
  | .hbm, ⟨49, _⟩ => ⟨S65536x1024, .bf16⟩
  | .hbm, ⟨50, _⟩ => ⟨S1x65536x1024, .f32⟩
  | .hbm, ⟨51, _⟩ => ⟨S65536x1024, .f32⟩
  | .hbm, ⟨52, _⟩ => ⟨S65536x1024, .bf16⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== Combine.lean ====
abbrev S32x2048x1024 : Shape := ⟨3, ![32, 2048, 1024]⟩
abbrev S65536x1024 : Shape := ⟨2, ![65536, 1024]⟩
abbrev S32x1x1024 : Shape := ⟨3, ![32, 1, 1024]⟩
abbrev S1x1024 : Shape := ⟨2, ![1, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S65536x1024, .bf16⟩
  | .hbm, ⟨2, _⟩ => ⟨S65536x1024, .bf16⟩
  | .hbm, ⟨3, _⟩ => ⟨S32x1x1024, .f32⟩
  | .hbm, ⟨4, _⟩ => ⟨S1x1024, .f32⟩
  | .hbm, ⟨5, _⟩ => ⟨S1x1024, .f32⟩
  | .hbm, ⟨6, _⟩ => ⟨S65536x1024, .f32⟩
  | .hbm, ⟨7, _⟩ => ⟨S65536x1024, .f32⟩
  | .hbm, ⟨8, _⟩ => ⟨S32x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineIdeal.lean ====
abbrev S32x2048x1024 : Shape := ⟨3, ![32, 2048, 1024]⟩
abbrev S65536x1024 : Shape := ⟨2, ![65536, 1024]⟩
abbrev S32x1x1024 : Shape := ⟨3, ![32, 1, 1024]⟩
abbrev S1x1024 : Shape := ⟨2, ![1, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S32x2048x1024, .f32⟩
  | .hbm, ⟨1, _⟩ => ⟨S65536x1024, .bf16⟩
  | .hbm, ⟨2, _⟩ => ⟨S65536x1024, .bf16⟩
  | .hbm, ⟨3, _⟩ => ⟨S32x1x1024, .f32⟩
  | .hbm, ⟨4, _⟩ => ⟨S1x1024, .f32⟩
  | .hbm, ⟨5, _⟩ => ⟨S1x1024, .f32⟩
  | .hbm, ⟨6, _⟩ => ⟨S65536x1024, .f32⟩
  | .hbm, ⟨7, _⟩ => ⟨S65536x1024, .f32⟩
  | .hbm, ⟨8, _⟩ => ⟨S32x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F] [Named F]

def κ : String → Option EReal := fun
  | "alpha" => some ((Real.sqrt (Real.sqrt 8) : ℝ) : EReal)
  | _ => none

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineRefIdeal.lean ====
abbrev S32x2048x1024 : Shape := ⟨3, ![32, 2048, 1024]⟩
abbrev S65536x1024 : Shape := ⟨2, ![65536, 1024]⟩
abbrev S32x1x1024 : Shape := ⟨3, ![32, 1, 1024]⟩
abbrev S1x1024 : Shape := ⟨2, ![1, 1024]⟩
abbrev S_ : Shape := ⟨0, ![]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S65536x1024, .bf16⟩
  | .hbm, ⟨2, _⟩ => ⟨S65536x1024, .bf16⟩
  | .hbm, ⟨3, _⟩ => ⟨S32x1x1024, .f32⟩
  | .hbm, ⟨4, _⟩ => ⟨S1x1024, .f32⟩
  | .hbm, ⟨5, _⟩ => ⟨S1x1024, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S32x2048x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32x2048x1024, .f32⟩
  | .hbm, ⟨14, _⟩ => ⟨S32x2048x1024, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S32x2048, .f32⟩
  | .hbm, ⟨22, _⟩ => ⟨S32x2048x1, .f32⟩
  | .hbm, ⟨23, _⟩ => ⟨S_, .f32⟩
  | .hbm, ⟨24, _⟩ => ⟨S32x2048x1, .f32⟩
  | .hbm, ⟨25, _⟩ => ⟨S32x2048x1, .f32⟩
  | .hbm, ⟨26, _⟩ => ⟨S32x2048x1024, .f32⟩
  | .hbm, ⟨27, _⟩ => ⟨S32x2048x1024, .f32⟩
  | .hbm, ⟨28, _⟩ => ⟨S32x2048x1024, .f32⟩
  | .hbm, ⟨29, _⟩ => ⟨S_, .f32⟩
  | .hbm, ⟨30, _⟩ => ⟨S32x2048, .f32⟩
  | .hbm, ⟨31, _⟩ => ⟨S32x2048x1, .f32⟩
  | .hbm, ⟨32, _⟩ => ⟨S_, .f32⟩
  | .hbm, ⟨33, _⟩ => ⟨S32x2048x1, .f32⟩
  | .hbm, ⟨34, _⟩ => ⟨S32x2048x1, .f32⟩
  | .hbm, ⟨35, _⟩ => ⟨S_, .f32⟩
  | .hbm, ⟨36, _⟩ => ⟨S32x2048x1, .f32⟩
  | .hbm, ⟨37, _⟩ => ⟨S32x2048x1, .f32⟩
  | .hbm, ⟨38, _⟩ => ⟨S32x2048x1, .f32⟩
  | .hbm, ⟨39, _⟩ => ⟨S32x2048x1024, .f32⟩
  | .hbm, ⟨40, _⟩ => ⟨S32x2048x1024, .f32⟩
  | .hbm, ⟨41, _⟩ => ⟨S1x1x1024, .f32⟩
  | .hbm, ⟨42, _⟩ => ⟨S32x2048x1024, .f32⟩
  | .hbm, ⟨43, _⟩ => ⟨S32x2048x1024, .f32⟩
  | .hbm, ⟨44, _⟩ => ⟨S1x1x1024, .f32⟩
  | .hbm, ⟨45, _⟩ => ⟨S32x2048x1024, .f32⟩
  | .hbm, ⟨46, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Route.lean ====
abbrev S32x2048x1024 : Shape := ⟨3, ![32, 2048, 1024]⟩
abbrev S32x1x1024 : Shape := ⟨3, ![32, 1, 1024]⟩
abbrev S1024x8 : Shape := ⟨2, ![1024, 8]⟩
abbrev S65536x1024 : Shape := ⟨2, ![65536, 1024]⟩
abbrev S_ : Shape := ⟨0, ![]⟩
abbrev S1024x128 : Shape := ⟨2, ![1024, 128]⟩
abbrev S65536x128 : Shape := ⟨2, ![65536, 128]⟩
abbrev S1024x1024 : Shape := ⟨2, ![1024, 1024]⟩
abbrev S1x1x1024 : Shape := ⟨3, ![1, 1, 1024]⟩
abbrev S1x1024 : Shape := ⟨2, ![1, 1024]⟩
abbrev S65536x8 : Shape := ⟨2, ![65536, 8]⟩

abbrev nBuf : Space → Nat
  | .hbm => 11
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x8, .f32⟩
  | .hbm, ⟨4, _⟩ => ⟨S65536x1024, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S65536x1024, .bf16⟩
  | .hbm, ⟨9, _⟩ => ⟨S65536x128, .f32⟩
  | .hbm, ⟨10, _⟩ => ⟨S65536x8, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RouteIdeal.lean ====
abbrev S32x2048x1024 : Shape := ⟨3, ![32, 2048, 1024]⟩
abbrev S32x1x1024 : Shape := ⟨3, ![32, 1, 1024]⟩
abbrev S1024x8 : Shape := ⟨2, ![1024, 8]⟩
abbrev S65536x1024 : Shape := ⟨2, ![65536, 1024]⟩
abbrev S_ : Shape := ⟨0, ![]⟩
abbrev S1024x128 : Shape := ⟨2, ![1024, 128]⟩
abbrev S65536x128 : Shape := ⟨2, ![65536, 128]⟩
abbrev S1024x1024 : Shape := ⟨2, ![1024, 1024]⟩
abbrev S1x1x1024 : Shape := ⟨3, ![1, 1, 1024]⟩
abbrev S1x1024 : Shape := ⟨2, ![1, 1024]⟩
abbrev S65536x8 : Shape := ⟨2, ![65536, 8]⟩

abbrev nBuf : Space → Nat
  | .hbm => 11
  | .vmem => 11
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x8, .f32⟩
  | .hbm, ⟨4, _⟩ => ⟨S65536x1024, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S65536x1024, .bf16⟩
  | .hbm, ⟨9, _⟩ => ⟨S65536x128, .f32⟩
  | .hbm, ⟨10, _⟩ => ⟨S65536x8, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RouteRefIdeal.lean ====
abbrev S32x2048x1024 : Shape := ⟨3, ![32, 2048, 1024]⟩
abbrev S32x1x1024 : Shape := ⟨3, ![32, 1, 1024]⟩
abbrev S1024x8 : Shape := ⟨2, ![1024, 8]⟩
abbrev S_ : Shape := ⟨0, ![]⟩
abbrev S65536x1024 : Shape := ⟨2, ![65536, 1024]⟩
abbrev S65536x8 : Shape := ⟨2, ![65536, 8]⟩

abbrev nBuf : Space → Nat
  | .hbm => 14
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x8, .f32⟩
  | .hbm, ⟨4, _⟩ => ⟨S_, .f32⟩
  | .hbm, ⟨5, _⟩ => ⟨S32x1x1024, .f32⟩
  | .hbm, ⟨6, _⟩ => ⟨S32x1x1024, .f32⟩
  | .hbm, ⟨7, _⟩ => ⟨S32x2048x1024, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S65536x1024, .f32⟩
  | .hbm, ⟨12, _⟩ => ⟨S65536x1024, .bf16⟩
  | .hbm, ⟨13, _⟩ => ⟨S65536x8, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Dense.lean ====
abbrev S32x2048x1024 : Shape := ⟨3, ![32, 2048, 1024]⟩
abbrev S32x1x1024 : Shape := ⟨3, ![32, 1, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S128 : Shape := ⟨1, ![128]⟩
abbrev S65536x1024 : Shape := ⟨2, ![65536, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1x1024x1408 : Shape := ⟨3, ![1, 1024, 1408]⟩
abbrev S1 : Shape := ⟨1, ![1]⟩
abbrev S1x1408x1024 : Shape := ⟨3, ![1, 1408, 1024]⟩
abbrev S1x1x1024 : Shape := ⟨3, ![1, 1, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 16
  | .vmem => 19
  | .smem => 1
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S_, .i32⟩
  | .hbm, ⟨9, _⟩ => ⟨S65536x1024, .f32⟩
  | .hbm, ⟨10, _⟩ => ⟨S1024x5632, .bf16⟩
  | .hbm, ⟨11, _⟩ => ⟨S1x1024x5632, .bf16⟩
  | .hbm, ⟨12, _⟩ => ⟨S2816x1024, .bf16⟩
  | .hbm, ⟨13, _⟩ => ⟨S1x2816x1024, .bf16⟩
  | .hbm, ⟨14, _⟩ => ⟨S65536x1024, .f32⟩
  | .hbm, ⟨15, _⟩ => ⟨S32x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .smem, ⟨0, _⟩ => ⟨S128, .i32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![128, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v34 : BitVec 1 := Scalar.cmpi .eq arg1 c1_i32
  let v35 : BitVec 32 := Scalar.extui v34
  let c0_i32_24 : BitVec 32 := 0#32
  let v36 : BitVec 1 := Scalar.cmpi .ne v35 c0_i32_24
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k0_off1_inb i)) numel1_S1
  let c2_i32 : BitVec 32 := 2#32
  let v2 : BitVec 32 := Scalar.addi arg1 c2_i32
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== DenseIdeal.lean ====
abbrev S32x2048x1024 : Shape := ⟨3, ![32, 2048, 1024]⟩
abbrev S32x1x1024 : Shape := ⟨3, ![32, 1, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S128 : Shape := ⟨1, ![128]⟩
abbrev S65536x1024 : Shape := ⟨2, ![65536, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1x1024x1408 : Shape := ⟨3, ![1, 1024, 1408]⟩
abbrev S1 : Shape := ⟨1, ![1]⟩
abbrev S1x1408x1024 : Shape := ⟨3, ![1, 1408, 1024]⟩
abbrev S1x1x1024 : Shape := ⟨3, ![1, 1, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 16
  | .vmem => 19
  | .smem => 1
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S_, .i32⟩
  | .hbm, ⟨9, _⟩ => ⟨S65536x1024, .f32⟩
  | .hbm, ⟨10, _⟩ => ⟨S1024x5632, .bf16⟩
  | .hbm, ⟨11, _⟩ => ⟨S1x1024x5632, .bf16⟩
  | .hbm, ⟨12, _⟩ => ⟨S2816x1024, .bf16⟩
  | .hbm, ⟨13, _⟩ => ⟨S1x2816x1024, .bf16⟩
  | .hbm, ⟨14, _⟩ => ⟨S65536x1024, .f32⟩
  | .hbm, ⟨15, _⟩ => ⟨S32x2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .smem, ⟨0, _⟩ => ⟨S128, .i32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F] [Named F]

def κ : String → Option EReal := fun
  | "alpha" => some ((Real.sqrt (Real.sqrt 8) : ℝ) : EReal)
  | _ => none

abbrev grid0 : Pipeline.Grid := ⟨2, ![128, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v34 : BitVec 1 := Scalar.cmpi .eq arg1 c1_i32
  let v35 : BitVec 32 := Scalar.extui v34
  let c0_i32_24 : BitVec 32 := 0#32
  let v36 : BitVec 1 := Scalar.cmpi .ne v35 c0_i32_24
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k0_off1_inb i)) numel1_S1
  let c2_i32 : BitVec 32 := 2#32
  let v2 : BitVec 32 := Scalar.addi arg1 c2_i32
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== DenseRefIdeal.lean ====
abbrev S32x2048x1024 : Shape := ⟨3, ![32, 2048, 1024]⟩
abbrev S32x1x1024 : Shape := ⟨3, ![32, 1, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S32x2048x5632 : Shape := ⟨3, ![32, 2048, 5632]⟩
abbrev S32x2048x2816 : Shape := ⟨3, ![32, 2048, 2816]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S_, .f32⟩
  | .hbm, ⟨9, _⟩ => ⟨S32x1x1024, .f32⟩
  | .hbm, ⟨10, _⟩ => ⟨S32x1x1024, .f32⟩
  | .hbm, ⟨11, _⟩ => ⟨S32x2048x1024, .f32⟩
  | .hbm, ⟨12, _⟩ => ⟨S32x2048x1024, .f32⟩
  | .hbm, ⟨13, _⟩ => ⟨S32x2048x1024, .f32⟩
  | .hbm, ⟨14, _⟩ => ⟨S32x2048x1024, .f32⟩
  | .hbm, ⟨15, _⟩ => ⟨S32x2048x5632, .f32⟩
  | .hbm, ⟨16, _⟩ => ⟨S32x2048x2816, .f32⟩
  | .hbm, ⟨17, _⟩ => ⟨S32x2048x2816, .f32⟩
  | .hbm, ⟨18, _⟩ => ⟨S32x2048x2816, .f32⟩
  | .hbm, ⟨19, _⟩ => ⟨S32x2048x2816, .f32⟩
  | .hbm, ⟨20, _⟩ => ⟨S_, .f32⟩
  | .hbm, ⟨21, _⟩ => ⟨S32x2048x2816, .f32⟩
  | .hbm, ⟨22, _⟩ => ⟨S32x2048x2816, .f32⟩
  | .hbm, ⟨23, _⟩ => ⟨S_, .f32⟩
  | .hbm, ⟨24, _⟩ => ⟨S32x2048x2816, .f32⟩
  | .hbm, ⟨25, _⟩ => ⟨S32x2048x2816, .f32⟩
  | .hbm, ⟨26, _⟩ => ⟨S32x2048x2816, .f32⟩
  | .hbm, ⟨27, _⟩ => ⟨S32x2048x2816, .f32⟩
  | .hbm, ⟨28, _⟩ => ⟨S32x2048x1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x1024, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S32x2048, .f32⟩
  | .hbm, ⟨41, _⟩ => ⟨S32x2048x1, .f32⟩
  | .hbm, ⟨42, _⟩ => ⟨S_, .f32⟩
  | .hbm, ⟨43, _⟩ => ⟨S32x2048x1, .f32⟩
  | .hbm, ⟨44, _⟩ => ⟨S32x2048x1, .f32⟩
  | .hbm, ⟨45, _⟩ => ⟨S32x2048x1024, .f32⟩
  | .hbm, ⟨46, _⟩ => ⟨S32x2048x1024, .f32⟩
  | .hbm, ⟨47, _⟩ => ⟨S32x2048x1024, .f32⟩
  | .hbm, ⟨48, _⟩ => ⟨S_, .f32⟩
  | .hbm, ⟨49, _⟩ => ⟨S32x2048, .f32⟩
  | .hbm, ⟨50, _⟩ => ⟨S32x2048x1, .f32⟩
  | .hbm, ⟨51, _⟩ => ⟨S_, .f32⟩
  | .hbm, ⟨52, _⟩ => ⟨S32x2048x1, .f32⟩
  | .hbm, ⟨53, _⟩ => ⟨S32x2048x1, .f32⟩
  | .hbm, ⟨54, _⟩ => ⟨S_, .f32⟩
  | .hbm, ⟨55, _⟩ => ⟨S32x2048x1, .f32⟩
  | .hbm, ⟨56, _⟩ => ⟨S32x2048x1, .f32⟩
  | .hbm, ⟨57, _⟩ => ⟨S32x2048x1, .f32⟩
  | .hbm, ⟨58, _⟩ => ⟨S32x2048x1024, .f32⟩
  | .hbm, ⟨59, _⟩ => ⟨S32x2048x1024, .f32⟩
  | .hbm, ⟨60, _⟩ => ⟨S1x1x1024, .f32⟩
  | .hbm, ⟨61, _⟩ => ⟨S32x2048x1024, .f32⟩
  | .hbm, ⟨62, _⟩ => ⟨S32x2048x1024, .f32⟩
  | .hbm, ⟨63, _⟩ => ⟨S1x1x1024, .f32⟩
  | .hbm, ⟨64, _⟩ => ⟨S32x2048x1024, .f32⟩
  | .hbm, ⟨65, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Out.lean ====
abbrev S32x2048x1024 : Shape := ⟨3, ![32, 2048, 1024]⟩
abbrev S1024x1024 : Shape := ⟨2, ![1024, 1024]⟩
abbrev S32x1x1024 : Shape := ⟨3, ![32, 1, 1024]⟩
abbrev S1x1024 : Shape := ⟨2, ![1, 1024]⟩
abbrev S65536x1024 : Shape := ⟨2, ![65536, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S32x2048x1024, .bf16⟩
  | .hbm, ⟨1, _⟩ => ⟨S1024x1024, .f32⟩
  | .hbm, ⟨2, _⟩ => ⟨S32x2048x1024, .f32⟩
  | .hbm, ⟨3, _⟩ => ⟨S32x1x1024, .f32⟩
  | .hbm, ⟨4, _⟩ => ⟨S1x1024, .f32⟩
  | .hbm, ⟨5, _⟩ => ⟨S1x1024, .f32⟩
  | .hbm, ⟨6, _⟩ => ⟨S65536x1024, .bf16⟩
  | .hbm, ⟨7, _⟩ => ⟨S65536x1024, .f32⟩
  | .hbm, ⟨8, _⟩ => ⟨S1024x1024, .bf16⟩
  | .hbm, ⟨9, _⟩ => ⟨S65536x1024, .f32⟩
  | .hbm, ⟨10, _⟩ => ⟨S32x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![64, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== OutIdeal.lean ====
abbrev S32x2048x1024 : Shape := ⟨3, ![32, 2048, 1024]⟩
abbrev S1024x1024 : Shape := ⟨2, ![1024, 1024]⟩
abbrev S32x1x1024 : Shape := ⟨3, ![32, 1, 1024]⟩
abbrev S1x1024 : Shape := ⟨2, ![1, 1024]⟩
abbrev S65536x1024 : Shape := ⟨2, ![65536, 1024]⟩
abbrev S1x1x1024 : Shape := ⟨3, ![1, 1, 1024]⟩
abbrev S1024 : Shape := ⟨1, ![1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S32x2048x1024, .bf16⟩
  | .hbm, ⟨1, _⟩ => ⟨S1024x1024, .f32⟩
  | .hbm, ⟨2, _⟩ => ⟨S32x2048x1024, .f32⟩
  | .hbm, ⟨3, _⟩ => ⟨S32x1x1024, .f32⟩
  | .hbm, ⟨4, _⟩ => ⟨S1x1024, .f32⟩
  | .hbm, ⟨5, _⟩ => ⟨S1x1024, .f32⟩
  | .hbm, ⟨6, _⟩ => ⟨S65536x1024, .bf16⟩
  | .hbm, ⟨7, _⟩ => ⟨S65536x1024, .f32⟩
  | .hbm, ⟨8, _⟩ => ⟨S1024x1024, .bf16⟩
  | .hbm, ⟨9, _⟩ => ⟨S65536x1024, .f32⟩
  | .hbm, ⟨10, _⟩ => ⟨S32x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S32x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F] [Named F]

def κ : String → Option EReal := fun
  | "alpha" => some ((Real.sqrt (Real.sqrt 8) : ℝ) : EReal)
  | _ => none

abbrev grid0 : Pipeline.Grid := ⟨3, ![64, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== OutRefIdeal.lean ====
abbrev S32x2048x1024 : Shape := ⟨3, ![32, 2048, 1024]⟩
abbrev S1024x1024 : Shape := ⟨2, ![1024, 1024]⟩
abbrev S32x1x1024 : Shape := ⟨3, ![32, 1, 1024]⟩
abbrev S1x1024 : Shape := ⟨2, ![1, 1024]⟩
abbrev S_ : Shape := ⟨0, ![]⟩
abbrev S1024 : Shape := ⟨1, ![1024]⟩
abbrev S32x2048 : Shape := ⟨2, ![32, 2048]⟩
abbrev S32x2048x1 : Shape := ⟨3, ![32, 2048, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S32x2048x1024, .bf16⟩
  | .hbm, ⟨1, _⟩ => ⟨S1024x1024, .f32⟩
  | .hbm, ⟨2, _⟩ => ⟨S32x2048x1024, .f32⟩
  | .hbm, ⟨3, _⟩ => ⟨S32x1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S32x2048x1024, .f32⟩
  | .hbm, ⟨13, _⟩ => ⟨S32x2048x1024, .f32⟩
  | .hbm, ⟨14, _⟩ => ⟨S32x2048x1024, .f32⟩
  | .hbm, ⟨15, _⟩ => ⟨S32x2048x1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S32x2048, .f32⟩
  | .hbm, ⟨20, _⟩ => ⟨S32x2048x1, .f32⟩
  | .hbm, ⟨21, _⟩ => ⟨S_, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S32x2048x1024, .f32⟩
  | .hbm, ⟨27, _⟩ => ⟨S_, .f32⟩
  | .hbm, ⟨28, _⟩ => ⟨S32x2048, .f32⟩
  | .hbm, ⟨29, _⟩ => ⟨S32x2048x1, .f32⟩
  | .hbm, ⟨30, _⟩ => ⟨S_, .f32⟩
  | .hbm, ⟨31, _⟩ => ⟨S32x2048x1, .f32⟩
  | .hbm, ⟨32, _⟩ => ⟨S32x2048x1, .f32⟩
  | .hbm, ⟨33, _⟩ => ⟨S_, .f32⟩
  | .hbm, ⟨34, _⟩ => ⟨S32x2048x1, .f32⟩
  | .hbm, ⟨35, _⟩ => ⟨S32x2048x1, .f32⟩
  | .hbm, ⟨36, _⟩ => ⟨S32x2048x1, .f32⟩
  | .hbm, ⟨37, _⟩ => ⟨S32x2048x1024, .f32⟩
  | .hbm, ⟨38, _⟩ => ⟨S32x2048x1024, .f32⟩
  | .hbm, ⟨39, _⟩ => ⟨S1x1x1024, .f32⟩
  | .hbm, ⟨40, _⟩ => ⟨S32x2048x1024, .f32⟩
  | .hbm, ⟨41, _⟩ => ⟨S32x2048x1024, .f32⟩
  | .hbm, ⟨42, _⟩ => ⟨S1x1x1024, .f32⟩
  | .hbm, ⟨43, _⟩ => ⟨S32x2048x1024, .f32⟩
  | .hbm, ⟨44, _⟩ => ⟨S32x2048x1024, .f32⟩
  | _, _ => ⟨S32x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== GlaIn.lean ====
abbrev S32x2048x1024 : Shape := ⟨3, ![32, 2048, 1024]⟩
abbrev S32x1x1024 : Shape := ⟨3, ![32, 1, 1024]⟩
abbrev S1024x3072 : Shape := ⟨2, ![1024, 3072]⟩
abbrev S2x1024x16 : Shape := ⟨3, ![2, 1024, 16]⟩
abbrev S1x1024x16 : Shape := ⟨3, ![1, 1024, 16]⟩
abbrev S1024x16 : Shape := ⟨2, ![1024, 16]⟩
abbrev S1024x3104 : Shape := ⟨2, ![1024, 3104]⟩
abbrev S65536x1024 : Shape := ⟨2, ![65536, 1024]⟩
abbrev S_ : Shape := ⟨0, ![]⟩
abbrev S1024x3200 : Shape := ⟨2, ![1024, 3200]⟩
abbrev S65536x3200 : Shape := ⟨2, ![65536, 3200]⟩
abbrev S1024x1024 : Shape := ⟨2, ![1024, 1024]⟩
abbrev S1024x640 : Shape := ⟨2, ![1024, 640]⟩
abbrev S1x1x1024 : Shape := ⟨3, ![1, 1, 1024]⟩
abbrev S1x1024 : Shape := ⟨2, ![1, 1024]⟩
abbrev S32x2048x3200 : Shape := ⟨3, ![32, 2048, 3200]⟩

abbrev nBuf : Space → Nat
  | .hbm => 17
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x3072, .f32⟩
  | .hbm, ⟨4, _⟩ => ⟨S2x1024x16, .f32⟩
  | .hbm, ⟨5, _⟩ => ⟨S1x1024x16, .f32⟩
  | .hbm, ⟨6, _⟩ => ⟨S1024x16, .f32⟩
  | .hbm, ⟨7, _⟩ => ⟨S1x1024x16, .f32⟩
  | .hbm, ⟨8, _⟩ => ⟨S1024x16, .f32⟩
  | .hbm, ⟨9, _⟩ => ⟨S1024x3104, .f32⟩
  | .hbm, ⟨10, _⟩ => ⟨S65536x1024, .f32⟩
  | .hbm, ⟨11, _⟩ => ⟨S1024x3104, .bf16⟩
  | .hbm, ⟨12, _⟩ => ⟨S_, .i32⟩
  | .hbm, ⟨13, _⟩ => ⟨S_, .bf16⟩
  | .hbm, ⟨14, _⟩ => ⟨S1024x3200, .bf16⟩
  | .hbm, ⟨15, _⟩ => ⟨S65536x3200, .bf16⟩
  | .hbm, ⟨16, _⟩ => ⟨S32x2048x3200, .bf16⟩
  | .local _ .vmem, ⟨0, _⟩ => ⟨S1024x1024, .f32⟩
  | .local _ .vmem, ⟨1, _⟩ => ⟨S1024x1024, .f32⟩
  | .local _ .vmem, ⟨2, _⟩ => ⟨S1024x640, .bf16⟩
  | .local _ .vmem, ⟨3, _⟩ => ⟨S1024x640, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x640, .bf16⟩
  | .local _ .vmem, ⟨9, _⟩ => ⟨S1024x640, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![64, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GlaInIdeal.lean ====
abbrev S32x2048x1024 : Shape := ⟨3, ![32, 2048, 1024]⟩
abbrev S32x1x1024 : Shape := ⟨3, ![32, 1, 1024]⟩
abbrev S1024x3072 : Shape := ⟨2, ![1024, 3072]⟩
abbrev S2x1024x16 : Shape := ⟨3, ![2, 1024, 16]⟩
abbrev S1x1024x16 : Shape := ⟨3, ![1, 1024, 16]⟩
abbrev S1024x16 : Shape := ⟨2, ![1024, 16]⟩
abbrev S1024x3104 : Shape := ⟨2, ![1024, 3104]⟩
abbrev S65536x1024 : Shape := ⟨2, ![65536, 1024]⟩
abbrev S_ : Shape := ⟨0, ![]⟩
abbrev S1024x3200 : Shape := ⟨2, ![1024, 3200]⟩
abbrev S65536x3200 : Shape := ⟨2, ![65536, 3200]⟩
abbrev S1024x1024 : Shape := ⟨2, ![1024, 1024]⟩
abbrev S1024x640 : Shape := ⟨2, ![1024, 640]⟩
abbrev S1x1x1024 : Shape := ⟨3, ![1, 1, 1024]⟩
abbrev S1x1024 : Shape := ⟨2, ![1, 1024]⟩
abbrev S32x2048x3200 : Shape := ⟨3, ![32, 2048, 3200]⟩

abbrev nBuf : Space → Nat
  | .hbm => 17
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x3072, .f32⟩
  | .hbm, ⟨4, _⟩ => ⟨S2x1024x16, .f32⟩
  | .hbm, ⟨5, _⟩ => ⟨S1x1024x16, .f32⟩
  | .hbm, ⟨6, _⟩ => ⟨S1024x16, .f32⟩
  | .hbm, ⟨7, _⟩ => ⟨S1x1024x16, .f32⟩
  | .hbm, ⟨8, _⟩ => ⟨S1024x16, .f32⟩
  | .hbm, ⟨9, _⟩ => ⟨S1024x3104, .f32⟩
  | .hbm, ⟨10, _⟩ => ⟨S65536x1024, .f32⟩
  | .hbm, ⟨11, _⟩ => ⟨S1024x3104, .bf16⟩
  | .hbm, ⟨12, _⟩ => ⟨S_, .i32⟩
  | .hbm, ⟨13, _⟩ => ⟨S_, .bf16⟩
  | .hbm, ⟨14, _⟩ => ⟨S1024x3200, .bf16⟩
  | .hbm, ⟨15, _⟩ => ⟨S65536x3200, .bf16⟩
  | .hbm, ⟨16, _⟩ => ⟨S32x2048x3200, .bf16⟩
  | .local _ .vmem, ⟨0, _⟩ => ⟨S1024x1024, .f32⟩
  | .local _ .vmem, ⟨1, _⟩ => ⟨S1024x1024, .f32⟩
  | .local _ .vmem, ⟨2, _⟩ => ⟨S1024x640, .bf16⟩
  | .local _ .vmem, ⟨3, _⟩ => ⟨S1024x640, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x640, .bf16⟩
  | .local _ .vmem, ⟨9, _⟩ => ⟨S1024x640, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![64, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== GlaInRefIdeal.lean ====
abbrev S32x2048x1024 : Shape := ⟨3, ![32, 2048, 1024]⟩
abbrev S32x1x1024 : Shape := ⟨3, ![32, 1, 1024]⟩
abbrev S1024x3072 : Shape := ⟨2, ![1024, 3072]⟩
abbrev S2x1024x16 : Shape := ⟨3, ![2, 1024, 16]⟩
abbrev S_ : Shape := ⟨0, ![]⟩
abbrev S32x2048x3072 : Shape := ⟨3, ![32, 2048, 3072]⟩
abbrev S1x1024x16 : Shape := ⟨3, ![1, 1024, 16]⟩
abbrev S1024x16 : Shape := ⟨2, ![1024, 16]⟩
abbrev S32x2048x16 : Shape := ⟨3, ![32, 2048, 16]⟩
abbrev S32x2048x3104 : Shape := ⟨3, ![32, 2048, 3104]⟩
abbrev S32x2048x3200 : Shape := ⟨3, ![32, 2048, 3200]⟩

abbrev nBuf : Space → Nat
  | .hbm => 24
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x3072, .f32⟩
  | .hbm, ⟨4, _⟩ => ⟨S2x1024x16, .f32⟩
  | .hbm, ⟨5, _⟩ => ⟨S_, .f32⟩
  | .hbm, ⟨6, _⟩ => ⟨S32x1x1024, .f32⟩
  | .hbm, ⟨7, _⟩ => ⟨S32x1x1024, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x1024, .f32⟩
  | .hbm, ⟨12, _⟩ => ⟨S32x2048x3072, .f32⟩
  | .hbm, ⟨13, _⟩ => ⟨S1x1024x16, .f32⟩
  | .hbm, ⟨14, _⟩ => ⟨S1024x16, .f32⟩
  | .hbm, ⟨15, _⟩ => ⟨S32x2048x16, .f32⟩
  | .hbm, ⟨16, _⟩ => ⟨S1x1024x16, .f32⟩
  | .hbm, ⟨17, _⟩ => ⟨S1024x16, .f32⟩
  | .hbm, ⟨18, _⟩ => ⟨S32x2048x16, .f32⟩
  | .hbm, ⟨19, _⟩ => ⟨S32x2048x3104, .f32⟩
  | .hbm, ⟨20, _⟩ => ⟨S_, .i32⟩
  | .hbm, ⟨21, _⟩ => ⟨S_, .f32⟩
  | .hbm, ⟨22, _⟩ => ⟨S32x2048x3200, .f32⟩
  | .hbm, ⟨23, _⟩ => ⟨S32x2048x3200, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== DeltaIn.lean ====
abbrev S32x2048x1024 : Shape := ⟨3, ![32, 2048, 1024]⟩
abbrev S32x1x1024 : Shape := ⟨3, ![32, 1, 1024]⟩
abbrev S1024x4128 : Shape := ⟨2, ![1024, 4128]⟩
abbrev S65536x1024 : Shape := ⟨2, ![65536, 1024]⟩
abbrev S_ : Shape := ⟨0, ![]⟩
abbrev S1024x4224 : Shape := ⟨2, ![1024, 4224]⟩
abbrev S65536x4224 : Shape := ⟨2, ![65536, 4224]⟩
abbrev S1024x1024 : Shape := ⟨2, ![1024, 1024]⟩
abbrev S1024x1408 : Shape := ⟨2, ![1024, 1408]⟩
abbrev S1x1x1024 : Shape := ⟨3, ![1, 1, 1024]⟩
abbrev S1x1024 : Shape := ⟨2, ![1, 1024]⟩
abbrev S32x2048x4224 : Shape := ⟨3, ![32, 2048, 4224]⟩

abbrev nBuf : Space → Nat
  | .hbm => 11
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x4128, .f32⟩
  | .hbm, ⟨4, _⟩ => ⟨S65536x1024, .f32⟩
  | .hbm, ⟨5, _⟩ => ⟨S1024x4128, .bf16⟩
  | .hbm, ⟨6, _⟩ => ⟨S_, .i32⟩
  | .hbm, ⟨7, _⟩ => ⟨S_, .bf16⟩
  | .hbm, ⟨8, _⟩ => ⟨S1024x4224, .bf16⟩
  | .hbm, ⟨9, _⟩ => ⟨S65536x4224, .f32⟩
  | .hbm, ⟨10, _⟩ => ⟨S32x2048x4224, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1408, .f32⟩
  | .local _ .vmem, ⟨9, _⟩ => ⟨S1024x1408, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![64, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DeltaInIdeal.lean ====
abbrev S32x2048x1024 : Shape := ⟨3, ![32, 2048, 1024]⟩
abbrev S32x1x1024 : Shape := ⟨3, ![32, 1, 1024]⟩
abbrev S1024x4128 : Shape := ⟨2, ![1024, 4128]⟩
abbrev S65536x1024 : Shape := ⟨2, ![65536, 1024]⟩
abbrev S_ : Shape := ⟨0, ![]⟩
abbrev S1024x4224 : Shape := ⟨2, ![1024, 4224]⟩
abbrev S65536x4224 : Shape := ⟨2, ![65536, 4224]⟩
abbrev S1024x1024 : Shape := ⟨2, ![1024, 1024]⟩
abbrev S1024x1408 : Shape := ⟨2, ![1024, 1408]⟩
abbrev S1x1x1024 : Shape := ⟨3, ![1, 1, 1024]⟩
abbrev S1x1024 : Shape := ⟨2, ![1, 1024]⟩
abbrev S32x2048x4224 : Shape := ⟨3, ![32, 2048, 4224]⟩

abbrev nBuf : Space → Nat
  | .hbm => 11
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x4128, .f32⟩
  | .hbm, ⟨4, _⟩ => ⟨S65536x1024, .f32⟩
  | .hbm, ⟨5, _⟩ => ⟨S1024x4128, .bf16⟩
  | .hbm, ⟨6, _⟩ => ⟨S_, .i32⟩
  | .hbm, ⟨7, _⟩ => ⟨S_, .bf16⟩
  | .hbm, ⟨8, _⟩ => ⟨S1024x4224, .bf16⟩
  | .hbm, ⟨9, _⟩ => ⟨S65536x4224, .f32⟩
  | .hbm, ⟨10, _⟩ => ⟨S32x2048x4224, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1408, .f32⟩
  | .local _ .vmem, ⟨9, _⟩ => ⟨S1024x1408, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![64, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== DeltaInRefIdeal.lean ====
abbrev S32x2048x1024 : Shape := ⟨3, ![32, 2048, 1024]⟩
abbrev S32x1x1024 : Shape := ⟨3, ![32, 1, 1024]⟩
abbrev S1024x4128 : Shape := ⟨2, ![1024, 4128]⟩
abbrev S_ : Shape := ⟨0, ![]⟩
abbrev S32x2048x4128 : Shape := ⟨3, ![32, 2048, 4128]⟩
abbrev S32x2048x4224 : Shape := ⟨3, ![32, 2048, 4224]⟩

abbrev nBuf : Space → Nat
  | .hbm => 15
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x4128, .f32⟩
  | .hbm, ⟨4, _⟩ => ⟨S_, .f32⟩
  | .hbm, ⟨5, _⟩ => ⟨S32x1x1024, .f32⟩
  | .hbm, ⟨6, _⟩ => ⟨S32x1x1024, .f32⟩
  | .hbm, ⟨7, _⟩ => ⟨S32x2048x1024, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x4128, .f32⟩
  | .hbm, ⟨12, _⟩ => ⟨S_, .i32⟩
  | .hbm, ⟨13, _⟩ => ⟨S_, .f32⟩
  | .hbm, ⟨14, _⟩ => ⟨S32x2048x4224, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== HyenaIn.lean ====
abbrev S32x2048x1024 : Shape := ⟨3, ![32, 2048, 1024]⟩
abbrev S32x1x1024 : Shape := ⟨3, ![32, 1, 1024]⟩
abbrev S1024x3072 : Shape := ⟨2, ![1024, 3072]⟩
abbrev S65536x1024 : Shape := ⟨2, ![65536, 1024]⟩
abbrev S65536x3072 : Shape := ⟨2, ![65536, 3072]⟩
abbrev S1024x1024 : Shape := ⟨2, ![1024, 1024]⟩
abbrev S1x1x1024 : Shape := ⟨3, ![1, 1, 1024]⟩
abbrev S1x1024 : Shape := ⟨2, ![1, 1024]⟩
abbrev S32x2048x3072 : Shape := ⟨3, ![32, 2048, 3072]⟩

abbrev nBuf : Space → Nat
  | .hbm => 8
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x3072, .f32⟩
  | .hbm, ⟨4, _⟩ => ⟨S65536x1024, .f32⟩
  | .hbm, ⟨5, _⟩ => ⟨S1024x3072, .bf16⟩
  | .hbm, ⟨6, _⟩ => ⟨S65536x3072, .bf16⟩
  | .hbm, ⟨7, _⟩ => ⟨S32x2048x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![64, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== HyenaInIdeal.lean ====
abbrev S32x2048x1024 : Shape := ⟨3, ![32, 2048, 1024]⟩
abbrev S32x1x1024 : Shape := ⟨3, ![32, 1, 1024]⟩
abbrev S1024x3072 : Shape := ⟨2, ![1024, 3072]⟩
abbrev S65536x1024 : Shape := ⟨2, ![65536, 1024]⟩
abbrev S65536x3072 : Shape := ⟨2, ![65536, 3072]⟩
abbrev S1024x1024 : Shape := ⟨2, ![1024, 1024]⟩
abbrev S1x1x1024 : Shape := ⟨3, ![1, 1, 1024]⟩
abbrev S1x1024 : Shape := ⟨2, ![1, 1024]⟩
abbrev S32x2048x3072 : Shape := ⟨3, ![32, 2048, 3072]⟩

abbrev nBuf : Space → Nat
  | .hbm => 8
  | .vmem => 10
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x3072, .f32⟩
  | .hbm, ⟨4, _⟩ => ⟨S65536x1024, .f32⟩
  | .hbm, ⟨5, _⟩ => ⟨S1024x3072, .bf16⟩
  | .hbm, ⟨6, _⟩ => ⟨S65536x3072, .bf16⟩
  | .hbm, ⟨7, _⟩ => ⟨S32x2048x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1024x1024, .bf16⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![64, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== HyenaInRefIdeal.lean ====
abbrev S32x2048x1024 : Shape := ⟨3, ![32, 2048, 1024]⟩
abbrev S32x1x1024 : Shape := ⟨3, ![32, 1, 1024]⟩
abbrev S1024x3072 : Shape := ⟨2, ![1024, 3072]⟩
abbrev S_ : Shape := ⟨0, ![]⟩
abbrev S32x2048x3072 : Shape := ⟨3, ![32, 2048, 3072]⟩

abbrev nBuf : Space → Nat
  | .hbm => 13
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x1x1024, .f32⟩
  | .hbm, ⟨2, _⟩ => ⟨S32x1x1024, .f32⟩
  | .hbm, ⟨3, _⟩ => ⟨S1024x3072, .f32⟩
  | .hbm, ⟨4, _⟩ => ⟨S_, .f32⟩
  | .hbm, ⟨5, _⟩ => ⟨S32x1x1024, .f32⟩
  | .hbm, ⟨6, _⟩ => ⟨S32x1x1024, .f32⟩
  | .hbm, ⟨7, _⟩ => ⟨S32x2048x1024, .f32⟩
  | .hbm, ⟨8, _⟩ => ⟨S32x2048x1024, .f32⟩
  | .hbm, ⟨9, _⟩ => ⟨S32x2048x1024, .f32⟩
  | .hbm, ⟨10, _⟩ => ⟨S32x2048x1024, .f32⟩
  | .hbm, ⟨11, _⟩ => ⟨S32x2048x3072, .f32⟩
  | .hbm, ⟨12, _⟩ => ⟨S32x2048x3072, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== CtxKernel.lean ====
abbrev S8192x1024 : Shape := ⟨2, ![8192, 1024]⟩
abbrev S8192x8 : Shape := ⟨2, ![8192, 8]⟩
abbrev S8x1024x7168 : Shape := ⟨3, ![8, 1024, 7168]⟩
abbrev S8x3584x1024 : Shape := ⟨3, ![8, 3584, 1024]⟩
abbrev S8192x2 : Shape := ⟨2, ![8192, 2]⟩
abbrev S_ : Shape := ⟨0, ![]⟩
abbrev S8192 : Shape := ⟨1, ![8192]⟩
abbrev S8192x1 : Shape := ⟨2, ![8192, 1]⟩
abbrev S16384 : Shape := ⟨1, ![16384]⟩
abbrev S16384x1 : Shape := ⟨2, ![16384, 1]⟩
abbrev S8 : Shape := ⟨1, ![8]⟩
abbrev S1x8 : Shape := ⟨2, ![1, 8]⟩
abbrev S16384x8 : Shape := ⟨2, ![16384, 8]⟩
abbrev S20480 : Shape := ⟨1, ![20480]⟩
abbrev S40 : Shape := ⟨1, ![40]⟩
abbrev S40x1 : Shape := ⟨2, ![40, 1]⟩
abbrev S40x8 : Shape := ⟨2, ![40, 8]⟩
abbrev S20480x1 : Shape := ⟨2, ![20480, 1]⟩
abbrev S20480x1024 : Shape := ⟨2, ![20480, 1024]⟩
abbrev S512x1024 : Shape := ⟨2, ![512, 1024]⟩
abbrev S1x1024x1792 : Shape := ⟨3, ![1, 1024, 1792]⟩
abbrev S1 : Shape := ⟨1, ![1]⟩
abbrev S1x1792x1024 : Shape := ⟨3, ![1, 1792, 1024]⟩
abbrev S512x1 : Shape := ⟨2, ![512, 1]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 168
  | .vmem => 13
  | .smem => 1
  | _ => 0

abbrev hbmTy0_0 (i : Nat) : BufTy := match i % 128 with
  | 0 => ⟨S8192x1024, .bf16⟩
  | 1 => ⟨S8192x8, .f32⟩
  | 2 => ⟨S8x1024x7168, .f32⟩
  | 3 => ⟨S8x3584x1024, .f32⟩
  | 4 => ⟨S8192x2, .f32⟩
  | 5 => ⟨S8192x2, .i32⟩
  | 6 => ⟨S_, .f32⟩
  | 7 => ⟨S8192, .f32⟩
  | 8 => ⟨S_, .f32⟩
  | 9 => ⟨S8192, .f32⟩
  | 10 => ⟨S8192, .f32⟩
  | 11 => ⟨S8192x1, .f32⟩
  | 12 => ⟨S8192x2, .f32⟩
  | 13 => ⟨S8192x2, .f32⟩
  | 14 => ⟨S8192x2, .f32⟩
  | 15 => ⟨S_, .f32⟩
  | 16 => ⟨S8192, .f32⟩
  | 17 => ⟨S8192x1, .f32⟩
  | 18 => ⟨S8192x2, .f32⟩
  | 19 => ⟨S8192x2, .f32⟩
  | 20 => ⟨S16384, .i32⟩
  | 21 => ⟨S16384x1, .i32⟩
  | 22 => ⟨S8, .i32⟩
  | 23 => ⟨S1x8, .i32⟩
  | 24 => ⟨S16384x8, .i32⟩
  | 25 => ⟨S16384x8, .i32⟩
  | 26 => ⟨S16384x8, .i1⟩
  | 27 => ⟨S16384x8, .i32⟩
  | 28 => ⟨S_, .i32⟩
  | 29 => ⟨S_, .i32⟩
  | 30 => ⟨S16384x8, .i32⟩
  | 31 => ⟨S16384x8, .i32⟩
  | 32 => ⟨S16384x8, .i32⟩
  | 33 => ⟨S_, .i32⟩
  | 34 => ⟨S16384, .i32⟩
  | 35 => ⟨S_, .i32⟩
  | 36 => ⟨S8, .i32⟩
  | 37 => ⟨S_, .i32⟩
  | 38 => ⟨S8, .i32⟩
  | 39 => ⟨S8, .i32⟩
  | 40 => ⟨S_, .i32⟩
  | 41 => ⟨S8, .i32⟩
  | 42 => ⟨S8, .i32⟩
  | 43 => ⟨S_, .i32⟩
  | 44 => ⟨S_, .i32⟩
  | 45 => ⟨S8, .i32⟩
  | 46 => ⟨S8, .i32⟩
  | 47 => ⟨S8, .i32⟩
  | 48 => ⟨S_, .i32⟩
  | 49 => ⟨S8, .i32⟩
  | 50 => ⟨S8, .i1⟩
  | 51 => ⟨S8, .i32⟩
  | 52 => ⟨S8, .i32⟩
  | 53 => ⟨S_, .i32⟩
  | 54 => ⟨S8, .i32⟩
  | 55 => ⟨S8, .i1⟩
  | 56 => ⟨S8, .i1⟩
  | 57 => ⟨S_, .i32⟩
  | 58 => ⟨S8, .i32⟩
  | 59 => ⟨S8, .i32⟩
  | 60 => ⟨S8, .i32⟩
  | 61 => ⟨S_, .i32⟩
  | 62 => ⟨S8, .i32⟩
  | 63 => ⟨S8, .i32⟩
  | 64 => ⟨S_, .i32⟩
  | 65 => ⟨S_, .i32⟩
  | 66 => ⟨S8, .i32⟩
  | 67 => ⟨S8, .i32⟩
  | 68 => ⟨S_, .i32⟩
  | 69 => ⟨S16384, .i32⟩
  | 70 => ⟨S16384, .i1⟩
  | 71 => ⟨S_, .i32⟩
  | 72 => ⟨S16384, .i32⟩
  | 73 => ⟨S16384, .i32⟩
  | 74 => ⟨S16384, .i32⟩
  | 75 => ⟨S16384x1, .i32⟩
  | 76 => ⟨S16384, .i32⟩
  | 77 => ⟨S16384, .i32⟩
  | 78 => ⟨S_, .i32⟩
  | 79 => ⟨S20480, .i32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S20480, .i32⟩
  | 90 => ⟨S40, .i32⟩
  | 91 => ⟨S_, .i32⟩
  | 92 => ⟨S40, .i32⟩
  | 93 => ⟨S40, .i32⟩
  | 94 => ⟨S1x8, .i32⟩
  | 95 => ⟨S40x1, .i32⟩
  | 96 => ⟨S40x8, .i32⟩
  | 97 => ⟨S40x8, .i32⟩
  | 98 => ⟨S40x8, .i1⟩
  | 99 => ⟨S40x8, .i32⟩
  | 100 => ⟨S_, .i32⟩
  | 101 => ⟨S40, .i32⟩
  | 102 => ⟨S_, .i32⟩
  | 103 => ⟨S40, .i32⟩
  | 104 => ⟨S_, .i32⟩
  | 105 => ⟨S_, .i32⟩
  | 106 => ⟨S20480, .i32⟩
  | 107 => ⟨S20480, .i32⟩
  | 108 => ⟨S20480, .i32⟩
  | 109 => ⟨S_, .i32⟩
  | 110 => ⟨S20480, .i32⟩
  | 111 => ⟨S20480, .i1⟩
  | 112 => ⟨S20480, .i32⟩
  | 113 => ⟨S20480, .i32⟩
  | 114 => ⟨S_, .i32⟩
  | 115 => ⟨S20480, .i32⟩
  | 116 => ⟨S20480, .i1⟩
  | 117 => ⟨S20480, .i1⟩
  | 118 => ⟨S_, .i32⟩
  | 119 => ⟨S20480, .i32⟩
  | 120 => ⟨S20480, .i32⟩
  | 121 => ⟨S20480, .i32⟩
  | 122 => ⟨S_, .i32⟩
  | 123 => ⟨S20480, .i32⟩
  | 124 => ⟨S20480, .i1⟩
  | 125 => ⟨S_, .i32⟩
  | 126 => ⟨S20480, .i32⟩
  | 127 => ⟨S20480, .i32⟩
  | _ => ⟨S8192x1024, .bf16⟩

abbrev hbmTy0_1 (i : Nat) : BufTy := match i % 128 with
  | 0 => ⟨S20480, .i32⟩
  | 1 => ⟨S20480x1, .i32⟩
  | 2 => ⟨S20480x1024, .bf16⟩
  | 3 => ⟨S16384, .f32⟩
  | 4 => ⟨S_, .i32⟩
  | 5 => ⟨S20480, .i32⟩
  | 6 => ⟨S20480, .i1⟩
  | 7 => ⟨S_, .i32⟩
  | 8 => ⟨S20480, .i32⟩
  | 9 => ⟨S20480, .i32⟩
  | 10 => ⟨S20480, .i32⟩
  | 11 => ⟨S20480x1, .i32⟩
  | 12 => ⟨S20480, .f32⟩
  | 13 => ⟨S20480x1, .f32⟩
  | 14 => ⟨S8x1024x7168, .bf16⟩
  | 15 => ⟨S8x3584x1024, .bf16⟩
  | 16 => ⟨S20480x1024, .bf16⟩
  | 17 => ⟨S8192x2, .i32⟩
  | 18 => ⟨S8192x1, .i32⟩
  | 19 => ⟨S8192, .i32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x1024, .bf16⟩
  | 29 => ⟨S8192x1, .i32⟩
  | 30 => ⟨S8192, .i32⟩
  | 31 => ⟨S_, .i32⟩
  | 32 => ⟨S8192, .i32⟩
  | 33 => ⟨S8192, .i1⟩
  | 34 => ⟨S_, .i32⟩
  | 35 => ⟨S8192, .i32⟩
  | 36 => ⟨S8192, .i32⟩
  | 37 => ⟨S8192, .i32⟩
  | 38 => ⟨S8192x1, .i32⟩
  | 39 => ⟨S8192x1024, .bf16⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1, .f32⟩
  | .local _ .vmem, ⟨9, _⟩ => ⟨S512x1, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .smem, ⟨0, _⟩ => ⟨S40, .i32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_call0_c : Ref sig .tc := ⟨.hbm, 28, rfl⟩
abbrev main_call0_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v28 : Ref sig .tc := ⟨.hbm, 60, rfl⟩
abbrev main_c_6 : Ref sig .tc := ⟨.hbm, 61, rfl⟩
abbrev main_v29 : Ref sig .tc := ⟨.hbm, 62, rfl⟩
abbrev main_v30 : Ref sig .tc := ⟨.hbm, 63, rfl⟩
abbrev main_call2_call0_c : Ref sig .tc := ⟨.hbm, 64, rfl⟩
abbrev main_call2_call0_v0 : Ref sig .tc := ⟨.hbm, 65, rfl⟩
abbrev main_v31 : Ref sig .tc := ⟨.hbm, 66, rfl⟩
abbrev main_v32 : Ref sig .tc := ⟨.hbm, 67, rfl⟩
abbrev main_c_7 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_c_9 : Ref sig .tc := ⟨.hbm, 78, rfl⟩
abbrev main_v41 : Ref sig .tc := ⟨.hbm, 79, rfl⟩
abbrev main_v42 : Ref sig .tc := ⟨.hbm, 80, rfl⟩
abbrev main_c_10 : Ref sig .tc := ⟨.hbm, 81, rfl⟩
abbrev main_v43 : Ref sig .tc := ⟨.hbm, 82, rfl⟩
abbrev main_v44 : Ref sig .tc := ⟨.hbm, 83, rfl⟩
abbrev main_c_11 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_12 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_c_13 : Ref sig .tc := ⟨.hbm, 100, rfl⟩
abbrev main_v59 : Ref sig .tc := ⟨.hbm, 101, rfl⟩
abbrev main_c_14 : Ref sig .tc := ⟨.hbm, 102, rfl⟩
abbrev main_v60 : Ref sig .tc := ⟨.hbm, 103, rfl⟩
abbrev main_c_15 : Ref sig .tc := ⟨.hbm, 104, rfl⟩
abbrev main_call3_v0 : Ref sig .tc := ⟨.hbm, 105, rfl⟩
abbrev main_call3_v1 : Ref sig .tc := ⟨.hbm, 106, rfl⟩
abbrev main_call3_v2 : Ref sig .tc := ⟨.hbm, 107, rfl⟩
abbrev main_call3_v3 : Ref sig .tc := ⟨.hbm, 108, rfl⟩
abbrev main_call3_v4 : Ref sig .tc := ⟨.hbm, 109, rfl⟩
abbrev main_call3_v5 : Ref sig .tc := ⟨.hbm, 110, rfl⟩
abbrev main_call3_v6 : Ref sig .tc := ⟨.hbm, 111, rfl⟩
abbrev main_call3_v7 : Ref sig .tc := ⟨.hbm, 112, rfl⟩
abbrev main_call3_v8 : Ref sig .tc := ⟨.hbm, 113, rfl⟩
abbrev main_call3_c : Ref sig .tc := ⟨.hbm, 114, rfl⟩
abbrev main_call3_v9 : Ref sig .tc := ⟨.hbm, 115, rfl⟩
abbrev main_call3_v10 : Ref sig .tc := ⟨.hbm, 116, rfl⟩
abbrev main_call3_v11 : Ref sig .tc := ⟨.hbm, 117, rfl⟩
abbrev main_call3_c_0 : Ref sig .tc := ⟨.hbm, 118, rfl⟩
abbrev main_call3_v12 : Ref sig .tc := ⟨.hbm, 119, rfl⟩
abbrev main_call3_v13 : Ref sig .tc := ⟨.hbm, 120, rfl⟩
abbrev main_v62 : Ref sig .tc := ⟨.hbm, 121, rfl⟩
abbrev main_c_16 : Ref sig .tc := ⟨.hbm, 122, rfl⟩
abbrev main_v63 : Ref sig .tc := ⟨.hbm, 123, rfl⟩
abbrev main_v64 : Ref sig .tc := ⟨.hbm, 124, rfl⟩
abbrev main_c_17 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_c_18 : Ref sig .tc := ⟨.hbm, 132, rfl⟩
abbrev main_v71 : Ref sig .tc := ⟨.hbm, 133, rfl⟩
abbrev main_v72 : Ref sig .tc := ⟨.hbm, 134, rfl⟩
abbrev main_c_19 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_c_20 : Ref sig .tc := ⟨.hbm, 148, rfl⟩
abbrev main_v85 : Ref sig .tc := ⟨.hbm, 149, rfl⟩
abbrev main_v86 : Ref sig .tc := ⟨.hbm, 150, rfl⟩
abbrev main_c_21 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_c_22 : Ref sig .tc := ⟨.hbm, 159, rfl⟩
abbrev main_v94 : Ref sig .tc := ⟨.hbm, 160, rfl⟩
abbrev main_v95 : Ref sig .tc := ⟨.hbm, 161, rfl⟩
abbrev main_c_23 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v61 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![40, 2], ![false, false]⟩

abbrev pre0 : Pipeline.Prefetch sig := ⟨1, ![main_v61.idx], fun | 0 => main_v61.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c2_i32 : BitVec 32 := 2#32
  let v2 : BitVec 32 := Scalar.addi arg1 c2_i32
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S40) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== CtxReferenceIdeal.lean ====
abbrev S8192x1024 : Shape := ⟨2, ![8192, 1024]⟩
abbrev S8192x8 : Shape := ⟨2, ![8192, 8]⟩
abbrev S8x1024x7168 : Shape := ⟨3, ![8, 1024, 7168]⟩
abbrev S8x3584x1024 : Shape := ⟨3, ![8, 3584, 1024]⟩
abbrev S8192x2 : Shape := ⟨2, ![8192, 2]⟩
abbrev S_ : Shape := ⟨0, ![]⟩
abbrev S8192 : Shape := ⟨1, ![8192]⟩
abbrev S8192x1 : Shape := ⟨2, ![8192, 1]⟩
abbrev S8x7168x8192 : Shape := ⟨3, ![8, 7168, 8192]⟩
abbrev S8x8192x7168 : Shape := ⟨3, ![8, 8192, 7168]⟩
abbrev S8x8192x3584 : Shape := ⟨3, ![8, 8192, 3584]⟩
abbrev S8x8192x1024 : Shape := ⟨3, ![8, 8192, 1024]⟩
abbrev S8192x2x1 : Shape := ⟨3, ![8192, 2, 1]⟩
abbrev S1x1x8 : Shape := ⟨3, ![1, 1, 8]⟩
abbrev S8192x2x8 : Shape := ⟨3, ![8192, 2, 8]⟩
abbrev S8192x1024x2 : Shape := ⟨3, ![8192, 1024, 2]⟩
abbrev S2x8192x1024 : Shape := ⟨3, ![2, 8192, 1024]⟩
abbrev S1x8192x1024 : Shape := ⟨3, ![1, 8192, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8, .f32⟩
  | .hbm, ⟨2, _⟩ => ⟨S8x1024x7168, .f32⟩
  | .hbm, ⟨3, _⟩ => ⟨S8x3584x1024, .f32⟩
  | .hbm, ⟨4, _⟩ => ⟨S8192x1024, .f32⟩
  | .hbm, ⟨5, _⟩ => ⟨S8192x2, .f32⟩
  | .hbm, ⟨6, _⟩ => ⟨S8192x2, .i32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S8192x2, .f32⟩
  | .hbm, ⟨14, _⟩ => ⟨S8192x2, .f32⟩
  | .hbm, ⟨15, _⟩ => ⟨S8192x2, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x2, .f32⟩
  | .hbm, ⟨20, _⟩ => ⟨S8192x2, .f32⟩
  | .hbm, ⟨21, _⟩ => ⟨S8x7168x8192, .f32⟩
  | .hbm, ⟨22, _⟩ => ⟨S8x8192x7168, .f32⟩
  | .hbm, ⟨23, _⟩ => ⟨S8x8192x3584, .f32⟩
  | .hbm, ⟨24, _⟩ => ⟨S8x8192x3584, .f32⟩
  | .hbm, ⟨25, _⟩ => ⟨S8x8192x3584, .f32⟩
  | .hbm, ⟨26, _⟩ => ⟨S8x8192x3584, .f32⟩
  | .hbm, ⟨27, _⟩ => ⟨S_, .f32⟩
  | .hbm, ⟨28, _⟩ => ⟨S8x8192x3584, .f32⟩
  | .hbm, ⟨29, _⟩ => ⟨S8x8192x3584, .f32⟩
  | .hbm, ⟨30, _⟩ => ⟨S_, .f32⟩
  | .hbm, ⟨31, _⟩ => ⟨S8x8192x3584, .f32⟩
  | .hbm, ⟨32, _⟩ => ⟨S8x8192x3584, .f32⟩
  | .hbm, ⟨33, _⟩ => ⟨S8x8192x3584, .f32⟩
  | .hbm, ⟨34, _⟩ => ⟨S8x8192x3584, .f32⟩
  | .hbm, ⟨35, _⟩ => ⟨S8x8192x1024, .f32⟩
  | .hbm, ⟨36, _⟩ => ⟨S8192x2x1, .f32⟩
  | .hbm, ⟨37, _⟩ => ⟨S8192x2x1, .i32⟩
  | .hbm, ⟨38, _⟩ => ⟨S1x1x8, .i32⟩
  | .hbm, ⟨39, _⟩ => ⟨S8192x2x8, .i32⟩
  | .hbm, ⟨40, _⟩ => ⟨S8192x2x8, .i32⟩
  | .hbm, ⟨41, _⟩ => ⟨S8192x2x8, .i1⟩
  | .hbm, ⟨42, _⟩ => ⟨S8192x2x8, .f32⟩
  | .hbm, ⟨43, _⟩ => ⟨S8192x2x8, .f32⟩
  | .hbm, ⟨44, _⟩ => ⟨S8192x2x8, .f32⟩
  | .hbm, ⟨45, _⟩ => ⟨S8192x1024x2, .f32⟩
  | .hbm, ⟨46, _⟩ => ⟨S2x8192x1024, .f32⟩
  | .hbm, ⟨47, _⟩ => ⟨S1x8192x1024, .f32⟩
  | .hbm, ⟨48, _⟩ => ⟨S8192x1024, .f32⟩
  | .hbm, ⟨49, _⟩ => ⟨S8192x1024, .bf16⟩
  | .hbm, ⟨50, _⟩ => ⟨S1x8192x1024, .f32⟩
  | .hbm, ⟨51, _⟩ => ⟨S8192x1024, .f32⟩
  | .hbm, ⟨52, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== CtxCombine.lean ====
abbrev S32x256x1024 : Shape := ⟨3, ![32, 256, 1024]⟩
abbrev S8192x1024 : Shape := ⟨2, ![8192, 1024]⟩
abbrev S1x1x1024 : Shape := ⟨3, ![1, 1, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 9
  | .vmem => 12
  | .smem => 0
  | _ => 0

abbrev bufTy : (tb : Table) → Fin (tcTables nBuf tb) → BufTy
  | .hbm, ⟨0, _⟩ => ⟨S32x256x1024, .f32⟩
  | .hbm, ⟨1, _⟩ => ⟨S8192x1024, .bf16⟩
  | .hbm, ⟨2, _⟩ => ⟨S8192x1024, .bf16⟩
  | .hbm, ⟨3, _⟩ => ⟨S1x1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S32x256x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CtxCombineIdeal.lean ====
variable {F : FTy → Type} [FloatOps F] [Named F]
def κ : String → Option EReal := fun
  | "alpha" => some ((Real.sqrt (Real.sqrt 8) : ℝ) : EReal)
  | _ => none
-- ==== CtxCombineRefIdeal.lean ====
abbrev S32x256x1024 : Shape := ⟨3, ![32, 256, 1024]⟩
abbrev S8192x1024 : Shape := ⟨2, ![8192, 1024]⟩
abbrev S1x1x1024 : Shape := ⟨3, ![1, 1, 1024]⟩
abbrev S1x1024 : Shape := ⟨2, ![1, 1024]⟩
abbrev S_ : Shape := ⟨0, ![]⟩
abbrev S1024 : Shape := ⟨1, ![1024]⟩
abbrev S32x256 : Shape := ⟨2, ![32, 256]⟩
abbrev S32x256x1 : Shape := ⟨3, ![32, 256, 1]⟩

abbrev nBuf : Space → Nat
  | .hbm => 47
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S8192x1024, .bf16⟩
  | .hbm, ⟨2, _⟩ => ⟨S8192x1024, .bf16⟩
  | .hbm, ⟨3, _⟩ => ⟨S1x1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S32x256x1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32x256x1024, .f32⟩
  | .hbm, ⟨14, _⟩ => ⟨S32x256x1024, .f32⟩
  | .hbm, ⟨15, _⟩ => ⟨S32x256x1024, .f32⟩
  | .hbm, ⟨16, _⟩ => ⟨S32x256x1024, .f32⟩
  | .hbm, ⟨17, _⟩ => ⟨S32x256x1024, .f32⟩
  | .hbm, ⟨18, _⟩ => ⟨S1024, .f32⟩
  | .hbm, ⟨19, _⟩ => ⟨S1024, .f32⟩
  | .hbm, ⟨20, _⟩ => ⟨S_, .f32⟩
  | .hbm, ⟨21, _⟩ => ⟨S32x256, .f32⟩
  | .hbm, ⟨22, _⟩ => ⟨S32x256x1, .f32⟩
  | .hbm, ⟨23, _⟩ => ⟨S_, .f32⟩
  | .hbm, ⟨24, _⟩ => ⟨S32x256x1, .f32⟩
  | .hbm, ⟨25, _⟩ => ⟨S32x256x1, .f32⟩
  | .hbm, ⟨26, _⟩ => ⟨S32x256x1024, .f32⟩
  | .hbm, ⟨27, _⟩ => ⟨S32x256x1024, .f32⟩
  | .hbm, ⟨28, _⟩ => ⟨S32x256x1024, .f32⟩
  | .hbm, ⟨29, _⟩ => ⟨S_, .f32⟩
  | .hbm, ⟨30, _⟩ => ⟨S32x256, .f32⟩
  | .hbm, ⟨31, _⟩ => ⟨S32x256x1, .f32⟩
  | .hbm, ⟨32, _⟩ => ⟨S_, .f32⟩
  | .hbm, ⟨33, _⟩ => ⟨S32x256x1, .f32⟩
  | .hbm, ⟨34, _⟩ => ⟨S32x256x1, .f32⟩
  | .hbm, ⟨35, _⟩ => ⟨S_, .f32⟩
  | .hbm, ⟨36, _⟩ => ⟨S32x256x1, .f32⟩
  | .hbm, ⟨37, _⟩ => ⟨S32x256x1, .f32⟩
  | .hbm, ⟨38, _⟩ => ⟨S32x256x1, .f32⟩
  | .hbm, ⟨39, _⟩ => ⟨S32x256x1024, .f32⟩
  | .hbm, ⟨40, _⟩ => ⟨S32x256x1024, .f32⟩
  | .hbm, ⟨41, _⟩ => ⟨S1x1x1024, .f32⟩
  | .hbm, ⟨42, _⟩ => ⟨S32x256x1024, .f32⟩
  | .hbm, ⟨43, _⟩ => ⟨S32x256x1024, .f32⟩
  | .hbm, ⟨44, _⟩ => ⟨S1x1x1024, .f32⟩
  | .hbm, ⟨45, _⟩ => ⟨S32x256x1024, .f32⟩
  | .hbm, ⟨46, _⟩ => ⟨S32x256x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== CtxRoute.lean ====
abbrev S32x256x1024 : Shape := ⟨3, ![32, 256, 1024]⟩
abbrev S1x1x1024 : Shape := ⟨3, ![1, 1, 1024]⟩
abbrev S1024x8 : Shape := ⟨2, ![1024, 8]⟩
abbrev S8192x1024 : Shape := ⟨2, ![8192, 1024]⟩
abbrev S_ : Shape := ⟨0, ![]⟩
abbrev S1024x128 : Shape := ⟨2, ![1024, 128]⟩
abbrev S8192x128 : Shape := ⟨2, ![8192, 128]⟩
abbrev S1024x1024 : Shape := ⟨2, ![1024, 1024]⟩
abbrev S1x1024 : Shape := ⟨2, ![1, 1024]⟩
abbrev S8192x8 : Shape := ⟨2, ![8192, 8]⟩

abbrev nBuf : Space → Nat
  | .hbm => 11
  | .vmem => 11
  | .smem => 0
  | _ => 0

abbrev bufTy : (tb : Table) → Fin (tcTables nBuf tb) → BufTy
  | .hbm, ⟨0, _⟩ => ⟨S32x256x1024, .f32⟩
  | .hbm, ⟨1, _⟩ => ⟨S1x1x1024, .f32⟩
  | .hbm, ⟨2, _⟩ => ⟨S1x1x1024, .f32⟩
  | .hbm, ⟨3, _⟩ => ⟨S1024x8, .f32⟩
  | .hbm, ⟨4, _⟩ => ⟨S8192x1024, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S8192x1024, .bf16⟩
  | .hbm, ⟨9, _⟩ => ⟨S8192x128, .f32⟩
  | .hbm, ⟨10, _⟩ => ⟨S8192x8, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CtxRouteRefIdeal.lean ====
abbrev S32x256x1024 : Shape := ⟨3, ![32, 256, 1024]⟩
abbrev S1x1x1024 : Shape := ⟨3, ![1, 1, 1024]⟩
abbrev S1024x8 : Shape := ⟨2, ![1024, 8]⟩
abbrev S_ : Shape := ⟨0, ![]⟩
abbrev S8192x1024 : Shape := ⟨2, ![8192, 1024]⟩
abbrev S8192x8 : Shape := ⟨2, ![8192, 8]⟩

abbrev nBuf : Space → Nat
  | .hbm => 14
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1x1024, .f32⟩
  | .hbm, ⟨2, _⟩ => ⟨S1x1x1024, .f32⟩
  | .hbm, ⟨3, _⟩ => ⟨S1024x8, .f32⟩
  | .hbm, ⟨4, _⟩ => ⟨S_, .f32⟩
  | .hbm, ⟨5, _⟩ => ⟨S1x1x1024, .f32⟩
  | .hbm, ⟨6, _⟩ => ⟨S1x1x1024, .f32⟩
  | .hbm, ⟨7, _⟩ => ⟨S32x256x1024, .f32⟩
  | .hbm, ⟨8, _⟩ => ⟨S32x256x1024, .f32⟩
  | .hbm, ⟨9, _⟩ => ⟨S32x256x1024, .f32⟩
  | .hbm, ⟨10, _⟩ => ⟨S32x256x1024, .f32⟩
  | .hbm, ⟨11, _⟩ => ⟨S8192x1024, .f32⟩
  | .hbm, ⟨12, _⟩ => ⟨S8192x1024, .bf16⟩
  | .hbm, ⟨13, _⟩ => ⟨S8192x8, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== CtxDense.lean ====
abbrev S32x256x1024 : Shape := ⟨3, ![32, 256, 1024]⟩
abbrev S1x1x1024 : Shape := ⟨3, ![1, 1, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S16 : Shape := ⟨1, ![16]⟩
abbrev S8192x1024 : Shape := ⟨2, ![8192, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1x1024x1408 : Shape := ⟨3, ![1, 1024, 1408]⟩
abbrev S1 : Shape := ⟨1, ![1]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 16
  | .vmem => 19
  | .smem => 1
  | _ => 0

abbrev bufTy : (tb : Table) → Fin (tcTables nBuf tb) → BufTy
  | .hbm, ⟨0, _⟩ => ⟨S32x256x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S_, .i32⟩
  | .hbm, ⟨9, _⟩ => ⟨S8192x1024, .f32⟩
  | .hbm, ⟨10, _⟩ => ⟨S1024x5632, .bf16⟩
  | .hbm, ⟨11, _⟩ => ⟨S1x1024x5632, .bf16⟩
  | .hbm, ⟨12, _⟩ => ⟨S2816x1024, .bf16⟩
  | .hbm, ⟨13, _⟩ => ⟨S1x2816x1024, .bf16⟩
  | .hbm, ⟨14, _⟩ => ⟨S8192x1024, .f32⟩
  | .hbm, ⟨15, _⟩ => ⟨S32x256x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .smem, ⟨0, _⟩ => ⟨S16, .i32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![16, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c1_i32 : BitVec 32 := 1#32
  let v34 : BitVec 1 := Scalar.cmpi .eq arg1 c1_i32
  let v35 : BitVec 32 := Scalar.extui v34
  let c0_i32_24 : BitVec 32 := 0#32
  let v36 : BitVec 1 := Scalar.cmpi .ne v35 c0_i32_24
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c2_i32 : BitVec 32 := 2#32
  let v2 : BitVec 32 := Scalar.addi arg1 c2_i32
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== CtxDenseIdeal.lean ====
variable {F : FTy → Type} [FloatOps F] [Named F]
def κ : String → Option EReal := fun
  | "alpha" => some ((Real.sqrt (Real.sqrt 8) : ℝ) : EReal)
  | _ => none
-- ==== CtxDenseRefIdeal.lean ====
abbrev S32x256x1024 : Shape := ⟨3, ![32, 256, 1024]⟩
abbrev S1x1x1024 : Shape := ⟨3, ![1, 1, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S32x256x5632 : Shape := ⟨3, ![32, 256, 5632]⟩
abbrev S32x256x2816 : Shape := ⟨3, ![32, 256, 2816]⟩
abbrev S1024 : Shape := ⟨1, ![1024]⟩
abbrev S32x256 : Shape := ⟨2, ![32, 256]⟩
abbrev S32x256x1 : Shape := ⟨3, ![32, 256, 1]⟩

abbrev nBuf : Space → Nat
  | .hbm => 66
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1x1024, .f32⟩
  | .hbm, ⟨2, _⟩ => ⟨S1x1x1024, .f32⟩
  | .hbm, ⟨3, _⟩ => ⟨S1x1x1024, .f32⟩
  | .hbm, ⟨4, _⟩ => ⟨S1x1024, .f32⟩
  | .hbm, ⟨5, _⟩ => ⟨S1x1024, .f32⟩
  | .hbm, ⟨6, _⟩ => ⟨S1024x5632, .f32⟩
  | .hbm, ⟨7, _⟩ => ⟨S2816x1024, .f32⟩
  | .hbm, ⟨8, _⟩ => ⟨S_, .f32⟩
  | .hbm, ⟨9, _⟩ => ⟨S1x1x1024, .f32⟩
  | .hbm, ⟨10, _⟩ => ⟨S1x1x1024, .f32⟩
  | .hbm, ⟨11, _⟩ => ⟨S32x256x1024, .f32⟩
  | .hbm, ⟨12, _⟩ => ⟨S32x256x1024, .f32⟩
  | .hbm, ⟨13, _⟩ => ⟨S32x256x1024, .f32⟩
  | .hbm, ⟨14, _⟩ => ⟨S32x256x1024, .f32⟩
  | .hbm, ⟨15, _⟩ => ⟨S32x256x5632, .f32⟩
  | .hbm, ⟨16, _⟩ => ⟨S32x256x2816, .f32⟩
  | .hbm, ⟨17, _⟩ => ⟨S32x256x2816, .f32⟩
  | .hbm, ⟨18, _⟩ => ⟨S32x256x2816, .f32⟩
  | .hbm, ⟨19, _⟩ => ⟨S32x256x2816, .f32⟩
  | .hbm, ⟨20, _⟩ => ⟨S_, .f32⟩
  | .hbm, ⟨21, _⟩ => ⟨S32x256x2816, .f32⟩
  | .hbm, ⟨22, _⟩ => ⟨S32x256x2816, .f32⟩
  | .hbm, ⟨23, _⟩ => ⟨S_, .f32⟩
  | .hbm, ⟨24, _⟩ => ⟨S32x256x2816, .f32⟩
  | .hbm, ⟨25, _⟩ => ⟨S32x256x2816, .f32⟩
  | .hbm, ⟨26, _⟩ => ⟨S32x256x2816, .f32⟩
  | .hbm, ⟨27, _⟩ => ⟨S32x256x2816, .f32⟩
  | .hbm, ⟨28, _⟩ => ⟨S32x256x1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S32x256x1024, .f32⟩
  | .hbm, ⟨33, _⟩ => ⟨S32x256x1024, .f32⟩
  | .hbm, ⟨34, _⟩ => ⟨S32x256x1024, .f32⟩
  | .hbm, ⟨35, _⟩ => ⟨S32x256x1024, .f32⟩
  | .hbm, ⟨36, _⟩ => ⟨S32x256x1024, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S32x256, .f32⟩
  | .hbm, ⟨41, _⟩ => ⟨S32x256x1, .f32⟩
  | .hbm, ⟨42, _⟩ => ⟨S_, .f32⟩
  | .hbm, ⟨43, _⟩ => ⟨S32x256x1, .f32⟩
  | .hbm, ⟨44, _⟩ => ⟨S32x256x1, .f32⟩
  | .hbm, ⟨45, _⟩ => ⟨S32x256x1024, .f32⟩
  | .hbm, ⟨46, _⟩ => ⟨S32x256x1024, .f32⟩
  | .hbm, ⟨47, _⟩ => ⟨S32x256x1024, .f32⟩
  | .hbm, ⟨48, _⟩ => ⟨S_, .f32⟩
  | .hbm, ⟨49, _⟩ => ⟨S32x256, .f32⟩
  | .hbm, ⟨50, _⟩ => ⟨S32x256x1, .f32⟩
  | .hbm, ⟨51, _⟩ => ⟨S_, .f32⟩
  | .hbm, ⟨52, _⟩ => ⟨S32x256x1, .f32⟩
  | .hbm, ⟨53, _⟩ => ⟨S32x256x1, .f32⟩
  | .hbm, ⟨54, _⟩ => ⟨S_, .f32⟩
  | .hbm, ⟨55, _⟩ => ⟨S32x256x1, .f32⟩
  | .hbm, ⟨56, _⟩ => ⟨S32x256x1, .f32⟩
  | .hbm, ⟨57, _⟩ => ⟨S32x256x1, .f32⟩
  | .hbm, ⟨58, _⟩ => ⟨S32x256x1024, .f32⟩
  | .hbm, ⟨59, _⟩ => ⟨S32x256x1024, .f32⟩
  | .hbm, ⟨60, _⟩ => ⟨S1x1x1024, .f32⟩
  | .hbm, ⟨61, _⟩ => ⟨S32x256x1024, .f32⟩
  | .hbm, ⟨62, _⟩ => ⟨S32x256x1024, .f32⟩
  | .hbm, ⟨63, _⟩ => ⟨S1x1x1024, .f32⟩
  | .hbm, ⟨64, _⟩ => ⟨S32x256x1024, .f32⟩
  | .hbm, ⟨65, _⟩ => ⟨S32x256x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== CtxOut.lean ====
abbrev S32x256x1024 : Shape := ⟨3, ![32, 256, 1024]⟩
abbrev S1024x1024 : Shape := ⟨2, ![1024, 1024]⟩
abbrev S1x1x1024 : Shape := ⟨3, ![1, 1, 1024]⟩
abbrev S1x1024 : Shape := ⟨2, ![1, 1024]⟩
abbrev S8192x1024 : Shape := ⟨2, ![8192, 1024]⟩
abbrev S1024 : Shape := ⟨1, ![1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S32x256x1024, .bf16⟩
  | .hbm, ⟨1, _⟩ => ⟨S1024x1024, .f32⟩
  | .hbm, ⟨2, _⟩ => ⟨S32x256x1024, .f32⟩
  | .hbm, ⟨3, _⟩ => ⟨S1x1x1024, .f32⟩
  | .hbm, ⟨4, _⟩ => ⟨S1x1024, .f32⟩
  | .hbm, ⟨5, _⟩ => ⟨S1x1024, .f32⟩
  | .hbm, ⟨6, _⟩ => ⟨S8192x1024, .bf16⟩
  | .hbm, ⟨7, _⟩ => ⟨S8192x1024, .f32⟩
  | .hbm, ⟨8, _⟩ => ⟨S1024x1024, .bf16⟩
  | .hbm, ⟨9, _⟩ => ⟨S8192x1024, .f32⟩
  | .hbm, ⟨10, _⟩ => ⟨S32x256x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | _, _ => ⟨S32x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== CtxOutIdeal.lean ====
variable {F : FTy → Type} [FloatOps F] [Named F]
def κ : String → Option EReal := fun
  | "alpha" => some ((Real.sqrt (Real.sqrt 8) : ℝ) : EReal)
  | _ => none
-- ==== CtxOutRefIdeal.lean ====
abbrev S32x256x1024 : Shape := ⟨3, ![32, 256, 1024]⟩
abbrev S1024x1024 : Shape := ⟨2, ![1024, 1024]⟩
abbrev S1x1x1024 : Shape := ⟨3, ![1, 1, 1024]⟩
abbrev S1x1024 : Shape := ⟨2, ![1, 1024]⟩
abbrev S_ : Shape := ⟨0, ![]⟩
abbrev S1024 : Shape := ⟨1, ![1024]⟩
abbrev S32x256 : Shape := ⟨2, ![32, 256]⟩
abbrev S32x256x1 : Shape := ⟨3, ![32, 256, 1]⟩

abbrev nBuf : Space → Nat
  | .hbm => 45
  | .vmem => 0
  | .smem => 0
  | _ => 0

abbrev bufTy : (tb : Table) → Fin (tcTables nBuf tb) → BufTy
  | .hbm, ⟨0, _⟩ => ⟨S32x256x1024, .bf16⟩
  | .hbm, ⟨1, _⟩ => ⟨S1024x1024, .f32⟩
  | .hbm, ⟨2, _⟩ => ⟨S32x256x1024, .f32⟩
  | .hbm, ⟨3, _⟩ => ⟨S1x1x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S32x256x1024, .f32⟩
  | .hbm, ⟨10, _⟩ => ⟨S32x256x1024, .f32⟩
  | .hbm, ⟨11, _⟩ => ⟨S32x256x1024, .f32⟩
  | .hbm, ⟨12, _⟩ => ⟨S32x256x1024, .f32⟩
  | .hbm, ⟨13, _⟩ => ⟨S32x256x1024, .f32⟩
  | .hbm, ⟨14, _⟩ => ⟨S32x256x1024, .f32⟩
  | .hbm, ⟨15, _⟩ => ⟨S32x256x1024, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S32x256, .f32⟩
  | .hbm, ⟨20, _⟩ => ⟨S32x256x1, .f32⟩
  | .hbm, ⟨21, _⟩ => ⟨S_, .f32⟩
  | .hbm, ⟨22, _⟩ => ⟨S32x256x1, .f32⟩
  | .hbm, ⟨23, _⟩ => ⟨S32x256x1, .f32⟩
  | .hbm, ⟨24, _⟩ => ⟨S32x256x1024, .f32⟩
  | .hbm, ⟨25, _⟩ => ⟨S32x256x1024, .f32⟩
  | .hbm, ⟨26, _⟩ => ⟨S32x256x1024, .f32⟩
  | .hbm, ⟨27, _⟩ => ⟨S_, .f32⟩
  | .hbm, ⟨28, _⟩ => ⟨S32x256, .f32⟩
  | .hbm, ⟨29, _⟩ => ⟨S32x256x1, .f32⟩
  | .hbm, ⟨30, _⟩ => ⟨S_, .f32⟩
  | .hbm, ⟨31, _⟩ => ⟨S32x256x1, .f32⟩
  | .hbm, ⟨32, _⟩ => ⟨S32x256x1, .f32⟩
  | .hbm, ⟨33, _⟩ => ⟨S_, .f32⟩
  | .hbm, ⟨34, _⟩ => ⟨S32x256x1, .f32⟩
  | .hbm, ⟨35, _⟩ => ⟨S32x256x1, .f32⟩
  | .hbm, ⟨36, _⟩ => ⟨S32x256x1, .f32⟩
  | .hbm, ⟨37, _⟩ => ⟨S32x256x1024, .f32⟩
  | .hbm, ⟨38, _⟩ => ⟨S32x256x1024, .f32⟩
  | .hbm, ⟨39, _⟩ => ⟨S1x1x1024, .f32⟩
  | .hbm, ⟨40, _⟩ => ⟨S32x256x1024, .f32⟩
  | .hbm, ⟨41, _⟩ => ⟨S32x256x1024, .f32⟩
  | .hbm, ⟨42, _⟩ => ⟨S1x1x1024, .f32⟩
  | .hbm, ⟨43, _⟩ => ⟨S32x256x1024, .f32⟩
  | .hbm, ⟨44, _⟩ => ⟨S32x256x1024, .f32⟩
  | _, _ => ⟨S32x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== CtxGlaIn.lean ====
abbrev S32x256x1024 : Shape := ⟨3, ![32, 256, 1024]⟩
abbrev S1x1x1024 : Shape := ⟨3, ![1, 1, 1024]⟩
abbrev S1024x3072 : Shape := ⟨2, ![1024, 3072]⟩
abbrev S2x1024x16 : Shape := ⟨3, ![2, 1024, 16]⟩
abbrev S1x1024x16 : Shape := ⟨3, ![1, 1024, 16]⟩
abbrev S1024x16 : Shape := ⟨2, ![1024, 16]⟩
abbrev S1024x3104 : Shape := ⟨2, ![1024, 3104]⟩
abbrev S8192x1024 : Shape := ⟨2, ![8192, 1024]⟩
abbrev S_ : Shape := ⟨0, ![]⟩
abbrev S1024x3200 : Shape := ⟨2, ![1024, 3200]⟩
abbrev S8192x3200 : Shape := ⟨2, ![8192, 3200]⟩
abbrev S1024x1024 : Shape := ⟨2, ![1024, 1024]⟩
abbrev S1024x640 : Shape := ⟨2, ![1024, 640]⟩
abbrev S1x1024 : Shape := ⟨2, ![1, 1024]⟩
abbrev S32x256x3200 : Shape := ⟨3, ![32, 256, 3200]⟩

abbrev nBuf : Space → Nat
  | .hbm => 17
  | .vmem => 10
  | .smem => 0
  | _ => 0

abbrev bufTy : (tb : Table) → Fin (tcTables nBuf tb) → BufTy
  | .hbm, ⟨0, _⟩ => ⟨S32x256x1024, .f32⟩
  | .hbm, ⟨1, _⟩ => ⟨S1x1x1024, .f32⟩
  | .hbm, ⟨2, _⟩ => ⟨S1x1x1024, .f32⟩
  | .hbm, ⟨3, _⟩ => ⟨S1024x3072, .f32⟩
  | .hbm, ⟨4, _⟩ => ⟨S2x1024x16, .f32⟩
  | .hbm, ⟨5, _⟩ => ⟨S1x1024x16, .f32⟩
  | .hbm, ⟨6, _⟩ => ⟨S1024x16, .f32⟩
  | .hbm, ⟨7, _⟩ => ⟨S1x1024x16, .f32⟩
  | .hbm, ⟨8, _⟩ => ⟨S1024x16, .f32⟩
  | .hbm, ⟨9, _⟩ => ⟨S1024x3104, .f32⟩
  | .hbm, ⟨10, _⟩ => ⟨S8192x1024, .f32⟩
  | .hbm, ⟨11, _⟩ => ⟨S1024x3104, .bf16⟩
  | .hbm, ⟨12, _⟩ => ⟨S_, .i32⟩
  | .hbm, ⟨13, _⟩ => ⟨S_, .bf16⟩
  | .hbm, ⟨14, _⟩ => ⟨S1024x3200, .bf16⟩
  | .hbm, ⟨15, _⟩ => ⟨S8192x3200, .bf16⟩
  | .hbm, ⟨16, _⟩ => ⟨S32x256x3200, .bf16⟩
  | .local _ .vmem, ⟨0, _⟩ => ⟨S1024x1024, .f32⟩
  | .local _ .vmem, ⟨1, _⟩ => ⟨S1024x1024, .f32⟩
  | .local _ .vmem, ⟨2, _⟩ => ⟨S1024x640, .bf16⟩
  | .local _ .vmem, ⟨3, _⟩ => ⟨S1024x640, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x640, .bf16⟩
  | .local _ .vmem, ⟨9, _⟩ => ⟨S1024x640, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x640 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== CtxGlaInRefIdeal.lean ====
abbrev S32x256x1024 : Shape := ⟨3, ![32, 256, 1024]⟩
abbrev S1x1x1024 : Shape := ⟨3, ![1, 1, 1024]⟩
abbrev S1024x3072 : Shape := ⟨2, ![1024, 3072]⟩
abbrev S2x1024x16 : Shape := ⟨3, ![2, 1024, 16]⟩
abbrev S_ : Shape := ⟨0, ![]⟩
abbrev S32x256x3072 : Shape := ⟨3, ![32, 256, 3072]⟩
abbrev S1x1024x16 : Shape := ⟨3, ![1, 1024, 16]⟩
abbrev S1024x16 : Shape := ⟨2, ![1024, 16]⟩
abbrev S32x256x16 : Shape := ⟨3, ![32, 256, 16]⟩
abbrev S32x256x3104 : Shape := ⟨3, ![32, 256, 3104]⟩
abbrev S32x256x3200 : Shape := ⟨3, ![32, 256, 3200]⟩

abbrev nBuf : Space → Nat
  | .hbm => 24
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1x1024, .f32⟩
  | .hbm, ⟨2, _⟩ => ⟨S1x1x1024, .f32⟩
  | .hbm, ⟨3, _⟩ => ⟨S1024x3072, .f32⟩
  | .hbm, ⟨4, _⟩ => ⟨S2x1024x16, .f32⟩
  | .hbm, ⟨5, _⟩ => ⟨S_, .f32⟩
  | .hbm, ⟨6, _⟩ => ⟨S1x1x1024, .f32⟩
  | .hbm, ⟨7, _⟩ => ⟨S1x1x1024, .f32⟩
  | .hbm, ⟨8, _⟩ => ⟨S32x256x1024, .f32⟩
  | .hbm, ⟨9, _⟩ => ⟨S32x256x1024, .f32⟩
  | .hbm, ⟨10, _⟩ => ⟨S32x256x1024, .f32⟩
  | .hbm, ⟨11, _⟩ => ⟨S32x256x1024, .f32⟩
  | .hbm, ⟨12, _⟩ => ⟨S32x256x3072, .f32⟩
  | .hbm, ⟨13, _⟩ => ⟨S1x1024x16, .f32⟩
  | .hbm, ⟨14, _⟩ => ⟨S1024x16, .f32⟩
  | .hbm, ⟨15, _⟩ => ⟨S32x256x16, .f32⟩
  | .hbm, ⟨16, _⟩ => ⟨S1x1024x16, .f32⟩
  | .hbm, ⟨17, _⟩ => ⟨S1024x16, .f32⟩
  | .hbm, ⟨18, _⟩ => ⟨S32x256x16, .f32⟩
  | .hbm, ⟨19, _⟩ => ⟨S32x256x3104, .f32⟩
  | .hbm, ⟨20, _⟩ => ⟨S_, .i32⟩
  | .hbm, ⟨21, _⟩ => ⟨S_, .f32⟩
  | .hbm, ⟨22, _⟩ => ⟨S32x256x3200, .f32⟩
  | .hbm, ⟨23, _⟩ => ⟨S32x256x3200, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== CtxDeltaIn.lean ====
abbrev S32x256x1024 : Shape := ⟨3, ![32, 256, 1024]⟩
abbrev S1x1x1024 : Shape := ⟨3, ![1, 1, 1024]⟩
abbrev S1024x4128 : Shape := ⟨2, ![1024, 4128]⟩
abbrev S8192x1024 : Shape := ⟨2, ![8192, 1024]⟩
abbrev S_ : Shape := ⟨0, ![]⟩
abbrev S1024x4224 : Shape := ⟨2, ![1024, 4224]⟩
abbrev S8192x4224 : Shape := ⟨2, ![8192, 4224]⟩
abbrev S1024x1024 : Shape := ⟨2, ![1024, 1024]⟩
abbrev S1024x1408 : Shape := ⟨2, ![1024, 1408]⟩
abbrev S1x1024 : Shape := ⟨2, ![1, 1024]⟩
abbrev S32x256x4224 : Shape := ⟨3, ![32, 256, 4224]⟩

abbrev nBuf : Space → Nat
  | .hbm => 11
  | .vmem => 10
  | .smem => 0
  | _ => 0

abbrev bufTy : (tb : Table) → Fin (tcTables nBuf tb) → BufTy
  | .hbm, ⟨0, _⟩ => ⟨S32x256x1024, .f32⟩
  | .hbm, ⟨1, _⟩ => ⟨S1x1x1024, .f32⟩
  | .hbm, ⟨2, _⟩ => ⟨S1x1x1024, .f32⟩
  | .hbm, ⟨3, _⟩ => ⟨S1024x4128, .f32⟩
  | .hbm, ⟨4, _⟩ => ⟨S8192x1024, .f32⟩
  | .hbm, ⟨5, _⟩ => ⟨S1024x4128, .bf16⟩
  | .hbm, ⟨6, _⟩ => ⟨S_, .i32⟩
  | .hbm, ⟨7, _⟩ => ⟨S_, .bf16⟩
  | .hbm, ⟨8, _⟩ => ⟨S1024x4224, .bf16⟩
  | .hbm, ⟨9, _⟩ => ⟨S8192x4224, .f32⟩
  | .hbm, ⟨10, _⟩ => ⟨S32x256x4224, .f32⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1408, .f32⟩
  | .local _ .vmem, ⟨9, _⟩ => ⟨S1024x1408, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== CtxDeltaInRefIdeal.lean ====
abbrev S32x256x1024 : Shape := ⟨3, ![32, 256, 1024]⟩
abbrev S1x1x1024 : Shape := ⟨3, ![1, 1, 1024]⟩
abbrev S1024x4128 : Shape := ⟨2, ![1024, 4128]⟩
abbrev S_ : Shape := ⟨0, ![]⟩
abbrev S32x256x4128 : Shape := ⟨3, ![32, 256, 4128]⟩
abbrev S32x256x4224 : Shape := ⟨3, ![32, 256, 4224]⟩

abbrev nBuf : Space → Nat
  | .hbm => 15
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1x1024, .f32⟩
  | .hbm, ⟨2, _⟩ => ⟨S1x1x1024, .f32⟩
  | .hbm, ⟨3, _⟩ => ⟨S1024x4128, .f32⟩
  | .hbm, ⟨4, _⟩ => ⟨S_, .f32⟩
  | .hbm, ⟨5, _⟩ => ⟨S1x1x1024, .f32⟩
  | .hbm, ⟨6, _⟩ => ⟨S1x1x1024, .f32⟩
  | .hbm, ⟨7, _⟩ => ⟨S32x256x1024, .f32⟩
  | .hbm, ⟨8, _⟩ => ⟨S32x256x1024, .f32⟩
  | .hbm, ⟨9, _⟩ => ⟨S32x256x1024, .f32⟩
  | .hbm, ⟨10, _⟩ => ⟨S32x256x1024, .f32⟩
  | .hbm, ⟨11, _⟩ => ⟨S32x256x4128, .f32⟩
  | .hbm, ⟨12, _⟩ => ⟨S_, .i32⟩
  | .hbm, ⟨13, _⟩ => ⟨S_, .f32⟩
  | .hbm, ⟨14, _⟩ => ⟨S32x256x4224, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== CtxHyenaIn.lean ====
abbrev S32x256x1024 : Shape := ⟨3, ![32, 256, 1024]⟩
abbrev S1x1x1024 : Shape := ⟨3, ![1, 1, 1024]⟩
abbrev S1024x3072 : Shape := ⟨2, ![1024, 3072]⟩
abbrev S8192x1024 : Shape := ⟨2, ![8192, 1024]⟩
abbrev S8192x3072 : Shape := ⟨2, ![8192, 3072]⟩
abbrev S1024x1024 : Shape := ⟨2, ![1024, 1024]⟩
abbrev S1x1024 : Shape := ⟨2, ![1, 1024]⟩
abbrev S32x256x3072 : Shape := ⟨3, ![32, 256, 3072]⟩

abbrev nBuf : Space → Nat
  | .hbm => 8
  | .vmem => 10
  | .smem => 0
  | _ => 0

abbrev bufTy : (tb : Table) → Fin (tcTables nBuf tb) → BufTy
  | .hbm, ⟨0, _⟩ => ⟨S32x256x1024, .f32⟩
  | .hbm, ⟨1, _⟩ => ⟨S1x1x1024, .f32⟩
  | .hbm, ⟨2, _⟩ => ⟨S1x1x1024, .f32⟩
  | .hbm, ⟨3, _⟩ => ⟨S1024x3072, .f32⟩
  | .hbm, ⟨4, _⟩ => ⟨S8192x1024, .f32⟩
  | .hbm, ⟨5, _⟩ => ⟨S1024x3072, .bf16⟩
  | .hbm, ⟨6, _⟩ => ⟨S8192x3072, .bf16⟩
  | .hbm, ⟨7, _⟩ => ⟨S32x256x3072, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1024x1024, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== CtxHyenaInRefIdeal.lean ====
abbrev S32x256x1024 : Shape := ⟨3, ![32, 256, 1024]⟩
abbrev S1x1x1024 : Shape := ⟨3, ![1, 1, 1024]⟩
abbrev S1024x3072 : Shape := ⟨2, ![1024, 3072]⟩
abbrev S_ : Shape := ⟨0, ![]⟩
abbrev S32x256x3072 : Shape := ⟨3, ![32, 256, 3072]⟩

abbrev nBuf : Space → Nat
  | .hbm => 13
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S1x1x1024, .f32⟩
  | .hbm, ⟨2, _⟩ => ⟨S1x1x1024, .f32⟩
  | .hbm, ⟨3, _⟩ => ⟨S1024x3072, .f32⟩
  | .hbm, ⟨4, _⟩ => ⟨S_, .f32⟩
  | .hbm, ⟨5, _⟩ => ⟨S1x1x1024, .f32⟩
  | .hbm, ⟨6, _⟩ => ⟨S1x1x1024, .f32⟩
  | .hbm, ⟨7, _⟩ => ⟨S32x256x1024, .f32⟩
  | .hbm, ⟨8, _⟩ => ⟨S32x256x1024, .f32⟩
  | .hbm, ⟨9, _⟩ => ⟨S32x256x1024, .f32⟩
  | .hbm, ⟨10, _⟩ => ⟨S32x256x1024, .f32⟩
  | .hbm, ⟨11, _⟩ => ⟨S32x256x3072, .f32⟩
  | .hbm, ⟨12, _⟩ => ⟨S32x256x3072, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.HostWords.lean ====
/- The integer operations that the routing on the host uses, each read at one index: the two best positions of a row, the running
   sums down the columns of a mask, the sums along its rows and columns, an index wrapped round, a scatter into a longer vector. -/
module

public import Idealize.ShloMosaic.Lib.Routing.Ops
public import Idealize.ShloMosaic.Lib.Routing.OpsSet
public import Idealize.ShloMosaic.Lib.Routing.Words

@[expose] public section

namespace Cert.Moe

open Idealize.ShloMosaic Idealize.ShloMosaic.Routing Idealize.ShloMosaic.ValueIdx Idealize.ShloMosaic.WordCmp

/-- A position that the selection of the best entries of a row returns is a position of the row. -/
theorem topK_word {α : Type} {n m k : ℕ} (gt : α → α → BitVec 1) (x : (shape2 n m).Idx → α)
    (h : (shape2 n m).Slices (fun _ => 0) (shape2 n k)) (p : Fin n) (q : Fin k) :
    ∃ v : Fin m, (Host.topK (shape2 n k) 1 gt x h).2 (ix2 p q) = BitVec.ofNat 32 v.val := by
  unfold Host.topK Host.sort2
  exact ⟨_, rfl⟩

/-- The running sums down a column, as the window of the whole height sums them. -/
theorem colsum {N m Nm1 : ℕ} (hN : Nm1 + 1 = N) (x : IVec (shape2 N m) 32) (f : ℕ → ℕ) (q : Fin m)
    (hx : ∀ i : Fin N, x (ix2 i q) = BitVec.ofNat 32 (f i.val)) (init : IVec shape0 32) (hinit : init ix0 = 0#32)
    (h : (shape2 N m).ReduceWindows (![N, 1] : Fin 2 → Nat) ![1, 1] ![Nm1, 0] ![0, 0] (shape2 N m)) (hu : 0 < shape0.numel) (j : Fin N) :
    Host.reduceWindow IntOp.addi ![N, 1] ![1, 1] ![Nm1, 0] ![0, 0] x init h hu (ix2 j q)
      = BitVec.ofNat 32 ((List.range (j.val + 1)).map f).sum := by
  subst hN
  have hv : init (Shape.Idx.first hu) = BitVec.ofNat 32 0 := (congrArg init (eq_ix0 _)).trans hinit
  have hj := j.isLt
  have hnum : (shape2 (Nm1 + 1) 1).numel = Nm1 + 1 := by
    show ∏ a : Fin 2, (![Nm1 + 1, 1] : Fin 2 → Nat) a = Nm1 + 1
    rw [Fin.prod_univ_two]
    exact Nat.mul_one _
  have hsym : ∀ n : Fin (shape2 (Nm1 + 1) 1).numel, (shape2 (Nm1 + 1) 1).rowMajor.symm n = ix2 (n.cast hnum) (0 : Fin 1) := fun n =>
    ((shape2 (Nm1 + 1) 1).rowMajor.symm_apply_eq).2 (Fin.ext (by
      rw [Shape.rowMajor_val_two]
      show n.val = n.val * 1 + 0
      omega))
  unfold Host.reduceWindow
  refine (foldl_addi_ofNat _ _ (fun n => if Nm1 ≤ j.val + n.val then f (j.val + n.val - Nm1) else 0) (fun n _ => ?_) _ 0 hv).trans ?_
  · have hw0 : ((shape2 (Nm1 + 1) 1).rowMajor.symm n 0).val = n.val := by rw [hsym]; rfl
    have hw1 : ((shape2 (Nm1 + 1) 1).rowMajor.symm n 1).val = 0 := by rw [hsym]; rfl
    have hn : n.val < Nm1 + 1 := (n.cast hnum).isLt
    have hq := q.isLt
    dsimp only
    split
    · next hin =>
      have h0 := hin 0
      change Nm1 ≤ j.val * 1 + ((shape2 (Nm1 + 1) 1).rowMajor.symm n 0).val
        ∧ j.val * 1 + ((shape2 (Nm1 + 1) 1).rowMajor.symm n 0).val - Nm1 < Nm1 + 1 at h0
      rw [hw0] at h0
      rw [if_pos (by omega)]
      refine (congrArg x (funext fun a => Fin.ext ?_)).trans (hx ⟨j.val + n.val - Nm1, by omega⟩)
      match a with
      | ⟨0, _⟩ =>
        show j.val * 1 + ((shape2 (Nm1 + 1) 1).rowMajor.symm n 0).val - Nm1 = j.val + n.val - Nm1
        rw [hw0, Nat.mul_one]
      | ⟨1, _⟩ =>
        show q.val * 1 + ((shape2 (Nm1 + 1) 1).rowMajor.symm n 1).val - 0 = q.val
        rw [hw1]; omega
    · next hin =>
      rw [if_neg fun hle => hin fun a => by
        match a with
        | ⟨0, _⟩ =>
          show Nm1 ≤ j.val * 1 + ((shape2 (Nm1 + 1) 1).rowMajor.symm n 0).val
            ∧ j.val * 1 + ((shape2 (Nm1 + 1) 1).rowMajor.symm n 0).val - Nm1 < Nm1 + 1
          rw [hw0]
          omega
        | ⟨1, _⟩ =>
          show 0 ≤ q.val * 1 + ((shape2 (Nm1 + 1) 1).rowMajor.symm n 1).val
            ∧ q.val * 1 + ((shape2 (Nm1 + 1) 1).rowMajor.symm n 1).val - 0 < m
          rw [hw1]
          omega]
      exact hv
  · rw [Nat.zero_add, map_finRange_val _ (fun w => if Nm1 ≤ j.val + w then f (j.val + w - Nm1) else 0)]
    exact congrArg (BitVec.ofNat 32) ((congrArg (fun M => ((List.range M).map fun w => if Nm1 ≤ j.val + w then f (j.val + w - Nm1) else 0).sum)
      hnum).trans (sum_window f Nm1 j.val (by omega)))

/-- The sums of ones and zeros up to and with an index: how often the condition holds up to it. -/
theorem sum_ones (P : ℕ → Prop) [DecidablePred P] (n : ℕ) : ((List.range n).map fun i => if P i then 1 else 0).sum = Nat.count P n := by
  induction n with
  | zero => rfl
  | succ n ih =>
    rw [List.range_succ, List.map_append, List.sum_append, ih, Nat.count_succ]
    simp

/-- A word sum over a finite set in which all terms but one are zero is that term. -/
theorem fold_one {n : ℕ} (g : Fin n → BitVec 32) (q : Fin n) (hg : ∀ r, r ≠ q → g r = 0#32) :
    (Finset.univ : Finset (Fin n)).fold IntOp.addi 0#32 g = g q := by
  classical
  have hz : ∀ s : Finset (Fin n), q ∉ s → s.fold IntOp.addi 0#32 g = 0#32 := fun s => by
    induction s using Finset.induction_on with
    | empty => intro _; rfl
    | insert a s ha ih =>
      intro hq
      rw [Finset.fold_insert ha, ih fun h => hq (Finset.mem_insert_of_mem h), hg a fun e => hq (e ▸ Finset.mem_insert_self _ _)]
      rfl
  rw [← Finset.insert_erase (Finset.mem_univ q), Finset.fold_insert (Finset.notMem_erase _ _), hz _ (Finset.notMem_erase _ _)]
  show g q + 0#32 = g q
  exact BitVec.add_zero _

/-- The word sum along a row in which all entries but one are zero is that entry. -/
theorem rowsum_one {n m : ℕ} (x : IVec (shape2 n m) 32) (h : (shape2 n m).ReducesTo [1] (shape1 n)) (h' : (shape2 n m).Reduces [1] (shape1 n))
    (hu : 0 < shape0.numel) (i : Fin n) (q : Fin m) (hx : ∀ r, r ≠ q → x (ix2 i r) = 0#32) :
    Host.reduce IntOp.addi x (constantI shape0 32 0#32) h hu (ix1 i) = x (ix2 i q) := by
  have hl : ∀ r : Fin m, h'.lift (ix1 i) r = ix2 i r := fun r => by
    funext a
    match a with
    | ⟨0, _⟩ => rfl
    | ⟨1, _⟩ => rfl
  rw [Host.reduce_eq_fold_single IntOp.addi x _ h h' hu]
  refine (fold_one (fun r : Fin m => x (h'.lift (ix1 i) r)) q fun r hr => ?_).trans ?_
  · show x (h'.lift (ix1 i) r) = 0#32
    rw [hl]; exact hx r hr
  · show x (h'.lift (ix1 i) q) = _
    rw [hl]

/-- The sum down a column of a mask counts its set bits. -/
theorem colcount {n m : ℕ} (hn : n < 2 ^ 32) (msk : IVec (shape2 n m) 1) (hw : 1 < 32) (h : (shape2 n m).ReducesTo [0] (shape1 m))
    (hu : 0 < shape0.numel) (q : Fin m) (Q : ℕ → Prop) [DecidablePred Q] (hQ : ∀ p : Fin n, msk (ix2 p q) = 1#1 ↔ Q p.val) :
    Host.reduce IntOp.addi (extui 32 msk hw) (constantI shape0 32 0#32) h hu (ix1 q) = BitVec.ofNat 32 (Nat.count Q n) := by
  apply BitVec.eq_of_toNat_eq
  rw [StableHlo.Predicate.toNat_reduce_count_rows hn msk hw h hu (ix1 q), BitVec.toNat_ofNat,
    Nat.mod_eq_of_lt (Nat.lt_of_le_of_lt (Nat.count_le _) hn), ← card_filter_fin n Q]
  refine congrArg Finset.card (Finset.filter_congr fun p _ => ?_)
  show msk (StableHlo.Predicate.ij p q) = 1#1 ↔ Q p.val
  rw [ij_eq_ix2]
  exact hQ p

/-- An index word that holds a small natural is not wrapped round. -/
theorem wrap_word {s : Shape} (x : IVec s 32) (i : s.Idx) (a : ℕ) (z n : IVec s 32) (hx : x i = BitVec.ofNat 32 a) (ha : a < 2 ^ 31)
    (hz : z i = 0#32) : select (cmpi .slt x z) (addi x n) x i = BitVec.ofNat 32 a := by
  show Scalar.select (IntOp.cmpi .slt (x i) (z i)) (x i + n i) (x i) = _
  rw [hx, hz, show (0#32 : BitVec 32) = BitVec.ofNat 32 0 from rfl, cmpi_slt_ofNat (w := 32) ha (by decide), select_decide, if_neg (by omega)]

/-- Where one update of a scatter lands: at the entry its index word names. -/
theorem lands {N M : ℕ} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) :
    d.resultIdx? (ix1 i) idx = some (ix1 x) ↔ (idx (ix2 i (0 : Fin 1))).toInt = (x.val : ℤ) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hstart : d.start (ix1 i) idx 0 = (idx (ix2 i (0 : Fin 1))).toInt := by
    unfold ScatterDims.start
    rw [dif_pos hm]
    have hsi : d.siIdx (ix1 i) ⟨d.scatterDimsToOperandDims.idxOf 0, List.idxOf_lt_length_iff.2 hm⟩ = ix2 i (0 : Fin 1) := by
      funext b
      apply Fin.ext
      match b with
      | ⟨0, _⟩ =>
        unfold ScatterDims.siIdx
        rw [dif_neg (by rw [hivd]; exact Nat.zero_ne_one)]
        unfold ScatterDims.siCoord
        have e : ∀ k : Fin 1, (ix1 i k).val = i.val := fun k => by rw [Subsingleton.elim k 0]
        simp only [Fin.val_cast]
        exact e _
      | ⟨1, _⟩ =>
        unfold ScatterDims.siIdx
        rw [dif_pos (by rw [hivd])]
        show List.idxOf (0 : Fin 1) d.scatterDimsToOperandDims = 0
        rw [hsd]; simp
    rw [hsi]
  rw [resultIdx?_eq_some]
  constructor
  · intro h
    have h0 := h 0
    rw [hstart, hwin] at h0
    change _ = ((x.val : ℕ) : ℤ) at h0
    omega
  · intro h a
    obtain rfl : a = 0 := Subsingleton.elim _ _
    rw [hstart, hwin]
    change _ = ((x.val : ℕ) : ℤ)
    omega

/-- A scatter of `M` entries to places that no two of them share puts entry `i` at place `g i`. -/
theorem scatter_at_place {α : Type} {N M : ℕ} (d : ScatterDims (shape1 N) (shape2 M 1) (shape1 M)) (hiw : d.insertedWindowDims = [0])
    (hsd : d.scatterDimsToOperandDims = [0]) (hivd : d.indexVectorDim = 1) (x0 : (shape1 N).Idx → α) (idx : IVec (shape2 M 1) 32)
    (upd : (shape1 M).Idx → α) (g : ℕ → ℕ) (hg : ∀ i : Fin M, idx (ix2 i (0 : Fin 1)) = BitVec.ofNat 32 (g i.val))
    (hN : N < 2 ^ 31) (hlt : ∀ i : Fin M, g i.val < N) (hinj : ∀ i j : Fin M, g i.val = g j.val → i = j) (i : Fin M) :
    Host.scatter d (fun _ b => b) x0 idx upd (ix1 ⟨g i.val, hlt i⟩) = upd (ix1 i) := by
  have key : ∀ (k : Fin M) (x : Fin N), d.resultIdx? (ix1 k) idx = some (ix1 x) ↔ g k.val = x.val := fun k x => by
    have := hlt k
    rw [lands d hiw hsd hivd, hg, StableHlo.Predicate.toInt_ofNat_small _ (by omega)]
    omega
  refine scatter_set_hit d x0 idx upd _ _ (fun k hk => ?_) (ix1 i) ((key i _).2 rfl)
  obtain ⟨k', rfl⟩ : ∃ k' : Fin M, k = ix1 k' := ⟨k (0 : Fin 1), eq_ix1 k⟩
  rw [hinj k' i ((key k' _).1 hk)]

end Cert.Moe
-- ==== Proof.Positions.lean ====
/- Where the rows of each expert go. The `n` pairs (row, choice) are numbered, pair `i` choosing expert `e i` below 8. Each expert's
   pairs, in order, fill whole tiles of 512 places; the tiles of the experts follow one another. -/
module

public import Idealize.ShloMosaic.Lib.Routing.Count

@[expose] public section

namespace Cert.Moe

open Idealize.ShloMosaic.Routing

variable (e : ℕ → ℕ) (n : ℕ)

/-- How many of the first `i` pairs choose expert `x`. -/
def chosen (x i : ℕ) : ℕ := Nat.count (fun j => e j = x) i
/-- The places of expert `x`: its pairs' number, rounded up to tiles. -/
def places (x : ℕ) : ℕ := (chosen e x n + 511) / 512 * 512
/-- The first place after those of expert `x`. -/
def placesEnd (x : ℕ) : ℕ := ((List.range (x + 1)).map (places e n)).sum
/-- The place of pair `i`. -/
def place (i : ℕ) : ℕ := placesEnd e n (e i) - places e n (e i) + chosen e (e i) i

theorem placesEnd_zero : placesEnd e n 0 = places e n 0 := by
  simp [placesEnd]
theorem placesEnd_succ (x : ℕ) : placesEnd e n (x + 1) = placesEnd e n x + places e n (x + 1) := by
  unfold placesEnd
  rw [List.range_succ, List.map_append, List.sum_append]
  simp
theorem places_le_end (x : ℕ) : places e n x ≤ placesEnd e n x := by
  cases x with
  | zero => rw [placesEnd_zero]
  | succ x => rw [placesEnd_succ]; omega
theorem placesEnd_mono {x y : ℕ} (h : x ≤ y) : placesEnd e n x ≤ placesEnd e n y := by
  induction h with
  | refl => exact le_rfl
  | step _ ih => rw [placesEnd_succ]; omega
/-- The places of an expert begin no earlier than an earlier expert's end. -/
theorem end_le_start {x y : ℕ} (h : x < y) : placesEnd e n x ≤ placesEnd e n y - places e n y := by
  obtain ⟨y, rfl⟩ : ∃ z, y = z + 1 := ⟨y - 1, by omega⟩
  have := placesEnd_mono e n (show x ≤ y by omega)
  rw [placesEnd_succ]; omega
theorem places_tiles (x : ℕ) : ∃ k, places e n x = k * 512 := ⟨_, rfl⟩
theorem placesEnd_tiles (x : ℕ) : ∃ k, placesEnd e n x = k * 512 := by
  induction x with
  | zero => rw [placesEnd_zero]; exact places_tiles e n 0
  | succ x ih =>
    obtain ⟨k, hk⟩ := ih
    obtain ⟨l, hl⟩ := places_tiles e n (x + 1)
    exact ⟨k + l, by rw [placesEnd_succ, hk, hl]; omega⟩
theorem start_tiles (x : ℕ) : ∃ k, placesEnd e n x - places e n x = k * 512 := by
  obtain ⟨k, hk⟩ := placesEnd_tiles e n x
  obtain ⟨l, hl⟩ := places_tiles e n x
  exact ⟨k - l, by omega⟩
theorem chosen_le (x i : ℕ) : chosen e x i ≤ i := Nat.count_le _
theorem chosen_le_places (x : ℕ) : chosen e x n ≤ places e n x := by
  unfold places; omega
theorem places_le (x : ℕ) : places e n x ≤ chosen e x n + 511 := by
  unfold places; omega

/-- With eight experts every pair is counted once. -/
theorem sum_chosen (he : ∀ i, e i < 8) : ((List.range 8).map fun x => chosen e x n).sum = n := by
  unfold chosen
  refine (sum_count_eq e 7 n).trans (Nat.count_iff_forall.mpr fun i _ => ?_)
  have := he i; omega
/-- All places together are fewer than eight tiles more than the pairs. -/
theorem placesEnd_le (he : ∀ i, e i < 8) : placesEnd e n 7 ≤ n + 4088 := by
  have h := sum_chosen e n he
  simp only [List.range_succ, List.range_zero, List.map_append, List.sum_append, List.map_cons, List.map_nil, List.sum_cons, List.sum_nil, List.nil_append] at h
  simp only [placesEnd_succ, placesEnd_zero]
  have h0 := places_le e n 0; have h1 := places_le e n 1; have h2 := places_le e n 2; have h3 := places_le e n 3
  have h4 := places_le e n 4; have h5 := places_le e n 5; have h6 := places_le e n 6; have h7 := places_le e n 7
  show places e n 0 + places e n 1 + places e n 2 + places e n 3 + places e n 4 + places e n 5 + places e n 6 + places e n 7 ≤ n + 4088
  omega
theorem placesEnd_le' (he : ∀ i, e i < 8) (x : ℕ) (hx : x < 8) : placesEnd e n x ≤ n + 4088 :=
  (placesEnd_mono e n (show x ≤ 7 by omega)).trans (placesEnd_le e n he)

theorem chosen_lt {i j : ℕ} (h : i < j) : chosen e (e i) i < chosen e (e i) j := by
  have h1 : chosen e (e i) (i + 1) = chosen e (e i) i + 1 := by
    unfold chosen; rw [Nat.count_succ, if_pos rfl]
  have h2 : chosen e (e i) (i + 1) ≤ chosen e (e i) j := Nat.count_monotone _ (by omega)
  omega
theorem start_le_place (i : ℕ) : placesEnd e n (e i) - places e n (e i) ≤ place e n i := Nat.le_add_right _ _
theorem place_lt_end {i : ℕ} (hi : i < n) : place e n i < placesEnd e n (e i) := by
  have h1 := chosen_lt e hi
  have h2 := chosen_le_places e n (e i)
  have h3 := places_le_end e n (e i)
  unfold place; omega
theorem place_lt (he : ∀ i, e i < 8) {i : ℕ} (hi : i < n) : place e n i < n + 4096 := by
  have h1 := place_lt_end e n hi
  have h2 := placesEnd_le' e n he (e i) (he i)
  omega

/-- No two pairs share a place. -/
theorem place_inj {i j : ℕ} (hi : i < n) (hj : j < n) (h : place e n i = place e n j) : i = j := by
  rcases Nat.lt_trichotomy (e i) (e j) with hl | heq | hl
  · have h1 := place_lt_end e n hi; have h2 := end_le_start e n hl; have h3 := start_le_place e n j; omega
  · rcases Nat.lt_trichotomy i j with h1 | h1 | h1
    · have h2 := chosen_lt e h1
      unfold place at h; rw [heq] at h h2; omega
    · exact h1
    · have h2 := chosen_lt e h1
      unfold place at h; rw [heq] at h; omega
  · have h1 := place_lt_end e n hj; have h2 := end_le_start e n hl; have h3 := start_le_place e n i; omega

/-- The tile a pair's place lies in is one of its expert's: as many experts end by the tile's start as the expert's number says. -/
theorem ends_before {i : ℕ} (hi : i < n) (he : e i < 8) : Nat.count (fun x => placesEnd e n x ≤ place e n i / 512 * 512) 8 = e i := by
  have key : ∀ x, placesEnd e n x ≤ place e n i / 512 * 512 ↔ x < e i := fun x => by
    constructor
    · intro h
      by_contra hx
      have h1 := placesEnd_mono e n (show e i ≤ x by omega)
      have h2 := place_lt_end e n hi
      omega
    · intro h
      have h1 := end_le_start e n h
      have h2 := start_le_place e n i
      obtain ⟨k, hk⟩ := start_tiles e n (e i)
      rw [hk] at h1 h2
      omega
  rw [count_congr_of_lt 8 fun x _ => key x]
  generalize e i = x at he ⊢
  revert x
  decide

end Cert.Moe
-- ==== Proof.Places.lean ====
/- The arrays the host computes to group the pairs by expert, read entry by entry: pair `p` chooses expert `e p`, the counts, the
   tiles' places, each pair's place, the pair at a place, and the expert of a tile. -/
module

public import proofs.«01_k».proof.Proof.HostWords
public import proofs.«01_k».proof.Proof.Positions

@[expose] public section

namespace Cert.Moe

open Idealize.ShloMosaic Idealize.ShloMosaic.Routing Idealize.ShloMosaic.ValueIdx Idealize.ShloMosaic.WordCmp

variable (e : ℕ → ℕ) (he : ∀ i, e i < 8) {n : ℕ} (hn : n ≤ 131072)

section Mask
variable (E : IVec (shape1 n) 32) (hE : ∀ p : Fin n, E (ix1 p) = BitVec.ofNat 32 (e p.val))
include he hE

/-- The mask of pairs and experts is set where the pair chooses the expert. -/
theorem mask_at (h₁ : (shape1 n).BroadcastsInDim (shape2 n 1) ![0]) (h₂ : (shape2 n 1).BroadcastsInDim (shape2 n 8) ![0, 1])
    (h₃ : (shape1 8).BroadcastsInDim (shape2 1 8) ![1]) (h₄ : (shape2 1 8).BroadcastsInDim (shape2 n 8) ![0, 1]) (p : Fin n) (q : Fin 8) :
    cmpi .eq (broadcastInDim (shape2 n 8) ![0, 1] h₂ (broadcastInDim (shape2 n 1) ![0] h₁ E))
      (broadcastInDim (shape2 n 8) ![0, 1] h₄ (broadcastInDim (shape2 1 8) ![1] h₃ (iotaInDim (shape1 8) 32 0))) (ix2 p q) = 1#1 ↔ e p.val = q.val := by
  have hp := he p.val
  have hq := q.isLt
  rw [cmpi_at, bcRows, bcCols, hE, iota1_ap, cmpi_eq_ofNat (w := 32) (by omega) (by omega)]
  by_cases h : e p.val = q.val <;> simp [h]
end Mask

section Counts
variable (msk : IVec (shape2 n 8) 1) (hm : ∀ (p : Fin n) (q : Fin 8), msk (ix2 p q) = 1#1 ↔ e p.val = q.val) (hw : 1 < 32)
include hm

theorem ones_at (p : Fin n) (q : Fin 8) : extui 32 msk hw (ix2 p q) = BitVec.ofNat 32 (if e p.val = q.val then 1 else 0) := by
  have h := hm p q
  show (msk (ix2 p q)).setWidth 32 = _
  generalize msk (ix2 p q) = b at h
  have hb : b = 0#1 ∨ b = 1#1 := (by decide : ∀ b : BitVec 1, b = 0#1 ∨ b = 1#1) b
  rcases hb with rfl | rfl
  · rw [if_neg fun hc => absurd (h.2 hc) (by decide)]; rfl
  · rw [if_pos (h.1 rfl)]; rfl

include hn in
/-- How many pairs choose each expert. -/
theorem counts_at (h : (shape2 n 8).ReducesTo [0] (shape1 8)) (hu : 0 < shape0.numel) (q : Fin 8) :
    Host.reduce IntOp.addi (extui 32 msk hw) (constantI shape0 32 0#32) h hu (ix1 q) = BitVec.ofNat 32 (chosen e q.val n) :=
  colcount (by omega) msk hw h hu q _ fun p => hm p q

include he in
/-- How many earlier pairs choose a pair's expert. -/
theorem rank_at {l : ℕ} (hl : l + 1 = n) (cs : IVec (shape2 n 8) 32) (init : IVec shape0 32) (hinit : init ix0 = 0#32)
    (hr : (shape2 n 8).ReduceWindows (![n, 1] : Fin 2 → Nat) ![1, 1] ![l, 0] ![0, 0] (shape2 n 8)) (hu : 0 < shape0.numel)
    (hcs : cs = Host.reduceWindow IntOp.addi ![n, 1] ![1, 1] ![l, 0] ![0, 0] (extui 32 msk hw) init hr hu)
    (h : (shape2 n 8).ReducesTo [1] (shape1 n)) (h' : (shape2 n 8).Reduces [1] (shape1 n)) (hu' : 0 < shape0.numel) (p : Fin n) :
    Host.reduce IntOp.addi (muli (subi cs (extui 32 msk hw)) (extui 32 msk hw)) (constantI shape0 32 0#32) h hu' (ix1 p)
      = BitVec.ofNat 32 (chosen e (e p.val) p.val) := by
  rw [rowsum_one _ h h' hu' p ⟨e p.val, he p.val⟩ fun r hr => ?_]
  · rw [muli_ap, subi_ap, ones_at e msk hm hw, if_pos rfl, hcs,
      colsum hl (extui 32 msk hw) (fun i => if e i = e p.val then 1 else 0) _ (fun i => ones_at e msk hm hw i _) init hinit hr hu p, sum_ones,
      Nat.count_succ, if_pos rfl]
    show (BitVec.ofNat 32 (chosen e (e p.val) p.val + 1) - BitVec.ofNat 32 1) * BitVec.ofNat 32 1 = _
    rw [ofNat32_sub (by omega), Nat.add_sub_cancel]
    exact BitVec.mul_one _
  · rw [muli_ap, ones_at e msk hm hw, if_neg fun hc => hr (Fin.ext hc.symm)]
    exact BitVec.mul_zero
end Counts

include hn in
/-- The count rounded up to tiles. -/
theorem places_at (C D T : IVec (shape1 8) 32) (c : IVec shape0 32) (hb : shape0.BroadcastsInDim (shape1 8) ![])
    (hC : ∀ q : Fin 8, C (ix1 q) = BitVec.ofNat 32 (chosen e q.val n)) (hc : c ix0 = 512#32)
    (hD : D = subi (addi C (broadcastInDim (shape1 8) ![] hb (constantI shape0 32 512#32))) (broadcastInDim (shape1 8) ![] hb (constantI shape0 32 1#32)))
    (hT : T = muli (pyDiv hb D c) (broadcastInDim (shape1 8) ![] hb (constantI shape0 32 512#32))) (q : Fin 8) :
    T (ix1 q) = BitVec.ofNat 32 (places e n q.val) := by
  have hs := chosen_le e q.val n
  have h1 : D (ix1 q) = BitVec.ofNat 32 (chosen e q.val n + 511) := by
    rw [hD, subi_ap, addi_ap, hC, bc0, bc0]
    show BitVec.ofNat 32 _ + BitVec.ofNat 32 512 - BitVec.ofNat 32 1 = _
    rw [← BitVec.ofNat_add, ofNat32_sub (by omega)]
    rfl
  rw [hT, muli_ap, pyDiv_ap hb D c (ix1 q) h1 hc (by omega) (by decide) (by decide), bc0]
  show BitVec.ofNat 32 _ * BitVec.ofNat 32 512 = _
  rw [← BitVec.ofNat_mul]
  rfl

/-- Where each expert's places end. -/
theorem ends_at (T : IVec (shape1 8) 32) (hT : ∀ q : Fin 8, T (ix1 q) = BitVec.ofNat 32 (places e n q.val)) (init : IVec shape0 32)
    (hinit : init ix0 = 0#32) (h : (shape1 8).ReduceWindows (![8] : Fin 1 → Nat) ![1] ![7] ![0] (shape1 8)) (hu : 0 < shape0.numel) (q : Fin 8) :
    Host.reduceWindow IntOp.addi ![8] ![1] ![7] ![0] T init h hu (ix1 q) = BitVec.ofNat 32 (placesEnd e n q.val) :=
  cumsum1 (by decide) T (places e n) hT init hinit h hu q

include he in
/-- Each pair's place: where its expert's places start, and as many further as earlier pairs choose the expert. -/
theorem place_at (E R : IVec (shape1 n) 32) (T N : IVec (shape1 8) 32) (hE : ∀ p : Fin n, E (ix1 p) = BitVec.ofNat 32 (e p.val))
    (hR : ∀ p : Fin n, R (ix1 p) = BitVec.ofNat 32 (chosen e (e p.val) p.val)) (hT : ∀ q : Fin 8, T (ix1 q) = BitVec.ofNat 32 (places e n q.val))
    (hN : ∀ q : Fin 8, N (ix1 q) = BitVec.ofNat 32 (placesEnd e n q.val)) (d : GatherDims (shape1 8) (shape2 n 1) (shape1 n))
    (hcoll : d.collapsedSliceDims = [0]) (hob : d.operandBatchingDims = []) (hsim : d.startIndexMap = [0]) (hivd : d.indexVectorDim = 1)
    (h₁ : (shape1 n).BroadcastsInDim (shape2 n 1) ![0]) (hb : shape0.BroadcastsInDim (shape1 n) ![]) (p : Fin n) :
    addi (Host.gather d (subi N T) (broadcastInDim (shape2 n 1) ![0] h₁
      (select (cmpi .slt E (broadcastInDim (shape1 n) ![] hb (constantI shape0 32 0#32)))
        (addi E (broadcastInDim (shape1 n) ![] hb (constantI shape0 32 8#32))) E))) R (ix1 p) = BitVec.ofNat 32 (place e n p.val) := by
  have hp := he p.val
  rw [addi_ap, gather_take1 d hcoll hob hsim hivd (subi N T) _ p ⟨e p.val, hp⟩ (by
    rw [bcCol]
    exact wrap_word E _ _ _ _ (hE p) (by omega) (bc0 hb _ _)) (by decide), subi_ap, hN, hT, hR, ofNat32_sub (places_le_end e n _), ← BitVec.ofNat_add]
  rfl

include he hn in
/-- The pair at a pair's place is the pair itself. -/
theorem pair_at {r₀ : ℕ} (hr₀ : r₀ = n + 4096) (P : IVec (shape1 n) 32) (hP : ∀ p : Fin n, P (ix1 p) = BitVec.ofNat 32 (place e n p.val))
    (d : ScatterDims (shape1 r₀) (shape2 n 1) (shape1 n)) (hiw : d.insertedWindowDims = [0]) (hsd : d.scatterDimsToOperandDims = [0])
    (hivd : d.indexVectorDim = 1) (x0 : IVec (shape1 r₀) 32) (h₁ : (shape1 n).BroadcastsInDim (shape2 n 1) ![0])
    (hb : shape0.BroadcastsInDim (shape1 n) ![]) (p : Fin n) (r : Fin r₀) (hr : r.val = place e n p.val) :
    Host.scatter d (fun _ b => b) x0 (broadcastInDim (shape2 n 1) ![0] h₁
      (select (cmpi .slt P (broadcastInDim (shape1 n) ![] hb (constantI shape0 32 0#32)))
        (addi P (broadcastInDim (shape1 n) ![] hb (constantI shape0 32 (BitVec.ofNat 32 r₀)))) P)) (iotaInDim (shape1 n) 32 0) (ix1 r)
      = BitVec.ofNat 32 p.val := by
  subst hr₀
  obtain rfl : r = ⟨place e n p.val, place_lt e n he p.isLt⟩ := Fin.ext hr
  refine (scatter_at_place d hiw hsd hivd x0 _ _ (place e n) (fun i => ?_) (by omega) (fun i => place_lt e n he i.isLt)
    (fun i j h => Fin.ext (place_inj e n i.isLt j.isLt h)) p).trans (iota1_ap p)
  rw [bcCol]
  exact wrap_word P _ _ _ _ (hP i) (by have := place_lt e n he i.isLt; omega) (bc0 hb _ _)

/-- A count of at most eight, cut to seven. -/
theorem cut_word {n : ℕ} (h : n ≤ 8) : IntOp.minsi (BitVec.ofNat 32 n) 7#32 = BitVec.ofNat 32 (min n 7) := by
  revert n; decide

/-- Whatever is compared, the table's words are numbers of experts. -/
theorem table_lt {k : ℕ} (msk : IVec (shape2 k 8) 1) (hw : 1 < 32) (h : (shape2 k 8).ReducesTo [1] (shape1 k)) (hu : 0 < shape0.numel)
    (hb : shape0.BroadcastsInDim (shape1 k) ![]) (t : Fin k) :
    ∃ x : Fin 8, minsi (Host.reduce IntOp.addi (extui 32 msk hw) (constantI shape0 32 0#32) h hu)
      (broadcastInDim (shape1 k) ![] hb (constantI shape0 32 7#32)) (ix1 t) = BitVec.ofNat 32 x.val := by
  classical
  refine ⟨⟨min (Nat.count (fun q => ∃ hq : q < 8, msk (ix2 t ⟨q, hq⟩) = 1#1) 8) 7, by omega⟩, ?_⟩
  show IntOp.minsi (Host.reduce IntOp.addi (extui 32 msk hw) (constantI shape0 32 0#32) h hu (ix1 t)) _ = _
  rw [reduce_count (by decide) msk hw h hu t (fun q => ∃ hq : q < 8, msk (ix2 t ⟨q, hq⟩) = 1#1)
    (fun q => ⟨fun hq => ⟨q.isLt, hq⟩, fun ⟨_, hq⟩ => hq⟩), bc0]
  exact cut_word (Nat.count_le _)

include he hn in
/-- The table names, for the tile a pair's place lies in, the pair's expert. -/
theorem table_at {k : ℕ} (hk : k * 512 = n + 4096) (N : IVec (shape1 8) 32) (hN : ∀ q : Fin 8, N (ix1 q) = BitVec.ofNat 32 (placesEnd e n q.val)) (hw : 1 < 32)
    (h : (shape2 k 8).ReducesTo [1] (shape1 k)) (hu : 0 < shape0.numel) (hb : shape0.BroadcastsInDim (shape1 k) ![])
    (h₁ : (shape1 k).BroadcastsInDim (shape2 k 1) ![0]) (h₂ : (shape2 k 1).BroadcastsInDim (shape2 k 8) ![0, 1])
    (h₃ : (shape1 8).BroadcastsInDim (shape2 1 8) ![1]) (h₄ : (shape2 1 8).BroadcastsInDim (shape2 k 8) ![0, 1])
    (p : Fin n) (t : Fin k) (ht : t.val = place e n p.val / 512) :
    minsi (Host.reduce IntOp.addi (extui 32 (cmpi .sle
        (broadcastInDim (shape2 k 8) ![0, 1] h₄ (broadcastInDim (shape2 1 8) ![1] h₃ N))
        (broadcastInDim (shape2 k 8) ![0, 1] h₂ (broadcastInDim (shape2 k 1) ![0] h₁
          (muli (iotaInDim (shape1 k) 32 0) (broadcastInDim (shape1 k) ![] hb (constantI shape0 32 512#32)))))) hw) (constantI shape0 32 0#32) h hu)
      (broadcastInDim (shape1 k) ![] hb (constantI shape0 32 7#32)) (ix1 t) = BitVec.ofNat 32 (e p.val) := by
  have hp := he p.val
  have ht' := t.isLt
  show IntOp.minsi (Host.reduce IntOp.addi _ (constantI shape0 32 0#32) h hu (ix1 t)) _ = _
  rw [reduce_count (by decide) _ hw h hu t (fun x => placesEnd e n x ≤ t.val * 512) fun q => ?_, bc0, ht, ends_before e n p.isLt hp]
  · refine (cut_word (by omega)).trans ?_
    rw [Nat.min_eq_left (by omega)]
  · have hq := placesEnd_le' e n he q.val q.isLt
    rw [cmpi_at, bcCols, bcRows, hN, muli_ap, bc0, iota1_ap]
    rw [show BitVec.ofNat 32 t.val * (constantI shape0 32 512#32 ix0) = BitVec.ofNat 32 (t.val * 512) from (BitVec.ofNat_mul _ _).symm,
      cmpi_sle_ofNat (w := 32) (by omega) (by omega)]
    by_cases hc : placesEnd e n q.val ≤ t.val * 512 <;> simp [hc]

end Cert.Moe
-- ==== Proof.TableOkBits.lean ====
/- The expert table keeps every block the kernel fetches through it inside its array: the same for the program before idealization. -/
module

public import proofs.«01_k».proof.Defs
public import proofs.«01_k».proof.Proof.Gen.Kernel.Frame.Runs
public import proofs.«01_k».proof.Proof.Places
public import Idealize.ShloMosaic.Lib.Pointwise

@[expose] public section

set_option maxRecDepth 16384

noncomputable section

namespace Cert.Kernel.Value

open Cert.Kernel Cert.Kernel.Gen Idealize.ShloMosaic Idealize.ShloMosaic.TcCoe Idealize.SL.Sem

variable {F : FTy → Type} [FloatOps F]

/-- The table word a window's index map reads at a grid point is the row tile's. -/
theorem word_at (pf : pre0.Contents (Elt F)) (i : grid0.Coords) :
    pf.at 0 (Rect.unit (s := S264) ![(Scalar.indexCast (BitVec.ofNat 32 (i 0).val)).toNat] S1.size (k0_off1_inb i)) numel1_S1
      = pf 0 (ix1 (i 0)) := by
  have r_i0 : (i 0).val < 264 := (i 0).isLt
  have e : (Scalar.indexCast (BitVec.ofNat 32 (i 0).val)).toNat = (i 0).val :=
    Affine.nat_eq (Affine.indexCast (Affine.ofNat (i 0).val (by omega))) _ rfl
  refine congrArg (pf 0) (funext fun (a : Fin 1) => Fin.ext ?_)
  obtain rfl : a = 0 := Subsingleton.elim _ _
  show (Scalar.indexCast (BitVec.ofNat 32 (i 0).val)).toNat + 1 * 0 = (i 0).val
  omega

/-- Window 1's block: the expert's gate columns, the half the inner coordinate names. -/
theorem index_1 (pf : pre0.Contents (Elt F)) (i : grid0.Coords) :
    cc0_transform_1 k0_off1_inb numel1_S1 pf i = ![(show BitVec 32 from pf 0 (ix1 (i 0))).toNat, 0, (i 1).val] := by
  have h1 : (i 1).val < 2 := (i 1).isLt
  have e : (BitVec.ofNat 32 (i 1).val).toNat = (i 1).val := by rw [BitVec.toNat_ofNat]; omega
  show ![_, _, _] = ![_, _, _]
  rw [word_at pf i, e]
  rfl

/-- Window 2's block: the expert's up columns, the half the inner coordinate names. -/
theorem index_2 (pf : pre0.Contents (Elt F)) (i : grid0.Coords) :
    cc0_transform_2 k0_off1_inb numel1_S1 pf i = ![(show BitVec 32 from pf 0 (ix1 (i 0))).toNat, 0, (i 1).val + 2] := by
  have h1 : (i 1).val < 2 := (i 1).isLt
  have e : (Scalar.addi (BitVec.ofNat 32 (i 1).val) 2#32).toNat = (i 1).val + 2 := by
    show (BitVec.ofNat 32 (i 1).val + 2#32).toNat = _
    rw [BitVec.toNat_add, BitVec.toNat_ofNat, BitVec.toNat_ofNat]; omega
  show ![_, _, _] = ![_, _, _]
  rw [word_at pf i, e]
  rfl

/-- Window 3's block: the expert's rows of the down projection, the half the inner coordinate names. -/
theorem index_3 (pf : pre0.Contents (Elt F)) (i : grid0.Coords) :
    cc0_transform_3 k0_off1_inb numel1_S1 pf i = ![(show BitVec 32 from pf 0 (ix1 (i 0))).toNat, (i 1).val, 0] := by
  have h1 : (i 1).val < 2 := (i 1).isLt
  have e : (BitVec.ofNat 32 (i 1).val).toNat = (i 1).val := by rw [BitVec.toNat_ofNat]; omega
  show ![_, _, _] = ![_, _, _]
  rw [word_at pf i, e]
  rfl

/-- With every word of the table below the number of experts, every block read through it is inside its array. -/
theorem ok_of_lt (pf : pre0.Contents (Elt F)) (h : ∀ y : S264.Idx, (show BitVec 32 from pf 0 y).toNat < 8) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h0 := h (ix1 (i 0))
    have h1 : (i 1).val < 2 := (i 1).isLt
  · rw [index_1]
    fin_cases a
    · show ((show BitVec 32 from pf 0 (ix1 (i 0))).toNat + 1) * 1 ≤ 8; omega
    · show (0 + 1) * 1024 ≤ 1024; omega
    · show ((i 1).val + 1) * 1792 ≤ 7168; omega
  · rw [index_2]
    fin_cases a
    · show ((show BitVec 32 from pf 0 (ix1 (i 0))).toNat + 1) * 1 ≤ 8; omega
    · show (0 + 1) * 1024 ≤ 1024; omega
    · show ((i 1).val + 2 + 1) * 1792 ≤ 7168; omega
  · rw [index_3]
    fin_cases a
    · show ((show BitVec 32 from pf 0 (ix1 (i 0))).toNat + 1) * 1 ≤ 8; omega
    · show ((i 1).val + 1) * 1792 ≤ 3584; omega
    · show (0 + 1) * 1024 ≤ 1024; omega

variable (W : Valuation τ sig (Elt F))

/-- What the host's last stretches leave in the table. -/
theorem s6_table : StableHlo.after hostOps0_6 W (Proc.devRef .tc main_v61) =
    minsi (Host.reduce IntOp.addi (extui 32 (cmpi .sle
        (broadcastInDim S264x8 ![0, 1] bcast_S1x8_S264x8_0_1 (broadcastInDim S1x8 ![1] bcast_S8_S1x8_1 (W (Proc.devRef .tc main_v31))))
        (broadcastInDim S264x8 ![0, 1] bcast_S264x1_S264x8_0_1 (broadcastInDim S264x1 ![0] bcast_S264_S264x1_0
          (muli (iotaInDim S264 32 0) (broadcastInDim S264 ![] bcast_S_S264 (constantI S_ 32 512#32)))))) natLt_1_32) (constantI S_ 32 0#32) reducesTo_S264x8_S264_d1 h_S_) (broadcastInDim S264 ![] bcast_S_S264 (constantI S_ 32 7#32)) := by
  after_results

theorem k7_v61 : StableHlo.after hostOps0_7 W (Proc.devRef .tc main_v61) = W (Proc.devRef .tc main_v61) := by
  after_results

theorem k8_v61 : StableHlo.after hostOps0_8 W (Proc.devRef .tc main_v61) = W (Proc.devRef .tc main_v61) := by
  after_results

/-- Stretches one after another. -/
theorem after_join (l k : List (HloOp τ sig (Elt F))) : StableHlo.after (l ++ k) W = StableHlo.after k (StableHlo.after l W) := by
  induction l generalizing W with
  | nil => rfl
  | cons op l ih => exact ih _

/-- The kernel's table is in range, whatever the arguments hold. -/
theorem ok (m : (ℓ : Loc nD τ sig) → Buf (Elt F) ℓ) : Ok m := by
  refine ok_of_lt _ fun y => ?_
  obtain ⟨t, rfl⟩ : ∃ t : Fin 264, y = ValueIdx.ix1 t := ⟨y (0 : Fin 1), ValueIdx.eq_ix1 y⟩
  have h : ∃ x : Fin 8, (show IVec S264 32 from V m 0 main_v61) (ValueIdx.ix1 t) = BitVec.ofNat 32 x.val := by
    unfold V V0
    simp only [List.flatten_cons, List.flatten_nil, List.append_nil, after_join]
    rw [k8_v61, k7_v61, s6_table]
    exact Moe.table_lt _ _ _ _ _ t
  obtain ⟨x, hx⟩ := h
  show ((show IVec S264 32 from V m 0 main_v61) (ValueIdx.ix1 t)).toNat < 8
  rw [hx, BitVec.toNat_ofNat]
  have := x.isLt
  omega

end Cert.Kernel.Value

end
-- ==== Proof.LaunchIdeal.lean ====
/- The launch of the expert program (real arithmetic): what the output's staging buffer and the accumulator hold after
   each grid point (`outsAt0`), the pipeline's proof data (`dats`), the body's obligation at every point, the run (`run_main`)
   and the frame (`frame`). The whole-body runs of the two cases of a grid point come from the generated modules. -/
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Launch

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What one run of the body leaves: the first half of the hidden axis (case A) and the second (case B) -/

section FirstHalf

variable (c : Dev nD) (i : grid0.Coords) (arg3 : Memref sig .tc .vmem S512x1024 .bf16) (harg3 : arg3.IsWhole) (arg4 : Memref sig .tc .vmem S1x1024x1792 .bf16) (harg4 : arg4.IsWhole) (arg5 : Memref sig .tc .vmem S1x1024x1792 .bf16) (harg5 : arg5.IsWhole) (arg6 : Memref sig .tc .vmem S1x1792x1024 .bf16) (harg6 : arg6.IsWhole) (arg7 : Memref sig .tc .vmem S512x1 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i)
  (x0 : Vec F S512x1024 .bf16) (x1 : Vec F S1x1024x1792 .bf16) (x2 : Vec F S1x1024x1792 .bf16) (x3 : Vec F S1x1792x1024 .bf16) (x4 : Vec F S512x1 .f32) (xt0 : TbBuf0 (F := F) c tbM0_0)

/-- Case A stores nothing into output 5, which is idle there; nothing reads this placeholder. -/
def out0_A_5 : Vec F S512x1024 .bf16 := VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4 xt0).1)

/-- Case A's pieces for the accumulator tile it. -/
theorem scover0_A_0 (y : S512x1024.Idx) : ∃ pc ∈ (kernelRun0_A c i arg3 harg3 arg4 harg4 arg5 harg5 arg6 harg6 arg7 harg7 arg8 harg8 arg9 harg9 hc0 hc1 x0 x1 x2 x3 x4 xt0).2.1, y ∈ pc.1.set :=
  View.cover_of_tiledL (kernelRun0_A c i arg3 harg3 arg4 harg4 arg5 harg5 arg6 harg6 arg7 harg7 arg8 harg8 arg9 harg9 hc0 hc1 x0 x1 x2 x3 x4 xt0).2.1 S512x1024.size (by sl_kernel_rfl) y

/-- What case A leaves in the accumulator: its pieces read back. -/
def sout0_A_0 : Vec F S512x1024 .f32 := VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4 xt0).2.1)

end FirstHalf

section SecondHalf

variable (c : Dev nD) (i : grid0.Coords) (arg3 : Memref sig .tc .vmem S512x1024 .bf16) (harg3 : arg3.IsWhole) (arg4 : Memref sig .tc .vmem S1x1024x1792 .bf16) (harg4 : arg4.IsWhole) (arg5 : Memref sig .tc .vmem S1x1024x1792 .bf16) (harg5 : arg5.IsWhole) (arg6 : Memref sig .tc .vmem S1x1792x1024 .bf16) (harg6 : arg6.IsWhole) (arg7 : Memref sig .tc .vmem S512x1 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
  (x0 : Vec F S512x1024 .bf16) (x1 : Vec F S1x1024x1792 .bf16) (x2 : Vec F S1x1024x1792 .bf16) (x3 : Vec F S1x1792x1024 .bf16) (x4 : Vec F S512x1 .f32) (xt0 : TbBuf0 (F := F) c tbM0_0) (xs0 : Vec F S512x1024 .f32)

/-- Case B's pieces for output 5 tile its block. -/
theorem cover0_B_5 (y : S512x1024.Idx) : ∃ pc ∈ (kernelRun0_B c i arg3 harg3 arg4 harg4 arg5 harg5 arg6 harg6 arg7 harg7 arg8 harg8 arg9 harg9 hc0 hc1 x0 x1 x2 x3 x4 xt0 xs0).1, y ∈ pc.1.set :=
  View.cover_of_tiledL (kernelRun0_B c i arg3 harg3 arg4 harg4 arg5 harg5 arg6 harg6 arg7 harg7 arg8 harg8 arg9 harg9 hc0 hc1 x0 x1 x2 x3 x4 xt0 xs0).1 S512x1024.size (by sl_kernel_rfl) y

/-- What case B leaves in output 5's staging buffer: its pieces read back. -/
def out0_B_5 : Vec F S512x1024 .bf16 := VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xt0 xs0).1)

/-- Case B's pieces for the accumulator tile it. -/
theorem scover0_B_0 (y : S512x1024.Idx) : ∃ pc ∈ (kernelRun0_B c i arg3 harg3 arg4 harg4 arg5 harg5 arg6 harg6 arg7 harg7 arg8 harg8 arg9 harg9 hc0 hc1 x0 x1 x2 x3 x4 xt0 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xt0 xs0).2.1 S512x1024.size (by sl_kernel_rfl) y

/-- What case B leaves in the accumulator: its pieces read back. -/
def sout0_B_0 : Vec F S512x1024 .f32 := VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xt0 xs0).2.1)

end SecondHalf

/-- What a point of the first half leaves: the output's staging buffer and the accumulator. -/
def left_A (hO : Ok m) (c : Dev nD) (t : Fin (cfgM m hO).N) (h0 : t.val % 2 = 0) (h1 : ¬t.val % 2 = 1) : Vec F S512x1024 .bf16 × Vec F S512x1024 .f32 :=
  (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (tbl m 0),
    sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (tbl m 0))

/-- What a point of the second half leaves, over the accumulator `xs` it finds. -/
def left_B (hO : Ok m) (c : Dev nD) (t : Fin (cfgM m hO).N) (h0 : ¬t.val % 2 = 0) (h1 : t.val % 2 = 1) (xs : Vec F S512x1024 .f32) : Vec F S512x1024 .bf16 × Vec F S512x1024 .f32 :=
  (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (tbl m 0) xs,
    sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (tbl m 0) xs)

/-! ## What the outputs hold after each point -/

/-- What the output's staging buffer and the accumulator hold after the body at position `n`: the half that position works on, over the
    accumulator the position before left. -/
def outsAt0 (hO : Ok m) (c : Dev nD) : (n : ℕ) → n < (cfgM m hO).N → Vec F S512x1024 .bf16 × Vec F S512x1024 .f32
  | 0, hn => left_A m hO c ⟨0, hn⟩ (Nat.zero_mod _) (by show ¬0 % 2 = 1; decide)
  | n + 1, hn =>
    if h0 : (n + 1) % 2 = 0 then left_A m hO c ⟨n + 1, hn⟩ h0 (by show ¬(n + 1) % 2 = 1; omega)
    else left_B m hO c ⟨n + 1, hn⟩ h0 (by show (n + 1) % 2 = 1; omega) (outsAt0 hO c n (Nat.lt_of_succ_lt hn)).2

/-- `outsAt0` at a point of the first half. -/
theorem outsAt0_A (hO : Ok m) (c : Dev nD) (t : Fin (cfgM m hO).N) (h0 : t.val % 2 = 0) (h1 : ¬t.val % 2 = 1) :
    outsAt0 m hO c t.val t.isLt = left_A m hO c t h0 h1 := by
  obtain ⟨n, hn⟩ := t
  cases n with
  | zero => exact rfl
  | succ n => rw [outsAt0, dif_pos h0]

/-- `outsAt0` at a point of the second half. -/
theorem outsAt0_B (hO : Ok m) (c : Dev nD) (t : Fin (cfgM m hO).N) (h0 : ¬t.val % 2 = 0) (h1 : t.val % 2 = 1) :
    outsAt0 m hO c t.val t.isLt = left_B m hO c t h0 h1 (outsAt0 m hO c (t.val - 1) (Nat.lt_of_le_of_lt (Nat.sub_le _ _) t.isLt)).2 := by
  obtain ⟨n, hn⟩ := t
  cases n with
  | zero => exact absurd (Nat.zero_mod _) h0
  | succ n => rw [outsAt0, dif_neg h0]; rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-- The invariant at any point gives the first point's back: what the accumulator holds is forgotten. -/
theorem PhiS_any (hO : Ok m) (c : Dev nD) (n : ℕ) (h : n ≤ (cfgM m hO).N) : PhiS m hO c n h ⊢ iprop(Pipeline.ΦA spec0 c ∗ Pipeline.ΦT pre0 (tbl m) c) := by
  cases n with
  | zero => exact .rfl
  | succ n =>
    rw [PhiS_succ, PhiA0_eq]
    iintro ⟨⟨HS0, Hg⟩, HT⟩
    isplitl [HS0 Hg]
    · isplitl [HS0]
      · iexists _; iexact HS0
      iexact Hg
    iexact HT

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 528 := lt_of_lt_of_eq t.isLt (show (cfgM m hO).N = 528 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  by_cases h0 : t.val % 2 = 0
  · by_cases h1 : t.val % 2 = 1
    · exfalso; omega
    · rw [Dat.leavesExact_idle (dats m hO 0 c) 5 t (idleAt0_5_A m hO t ((hcond0_0 t).mpr h0) (fun h => h1 ((hcond0_1 t).mp h))) (noFlush0_5_A m hO t ((hcond0_0 t).mpr h0) (fun h => h1 ((hcond0_1 t).mp h)))]
      rw [PhiS_castSucc m hO c t]
      refine (sep_mono (PhiS_any m hO c t.val (Nat.le_of_lt t.isLt)) .rfl).trans ?_
      rw [PhiT0_eq, PhiA0_eq]
      rw [outsAt0_A m hO c t h0 h1]
      unfold left_A sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (tbl m 0)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HT0]; · iexact HT0
      iintro ⟨H0, H1, H2, H3, H4, H5, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 2 = 1
    · rw [show (dats m hO 0 c).leavesExact 5 t = owns (c : Thread nD τ) (ms0_5 m hO t) fullShare ((dats m hO 0 c).after 5 t) from by
      unfold Dat.leavesExact; rw [liveAt0_5_B m hO t (fun h => h0 ((hcond0_0 t).mp h)) ((hcond0_1 t).mpr h1)]; try rfl, after0_5]
      by_cases hz : t.val = 0
      · exfalso; have hN : t.val < 528 := lt_of_lt_of_eq t.isLt (show (cfgM m hO).N = 528 from N_0); omega
      · rw [PhiS_castSucc m hO c t, PhiS_pos m hO c _ _ hz, PhiT0_eq]
        rw [outsAt0_B m hO c t h0 h1]
        unfold left_B out0_B_5 sout0_B_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (tbl m 0) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HT0]; · iexact HT0
        iintro ⟨H0, H1, H2, H3, H4, ⟨%e5, H5⟩, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_B_5 c _ _ _ _ _ _ _ _ _ _ _ _ _ _ _ _ _ _ _ _ _ _ _ _)
    · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 528 := N_0; omega)

/-! ## The run and the frame -/

-- `θ_run_frameP_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- The frame: every run ends with the argument arrays unchanged and every counter zero, for every prefetched table
    within the side condition `Gen.Ok m`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Launch

end
-- ==== Proof.TableOk.lean ====
/- The expert table keeps every block the kernel fetches through it inside its array. -/
module

public import proofs.«01_k».proof.Defs
public import proofs.«01_k».proof.Proof.Gen.KernelIdeal.Frame.Runs
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The table word a window's index map reads at a grid point is the row tile's. -/
theorem word_at (pf : pre0.Contents (Elt F)) (i : grid0.Coords) :
    pf.at 0 (Rect.unit (s := S264) ![(Scalar.indexCast (BitVec.ofNat 32 (i 0).val)).toNat] S1.size (k0_off1_inb i)) numel1_S1
      = pf 0 (ix1 (i 0)) := by
  have r_i0 : (i 0).val < 264 := (i 0).isLt
  have e : (Scalar.indexCast (BitVec.ofNat 32 (i 0).val)).toNat = (i 0).val :=
    Affine.nat_eq (Affine.indexCast (Affine.ofNat (i 0).val (by omega))) _ rfl
  refine congrArg (pf 0) (funext fun (a : Fin 1) => Fin.ext ?_)
  obtain rfl : a = 0 := Subsingleton.elim _ _
  show (Scalar.indexCast (BitVec.ofNat 32 (i 0).val)).toNat + 1 * 0 = (i 0).val
  omega

/-- Window 1's block: the expert's gate columns, the half the inner coordinate names. -/
theorem index_1 (pf : pre0.Contents (Elt F)) (i : grid0.Coords) :
    cc0_transform_1 k0_off1_inb numel1_S1 pf i = ![(show BitVec 32 from pf 0 (ix1 (i 0))).toNat, 0, (i 1).val] := by
  have h1 : (i 1).val < 2 := (i 1).isLt
  have e : (BitVec.ofNat 32 (i 1).val).toNat = (i 1).val := by rw [BitVec.toNat_ofNat]; omega
  show ![_, _, _] = ![_, _, _]
  rw [word_at pf i, e]
  rfl

/-- Window 2's block: the expert's up columns, the half the inner coordinate names. -/
theorem index_2 (pf : pre0.Contents (Elt F)) (i : grid0.Coords) :
    cc0_transform_2 k0_off1_inb numel1_S1 pf i = ![(show BitVec 32 from pf 0 (ix1 (i 0))).toNat, 0, (i 1).val + 2] := by
  have h1 : (i 1).val < 2 := (i 1).isLt
  have e : (Scalar.addi (BitVec.ofNat 32 (i 1).val) 2#32).toNat = (i 1).val + 2 := by
    show (BitVec.ofNat 32 (i 1).val + 2#32).toNat = _
    rw [BitVec.toNat_add, BitVec.toNat_ofNat, BitVec.toNat_ofNat]; omega
  show ![_, _, _] = ![_, _, _]
  rw [word_at pf i, e]
  rfl

/-- Window 3's block: the expert's rows of the down projection, the half the inner coordinate names. -/
theorem index_3 (pf : pre0.Contents (Elt F)) (i : grid0.Coords) :
    cc0_transform_3 k0_off1_inb numel1_S1 pf i = ![(show BitVec 32 from pf 0 (ix1 (i 0))).toNat, (i 1).val, 0] := by
  have h1 : (i 1).val < 2 := (i 1).isLt
  have e : (BitVec.ofNat 32 (i 1).val).toNat = (i 1).val := by rw [BitVec.toNat_ofNat]; omega
  show ![_, _, _] = ![_, _, _]
  rw [word_at pf i, e]
  rfl

/-- With every word of the table below the number of experts, every block read through it is inside its array. -/
theorem ok_of_lt (pf : pre0.Contents (Elt F)) (h : ∀ y : S264.Idx, (show BitVec 32 from pf 0 y).toNat < 8) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h0 := h (ix1 (i 0))
    have h1 : (i 1).val < 2 := (i 1).isLt
  · rw [index_1]
    fin_cases a
    · show ((show BitVec 32 from pf 0 (ix1 (i 0))).toNat + 1) * 1 ≤ 8; omega
    · show (0 + 1) * 1024 ≤ 1024; omega
    · show ((i 1).val + 1) * 1792 ≤ 7168; omega
  · rw [index_2]
    fin_cases a
    · show ((show BitVec 32 from pf 0 (ix1 (i 0))).toNat + 1) * 1 ≤ 8; omega
    · show (0 + 1) * 1024 ≤ 1024; omega
    · show ((i 1).val + 2 + 1) * 1792 ≤ 7168; omega
  · rw [index_3]
    fin_cases a
    · show ((show BitVec 32 from pf 0 (ix1 (i 0))).toNat + 1) * 1 ≤ 8; omega
    · show ((i 1).val + 1) * 1792 ≤ 3584; omega
    · show (0 + 1) * 1024 ≤ 1024; omega

end Cert.KernelIdeal.Value

end
-- ==== Proof.HostStages.lean ====
/- What each stretch of the host's routing leaves in the arrays that the later ones read, from whatever it finds. -/
module

public import proofs.«01_k».proof.Proof.Gen.KernelIdeal.Launch
public import Idealize.ShloMosaic.Lib.Routing.Model
public import Idealize.ShloMosaic.Lib.StableHlo.Run

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F] (W : Valuation τ sig (Elt F))

theorem s0_pick : StableHlo.after hostOps0 W (Proc.devRef .tc main_v11) =
    shapeCast S131072 (Host.topK S65536x2 1 (FloatOps.cmpfTotal .gt) (W (Proc.devRef .tc main_arg1)) sliceFits_S65536x8_S65536x2).2 shapeCasts_S65536x2_S131072 := by
  after_results; rfl

theorem s0_ones : StableHlo.after hostOps0 W (Proc.devRef .tc main_v18) =
    extui 32 (cmpi .eq (broadcastInDim S131072x8 ![0, 1] bcast_S131072x1_S131072x8_0_1 (broadcastInDim S131072x1 ![0] bcast_S131072_S131072x1_0
        (shapeCast S131072 (Host.topK S65536x2 1 (FloatOps.cmpfTotal .gt) (W (Proc.devRef .tc main_arg1)) sliceFits_S65536x8_S65536x2).2 shapeCasts_S65536x2_S131072)))
      (broadcastInDim S131072x8 ![0, 1] bcast_S1x8_S131072x8_0_1 (broadcastInDim S1x8 ![1] bcast_S8_S1x8_1 (iotaInDim S8 32 0)))) natLt_1_32 := by
  after_results; rfl

theorem s1_sums : StableHlo.after hostOps0_1 W (Proc.devRef .tc main_v19) =
    Host.reduceWindow IntOp.addi ![131072, 1] ![1, 1] ![131071, 0] ![0, 0] (W (Proc.devRef .tc main_v18))
      (broadcastInDim S_ ![] bcast_S_S_ (constantI S_ 32 0#32)) reduceWindows_S131072x8_S131072x8_w131072s1p131071_0_w1s1p0_0 h_S_ := by
  after_results; simp only [StableHlo.TRef.toBuf, StableHlo.TRef.ofBuf, cast_cast, cast_eq]

theorem s2_rank : StableHlo.after hostOps0_2 W (Proc.devRef .tc main_v22) =
    Host.reduce IntOp.addi (muli (subi (W (Proc.devRef .tc main_v19)) (W (Proc.devRef .tc main_v18))) (W (Proc.devRef .tc main_v18))) (constantI S_ 32 0#32) reducesTo_S131072x8_S131072_d1 h_S_ := by
  after_results

theorem s2_upto : StableHlo.after hostOps0_2 W (Proc.devRef .tc main_v27) =
    subi (addi (Host.reduce IntOp.addi (W (Proc.devRef .tc main_v18)) (constantI S_ 32 0#32) reducesTo_S131072x8_S8_d0 h_S_) (broadcastInDim S8 ![] bcast_S_S8 (constantI S_ 32 512#32))) (broadcastInDim S8 ![] bcast_S_S8 (constantI S_ 32 1#32)) := by
  after_results

theorem s2_tile : StableHlo.after hostOps0_2 W (Proc.devRef .tc main_c_5) =
    constantI S_ 32 512#32 := by
  after_results

theorem s3_tiles : StableHlo.after hostOps0_3 W (Proc.devRef .tc main_v28) =
    Routing.pyDiv bcast_S_S8 (W (Proc.devRef .tc main_v27)) (W (Proc.devRef .tc main_c_5)) := by
  after_results; simp only [StableHlo.TRef.toBuf, StableHlo.TRef.ofBuf, cast_cast, cast_eq]; rfl

theorem s4_places : StableHlo.after hostOps0_4 W (Proc.devRef .tc main_v30) =
    muli (W (Proc.devRef .tc main_v28)) (broadcastInDim S8 ![] bcast_S_S8 (constantI S_ 32 512#32)) := by
  after_results

theorem s5_ends : StableHlo.after hostOps0_5 W (Proc.devRef .tc main_v31) =
    Host.reduceWindow IntOp.addi ![8] ![1] ![7] ![0] (W (Proc.devRef .tc main_v30)) (broadcastInDim S_ ![] bcast_S_S_ (constantI S_ 32 0#32)) reduceWindows_S8_S8_w8s1p7_0 h_S_ := by
  after_results; simp only [StableHlo.TRef.toBuf, StableHlo.TRef.ofBuf, cast_cast, cast_eq]

theorem s6_place : StableHlo.after hostOps0_6 W (Proc.devRef .tc main_v40) =
    addi (Host.gather gather_S8_S131072x1_S131072_n_0_n_n_0_1_1 (subi (W (Proc.devRef .tc main_v31)) (W (Proc.devRef .tc main_v30))) (broadcastInDim S131072x1 ![0] bcast_S131072_S131072x1_0
      (select (cmpi .slt (W (Proc.devRef .tc main_v11)) (broadcastInDim S131072 ![] bcast_S_S131072 (constantI S_ 32 0#32))) (addi (W (Proc.devRef .tc main_v11)) (broadcastInDim S131072 ![] bcast_S_S131072 (constantI S_ 32 8#32))) (W (Proc.devRef .tc main_v11))))) (W (Proc.devRef .tc main_v22)) := by
  after_results

theorem s6_pair : StableHlo.after hostOps0_6 W (Proc.devRef .tc main_v49) =
    Host.scatter scatter_S135168_S131072x1_S131072_n_0_0_1 (fun _ b => b) (broadcastInDim S135168 ![] bcast_S_S135168 (constantI S_ 32 0#32)) (broadcastInDim S131072x1 ![0] bcast_S131072_S131072x1_0
      (select (cmpi .slt (StableHlo.after hostOps0_6 W (Proc.devRef .tc main_v40)) (broadcastInDim S131072 ![] bcast_S_S131072 (constantI S_ 32 0#32))) (addi (StableHlo.after hostOps0_6 W (Proc.devRef .tc main_v40)) (broadcastInDim S131072 ![] bcast_S_S131072 (constantI S_ 32 135168#32)))
        (StableHlo.after hostOps0_6 W (Proc.devRef .tc main_v40)))) (iotaInDim S131072 32 0) := by
  after_results

theorem s6_table : StableHlo.after hostOps0_6 W (Proc.devRef .tc main_v61) =
    minsi (Host.reduce IntOp.addi (extui 32 (cmpi .sle
        (broadcastInDim S264x8 ![0, 1] bcast_S1x8_S264x8_0_1 (broadcastInDim S1x8 ![1] bcast_S8_S1x8_1 (W (Proc.devRef .tc main_v31))))
        (broadcastInDim S264x8 ![0, 1] bcast_S264x1_S264x8_0_1 (broadcastInDim S264x1 ![0] bcast_S264_S264x1_0
          (muli (iotaInDim S264 32 0) (broadcastInDim S264 ![] bcast_S_S264 (constantI S_ 32 512#32)))))) natLt_1_32) (constantI S_ 32 0#32) reducesTo_S264x8_S264_d1 h_S_) (broadcastInDim S264 ![] bcast_S_S264 (constantI S_ 32 7#32)) := by
  after_results

theorem s6_two : StableHlo.after hostOps0_6 W (Proc.devRef .tc main_c_15) =
    constantI S_ 32 2#32 := by
  after_results

theorem s7_row : StableHlo.after hostOps0_7 W (Proc.devRef .tc main_v62) =
    Routing.pyDiv bcast_S_S135168 (W (Proc.devRef .tc main_v49)) (W (Proc.devRef .tc main_c_15)) := by
  after_results; simp only [StableHlo.TRef.toBuf, StableHlo.TRef.ofBuf, cast_cast, cast_eq]; rfl

theorem s8_rows : StableHlo.after hostOps0_8 W (Proc.devRef .tc main_v69) =
    Host.gather gather_S65536x1024_S135168x1_S135168x1024_1_0_n_n_0_1_11024 (W (Proc.devRef .tc main_arg0)) (broadcastInDim S135168x1 ![0] bcast_S135168_S135168x1_0
      (select (cmpi .slt (W (Proc.devRef .tc main_v62)) (broadcastInDim S135168 ![] bcast_S_S135168 (constantI S_ 32 0#32))) (addi (W (Proc.devRef .tc main_v62)) (broadcastInDim S135168 ![] bcast_S_S135168 (constantI S_ 32 65536#32))) (W (Proc.devRef .tc main_v62)))) := by
  after_results

theorem s8_weights : StableHlo.after hostOps0_8 W (Proc.devRef .tc main_v78) =
    broadcastInDim S135168x1 ![0] bcast_S135168_S135168x1_0 (Host.gather gather_S131072_S135168x1_S135168_n_0_n_n_0_1_1
      (shapeCast S131072 (W (Proc.devRef .tc main_v10)) shapeCasts_S65536x2_S131072) (broadcastInDim S135168x1 ![0] bcast_S135168_S135168x1_0
      (select (cmpi .slt (W (Proc.devRef .tc main_v49)) (broadcastInDim S135168 ![] bcast_S_S135168 (constantI S_ 32 0#32))) (addi (W (Proc.devRef .tc main_v49)) (broadcastInDim S135168 ![] bcast_S_S135168 (constantI S_ 32 131072#32))) (W (Proc.devRef .tc main_v49))))) := by
  after_results; rfl

theorem s8_gu : StableHlo.after hostOps0_8 W (Proc.devRef .tc main_v79) =
    truncf .bf16 (W (Proc.devRef .tc main_arg2)) bitsLt_bf16_f32 := by
  after_results

theorem s8_down : StableHlo.after hostOps0_8 W (Proc.devRef .tc main_v80) =
    truncf .bf16 (W (Proc.devRef .tc main_arg3)) bitsLt_bf16_f32 := by
  after_results

theorem k1_v10 : StableHlo.after hostOps0_1 W (Proc.devRef .tc main_v10) = W (Proc.devRef .tc main_v10) := by
  after_results

theorem k1_v11 : StableHlo.after hostOps0_1 W (Proc.devRef .tc main_v11) = W (Proc.devRef .tc main_v11) := by
  after_results

theorem k1_v18 : StableHlo.after hostOps0_1 W (Proc.devRef .tc main_v18) = W (Proc.devRef .tc main_v18) := by
  after_results

theorem k1_arg0 : StableHlo.after hostOps0_1 W (Proc.devRef .tc main_arg0) = W (Proc.devRef .tc main_arg0) := by
  after_results

theorem k1_arg2 : StableHlo.after hostOps0_1 W (Proc.devRef .tc main_arg2) = W (Proc.devRef .tc main_arg2) := by
  after_results

theorem k1_arg3 : StableHlo.after hostOps0_1 W (Proc.devRef .tc main_arg3) = W (Proc.devRef .tc main_arg3) := by
  after_results

theorem k2_v10 : StableHlo.after hostOps0_2 W (Proc.devRef .tc main_v10) = W (Proc.devRef .tc main_v10) := by
  after_results

theorem k2_v11 : StableHlo.after hostOps0_2 W (Proc.devRef .tc main_v11) = W (Proc.devRef .tc main_v11) := by
  after_results

theorem k2_arg0 : StableHlo.after hostOps0_2 W (Proc.devRef .tc main_arg0) = W (Proc.devRef .tc main_arg0) := by
  after_results

theorem k2_arg2 : StableHlo.after hostOps0_2 W (Proc.devRef .tc main_arg2) = W (Proc.devRef .tc main_arg2) := by
  after_results

theorem k2_arg3 : StableHlo.after hostOps0_2 W (Proc.devRef .tc main_arg3) = W (Proc.devRef .tc main_arg3) := by
  after_results

theorem k3_v10 : StableHlo.after hostOps0_3 W (Proc.devRef .tc main_v10) = W (Proc.devRef .tc main_v10) := by
  after_results

theorem k3_v11 : StableHlo.after hostOps0_3 W (Proc.devRef .tc main_v11) = W (Proc.devRef .tc main_v11) := by
  after_results

theorem k3_v22 : StableHlo.after hostOps0_3 W (Proc.devRef .tc main_v22) = W (Proc.devRef .tc main_v22) := by
  after_results

theorem k3_arg0 : StableHlo.after hostOps0_3 W (Proc.devRef .tc main_arg0) = W (Proc.devRef .tc main_arg0) := by
  after_results

theorem k3_arg2 : StableHlo.after hostOps0_3 W (Proc.devRef .tc main_arg2) = W (Proc.devRef .tc main_arg2) := by
  after_results

theorem k3_arg3 : StableHlo.after hostOps0_3 W (Proc.devRef .tc main_arg3) = W (Proc.devRef .tc main_arg3) := by
  after_results

theorem k4_v10 : StableHlo.after hostOps0_4 W (Proc.devRef .tc main_v10) = W (Proc.devRef .tc main_v10) := by
  after_results

theorem k4_v11 : StableHlo.after hostOps0_4 W (Proc.devRef .tc main_v11) = W (Proc.devRef .tc main_v11) := by
  after_results

theorem k4_v22 : StableHlo.after hostOps0_4 W (Proc.devRef .tc main_v22) = W (Proc.devRef .tc main_v22) := by
  after_results

theorem k4_arg0 : StableHlo.after hostOps0_4 W (Proc.devRef .tc main_arg0) = W (Proc.devRef .tc main_arg0) := by
  after_results

theorem k4_arg2 : StableHlo.after hostOps0_4 W (Proc.devRef .tc main_arg2) = W (Proc.devRef .tc main_arg2) := by
  after_results

theorem k4_arg3 : StableHlo.after hostOps0_4 W (Proc.devRef .tc main_arg3) = W (Proc.devRef .tc main_arg3) := by
  after_results

theorem k5_v10 : StableHlo.after hostOps0_5 W (Proc.devRef .tc main_v10) = W (Proc.devRef .tc main_v10) := by
  after_results

theorem k5_v11 : StableHlo.after hostOps0_5 W (Proc.devRef .tc main_v11) = W (Proc.devRef .tc main_v11) := by
  after_results

theorem k5_v22 : StableHlo.after hostOps0_5 W (Proc.devRef .tc main_v22) = W (Proc.devRef .tc main_v22) := by
  after_results

theorem k5_v30 : StableHlo.after hostOps0_5 W (Proc.devRef .tc main_v30) = W (Proc.devRef .tc main_v30) := by
  after_results

theorem k5_arg0 : StableHlo.after hostOps0_5 W (Proc.devRef .tc main_arg0) = W (Proc.devRef .tc main_arg0) := by
  after_results

theorem k5_arg2 : StableHlo.after hostOps0_5 W (Proc.devRef .tc main_arg2) = W (Proc.devRef .tc main_arg2) := by
  after_results

theorem k5_arg3 : StableHlo.after hostOps0_5 W (Proc.devRef .tc main_arg3) = W (Proc.devRef .tc main_arg3) := by
  after_results

theorem k6_v10 : StableHlo.after hostOps0_6 W (Proc.devRef .tc main_v10) = W (Proc.devRef .tc main_v10) := by
  after_results

theorem k6_arg0 : StableHlo.after hostOps0_6 W (Proc.devRef .tc main_arg0) = W (Proc.devRef .tc main_arg0) := by
  after_results

theorem k6_arg2 : StableHlo.after hostOps0_6 W (Proc.devRef .tc main_arg2) = W (Proc.devRef .tc main_arg2) := by
  after_results

theorem k6_arg3 : StableHlo.after hostOps0_6 W (Proc.devRef .tc main_arg3) = W (Proc.devRef .tc main_arg3) := by
  after_results

theorem k7_v10 : StableHlo.after hostOps0_7 W (Proc.devRef .tc main_v10) = W (Proc.devRef .tc main_v10) := by
  after_results

theorem k7_v40 : StableHlo.after hostOps0_7 W (Proc.devRef .tc main_v40) = W (Proc.devRef .tc main_v40) := by
  after_results

theorem k7_v49 : StableHlo.after hostOps0_7 W (Proc.devRef .tc main_v49) = W (Proc.devRef .tc main_v49) := by
  after_results

theorem k7_v61 : StableHlo.after hostOps0_7 W (Proc.devRef .tc main_v61) = W (Proc.devRef .tc main_v61) := by
  after_results

theorem k7_arg0 : StableHlo.after hostOps0_7 W (Proc.devRef .tc main_arg0) = W (Proc.devRef .tc main_arg0) := by
  after_results

theorem k7_arg2 : StableHlo.after hostOps0_7 W (Proc.devRef .tc main_arg2) = W (Proc.devRef .tc main_arg2) := by
  after_results

theorem k7_arg3 : StableHlo.after hostOps0_7 W (Proc.devRef .tc main_arg3) = W (Proc.devRef .tc main_arg3) := by
  after_results

theorem k8_v40 : StableHlo.after hostOps0_8 W (Proc.devRef .tc main_v40) = W (Proc.devRef .tc main_v40) := by
  after_results

theorem k8_v61 : StableHlo.after hostOps0_8 W (Proc.devRef .tc main_v61) = W (Proc.devRef .tc main_v61) := by
  after_results

theorem k0_arg0 : StableHlo.after hostOps0 W (Proc.devRef .tc main_arg0) = W (Proc.devRef .tc main_arg0) := by
  after_results

theorem k0_arg2 : StableHlo.after hostOps0 W (Proc.devRef .tc main_arg2) = W (Proc.devRef .tc main_arg2) := by
  after_results

theorem k0_arg3 : StableHlo.after hostOps0 W (Proc.devRef .tc main_arg3) = W (Proc.devRef .tc main_arg3) := by
  after_results

end Cert.KernelIdeal.Value

end
-- ==== Proof.HostPlan.lean ====
/- What the kernel and the last gathers find: the table of the tiles' experts, each pair's place, the rows and weights at the places. -/
module

public import proofs.«01_k».proof.Proof.HostStages
public import proofs.«01_k».proof.Proof.Places
public import proofs.«01_k».proof.Proof.Gen.KernelIdeal.Frame.Runs

@[expose] public section

set_option maxRecDepth 16384

noncomputable section

namespace Cert.KernelIdeal.Value

open Cert.KernelIdeal Cert.KernelIdeal.Gen Idealize.ShloMosaic Idealize.ShloMosaic.TcCoe Idealize.SL.Sem

/-- Stretches one after another. -/
theorem after_join {F : FTy → Type} [FloatOps F] (l k : List (HloOp τ sig (Elt F))) (W : Valuation τ sig (Elt F)) :
    StableHlo.after (l ++ k) W = StableHlo.after k (StableHlo.after l W) := by
  induction l generalizing W with
  | nil => rfl
  | cons op l ih => exact ih _

/-- The two best experts of each row, from its scores. -/
def best (L : FVec Ideal S65536x8 .f32) : IVec S65536x2 32 :=
  (Host.topK S65536x2 1 (FloatOps.cmpfTotal .gt) L sliceFits_S65536x8_S65536x2).2
/-- Pair `i` is row `i / 2`'s choice `i % 2`: the expert it names. -/
def expertOf (L : FVec Ideal S65536x8 .f32) (i : ℕ) : ℕ :=
  if h : i < 131072 then (best L (ValueIdx.ix2 (⟨i / 2, by omega⟩ : Fin 65536) (⟨i % 2, by omega⟩ : Fin 2))).toNat else 0

theorem best_word (L : FVec Ideal S65536x8 .f32) (t : Fin 65536) (k : Fin 2) : ∃ v : Fin 8, best L (ValueIdx.ix2 t k) = BitVec.ofNat 32 v.val :=
  Moe.topK_word _ L _ t k
theorem expertOf_lt (L : FVec Ideal S65536x8 .f32) (i : ℕ) : expertOf L i < 8 := by
  unfold expertOf
  split
  · obtain ⟨v, hv⟩ := best_word L ⟨i / 2, by omega⟩ ⟨i % 2, by omega⟩
    rw [hv, BitVec.toNat_ofNat]
    have := v.isLt
    omega
  · decide
theorem best_eq (L : FVec Ideal S65536x8 .f32) (t : Fin 65536) (k : Fin 2) : best L (ValueIdx.ix2 t k) = BitVec.ofNat 32 (expertOf L (t.val * 2 + k.val)) := by
  have ht := t.isLt
  have hk := k.isLt
  unfold expertOf
  rw [dif_pos (by omega)]
  have e1 : (⟨(t.val * 2 + k.val) / 2, by omega⟩ : Fin 65536) = t := Fin.ext (by show (t.val * 2 + k.val) / 2 = t.val; omega)
  have e2 : (⟨(t.val * 2 + k.val) % 2, by omega⟩ : Fin 2) = k := Fin.ext (by show (t.val * 2 + k.val) % 2 = k.val; omega)
  rw [e1, e2, BitVec.ofNat_toNat, BitVec.setWidth_eq]

theorem pick_at (L : FVec Ideal S65536x8 .f32) (p : Fin 131072) :
    shapeCast S131072 (best L) shapeCasts_S65536x2_S131072 (ValueIdx.ix1 p) = BitVec.ofNat 32 (expertOf L p.val) := by
  have hp := p.isLt
  rw [Routing.cast21 (best L) shapeCasts_S65536x2_S131072 ⟨p.val / 2, by omega⟩ ⟨p.val % 2, by omega⟩ p (by show p.val = p.val / 2 * 2 + p.val % 2; omega), best_eq]
  congr 2
  show p.val / 2 * 2 + p.val % 2 = p.val
  omega

variable (m : (ℓ : Loc nD τ sig) → Buf (Elt Ideal) ℓ) (c : Dev nD)

/-- The rows, their scores, and the two arrays of expert weights. -/
abbrev aH : Vec Ideal S65536x1024 .bf16 := m ((c : Thread nD τ).loc main_arg0)
abbrev aL : Vec Ideal S65536x8 .f32 := m ((c : Thread nD τ).loc main_arg1)
abbrev aW : Vec Ideal S8x1024x7168 .f32 := m ((c : Thread nD τ).loc main_arg2)
abbrev aD : Vec Ideal S8x3584x1024 .f32 := m ((c : Thread nD τ).loc main_arg3)

/-- What the host has after each of its stretches. -/
def W1 : Valuation τ sig (Elt Ideal) := StableHlo.after hostOps0 (fun b => m (c, b))
def W2 : Valuation τ sig (Elt Ideal) := StableHlo.after hostOps0_1 (W1 m c)
def W3 : Valuation τ sig (Elt Ideal) := StableHlo.after hostOps0_2 (W2 m c)
def W4 : Valuation τ sig (Elt Ideal) := StableHlo.after hostOps0_3 (W3 m c)
def W5 : Valuation τ sig (Elt Ideal) := StableHlo.after hostOps0_4 (W4 m c)
def W6 : Valuation τ sig (Elt Ideal) := StableHlo.after hostOps0_5 (W5 m c)
def W7 : Valuation τ sig (Elt Ideal) := StableHlo.after hostOps0_6 (W6 m c)
def W8 : Valuation τ sig (Elt Ideal) := StableHlo.after hostOps0_7 (W7 m c)

theorem V0_eq : V0 m c = StableHlo.after hostOps0_8 (W8 m c) := by
  unfold V0 W8 W7 W6 W5 W4 W3 W2 W1
  simp only [List.flatten_cons, List.flatten_nil, List.append_nil, after_join]
theorem V_eq (b : Ref sig .tc) : V m c b = StableHlo.after hostOps0_8 (W8 m c) (Proc.devRef .tc b) := congrFun (V0_eq m c) _

/-- The expert of a pair. -/
abbrev ex : ℕ → ℕ := expertOf (aL m c)
theorem ex_lt (i : ℕ) : ex m c i < 8 := expertOf_lt _ i

theorem W_pick1 : W1 m c (Proc.devRef .tc main_v11) = shapeCast S131072 (best (aL m c)) shapeCasts_S65536x2_S131072 := s0_pick _
theorem W_pick6 : W6 m c (Proc.devRef .tc main_v11) = shapeCast S131072 (best (aL m c)) shapeCasts_S65536x2_S131072 := by
  unfold W6 W5 W4 W3 W2; rw [k5_v11, k4_v11, k3_v11, k2_v11, k1_v11, W_pick1]

/-- The mask of pairs and experts. -/
abbrev msk : IVec S131072x8 1 :=
  cmpi .eq (broadcastInDim S131072x8 ![0, 1] bcast_S131072x1_S131072x8_0_1 (broadcastInDim S131072x1 ![0] bcast_S131072_S131072x1_0
        (shapeCast S131072 (best (aL m c)) shapeCasts_S65536x2_S131072)))
      (broadcastInDim S131072x8 ![0, 1] bcast_S1x8_S131072x8_0_1 (broadcastInDim S1x8 ![1] bcast_S8_S1x8_1 (iotaInDim S8 32 0)))
theorem msk_at (p : Fin 131072) (q : Fin 8) : msk m c (ValueIdx.ix2 p q) = 1#1 ↔ ex m c p.val = q.val :=
  Moe.mask_at (ex m c) (ex_lt m c) _ (pick_at (aL m c)) _ _ _ _ p q
theorem W_ones1 : W1 m c (Proc.devRef .tc main_v18) = extui 32 (msk m c) natLt_1_32 := s0_ones _
theorem W_ones2 : W2 m c (Proc.devRef .tc main_v18) = extui 32 (msk m c) natLt_1_32 := by
  unfold W2; rw [k1_v18, W_ones1]
theorem W_sums2 : W2 m c (Proc.devRef .tc main_v19) = Host.reduceWindow IntOp.addi ![131072, 1] ![1, 1] ![131071, 0] ![0, 0] (extui 32 (msk m c) natLt_1_32)
      (broadcastInDim S_ ![] bcast_S_S_ (constantI S_ 32 0#32)) reduceWindows_S131072x8_S131072x8_w131072s1p131071_0_w1s1p0_0 h_S_ := by
  unfold W2; rw [s1_sums, W_ones1]
theorem reduces : (Routing.shape2 131072 8).Reduces [1] (Routing.shape1 131072) := by decide
theorem W_rank3 (p : Fin 131072) : (show IVec S131072 32 from W3 m c (Proc.devRef .tc main_v22)) (ValueIdx.ix1 p) = BitVec.ofNat 32 (Moe.chosen (ex m c) (ex m c p.val) p.val) := by
  unfold W3; rw [s2_rank, W_ones2]
  exact Moe.rank_at (ex m c) (ex_lt m c) (msk m c) (msk_at m c) natLt_1_32 rfl _ _ (Routing.bc0 bcast_S_S_ _ _) _ _ (W_sums2 m c) _ reduces _ p
theorem W_rank6 (p : Fin 131072) : (show IVec S131072 32 from W6 m c (Proc.devRef .tc main_v22)) (ValueIdx.ix1 p) = BitVec.ofNat 32 (Moe.chosen (ex m c) (ex m c p.val) p.val) := by
  unfold W6 W5 W4; rw [k5_v22, k4_v22, k3_v22]; exact W_rank3 m c p

theorem W_places5 (q : Fin 8) : (show IVec S8 32 from W5 m c (Proc.devRef .tc main_v30)) (ValueIdx.ix1 q) = BitVec.ofNat 32 (Moe.places (ex m c) 131072 q.val) := by
  refine Moe.places_at (ex m c) (by decide) (Host.reduce IntOp.addi (extui 32 (msk m c) natLt_1_32) (constantI S_ 32 0#32) reducesTo_S131072x8_S8_d0 h_S_)
    (W3 m c (Proc.devRef .tc main_v27)) _ (W3 m c (Proc.devRef .tc main_c_5)) bcast_S_S8
    (fun q => Moe.counts_at (ex m c) (by decide) (msk m c) (msk_at m c) natLt_1_32 _ _ q) ?_ ?_ ?_ q
  · unfold W3; rw [s2_tile]; rfl
  · unfold W3; rw [s2_upto, W_ones2]
  · show W5 m c (Proc.devRef .tc main_v30) = _
    unfold W5 W4; rw [s4_places, s3_tiles]
theorem W_places6 (q : Fin 8) : (show IVec S8 32 from W6 m c (Proc.devRef .tc main_v30)) (ValueIdx.ix1 q) = BitVec.ofNat 32 (Moe.places (ex m c) 131072 q.val) := by
  unfold W6; rw [k5_v30]; exact W_places5 m c q
theorem W_ends6 (q : Fin 8) : (show IVec S8 32 from W6 m c (Proc.devRef .tc main_v31)) (ValueIdx.ix1 q) = BitVec.ofNat 32 (Moe.placesEnd (ex m c) 131072 q.val) := by
  unfold W6; rw [s5_ends]
  exact Moe.ends_at (ex m c) _ (W_places5 m c) _ (Routing.bc0 bcast_S_S_ _ _) _ _ q

theorem W_place7 (p : Fin 131072) : (show IVec S131072 32 from W7 m c (Proc.devRef .tc main_v40)) (ValueIdx.ix1 p) = BitVec.ofNat 32 (Moe.place (ex m c) 131072 p.val) := by
  unfold W7; rw [s6_place, W_pick6]
  exact Moe.place_at (ex m c) (ex_lt m c) _ _ _ _ (pick_at (aL m c)) (W_rank6 m c) (W_places6 m c) (W_ends6 m c) _ rfl rfl rfl rfl _ _ p
theorem W_pair7 (p : Fin 131072) (r : Fin 135168) (hr : r.val = Moe.place (ex m c) 131072 p.val) :
    (show IVec S135168 32 from W7 m c (Proc.devRef .tc main_v49)) (ValueIdx.ix1 r) = BitVec.ofNat 32 p.val := by
  unfold W7; rw [s6_pair]
  exact Moe.pair_at (ex m c) (ex_lt m c) (by decide) (by omega) _ (W_place7 m c) _ rfl rfl rfl _ _ _ p r hr

/-- Each pair's place, as the last gathers read it. -/
theorem V_place (p : Fin 131072) : (show IVec S131072 32 from V m c main_v40) (ValueIdx.ix1 p) = BitVec.ofNat 32 (Moe.place (ex m c) 131072 p.val) := by
  rw [V_eq, k8_v40]; unfold W8; rw [k7_v40]; exact W_place7 m c p

/-- The table names the pair's expert for the tile its place lies in. -/
theorem V_table (p : Fin 131072) (t : Fin 264) (ht : t.val = Moe.place (ex m c) 131072 p.val / 512) :
    (show IVec S264 32 from V m c main_v61) (ValueIdx.ix1 t) = BitVec.ofNat 32 (ex m c p.val) := by
  rw [V_eq, k8_v61]; unfold W8; rw [k7_v61]; unfold W7; rw [s6_table]
  exact Moe.table_at (ex m c) (ex_lt m c) (by decide) (by omega) _ (W_ends6 m c) _ _ _ _ _ _ _ _ p t ht
/-- Every word of the table is an expert's number. -/
theorem V_table_lt (t : Fin 264) : ∃ x : Fin 8, (show IVec S264 32 from V m c main_v61) (ValueIdx.ix1 t) = BitVec.ofNat 32 x.val := by
  rw [V_eq, k8_v61]; unfold W8; rw [k7_v61]; unfold W7; rw [s6_table]
  exact Moe.table_lt _ _ _ _ _ t

theorem W_row8 (p : Fin 131072) (r : Fin 135168) (hr : r.val = Moe.place (ex m c) 131072 p.val) :
    (show IVec S135168 32 from W8 m c (Proc.devRef .tc main_v62)) (ValueIdx.ix1 r) = BitVec.ofNat 32 (p.val / 2) := by
  have hp := p.isLt
  unfold W8; rw [s7_row]
  refine Routing.pyDiv_ap bcast_S_S135168 _ _ _ (W_pair7 m c p r hr) ?_ (by omega) (by decide) (by decide)
  unfold W7; rw [s6_two]; rfl
theorem W_pair8 (p : Fin 131072) (r : Fin 135168) (hr : r.val = Moe.place (ex m c) 131072 p.val) :
    (show IVec S135168 32 from W8 m c (Proc.devRef .tc main_v49)) (ValueIdx.ix1 r) = BitVec.ofNat 32 p.val := by
  unfold W8; rw [k7_v49]; exact W_pair7 m c p r hr

theorem W_rows8 : W8 m c (Proc.devRef .tc main_arg0) = aH m c := by
  unfold W8 W7 W6 W5 W4 W3 W2 W1; rw [k7_arg0, k6_arg0, k5_arg0, k4_arg0, k3_arg0, k2_arg0, k1_arg0, k0_arg0]
theorem W_gu8 : W8 m c (Proc.devRef .tc main_arg2) = aW m c := by
  unfold W8 W7 W6 W5 W4 W3 W2 W1; rw [k7_arg2, k6_arg2, k5_arg2, k4_arg2, k3_arg2, k2_arg2, k1_arg2, k0_arg2]
theorem W_down8 : W8 m c (Proc.devRef .tc main_arg3) = aD m c := by
  unfold W8 W7 W6 W5 W4 W3 W2 W1; rw [k7_arg3, k6_arg3, k5_arg3, k4_arg3, k3_arg3, k2_arg3, k1_arg3, k0_arg3]
theorem W_soft8 : W8 m c (Proc.devRef .tc main_v10) = W1 m c (Proc.devRef .tc main_v10) := by
  unfold W8 W7 W6 W5 W4 W3 W2; rw [k7_v10, k6_v10, k5_v10, k4_v10, k3_v10, k2_v10, k1_v10]

/-- The row at a pair's place is the pair's row. -/
theorem V_rows (p : Fin 131072) (r : Fin 135168) (hr : r.val = Moe.place (ex m c) 131072 p.val) (t : Fin 65536) (ht : t.val = p.val / 2) (k : Fin 1024) :
    (show Vec Ideal S135168x1024 .bf16 from V m c main_v69) (ValueIdx.ix2 r k) = aH m c (ValueIdx.ix2 t k) := by
  have hp := p.isLt
  rw [V_eq, s8_rows, W_rows8]
  refine Routing.gather_row _ rfl rfl rfl rfl rfl (aH m c) _ r k t ?_ (by decide)
  rw [Routing.bcCol, ht]
  exact Moe.wrap_word _ _ _ _ _ (W_row8 m c p r hr) (by omega) (Routing.bc0 bcast_S_S135168 _ _)

/-- The weights of the pairs: the softmax of the two best scores. -/
abbrev soft : Vec Ideal S65536x2 .f32 := W1 m c (Proc.devRef .tc main_v10)
/-- The weight at a pair's place is the pair's. -/
theorem V_weights (p : Fin 131072) (r : Fin 135168) (hr : r.val = Moe.place (ex m c) 131072 p.val) (t : Fin 65536) (k : Fin 2) (ht : p.val = t.val * 2 + k.val) :
    (show Vec Ideal S135168x1 .f32 from V m c main_v78) (ValueIdx.ix2 r (0 : Fin 1)) = soft m c (ValueIdx.ix2 t k) := by
  have hp := p.isLt
  rw [V_eq, s8_weights, W_soft8]
  refine (Routing.bcCol bcast_S135168_S135168x1_0 _ r).trans ?_
  refine (Routing.gather_take1 _ rfl rfl rfl rfl _ _ r p ?_ (by decide)).trans (Routing.cast21 _ shapeCasts_S65536x2_S131072 t k p ht)
  rw [Routing.bcCol]
  exact Moe.wrap_word _ _ _ _ _ (W_pair8 m c p r hr) (by omega) (Routing.bc0 bcast_S_S135168 _ _)

/-- The expert weights reach the kernel unchanged: at this instance the rounding on the host is the identity. -/
theorem V_gu : V m c main_v79 = aW m c := by
  rw [V_eq, s8_gu, W_gu8]; rfl
theorem V_down : V m c main_v80 = aD m c := by
  rw [V_eq, s8_down, W_down8]; rfl

end Cert.KernelIdeal.Value

end
-- ==== Proof.Swiglu.lean ====
/- One expert's SwiGLU feed-forward on one row, over the extended reals, and its hidden axis cut into two halves. -/
module

public import Idealize.ShloMosaic.Lib.Pointwise

@[expose] public section

noncomputable section

namespace Cert.Moe

open Idealize.ShloMosaic

/-- `silu g = g · σ(g)`. -/
def silu (g : EReal) : EReal := g * Ideal.div 1 (1 + Ideal.exp (-g))

/-- The contribution of hidden unit `f` to output `d`: `silu (x · w_gate[f]) · (x · w_up[f]) · v[f, d]`. The fused
    weight's first 3584 columns are the gate, the others the up projection. -/
def unit (x : Fin 1024 → EReal) (w : Fin 1024 → Fin 7168 → EReal) (v : Fin 3584 → Fin 1024 → EReal) (d : Fin 1024)
    (f : Fin 3584) : EReal :=
  silu (∑ k, x k * w k ⟨f, by omega⟩) * (∑ k, x k * w k ⟨3584 + f, by omega⟩) * v f d

/-- The expert's output `d` on the row `x`. -/
def expertOut (x : Fin 1024 → EReal) (w : Fin 1024 → Fin 7168 → EReal) (v : Fin 3584 → Fin 1024 → EReal) (d : Fin 1024) : EReal :=
  ∑ f : Fin 3584, unit x w v d f

/-- The hidden axis in two halves of 1792 units. -/
theorem expertOut_halves (x : Fin 1024 → EReal) (w : Fin 1024 → Fin 7168 → EReal) (v : Fin 3584 → Fin 1024 → EReal) (d : Fin 1024) :
    expertOut x w v d = (∑ f : Fin 1792, unit x w v d ⟨f, by omega⟩) + ∑ f : Fin 1792, unit x w v d ⟨1792 + f, by omega⟩ :=
  Fin.sum_univ_add (a := 1792) (b := 1792) (fun f : Fin (1792 + 1792) => unit x w v d f)

end Cert.Moe

end
-- ==== Proof.Payloads.lean ====
/- What the feed-forward kernel's three stored values hold, at one row and one column of the tile. -/
module

public import proofs.«01_k».proof.Proof.Gen.KernelIdeal.Skeleton
public import proofs.«01_k».proof.Proof.Swiglu

@[expose] public section

set_option maxRecDepth 16384

noncomputable section

namespace Cert.KernelIdeal.Value

open Cert.KernelIdeal Cert.KernelIdeal.Gen Idealize.ShloMosaic Idealize.ShloMosaic.TcCoe Idealize.SL.Sem

/-- The accumulator is first set to zero. -/
theorem pay1_at (r : Fin 512) (d : Fin 1024) : k0_pay1 (F := Ideal) (ix2 r d) = 0 := by
  pointwise [k0_pay1]

/-- A grid point adds half the expert's hidden units to the accumulator. -/
theorem pay2_at (x : Vec Ideal S512x1024 .bf16) (g u : Vec Ideal S1x1024x1792 .bf16) (a : Vec Ideal S512x1024 .f32) (v : Vec Ideal S1x1792x1024 .bf16) (r : Fin 512) (d : Fin 1024) :
    k0_pay2 x g u a v (ix2 r d) = (show EReal from a (ix2 r d))
      + ∑ f : Fin 1792, Moe.silu (∑ k : Fin 1024, x (ix2 r k) * g (ix3 0 k f)) * (∑ k : Fin 1024, x (ix2 r k) * u (ix3 0 k f)) * v (ix3 0 f d) := by
  pointwise [k0_pay2]
  rfl

/-- The tile is written out times the row's weight. -/
theorem pay3_at (y : Vec Ideal S512x1024 .f32) (s : Vec Ideal S512x1 .f32) (r : Fin 512) (d : Fin 1024) :
    k0_pay3 y s (ix2 r d) = (show EReal from y (ix2 r d)) * s (ix2 r 0) := by
  pointwise [k0_pay3]

end Cert.KernelIdeal.Value

end
-- ==== Proof.KernelValue.lean ====
/- The array the feed-forward kernel leaves, at every row and column. -/
module

public import proofs.«01_k».proof.Proof.LaunchIdeal
public import proofs.«01_k».proof.Proof.TableOk
public import proofs.«01_k».proof.Proof.HostPlan
public import proofs.«01_k».proof.Proof.Payloads
public import Idealize.ShloMosaic.Lib.Pipeline.ValueKit
public import Idealize.ShloMosaic.Lib.Pipeline.Covers

@[expose] public section

set_option maxRecDepth 16384

noncomputable section

namespace Cert.KernelIdeal.Value

open Cert.KernelIdeal Cert.KernelIdeal.Gen Cert.KernelIdeal.Launch Idealize.ShloMosaic Idealize.ShloMosaic.TcCoe Idealize.SL.Sem
open Idealize.ShloMosaic.Pipeline (Dat)

variable (m : (ℓ : Loc nD τ sig) → Buf (Elt Ideal) ℓ)

/-- The expert the table names for row tile `i`. -/
abbrev word (i : Fin 264) : BitVec 32 := V m 0 main_v61 (ix1 i)

/-- The table names experts, whatever the arguments hold. -/
theorem word_lt (i : Fin 264) : ∃ e : Fin 8, word m i = BitVec.ofNat 32 e.val := V_table_lt m 0 i

/-- So the kernel's table is in range. -/
theorem ok : Ok m := by
  refine ok_of_lt _ fun y => ?_
  obtain ⟨t, rfl⟩ : ∃ t : Fin 264, y = ix1 t := ⟨y (0 : Fin 1), funext fun (a : Fin 1) => by match a with | 0 => rfl⟩
  obtain ⟨x, hx⟩ := word_lt m t
  have h := x.isLt
  show (word m t).toNat < 8
  rw [hx, BitVec.toNat_ofNat]
  omega

/-- A grid point's coordinates: the row tile and the half of the hidden axis. -/
theorem coords_val (t : Fin grid0.N) : (grid0.coords t 0).val = t.val / 2 ∧ (grid0.coords t 1).val = t.val % 2 := by
  have ht : t.val < 528 := Nat.lt_of_lt_of_eq t.isLt N_0
  have e0 : (grid0.coords t 0).val = t.val / 2 % 264 := Pipeline.Grid.coords_val t 0 (by decide) rfl
  have e1 : (grid0.coords t 1).val = t.val / 1 % 2 := Pipeline.Grid.coords_val t 1 (by decide) rfl
  omega

variable (hO : Ok m)

theorem idx5 (t : Fin (cfgM m hO).N) : ((cfgM m hO).win 5).index t = ![t.val / 2, 0] := by
  have h := coords_val t
  have ht : t.val < 528 := Nat.lt_of_lt_of_eq t.isLt N_0
  show cc0_transform_5 (grid0.coords t) = _
  unfold cc0_transform_5
  show ![(BitVec.ofNat 32 (grid0.coords t 0).val).toNat, 0] = ![t.val / 2, 0]
  rw [h.1, BitVec.toNat_ofNat, Nat.mod_eq_of_lt (by omega)]

theorem covers5 : ((cfgM m hO).win 5).Covers := by
  refine Pipeline.Window.covers_of_index_surj _ rfl (fun (a : Fin 2) => ?_) fun β => ?_
  · match a with
    | 0 => exact (by decide : 0 < 512)
    | 1 => exact (by decide : 0 < 1024)
  · have h0 : (β (0 : Fin 2)).val < (135168 + 512 - 1) / 512 := (β (0 : Fin 2)).isLt
    have h1 : (β (1 : Fin 2)).val < (1024 + 1024 - 1) / 1024 := (β (1 : Fin 2)).isLt
    refine ⟨⟨2 * (β (0 : Fin 2)).val, by rw [show (cfgM m hO).grid.N = 528 from N_0]; omega⟩, fun (a : Fin 2) => ?_⟩
    rw [idx5]
    match a with
    | 0 => show 2 * (β (0 : Fin 2)).val / 2 = (β (0 : Fin 2)).val; omega
    | 1 => show 0 = (β (1 : Fin 2)).val; omega

theorem idx0 (t : Fin (cfgM m hO).N) : ((cfgM m hO).win 0).index t = ![t.val / 2, 0] := idx5 m hO t
theorem idx4 (t : Fin (cfgM m hO).N) : ((cfgM m hO).win 4).index t = ![t.val / 2, 0] := idx5 m hO t
theorem tile_lt (t : Fin (cfgM m hO).N) : t.val / 2 < 264 := by
  have ht : t.val < 528 := Nat.lt_of_lt_of_eq t.isLt N_0
  omega
theorem coord_eq (t : Fin (cfgM m hO).N) : grid0.coords t 0 = ⟨t.val / 2, tile_lt m hO t⟩ := Fin.ext (coords_val t).1
theorem word_eq (t : Fin (cfgM m hO).N) : (show BitVec 32 from tbl m 0 (ix1 (grid0.coords t 0))) = word m ⟨t.val / 2, tile_lt m hO t⟩ := by
  rw [coord_eq m hO t]
  rfl
theorem idx1 (t : Fin (cfgM m hO).N) : ((cfgM m hO).win 1).index t = ![(word m ⟨t.val / 2, tile_lt m hO t⟩).toNat, 0, t.val % 2] := by
  rw [← word_eq m hO t, ← (coords_val t).2]; exact index_1 _ _
theorem idx2 (t : Fin (cfgM m hO).N) : ((cfgM m hO).win 2).index t = ![(word m ⟨t.val / 2, tile_lt m hO t⟩).toNat, 0, t.val % 2 + 2] := by
  rw [← word_eq m hO t, ← (coords_val t).2]; exact index_2 _ _
theorem idx3 (t : Fin (cfgM m hO).N) : ((cfgM m hO).win 3).index t = ![(word m ⟨t.val / 2, tile_lt m hO t⟩).toNat, t.val % 2, 0] := by
  rw [← word_eq m hO t, ← (coords_val t).2]; exact index_3 _ _

/-- A block of rows, and a block of row weights, read out of any array. -/
theorem read0 (A : Vec Ideal S135168x1024 .bf16) (t : Fin (cfgM m hO).N) (r : Fin 512) (k : Fin 1024) (r' : Fin 135168) (hr : r'.val = t.val / 2 * 512 + r.val) :
    (show EReal from (((cfgM m hO).win 0).blk t).view.read (Elt Ideal) A (ix2 r k)) = (show EReal from A (ix2 r' k)) := by
  blk_ext [idx0 m hO t]
theorem read4 (A : Vec Ideal S135168x1 .f32) (t : Fin (cfgM m hO).N) (r : Fin 512) (r' : Fin 135168) (hr : r'.val = t.val / 2 * 512 + r.val) :
    (show EReal from (((cfgM m hO).win 4).blk t).view.read (Elt Ideal) A (ix2 r 0)) = (show EReal from A (ix2 r' 0)) := by
  blk_ext [idx4 m hO t]
theorem blk0 (c : Dev nD) (t : Fin (cfgM m hO).N) (r : Fin 512) (k : Fin 1024) (r' : Fin 135168) (hr : r'.val = t.val / 2 * 512 + r.val) :
    (show EReal from iblk m hO c 0 t (ix2 r k)) = (show EReal from V m c main_v69 (ix2 r' k)) :=
  read0 m hO (V m c main_v69) t r k r' hr
theorem blk4 (c : Dev nD) (t : Fin (cfgM m hO).N) (r : Fin 512) (r' : Fin 135168) (hr : r'.val = t.val / 2 * 512 + r.val) :
    (show EReal from iblk m hO c 4 t (ix2 r 0)) = (show EReal from V m c main_v78 (ix2 r' 0)) :=
  read4 m hO (V m c main_v78) t r r' hr
theorem blk1 (c : Dev nD) (t : Fin (cfgM m hO).N) (k : Fin 1024) (f : Fin 1792) (e : Fin 8)
    (he : word m ⟨t.val / 2, tile_lt m hO t⟩ = BitVec.ofNat 32 e.val) (f' : Fin 7168) (hf : f'.val = t.val % 2 * 1792 + f.val) :
    (show EReal from iblk m hO c 1 t (ix3 0 k f)) = (show EReal from aW m c (ix3 e k f')) := by
  have hw : (word m ⟨t.val / 2, tile_lt m hO t⟩).toNat = e.val := by rw [he, BitVec.toNat_ofNat]; omega
  refine (congrFun (congrArg ((((cfgM m hO).win 1).blk t).view.read (Elt Ideal)) (V_gu m c)) _).trans ?_
  blk_ext [idx1 m hO t, hw]
theorem blk2 (c : Dev nD) (t : Fin (cfgM m hO).N) (k : Fin 1024) (f : Fin 1792) (e : Fin 8)
    (he : word m ⟨t.val / 2, tile_lt m hO t⟩ = BitVec.ofNat 32 e.val) (f' : Fin 7168) (hf : f'.val = 3584 + t.val % 2 * 1792 + f.val) :
    (show EReal from iblk m hO c 2 t (ix3 0 k f)) = (show EReal from aW m c (ix3 e k f')) := by
  have hw : (word m ⟨t.val / 2, tile_lt m hO t⟩).toNat = e.val := by rw [he, BitVec.toNat_ofNat]; omega
  refine (congrFun (congrArg ((((cfgM m hO).win 2).blk t).view.read (Elt Ideal)) (V_gu m c)) _).trans ?_
  blk_ext [idx2 m hO t, hw]
theorem blk3 (c : Dev nD) (t : Fin (cfgM m hO).N) (f : Fin 1792) (d : Fin 1024) (e : Fin 8)
    (he : word m ⟨t.val / 2, tile_lt m hO t⟩ = BitVec.ofNat 32 e.val) (f' : Fin 3584) (hf : f'.val = t.val % 2 * 1792 + f.val) :
    (show EReal from iblk m hO c 3 t (ix3 0 f d)) = (show EReal from aD m c (ix3 e f' d)) := by
  have hw : (word m ⟨t.val / 2, tile_lt m hO t⟩).toNat = e.val := by rw [he, BitVec.toNat_ofNat]; omega
  refine (congrFun (congrArg ((((cfgM m hO).win 3).blk t).view.read (Elt Ideal)) (V_down m c)) _).trans ?_
  blk_ext [idx3 m hO t, hw]

/-- What the first half leaves in the accumulator, over any blocks. -/
theorem half_A {c : Dev nD} {i : grid0.Coords} {arg3 : Memref sig .tc .vmem S512x1024 .bf16} {harg3 : arg3.IsWhole} {arg4 : Memref sig .tc .vmem S1x1024x1792 .bf16} {harg4 : arg4.IsWhole} {arg5 : Memref sig .tc .vmem S1x1024x1792 .bf16} {harg5 : arg5.IsWhole} {arg6 : Memref sig .tc .vmem S1x1792x1024 .bf16} {harg6 : arg6.IsWhole} {arg7 : Memref sig .tc .vmem S512x1 .f32} {harg7 : arg7.IsWhole} {arg8 : Memref sig .tc .vmem S512x1024 .bf16} {harg8 : arg8.IsWhole} {arg9 : Memref sig .tc .vmem S512x1024 .f32} {harg9 : arg9.IsWhole} {hc0 : cond0_0 i} {hc1 : ¬cond0_1 i}
    {x0 : Vec Ideal S512x1024 .bf16} {x1 : Vec Ideal S1x1024x1792 .bf16} {x2 : Vec Ideal S1x1024x1792 .bf16} {x3 : Vec Ideal S1x1792x1024 .bf16} {x4 : Vec Ideal S512x1 .f32} {xt0 : TbBuf0 (F := Ideal) c tbM0_0} :
    sout0_A_0 c i arg3 harg3 arg4 harg4 arg5 harg5 arg6 harg6 arg7 harg7 arg8 harg8 arg9 harg9 hc0 hc1 x0 x1 x2 x3 x4 xt0 = k0_pay2 x0 x1 x2 (k0_pay1 (F := Ideal)) x3 := by
  frame_out

/-- What the second half stores in the tile's block, over any blocks and accumulator. -/
theorem half_B {c : Dev nD} {i : grid0.Coords} {arg3 : Memref sig .tc .vmem S512x1024 .bf16} {harg3 : arg3.IsWhole} {arg4 : Memref sig .tc .vmem S1x1024x1792 .bf16} {harg4 : arg4.IsWhole} {arg5 : Memref sig .tc .vmem S1x1024x1792 .bf16} {harg5 : arg5.IsWhole} {arg6 : Memref sig .tc .vmem S1x1792x1024 .bf16} {harg6 : arg6.IsWhole} {arg7 : Memref sig .tc .vmem S512x1 .f32} {harg7 : arg7.IsWhole} {arg8 : Memref sig .tc .vmem S512x1024 .bf16} {harg8 : arg8.IsWhole} {arg9 : Memref sig .tc .vmem S512x1024 .f32} {harg9 : arg9.IsWhole} {hc0 : ¬cond0_0 i} {hc1 : cond0_1 i}
    {x0 : Vec Ideal S512x1024 .bf16} {x1 : Vec Ideal S1x1024x1792 .bf16} {x2 : Vec Ideal S1x1024x1792 .bf16} {x3 : Vec Ideal S1x1792x1024 .bf16} {x4 : Vec Ideal S512x1 .f32} {xt0 : TbBuf0 (F := Ideal) c tbM0_0} {xs0 : Vec Ideal S512x1024 .f32} :
    out0_B_5 c i arg3 harg3 arg4 harg4 arg5 harg5 arg6 harg6 arg7 harg7 arg8 harg8 arg9 harg9 hc0 hc1 x0 x1 x2 x3 x4 xt0 xs0 = k0_pay3 (k0_pay2 x0 x1 x2 xs0 x3) x4 := by
  frame_out

/-- What the first half leaves in the accumulator. -/
theorem acc_A (c : Dev nD) (t : Fin (cfgM m hO).N) (h0 : t.val % 2 = 0) (h1 : ¬t.val % 2 = 1) :
    (outsAt0 m hO c t.val t.isLt).2 = k0_pay2 (iblk m hO c 0 t) (iblk m hO c 1 t) (iblk m hO c 2 t) (k0_pay1 (F := Ideal)) (iblk m hO c 3 t) := by
  rw [outsAt0_A m hO c t h0 h1, left_A]; dsimp only; exact half_A

/-- What the second half stores in the tile's block. -/
theorem out_B (c : Dev nD) (t : Fin (cfgM m hO).N) (h0 : ¬t.val % 2 = 0) (h1 : t.val % 2 = 1) (t' : Fin (cfgM m hO).N) (ht : t'.val = t.val - 1) :
    (outsAt0 m hO c t.val t.isLt).1 = k0_pay3 (k0_pay2 (iblk m hO c 0 t) (iblk m hO c 1 t) (iblk m hO c 2 t) (outsAt0 m hO c t'.val t'.isLt).2 (iblk m hO c 3 t)) (iblk m hO c 4 t) := by
  have hlt : t.val - 1 < (cfgM m hO).N := ht ▸ t'.isLt
  obtain rfl : t' = ⟨t.val - 1, hlt⟩ := Fin.ext ht
  rw [outsAt0_B m hO c t h0 h1, left_B]; dsimp only; exact half_B

/-- The rows gathered for the kernel and their weights. -/
abbrev aX (c : Dev nD) : Vec Ideal S135168x1024 .bf16 := V m c main_v69
abbrev aR (c : Dev nD) : Vec Ideal S135168x1 .f32 := V m c main_v78

/-- One half's product at a row and column, as units of the row's expert: `φ` places the half's units on the hidden axis. -/
theorem half_at (x : Vec Ideal S512x1024 .bf16) (g u : Vec Ideal S1x1024x1792 .bf16) (a : Vec Ideal S512x1024 .f32)
    (v : Vec Ideal S1x1792x1024 .bf16) (r : Fin 512) (d : Fin 1024) (X : Fin 1024 → EReal) (W : Fin 1024 → Fin 7168 → EReal)
    (D : Fin 3584 → Fin 1024 → EReal) (φ : Fin 1792 → Fin 3584) (hx : ∀ k, x (ix2 r k) = X k)
    (hg : ∀ k f, g (ix3 0 k f) = W k ⟨(φ f).val, by omega⟩) (hu : ∀ k f, u (ix3 0 k f) = W k ⟨3584 + (φ f).val, by omega⟩)
    (hv : ∀ f, v (ix3 0 f d) = D (φ f) d) :
    k0_pay2 x g u a v (ix2 r d) = a (ix2 r d) + ∑ f : Fin 1792, Moe.unit X W D d (φ f) := by
  refine (pay2_at x g u a v r d).trans ?_
  simp only [hx, hg, hu, hv]
  rfl

theorem half (c : Dev nD) (t : Fin (cfgM m hO).N) (r : Fin 512) (d : Fin 1024) (r' : Fin 135168) (hr : r'.val = t.val / 2 * 512 + r.val)
    (e : Fin 8) (he : word m ⟨t.val / 2, tile_lt m hO t⟩ = BitVec.ofNat 32 e.val) (a : Vec Ideal S512x1024 .f32) (φ : Fin 1792 → Fin 3584)
    (hφ : ∀ f, (φ f).val = t.val % 2 * 1792 + f.val) :
    k0_pay2 (iblk m hO c 0 t) (iblk m hO c 1 t) (iblk m hO c 2 t) a (iblk m hO c 3 t) (ix2 r d) =
      a (ix2 r d) + ∑ f : Fin 1792, Moe.unit (fun k => aX m c (ix2 r' k)) (fun k f => aW m c (ix3 e k f)) (fun f d => aD m c (ix3 e f d)) d (φ f) :=
  half_at (iblk m hO c 0 t) (iblk m hO c 1 t) (iblk m hO c 2 t) a (iblk m hO c 3 t) r d _ _ _ φ
    (fun k => blk0 m hO c t r k r' hr) (fun k f => blk1 m hO c t k f e he _ (hφ f))
    (fun k f => blk2 m hO c t k f e he _ (by show 3584 + (φ f).val = _; rw [hφ f]; omega))
    (fun f => blk3 m hO c t f d e he _ (hφ f))

/-- The array the kernel leaves is any array which at each row and column holds the row's weight times what the expert of the
    row's tile makes of the row. -/
theorem final (c : Dev nD) (G : Vec Ideal S135168x1024 .bf16) (hlt : ∀ i, ∃ e : Fin 8, word m i = BitVec.ofNat 32 e.val)
    (hG : ∀ (r : Fin 135168) (d : Fin 1024) (e : Fin 8), word m ⟨r.val / 512, by omega⟩ = BitVec.ofNat 32 e.val →
      G (ix2 r d) = (aR m c (ix2 r 0) *
        Moe.expertOut (fun k => aX m c (ix2 r k)) (fun k f => aW m c (ix3 e k f)) (fun f d => aD m c (ix3 e f d)) d : EReal)) :
    (dats m hO 0 c).arrAt 5 (cfgM m hO).N = G := by
  refine (dats m hO 0 c).arrAt_eq_of_covers 5 _ (covers5 m hO) fun t hf y => ?_
  have h1 : t.val % 2 = 1 := (flush0_5 (adm m hO) t).1 hf
  have h528 : t.val < 528 := Nat.lt_of_lt_of_eq t.isLt N_0
  have hN : t.val - 1 < (cfgM m hO).N := Nat.lt_of_le_of_lt (Nat.sub_le _ _) t.isLt
  have h0 : (t.val - 1) % 2 = 0 := by omega
  have hd : (t.val - 1) / 2 = t.val / 2 := by omega
  blk_simp
  rw [after0_5, out_B m hO c t (by omega) h1 ⟨t.val - 1, hN⟩ rfl, acc_A m hO c ⟨t.val - 1, hN⟩ h0 (by show ¬(t.val - 1) % 2 = 1; omega)]
  obtain ⟨r, d, rfl⟩ : ∃ (r : Fin 512) (d : Fin 1024), y = ix2 r d := ⟨y (0 : Fin 2), y (1 : Fin 2), eq_ix2 _⟩
  obtain ⟨r', hr⟩ : ∃ r' : Fin 135168, r'.val = t.val / 2 * 512 + r.val := ⟨⟨t.val / 2 * 512 + r.val, by have := r.isLt; omega⟩, rfl⟩
  have hE : G ((((cfgM m hO).win 5).blk t).view.emb (ix2 r d)) = G (ix2 r' d) := by
    blk_ext [idx5 m hO t]
  obtain ⟨e, he⟩ := hlt ⟨t.val / 2, tile_lt m hO t⟩
  have he' : word m ⟨(t.val - 1) / 2, tile_lt m hO ⟨t.val - 1, hN⟩⟩ = BitVec.ofNat 32 e.val := by
    rw [← he]; congr 2
  refine Eq.trans ?_ hE.symm
  refine Eq.trans ?_ (hG r' d e (by rw [← he]; congr 2; have := r.isLt; omega)).symm
  refine ((pay3_at _ _ r d).trans (mul_comm (G := EReal) _ _)).trans ?_
  rw [Moe.expertOut_halves]
  refine congr_arg₂ (fun a b : EReal => a * b) (blk4 m hO c t r r' hr) ?_
  rw [half m hO c t r d r' hr e he _ (fun f => ⟨1792 + f.val, by omega⟩) (fun f => by show 1792 + f.val = _; omega),
    half m hO c ⟨t.val - 1, hN⟩ r d r' (by rw [hr]; show _ = (t.val - 1) / 2 * 512 + r.val; omega) e he' _ (fun f => ⟨f.val, by omega⟩)
      (fun f => by show f.val = (t.val - 1) % 2 * 1792 + f.val; omega), pay1_at, zero_add]

end Cert.KernelIdeal.Value

end
-- ==== Proof.HostTail.lean ====
/- The lines after the kernel: each row takes its two pairs' rows back from their places. -/
module

public import proofs.«01_k».proof.Proof.Gen.KernelIdeal.Launch
public import proofs.«01_k».proof.Proof.HostWords

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The places of the first and of the second choices, out of all places. -/
def firsts (P : IVec S131072 32) : IVec S65536 32 :=
  shapeCast S65536 (extractStridedSlice S65536x1 ![0, 0] (shapeCast S65536x2 P shapeCasts_S131072_S65536x2) slices_S65536x2_S65536x1_0_0) shapeCasts_S65536x1_S65536
def seconds (P : IVec S131072 32) : IVec S65536 32 :=
  shapeCast S65536 (extractStridedSlice S65536x1 ![0, 1] (shapeCast S65536x2 P shapeCasts_S131072_S65536x2) slices_S65536x2_S65536x1_0_1) shapeCasts_S65536x1_S65536

/-- The rows of an array at given places. -/
def taken (Y : Vec F S135168x1024 .bf16) (p : IVec S65536 32) : Vec F S65536x1024 .bf16 :=
  Host.gather gather_S135168x1024_S65536x1_S65536x1024_1_0_n_n_0_1_11024 Y (broadcastInDim S65536x1 ![0] bcast_S65536_S65536x1_0
    (select (cmpi .slt p (broadcastInDim S65536 ![] bcast_S_S65536 (constantI S_ 32 0#32))) (addi p (broadcastInDim S65536 ![] bcast_S_S65536 (constantI S_ 32 135168#32))) p))

theorem tail_first (W : Valuation τ sig (Elt F)) : StableHlo.after hostOps1 W (Proc.devRef .tc main_v91) =
    taken (F := F) (W (Proc.devRef .tc main_v81)) (firsts (W (Proc.devRef .tc main_v40))) := by
  after_results; rfl
theorem tail_second (W : Valuation τ sig (Elt F)) : StableHlo.after hostOps1 W (Proc.devRef .tc main_v100) =
    taken (F := F) (W (Proc.devRef .tc main_v81)) (seconds (W (Proc.devRef .tc main_v40))) := by
  after_results; rfl

theorem slice_second {α : Type} (x : S65536x2.Idx → α) (t : Fin 65536) :
    extractStridedSlice S65536x1 ![0, 1] x slices_S65536x2_S65536x1_0_1 (ValueIdx.ix2 t (0 : Fin 1)) = x (ValueIdx.ix2 t (1 : Fin 2)) := by
  unfold extractStridedSlice
  refine congrArg x (funext fun (a : Fin 2) => Fin.ext ?_)
  match a with
  | 0 => show 0 + t.val = t.val; exact Nat.zero_add _
  | 1 => rfl

theorem firsts_at (P : IVec S131072 32) (t : Fin 65536) (p : Fin 131072) (hp : p.val = t.val * 2 + 0) : firsts P (ValueIdx.ix1 t) = P (ValueIdx.ix1 p) := by
  unfold firsts
  refine (Routing.cast21 _ shapeCasts_S65536x1_S65536 t (0 : Fin 1) t (by show t.val = t.val * 1 + 0; omega)).trans ?_
  refine (Routing.slice_col0 _ slices_S65536x2_S65536x1_0_0 t (by decide)).trans ?_
  exact Routing.cast12 P shapeCasts_S131072_S65536x2 t (0 : Fin 2) p hp
theorem seconds_at (P : IVec S131072 32) (t : Fin 65536) (p : Fin 131072) (hp : p.val = t.val * 2 + 1) : seconds P (ValueIdx.ix1 t) = P (ValueIdx.ix1 p) := by
  unfold seconds
  refine (Routing.cast21 _ shapeCasts_S65536x1_S65536 t (0 : Fin 1) t (by show t.val = t.val * 1 + 0; omega)).trans ?_
  refine (slice_second _ t).trans ?_
  exact Routing.cast12 P shapeCasts_S131072_S65536x2 t (1 : Fin 2) p hp

theorem taken_at (Y : Vec F S135168x1024 .bf16) (p : IVec S65536 32) (t : Fin 65536) (d : Fin 1024) (r : Fin 135168)
    (hr : p (ValueIdx.ix1 t) = BitVec.ofNat 32 r.val) : taken (F := F) Y p (ValueIdx.ix2 t d) = Y (ValueIdx.ix2 r d) := by
  have h := r.isLt
  unfold taken
  refine Routing.gather_row _ rfl rfl rfl rfl rfl Y _ t d r ?_ (by decide)
  rw [Routing.bcCol]
  exact Moe.wrap_word _ _ _ _ _ hr (by omega) (Routing.bc0 bcast_S_S65536 _ _)

end Cert.KernelIdeal.Value

end
-- ==== Proof.RefTerm.lean ====
/- The reference's two results, read at one row and one column: the row's weight for its choice times the SwiGLU output of the
   expert it chooses. -/
module

public import proofs.«01_k».proof.Proof.Gen.ReferenceIdeal.Run
public import proofs.«01_k».proof.Proof.Swiglu

@[expose] public section

set_option maxRecDepth 16384

noncomputable section

namespace Cert.ReferenceIdeal.Value

open Cert.ReferenceIdeal Cert.ReferenceIdeal.Gen Idealize.ShloMosaic Idealize.ShloMosaic.TcCoe Idealize.SL.Sem

/-- The exponentials of two scores less their greater. -/
def raised (T : FVec Ideal S65536x2 .f32) : FVec Ideal S65536x2 .f32 :=
  Host.exp (subf T (broadcastInDim S65536x2 ![0, 1] bcast_S65536x1_S65536x2_0_1 (broadcastInDim S65536x1 ![0] bcast_S65536_S65536x1_0 (maximumf (broadcastInDim S65536 ![] bcast_S_S65536 (constant S_ .f32 0xFF800000#32)) (Host.reduce FloatOps.maximumf T (constant S_ .f32 0xFF800000#32) reducesTo_S65536x2_S65536_d1 h_S_)))))
/-- The softmax of each row's two best scores. -/
def SOFT (L : FVec Ideal S65536x8 .f32) : FVec Ideal S65536x2 .f32 :=
  Host.divf (raised ((Host.topK S65536x2 1 (FloatOps.cmpfTotal .gt) L sliceFits_S65536x8_S65536x2).1)) (broadcastInDim S65536x2 ![0, 1] bcast_S65536x1_S65536x2_0_1 (broadcastInDim S65536x1 ![0] bcast_S65536_S65536x1_0 (Host.reduceAdd (raised ((Host.topK S65536x2 1 (FloatOps.cmpfTotal .gt) L sliceFits_S65536x8_S65536x2).1)) (constant S_ .f32 0x00000000#32) reducesTo_S65536x2_S65536_d1 h_S_)))
/-- Each row's two best experts. -/
def PICK (L : FVec Ideal S65536x8 .f32) : IVec S65536x2 32 := (Host.topK S65536x2 1 (FloatOps.cmpfTotal .gt) L sliceFits_S65536x8_S65536x2).2
/-- Every expert's gate and up projections of every row. -/
def both (X : FVec Ideal S65536x1024 .bf16) (W : FVec Ideal S8x1024x7168 .f32) : FVec Ideal S8x7168x65536 .f32 :=
  Host.dotGeneral dot_S8x1024x7168_S65536x1024_S8x7168x65536_1_1_02_0_n_n none W (extf .f32 X bitsLt_bf16_f32)
/-- Every expert's output on every row. -/
def OUTS (X : FVec Ideal S65536x1024 .bf16) (W : FVec Ideal S8x1024x7168 .f32) (D : FVec Ideal S8x3584x1024 .f32) : FVec Ideal S8x65536x1024 .f32 :=
  Host.dotGeneral dot_S8x65536x3584_S8x3584x1024_S8x65536x1024_2_1_1_2_0_0 none (mulf (mulf (extractStridedSlice S8x65536x3584 ![0, 0, 0] (transpose S8x65536x7168 [0, 2, 1] (both X W) transposes_S8x7168x65536_S8x65536x7168_0_2_1) slices_S8x65536x7168_S8x65536x3584_0_0_0) (Host.divf (broadcastInDim S8x65536x3584 ![] bcast_S_S8x65536x3584 (constant S_ .f32 0x3F800000#32)) (addf (broadcastInDim S8x65536x3584 ![] bcast_S_S8x65536x3584 (constant S_ .f32 0x3F800000#32)) (Host.exp (Host.negf (extractStridedSlice S8x65536x3584 ![0, 0, 0] (transpose S8x65536x7168 [0, 2, 1] (both X W) transposes_S8x7168x65536_S8x65536x7168_0_2_1) slices_S8x65536x7168_S8x65536x3584_0_0_0)))))) (extractStridedSlice S8x65536x3584 ![0, 0, 3584] (transpose S8x65536x7168 [0, 2, 1] (both X W) transposes_S8x7168x65536_S8x65536x7168_0_2_1) slices_S8x65536x7168_S8x65536x3584_0_0_3584)) D
/-- The experts' outputs weighted by the gates of each choice. -/
def MIX (G : FVec Ideal S65536x2 .f32) (P : IVec S65536x2 32) (Y : FVec Ideal S8x65536x1024 .f32) : FVec Ideal S65536x1024x2 .f32 :=
  Host.dotGeneral dot_S8x65536x1024_S65536x2x8_S65536x1024x2_0_2_2_1_1_0 none Y (mulf (broadcastInDim S65536x2x8 ![0, 1, 2] bcast_S65536x2x1_S65536x2x8_0_1_2 (broadcastInDim S65536x2x1 ![0, 1] bcast_S65536x2_S65536x2x1_0_1 G)) (uitofp .f32 (cmpi .eq (broadcastInDim S65536x2x8 ![0, 1, 2] bcast_S65536x2x1_S65536x2x8_0_1_2 (broadcastInDim S65536x2x1 ![0, 1] bcast_S65536x2_S65536x2x1_0_1 P)) (broadcastInDim S65536x2x8 ![0, 1, 2] bcast_S1x1x8_S65536x2x8_0_1_2 (iotaInDim S1x1x8 32 2)))))
/-- The first and the second choice's share. -/
def SHARE0 (M : FVec Ideal S65536x1024x2 .f32) : FVec Ideal S65536x1024 .bf16 :=
  truncf .bf16 (shapeCast _ (extractStridedSlice S1x65536x1024 ![0, 0, 0] (transpose S2x65536x1024 [2, 0, 1] (M) transposes_S65536x1024x2_S2x65536x1024_2_0_1) slices_S2x65536x1024_S1x65536x1024_0_0_0) shapeCasts_S1x65536x1024_S65536x1024) bitsLt_bf16_f32
def SHARE1 (M : FVec Ideal S65536x1024x2 .f32) : FVec Ideal S65536x1024 .bf16 :=
  truncf .bf16 (shapeCast _ (extractStridedSlice S1x65536x1024 ![1, 0, 0] (transpose S2x65536x1024 [2, 0, 1] (M) transposes_S65536x1024x2_S2x65536x1024_2_0_1) slices_S2x65536x1024_S1x65536x1024_1_0_0) shapeCasts_S1x65536x1024_S65536x1024) bitsLt_bf16_f32

/-- The reference's two results over its four argument arrays. -/
def REF0 (X : FVec Ideal S65536x1024 .bf16) (L : FVec Ideal S65536x8 .f32) (W : FVec Ideal S8x1024x7168 .f32) (D : FVec Ideal S8x3584x1024 .f32) : FVec Ideal S65536x1024 .bf16 :=
  SHARE0 (MIX (SOFT L) (PICK L) (OUTS X W D))
def REF1 (X : FVec Ideal S65536x1024 .bf16) (L : FVec Ideal S65536x8 .f32) (W : FVec Ideal S8x1024x7168 .f32) (D : FVec Ideal S8x3584x1024 .f32) : FVec Ideal S65536x1024 .bf16 :=
  SHARE1 (MIX (SOFT L) (PICK L) (OUTS X W D))

theorem share0_at (M : FVec Ideal S65536x1024x2 .f32) (t : Fin 65536) (d : Fin 1024) : SHARE0 M (ix2 t d) = M (ix3 t d 0) := by
  pointwise [SHARE0]
theorem share1_at (M : FVec Ideal S65536x1024x2 .f32) (t : Fin 65536) (d : Fin 1024) : SHARE1 M (ix2 t d) = M (ix3 t d 1) := by
  pointwise [SHARE1]

theorem outs_at (X : FVec Ideal S65536x1024 .bf16) (W : FVec Ideal S8x1024x7168 .f32) (D : FVec Ideal S8x3584x1024 .f32) (e : Fin 8) (t : Fin 65536) (d : Fin 1024) :
    OUTS X W D (ix3 e t d) = Moe.expertOut (fun k => X (ix2 t k)) (fun k f => W (ix3 e k f)) (fun f d => D (ix3 e f d)) d := by
  have hc : ∀ (e : Fin 8) (j : Fin 7168), (∑ k : Fin 1024, W (ix3 e k j) * X (ix2 t k) : EReal) = ∑ k : Fin 1024, X (ix2 t k) * W (ix3 e k j) :=
    fun e j => Finset.sum_congr rfl fun k _ => mul_comm _ _
  pointwise [OUTS, both]
  simp only [hc]
  exact Finset.sum_congr rfl fun f _ => rfl

/-- An expert number names itself and no other expert. -/
theorem expert_eq (e x : Fin 8) : (BitVec.ofNat 32 e.val = BitVec.ofNat 32 x.val) ↔ x = e := by
  revert e x; decide

theorem bit_zero : (FloatOps.uitofp (F := Ideal) .f32 (0#1) : EReal) = 0 := by
  show (((0#1 : BitVec 1).toNat : ℝ) : EReal) = 0
  simp
theorem bit_one : (FloatOps.uitofp (F := Ideal) .f32 (1#1) : EReal) = 1 := by
  show (((1#1 : BitVec 1).toNat : ℝ) : EReal) = 1
  simp

/-- Of the sum over the experts only the one chosen survives: every other gate is zero. -/
theorem mix_at (G : FVec Ideal S65536x2 .f32) (P : IVec S65536x2 32) (Y : FVec Ideal S8x65536x1024 .f32) (t : Fin 65536) (d : Fin 1024) (k : Fin 2)
    (e : Fin 8) (he : P (ix2 t k) = BitVec.ofNat 32 e.val) : MIX G P Y (ix3 t d k) = (G (ix2 t k) * Y (ix3 e t d) : EReal) := by
  pointwise [MIX]
  simp only [he, IntOp.cmpi, expert_eq, BitVec.ofBool]
  refine (Finset.sum_eq_single e (fun x _ hx => ?_) (fun h => absurd (Finset.mem_univ _) h)).trans ?_
  · have hne : (BitVec.ofNat 32 e.val == BitVec.ofNat 32 x.val) = false :=
      beq_eq_false_iff_ne.2 fun h => hx ((expert_eq e x).1 h)
    rw [hne]
    show (Y (ix3 x t d) * (G (ix2 t k) * FloatOps.uitofp (F := Ideal) .f32 (0#1)) : EReal) = 0
    rw [bit_zero, mul_zero, mul_zero]
  · rw [beq_self_eq_true]
    show (Y (ix3 e t d) * (G (ix2 t k) * FloatOps.uitofp (F := Ideal) .f32 (1#1)) : EReal) = G (ix2 t k) * Y (ix3 e t d)
    rw [bit_one, mul_one, mul_comm]

/-- Each result is the choice's weight times the output of the expert chosen. -/
theorem ref0_at (X : FVec Ideal S65536x1024 .bf16) (L : FVec Ideal S65536x8 .f32) (W : FVec Ideal S8x1024x7168 .f32) (D : FVec Ideal S8x3584x1024 .f32)
    (t : Fin 65536) (d : Fin 1024) (e : Fin 8) (he : PICK L (ix2 t 0) = BitVec.ofNat 32 e.val) :
    REF0 X L W D (ix2 t d) = (SOFT L (ix2 t 0) * Moe.expertOut (fun k => X (ix2 t k)) (fun k f => W (ix3 e k f)) (fun f d => D (ix3 e f d)) d : EReal) := by
  unfold REF0
  rw [share0_at, mix_at _ _ _ t d 0 e he, outs_at]
theorem ref1_at (X : FVec Ideal S65536x1024 .bf16) (L : FVec Ideal S65536x8 .f32) (W : FVec Ideal S8x1024x7168 .f32) (D : FVec Ideal S8x3584x1024 .f32)
    (t : Fin 65536) (d : Fin 1024) (e : Fin 8) (he : PICK L (ix2 t 1) = BitVec.ofNat 32 e.val) :
    REF1 X L W D (ix2 t d) = (SOFT L (ix2 t 1) * Moe.expertOut (fun k => X (ix2 t k)) (fun k f => W (ix3 e k f)) (fun f d => D (ix3 e f d)) d : EReal) := by
  unfold REF1
  rw [share1_at, mix_at _ _ _ t d 1 e he, outs_at]

end Cert.ReferenceIdeal.Value

end
-- ==== Proof.KernelClaim.lean ====
/- The expert program ends with the reference's two results. -/
module

public import proofs.«01_k».proof.Proof.KernelValue
public import proofs.«01_k».proof.Proof.HostTail
public import proofs.«01_k».proof.Proof.RefTerm
public import Idealize.ShloMosaic.Adequacy
public import Idealize.ShloMosaic.Init
public import Idealize.ShloMosaic.Lib.Claim

@[expose] public section

set_option maxRecDepth 16384

noncomputable section

namespace Cert.KernelIdeal.Value

open Cert.KernelIdeal Cert.KernelIdeal.Gen Cert.KernelIdeal.Launch Idealize.ShloMosaic Idealize.ShloMosaic.TcCoe Idealize.SL.Sem
open Idealize.ShloMosaic.Pipeline (Dat)

variable (m : (ℓ : Loc nD τ sig) → Buf (Elt Ideal) ℓ)

/-- The expert of a row's tile. -/
def tileExpert (r : Fin 135168) : Fin 8 := ⟨(word m ⟨r.val / 512, by omega⟩).toNat % 8, by omega⟩
theorem tileExpert_eq (r : Fin 135168) (e : Fin 8) (he : word m ⟨r.val / 512, by omega⟩ = BitVec.ofNat 32 e.val) : tileExpert m r = e := by
  have h := e.isLt
  refine Fin.ext ?_
  show (word m ⟨r.val / 512, _⟩).toNat % 8 = e.val
  rw [he, BitVec.toNat_ofNat]
  omega

/-- The array the kernel fills: at each row the row's weight times what its tile's expert makes of it. -/
def filled (c : Dev nD) : Vec Ideal S135168x1024 .bf16 := fun (i : S135168x1024.Idx) =>
  (aR m c (ix2 (i 0) 0) * Moe.expertOut (fun k => aX m c (ix2 (i 0) k)) (fun k f => aW m c (ix3 (tileExpert m (i 0)) k f))
    (fun f d => aD m c (ix3 (tileExpert m (i 0)) f d)) (i 1) : EReal)
theorem filled_at (c : Dev nD) (r : Fin 135168) (d : Fin 1024) (e : Fin 8) (he : tileExpert m r = e) : filled m c (ix2 r d) =
    (aR m c (ix2 r 0) * Moe.expertOut (fun k => aX m c (ix2 r k)) (fun k f => aW m c (ix3 e k f)) (fun f d => aD m c (ix3 e f d)) d : EReal) := by
  subst he; rfl
theorem kernel_arr (c : Dev nD) : (dats m (ok m) 0 c).arrAt 5 (cfgM m (ok m)).N = filled m c :=
  final m (ok m) c _ (word_lt m) fun r d e he => filled_at m c r d e (tileExpert_eq m r e he)

/-- At a pair's place stands the pair's weight times what its expert makes of its row. -/
theorem filled_place (c : Dev nD) (p : Fin 131072) (r : Fin 135168) (hr : r.val = Moe.place (ex m c) 131072 p.val) (t : Fin 65536) (k : Fin 2)
    (hp : p.val = t.val * 2 + k.val) (d : Fin 1024) (e : Fin 8) (he : e.val = ex m c p.val) : filled m c (ix2 r d) =
    (soft m c (ix2 t k) * Moe.expertOut (fun k => aH m c (ix2 t k)) (fun k f => aW m c (ix3 e k f)) (fun f d => aD m c (ix3 e f d)) d : EReal) := by
  obtain rfl : c = 0 := Subsingleton.elim _ _
  have hk := k.isLt
  have hw : word m ⟨r.val / 512, by omega⟩ = BitVec.ofNat 32 e.val := by
    rw [he]; exact V_table m 0 p ⟨r.val / 512, by omega⟩ (by show r.val / 512 = _; rw [hr])
  refine (filled_at m 0 r d e (tileExpert_eq m r e hw)).trans ?_
  refine congr_arg₂ (fun a b : EReal => a * b) (V_weights m 0 p r hr t k hp) ?_
  exact congrArg (fun x => Moe.expertOut x _ _ d) (funext fun j => V_rows m 0 p r hr t (by omega) j)

/-- The weights are the reference's softmax of the two best scores, the choices its choices. -/
theorem soft_stage (W : Valuation τ sig (Elt Ideal)) : StableHlo.after hostOps0 W (Proc.devRef .tc main_v10) =
    Cert.ReferenceIdeal.Value.SOFT (W (Proc.devRef .tc main_arg1)) := by
  after_results; rfl
theorem soft_eq (c : Dev nD) : soft m c = Cert.ReferenceIdeal.Value.SOFT (aL m c) := soft_stage _
theorem pick_eq (c : Dev nD) (t : Fin 65536) (k : Fin 2) : Cert.ReferenceIdeal.Value.PICK (aL m c) (ix2 t k) = BitVec.ofNat 32 (ex m c (t.val * 2 + k.val)) :=
  best_eq (aL m c) t k

/-- The reference's results over the kernel's arguments. -/
def refFirst (c : Dev nD) : Vec Ideal S65536x1024 .bf16 := Cert.ReferenceIdeal.Value.REF0 (aH m c) (aL m c) (aW m c) (aD m c)
def refSecond (c : Dev nD) : Vec Ideal S65536x1024 .bf16 := Cert.ReferenceIdeal.Value.REF1 (aH m c) (aL m c) (aW m c) (aD m c)

theorem first_eq (c : Dev nD) (P : IVec S131072 32) (hP : ∀ p : Fin 131072, P (ValueIdx.ix1 p) = BitVec.ofNat 32 (Moe.place (ex m c) 131072 p.val)) :
    taken (F := Ideal) (filled m c) (firsts P) = refFirst m c := by
  funext i
  obtain ⟨t, d, rfl⟩ : ∃ (t : Fin 65536) (d : Fin 1024), i = ix2 t d := ⟨i (0 : Fin 2), i (1 : Fin 2), eq_ix2 i⟩
  have ht := t.isLt
  have hp : t.val * 2 + 0 < 131072 := by omega
  have hr := Moe.place_lt (ex m c) 131072 (ex_lt m c) hp
  refine (taken_at (F := Ideal) (filled m c) _ t d ⟨Moe.place (ex m c) 131072 (t.val * 2 + 0), hr⟩ ((firsts_at P t ⟨t.val * 2 + 0, hp⟩ rfl).trans (hP _))).trans ?_
  refine (filled_place m c ⟨t.val * 2 + 0, hp⟩ ⟨_, hr⟩ rfl t 0 rfl d ⟨ex m c (t.val * 2 + 0), ex_lt m c _⟩ rfl).trans ?_
  rw [soft_eq]
  exact (Cert.ReferenceIdeal.Value.ref0_at (aH m c) (aL m c) (aW m c) (aD m c) t d ⟨ex m c (t.val * 2 + 0), ex_lt m c _⟩ (pick_eq m c t 0)).symm
theorem second_eq (c : Dev nD) (P : IVec S131072 32) (hP : ∀ p : Fin 131072, P (ValueIdx.ix1 p) = BitVec.ofNat 32 (Moe.place (ex m c) 131072 p.val)) :
    taken (F := Ideal) (filled m c) (seconds P) = refSecond m c := by
  funext i
  obtain ⟨t, d, rfl⟩ : ∃ (t : Fin 65536) (d : Fin 1024), i = ix2 t d := ⟨i (0 : Fin 2), i (1 : Fin 2), eq_ix2 i⟩
  have ht := t.isLt
  have hp : t.val * 2 + 1 < 131072 := by omega
  have hr := Moe.place_lt (ex m c) 131072 (ex_lt m c) hp
  refine (taken_at (F := Ideal) (filled m c) _ t d ⟨Moe.place (ex m c) 131072 (t.val * 2 + 1), hr⟩ ((seconds_at P t ⟨t.val * 2 + 1, hp⟩ rfl).trans (hP _))).trans ?_
  refine (filled_place m c ⟨t.val * 2 + 1, hp⟩ ⟨_, hr⟩ rfl t 1 rfl d ⟨ex m c (t.val * 2 + 1), ex_lt m c _⟩ rfl).trans ?_
  rw [soft_eq]
  exact (Cert.ReferenceIdeal.Value.ref1_at (aH m c) (aL m c) (aW m c) (aD m c) t d ⟨ex m c (t.val * 2 + 1), ex_lt m c _⟩ (pick_eq m c t 1)).symm

/-- What the region leaves, as the last lines find it. -/
def left (c : Dev nD) : Valuation τ sig (Elt Ideal) :=
  Pipeline.withArrays (Pipeline.pin pcfgs (fun _ => adm m (ok m)) 0).spec c (V0 m c) fun w => (dats m (ok m) 0 c).arrAt w (cfgM m (ok m)).N
theorem left_arr (c : Dev nD) : left m c (Proc.devRef .tc main_v81) = filled m c := by
  refine Eq.trans ?_ (kernel_arr m c)
  exact Pipeline.withArrays_arr_shared (Pipeline.pin pcfgs (fun _ => adm m (ok m)) 0).spec c (V0 m c)
    (fun w => (dats m (ok m) 0 c).arrAt w (cfgM m (ok m)).N)
    ((dats m (ok m) 0 c).arrAt_sharedIn sharedIn0 (V0 m c) (A_eq m (ok m) c) _) 5
theorem left_place (c : Dev nD) : left m c (Proc.devRef .tc main_v40) = V m c main_v40 :=
  Pipeline.withArrays_of_ne _ c (V0 m c) _ main_v40 (by exact (by decide : ∀ w, Pipeline.arrRef spec0 w ≠ main_v40))

theorem tail0 (c : Dev nD) : Pipeline.afterTail pcfgs (fun _ => adm m (ok m)) (dats m (ok m)) 0 (V0 m) [hostOps1] c main_v91 = refFirst m c := by
  show StableHlo.after hostOps1 (left m c) (Proc.devRef .tc main_v91) = _
  rw [tail_first, left_arr, left_place]
  exact first_eq m c _ (V_place m c)
theorem tail1 (c : Dev nD) : Pipeline.afterTail pcfgs (fun _ => adm m (ok m)) (dats m (ok m)) 0 (V0 m) [hostOps1] c main_v100 = refSecond m c := by
  show StableHlo.after hostOps1 (left m c) (Proc.devRef .tc main_v100) = _
  rw [tail_second, left_arr, left_place]
  exact second_eq m c _ (V_place m c)

theorem frame_ref : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run m g)

/-- Both results are the reference's. -/
theorem algebraic : Cert.algebraic_KernelIdeal_ReferenceIdeal := by
  intro m g m' g' _ hagree
  refine ⟨fun c => refFirst m c, fun c => refSecond m c, ?_, ?_⟩
  · exact (θ_run defs _ _).mono (fun r h c => ⟨((h.2 c).2 main_v91 (show main_v91 ∈ Pipeline.restRefs sig spec0 by decide)).trans (tail0 m c), ((h.2 c).2 main_v100 (show main_v100 ∈ Pipeline.restRefs sig spec0 by decide)).trans (tail1 m c), h.1 c⟩)
      (θ_run_and (unchanged m g (ok m)) (run_main m g (ok m)))
  · refine (θ_run Cert.ReferenceIdeal.defs _ _).mono (fun r h c => ⟨(h c).1.trans ?_, (h c).2.1.trans ?_, (h c).2.2⟩) (Cert.ReferenceIdeal.Value.run m' g')
    all_goals
      obtain ⟨h0, h1, h2, h3⟩ := hagree c
      rw [h0, h1, h2, h3]
      rfl

end Cert.KernelIdeal.Value

end
-- ==== Proof.RouteValue.lean ====
/- The two arrays the routing kernel leaves: the modulated rows, and their products with the router. -/
module

public import proofs.«01_k».proof.Proof.Gen.RouteIdeal.Frame
public import Idealize.ShloMosaic.Lib.Pointwise
public import Idealize.ShloMosaic.Lib.Pipeline.ValueKit
public import Idealize.ShloMosaic.Lib.Pipeline.Covers

@[expose] public section

set_option maxRecDepth 16384

noncomputable section

namespace Cert.RouteIdeal.Value

open Cert.RouteIdeal Cert.RouteIdeal.Gen Idealize.ShloMosaic Idealize.ShloMosaic.TcCoe Idealize.SL.Sem
open Idealize.ShloMosaic.Pipeline (Dat)

/-- The modulated row that the kernel stores. -/
theorem pay2_of (x : Vec Ideal S1024x1024 .f32) (s t : Vec Ideal S1x1x1024 .f32) (r d : Fin 1024) (X S T : EReal) (hx : x (ix2 r d) = X)
    (hs : s (ix3 0 0 d) = S) (ht : t (ix3 0 0 d) = T) : k0_pay2 x s t (ix2 r d) = X * (1 + S) + T := by
  subst hx hs ht
  pointwise [k0_pay2, k0_pay1]

/-- The logits that the kernel stores. -/
theorem pay3_of (x : Vec Ideal S1024x1024 .f32) (s t : Vec Ideal S1x1x1024 .f32) (w : Vec Ideal S1024x128 .f32) (r : Fin 1024) (e : Fin 128)
    (X S T W : Fin 1024 → EReal) (hx : ∀ k, x (ix2 r k) = X k) (hs : ∀ k, s (ix3 0 0 k) = S k) (ht : ∀ k, t (ix3 0 0 k) = T k)
    (hw : ∀ k, w (ix2 k e) = W k) : k0_pay3 x s t w (ix2 r e) = ∑ k, (X k * (1 + S k) + T k) * W k := by
  pointwise [k0_pay3, k0_pay1]
  simp only [hx, hs, ht, hw]

variable (m : (ℓ : Loc nD τ sig) → Buf (Elt Ideal) ℓ)

abbrev aX (c : Dev nD) : Vec Ideal S32x2048x1024 .f32 := m ((c : Thread nD τ).loc main_arg0)
abbrev aS (c : Dev nD) : Vec Ideal S32x1x1024 .f32 := m ((c : Thread nD τ).loc main_arg1)
abbrev aT (c : Dev nD) : Vec Ideal S32x1x1024 .f32 := m ((c : Thread nD τ).loc main_arg2)
abbrev aW (c : Dev nD) : Vec Ideal S1024x8 .f32 := m ((c : Thread nD τ).loc main_arg3)

/-- A grid point's one coordinate is its number. -/
theorem coords_val (t : Fin grid0.N) : (grid0.coords t 0).val = t.val := by
  have ht : t.val < 64 := Nat.lt_of_lt_of_eq t.isLt N_0
  have e0 : (grid0.coords t 0).val = t.val / 1 % 64 := Pipeline.Grid.coords_val t 0 (by decide) rfl
  omega

theorem idx_tile (t : Fin cfg0.N) : cc0_transform_0 (grid0.coords t) = ![t.val, 0] := by
  have h := coords_val t
  have ht : t.val < 64 := Nat.lt_of_lt_of_eq t.isLt N_0
  unfold cc0_transform_0
  show ![(BitVec.ofNat 32 (grid0.coords t 0).val).toNat, 0] = ![t.val, 0]
  rw [h, BitVec.toNat_ofNat, Nat.mod_eq_of_lt (by omega)]
theorem idx0 (t : Fin cfg0.N) : (cfg0.win 0).index t = ![t.val, 0] := idx_tile t
theorem idx4 (t : Fin cfg0.N) : (cfg0.win 4).index t = ![t.val, 0] := idx_tile t
theorem idx5 (t : Fin cfg0.N) : (cfg0.win 5).index t = ![t.val, 0] := idx_tile t
/-- Two tiles of 1024 rows lie in each group of 2048. -/
theorem group_index : ∀ i : grid0.Coords, cc0_transform_1 i = ![(i 0).val / 2, 0, 0] := by decide +kernel
theorem idx1 (t : Fin cfg0.N) : (cfg0.win 1).index t = ![t.val / 2, 0, 0] := by
  rw [← coords_val t]; exact group_index _
theorem idx2 (t : Fin cfg0.N) : (cfg0.win 2).index t = ![t.val / 2, 0, 0] := idx1 t
theorem idx3 (t : Fin cfg0.N) : (cfg0.win 3).index t = ![0, 0] := rfl

theorem covers4 : (cfg0.win 4).Covers := by
  refine Pipeline.Window.covers_of_index_surj _ rfl (fun (a : Fin 2) => ?_) fun β => ?_
  · match a with
    | 0 => exact (by decide : 0 < 1024)
    | 1 => exact (by decide : 0 < 1024)
  · have h0 : (β (0 : Fin 2)).val < (65536 + 1024 - 1) / 1024 := (β (0 : Fin 2)).isLt
    have h1 : (β (1 : Fin 2)).val < (1024 + 1024 - 1) / 1024 := (β (1 : Fin 2)).isLt
    refine ⟨⟨(β (0 : Fin 2)).val, by rw [show cfg0.grid.N = 64 from N_0]; omega⟩, fun (a : Fin 2) => ?_⟩
    rw [idx4]
    match a with
    | 0 => rfl
    | 1 => show 0 = (β (1 : Fin 2)).val; omega

theorem covers5 : (cfg0.win 5).Covers := by
  refine Pipeline.Window.covers_of_index_surj _ rfl (fun (a : Fin 2) => ?_) fun β => ?_
  · match a with
    | 0 => exact (by decide : 0 < 1024)
    | 1 => exact (by decide : 0 < 128)
  · have h0 : (β (0 : Fin 2)).val < (65536 + 1024 - 1) / 1024 := (β (0 : Fin 2)).isLt
    have h1 : (β (1 : Fin 2)).val < (128 + 128 - 1) / 128 := (β (1 : Fin 2)).isLt
    refine ⟨⟨(β (0 : Fin 2)).val, by rw [show cfg0.grid.N = 64 from N_0]; omega⟩, fun (a : Fin 2) => ?_⟩
    rw [idx5]
    match a with
    | 0 => rfl
    | 1 => show 0 = (β (1 : Fin 2)).val; omega

/-- The rows reach the kernel as one axis of 65536, and the router with 120 columns more. -/
theorem V_x (c : Dev nD) : V m c main_v0 = shapeCast S65536x1024 (aX m c) shapeCasts_S32x2048x1024_S65536x1024 := by
  show StableHlo.after hostOps0 (fun b => m (c, b)) (Proc.devRef .tc main_v0) = _
  after_results; rfl
theorem V_w (c : Dev nD) : V m c main_v1 = pad S1024x128 ![0, 0] ![0, 120] ![0, 0] (aW m c) (sitofp (F := Ideal) .f32 (constantI S_ 32 0#32)) pads_S1024x8_S1024x128_000_01200 h_S_ := by
  unfold V V0
  simp only [List.flatten_cons, List.flatten_nil, List.cons_append, List.nil_append]
  after_results; rfl

/-- The padded router's first eight columns are the router. -/
theorem pad_at (w : Vec Ideal S1024x8 .f32) (v : Vec Ideal S_ .f32) (k : Fin 1024) (e : Fin 8) :
    pad S1024x128 ![0, 0] ![0, 120] ![0, 0] w v pads_S1024x8_S1024x128_000_01200 h_S_ (ix2 k ⟨e.val, by omega⟩) = w (ix2 k e) := by
  pointwise

/-- A row of the one axis is a row of a group. -/
theorem flat_at (x : Vec Ideal S32x2048x1024 .f32) (b : Fin 32) (l : Fin 2048) (k : Fin 1024) :
    shapeCast S65536x1024 x shapeCasts_S32x2048x1024_S65536x1024 (ix2 ⟨b.val * 2048 + l.val, by omega⟩ k) = x (ix3 b l k) := by
  pointwise

theorem blk0 (c : Dev nD) (t : Fin cfg0.N) (r k : Fin 1024) (b : Fin 32) (l : Fin 2048) (hr : b.val * 2048 + l.val = t.val * 1024 + r.val) :
    (show EReal from iblk m c 0 t (ix2 r k)) = aX m c (ix3 b l k) := by
  refine (congrFun (congrArg (((cfg0.win 0).blk t).view.read (Elt Ideal)) (V_x m c)) _).trans ?_
  refine Eq.trans ?_ (flat_at (aX m c) b l k)
  generalize shapeCast S65536x1024 (aX m c) shapeCasts_S32x2048x1024_S65536x1024 = v
  blk_ext [idx0 t]
theorem blk1 (c : Dev nD) (t : Fin cfg0.N) (k : Fin 1024) (b : Fin 32) (hb : b.val = t.val / 2) :
    (show EReal from iblk m c 1 t (ix3 0 0 k)) = aS m c (ix3 b 0 k) := by
  blk_ext [iblk, V, idx1 t]
theorem blk2 (c : Dev nD) (t : Fin cfg0.N) (k : Fin 1024) (b : Fin 32) (hb : b.val = t.val / 2) :
    (show EReal from iblk m c 2 t (ix3 0 0 k)) = aT m c (ix3 b 0 k) := by
  blk_ext [iblk, V, idx2 t]
theorem blk3 (c : Dev nD) (t : Fin cfg0.N) (k : Fin 1024) (e : Fin 128) :
    (show EReal from iblk m c 3 t (ix2 k e)) = V m c main_v1 (ix2 k e) := by
  unfold iblk
  generalize V m c (Pipeline.arrRef spec0 3) = v
  blk_ext [idx3 t]

/-- The modulated row `l` of group `b`. -/
def modulated (c : Dev nD) (b : Fin 32) (l : Fin 2048) (k : Fin 1024) : EReal :=
  aX m c (ix3 b l k) * (1 + aS m c (ix3 b 0 k)) + aT m c (ix3 b 0 k)

/-- A row of a tile, as a row of a group. -/
theorem row_exists (t : Fin cfg0.N) (r : Fin 1024) : ∃ (b : Fin 32) (l : Fin 2048), b.val = t.val / 2 ∧ b.val * 2048 + l.val = t.val * 1024 + r.val := by
  have h64 : t.val < 64 := Nat.lt_of_lt_of_eq t.isLt N_0
  exact ⟨⟨t.val / 2, by omega⟩, ⟨t.val % 2 * 1024 + r.val, by omega⟩, rfl, by dsimp only; omega⟩

/-- The first array the kernel leaves: the modulated rows, on one axis. -/
theorem final4 (c : Dev nD) (G : Vec Ideal S65536x1024 .bf16)
    (hG : ∀ (b : Fin 32) (l : Fin 2048) (d : Fin 1024), G (ix2 ⟨b.val * 2048 + l.val, by omega⟩ d) = modulated m c b l d) :
    (dats m 0 c).arrAt 4 cfg0.N = G := by
  refine (dats m 0 c).arrAt_eq_of_covers 4 _ covers4 fun t hf y => ?_
  blk_simp
  rw [after0_4]
  obtain ⟨r, d, rfl⟩ : ∃ (r : Fin 1024) (d : Fin 1024), y = ix2 r d := ⟨y (0 : Fin 2), y (1 : Fin 2), eq_ix2 _⟩
  obtain ⟨b, l, hb, hr⟩ := row_exists t r
  have hE : G ((((cfg0.win 4).blk t).view.emb (ix2 r d))) = G (ix2 ⟨b.val * 2048 + l.val, by omega⟩ d) := by
    blk_ext [idx4 t]
  refine Eq.trans ?_ hE.symm
  rw [hG]
  frame_out
  exact pay2_of (iblk m c 0 t) (iblk m c 1 t) (iblk m c 2 t) r d _ _ _ (blk0 m c t r d b l hr) (blk1 m c t d b hb) (blk2 m c t d b hb)

/-- The second: the products of the modulated rows with the padded router. -/
theorem final5 (c : Dev nD) (G : Vec Ideal S65536x128 .f32)
    (hG : ∀ (b : Fin 32) (l : Fin 2048) (e : Fin 128), G (ix2 ⟨b.val * 2048 + l.val, by omega⟩ e) =
      ∑ k : Fin 1024, modulated m c b l k * (show EReal from V m c main_v1 (ix2 k e))) :
    (dats m 0 c).arrAt 5 cfg0.N = G := by
  refine (dats m 0 c).arrAt_eq_of_covers 5 _ covers5 fun t hf y => ?_
  blk_simp
  rw [after0_5]
  obtain ⟨r, e, rfl⟩ : ∃ (r : Fin 1024) (e : Fin 128), y = ix2 r e := ⟨y (0 : Fin 2), y (1 : Fin 2), eq_ix2 _⟩
  obtain ⟨b, l, hb, hr⟩ := row_exists t r
  have hE : G ((((cfg0.win 5).blk t).view.emb (ix2 r e))) = G (ix2 ⟨b.val * 2048 + l.val, by omega⟩ e) := by
    blk_ext [idx5 t]
  refine Eq.trans ?_ hE.symm
  rw [hG]
  frame_out
  exact pay3_of (iblk m c 0 t) (iblk m c 1 t) (iblk m c 2 t) (iblk m c 3 t) r e _ _ _ _ (fun k => blk0 m c t r k b l hr)
    (fun k => blk1 m c t k b hb) (fun k => blk2 m c t k b hb) (fun k => blk3 m c t k e)

end Cert.RouteIdeal.Value

end
-- ==== Proof.RouteRef.lean ====
/- The modulated rows and their products with the router as the reference computes them. -/
module

public import proofs.«01_k».proof.Proof.Gen.RouteRefIdeal.Run
public import Idealize.ShloMosaic.Lib.Pointwise

@[expose] public section

set_option maxRecDepth 16384

noncomputable section

namespace Cert.RouteRefIdeal.Value

open Cert.RouteRefIdeal Cert.RouteRefIdeal.Gen Idealize.ShloMosaic Idealize.ShloMosaic.TcCoe Idealize.SL.Sem

/-- The modulated rows, on one axis. -/
def REFH (X : FVec Ideal S32x2048x1024 .f32) (S T : FVec Ideal S32x1x1024 .f32) : FVec Ideal S65536x1024 .f32 :=
  shapeCast _ (addf (mulf X (broadcastInDim S32x2048x1024 ![0, 1, 2] bcast_S32x1x1024_S32x2048x1024_0_1_2 (addf (broadcastInDim S32x1x1024 ![] bcast_S_S32x1x1024 (constant S_ .f32 0x3F800000#32)) S))) (broadcastInDim S32x2048x1024 ![0, 1, 2] bcast_S32x1x1024_S32x2048x1024_0_1_2 T)) shapeCasts_S32x2048x1024_S65536x1024
/-- The first result: those rows in the narrow format. -/
def REF0 (X : FVec Ideal S32x2048x1024 .f32) (S T : FVec Ideal S32x1x1024 .f32) : FVec Ideal S65536x1024 .bf16 :=
  truncf .bf16 (REFH X S T) bitsLt_bf16_f32
/-- The second: the routing scores. -/
def REF1 (X : FVec Ideal S32x2048x1024 .f32) (S T : FVec Ideal S32x1x1024 .f32) (W : FVec Ideal S1024x8 .f32) : FVec Ideal S65536x8 .f32 :=
  Host.dotGeneral dot_S65536x1024_S1024x8_S65536x8_1_0_0_1_n_n none (REFH X S T) W

theorem one_at : Ideal.ofBits FTy.f32 0x3F800000#32 = 1 := by
  have h : Ideal.ofBits FTy.f32 0x3F800000#32 = ((1 : ℝ) : EReal) := by
    simp [Ideal.ofBits, Ideal.ieee, -EReal.coe_mul]; norm_num
  exact h.trans EReal.coe_one

theorem refh_at (X : FVec Ideal S32x2048x1024 .f32) (S T : FVec Ideal S32x1x1024 .f32) (b : Fin 32) (l : Fin 2048) (d : Fin 1024) :
    REFH X S T (ix2 ⟨b.val * 2048 + l.val, by omega⟩ d) = (X (ix3 b l d) * (1 + S (ix3 b 0 d)) + T (ix3 b 0 d) : EReal) := by
  pointwise [REFH, one_at]

theorem ref1_at (X : FVec Ideal S32x2048x1024 .f32) (S T : FVec Ideal S32x1x1024 .f32) (W : FVec Ideal S1024x8 .f32) (b : Fin 32) (l : Fin 2048) (e : Fin 8) :
    REF1 X S T W (ix2 ⟨b.val * 2048 + l.val, by omega⟩ e) =
      ∑ k : Fin 1024, ((X (ix3 b l k) * (1 + S (ix3 b 0 k)) + T (ix3 b 0 k)) * W (ix2 k e) : EReal) := by
  have h : ∀ H : FVec Ideal S65536x1024 .f32, Host.dotGeneral dot_S65536x1024_S1024x8_S65536x8_1_0_0_1_n_n none H W (ix2 ⟨b.val * 2048 + l.val, by omega⟩ e) =
      ∑ k : Fin 1024, (H (ix2 ⟨b.val * 2048 + l.val, by omega⟩ k) * W (ix2 k e) : EReal) := fun H => by pointwise
  refine (h _).trans ?_
  simp only [refh_at]

end Cert.RouteRefIdeal.Value

end
-- ==== Proof.RouteClaim.lean ====
/- The routing call leaves what the reference computes: the modulated rows and their scores. -/
module

public import proofs.«01_k».proof.Defs
public import proofs.«01_k».proof.Proof.RouteValue
public import proofs.«01_k».proof.Proof.RouteRef
public import Idealize.ShloMosaic.Adequacy
public import Idealize.ShloMosaic.Init
public import Idealize.ShloMosaic.Lib.Claim

@[expose] public section

set_option maxRecDepth 16384

noncomputable section

namespace Cert.RouteIdeal.Value

open Cert.RouteIdeal Cert.RouteIdeal.Gen Idealize.ShloMosaic Idealize.ShloMosaic.TcCoe Idealize.SL.Sem

variable (m : (ℓ : Loc nD τ sig) → Buf (Elt Ideal) ℓ)

/-- The reference's first array, over the kernel's arguments. -/
def refRows (c : Dev nD) : Vec Ideal S65536x1024 .bf16 := Cert.RouteRefIdeal.Value.REF0 (aX m c) (aS m c) (aT m c)
/-- The reference's second. -/
def refScores (c : Dev nD) : Vec Ideal S65536x8 .f32 := Cert.RouteRefIdeal.Value.REF1 (aX m c) (aS m c) (aT m c) (aW m c)

theorem rows (c : Dev nD) : (dats m 0 c).arrAt 4 cfg0.N = refRows m c :=
  final4 m c _ fun b l d => Cert.RouteRefIdeal.Value.refh_at _ _ _ b l d

/-- The scores with the padded columns. -/
def wide (c : Dev nD) : Vec Ideal S65536x128 .f32 := fun (i : S65536x128.Idx) => (∑ k : Fin 1024,
  modulated m c ⟨(i 0).val / 2048, by have : (i 0).val < 65536 := (i 0).isLt; omega⟩ ⟨(i 0).val % 2048, by omega⟩ k * (show EReal from V m c main_v1 (ix2 k (i 1))) : EReal)
theorem wide_at (c : Dev nD) (b : Fin 32) (l : Fin 2048) (e : Fin 128) : wide m c (ix2 ⟨b.val * 2048 + l.val, by omega⟩ e) =
    ∑ k : Fin 1024, modulated m c b l k * (show EReal from V m c main_v1 (ix2 k e)) := by
  show (∑ k : Fin 1024, modulated m c ⟨(b.val * 2048 + l.val) / 2048, _⟩ ⟨(b.val * 2048 + l.val) % 2048, _⟩ k * (show EReal from V m c main_v1 (ix2 k e)) : EReal) = _
  have hb : (b.val * 2048 + l.val) / 2048 = b.val := by omega
  have hl : (b.val * 2048 + l.val) % 2048 = l.val := by omega
  simp only [hb, hl]

/-- The kernel's result after its padded columns are cut off. -/
theorem scores (c : Dev nD) (u : Vec Ideal S65536x128 .f32) (hu : u = wide m c) :
    extractStridedSlice S65536x8 ![0, 0] u slices_S65536x128_S65536x8_0_0 = refScores m c := by
  funext i
  obtain ⟨b, l, e, rfl⟩ : ∃ (b : Fin 32) (l : Fin 2048) (e : Fin 8), i = ix2 ⟨b.val * 2048 + l.val, by omega⟩ e := by
    have h0 : (i (0 : Fin 2)).val < 65536 := (i (0 : Fin 2)).isLt
    refine ⟨⟨(i (0 : Fin 2)).val / 2048, by omega⟩, ⟨(i (0 : Fin 2)).val % 2048, by omega⟩, i (1 : Fin 2), (eq_ix2 i).trans ?_⟩
    congr 1
    exact Fin.ext (by dsimp only; omega)
  have h1 : extractStridedSlice S65536x8 ![0, 0] u slices_S65536x128_S65536x8_0_0 (ix2 ⟨b.val * 2048 + l.val, by omega⟩ e) = u (ix2 ⟨b.val * 2048 + l.val, by omega⟩ ⟨e.val, by omega⟩) := by
    pointwise
  rw [h1, hu, wide_at, V_w]
  refine Eq.trans ?_ (Cert.RouteRefIdeal.Value.ref1_at _ _ _ _ b l e).symm
  refine Finset.sum_congr rfl fun k _ => ?_
  exact congrArg (fun v : EReal => modulated m c b l k * v) (pad_at (aW m c) _ k e)

theorem arr_inj : Function.Injective (Pipeline.arrRef spec0) := by decide

/-- What the last host line leaves. -/
theorem tail (c : Dev nD) : Pipeline.afterTail₀ cfgs (dats m) 0 (V0 m) [hostOps1] c main_v3 = refScores m c := by
  refine Eq.trans ?_ (scores m c _ (final5 m c _ (wide_at m c)))
  show StableHlo.after hostOps1 (Pipeline.withArrays spec0 c (V0 m c) fun w => (dats m 0 c).arrAt w cfg0.N) (Proc.devRef .tc main_v3) = _
  have h := Pipeline.withArrays_arr spec0 arr_inj c (V0 m c) (fun w => (dats m 0 c).arrAt w cfg0.N) 5
  generalize Pipeline.withArrays spec0 c (V0 m c) (fun w => (dats m 0 c).arrAt w cfg0.N) = W at h ⊢
  after_results
  exact congrArg (fun u : Vec Ideal S65536x128 .f32 => extractStridedSlice S65536x8 ![0, 0] u slices_S65536x128_S65536x8_0_0) h

theorem frame_ref : Cert.quiescent_RouteRefIdeal := fun m g _ =>
  (θ_run Cert.RouteRefIdeal.defs _ _).mono (fun r h => ⟨fun c => (h c).2.2, sem_eq_zero_of_no_sems (by decide) r.2⟩)
    (Cert.RouteRefIdeal.Value.run m g)

/-- Both results are the reference's. -/
theorem algebraic : Cert.algebraic_RouteIdeal_RouteRefIdeal := by
  intro m g m' g' _ hagree
  refine ⟨fun c => refRows m c, fun c => refScores m c, ?_, ?_⟩
  · exact (θ_run defs _ _).mono (fun r h c => ⟨((h.2 c).1 4).trans (rows m c), ((h.2 c).2 main_v3 (by decide)).trans (tail m c), h.1 c⟩)
      (θ_run_and (Gen.unchanged m g) (Gen.run_main m g))
  · refine (θ_run Cert.RouteRefIdeal.defs _ _).mono (fun r h c => ⟨(h c).1.trans ?_, (h c).2.1.trans ?_, (h c).2.2⟩) (Cert.RouteRefIdeal.Value.run m' g')
    all_goals
      obtain ⟨h0, h1, h2, h3⟩ := hagree c
      rw [h0, h1, h2]
      try rw [h3]
      rfl

end Cert.RouteIdeal.Value

end
-- ==== Proof.LayerNorm.lean ====
/- The closing layer norm of the block on one row, over the extended reals. -/
module

public import Idealize.ShloMosaic.Lib.Pointwise

@[expose] public section

noncomputable section

namespace Cert.Moe

open Idealize.ShloMosaic

/-- The mean of a row of 1024 (the divisor is the float word of 1024). -/
def mean (y : Fin 1024 → EReal) : EReal := Ideal.div (∑ k, y k) (Ideal.ofBits .f32 0x44800000#32)

/-- Layer norm of a row with gain `g` and bias `b`; the word added to the variance is the float word of `1e-5`. -/
def layerNorm (y g b : Fin 1024 → EReal) (d : Fin 1024) : EReal :=
  (y d - mean y) * Ideal.rsqrt (mean (fun k => (y k - mean y) * (y k - mean y)) + Ideal.ofBits .f32 0x3727C5AC#32) * g d + b d

/-- The scaled residual with the gated output of the two experts: `α x + gate · (y₀ + y₁)`, where `α` is the fourth root of 8. -/
def residual (x gate y0 y1 : Fin 1024 → EReal) (k : Fin 1024) : EReal :=
  ((Real.sqrt (Real.sqrt 8) : ℝ) : EReal) * x k + gate k * (y0 k + y1 k)

end Cert.Moe

end
-- ==== Proof.CombineValue.lean ====
/- The array the combining kernel leaves: at every row the layer norm of the scaled residual. -/
module

public import proofs.«01_k».proof.Proof.Gen.CombineIdeal.Frame
public import proofs.«01_k».proof.Proof.LayerNorm
public import Idealize.ShloMosaic.Lib.Pipeline.ValueKit
public import Idealize.ShloMosaic.Lib.Pipeline.Covers

@[expose] public section

set_option maxRecDepth 16384

noncomputable section

namespace Cert.CombineIdeal.Value

open Cert.CombineIdeal Cert.CombineIdeal.Gen Idealize.ShloMosaic Idealize.ShloMosaic.TcCoe Idealize.SL.Sem
open Idealize.ShloMosaic.Pipeline (Dat)

/-- What the kernel stores, at one row and column of its block. -/
theorem pay1_at (y0 y1 : Vec Ideal S1024x1024 .bf16) (x : Vec Ideal S1024x1024 .f32) (gate : Vec Ideal S1x1x1024 .f32) (g b : Vec Ideal S1x1024 .f32) (r d : Fin 1024) :
    k0_pay1 y0 y1 x gate g b (ix2 r d) = Moe.layerNorm (Moe.residual (fun k => x (ix2 r k)) (fun k => gate (ix3 0 0 k)) (fun k => y0 (ix2 r k)) (fun k => y1 (ix2 r k)))
      (fun k => g (ix2 0 k)) (fun k => b (ix2 0 k)) d := by
  pointwise [k0_pay1]
  rfl

/-- The same, with each block's entries named. -/
theorem pay1_of (y0 y1 : Vec Ideal S1024x1024 .bf16) (x : Vec Ideal S1024x1024 .f32) (gate : Vec Ideal S1x1x1024 .f32) (g b : Vec Ideal S1x1024 .f32) (r d : Fin 1024)
    (X Q Y0 Y1 S B : Fin 1024 → EReal) (hx : ∀ k, x (ix2 r k) = X k) (hq : ∀ k, gate (ix3 0 0 k) = Q k) (h0 : ∀ k, y0 (ix2 r k) = Y0 k)
    (h1 : ∀ k, y1 (ix2 r k) = Y1 k) (hs : ∀ k, g (ix2 0 k) = S k) (hb : ∀ k, b (ix2 0 k) = B k) :
    k0_pay1 y0 y1 x gate g b (ix2 r d) = Moe.layerNorm (Moe.residual X Q Y0 Y1) S B d := by
  refine (pay1_at y0 y1 x gate g b r d).trans ?_
  simp only [hx, hq, h0, h1, hs, hb]

variable (m : (ℓ : Loc nD τ sig) → Buf (Elt Ideal) ℓ)

abbrev aX (c : Dev nD) : Vec Ideal S32x2048x1024 .f32 := m ((c : Thread nD τ).loc main_arg0)
abbrev aY0 (c : Dev nD) : Vec Ideal S65536x1024 .bf16 := m ((c : Thread nD τ).loc main_arg1)
abbrev aY1 (c : Dev nD) : Vec Ideal S65536x1024 .bf16 := m ((c : Thread nD τ).loc main_arg2)
abbrev aG (c : Dev nD) : Vec Ideal S32x1x1024 .f32 := m ((c : Thread nD τ).loc main_arg3)
abbrev aS (c : Dev nD) : Vec Ideal S1x1024 .f32 := m ((c : Thread nD τ).loc main_arg4)
abbrev aB (c : Dev nD) : Vec Ideal S1x1024 .f32 := m ((c : Thread nD τ).loc main_arg5)

/-- A grid point's one coordinate is its number. -/
theorem coords_val (t : Fin grid0.N) : (grid0.coords t 0).val = t.val := by
  have ht : t.val < 64 := Nat.lt_of_lt_of_eq t.isLt N_0
  have e0 : (grid0.coords t 0).val = t.val / 1 % 64 := Pipeline.Grid.coords_val t 0 (by decide) rfl
  omega

theorem idx_tile (t : Fin cfg0.N) : cc0_transform_0 (grid0.coords t) = ![t.val, 0] := by
  have h := coords_val t
  have ht : t.val < 64 := Nat.lt_of_lt_of_eq t.isLt N_0
  unfold cc0_transform_0
  show ![(BitVec.ofNat 32 (grid0.coords t 0).val).toNat, 0] = ![t.val, 0]
  rw [h, BitVec.toNat_ofNat, Nat.mod_eq_of_lt (by omega)]
theorem idx0 (t : Fin cfg0.N) : (cfg0.win 0).index t = ![t.val, 0] := idx_tile t
theorem idx1 (t : Fin cfg0.N) : (cfg0.win 1).index t = ![t.val, 0] := idx_tile t
theorem idx2 (t : Fin cfg0.N) : (cfg0.win 2).index t = ![t.val, 0] := idx_tile t
theorem idx6 (t : Fin cfg0.N) : (cfg0.win 6).index t = ![t.val, 0] := idx_tile t
/-- Two tiles of 1024 rows lie in each group of 2048. -/
theorem group_index : ∀ i : grid0.Coords, cc0_transform_3 i = ![(i 0).val / 2, 0, 0] := by decide +kernel
theorem idx3 (t : Fin cfg0.N) : (cfg0.win 3).index t = ![t.val / 2, 0, 0] := by
  rw [← coords_val t]; exact group_index _
theorem idx4 (t : Fin cfg0.N) : (cfg0.win 4).index t = ![0, 0] := rfl
theorem idx5 (t : Fin cfg0.N) : (cfg0.win 5).index t = ![0, 0] := rfl

theorem covers6 : (cfg0.win 6).Covers := by
  refine Pipeline.Window.covers_of_index_surj _ rfl (fun (a : Fin 2) => ?_) fun β => ?_
  · match a with
    | 0 => exact (by decide : 0 < 1024)
    | 1 => exact (by decide : 0 < 1024)
  · have h0 : (β (0 : Fin 2)).val < (65536 + 1024 - 1) / 1024 := (β (0 : Fin 2)).isLt
    have h1 : (β (1 : Fin 2)).val < (1024 + 1024 - 1) / 1024 := (β (1 : Fin 2)).isLt
    refine ⟨⟨(β (0 : Fin 2)).val, by rw [show cfg0.grid.N = 64 from N_0]; omega⟩, fun (a : Fin 2) => ?_⟩
    rw [idx6]
    match a with
    | 0 => rfl
    | 1 => show 0 = (β (1 : Fin 2)).val; omega

/-- The rows reach the kernel as one axis of 65536. -/
theorem V_x (c : Dev nD) : V m c main_v0 = shapeCast S65536x1024 (aX m c) shapeCasts_S32x2048x1024_S65536x1024 := by
  show StableHlo.after hostOps0 (fun b => m (c, b)) (Proc.devRef .tc main_v0) = _
  after_results; rfl

/-- A row of the one axis is a row of a group. -/
theorem flat_at (x : Vec Ideal S32x2048x1024 .f32) (b : Fin 32) (l : Fin 2048) (k : Fin 1024) :
    shapeCast S65536x1024 x shapeCasts_S32x2048x1024_S65536x1024 (ix2 ⟨b.val * 2048 + l.val, by omega⟩ k) = x (ix3 b l k) := by
  pointwise

theorem blk0 (c : Dev nD) (t : Fin cfg0.N) (r k : Fin 1024) (b : Fin 32) (l : Fin 2048) (hr : b.val * 2048 + l.val = t.val * 1024 + r.val) :
    (show EReal from iblk m c 0 t (ix2 r k)) = aX m c (ix3 b l k) := by
  refine (congrFun (congrArg (((cfg0.win 0).blk t).view.read (Elt Ideal)) (V_x m c)) _).trans ?_
  refine Eq.trans ?_ (flat_at (aX m c) b l k)
  generalize shapeCast S65536x1024 (aX m c) shapeCasts_S32x2048x1024_S65536x1024 = v
  blk_ext [idx0 t]
theorem blk1 (c : Dev nD) (t : Fin cfg0.N) (r k : Fin 1024) (r' : Fin 65536) (hr : r'.val = t.val * 1024 + r.val) :
    (show EReal from iblk m c 1 t (ix2 r k)) = aY0 m c (ix2 r' k) := by
  blk_ext [iblk, V, idx1 t]
theorem blk2 (c : Dev nD) (t : Fin cfg0.N) (r k : Fin 1024) (r' : Fin 65536) (hr : r'.val = t.val * 1024 + r.val) :
    (show EReal from iblk m c 2 t (ix2 r k)) = aY1 m c (ix2 r' k) := by
  blk_ext [iblk, V, idx2 t]
theorem blk3 (c : Dev nD) (t : Fin cfg0.N) (k : Fin 1024) (b : Fin 32) (hb : b.val = t.val / 2) :
    (show EReal from iblk m c 3 t (ix3 0 0 k)) = aG m c (ix3 b 0 k) := by
  blk_ext [iblk, V, idx3 t]
theorem blk4 (c : Dev nD) (t : Fin cfg0.N) (k : Fin 1024) : (show EReal from iblk m c 4 t (ix2 0 k)) = aS m c (ix2 0 k) := by
  blk_ext [iblk, V, idx4 t]
theorem blk5 (c : Dev nD) (t : Fin cfg0.N) (k : Fin 1024) : (show EReal from iblk m c 5 t (ix2 0 k)) = aB m c (ix2 0 k) := by
  blk_ext [iblk, V, idx5 t]

/-- The result at group `b`, row `l`, column `d`. -/
def result (c : Dev nD) (b : Fin 32) (l : Fin 2048) (d : Fin 1024) : EReal :=
  Moe.layerNorm (Moe.residual (fun k => aX m c (ix3 b l k)) (fun k => aG m c (ix3 b 0 k))
      (fun k => aY0 m c (ix2 ⟨b.val * 2048 + l.val, by omega⟩ k)) (fun k => aY1 m c (ix2 ⟨b.val * 2048 + l.val, by omega⟩ k)))
    (fun k => aS m c (ix2 0 k)) (fun k => aB m c (ix2 0 k)) d

/-- The array the kernel leaves, its rows on one axis. -/
theorem final (c : Dev nD) (G : Vec Ideal S65536x1024 .f32)
    (hG : ∀ (b : Fin 32) (l : Fin 2048) (d : Fin 1024), G (ix2 ⟨b.val * 2048 + l.val, by omega⟩ d) = result m c b l d) :
    (dats m 0 c).arrAt 6 cfg0.N = G := by
  refine (dats m 0 c).arrAt_eq_of_covers 6 _ covers6 fun t hf y => ?_
  have h64 : t.val < 64 := Nat.lt_of_lt_of_eq t.isLt N_0
  blk_simp
  rw [after0_6]
  obtain ⟨r, d, rfl⟩ : ∃ (r : Fin 1024) (d : Fin 1024), y = ix2 r d := ⟨y (0 : Fin 2), y (1 : Fin 2), eq_ix2 _⟩
  obtain ⟨b, hb⟩ : ∃ b : Fin 32, b.val = t.val / 2 := ⟨⟨t.val / 2, by omega⟩, rfl⟩
  obtain ⟨l, hl⟩ : ∃ l : Fin 2048, l.val = t.val % 2 * 1024 + r.val := ⟨⟨t.val % 2 * 1024 + r.val, by have := r.isLt; omega⟩, rfl⟩
  have hr : b.val * 2048 + l.val = t.val * 1024 + r.val := by omega
  have hE : G ((((cfg0.win 6).blk t).view.emb (ix2 r d))) = G (ix2 ⟨b.val * 2048 + l.val, by omega⟩ d) := by
    blk_ext [idx6 t]
  refine Eq.trans ?_ hE.symm
  rw [hG]
  frame_out
  exact pay1_of (iblk m c 1 t) (iblk m c 2 t) (iblk m c 0 t) (iblk m c 3 t) (iblk m c 4 t) (iblk m c 5 t) r d _ _ _ _ _ _
    (fun k => blk0 m c t r k b l hr) (fun k => blk3 m c t k b hb) (fun k => blk1 m c t r k _ hr) (fun k => blk2 m c t r k _ hr)
    (fun k => blk4 m c t k) (fun k => blk5 m c t k)

end Cert.CombineIdeal.Value

end
-- ==== Proof.CombineRef.lean ====
/- The layer norm of the combination as the reference computes it, at one group, row and column. -/
module

public import proofs.«01_k».proof.Proof.Gen.CombineRefIdeal.Run
public import proofs.«01_k».proof.Proof.LayerNorm

@[expose] public section

set_option maxRecDepth 16384

noncomputable section

namespace Cert.CombineRefIdeal.Value

open Cert.CombineRefIdeal Cert.CombineRefIdeal.Gen Idealize.ShloMosaic Idealize.ShloMosaic.TcCoe Idealize.SL.Sem

/-- The reference's composed term, over its argument arrays. -/
def REF (X : FVec Ideal S32x2048x1024 .f32) (Y0 Y1 : FVec Ideal S65536x1024 .bf16) (Q : FVec Ideal S32x1x1024 .f32) (S B : FVec Ideal S1x1024 .f32) : FVec Ideal S32x2048x1024 .f32 :=
  addf (mulf (mulf (subf (addf (mulf (broadcastInDim S32x2048x1024 ![] bcast_S_S32x2048x1024 (Host.sqrt (Host.sqrt (constant S_ .f32 0x41000000#32)))) X) (mulf (broadcastInDim S32x2048x1024 ![0, 1, 2] bcast_S32x1x1024_S32x2048x1024_0_1_2 Q) (shapeCast _ (addf (extf .f32 Y0 bitsLt_bf16_f32) (extf .f32 Y1 bitsLt_bf16_f32)) shapeCasts_S65536x1024_S32x2048x1024))) (broadcastInDim S32x2048x1024 ![0, 1, 2] bcast_S32x2048x1_S32x2048x1024_0_1_2 (Host.divf (broadcastInDim S32x2048x1 ![0, 1] bcast_S32x2048_S32x2048x1_0_1 (Host.reduceAdd (addf (mulf (broadcastInDim S32x2048x1024 ![] bcast_S_S32x2048x1024 (Host.sqrt (Host.sqrt (constant S_ .f32 0x41000000#32)))) X) (mulf (broadcastInDim S32x2048x1024 ![0, 1, 2] bcast_S32x1x1024_S32x2048x1024_0_1_2 Q) (shapeCast _ (addf (extf .f32 Y0 bitsLt_bf16_f32) (extf .f32 Y1 bitsLt_bf16_f32)) shapeCasts_S65536x1024_S32x2048x1024))) (constant S_ .f32 0x00000000#32) reducesTo_S32x2048x1024_S32x2048_d2 h_S_)) (broadcastInDim S32x2048x1 ![] bcast_S_S32x2048x1 (constant S_ .f32 0x44800000#32))))) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (subf (addf (mulf (broadcastInDim S32x2048x1024 ![] bcast_S_S32x2048x1024 (Host.sqrt (Host.sqrt (constant S_ .f32 0x41000000#32)))) X) (mulf (broadcastInDim S32x2048x1024 ![0, 1, 2] bcast_S32x1x1024_S32x2048x1024_0_1_2 Q) (shapeCast _ (addf (extf .f32 Y0 bitsLt_bf16_f32) (extf .f32 Y1 bitsLt_bf16_f32)) shapeCasts_S65536x1024_S32x2048x1024))) (broadcastInDim S32x2048x1024 ![0, 1, 2] bcast_S32x2048x1_S32x2048x1024_0_1_2 (Host.divf (broadcastInDim S32x2048x1 ![0, 1] bcast_S32x2048_S32x2048x1_0_1 (Host.reduceAdd (addf (mulf (broadcastInDim S32x2048x1024 ![] bcast_S_S32x2048x1024 (Host.sqrt (Host.sqrt (constant S_ .f32 0x41000000#32)))) X) (mulf (broadcastInDim S32x2048x1024 ![0, 1, 2] bcast_S32x1x1024_S32x2048x1024_0_1_2 Q) (shapeCast _ (addf (extf .f32 Y0 bitsLt_bf16_f32) (extf .f32 Y1 bitsLt_bf16_f32)) shapeCasts_S65536x1024_S32x2048x1024))) (constant S_ .f32 0x00000000#32) reducesTo_S32x2048x1024_S32x2048_d2 h_S_)) (broadcastInDim S32x2048x1 ![] bcast_S_S32x2048x1 (constant S_ .f32 0x44800000#32))))) (subf (addf (mulf (broadcastInDim S32x2048x1024 ![] bcast_S_S32x2048x1024 (Host.sqrt (Host.sqrt (constant S_ .f32 0x41000000#32)))) X) (mulf (broadcastInDim S32x2048x1024 ![0, 1, 2] bcast_S32x1x1024_S32x2048x1024_0_1_2 Q) (shapeCast _ (addf (extf .f32 Y0 bitsLt_bf16_f32) (extf .f32 Y1 bitsLt_bf16_f32)) shapeCasts_S65536x1024_S32x2048x1024))) (broadcastInDim S32x2048x1024 ![0, 1, 2] bcast_S32x2048x1_S32x2048x1024_0_1_2 (Host.divf (broadcastInDim S32x2048x1 ![0, 1] bcast_S32x2048_S32x2048x1_0_1 (Host.reduceAdd (addf (mulf (broadcastInDim S32x2048x1024 ![] bcast_S_S32x2048x1024 (Host.sqrt (Host.sqrt (constant S_ .f32 0x41000000#32)))) X) (mulf (broadcastInDim S32x2048x1024 ![0, 1, 2] bcast_S32x1x1024_S32x2048x1024_0_1_2 Q) (shapeCast _ (addf (extf .f32 Y0 bitsLt_bf16_f32) (extf .f32 Y1 bitsLt_bf16_f32)) shapeCasts_S65536x1024_S32x2048x1024))) (constant S_ .f32 0x00000000#32) reducesTo_S32x2048x1024_S32x2048_d2 h_S_)) (broadcastInDim S32x2048x1 ![] bcast_S_S32x2048x1 (constant S_ .f32 0x44800000#32)))))) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x3727C5AC#32)))))) (broadcastInDim S32x2048x1024 ![0, 1, 2] bcast_S1x1x1024_S32x2048x1024_0_1_2 (broadcastInDim S1x1x1024 ![2] bcast_S1024_S1x1x1024_2 (shapeCast _ S shapeCasts_S1x1024_S1024)))) (broadcastInDim S32x2048x1024 ![0, 1, 2] bcast_S1x1x1024_S32x2048x1024_0_1_2 (broadcastInDim S1x1x1024 ![2] bcast_S1024_S1x1x1024_2 (shapeCast _ B shapeCasts_S1x1024_S1024)))

/-- The reference's scale of the residual is the fourth root of 8. -/
theorem fourth_root : Ideal.sqrt (Ideal.sqrt (Ideal.ofBits FTy.f32 0x41000000#32)) = ((Real.sqrt (Real.sqrt 8) : ℝ) : EReal) := by
  have h8 : Ideal.ofBits FTy.f32 0x41000000#32 = ((8 : ℝ) : EReal) := by
    simp [Ideal.ofBits, Ideal.ieee, -EReal.coe_mul]; norm_num
  rw [h8, Ideal.sqrt_coe, if_neg (by norm_num), Ideal.sqrt_coe, if_neg (not_lt.2 (Real.sqrt_nonneg _))]

theorem ref_at (X : FVec Ideal S32x2048x1024 .f32) (Y0 Y1 : FVec Ideal S65536x1024 .bf16) (Q : FVec Ideal S32x1x1024 .f32) (S B : FVec Ideal S1x1024 .f32)
    (b : Fin 32) (l : Fin 2048) (d : Fin 1024) :
    REF X Y0 Y1 Q S B (ix3 b l d) =
      Moe.layerNorm (Moe.residual (fun k => X (ix3 b l k)) (fun k => Q (ix3 b 0 k)) (fun k => Y0 (ix2 ⟨b.val * 2048 + l.val, by omega⟩ k))
        (fun k => Y1 (ix2 ⟨b.val * 2048 + l.val, by omega⟩ k))) (fun k => S (ix2 0 k)) (fun k => B (ix2 0 k)) d := by
  pointwise [REF]
  rw [fourth_root]
  rfl

end Cert.CombineRefIdeal.Value

end
-- ==== Proof.CombineClaim.lean ====
/- The combining call leaves what the reference computes: the layer norm of the combination. -/
module

public import proofs.«01_k».proof.Defs
public import proofs.«01_k».proof.Proof.CombineValue
public import proofs.«01_k».proof.Proof.CombineRef
public import Idealize.ShloMosaic.Adequacy
public import Idealize.ShloMosaic.Init
public import Idealize.ShloMosaic.Lib.Claim

@[expose] public section

set_option maxRecDepth 16384

noncomputable section

namespace Cert.CombineIdeal.Value

open Cert.CombineIdeal Cert.CombineIdeal.Gen Idealize.ShloMosaic Idealize.ShloMosaic.TcCoe Idealize.SL.Sem

variable (m : (ℓ : Loc nD τ sig) → Buf (Elt Ideal) ℓ)

/-- The reference's array, over the kernel's arguments. -/
def refArr (c : Dev nD) : Vec Ideal S32x2048x1024 .f32 := Cert.CombineRefIdeal.Value.REF (aX m c) (aY0 m c) (aY1 m c) (aG m c) (aS m c) (aB m c)

/-- The reference's array with its rows on one axis is what the kernel leaves. -/
theorem rows (c : Dev nD) : (dats m 0 c).arrAt 6 cfg0.N = shapeCast S65536x1024 (refArr m c) shapeCasts_S32x2048x1024_S65536x1024 :=
  final m c _ fun b l d => (flat_at (refArr m c) b l d).trans (Cert.CombineRefIdeal.Value.ref_at _ _ _ _ _ _ b l d)

theorem arr_inj : Function.Injective (Pipeline.arrRef spec0) := by decide

/-- What the last host line leaves: the rows in their groups again. -/
theorem tail (c : Dev nD) : Pipeline.afterTail₀ cfgs (dats m) 0 (V0 m) [hostOps1] c main_v2 = refArr m c := by
  have h := Pipeline.withArrays_arr spec0 arr_inj c (V0 m c) (fun w => (dats m 0 c).arrAt w cfg0.N) 6
  show StableHlo.after hostOps1 (Pipeline.withArrays spec0 c (V0 m c) fun w => (dats m 0 c).arrAt w cfg0.N) (Proc.devRef .tc main_v2) = _
  generalize Pipeline.withArrays spec0 c (V0 m c) (fun w => (dats m 0 c).arrAt w cfg0.N) = W at h ⊢
  after_results
  refine (congrArg (fun u : Vec Ideal S65536x1024 .f32 => shapeCast S32x2048x1024 u shapeCasts_S65536x1024_S32x2048x1024) (h.trans (rows m c))).trans ?_
  exact shapeCast_shapeCast ..

theorem frame_ref : Cert.quiescent_CombineRefIdeal := fun m g _ =>
  (θ_run Cert.CombineRefIdeal.defs _ _).mono (fun r h => ⟨fun c => (h c).2, sem_eq_zero_of_no_sems (by decide) r.2⟩)
    (Cert.CombineRefIdeal.Value.run m g)

/-- The scale of the residual is printed rounded; the rule names it as the fourth root of 8. -/
theorem preserves : Cert.preserves_Combine_CombineIdeal :=
  IdealRules.named_const.statement Cert.CombineIdeal.κ "alpha" .f32 0x3FD744FD#32 ((Real.sqrt (Real.sqrt 8) : ℝ) : EReal) rfl

/-- The result is the reference's. -/
theorem algebraic : Cert.algebraic_CombineIdeal_CombineRefIdeal := by
  intro m g m' g' _ hagree
  refine ⟨fun c => refArr m c, ?_, ?_⟩
  · exact (θ_run defs _ _).mono (fun r h c => ⟨((h.2 c).2 main_v2 (by decide)).trans (tail m c), h.1 c⟩)
      (θ_run_and (Gen.unchanged m g) (Gen.run_main m g))
  · refine (θ_run Cert.CombineRefIdeal.defs _ _).mono (fun r h c => ⟨(h c).1.trans ?_, (h c).2⟩) (Cert.CombineRefIdeal.Value.run m' g')
    obtain ⟨h0, h1, h2, h3, h4, h5⟩ := hagree c
    unfold Cert.CombineRefIdeal.Value.res_main_v34
    rw [h0, h1, h2, h3, h4, h5]
    rfl

end Cert.CombineIdeal.Value

end
-- ==== Proof.DenseTable.lean ====
/- The dense call prefetches a table of zeros: its windows on the weights stay inside them (idealized program). -/
module

public import proofs.«01_k».proof.Defs
public import proofs.«01_k».proof.Proof.Gen.DenseIdeal.Frame.Runs
public import Idealize.ShloMosaic.Lib.Pointwise

@[expose] public section

set_option maxRecDepth 16384

noncomputable section

namespace Cert.DenseIdeal.Value

open Cert.DenseIdeal Cert.DenseIdeal.Gen Idealize.ShloMosaic Idealize.ShloMosaic.TcCoe Idealize.SL.Sem

variable {F : FTy → Type} [FloatOps F] [Named F]

/-- Where the dense kernel's windows on the weights read the table: the word of the row tile. -/
theorem word_at (pf : pre0.Contents (Elt F)) (i : grid0.Coords) :
    pf.at 0 (Rect.unit (s := S128) ![(Scalar.indexCast (BitVec.ofNat 32 (i 0).val)).toNat] S1.size (k0_off1_inb i)) numel1_S1
      = pf 0 (ValueIdx.ix1 (i 0)) := by
  have hi : (i 0).val < 128 := (i 0).isLt
  have e : (Scalar.indexCast (BitVec.ofNat 32 (i 0).val)).toNat = (i 0).val :=
    Affine.nat_eq (Affine.indexCast (Affine.ofNat (i 0).val (by omega))) _ rfl
  refine congrArg (pf 0) (funext fun (a : Fin 1) => Fin.ext ?_)
  obtain rfl : a = 0 := Subsingleton.elim _ _
  show (Scalar.indexCast (BitVec.ofNat 32 (i 0).val)).toNat + 1 * 0 = (i 0).val
  omega

/-- With a table of zeros the weights' windows are on the one set of weights, at the half the inner coordinate names. -/
theorem index_gate (pf : pre0.Contents (Elt F)) (h : ∀ y : S128.Idx, (show BitVec 32 from pf 0 y) = 0#32) (i : grid0.Coords) :
    cc0_transform_1 k0_off1_inb numel1_S1 pf i = ![0, 0, (i 1).val] := by
  have h1 : (i 1).val < 2 := (i 1).isLt
  have e : (BitVec.ofNat 32 (i 1).val).toNat = (i 1).val := by rw [BitVec.toNat_ofNat]; omega
  show ![_, _, _] = ![_, _, _]
  rw [word_at pf i, e]
  show ![(show BitVec 32 from pf 0 (ValueIdx.ix1 (i 0))).toNat, _, _] = _
  rw [h]
  rfl
theorem index_up (pf : pre0.Contents (Elt F)) (h : ∀ y : S128.Idx, (show BitVec 32 from pf 0 y) = 0#32) (i : grid0.Coords) :
    cc0_transform_2 k0_off1_inb numel1_S1 pf i = ![0, 0, (i 1).val + 2] := by
  have h1 : (i 1).val < 2 := (i 1).isLt
  have e : (Scalar.addi (BitVec.ofNat 32 (i 1).val) 2#32).toNat = (i 1).val + 2 := by
    show (BitVec.ofNat 32 (i 1).val + 2#32).toNat = _
    rw [BitVec.toNat_add, BitVec.toNat_ofNat]
    show ((i 1).val % 4294967296 + 2) % 4294967296 = _
    omega
  show ![_, _, _] = ![_, _, _]
  rw [word_at pf i, e]
  show ![(show BitVec 32 from pf 0 (ValueIdx.ix1 (i 0))).toNat, _, _] = _
  rw [h]
  rfl
theorem index_down (pf : pre0.Contents (Elt F)) (h : ∀ y : S128.Idx, (show BitVec 32 from pf 0 y) = 0#32) (i : grid0.Coords) :
    cc0_transform_3 k0_off1_inb numel1_S1 pf i = ![0, (i 1).val, 0] := by
  have h1 : (i 1).val < 2 := (i 1).isLt
  have e : (BitVec.ofNat 32 (i 1).val).toNat = (i 1).val := by rw [BitVec.toNat_ofNat]; omega
  show ![_, _, _] = ![_, _, _]
  rw [word_at pf i, e]
  show ![(show BitVec 32 from pf 0 (ValueIdx.ix1 (i 0))).toNat, _, _] = _
  rw [h]
  rfl

/-- So every block read through such a table is inside its array. -/
theorem ok_of_zero (pf : pre0.Contents (Elt F)) (h : ∀ y : S128.Idx, (show BitVec 32 from pf 0 y) = 0#32) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h1 : (i 1).val < 2 := (i 1).isLt
  · rw [index_gate pf h]
    fin_cases a
    · show (0 + 1) * 1 ≤ 1; omega
    · show (0 + 1) * 1024 ≤ 1024; omega
    · show ((i 1).val + 1) * 1408 ≤ 5632; omega
  · rw [index_up pf h]
    fin_cases a
    · show (0 + 1) * 1 ≤ 1; omega
    · show (0 + 1) * 1024 ≤ 1024; omega
    · show ((i 1).val + 2 + 1) * 1408 ≤ 5632; omega
  · rw [index_down pf h]
    fin_cases a
    · show (0 + 1) * 1 ≤ 1; omega
    · show ((i 1).val + 1) * 1408 ≤ 2816; omega
    · show (0 + 1) * 1024 ≤ 1024; omega

variable (m : (ℓ : Loc nD τ sig) → Buf (Elt F) ℓ)

/-- The host fills the table with zeros. -/
theorem table_zero (c : Dev nD) : V m c main_v0 = broadcastInDim S128 ![] bcast_S_S128 (constantI S_ 32 0#32) := by
  show StableHlo.after hostOps0 (fun b => m (c, b)) (Proc.devRef .tc main_v0) = _
  after_results
theorem word_zero (y : S128.Idx) : (show BitVec 32 from tbl m 0 y) = 0#32 :=
  (congrFun (table_zero m 0) y).trans rfl

/-- The kernel's table is in range. -/
theorem ok : Ok m := ok_of_zero _ (word_zero m)

end Cert.DenseIdeal.Value

end
-- ==== Proof.DenseMath.lean ====
/- The dense feed-forward block on one row, over the extended reals: the SwiGLU of 2816 hidden units, its hidden axis cut into
   two halves, and the residual that is normalized. -/
module

public import proofs.«01_k».proof.Proof.Swiglu
public import proofs.«01_k».proof.Proof.LayerNorm

@[expose] public section

noncomputable section

namespace Cert.Moe

open Idealize.ShloMosaic

/-- Hidden unit `f`'s share of output `d`. The fused weight's first 2816 columns are the gate, the others the up projection. -/
def denseUnit (x : Fin 1024 → EReal) (w : Fin 1024 → Fin 5632 → EReal) (v : Fin 2816 → Fin 1024 → EReal) (d : Fin 1024)
    (f : Fin 2816) : EReal :=
  silu (∑ k, x k * w k ⟨f, by omega⟩) * (∑ k, x k * w k ⟨2816 + f, by omega⟩) * v f d

/-- The feed-forward's output `d` on the row `x`. -/
def denseOut (x : Fin 1024 → EReal) (w : Fin 1024 → Fin 5632 → EReal) (v : Fin 2816 → Fin 1024 → EReal) (d : Fin 1024) : EReal :=
  ∑ f : Fin 2816, denseUnit x w v d f

/-- The hidden axis in two halves of 1408 units. -/
theorem denseOut_halves (x : Fin 1024 → EReal) (w : Fin 1024 → Fin 5632 → EReal) (v : Fin 2816 → Fin 1024 → EReal) (d : Fin 1024) :
    denseOut x w v d = (∑ f : Fin 1408, denseUnit x w v d ⟨f, by omega⟩) + ∑ f : Fin 1408, denseUnit x w v d ⟨1408 + f, by omega⟩ :=
  Fin.sum_univ_add (a := 1408) (b := 1408) (fun f : Fin (1408 + 1408) => denseUnit x w v d f)

/-- The row modulated by scale and shift. -/
def modulated (x s h : Fin 1024 → EReal) (k : Fin 1024) : EReal := x k * (1 + s k) + h k

/-- The scaled residual with one gated output, where the scale is the fourth root of 8. -/
def residualOne (x gate y : Fin 1024 → EReal) (k : Fin 1024) : EReal :=
  ((Real.sqrt (Real.sqrt 8) : ℝ) : EReal) * x k + gate k * y k

/-- The block on one row: modulate, feed forward, gate, add the residual, normalize. -/
def denseRow (x s h gate g b : Fin 1024 → EReal) (w : Fin 1024 → Fin 5632 → EReal) (v : Fin 2816 → Fin 1024 → EReal) (d : Fin 1024) : EReal :=
  layerNorm (residualOne x gate fun k => denseOut (modulated x s h) w v k) g b d

end Cert.Moe

end
-- ==== Proof.DenseValue.lean ====
/- The array the dense feed-forward kernel leaves, at every row and column. -/
module

public import proofs.«01_k».proof.Proof.Gen.DenseIdeal.Frame
public import proofs.«01_k».proof.Proof.DenseTable
public import proofs.«01_k».proof.Proof.DenseMath
public import Idealize.ShloMosaic.Lib.Pipeline.ValueKit
public import Idealize.ShloMosaic.Lib.Pipeline.Covers

@[expose] public section

set_option maxRecDepth 16384

noncomputable section

namespace Cert.DenseIdeal.Value

open Cert.DenseIdeal Cert.DenseIdeal.Gen Idealize.ShloMosaic Idealize.ShloMosaic.TcCoe Idealize.SL.Sem
open Idealize.ShloMosaic.Pipeline (Dat)

theorem one_at : Ideal.ofBits FTy.f32 0x3F800000#32 = 1 := by
  have h : Ideal.ofBits FTy.f32 0x3F800000#32 = ((1 : ℝ) : EReal) := by
    simp [Ideal.ofBits, Ideal.ieee, -EReal.coe_mul]; norm_num
  exact h.trans EReal.coe_one

/-- The accumulator is first set to zero. -/
theorem pay3_at (r : Fin 512) (d : Fin 1024) : k0_pay3 (F := Ideal) (ix2 r d) = 0 := by
  pointwise [k0_pay3]

/-- A grid point adds half the hidden units to the accumulator, over the modulated rows. -/
theorem pay4_at (x : Vec Ideal S512x1024 .f32) (s h : Vec Ideal S1x1x1024 .f32) (g u : Vec Ideal S1x1024x1408 .bf16) (a : Vec Ideal S512x1024 .f32) (v : Vec Ideal S1x1408x1024 .bf16) (r : Fin 512) (d : Fin 1024) :
    k0_pay1 (k0_pay4 x s h g u a v) (ix2 r d) = (show EReal from a (ix2 r d))
      + ∑ f : Fin 1408, Moe.silu (∑ k : Fin 1024, (x (ix2 r k) * (1 + s (ix3 0 0 k)) + h (ix3 0 0 k)) * g (ix3 0 k f))
        * (∑ k : Fin 1024, (x (ix2 r k) * (1 + s (ix3 0 0 k)) + h (ix3 0 0 k)) * u (ix3 0 k f)) * v (ix3 0 f d) := by
  pointwise [k0_pay1, k0_pay4, one_at]
  rfl

/-- The last half normalizes the scaled residual with the gated accumulator. -/
theorem pay2_at (a x : Vec Ideal S512x1024 .f32) (gate : Vec Ideal S1x1x1024 .f32) (g b : Vec Ideal S1x1024 .f32) (r : Fin 512) (d : Fin 1024) :
    k0_pay2 a x gate g b (ix2 r d) = Moe.layerNorm (Moe.residualOne (fun k => x (ix2 r k)) (fun k => gate (ix3 0 0 k)) (fun k => a (ix2 r k)))
      (fun k => g (ix2 0 k)) (fun k => b (ix2 0 k)) d := by
  pointwise [k0_pay2]
  rfl

/-- The same, with each block's entries named. -/
theorem pay2_of (a x : Vec Ideal S512x1024 .f32) (gate : Vec Ideal S1x1x1024 .f32) (g b : Vec Ideal S1x1024 .f32) (r : Fin 512) (d : Fin 1024)
    (X Q Y S B : Fin 1024 → EReal) (hx : ∀ k, x (ix2 r k) = X k) (hq : ∀ k, gate (ix3 0 0 k) = Q k) (hy : ∀ k, a (ix2 r k) = Y k)
    (hs : ∀ k, g (ix2 0 k) = S k) (hb : ∀ k, b (ix2 0 k) = B k) :
    k0_pay2 a x gate g b (ix2 r d) = Moe.layerNorm (Moe.residualOne X Q Y) S B d := by
  refine (pay2_at a x gate g b r d).trans ?_
  simp only [hx, hq, hy, hs, hb]

/-- One half's product at a row and column, as hidden units: `φ` places the half's units on the hidden axis. -/
theorem half_at (x : Vec Ideal S512x1024 .f32) (s h : Vec Ideal S1x1x1024 .f32) (g u : Vec Ideal S1x1024x1408 .bf16) (a : Vec Ideal S512x1024 .f32)
    (v : Vec Ideal S1x1408x1024 .bf16) (r : Fin 512) (d : Fin 1024) (X S H : Fin 1024 → EReal) (W : Fin 1024 → Fin 5632 → EReal)
    (D : Fin 2816 → Fin 1024 → EReal) (φ : Fin 1408 → Fin 2816) (hx : ∀ k, x (ix2 r k) = X k) (hs : ∀ k, s (ix3 0 0 k) = S k) (hh : ∀ k, h (ix3 0 0 k) = H k)
    (hg : ∀ k f, g (ix3 0 k f) = W k ⟨(φ f).val, by omega⟩) (hu : ∀ k f, u (ix3 0 k f) = W k ⟨2816 + (φ f).val, by omega⟩)
    (hv : ∀ f, v (ix3 0 f d) = D (φ f) d) :
    k0_pay1 (k0_pay4 x s h g u a v) (ix2 r d) = a (ix2 r d) + ∑ f : Fin 1408, Moe.denseUnit (Moe.modulated X S H) W D d (φ f) := by
  refine (pay4_at x s h g u a v r d).trans ?_
  simp only [hx, hs, hh, hg, hu, hv]
  rfl

variable (m : (ℓ : Loc nD τ sig) → Buf (Elt Ideal) ℓ)

abbrev aX (c : Dev nD) : Vec Ideal S32x2048x1024 .f32 := m ((c : Thread nD τ).loc main_arg0)
abbrev aS (c : Dev nD) : Vec Ideal S32x1x1024 .f32 := m ((c : Thread nD τ).loc main_arg1)
abbrev aH (c : Dev nD) : Vec Ideal S32x1x1024 .f32 := m ((c : Thread nD τ).loc main_arg2)
abbrev aQ (c : Dev nD) : Vec Ideal S32x1x1024 .f32 := m ((c : Thread nD τ).loc main_arg3)
abbrev aG (c : Dev nD) : Vec Ideal S1x1024 .f32 := m ((c : Thread nD τ).loc main_arg4)
abbrev aB (c : Dev nD) : Vec Ideal S1x1024 .f32 := m ((c : Thread nD τ).loc main_arg5)
abbrev aW (c : Dev nD) : Vec Ideal S1024x5632 .f32 := m ((c : Thread nD τ).loc main_arg6)
abbrev aD (c : Dev nD) : Vec Ideal S2816x1024 .f32 := m ((c : Thread nD τ).loc main_arg7)

/-- A grid point's coordinates: the row tile and the half of the hidden axis. -/
theorem coords_val (t : Fin grid0.N) : (grid0.coords t 0).val = t.val / 2 ∧ (grid0.coords t 1).val = t.val % 2 := by
  have ht : t.val < 256 := Nat.lt_of_lt_of_eq t.isLt N_0
  have e0 : (grid0.coords t 0).val = t.val / 2 % 128 := Pipeline.Grid.coords_val t 0 (by decide) rfl
  have e1 : (grid0.coords t 1).val = t.val / 1 % 2 := Pipeline.Grid.coords_val t 1 (by decide) rfl
  omega

variable (hO : Ok m)

theorem idx9 (t : Fin (cfgM m hO).N) : ((cfgM m hO).win 9).index t = ![t.val / 2, 0] := by
  have h := coords_val t
  have ht : t.val < 256 := Nat.lt_of_lt_of_eq t.isLt N_0
  show cc0_transform_9 (grid0.coords t) = _
  unfold cc0_transform_9
  show ![(BitVec.ofNat 32 (grid0.coords t 0).val).toNat, 0] = ![t.val / 2, 0]
  rw [h.1, BitVec.toNat_ofNat, Nat.mod_eq_of_lt (by omega)]
theorem idx0 (t : Fin (cfgM m hO).N) : ((cfgM m hO).win 0).index t = ![t.val / 2, 0] := idx9 m hO t
theorem idx1 (t : Fin (cfgM m hO).N) : ((cfgM m hO).win 1).index t = ![0, 0, t.val % 2] := by
  rw [← (coords_val t).2]; exact index_gate _ (word_zero m) _
theorem idx2 (t : Fin (cfgM m hO).N) : ((cfgM m hO).win 2).index t = ![0, 0, t.val % 2 + 2] := by
  rw [← (coords_val t).2]; exact index_up _ (word_zero m) _
theorem idx3 (t : Fin (cfgM m hO).N) : ((cfgM m hO).win 3).index t = ![0, t.val % 2, 0] := by
  rw [← (coords_val t).2]; exact index_down _ (word_zero m) _
/-- Four tiles of 512 rows lie in each group of 2048. -/
theorem group_index : ∀ i : grid0.Coords, cc0_transform_4 i = ![(i 0).val / 4, 0, 0] := by decide +kernel
theorem idx4 (t : Fin (cfgM m hO).N) : ((cfgM m hO).win 4).index t = ![t.val / 2 / 4, 0, 0] := by
  rw [← (coords_val t).1]; exact group_index _
theorem idx5 (t : Fin (cfgM m hO).N) : ((cfgM m hO).win 5).index t = ![t.val / 2 / 4, 0, 0] := idx4 m hO t
theorem idx6 (t : Fin (cfgM m hO).N) : ((cfgM m hO).win 6).index t = ![t.val / 2 / 4, 0, 0] := idx4 m hO t
theorem idx7 (t : Fin (cfgM m hO).N) : ((cfgM m hO).win 7).index t = ![0, 0] := rfl
theorem idx8 (t : Fin (cfgM m hO).N) : ((cfgM m hO).win 8).index t = ![0, 0] := rfl

theorem covers9 : ((cfgM m hO).win 9).Covers := by
  refine Pipeline.Window.covers_of_index_surj _ rfl (fun (a : Fin 2) => ?_) fun β => ?_
  · match a with
    | 0 => exact (by decide : 0 < 512)
    | 1 => exact (by decide : 0 < 1024)
  · have h0 : (β (0 : Fin 2)).val < (65536 + 512 - 1) / 512 := (β (0 : Fin 2)).isLt
    have h1 : (β (1 : Fin 2)).val < (1024 + 1024 - 1) / 1024 := (β (1 : Fin 2)).isLt
    refine ⟨⟨2 * (β (0 : Fin 2)).val, by rw [show (cfgM m hO).grid.N = 256 from N_0]; omega⟩, fun (a : Fin 2) => ?_⟩
    rw [idx9]
    match a with
    | 0 => show 2 * (β (0 : Fin 2)).val / 2 = (β (0 : Fin 2)).val; omega
    | 1 => show 0 = (β (1 : Fin 2)).val; omega

/-- The rows reach the kernel as one axis of 65536. -/
theorem V_x (c : Dev nD) : V m c main_v1 = shapeCast S65536x1024 (aX m c) shapeCasts_S32x2048x1024_S65536x1024 := by
  show StableHlo.after hostOps0 (fun b => m (c, b)) (Proc.devRef .tc main_v1) = _
  after_results; rfl
/-- The weights in the narrow format, with a leading axis of one. -/
def gu (w : FVec Ideal S1024x5632 .f32) : FVec Ideal S1x1024x5632 .bf16 :=
  broadcastInDim S1x1024x5632 ![1, 2] bcast_S1024x5632_S1x1024x5632_1_2 (truncf .bf16 w bitsLt_bf16_f32)
def down (w : FVec Ideal S2816x1024 .f32) : FVec Ideal S1x2816x1024 .bf16 :=
  broadcastInDim S1x2816x1024 ![1, 2] bcast_S2816x1024_S1x2816x1024_1_2 (truncf .bf16 w bitsLt_bf16_f32)
theorem V_gu (c : Dev nD) : V m c main_v3 = gu (aW m c) := by
  show StableHlo.after hostOps0 (fun b => m (c, b)) (Proc.devRef .tc main_v3) = _
  after_results; rfl
theorem V_down (c : Dev nD) : V m c main_v5 = down (aD m c) := by
  show StableHlo.after hostOps0 (fun b => m (c, b)) (Proc.devRef .tc main_v5) = _
  after_results; rfl
theorem flat_at (x : Vec Ideal S32x2048x1024 .f32) (b : Fin 32) (l : Fin 2048) (k : Fin 1024) :
    shapeCast S65536x1024 x shapeCasts_S32x2048x1024_S65536x1024 (ix2 ⟨b.val * 2048 + l.val, by omega⟩ k) = x (ix3 b l k) := by
  pointwise
theorem gu_at (w : FVec Ideal S1024x5632 .f32) (k : Fin 1024) (f : Fin 5632) : gu w (ix3 0 k f) = w (ix2 k f) := by
  pointwise [gu]
theorem down_at (w : FVec Ideal S2816x1024 .f32) (f : Fin 2816) (d : Fin 1024) : down w (ix3 0 f d) = w (ix2 f d) := by
  pointwise [down]

/-- The windows' blocks, read out of any array. -/
theorem read0 (A : Vec Ideal S65536x1024 .f32) (t : Fin (cfgM m hO).N) (r : Fin 512) (k : Fin 1024) (r' : Fin 65536) (hr : r'.val = t.val / 2 * 512 + r.val) :
    (show EReal from (((cfgM m hO).win 0).blk t).view.read (Elt Ideal) A (ix2 r k)) = (show EReal from A (ix2 r' k)) := by
  blk_ext [idx0 m hO t]
theorem read1 (A : Vec Ideal S1x1024x5632 .bf16) (t : Fin (cfgM m hO).N) (k : Fin 1024) (f : Fin 1408) (f' : Fin 5632) (hf : f'.val = t.val % 2 * 1408 + f.val) :
    (show EReal from (((cfgM m hO).win 1).blk t).view.read (Elt Ideal) A (ix3 0 k f)) = (show EReal from A (ix3 0 k f')) := by
  blk_ext [idx1 m hO t]
theorem read2 (A : Vec Ideal S1x1024x5632 .bf16) (t : Fin (cfgM m hO).N) (k : Fin 1024) (f : Fin 1408) (f' : Fin 5632) (hf : f'.val = 2816 + t.val % 2 * 1408 + f.val) :
    (show EReal from (((cfgM m hO).win 2).blk t).view.read (Elt Ideal) A (ix3 0 k f)) = (show EReal from A (ix3 0 k f')) := by
  blk_ext [idx2 m hO t]
theorem read3 (A : Vec Ideal S1x2816x1024 .bf16) (t : Fin (cfgM m hO).N) (f : Fin 1408) (d : Fin 1024) (f' : Fin 2816) (hf : f'.val = t.val % 2 * 1408 + f.val) :
    (show EReal from (((cfgM m hO).win 3).blk t).view.read (Elt Ideal) A (ix3 0 f d)) = (show EReal from A (ix3 0 f' d)) := by
  blk_ext [idx3 m hO t]
theorem read4 (A : Vec Ideal S32x1x1024 .f32) (t : Fin (cfgM m hO).N) (k : Fin 1024) (b : Fin 32) (hb : b.val = t.val / 2 / 4) :
    (show EReal from (((cfgM m hO).win 4).blk t).view.read (Elt Ideal) A (ix3 0 0 k)) = (show EReal from A (ix3 b 0 k)) := by
  blk_ext [idx4 m hO t]
theorem read7 (A : Vec Ideal S1x1024 .f32) (t : Fin (cfgM m hO).N) (k : Fin 1024) :
    (show EReal from (((cfgM m hO).win 7).blk t).view.read (Elt Ideal) A (ix2 0 k)) = (show EReal from A (ix2 0 k)) := by
  blk_ext [idx7 m hO t]

theorem blk0 (c : Dev nD) (t : Fin (cfgM m hO).N) (r : Fin 512) (k : Fin 1024) (b : Fin 32) (l : Fin 2048) (hr : b.val * 2048 + l.val = t.val / 2 * 512 + r.val) :
    (show EReal from iblk m hO c 0 t (ix2 r k)) = aX m c (ix3 b l k) :=
  (read0 m hO (V m c main_v1) t r k ⟨b.val * 2048 + l.val, by omega⟩ hr).trans ((congrFun (V_x m c) _).trans (flat_at (aX m c) b l k))
theorem blk1 (c : Dev nD) (t : Fin (cfgM m hO).N) (k : Fin 1024) (f : Fin 1408) (f' : Fin 5632) (hf : f'.val = t.val % 2 * 1408 + f.val) :
    (show EReal from iblk m hO c 1 t (ix3 0 k f)) = aW m c (ix2 k f') :=
  (read1 m hO (V m c main_v3) t k f f' hf).trans ((congrFun (V_gu m c) _).trans (gu_at (aW m c) k f'))
theorem blk2 (c : Dev nD) (t : Fin (cfgM m hO).N) (k : Fin 1024) (f : Fin 1408) (f' : Fin 5632) (hf : f'.val = 2816 + t.val % 2 * 1408 + f.val) :
    (show EReal from iblk m hO c 2 t (ix3 0 k f)) = aW m c (ix2 k f') :=
  (read2 m hO (V m c main_v3) t k f f' hf).trans ((congrFun (V_gu m c) _).trans (gu_at (aW m c) k f'))
theorem blk3 (c : Dev nD) (t : Fin (cfgM m hO).N) (f : Fin 1408) (d : Fin 1024) (f' : Fin 2816) (hf : f'.val = t.val % 2 * 1408 + f.val) :
    (show EReal from iblk m hO c 3 t (ix3 0 f d)) = aD m c (ix2 f' d) :=
  (read3 m hO (V m c main_v5) t f d f' hf).trans ((congrFun (V_down m c) _).trans (down_at (aD m c) f' d))
theorem blk4 (c : Dev nD) (t : Fin (cfgM m hO).N) (k : Fin 1024) (b : Fin 32) (hb : b.val = t.val / 2 / 4) :
    (show EReal from iblk m hO c 4 t (ix3 0 0 k)) = aS m c (ix3 b 0 k) := read4 m hO (V m c main_arg1) t k b hb
theorem blk5 (c : Dev nD) (t : Fin (cfgM m hO).N) (k : Fin 1024) (b : Fin 32) (hb : b.val = t.val / 2 / 4) :
    (show EReal from iblk m hO c 5 t (ix3 0 0 k)) = aH m c (ix3 b 0 k) := read4 m hO (V m c main_arg2) t k b hb
theorem blk6 (c : Dev nD) (t : Fin (cfgM m hO).N) (k : Fin 1024) (b : Fin 32) (hb : b.val = t.val / 2 / 4) :
    (show EReal from iblk m hO c 6 t (ix3 0 0 k)) = aQ m c (ix3 b 0 k) := read4 m hO (V m c main_arg3) t k b hb
theorem blk7 (c : Dev nD) (t : Fin (cfgM m hO).N) (k : Fin 1024) : (show EReal from iblk m hO c 7 t (ix2 0 k)) = aG m c (ix2 0 k) :=
  read7 m hO (V m c main_arg4) t k
theorem blk8 (c : Dev nD) (t : Fin (cfgM m hO).N) (k : Fin 1024) : (show EReal from iblk m hO c 8 t (ix2 0 k)) = aB m c (ix2 0 k) :=
  read7 m hO (V m c main_arg5) t k

/-- What the first half leaves in the accumulator, over any blocks. -/
theorem half_A {c : Dev nD} {i : grid0.Coords} {arg3 : Memref sig .tc .vmem S512x1024 .f32} {harg3 : arg3.IsWhole} {arg4 : Memref sig .tc .vmem S1x1024x1408 .bf16} {harg4 : arg4.IsWhole} {arg5 : Memref sig .tc .vmem S1x1024x1408 .bf16} {harg5 : arg5.IsWhole} {arg6 : Memref sig .tc .vmem S1x1408x1024 .bf16} {harg6 : arg6.IsWhole} {arg7 : Memref sig .tc .vmem S1x1x1024 .f32} {harg7 : arg7.IsWhole} {arg8 : Memref sig .tc .vmem S1x1x1024 .f32} {harg8 : arg8.IsWhole} {arg9 : Memref sig .tc .vmem S1x1x1024 .f32} {harg9 : arg9.IsWhole} {arg10 : Memref sig .tc .vmem S1x1024 .f32} {harg10 : arg10.IsWhole} {arg11 : Memref sig .tc .vmem S1x1024 .f32} {harg11 : arg11.IsWhole} {arg12 : Memref sig .tc .vmem S512x1024 .f32} {harg12 : arg12.IsWhole} {arg13 : Memref sig .tc .vmem S512x1024 .f32} {harg13 : arg13.IsWhole} {hc0 : cond0_0 i} {hc1 : ¬cond0_1 i}
    {x0 : Vec Ideal S512x1024 .f32} {x1 : Vec Ideal S1x1024x1408 .bf16} {x2 : Vec Ideal S1x1024x1408 .bf16} {x3 : Vec Ideal S1x1408x1024 .bf16} {x4 : Vec Ideal S1x1x1024 .f32} {x5 : Vec Ideal S1x1x1024 .f32} {x6 : Vec Ideal S1x1x1024 .f32} {x7 : Vec Ideal S1x1024 .f32} {x8 : Vec Ideal S1x1024 .f32} {xt0 : TbBuf0 (F := Ideal) c tbM0_0} :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xt0 = k0_pay1 (k0_pay4 x0 x4 x5 x1 x2 (k0_pay3 (F := Ideal)) x3) := by
  frame_out
/-- What the second half stores in the tile's block, over any blocks and accumulator. -/
theorem half_B {c : Dev nD} {i : grid0.Coords} {arg3 : Memref sig .tc .vmem S512x1024 .f32} {harg3 : arg3.IsWhole} {arg4 : Memref sig .tc .vmem S1x1024x1408 .bf16} {harg4 : arg4.IsWhole} {arg5 : Memref sig .tc .vmem S1x1024x1408 .bf16} {harg5 : arg5.IsWhole} {arg6 : Memref sig .tc .vmem S1x1408x1024 .bf16} {harg6 : arg6.IsWhole} {arg7 : Memref sig .tc .vmem S1x1x1024 .f32} {harg7 : arg7.IsWhole} {arg8 : Memref sig .tc .vmem S1x1x1024 .f32} {harg8 : arg8.IsWhole} {arg9 : Memref sig .tc .vmem S1x1x1024 .f32} {harg9 : arg9.IsWhole} {arg10 : Memref sig .tc .vmem S1x1024 .f32} {harg10 : arg10.IsWhole} {arg11 : Memref sig .tc .vmem S1x1024 .f32} {harg11 : arg11.IsWhole} {arg12 : Memref sig .tc .vmem S512x1024 .f32} {harg12 : arg12.IsWhole} {arg13 : Memref sig .tc .vmem S512x1024 .f32} {harg13 : arg13.IsWhole} {hc0 : ¬cond0_0 i} {hc1 : cond0_1 i}
    {x0 : Vec Ideal S512x1024 .f32} {x1 : Vec Ideal S1x1024x1408 .bf16} {x2 : Vec Ideal S1x1024x1408 .bf16} {x3 : Vec Ideal S1x1408x1024 .bf16} {x4 : Vec Ideal S1x1x1024 .f32} {x5 : Vec Ideal S1x1x1024 .f32} {x6 : Vec Ideal S1x1x1024 .f32} {x7 : Vec Ideal S1x1024 .f32} {x8 : Vec Ideal S1x1024 .f32} {xt0 : TbBuf0 (F := Ideal) c tbM0_0} {xs0 : Vec Ideal S512x1024 .f32} :
    out0_B_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xt0 xs0 = k0_pay2 (k0_pay1 (k0_pay4 x0 x4 x5 x1 x2 xs0 x3)) x0 x6 x7 x8 := by
  frame_out

/-- What the first half leaves in the accumulator. -/
theorem acc_A (c : Dev nD) (t : Fin (cfgM m hO).N) (h0 : t.val % 2 = 0) (h1 : ¬t.val % 2 = 1) :
    (outsAt0 m hO c t.val t.isLt).2 = k0_pay1 (k0_pay4 (iblk m hO c 0 t) (iblk m hO c 4 t) (iblk m hO c 5 t) (iblk m hO c 1 t) (iblk m hO c 2 t) (k0_pay3 (F := Ideal)) (iblk m hO c 3 t)) := by
  rw [outsAt0_A m hO c t h0 h1]; dsimp only; exact half_A

/-- What the second half stores in the tile's block. -/
theorem out_B (c : Dev nD) (t : Fin (cfgM m hO).N) (h0 : ¬t.val % 2 = 0) (h1 : t.val % 2 = 1) (t' : Fin (cfgM m hO).N) (ht : t'.val = t.val - 1) :
    (outsAt0 m hO c t.val t.isLt).1 = k0_pay2 (k0_pay1 (k0_pay4 (iblk m hO c 0 t) (iblk m hO c 4 t) (iblk m hO c 5 t) (iblk m hO c 1 t) (iblk m hO c 2 t) (outsAt0 m hO c t'.val t'.isLt).2 (iblk m hO c 3 t))) (iblk m hO c 0 t) (iblk m hO c 6 t) (iblk m hO c 7 t) (iblk m hO c 8 t) := by
  have hlt : t.val - 1 < (cfgM m hO).N := ht ▸ t'.isLt
  obtain rfl : t' = ⟨t.val - 1, hlt⟩ := Fin.ext ht
  rw [outsAt0_B m hO c t h0 h1]; dsimp only; exact half_B

/-- One half at a grid point, as hidden units of the row's feed-forward. -/
theorem half (c : Dev nD) (t : Fin (cfgM m hO).N) (r : Fin 512) (d : Fin 1024) (b : Fin 32) (l : Fin 2048) (hr : b.val * 2048 + l.val = t.val / 2 * 512 + r.val)
    (hb : b.val = t.val / 2 / 4) (a : Vec Ideal S512x1024 .f32) (φ : Fin 1408 → Fin 2816) (hφ : ∀ f, (φ f).val = t.val % 2 * 1408 + f.val) :
    k0_pay1 (k0_pay4 (iblk m hO c 0 t) (iblk m hO c 4 t) (iblk m hO c 5 t) (iblk m hO c 1 t) (iblk m hO c 2 t) a (iblk m hO c 3 t)) (ix2 r d) =
      a (ix2 r d) + ∑ f : Fin 1408, Moe.denseUnit (Moe.modulated (fun k => aX m c (ix3 b l k)) (fun k => aS m c (ix3 b 0 k)) (fun k => aH m c (ix3 b 0 k)))
        (fun k f => aW m c (ix2 k f)) (fun f d => aD m c (ix2 f d)) d (φ f) :=
  half_at (iblk m hO c 0 t) (iblk m hO c 4 t) (iblk m hO c 5 t) (iblk m hO c 1 t) (iblk m hO c 2 t) a (iblk m hO c 3 t) r d _ _ _ _ _ φ
    (fun k => blk0 m hO c t r k b l hr) (fun k => blk4 m hO c t k b hb) (fun k => blk5 m hO c t k b hb)
    (fun k f => blk1 m hO c t k f _ (hφ f)) (fun k f => blk2 m hO c t k f _ (by show 2816 + (φ f).val = _; rw [hφ f]; omega))
    (fun f => blk3 m hO c t f d _ (hφ f))

/-- The result at group `b`, row `l`, column `d`. -/
def result (c : Dev nD) (b : Fin 32) (l : Fin 2048) (d : Fin 1024) : EReal :=
  Moe.denseRow (fun k => aX m c (ix3 b l k)) (fun k => aS m c (ix3 b 0 k)) (fun k => aH m c (ix3 b 0 k)) (fun k => aQ m c (ix3 b 0 k))
    (fun k => aG m c (ix2 0 k)) (fun k => aB m c (ix2 0 k)) (fun k f => aW m c (ix2 k f)) (fun f d => aD m c (ix2 f d)) d

/-- The array the kernel leaves, its rows on one axis. -/
theorem final (c : Dev nD) (G : Vec Ideal S65536x1024 .f32)
    (hG : ∀ (b : Fin 32) (l : Fin 2048) (d : Fin 1024), G (ix2 ⟨b.val * 2048 + l.val, by omega⟩ d) = result m c b l d) :
    (dats m hO 0 c).arrAt 9 (cfgM m hO).N = G := by
  refine (dats m hO 0 c).arrAt_eq_of_covers 9 _ (covers9 m hO) fun t hf y => ?_
  have h1 : t.val % 2 = 1 := (flush0_9 (adm m hO) t).1 hf
  have h256 : t.val < 256 := Nat.lt_of_lt_of_eq t.isLt N_0
  have hN : t.val - 1 < (cfgM m hO).N := Nat.lt_of_le_of_lt (Nat.sub_le _ _) t.isLt
  have h0 : (t.val - 1) % 2 = 0 := by omega
  have hd : (t.val - 1) / 2 = t.val / 2 := by omega
  blk_simp
  rw [after0_9, out_B m hO c t (by omega) h1 ⟨t.val - 1, hN⟩ rfl, acc_A m hO c ⟨t.val - 1, hN⟩ h0 (by show ¬(t.val - 1) % 2 = 1; omega)]
  obtain ⟨r, d, rfl⟩ : ∃ (r : Fin 512) (d : Fin 1024), y = ix2 r d := ⟨y (0 : Fin 2), y (1 : Fin 2), eq_ix2 _⟩
  obtain ⟨b, hb⟩ : ∃ b : Fin 32, b.val = t.val / 2 / 4 := ⟨⟨t.val / 2 / 4, by omega⟩, rfl⟩
  obtain ⟨l, hl⟩ : ∃ l : Fin 2048, l.val = t.val / 2 % 4 * 512 + r.val := ⟨⟨t.val / 2 % 4 * 512 + r.val, by have := r.isLt; omega⟩, rfl⟩
  have hr : b.val * 2048 + l.val = t.val / 2 * 512 + r.val := by omega
  have hE : G ((((cfgM m hO).win 9).blk t).view.emb (ix2 r d)) = G (ix2 ⟨b.val * 2048 + l.val, by omega⟩ d) := by
    blk_ext [idx9 m hO t]
  refine Eq.trans ?_ hE.symm
  rw [hG]
  refine pay2_of _ (iblk m hO c 0 t) (iblk m hO c 6 t) (iblk m hO c 7 t) (iblk m hO c 8 t) r d _ _ _ _ _ (fun k => blk0 m hO c t r k b l hr) (fun k => blk6 m hO c t k b hb) (fun k => ?_)
    (fun k => blk7 m hO c t k) (fun k => blk8 m hO c t k)
  rw [Moe.denseOut_halves]
  rw [half m hO c t r k b l hr hb _ (fun f => ⟨1408 + f.val, by omega⟩) (fun f => by show 1408 + f.val = _; omega),
    half m hO c ⟨t.val - 1, hN⟩ r k b l (by rw [hr]; show _ = (t.val - 1) / 2 * 512 + r.val; omega) (by rw [hb]; show _ = (t.val - 1) / 2 / 4; omega) _ (fun f => ⟨f.val, by omega⟩)
      (fun f => by show f.val = (t.val - 1) % 2 * 1408 + f.val; omega), pay3_at, zero_add]

end Cert.DenseIdeal.Value

end
-- ==== Proof.DenseRef.lean ====
/- The dense feed-forward block as the reference computes it, at one group, row and column. -/
module

public import proofs.«01_k».proof.Proof.Gen.DenseRefIdeal.Run
public import proofs.«01_k».proof.Proof.DenseMath

@[expose] public section

set_option maxRecDepth 16384

noncomputable section

namespace Cert.DenseRefIdeal.Value

open Cert.DenseRefIdeal Cert.DenseRefIdeal.Gen Idealize.ShloMosaic Idealize.ShloMosaic.TcCoe Idealize.SL.Sem

/-- The modulated rows. -/
def rows (X : FVec Ideal S32x2048x1024 .f32) (S T : FVec Ideal S32x1x1024 .f32) : FVec Ideal S32x2048x1024 .f32 :=
  addf (mulf X (broadcastInDim S32x2048x1024 ![0, 1, 2] bcast_S32x1x1024_S32x2048x1024_0_1_2 (addf (broadcastInDim S32x1x1024 ![] bcast_S_S32x1x1024 (constant S_ .f32 0x3F800000#32)) S))) (broadcastInDim S32x2048x1024 ![0, 1, 2] bcast_S32x1x1024_S32x2048x1024_0_1_2 T)
/-- Their gate and up projections. -/
def both (H : FVec Ideal S32x2048x1024 .f32) (W : FVec Ideal S1024x5632 .f32) : FVec Ideal S32x2048x5632 .f32 :=
  Host.dotGeneral dot_S32x2048x1024_S1024x5632_S32x2048x5632_2_0_01_1_n_n none H W
/-- The feed-forward's output. -/
def outs (Z : FVec Ideal S32x2048x5632 .f32) (D : FVec Ideal S2816x1024 .f32) : FVec Ideal S32x2048x1024 .f32 :=
  Host.dotGeneral dot_S32x2048x2816_S2816x1024_S32x2048x1024_2_0_01_1_n_n none (mulf (mulf (extractStridedSlice S32x2048x2816 ![0, 0, 0] Z slices_S32x2048x5632_S32x2048x2816_0_0_0) (Host.divf (broadcastInDim S32x2048x2816 ![] bcast_S_S32x2048x2816 (constant S_ .f32 0x3F800000#32)) (addf (broadcastInDim S32x2048x2816 ![] bcast_S_S32x2048x2816 (constant S_ .f32 0x3F800000#32)) (Host.exp (Host.negf (extractStridedSlice S32x2048x2816 ![0, 0, 0] Z slices_S32x2048x5632_S32x2048x2816_0_0_0)))))) (extractStridedSlice S32x2048x2816 ![0, 0, 2816] Z slices_S32x2048x5632_S32x2048x2816_0_0_2816)) D
/-- The scaled residual with the gated output. -/
def resid (X : FVec Ideal S32x2048x1024 .f32) (Q : FVec Ideal S32x1x1024 .f32) (Y : FVec Ideal S32x2048x1024 .f32) : FVec Ideal S32x2048x1024 .f32 :=
  addf (mulf (broadcastInDim S32x2048x1024 ![] bcast_S_S32x2048x1024 (Host.sqrt (Host.sqrt (constant S_ .f32 0x41000000#32)))) X) (mulf (broadcastInDim S32x2048x1024 ![0, 1, 2] bcast_S32x1x1024_S32x2048x1024_0_1_2 Q) Y)
/-- The layer norm. -/
def normed (R : FVec Ideal S32x2048x1024 .f32) (G B : FVec Ideal S1x1024 .f32) : FVec Ideal S32x2048x1024 .f32 :=
  addf (mulf (mulf (subf R (broadcastInDim S32x2048x1024 ![0, 1, 2] bcast_S32x2048x1_S32x2048x1024_0_1_2 (Host.divf (broadcastInDim S32x2048x1 ![0, 1] bcast_S32x2048_S32x2048x1_0_1 (Host.reduceAdd R (constant S_ .f32 0x00000000#32) reducesTo_S32x2048x1024_S32x2048_d2 h_S_)) (broadcastInDim S32x2048x1 ![] bcast_S_S32x2048x1 (constant S_ .f32 0x44800000#32))))) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (subf R (broadcastInDim S32x2048x1024 ![0, 1, 2] bcast_S32x2048x1_S32x2048x1024_0_1_2 (Host.divf (broadcastInDim S32x2048x1 ![0, 1] bcast_S32x2048_S32x2048x1_0_1 (Host.reduceAdd R (constant S_ .f32 0x00000000#32) reducesTo_S32x2048x1024_S32x2048_d2 h_S_)) (broadcastInDim S32x2048x1 ![] bcast_S_S32x2048x1 (constant S_ .f32 0x44800000#32))))) (subf R (broadcastInDim S32x2048x1024 ![0, 1, 2] bcast_S32x2048x1_S32x2048x1024_0_1_2 (Host.divf (broadcastInDim S32x2048x1 ![0, 1] bcast_S32x2048_S32x2048x1_0_1 (Host.reduceAdd R (constant S_ .f32 0x00000000#32) reducesTo_S32x2048x1024_S32x2048_d2 h_S_)) (broadcastInDim S32x2048x1 ![] bcast_S_S32x2048x1 (constant S_ .f32 0x44800000#32)))))) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x3727C5AC#32)))))) (broadcastInDim S32x2048x1024 ![0, 1, 2] bcast_S1x1x1024_S32x2048x1024_0_1_2 (broadcastInDim S1x1x1024 ![2] bcast_S1024_S1x1x1024_2 (shapeCast _ G shapeCasts_S1x1024_S1024)))) (broadcastInDim S32x2048x1024 ![0, 1, 2] bcast_S1x1x1024_S32x2048x1024_0_1_2 (broadcastInDim S1x1x1024 ![2] bcast_S1024_S1x1x1024_2 (shapeCast _ B shapeCasts_S1x1024_S1024)))
/-- The reference's composed term, over its argument arrays. -/
def REF (X : FVec Ideal S32x2048x1024 .f32) (S T Q : FVec Ideal S32x1x1024 .f32) (G B : FVec Ideal S1x1024 .f32) (W : FVec Ideal S1024x5632 .f32) (D : FVec Ideal S2816x1024 .f32) : FVec Ideal S32x2048x1024 .f32 :=
  normed (resid X Q (outs (both (rows X S T) W) D)) G B

theorem one_at : Ideal.ofBits FTy.f32 0x3F800000#32 = 1 := by
  have h : Ideal.ofBits FTy.f32 0x3F800000#32 = ((1 : ℝ) : EReal) := by
    simp [Ideal.ofBits, Ideal.ieee, -EReal.coe_mul]; norm_num
  exact h.trans EReal.coe_one

/-- The reference's scale of the residual is the fourth root of 8. -/
theorem fourth_root : Ideal.sqrt (Ideal.sqrt (Ideal.ofBits FTy.f32 0x41000000#32)) = ((Real.sqrt (Real.sqrt 8) : ℝ) : EReal) := by
  have h8 : Ideal.ofBits FTy.f32 0x41000000#32 = ((8 : ℝ) : EReal) := by
    simp [Ideal.ofBits, Ideal.ieee, -EReal.coe_mul]; norm_num
  rw [h8, Ideal.sqrt_coe, if_neg (by norm_num), Ideal.sqrt_coe, if_neg (not_lt.2 (Real.sqrt_nonneg _))]

theorem rows_at (X : FVec Ideal S32x2048x1024 .f32) (S T : FVec Ideal S32x1x1024 .f32) (b : Fin 32) (l : Fin 2048) (k : Fin 1024) :
    rows X S T (ix3 b l k) = Moe.modulated (fun k => X (ix3 b l k)) (fun k => S (ix3 b 0 k)) (fun k => T (ix3 b 0 k)) k := by
  pointwise [rows, one_at]
  rfl
theorem both_at (H : FVec Ideal S32x2048x1024 .f32) (W : FVec Ideal S1024x5632 .f32) (b : Fin 32) (l : Fin 2048) (f : Fin 5632) :
    both H W (ix3 b l f) = ∑ k : Fin 1024, (H (ix3 b l k) * W (ix2 k f) : EReal) := by
  pointwise [both]
theorem outs_at (Z : FVec Ideal S32x2048x5632 .f32) (D : FVec Ideal S2816x1024 .f32) (b : Fin 32) (l : Fin 2048) (d : Fin 1024) :
    outs Z D (ix3 b l d) = ∑ f : Fin 2816, (Moe.silu (Z (ix3 b l ⟨f.val, by omega⟩)) * Z (ix3 b l ⟨2816 + f.val, by omega⟩) * D (ix2 f d) : EReal) := by
  pointwise [outs]
  exact Finset.sum_congr rfl fun f _ => rfl
theorem resid_at (X : FVec Ideal S32x2048x1024 .f32) (Q : FVec Ideal S32x1x1024 .f32) (Y : FVec Ideal S32x2048x1024 .f32) (b : Fin 32) (l : Fin 2048) (k : Fin 1024) :
    resid X Q Y (ix3 b l k) = Moe.residualOne (fun k => X (ix3 b l k)) (fun k => Q (ix3 b 0 k)) (fun k => Y (ix3 b l k)) k := by
  pointwise [resid]
  rw [fourth_root]
  rfl
theorem normed_at (R : FVec Ideal S32x2048x1024 .f32) (G B : FVec Ideal S1x1024 .f32) (b : Fin 32) (l : Fin 2048) (d : Fin 1024) :
    normed R G B (ix3 b l d) = Moe.layerNorm (fun k => R (ix3 b l k)) (fun k => G (ix2 0 k)) (fun k => B (ix2 0 k)) d := by
  pointwise [normed]
  rfl

theorem ref_at (X : FVec Ideal S32x2048x1024 .f32) (S T Q : FVec Ideal S32x1x1024 .f32) (G B : FVec Ideal S1x1024 .f32) (W : FVec Ideal S1024x5632 .f32) (D : FVec Ideal S2816x1024 .f32) (b : Fin 32) (l : Fin 2048) (d : Fin 1024) :
    REF X S T Q G B W D (ix3 b l d) = Moe.denseRow (fun k => X (ix3 b l k)) (fun k => S (ix3 b 0 k)) (fun k => T (ix3 b 0 k)) (fun k => Q (ix3 b 0 k))
      (fun k => G (ix2 0 k)) (fun k => B (ix2 0 k)) (fun k f => W (ix2 k f)) (fun f d => D (ix2 f d)) d := by
  refine (normed_at _ G B b l d).trans ?_
  refine congrArg (fun R => Moe.layerNorm R _ _ d) (funext fun k => (resid_at X Q _ b l k).trans ?_)
  refine congrArg (fun Y => Moe.residualOne _ _ Y k) (funext fun j => (outs_at _ D b l j).trans ?_)
  refine Finset.sum_congr rfl fun f _ => ?_
  simp only [both_at, rows_at]
  rfl

end Cert.DenseRefIdeal.Value

end
-- ==== Proof.DenseClaim.lean ====
/- The dense call leaves what the reference computes. -/
module

public import proofs.«01_k».proof.Defs
public import proofs.«01_k».proof.Proof.DenseValue
public import proofs.«01_k».proof.Proof.DenseRef
public import Idealize.ShloMosaic.Adequacy
public import Idealize.ShloMosaic.Init
public import Idealize.ShloMosaic.Lib.Claim

@[expose] public section

set_option maxRecDepth 16384

noncomputable section

namespace Cert.DenseIdeal.Value

open Cert.DenseIdeal Cert.DenseIdeal.Gen Idealize.ShloMosaic Idealize.ShloMosaic.TcCoe Idealize.SL.Sem
open Idealize.ShloMosaic.Pipeline (Dat)

variable (m : (ℓ : Loc nD τ sig) → Buf (Elt Ideal) ℓ)

/-- The reference's array, over the kernel's arguments. -/
def refArr (c : Dev nD) : Vec Ideal S32x2048x1024 .f32 :=
  Cert.DenseRefIdeal.Value.REF (aX m c) (aS m c) (aH m c) (aQ m c) (aG m c) (aB m c) (aW m c) (aD m c)

/-- The reference's array with its rows on one axis is what the kernel leaves. -/
theorem rows (c : Dev nD) : (dats m (ok m) 0 c).arrAt 9 (cfgM m (ok m)).N = shapeCast S65536x1024 (refArr m c) shapeCasts_S32x2048x1024_S65536x1024 :=
  final m (ok m) c _ fun b l d => (flat_at (refArr m c) b l d).trans (Cert.DenseRefIdeal.Value.ref_at _ _ _ _ _ _ _ _ b l d)

/-- What the region leaves, as the last line finds it. -/
def left (c : Dev nD) : Valuation τ sig (Elt Ideal) :=
  Pipeline.withArrays (Pipeline.pin pcfgs (fun _ => adm m (ok m)) 0).spec c (V0 m c) fun w => (dats m (ok m) 0 c).arrAt w (cfgM m (ok m)).N
theorem left_arr (c : Dev nD) : left m c (Proc.devRef .tc main_v6) = shapeCast S65536x1024 (refArr m c) shapeCasts_S32x2048x1024_S65536x1024 := by
  refine Eq.trans ?_ (rows m c)
  exact Pipeline.withArrays_arr_shared (Pipeline.pin pcfgs (fun _ => adm m (ok m)) 0).spec c (V0 m c)
    (fun w => (dats m (ok m) 0 c).arrAt w (cfgM m (ok m)).N)
    ((dats m (ok m) 0 c).arrAt_sharedIn sharedIn0 (V0 m c) (A_eq m (ok m) c) _) 9
/-- The last line puts the rows in their groups again. -/
theorem last_line (W : Valuation τ sig (Elt Ideal)) : StableHlo.after hostOps1 W (Proc.devRef .tc main_v7) =
    shapeCast S32x2048x1024 (show Vec Ideal S65536x1024 .f32 from W (Proc.devRef .tc main_v6)) shapeCasts_S65536x1024_S32x2048x1024 := by
  after_results; rfl
theorem tail (c : Dev nD) : Pipeline.afterTail pcfgs (fun _ => adm m (ok m)) (dats m (ok m)) 0 (V0 m) [hostOps1] c main_v7 = refArr m c := by
  show StableHlo.after hostOps1 (left m c) (Proc.devRef .tc main_v7) = _
  refine (last_line _).trans ?_
  refine (congrArg (fun u : Vec Ideal S65536x1024 .f32 => shapeCast S32x2048x1024 u shapeCasts_S65536x1024_S32x2048x1024) (left_arr m c)).trans ?_
  exact shapeCast_shapeCast ..

theorem frame_ref : Cert.quiescent_DenseRefIdeal := fun m g _ =>
  (θ_run Cert.DenseRefIdeal.defs _ _).mono (fun r h => ⟨fun c => (h c).2, sem_eq_zero_of_no_sems (by decide) r.2⟩)
    (Cert.DenseRefIdeal.Value.run m g)

/-- The scale of the residual is printed rounded; the rule names it as the fourth root of 8. -/
theorem preserves : Cert.preserves_Dense_DenseIdeal :=
  IdealRules.named_const.statement Cert.DenseIdeal.κ "alpha" .f32 0x3FD744FD#32 ((Real.sqrt (Real.sqrt 8) : ℝ) : EReal) rfl

/-- The result is the reference's. -/
theorem algebraic : Cert.algebraic_DenseIdeal_DenseRefIdeal := by
  intro m g m' g' _ hagree
  refine ⟨fun c => refArr m c, ?_, ?_⟩
  · exact (θ_run defs _ _).mono (fun r h c => ⟨((h.2 c).2 main_v7 (show main_v7 ∈ Pipeline.restRefs sig spec0 by decide)).trans (tail m c), h.1 c⟩)
      (θ_run_and (unchanged m g (ok m)) (run_main m g (ok m)))
  · refine (θ_run Cert.DenseRefIdeal.defs _ _).mono (fun r h c => ⟨(h c).1.trans ?_, (h c).2⟩) (Cert.DenseRefIdeal.Value.run m' g')
    obtain ⟨h0, h1, h2, h3, h4, h5, h6, h7⟩ := hagree c
    unfold Cert.DenseRefIdeal.Value.res_main_v42
    rw [h0, h1, h2, h3, h4, h5, h6, h7]
    rfl

end Cert.DenseIdeal.Value

end
-- ==== Proof.ProjMath.lean ====
/- The projections on one row, over the extended reals: a modulated row times one column, the columns with zeros behind them, and
   the output projection with its layer norm. -/
module

public import proofs.«01_k».proof.Proof.DenseMath

@[expose] public section

noncomputable section

namespace Cert.Moe

open Idealize.ShloMosaic

/-- The product of the row `x`, modulated by scale `s` and shift `h`, with the column `w`. -/
def proj (x s h w : Fin 1024 → EReal) : EReal := ∑ k, modulated x s h k * w k

/-- A column of zeros gives zero. -/
theorem proj_zero (x s h : Fin 1024 → EReal) : proj x s h (fun _ => 0) = 0 := by
  simp [proj]

/-- The integer zero, as a float. -/
theorem int_zero (φ : FTy) : FloatOps.sitofp (F := Ideal) φ (0#32) = (0 : EReal) := by
  show (((0#32 : BitVec 32).toInt : ℝ) : EReal) = 0
  simp

/-- Column `e` of weights with `n` columns and zeros behind them. -/
def behind {n : ℕ} (w : Fin 1024 → Fin n → EReal) (e : ℕ) (k : Fin 1024) : EReal := if h : e < n then w k ⟨e, h⟩ else 0

/-- Column `e` of the 3072 columns of `w`, then the 16 of `g 0`, then the 16 of `g 1`, and zeros behind them. -/
def beside (w : Fin 1024 → Fin 3072 → EReal) (g : Fin 2 → Fin 1024 → Fin 16 → EReal) (e : ℕ) (k : Fin 1024) : EReal :=
  if h : e < 3072 then w k ⟨e, h⟩ else if h : e - 3072 < 16 then g 0 k ⟨e - 3072, h⟩
  else if h : e - 3072 - 16 < 16 then g 1 k ⟨e - 3072 - 16, h⟩ else 0

/-- The output projection on one row: the product of `y` with the weights, gated, added to the scaled residual, normalized. -/
def outRow (y : Fin 1024 → EReal) (w : Fin 1024 → Fin 1024 → EReal) (x gate g b : Fin 1024 → EReal) (d : Fin 1024) : EReal :=
  layerNorm (residualOne x gate fun j => ∑ k, y k * w k j) g b d

end Cert.Moe

end
-- ==== Proof.OutValue.lean ====
/- The array the output projection leaves: at every row the layer norm of the scaled residual with the gated product. -/
module

public import proofs.«01_k».proof.Proof.Gen.OutIdeal.Frame
public import proofs.«01_k».proof.Proof.ProjMath
public import Idealize.ShloMosaic.Lib.Pipeline.ValueKit
public import Idealize.ShloMosaic.Lib.Pipeline.Covers

@[expose] public section

set_option maxRecDepth 16384

noncomputable section

namespace Cert.OutIdeal.Value

open Cert.OutIdeal Cert.OutIdeal.Gen Idealize.ShloMosaic Idealize.ShloMosaic.TcCoe Idealize.SL.Sem
open Idealize.ShloMosaic.Pipeline (Dat)

/-- What the kernel stores, at one row and column of its block. -/
theorem pay1_at (y w : Vec Ideal S1024x1024 .bf16) (x : Vec Ideal S1024x1024 .f32) (gate : Vec Ideal S1x1x1024 .f32) (g b : Vec Ideal S1x1024 .f32) (r d : Fin 1024) :
    k0_pay1 y w x gate g b (ix2 r d) = Moe.outRow (fun k => y (ix2 r k)) (fun k d => w (ix2 k d)) (fun k => x (ix2 r k)) (fun k => gate (ix3 0 0 k))
      (fun k => g (ix2 0 k)) (fun k => b (ix2 0 k)) d := by
  pointwise [k0_pay1]
  rfl

/-- The same, with each block's entries named. -/
theorem pay1_of (y w : Vec Ideal S1024x1024 .bf16) (x : Vec Ideal S1024x1024 .f32) (gate : Vec Ideal S1x1x1024 .f32) (g b : Vec Ideal S1x1024 .f32) (r d : Fin 1024)
    (Y X Q G B : Fin 1024 → EReal) (W : Fin 1024 → Fin 1024 → EReal) (hy : ∀ k, y (ix2 r k) = Y k) (hw : ∀ k d, w (ix2 k d) = W k d)
    (hx : ∀ k, x (ix2 r k) = X k) (hq : ∀ k, gate (ix3 0 0 k) = Q k) (hg : ∀ k, g (ix2 0 k) = G k) (hb : ∀ k, b (ix2 0 k) = B k) :
    k0_pay1 y w x gate g b (ix2 r d) = Moe.outRow Y W X Q G B d := by
  refine (pay1_at y w x gate g b r d).trans ?_
  simp only [hx, hq, hy, hw, hg, hb]

variable (m : (ℓ : Loc nD τ sig) → Buf (Elt Ideal) ℓ)

abbrev aY (c : Dev nD) : Vec Ideal S32x2048x1024 .bf16 := m ((c : Thread nD τ).loc main_arg0)
abbrev aW (c : Dev nD) : Vec Ideal S1024x1024 .f32 := m ((c : Thread nD τ).loc main_arg1)
abbrev aX (c : Dev nD) : Vec Ideal S32x2048x1024 .f32 := m ((c : Thread nD τ).loc main_arg2)
abbrev aQ (c : Dev nD) : Vec Ideal S32x1x1024 .f32 := m ((c : Thread nD τ).loc main_arg3)
abbrev aG (c : Dev nD) : Vec Ideal S1x1024 .f32 := m ((c : Thread nD τ).loc main_arg4)
abbrev aB (c : Dev nD) : Vec Ideal S1x1024 .f32 := m ((c : Thread nD τ).loc main_arg5)

/-- A grid point's first coordinate is its number, the others are zero. -/
theorem coords_val (t : Fin grid0.N) : (grid0.coords t 0).val = t.val ∧ (grid0.coords t 1).val = 0 ∧ (grid0.coords t 2).val = 0 := by
  have ht : t.val < 64 := Nat.lt_of_lt_of_eq t.isLt N_0
  have e0 : (grid0.coords t 0).val = t.val / 1 % 64 := Pipeline.Grid.coords_val t 0 (by decide) rfl
  have e1 : (grid0.coords t 1).val = t.val / 1 % 1 := Pipeline.Grid.coords_val t 1 (by decide) rfl
  have e2 : (grid0.coords t 2).val = t.val / 1 % 1 := Pipeline.Grid.coords_val t 2 (by decide) rfl
  omega

theorem row_index : ∀ i : grid0.Coords, cc0_transform_0 i = ![(i 0).val, (i 2).val] := by decide +kernel
theorem weight_index : ∀ i : grid0.Coords, cc0_transform_1 i = ![(i 2).val, (i 1).val] := by decide +kernel
theorem res_index : ∀ i : grid0.Coords, cc0_transform_2 i = ![(i 0).val, 0] := by decide +kernel
/-- Two tiles of 1024 rows lie in each group of 2048. -/
theorem group_index : ∀ i : grid0.Coords, cc0_transform_3 i = ![(i 0).val / 2, 0, 0] := by decide +kernel
theorem out_index : ∀ i : grid0.Coords, cc0_transform_6 i = ![(i 0).val, (i 1).val] := by decide +kernel

theorem idx0 (t : Fin cfg0.N) : (cfg0.win 0).index t = ![t.val, 0] :=
  (row_index _).trans (by rw [(coords_val t).1, (coords_val t).2.2])
theorem idx1 (t : Fin cfg0.N) : (cfg0.win 1).index t = ![0, 0] :=
  (weight_index _).trans (by rw [(coords_val t).2.1, (coords_val t).2.2])
theorem idx2 (t : Fin cfg0.N) : (cfg0.win 2).index t = ![t.val, 0] :=
  (res_index _).trans (by rw [(coords_val t).1])
theorem idx3 (t : Fin cfg0.N) : (cfg0.win 3).index t = ![t.val / 2, 0, 0] :=
  (group_index _).trans (by rw [(coords_val t).1])
theorem idx4 (t : Fin cfg0.N) : (cfg0.win 4).index t = ![0, 0] := rfl
theorem idx5 (t : Fin cfg0.N) : (cfg0.win 5).index t = ![0, 0] := rfl
theorem idx6 (t : Fin cfg0.N) : (cfg0.win 6).index t = ![t.val, 0] :=
  (out_index _).trans (by rw [(coords_val t).1, (coords_val t).2.1])

theorem covers6 : (cfg0.win 6).Covers := by
  refine Pipeline.Window.covers_of_index_surj _ rfl (fun (a : Fin 2) => ?_) fun β => ?_
  · match a with
    | 0 => exact (by decide : 0 < 1024)
    | 1 => exact (by decide : 0 < 1024)
  · have h0 : (β (0 : Fin 2)).val < (65536 + 1024 - 1) / 1024 := (β (0 : Fin 2)).isLt
    have h1 : (β (1 : Fin 2)).val < (1024 + 1024 - 1) / 1024 := (β (1 : Fin 2)).isLt
    refine ⟨⟨(β (0 : Fin 2)).val, by rw [show cfg0.grid.N = 64 from N_0]; omega⟩, fun (a : Fin 2) => ?_⟩
    rw [idx6]
    match a with
    | 0 => rfl
    | 1 => show 0 = (β (1 : Fin 2)).val; omega

/-- The rows and the residual reach the kernel as one axis of 65536, the weights in the narrow format. -/
theorem V_y (c : Dev nD) : V m c main_v0 = shapeCast S65536x1024 (aY m c) shapeCasts_S32x2048x1024_S65536x1024 := by
  show StableHlo.after hostOps0 (fun b => m (c, b)) (Proc.devRef .tc main_v0) = _
  after_results; rfl
theorem V_x (c : Dev nD) : V m c main_v1 = shapeCast S65536x1024 (aX m c) shapeCasts_S32x2048x1024_S65536x1024 := by
  show StableHlo.after hostOps0 (fun b => m (c, b)) (Proc.devRef .tc main_v1) = _
  after_results; rfl
def weights (w : FVec Ideal S1024x1024 .f32) : FVec Ideal S1024x1024 .bf16 := truncf .bf16 w bitsLt_bf16_f32
theorem V_w (c : Dev nD) : V m c main_v2 = weights (aW m c) := by
  show StableHlo.after hostOps0 (fun b => m (c, b)) (Proc.devRef .tc main_v2) = _
  after_results; rfl
theorem weights_at (w : FVec Ideal S1024x1024 .f32) (k d : Fin 1024) : weights w (ix2 k d) = w (ix2 k d) := by
  pointwise [weights]

/-- A row of the one axis is a row of a group. -/
theorem flat_at (x : Vec Ideal S32x2048x1024 .f32) (b : Fin 32) (l : Fin 2048) (k : Fin 1024) :
    shapeCast S65536x1024 x shapeCasts_S32x2048x1024_S65536x1024 (ix2 ⟨b.val * 2048 + l.val, by omega⟩ k) = x (ix3 b l k) := by
  pointwise
theorem flat_y (x : Vec Ideal S32x2048x1024 .bf16) (b : Fin 32) (l : Fin 2048) (k : Fin 1024) :
    shapeCast S65536x1024 x shapeCasts_S32x2048x1024_S65536x1024 (ix2 ⟨b.val * 2048 + l.val, by omega⟩ k) = x (ix3 b l k) := by
  pointwise

theorem blk0 (c : Dev nD) (t : Fin cfg0.N) (r k : Fin 1024) (b : Fin 32) (l : Fin 2048) (hr : b.val * 2048 + l.val = t.val * 1024 + r.val) :
    (show EReal from iblk m c 0 t (ix2 r k)) = aY m c (ix3 b l k) := by
  refine (congrFun (congrArg (((cfg0.win 0).blk t).view.read (Elt Ideal)) (V_y m c)) _).trans ?_
  refine Eq.trans ?_ (flat_y (aY m c) b l k)
  generalize shapeCast S65536x1024 (aY m c) shapeCasts_S32x2048x1024_S65536x1024 = v
  blk_ext [idx0 t]
theorem blk1 (c : Dev nD) (t : Fin cfg0.N) (k d : Fin 1024) : (show EReal from iblk m c 1 t (ix2 k d)) = aW m c (ix2 k d) := by
  refine (congrFun (congrArg (((cfg0.win 1).blk t).view.read (Elt Ideal)) (V_w m c)) _).trans ?_
  refine Eq.trans ?_ (weights_at (aW m c) k d)
  generalize weights (aW m c) = v
  blk_ext [idx1 t]
theorem blk2 (c : Dev nD) (t : Fin cfg0.N) (r k : Fin 1024) (b : Fin 32) (l : Fin 2048) (hr : b.val * 2048 + l.val = t.val * 1024 + r.val) :
    (show EReal from iblk m c 2 t (ix2 r k)) = aX m c (ix3 b l k) := by
  refine (congrFun (congrArg (((cfg0.win 2).blk t).view.read (Elt Ideal)) (V_x m c)) _).trans ?_
  refine Eq.trans ?_ (flat_at (aX m c) b l k)
  generalize shapeCast S65536x1024 (aX m c) shapeCasts_S32x2048x1024_S65536x1024 = v
  blk_ext [idx2 t]
theorem blk3 (c : Dev nD) (t : Fin cfg0.N) (k : Fin 1024) (b : Fin 32) (hb : b.val = t.val / 2) :
    (show EReal from iblk m c 3 t (ix3 0 0 k)) = aQ m c (ix3 b 0 k) := by
  blk_ext [iblk, V, idx3 t]
theorem blk4 (c : Dev nD) (t : Fin cfg0.N) (k : Fin 1024) : (show EReal from iblk m c 4 t (ix2 0 k)) = aG m c (ix2 0 k) := by
  blk_ext [iblk, V, idx4 t]
theorem blk5 (c : Dev nD) (t : Fin cfg0.N) (k : Fin 1024) : (show EReal from iblk m c 5 t (ix2 0 k)) = aB m c (ix2 0 k) := by
  blk_ext [iblk, V, idx5 t]

/-- The result at group `b`, row `l`, column `d`. -/
def result (c : Dev nD) (b : Fin 32) (l : Fin 2048) (d : Fin 1024) : EReal :=
  Moe.outRow (fun k => aY m c (ix3 b l k)) (fun k d => aW m c (ix2 k d)) (fun k => aX m c (ix3 b l k)) (fun k => aQ m c (ix3 b 0 k))
    (fun k => aG m c (ix2 0 k)) (fun k => aB m c (ix2 0 k)) d

/-- The array the kernel leaves, its rows on one axis. -/
theorem final (c : Dev nD) (G : Vec Ideal S65536x1024 .f32)
    (hG : ∀ (b : Fin 32) (l : Fin 2048) (d : Fin 1024), G (ix2 ⟨b.val * 2048 + l.val, by omega⟩ d) = result m c b l d) :
    (dats m 0 c).arrAt 6 cfg0.N = G := by
  refine (dats m 0 c).arrAt_eq_of_covers 6 _ covers6 fun t hf y => ?_
  have h64 : t.val < 64 := Nat.lt_of_lt_of_eq t.isLt N_0
  blk_simp
  rw [after0_6]
  obtain ⟨r, d, rfl⟩ : ∃ (r : Fin 1024) (d : Fin 1024), y = ix2 r d := ⟨y (0 : Fin 2), y (1 : Fin 2), eq_ix2 _⟩
  obtain ⟨b, hb⟩ : ∃ b : Fin 32, b.val = t.val / 2 := ⟨⟨t.val / 2, by omega⟩, rfl⟩
  obtain ⟨l, hl⟩ : ∃ l : Fin 2048, l.val = t.val % 2 * 1024 + r.val := ⟨⟨t.val % 2 * 1024 + r.val, by have := r.isLt; omega⟩, rfl⟩
  have hr : b.val * 2048 + l.val = t.val * 1024 + r.val := by omega
  have hE : G ((((cfg0.win 6).blk t).view.emb (ix2 r d))) = G (ix2 ⟨b.val * 2048 + l.val, by omega⟩ d) := by
    blk_ext [idx6 t]
  refine Eq.trans ?_ hE.symm
  rw [hG]
  frame_out
  exact pay1_of (iblk m c 0 t) (iblk m c 1 t) (iblk m c 2 t) (iblk m c 3 t) (iblk m c 4 t) (iblk m c 5 t) r d _ _ _ _ _ _
    (fun k => blk0 m c t r k b l hr) (fun k d => blk1 m c t k d) (fun k => blk2 m c t r k b l hr) (fun k => blk3 m c t k b hb)
    (fun k => blk4 m c t k) (fun k => blk5 m c t k)

end Cert.OutIdeal.Value

end
-- ==== Proof.OutRef.lean ====
/- The output projection with its layer norm as the reference computes it, at one group, row and column. -/
module

public import proofs.«01_k».proof.Proof.Gen.OutRefIdeal.Run
public import proofs.«01_k».proof.Proof.ProjMath

@[expose] public section

set_option maxRecDepth 16384

noncomputable section

namespace Cert.OutRefIdeal.Value

open Cert.OutRefIdeal Cert.OutRefIdeal.Gen Idealize.ShloMosaic Idealize.ShloMosaic.TcCoe Idealize.SL.Sem

/-- The product with the weights. -/
def outs (Y : FVec Ideal S32x2048x1024 .bf16) (W : FVec Ideal S1024x1024 .f32) : FVec Ideal S32x2048x1024 .f32 :=
  Host.dotGeneral dot_S32x2048x1024_S1024x1024_S32x2048x1024_2_0_01_1_n_n none (extf .f32 Y bitsLt_bf16_f32) W
/-- The scaled residual with the gated output. -/
def resid (X : FVec Ideal S32x2048x1024 .f32) (Q : FVec Ideal S32x1x1024 .f32) (Y : FVec Ideal S32x2048x1024 .f32) : FVec Ideal S32x2048x1024 .f32 :=
  addf (mulf (broadcastInDim S32x2048x1024 ![] bcast_S_S32x2048x1024 (Host.sqrt (Host.sqrt (constant S_ .f32 0x41000000#32)))) X) (mulf (broadcastInDim S32x2048x1024 ![0, 1, 2] bcast_S32x1x1024_S32x2048x1024_0_1_2 Q) Y)
/-- The layer norm. -/
def normed (R : FVec Ideal S32x2048x1024 .f32) (G B : FVec Ideal S1x1024 .f32) : FVec Ideal S32x2048x1024 .f32 :=
  addf (mulf (mulf (subf R (broadcastInDim S32x2048x1024 ![0, 1, 2] bcast_S32x2048x1_S32x2048x1024_0_1_2 (Host.divf (broadcastInDim S32x2048x1 ![0, 1] bcast_S32x2048_S32x2048x1_0_1 (Host.reduceAdd R (constant S_ .f32 0x00000000#32) reducesTo_S32x2048x1024_S32x2048_d2 h_S_)) (broadcastInDim S32x2048x1 ![] bcast_S_S32x2048x1 (constant S_ .f32 0x44800000#32))))) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (subf R (broadcastInDim S32x2048x1024 ![0, 1, 2] bcast_S32x2048x1_S32x2048x1024_0_1_2 (Host.divf (broadcastInDim S32x2048x1 ![0, 1] bcast_S32x2048_S32x2048x1_0_1 (Host.reduceAdd R (constant S_ .f32 0x00000000#32) reducesTo_S32x2048x1024_S32x2048_d2 h_S_)) (broadcastInDim S32x2048x1 ![] bcast_S_S32x2048x1 (constant S_ .f32 0x44800000#32))))) (subf R (broadcastInDim S32x2048x1024 ![0, 1, 2] bcast_S32x2048x1_S32x2048x1024_0_1_2 (Host.divf (broadcastInDim S32x2048x1 ![0, 1] bcast_S32x2048_S32x2048x1_0_1 (Host.reduceAdd R (constant S_ .f32 0x00000000#32) reducesTo_S32x2048x1024_S32x2048_d2 h_S_)) (broadcastInDim S32x2048x1 ![] bcast_S_S32x2048x1 (constant S_ .f32 0x44800000#32)))))) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x3727C5AC#32)))))) (broadcastInDim S32x2048x1024 ![0, 1, 2] bcast_S1x1x1024_S32x2048x1024_0_1_2 (broadcastInDim S1x1x1024 ![2] bcast_S1024_S1x1x1024_2 (shapeCast _ G shapeCasts_S1x1024_S1024)))) (broadcastInDim S32x2048x1024 ![0, 1, 2] bcast_S1x1x1024_S32x2048x1024_0_1_2 (broadcastInDim S1x1x1024 ![2] bcast_S1024_S1x1x1024_2 (shapeCast _ B shapeCasts_S1x1024_S1024)))
/-- The reference's composed term, over its argument arrays. -/
def REF (Y : FVec Ideal S32x2048x1024 .bf16) (W : FVec Ideal S1024x1024 .f32) (X : FVec Ideal S32x2048x1024 .f32) (Q : FVec Ideal S32x1x1024 .f32) (G B : FVec Ideal S1x1024 .f32) : FVec Ideal S32x2048x1024 .f32 :=
  normed (resid X Q (outs Y W)) G B

/-- The reference's scale of the residual is the fourth root of 8. -/
theorem fourth_root : Ideal.sqrt (Ideal.sqrt (Ideal.ofBits FTy.f32 0x41000000#32)) = ((Real.sqrt (Real.sqrt 8) : ℝ) : EReal) := by
  have h8 : Ideal.ofBits FTy.f32 0x41000000#32 = ((8 : ℝ) : EReal) := by
    simp [Ideal.ofBits, Ideal.ieee, -EReal.coe_mul]; norm_num
  rw [h8, Ideal.sqrt_coe, if_neg (by norm_num), Ideal.sqrt_coe, if_neg (not_lt.2 (Real.sqrt_nonneg _))]

theorem outs_at (Y : FVec Ideal S32x2048x1024 .bf16) (W : FVec Ideal S1024x1024 .f32) (b : Fin 32) (l : Fin 2048) (d : Fin 1024) :
    outs Y W (ix3 b l d) = ∑ k : Fin 1024, (Y (ix3 b l k) * W (ix2 k d) : EReal) := by
  pointwise [outs]
theorem resid_at (X : FVec Ideal S32x2048x1024 .f32) (Q : FVec Ideal S32x1x1024 .f32) (Y : FVec Ideal S32x2048x1024 .f32) (b : Fin 32) (l : Fin 2048) (k : Fin 1024) :
    resid X Q Y (ix3 b l k) = Moe.residualOne (fun k => X (ix3 b l k)) (fun k => Q (ix3 b 0 k)) (fun k => Y (ix3 b l k)) k := by
  pointwise [resid]
  rw [fourth_root]
  rfl
theorem normed_at (R : FVec Ideal S32x2048x1024 .f32) (G B : FVec Ideal S1x1024 .f32) (b : Fin 32) (l : Fin 2048) (d : Fin 1024) :
    normed R G B (ix3 b l d) = Moe.layerNorm (fun k => R (ix3 b l k)) (fun k => G (ix2 0 k)) (fun k => B (ix2 0 k)) d := by
  pointwise [normed]
  rfl

theorem ref_at (Y : FVec Ideal S32x2048x1024 .bf16) (W : FVec Ideal S1024x1024 .f32) (X : FVec Ideal S32x2048x1024 .f32) (Q : FVec Ideal S32x1x1024 .f32) (G B : FVec Ideal S1x1024 .f32)
    (b : Fin 32) (l : Fin 2048) (d : Fin 1024) :
    REF Y W X Q G B (ix3 b l d) = Moe.outRow (fun k => Y (ix3 b l k)) (fun k d => W (ix2 k d)) (fun k => X (ix3 b l k)) (fun k => Q (ix3 b 0 k))
      (fun k => G (ix2 0 k)) (fun k => B (ix2 0 k)) d := by
  refine (normed_at _ G B b l d).trans ?_
  refine congrArg (fun R => Moe.layerNorm R _ _ d) (funext fun k => (resid_at X Q _ b l k).trans ?_)
  exact congrArg (fun Y => Moe.residualOne _ _ Y k) (funext fun j => outs_at Y W b l j)

end Cert.OutRefIdeal.Value

end
-- ==== Proof.OutClaim.lean ====
/- The output projection leaves what the reference computes. -/
module

public import proofs.«01_k».proof.Defs
public import proofs.«01_k».proof.Proof.OutValue
public import proofs.«01_k».proof.Proof.OutRef
public import Idealize.ShloMosaic.Adequacy
public import Idealize.ShloMosaic.Init
public import Idealize.ShloMosaic.Lib.Claim

@[expose] public section

set_option maxRecDepth 16384

noncomputable section

namespace Cert.OutIdeal.Value

open Cert.OutIdeal Cert.OutIdeal.Gen Idealize.ShloMosaic Idealize.ShloMosaic.TcCoe Idealize.SL.Sem

variable (m : (ℓ : Loc nD τ sig) → Buf (Elt Ideal) ℓ)

/-- The reference's array, over the kernel's arguments. -/
def refArr (c : Dev nD) : Vec Ideal S32x2048x1024 .f32 := Cert.OutRefIdeal.Value.REF (aY m c) (aW m c) (aX m c) (aQ m c) (aG m c) (aB m c)

/-- The reference's array with its rows on one axis is what the kernel leaves. -/
theorem rows (c : Dev nD) : (dats m 0 c).arrAt 6 cfg0.N = shapeCast S65536x1024 (refArr m c) shapeCasts_S32x2048x1024_S65536x1024 :=
  final m c _ fun b l d => (flat_at (refArr m c) b l d).trans (Cert.OutRefIdeal.Value.ref_at _ _ _ _ _ _ b l d)

theorem arr_inj : Function.Injective (Pipeline.arrRef spec0) := by decide

/-- What the last host line leaves: the rows in their groups again. -/
theorem tail (c : Dev nD) : Pipeline.afterTail₀ cfgs (dats m) 0 (V0 m) [hostOps1] c main_v4 = refArr m c := by
  have h := Pipeline.withArrays_arr spec0 arr_inj c (V0 m c) (fun w => (dats m 0 c).arrAt w cfg0.N) 6
  show StableHlo.after hostOps1 (Pipeline.withArrays spec0 c (V0 m c) fun w => (dats m 0 c).arrAt w cfg0.N) (Proc.devRef .tc main_v4) = _
  generalize Pipeline.withArrays spec0 c (V0 m c) (fun w => (dats m 0 c).arrAt w cfg0.N) = W at h ⊢
  after_results
  refine (congrArg (fun u : Vec Ideal S65536x1024 .f32 => shapeCast S32x2048x1024 u shapeCasts_S65536x1024_S32x2048x1024) (h.trans (rows m c))).trans ?_
  exact shapeCast_shapeCast ..

theorem frame_ref : Cert.quiescent_OutRefIdeal := fun m g _ =>
  (θ_run Cert.OutRefIdeal.defs _ _).mono (fun r h => ⟨fun c => (h c).2, sem_eq_zero_of_no_sems (by decide) r.2⟩)
    (Cert.OutRefIdeal.Value.run m g)

/-- The scale of the residual is printed rounded; the rule names it as the fourth root of 8. -/
theorem preserves : Cert.preserves_Out_OutIdeal :=
  IdealRules.named_const.statement Cert.OutIdeal.κ "alpha" .f32 0x3FD744FD#32 ((Real.sqrt (Real.sqrt 8) : ℝ) : EReal) rfl

/-- The result is the reference's. -/
theorem algebraic : Cert.algebraic_OutIdeal_OutRefIdeal := by
  intro m g m' g' _ hagree
  refine ⟨fun c => refArr m c, ?_, ?_⟩
  · exact (θ_run defs _ _).mono (fun r h c => ⟨((h.2 c).2 main_v4 (by decide)).trans (tail m c), h.1 c⟩)
      (θ_run_and (Gen.unchanged m g) (Gen.run_main m g))
  · refine (θ_run Cert.OutRefIdeal.defs _ _).mono (fun r h c => ⟨(h c).1.trans ?_, (h c).2⟩) (Cert.OutRefIdeal.Value.run m' g')
    obtain ⟨h0, h1, h2, h3, h4, h5⟩ := hagree c
    unfold Cert.OutRefIdeal.Value.res_main_v32
    rw [h0, h1, h2, h3, h4, h5]
    rfl

end Cert.OutIdeal.Value

end
-- ==== Proof.GlaInValue.lean ====
/- The array the projection into the gated linear attention mixer leaves: every modulated row times every column of the weights. -/
module

public import proofs.«01_k».proof.Proof.Gen.GlaInIdeal.Frame
public import proofs.«01_k».proof.Proof.ProjMath
public import Idealize.ShloMosaic.Lib.Pipeline.ValueKit
public import Idealize.ShloMosaic.Lib.Pipeline.Covers

@[expose] public section

set_option maxRecDepth 16384

noncomputable section

namespace Cert.GlaInIdeal.Value

open Cert.GlaInIdeal Cert.GlaInIdeal.Gen Idealize.ShloMosaic Idealize.ShloMosaic.TcCoe Idealize.SL.Sem
open Idealize.ShloMosaic.Pipeline (Dat)

/-- What the kernel stores, each block's entries named. -/
theorem pay1_of (x : Vec Ideal S1024x1024 .f32) (s t : Vec Ideal S1x1x1024 .f32) (w : Vec Ideal S1024x640 .bf16) (r : Fin 1024) (e : Fin 640)
    (X S T W : Fin 1024 → EReal) (hx : ∀ k, x (ix2 r k) = X k) (hs : ∀ k, s (ix3 0 0 k) = S k) (ht : ∀ k, t (ix3 0 0 k) = T k)
    (hw : ∀ k, w (ix2 k e) = W k) : k0_pay1 x s t w (ix2 r e) = Moe.proj X S T W := by
  pointwise [k0_pay1]
  simp only [hx, hs, ht, hw]
  rfl

variable (m : (ℓ : Loc nD τ sig) → Buf (Elt Ideal) ℓ)

abbrev aX (c : Dev nD) : Vec Ideal S32x2048x1024 .f32 := m ((c : Thread nD τ).loc main_arg0)
abbrev aS (c : Dev nD) : Vec Ideal S32x1x1024 .f32 := m ((c : Thread nD τ).loc main_arg1)
abbrev aT (c : Dev nD) : Vec Ideal S32x1x1024 .f32 := m ((c : Thread nD τ).loc main_arg2)
abbrev aW (c : Dev nD) : Vec Ideal S1024x3072 .f32 := m ((c : Thread nD τ).loc main_arg3)
abbrev aG (c : Dev nD) : Vec Ideal S2x1024x16 .f32 := m ((c : Thread nD τ).loc main_arg4)

/-- A grid point's coordinates: the row tile, the column tile, and the one step of the contracted axis. -/
theorem coords_val (t : Fin grid0.N) : (grid0.coords t 0).val = t.val / 5 ∧ (grid0.coords t 1).val = t.val % 5 ∧ (grid0.coords t 2).val = 0 := by
  have ht : t.val < 320 := Nat.lt_of_lt_of_eq t.isLt N_0
  have e0 : (grid0.coords t 0).val = t.val / 5 % 64 := Pipeline.Grid.coords_val t 0 (by decide) rfl
  have e1 : (grid0.coords t 1).val = t.val / 1 % 5 := Pipeline.Grid.coords_val t 1 (by decide) rfl
  have e2 : (grid0.coords t 2).val = t.val / 1 % 1 := Pipeline.Grid.coords_val t 2 (by decide) rfl
  omega

theorem row_index : ∀ i : grid0.Coords, cc0_transform_0 i = ![(i 0).val, (i 2).val] := by decide +kernel
theorem weight_index : ∀ i : grid0.Coords, cc0_transform_1 i = ![(i 2).val, (i 1).val] := by decide +kernel
/-- Two tiles of 1024 rows lie in each group of 2048. -/
theorem group_index : ∀ i : grid0.Coords, cc0_transform_2 i = ![(i 0).val / 2, 0, 0] := by decide +kernel
theorem out_index : ∀ i : grid0.Coords, cc0_transform_4 i = ![(i 0).val, (i 1).val] := by decide +kernel

theorem idx0 (t : Fin cfg0.N) : (cfg0.win 0).index t = ![t.val / 5, 0] :=
  (row_index _).trans (by rw [(coords_val t).1, (coords_val t).2.2])
theorem idx1 (t : Fin cfg0.N) : (cfg0.win 1).index t = ![0, t.val % 5] :=
  (weight_index _).trans (by rw [(coords_val t).2.1, (coords_val t).2.2])
theorem idx2 (t : Fin cfg0.N) : (cfg0.win 2).index t = ![t.val / 5 / 2, 0, 0] :=
  (group_index _).trans (by rw [(coords_val t).1])
theorem idx3 (t : Fin cfg0.N) : (cfg0.win 3).index t = ![t.val / 5 / 2, 0, 0] := idx2 t
theorem idx4 (t : Fin cfg0.N) : (cfg0.win 4).index t = ![t.val / 5, t.val % 5] :=
  (out_index _).trans (by rw [(coords_val t).1, (coords_val t).2.1])

theorem covers4 : (cfg0.win 4).Covers := by
  refine Pipeline.Window.covers_of_index_surj _ rfl (fun (a : Fin 2) => ?_) fun β => ?_
  · match a with
    | 0 => exact (by decide : 0 < 1024)
    | 1 => exact (by decide : 0 < 640)
  · have h0 : (β (0 : Fin 2)).val < (65536 + 1024 - 1) / 1024 := (β (0 : Fin 2)).isLt
    have h1 : (β (1 : Fin 2)).val < (3200 + 640 - 1) / 640 := (β (1 : Fin 2)).isLt
    refine ⟨⟨5 * (β (0 : Fin 2)).val + (β (1 : Fin 2)).val, by rw [show cfg0.grid.N = 320 from N_0]; omega⟩, fun (a : Fin 2) => ?_⟩
    rw [idx4]
    match a with
    | 0 => show (5 * (β (0 : Fin 2)).val + (β (1 : Fin 2)).val) / 5 = (β (0 : Fin 2)).val; omega
    | 1 => show (5 * (β (0 : Fin 2)).val + (β (1 : Fin 2)).val) % 5 = (β (1 : Fin 2)).val; omega

/-- The rows reach the kernel as one axis of 65536. -/
theorem V_x (c : Dev nD) : V m c main_v5 = shapeCast S65536x1024 (aX m c) shapeCasts_S32x2048x1024_S65536x1024 := by
  unfold V V0
  simp only [List.flatten_cons, List.flatten_nil, List.cons_append, List.nil_append]
  after_results; rfl
/-- The weights and the two gates' first factors side by side in the narrow format, with 96 columns of zeros behind them. -/
def weights (w : FVec Ideal S1024x3072 .f32) (g : FVec Ideal S2x1024x16 .f32) : FVec Ideal S1024x3200 .bf16 :=
  pad S1024x3200 ![0, 0] ![0, 96] ![0, 0] (truncf .bf16 (concatenate S1024x3104 1 [⟨S1024x3072, w⟩,
    ⟨S1024x16, shapeCast S1024x16 (extractStridedSlice S1x1024x16 ![0, 0, 0] g slices_S2x1024x16_S1x1024x16_0_0_0) shapeCasts_S1x1024x16_S1024x16⟩,
    ⟨S1024x16, shapeCast S1024x16 (extractStridedSlice S1x1024x16 ![1, 0, 0] g slices_S2x1024x16_S1x1024x16_1_0_0) shapeCasts_S1x1024x16_S1024x16⟩]
    concatenates_S1024x3072_S1024x16_S1024x16_S1024x3104_d1 : FVec Ideal S1024x3104 .f32) bitsLt_bf16_f32 : FVec Ideal S1024x3104 .bf16) (sitofp (F := Ideal) .bf16 (constantI S_ 32 0#32)) pads_S1024x3104_S1024x3200_000_0960 h_S_
theorem V_w (c : Dev nD) : V m c main_v7 = weights (aW m c) (aG m c) := by
  unfold V V0
  simp only [List.flatten_cons, List.flatten_nil, List.cons_append, List.nil_append]
  after_results; rfl
theorem weights_at (w : FVec Ideal S1024x3072 .f32) (g : FVec Ideal S2x1024x16 .f32) (k : Fin 1024) (e : Fin 3200) :
    weights w g (ix2 k e) = Moe.beside (fun k f => w (ix2 k f)) (fun d k f => g (ix3 d k f)) e.val k := by
  pointwise [weights, Moe.beside]
  rw [Moe.int_zero]
  have he := e.isLt
  split_ifs <;> first | with_reducible rfl | omega | (rw [dif_pos (show e.val - 3072 - 16 < 16 by omega)])

/-- A row of the one axis is a row of a group. -/
theorem flat_at (x : Vec Ideal S32x2048x1024 .f32) (b : Fin 32) (l : Fin 2048) (k : Fin 1024) :
    shapeCast S65536x1024 x shapeCasts_S32x2048x1024_S65536x1024 (ix2 ⟨b.val * 2048 + l.val, by omega⟩ k) = x (ix3 b l k) := by
  pointwise
/-- The rows of the result on one axis. -/
theorem one_axis : S32x2048x3200.ShapeCasts S65536x3200 := by decide
theorem wide_at (x : Vec Ideal S32x2048x3200 .bf16) (b : Fin 32) (l : Fin 2048) (e : Fin 3200) :
    shapeCast S65536x3200 x one_axis (ix2 ⟨b.val * 2048 + l.val, by omega⟩ e) = x (ix3 b l e) := by
  pointwise

theorem blk0 (c : Dev nD) (t : Fin cfg0.N) (r k : Fin 1024) (b : Fin 32) (l : Fin 2048) (hr : b.val * 2048 + l.val = t.val / 5 * 1024 + r.val) :
    (show EReal from iblk m c 0 t (ix2 r k)) = aX m c (ix3 b l k) := by
  refine (congrFun (congrArg (((cfg0.win 0).blk t).view.read (Elt Ideal)) (V_x m c)) _).trans ?_
  refine Eq.trans ?_ (flat_at (aX m c) b l k)
  generalize shapeCast S65536x1024 (aX m c) shapeCasts_S32x2048x1024_S65536x1024 = v
  blk_ext [idx0 t]
theorem blk1 (c : Dev nD) (t : Fin cfg0.N) (k : Fin 1024) (e : Fin 640) (e' : Fin 3200) (he : e'.val = t.val % 5 * 640 + e.val) :
    (show EReal from iblk m c 1 t (ix2 k e)) = weights (aW m c) (aG m c) (ix2 k e') := by
  refine (congrFun (congrArg (((cfg0.win 1).blk t).view.read (Elt Ideal)) (V_w m c)) _).trans ?_
  generalize weights (aW m c) (aG m c) = v
  blk_ext [idx1 t]
theorem blk2 (c : Dev nD) (t : Fin cfg0.N) (k : Fin 1024) (b : Fin 32) (hb : b.val = t.val / 5 / 2) :
    (show EReal from iblk m c 2 t (ix3 0 0 k)) = aS m c (ix3 b 0 k) := by
  blk_ext [iblk, V, idx2 t]
theorem blk3 (c : Dev nD) (t : Fin cfg0.N) (k : Fin 1024) (b : Fin 32) (hb : b.val = t.val / 5 / 2) :
    (show EReal from iblk m c 3 t (ix3 0 0 k)) = aT m c (ix3 b 0 k) := by
  blk_ext [iblk, V, idx3 t]

/-- The result at group `b`, row `l`, column `e`. -/
def result (c : Dev nD) (b : Fin 32) (l : Fin 2048) (e : Fin 3200) : EReal :=
  Moe.proj (fun k => aX m c (ix3 b l k)) (fun k => aS m c (ix3 b 0 k)) (fun k => aT m c (ix3 b 0 k)) (fun k => weights (aW m c) (aG m c) (ix2 k e))

/-- The array the kernel leaves, its rows on one axis. -/
theorem final (c : Dev nD) (G : Vec Ideal S65536x3200 .bf16)
    (hG : ∀ (b : Fin 32) (l : Fin 2048) (e : Fin 3200), G (ix2 ⟨b.val * 2048 + l.val, by omega⟩ e) = result m c b l e) :
    (dats m 0 c).arrAt 4 cfg0.N = G := by
  refine (dats m 0 c).arrAt_eq_of_covers 4 _ covers4 fun t hf y => ?_
  have ht : t.val < 320 := Nat.lt_of_lt_of_eq t.isLt N_0
  blk_simp
  rw [after0_4]
  obtain ⟨r, e, rfl⟩ : ∃ (r : Fin 1024) (e : Fin 640), y = ix2 r e := ⟨y (0 : Fin 2), y (1 : Fin 2), eq_ix2 _⟩
  obtain ⟨b, hb⟩ : ∃ b : Fin 32, b.val = t.val / 5 / 2 := ⟨⟨t.val / 5 / 2, by omega⟩, rfl⟩
  obtain ⟨l, hl⟩ : ∃ l : Fin 2048, l.val = t.val / 5 % 2 * 1024 + r.val := ⟨⟨t.val / 5 % 2 * 1024 + r.val, by have := r.isLt; omega⟩, rfl⟩
  obtain ⟨e', he⟩ : ∃ e' : Fin 3200, e'.val = t.val % 5 * 640 + e.val := ⟨⟨t.val % 5 * 640 + e.val, by have := e.isLt; omega⟩, rfl⟩
  have hr : b.val * 2048 + l.val = t.val / 5 * 1024 + r.val := by omega
  have hE : G ((((cfg0.win 4).blk t).view.emb (ix2 r e))) = G (ix2 ⟨b.val * 2048 + l.val, by omega⟩ e') := by
    blk_ext [idx4 t]
  refine Eq.trans ?_ hE.symm
  rw [hG]
  frame_out
  exact pay1_of (iblk m c 0 t) (iblk m c 2 t) (iblk m c 3 t) (iblk m c 1 t) r e _ _ _ _ (fun k => blk0 m c t r k b l hr)
    (fun k => blk2 m c t k b hb) (fun k => blk3 m c t k b hb) (fun k => blk1 m c t k e e' he)

end Cert.GlaInIdeal.Value

end
-- ==== Proof.GlaInRef.lean ====
/- The projection into the gated linear attention mixer as the reference computes it, at one group, row and column. -/
module

public import proofs.«01_k».proof.Proof.Gen.GlaInRefIdeal.Run
public import proofs.«01_k».proof.Proof.ProjMath

@[expose] public section

set_option maxRecDepth 16384

noncomputable section

namespace Cert.GlaInRefIdeal.Value

open Cert.GlaInRefIdeal Cert.GlaInRefIdeal.Gen Idealize.ShloMosaic Idealize.ShloMosaic.TcCoe Idealize.SL.Sem

/-- The modulated rows. -/
def rows (X : FVec Ideal S32x2048x1024 .f32) (S T : FVec Ideal S32x1x1024 .f32) : FVec Ideal S32x2048x1024 .f32 :=
  addf (mulf X (broadcastInDim S32x2048x1024 ![0, 1, 2] bcast_S32x1x1024_S32x2048x1024_0_1_2 (addf (broadcastInDim S32x1x1024 ![] bcast_S_S32x1x1024 (constant S_ .f32 0x3F800000#32)) S))) (broadcastInDim S32x2048x1024 ![0, 1, 2] bcast_S32x1x1024_S32x2048x1024_0_1_2 T)

theorem one_at : Ideal.ofBits FTy.f32 0x3F800000#32 = 1 := by
  have h : Ideal.ofBits FTy.f32 0x3F800000#32 = ((1 : ℝ) : EReal) := by
    simp [Ideal.ofBits, Ideal.ieee, -EReal.coe_mul]; norm_num
  exact h.trans EReal.coe_one

theorem rows_at (X : FVec Ideal S32x2048x1024 .f32) (S T : FVec Ideal S32x1x1024 .f32) (b : Fin 32) (l : Fin 2048) (k : Fin 1024) :
    rows X S T (ix3 b l k) = Moe.modulated (fun k => X (ix3 b l k)) (fun k => S (ix3 b 0 k)) (fun k => T (ix3 b 0 k)) k := by
  pointwise [rows, one_at]
  rfl

/-- The two gates' products. -/
def gate0 (H : FVec Ideal S32x2048x1024 .f32) (G : FVec Ideal S2x1024x16 .f32) : FVec Ideal S32x2048x16 .f32 :=
  Host.dotGeneral dot_S32x2048x1024_S1024x16_S32x2048x16_2_0_01_1_n_n none H (shapeCast S1024x16 (extractStridedSlice S1x1024x16 ![0, 0, 0] G slices_S2x1024x16_S1x1024x16_0_0_0) shapeCasts_S1x1024x16_S1024x16)
def gate1 (H : FVec Ideal S32x2048x1024 .f32) (G : FVec Ideal S2x1024x16 .f32) : FVec Ideal S32x2048x16 .f32 :=
  Host.dotGeneral dot_S32x2048x1024_S1024x16_S32x2048x16_2_0_01_1_n_n none H (shapeCast S1024x16 (extractStridedSlice S1x1024x16 ![1, 0, 0] G slices_S2x1024x16_S1x1024x16_1_0_0) shapeCasts_S1x1024x16_S1024x16)
/-- The main product. -/
def main_cols (H : FVec Ideal S32x2048x1024 .f32) (W : FVec Ideal S1024x3072 .f32) : FVec Ideal S32x2048x3072 .f32 :=
  Host.dotGeneral dot_S32x2048x1024_S1024x3072_S32x2048x3072_2_0_01_1_n_n none H W
/-- The three side by side, with 96 columns of zeros behind them. -/
def side (A : FVec Ideal S32x2048x3072 .f32) (B C : FVec Ideal S32x2048x16 .f32) : FVec Ideal S32x2048x3200 .f32 :=
  pad S32x2048x3200 ![0, 0, 0] ![0, 0, 96] ![0, 0, 0] (concatenate S32x2048x3104 2 [⟨S32x2048x3072, A⟩, ⟨S32x2048x16, B⟩, ⟨S32x2048x16, C⟩]
    concatenates_S32x2048x3072_S32x2048x16_S32x2048x16_S32x2048x3104_d2) (sitofp (F := Ideal) .f32 (constantI S_ 32 0#32)) pads_S32x2048x3104_S32x2048x3200_000_000_0960 h_S_
/-- The reference's composed term, over its argument arrays. -/
def REF (X : FVec Ideal S32x2048x1024 .f32) (S T : FVec Ideal S32x1x1024 .f32) (W : FVec Ideal S1024x3072 .f32) (G : FVec Ideal S2x1024x16 .f32) : FVec Ideal S32x2048x3200 .bf16 :=
  truncf .bf16 (side (main_cols (rows X S T) W) (gate0 (rows X S T) G) (gate1 (rows X S T) G)) bitsLt_bf16_f32

theorem gate0_at (H : FVec Ideal S32x2048x1024 .f32) (G : FVec Ideal S2x1024x16 .f32) (b : Fin 32) (l : Fin 2048) (e : Fin 16) :
    gate0 H G (ix3 b l e) = ∑ k : Fin 1024, (H (ix3 b l k) * G (ix3 0 k e) : EReal) := by
  pointwise [gate0]
theorem gate1_at (H : FVec Ideal S32x2048x1024 .f32) (G : FVec Ideal S2x1024x16 .f32) (b : Fin 32) (l : Fin 2048) (e : Fin 16) :
    gate1 H G (ix3 b l e) = ∑ k : Fin 1024, (H (ix3 b l k) * G (ix3 1 k e) : EReal) := by
  pointwise [gate1]
theorem main_at (H : FVec Ideal S32x2048x1024 .f32) (W : FVec Ideal S1024x3072 .f32) (b : Fin 32) (l : Fin 2048) (e : Fin 3072) :
    main_cols H W (ix3 b l e) = ∑ k : Fin 1024, (H (ix3 b l k) * W (ix2 k e) : EReal) := by
  pointwise [main_cols]
theorem side_at (A : FVec Ideal S32x2048x3072 .f32) (B C : FVec Ideal S32x2048x16 .f32) (b : Fin 32) (l : Fin 2048) (e : Fin 3200) :
    side A B C (ix3 b l e) = if h : e.val < 3072 then (A (ix3 b l ⟨e.val, h⟩) : EReal) else if h : e.val - 3072 < 16 then B (ix3 b l ⟨e.val - 3072, h⟩)
      else if h : e.val - 3072 - 16 < 16 then C (ix3 b l ⟨e.val - 3072 - 16, h⟩) else 0 := by
  pointwise [side]
  rw [Moe.int_zero]
  have he := e.isLt
  split_ifs <;> first | with_reducible rfl | omega | (rw [dif_pos (show e.val - 3072 - 16 < 16 by omega)])

theorem ref_at (X : FVec Ideal S32x2048x1024 .f32) (S T : FVec Ideal S32x1x1024 .f32) (W : FVec Ideal S1024x3072 .f32) (G : FVec Ideal S2x1024x16 .f32) (b : Fin 32) (l : Fin 2048) (e : Fin 3200) :
    REF X S T W G (ix3 b l e) = Moe.proj (fun k => X (ix3 b l k)) (fun k => S (ix3 b 0 k)) (fun k => T (ix3 b 0 k)) (Moe.beside (fun k f => W (ix2 k f)) (fun d k f => G (ix3 d k f)) e.val) := by
  refine (side_at _ _ _ b l e).trans ?_
  unfold Moe.beside
  split
  · refine (main_at _ W b l _).trans ?_
    simp only [rows_at]
    rfl
  split
  · refine (gate0_at _ G b l _).trans ?_
    simp only [rows_at]
    rfl
  split
  · refine (gate1_at _ G b l _).trans ?_
    simp only [rows_at]
    rfl
  · exact (Moe.proj_zero _ _ _).symm

end Cert.GlaInRefIdeal.Value

end
-- ==== Proof.GlaInClaim.lean ====
/- The projection into the gated linear attention mixer leaves what the reference computes. -/
module

public import proofs.«01_k».proof.Defs
public import proofs.«01_k».proof.Proof.GlaInValue
public import proofs.«01_k».proof.Proof.GlaInRef
public import Idealize.ShloMosaic.Adequacy
public import Idealize.ShloMosaic.Init
public import Idealize.ShloMosaic.Lib.Claim

@[expose] public section

set_option maxRecDepth 16384

noncomputable section

namespace Cert.GlaInIdeal.Value

open Cert.GlaInIdeal Cert.GlaInIdeal.Gen Idealize.ShloMosaic Idealize.ShloMosaic.TcCoe Idealize.SL.Sem

variable (m : (ℓ : Loc nD τ sig) → Buf (Elt Ideal) ℓ)

/-- The reference's array, over the kernel's arguments. -/
def refArr (c : Dev nD) : Vec Ideal S32x2048x3200 .bf16 := Cert.GlaInRefIdeal.Value.REF (aX m c) (aS m c) (aT m c) (aW m c) (aG m c)

/-- The reference's array with its rows on one axis is what the kernel leaves. -/
theorem left (c : Dev nD) : (dats m 0 c).arrAt 4 cfg0.N = shapeCast S65536x3200 (refArr m c) one_axis :=
  final m c _ fun b l e => (wide_at (refArr m c) b l e).trans ((Cert.GlaInRefIdeal.Value.ref_at _ _ _ _ _ b l e).trans
    (congrArg (Moe.proj _ _ _) (funext fun k => (weights_at (aW m c) (aG m c) k e).symm)))

theorem arr_inj : Function.Injective (Pipeline.arrRef spec0) := by decide

/-- The last host line puts the rows in their groups again. -/
theorem tail (c : Dev nD) : Pipeline.afterTail₀ cfgs (dats m) 0 (V0 m) [hostOps1] c main_v9 = refArr m c := by
  have h := Pipeline.withArrays_arr spec0 arr_inj c (V0 m c) (fun w => (dats m 0 c).arrAt w cfg0.N) 4
  show StableHlo.after hostOps1 (Pipeline.withArrays spec0 c (V0 m c) fun w => (dats m 0 c).arrAt w cfg0.N) (Proc.devRef .tc main_v9) = _
  generalize Pipeline.withArrays spec0 c (V0 m c) (fun w => (dats m 0 c).arrAt w cfg0.N) = W at h ⊢
  after_results
  refine (congrArg (fun u : Vec Ideal S65536x3200 .bf16 => shapeCast S32x2048x3200 u shapeCasts_S65536x3200_S32x2048x3200) (h.trans (left m c))).trans ?_
  exact shapeCast_shapeCast ..

theorem frame_ref : Cert.quiescent_GlaInRefIdeal := fun m g _ =>
  (θ_run Cert.GlaInRefIdeal.defs _ _).mono (fun r h => ⟨fun c => (h c).2, sem_eq_zero_of_no_sems (by decide) r.2⟩)
    (Cert.GlaInRefIdeal.Value.run m g)

/-- The result is the reference's. -/
theorem algebraic : Cert.algebraic_GlaInIdeal_GlaInRefIdeal := by
  intro m g m' g' _ hagree
  refine ⟨fun c => refArr m c, ?_, ?_⟩
  · exact (θ_run defs _ _).mono (fun r h c => ⟨((h.2 c).2 main_v9 (by decide)).trans (tail m c), h.1 c⟩)
      (θ_run_and (Gen.unchanged m g) (Gen.run_main m g))
  · refine (θ_run Cert.GlaInRefIdeal.defs _ _).mono (fun r h c => ⟨(h c).1.trans ?_, (h c).2⟩) (Cert.GlaInRefIdeal.Value.run m' g')
    obtain ⟨h0, h1, h2, h3, h4⟩ := hagree c
    rw [h0, h1, h2, h3, h4]
    rfl

end Cert.GlaInIdeal.Value

end
-- ==== Proof.DeltaInValue.lean ====
/- The array the projection into the DeltaNet mixer leaves: every modulated row times every column of the weights. -/
module

public import proofs.«01_k».proof.Proof.Gen.DeltaInIdeal.Frame
public import proofs.«01_k».proof.Proof.ProjMath
public import Idealize.ShloMosaic.Lib.Pipeline.ValueKit
public import Idealize.ShloMosaic.Lib.Pipeline.Covers

@[expose] public section

set_option maxRecDepth 16384

noncomputable section

namespace Cert.DeltaInIdeal.Value

open Cert.DeltaInIdeal Cert.DeltaInIdeal.Gen Idealize.ShloMosaic Idealize.ShloMosaic.TcCoe Idealize.SL.Sem
open Idealize.ShloMosaic.Pipeline (Dat)

/-- What the kernel stores, each block's entries named. -/
theorem pay1_of (x : Vec Ideal S1024x1024 .f32) (s t : Vec Ideal S1x1x1024 .f32) (w : Vec Ideal S1024x1408 .bf16) (r : Fin 1024) (e : Fin 1408)
    (X S T W : Fin 1024 → EReal) (hx : ∀ k, x (ix2 r k) = X k) (hs : ∀ k, s (ix3 0 0 k) = S k) (ht : ∀ k, t (ix3 0 0 k) = T k)
    (hw : ∀ k, w (ix2 k e) = W k) : k0_pay1 x s t w (ix2 r e) = Moe.proj X S T W := by
  pointwise [k0_pay1]
  simp only [hx, hs, ht, hw]
  rfl

variable (m : (ℓ : Loc nD τ sig) → Buf (Elt Ideal) ℓ)

abbrev aX (c : Dev nD) : Vec Ideal S32x2048x1024 .f32 := m ((c : Thread nD τ).loc main_arg0)
abbrev aS (c : Dev nD) : Vec Ideal S32x1x1024 .f32 := m ((c : Thread nD τ).loc main_arg1)
abbrev aT (c : Dev nD) : Vec Ideal S32x1x1024 .f32 := m ((c : Thread nD τ).loc main_arg2)
abbrev aW (c : Dev nD) : Vec Ideal S1024x4128 .f32 := m ((c : Thread nD τ).loc main_arg3)

/-- A grid point's coordinates: the row tile, the column tile, and the one step of the contracted axis. -/
theorem coords_val (t : Fin grid0.N) : (grid0.coords t 0).val = t.val / 3 ∧ (grid0.coords t 1).val = t.val % 3 ∧ (grid0.coords t 2).val = 0 := by
  have ht : t.val < 192 := Nat.lt_of_lt_of_eq t.isLt N_0
  have e0 : (grid0.coords t 0).val = t.val / 3 % 64 := Pipeline.Grid.coords_val t 0 (by decide) rfl
  have e1 : (grid0.coords t 1).val = t.val / 1 % 3 := Pipeline.Grid.coords_val t 1 (by decide) rfl
  have e2 : (grid0.coords t 2).val = t.val / 1 % 1 := Pipeline.Grid.coords_val t 2 (by decide) rfl
  omega

theorem row_index : ∀ i : grid0.Coords, cc0_transform_0 i = ![(i 0).val, (i 2).val] := by decide +kernel
theorem weight_index : ∀ i : grid0.Coords, cc0_transform_1 i = ![(i 2).val, (i 1).val] := by decide +kernel
/-- Two tiles of 1024 rows lie in each group of 2048. -/
theorem group_index : ∀ i : grid0.Coords, cc0_transform_2 i = ![(i 0).val / 2, 0, 0] := by decide +kernel
theorem out_index : ∀ i : grid0.Coords, cc0_transform_4 i = ![(i 0).val, (i 1).val] := by decide +kernel

theorem idx0 (t : Fin cfg0.N) : (cfg0.win 0).index t = ![t.val / 3, 0] :=
  (row_index _).trans (by rw [(coords_val t).1, (coords_val t).2.2])
theorem idx1 (t : Fin cfg0.N) : (cfg0.win 1).index t = ![0, t.val % 3] :=
  (weight_index _).trans (by rw [(coords_val t).2.1, (coords_val t).2.2])
theorem idx2 (t : Fin cfg0.N) : (cfg0.win 2).index t = ![t.val / 3 / 2, 0, 0] :=
  (group_index _).trans (by rw [(coords_val t).1])
theorem idx3 (t : Fin cfg0.N) : (cfg0.win 3).index t = ![t.val / 3 / 2, 0, 0] := idx2 t
theorem idx4 (t : Fin cfg0.N) : (cfg0.win 4).index t = ![t.val / 3, t.val % 3] :=
  (out_index _).trans (by rw [(coords_val t).1, (coords_val t).2.1])

theorem covers4 : (cfg0.win 4).Covers := by
  refine Pipeline.Window.covers_of_index_surj _ rfl (fun (a : Fin 2) => ?_) fun β => ?_
  · match a with
    | 0 => exact (by decide : 0 < 1024)
    | 1 => exact (by decide : 0 < 1408)
  · have h0 : (β (0 : Fin 2)).val < (65536 + 1024 - 1) / 1024 := (β (0 : Fin 2)).isLt
    have h1 : (β (1 : Fin 2)).val < (4224 + 1408 - 1) / 1408 := (β (1 : Fin 2)).isLt
    refine ⟨⟨3 * (β (0 : Fin 2)).val + (β (1 : Fin 2)).val, by rw [show cfg0.grid.N = 192 from N_0]; omega⟩, fun (a : Fin 2) => ?_⟩
    rw [idx4]
    match a with
    | 0 => show (3 * (β (0 : Fin 2)).val + (β (1 : Fin 2)).val) / 3 = (β (0 : Fin 2)).val; omega
    | 1 => show (3 * (β (0 : Fin 2)).val + (β (1 : Fin 2)).val) % 3 = (β (1 : Fin 2)).val; omega

/-- The rows reach the kernel as one axis of 65536. -/
theorem V_x (c : Dev nD) : V m c main_v0 = shapeCast S65536x1024 (aX m c) shapeCasts_S32x2048x1024_S65536x1024 := by
  unfold V V0
  simp only [List.flatten_cons, List.flatten_nil, List.cons_append, List.nil_append]
  after_results; rfl
/-- The weights in the narrow format, with 96 columns of zeros behind them. -/
def weights (w : FVec Ideal S1024x4128 .f32) : FVec Ideal S1024x4224 .bf16 :=
  pad S1024x4224 ![0, 0] ![0, 96] ![0, 0] (truncf .bf16 w bitsLt_bf16_f32 : FVec Ideal S1024x4128 .bf16) (sitofp (F := Ideal) .bf16 (constantI S_ 32 0#32)) pads_S1024x4128_S1024x4224_000_0960 h_S_
theorem V_w (c : Dev nD) : V m c main_v2 = weights (aW m c) := by
  unfold V V0
  simp only [List.flatten_cons, List.flatten_nil, List.cons_append, List.nil_append]
  after_results; rfl
theorem weights_at (w : FVec Ideal S1024x4128 .f32) (k : Fin 1024) (e : Fin 4224) : weights w (ix2 k e) = Moe.behind (fun k f => w (ix2 k f)) e.val k := by
  pointwise [weights, Moe.behind]
  rw [Moe.int_zero]

/-- A row of the one axis is a row of a group. -/
theorem flat_at (x : Vec Ideal S32x2048x1024 .f32) (b : Fin 32) (l : Fin 2048) (k : Fin 1024) :
    shapeCast S65536x1024 x shapeCasts_S32x2048x1024_S65536x1024 (ix2 ⟨b.val * 2048 + l.val, by omega⟩ k) = x (ix3 b l k) := by
  pointwise
/-- The rows of the result on one axis. -/
theorem one_axis : S32x2048x4224.ShapeCasts S65536x4224 := by decide
theorem wide_at (x : Vec Ideal S32x2048x4224 .f32) (b : Fin 32) (l : Fin 2048) (e : Fin 4224) :
    shapeCast S65536x4224 x one_axis (ix2 ⟨b.val * 2048 + l.val, by omega⟩ e) = x (ix3 b l e) := by
  pointwise

theorem blk0 (c : Dev nD) (t : Fin cfg0.N) (r k : Fin 1024) (b : Fin 32) (l : Fin 2048) (hr : b.val * 2048 + l.val = t.val / 3 * 1024 + r.val) :
    (show EReal from iblk m c 0 t (ix2 r k)) = aX m c (ix3 b l k) := by
  refine (congrFun (congrArg (((cfg0.win 0).blk t).view.read (Elt Ideal)) (V_x m c)) _).trans ?_
  refine Eq.trans ?_ (flat_at (aX m c) b l k)
  generalize shapeCast S65536x1024 (aX m c) shapeCasts_S32x2048x1024_S65536x1024 = v
  blk_ext [idx0 t]
theorem blk1 (c : Dev nD) (t : Fin cfg0.N) (k : Fin 1024) (e : Fin 1408) (e' : Fin 4224) (he : e'.val = t.val % 3 * 1408 + e.val) :
    (show EReal from iblk m c 1 t (ix2 k e)) = weights (aW m c) (ix2 k e') := by
  refine (congrFun (congrArg (((cfg0.win 1).blk t).view.read (Elt Ideal)) (V_w m c)) _).trans ?_
  generalize weights (aW m c) = v
  blk_ext [idx1 t]
theorem blk2 (c : Dev nD) (t : Fin cfg0.N) (k : Fin 1024) (b : Fin 32) (hb : b.val = t.val / 3 / 2) :
    (show EReal from iblk m c 2 t (ix3 0 0 k)) = aS m c (ix3 b 0 k) := by
  blk_ext [iblk, V, idx2 t]
theorem blk3 (c : Dev nD) (t : Fin cfg0.N) (k : Fin 1024) (b : Fin 32) (hb : b.val = t.val / 3 / 2) :
    (show EReal from iblk m c 3 t (ix3 0 0 k)) = aT m c (ix3 b 0 k) := by
  blk_ext [iblk, V, idx3 t]

/-- The result at group `b`, row `l`, column `e`. -/
def result (c : Dev nD) (b : Fin 32) (l : Fin 2048) (e : Fin 4224) : EReal :=
  Moe.proj (fun k => aX m c (ix3 b l k)) (fun k => aS m c (ix3 b 0 k)) (fun k => aT m c (ix3 b 0 k)) (fun k => weights (aW m c) (ix2 k e))

/-- The array the kernel leaves, its rows on one axis. -/
theorem final (c : Dev nD) (G : Vec Ideal S65536x4224 .f32)
    (hG : ∀ (b : Fin 32) (l : Fin 2048) (e : Fin 4224), G (ix2 ⟨b.val * 2048 + l.val, by omega⟩ e) = result m c b l e) :
    (dats m 0 c).arrAt 4 cfg0.N = G := by
  refine (dats m 0 c).arrAt_eq_of_covers 4 _ covers4 fun t hf y => ?_
  have ht : t.val < 192 := Nat.lt_of_lt_of_eq t.isLt N_0
  blk_simp
  rw [after0_4]
  obtain ⟨r, e, rfl⟩ : ∃ (r : Fin 1024) (e : Fin 1408), y = ix2 r e := ⟨y (0 : Fin 2), y (1 : Fin 2), eq_ix2 _⟩
  obtain ⟨b, hb⟩ : ∃ b : Fin 32, b.val = t.val / 3 / 2 := ⟨⟨t.val / 3 / 2, by omega⟩, rfl⟩
  obtain ⟨l, hl⟩ : ∃ l : Fin 2048, l.val = t.val / 3 % 2 * 1024 + r.val := ⟨⟨t.val / 3 % 2 * 1024 + r.val, by have := r.isLt; omega⟩, rfl⟩
  obtain ⟨e', he⟩ : ∃ e' : Fin 4224, e'.val = t.val % 3 * 1408 + e.val := ⟨⟨t.val % 3 * 1408 + e.val, by have := e.isLt; omega⟩, rfl⟩
  have hr : b.val * 2048 + l.val = t.val / 3 * 1024 + r.val := by omega
  have hE : G ((((cfg0.win 4).blk t).view.emb (ix2 r e))) = G (ix2 ⟨b.val * 2048 + l.val, by omega⟩ e') := by
    blk_ext [idx4 t]
  refine Eq.trans ?_ hE.symm
  rw [hG]
  frame_out
  exact pay1_of (iblk m c 0 t) (iblk m c 2 t) (iblk m c 3 t) (iblk m c 1 t) r e _ _ _ _ (fun k => blk0 m c t r k b l hr)
    (fun k => blk2 m c t k b hb) (fun k => blk3 m c t k b hb) (fun k => blk1 m c t k e e' he)

end Cert.DeltaInIdeal.Value

end
-- ==== Proof.DeltaInRef.lean ====
/- The projection into the DeltaNet mixer as the reference computes it, at one group, row and column. -/
module

public import proofs.«01_k».proof.Proof.Gen.DeltaInRefIdeal.Run
public import proofs.«01_k».proof.Proof.ProjMath

@[expose] public section

set_option maxRecDepth 16384

noncomputable section

namespace Cert.DeltaInRefIdeal.Value

open Cert.DeltaInRefIdeal Cert.DeltaInRefIdeal.Gen Idealize.ShloMosaic Idealize.ShloMosaic.TcCoe Idealize.SL.Sem

/-- The modulated rows. -/
def rows (X : FVec Ideal S32x2048x1024 .f32) (S T : FVec Ideal S32x1x1024 .f32) : FVec Ideal S32x2048x1024 .f32 :=
  addf (mulf X (broadcastInDim S32x2048x1024 ![0, 1, 2] bcast_S32x1x1024_S32x2048x1024_0_1_2 (addf (broadcastInDim S32x1x1024 ![] bcast_S_S32x1x1024 (constant S_ .f32 0x3F800000#32)) S))) (broadcastInDim S32x2048x1024 ![0, 1, 2] bcast_S32x1x1024_S32x2048x1024_0_1_2 T)

theorem one_at : Ideal.ofBits FTy.f32 0x3F800000#32 = 1 := by
  have h : Ideal.ofBits FTy.f32 0x3F800000#32 = ((1 : ℝ) : EReal) := by
    simp [Ideal.ofBits, Ideal.ieee, -EReal.coe_mul]; norm_num
  exact h.trans EReal.coe_one

theorem rows_at (X : FVec Ideal S32x2048x1024 .f32) (S T : FVec Ideal S32x1x1024 .f32) (b : Fin 32) (l : Fin 2048) (k : Fin 1024) :
    rows X S T (ix3 b l k) = Moe.modulated (fun k => X (ix3 b l k)) (fun k => S (ix3 b 0 k)) (fun k => T (ix3 b 0 k)) k := by
  pointwise [rows, one_at]
  rfl

/-- The reference's composed term, over its argument arrays. -/
def REF (X : FVec Ideal S32x2048x1024 .f32) (S T : FVec Ideal S32x1x1024 .f32) (W : FVec Ideal S1024x4128 .f32) : FVec Ideal S32x2048x4224 .f32 :=
  pad S32x2048x4224 ![0, 0, 0] ![0, 0, 96] ![0, 0, 0] (Host.dotGeneral dot_S32x2048x1024_S1024x4128_S32x2048x4128_2_0_01_1_n_n none (rows X S T) W) (sitofp (F := Ideal) .f32 (constantI S_ 32 0#32)) pads_S32x2048x4128_S32x2048x4224_000_000_0960 h_S_

theorem dot_at (H : FVec Ideal S32x2048x1024 .f32) (W : FVec Ideal S1024x4128 .f32) (b : Fin 32) (l : Fin 2048) (e : Fin 4128) :
    Host.dotGeneral dot_S32x2048x1024_S1024x4128_S32x2048x4128_2_0_01_1_n_n none H W (ix3 b l e) = ∑ k : Fin 1024, (H (ix3 b l k) * W (ix2 k e) : EReal) := by
  pointwise
theorem pad_at (Z : FVec Ideal S32x2048x4128 .f32) (b : Fin 32) (l : Fin 2048) (e : Fin 4224) :
    pad S32x2048x4224 ![0, 0, 0] ![0, 0, 96] ![0, 0, 0] Z (sitofp (F := Ideal) .f32 (constantI S_ 32 0#32)) pads_S32x2048x4128_S32x2048x4224_000_000_0960 h_S_ (ix3 b l e) =
      if h : e.val < 4128 then (Z (ix3 b l ⟨e.val, h⟩) : EReal) else 0 := by
  pointwise
  rw [Moe.int_zero]
theorem ref_at (X : FVec Ideal S32x2048x1024 .f32) (S T : FVec Ideal S32x1x1024 .f32) (W : FVec Ideal S1024x4128 .f32) (b : Fin 32) (l : Fin 2048) (e : Fin 4224) :
    REF X S T W (ix3 b l e) = Moe.proj (fun k => X (ix3 b l k)) (fun k => S (ix3 b 0 k)) (fun k => T (ix3 b 0 k)) (Moe.behind (fun k f => W (ix2 k f)) e.val) := by
  refine (pad_at _ b l e).trans ?_
  unfold Moe.behind
  split
  · refine (dot_at _ W b l _).trans ?_
    simp only [rows_at]
    rfl
  · exact (Moe.proj_zero _ _ _).symm

end Cert.DeltaInRefIdeal.Value

end
-- ==== Proof.DeltaInClaim.lean ====
/- The projection into the DeltaNet mixer leaves what the reference computes. -/
module

public import proofs.«01_k».proof.Defs
public import proofs.«01_k».proof.Proof.DeltaInValue
public import proofs.«01_k».proof.Proof.DeltaInRef
public import Idealize.ShloMosaic.Adequacy
public import Idealize.ShloMosaic.Init
public import Idealize.ShloMosaic.Lib.Claim

@[expose] public section

set_option maxRecDepth 16384

noncomputable section

namespace Cert.DeltaInIdeal.Value

open Cert.DeltaInIdeal Cert.DeltaInIdeal.Gen Idealize.ShloMosaic Idealize.ShloMosaic.TcCoe Idealize.SL.Sem

variable (m : (ℓ : Loc nD τ sig) → Buf (Elt Ideal) ℓ)

/-- The reference's array, over the kernel's arguments. -/
def refArr (c : Dev nD) : Vec Ideal S32x2048x4224 .f32 := Cert.DeltaInRefIdeal.Value.REF (aX m c) (aS m c) (aT m c) (aW m c)

/-- The reference's array with its rows on one axis is what the kernel leaves. -/
theorem left (c : Dev nD) : (dats m 0 c).arrAt 4 cfg0.N = shapeCast S65536x4224 (refArr m c) one_axis :=
  final m c _ fun b l e => (wide_at (refArr m c) b l e).trans ((Cert.DeltaInRefIdeal.Value.ref_at _ _ _ _ b l e).trans
    (congrArg (Moe.proj _ _ _) (funext fun k => (weights_at (aW m c) k e).symm)))

theorem arr_inj : Function.Injective (Pipeline.arrRef spec0) := by decide

/-- The last host line puts the rows in their groups again. -/
theorem tail (c : Dev nD) : Pipeline.afterTail₀ cfgs (dats m) 0 (V0 m) [hostOps1] c main_v4 = refArr m c := by
  have h := Pipeline.withArrays_arr spec0 arr_inj c (V0 m c) (fun w => (dats m 0 c).arrAt w cfg0.N) 4
  show StableHlo.after hostOps1 (Pipeline.withArrays spec0 c (V0 m c) fun w => (dats m 0 c).arrAt w cfg0.N) (Proc.devRef .tc main_v4) = _
  generalize Pipeline.withArrays spec0 c (V0 m c) (fun w => (dats m 0 c).arrAt w cfg0.N) = W at h ⊢
  after_results
  refine (congrArg (fun u : Vec Ideal S65536x4224 .f32 => shapeCast S32x2048x4224 u shapeCasts_S65536x4224_S32x2048x4224) (h.trans (left m c))).trans ?_
  exact shapeCast_shapeCast ..

theorem frame_ref : Cert.quiescent_DeltaInRefIdeal := fun m g _ =>
  (θ_run Cert.DeltaInRefIdeal.defs _ _).mono (fun r h => ⟨fun c => (h c).2, sem_eq_zero_of_no_sems (by decide) r.2⟩)
    (Cert.DeltaInRefIdeal.Value.run m g)

/-- The result is the reference's. -/
theorem algebraic : Cert.algebraic_DeltaInIdeal_DeltaInRefIdeal := by
  intro m g m' g' _ hagree
  refine ⟨fun c => refArr m c, ?_, ?_⟩
  · exact (θ_run defs _ _).mono (fun r h c => ⟨((h.2 c).2 main_v4 (by decide)).trans (tail m c), h.1 c⟩)
      (θ_run_and (Gen.unchanged m g) (Gen.run_main m g))
  · refine (θ_run Cert.DeltaInRefIdeal.defs _ _).mono (fun r h c => ⟨(h c).1.trans ?_, (h c).2⟩) (Cert.DeltaInRefIdeal.Value.run m' g')
    obtain ⟨h0, h1, h2, h3⟩ := hagree c
    rw [h0, h1, h2, h3]
    rfl

end Cert.DeltaInIdeal.Value

end
-- ==== Proof.HyenaInValue.lean ====
/- The array the projection into the Hyena mixer leaves: every modulated row times every column of the weights. -/
module

public import proofs.«01_k».proof.Proof.Gen.HyenaInIdeal.Frame
public import proofs.«01_k».proof.Proof.ProjMath
public import Idealize.ShloMosaic.Lib.Pipeline.ValueKit
public import Idealize.ShloMosaic.Lib.Pipeline.Covers

@[expose] public section

set_option maxRecDepth 16384

noncomputable section

namespace Cert.HyenaInIdeal.Value

open Cert.HyenaInIdeal Cert.HyenaInIdeal.Gen Idealize.ShloMosaic Idealize.ShloMosaic.TcCoe Idealize.SL.Sem
open Idealize.ShloMosaic.Pipeline (Dat)

/-- What the kernel stores, each block's entries named. -/
theorem pay1_of (x : Vec Ideal S1024x1024 .f32) (s t : Vec Ideal S1x1x1024 .f32) (w : Vec Ideal S1024x1024 .bf16) (r : Fin 1024) (e : Fin 1024)
    (X S T W : Fin 1024 → EReal) (hx : ∀ k, x (ix2 r k) = X k) (hs : ∀ k, s (ix3 0 0 k) = S k) (ht : ∀ k, t (ix3 0 0 k) = T k)
    (hw : ∀ k, w (ix2 k e) = W k) : k0_pay1 x s t w (ix2 r e) = Moe.proj X S T W := by
  pointwise [k0_pay1]
  simp only [hx, hs, ht, hw]
  rfl

variable (m : (ℓ : Loc nD τ sig) → Buf (Elt Ideal) ℓ)

abbrev aX (c : Dev nD) : Vec Ideal S32x2048x1024 .f32 := m ((c : Thread nD τ).loc main_arg0)
abbrev aS (c : Dev nD) : Vec Ideal S32x1x1024 .f32 := m ((c : Thread nD τ).loc main_arg1)
abbrev aT (c : Dev nD) : Vec Ideal S32x1x1024 .f32 := m ((c : Thread nD τ).loc main_arg2)
abbrev aW (c : Dev nD) : Vec Ideal S1024x3072 .f32 := m ((c : Thread nD τ).loc main_arg3)

/-- A grid point's coordinates: the row tile, the column tile, and the one step of the contracted axis. -/
theorem coords_val (t : Fin grid0.N) : (grid0.coords t 0).val = t.val / 3 ∧ (grid0.coords t 1).val = t.val % 3 ∧ (grid0.coords t 2).val = 0 := by
  have ht : t.val < 192 := Nat.lt_of_lt_of_eq t.isLt N_0
  have e0 : (grid0.coords t 0).val = t.val / 3 % 64 := Pipeline.Grid.coords_val t 0 (by decide) rfl
  have e1 : (grid0.coords t 1).val = t.val / 1 % 3 := Pipeline.Grid.coords_val t 1 (by decide) rfl
  have e2 : (grid0.coords t 2).val = t.val / 1 % 1 := Pipeline.Grid.coords_val t 2 (by decide) rfl
  omega

theorem row_index : ∀ i : grid0.Coords, cc0_transform_0 i = ![(i 0).val, (i 2).val] := by decide +kernel
theorem weight_index : ∀ i : grid0.Coords, cc0_transform_1 i = ![(i 2).val, (i 1).val] := by decide +kernel
/-- Two tiles of 1024 rows lie in each group of 2048. -/
theorem group_index : ∀ i : grid0.Coords, cc0_transform_2 i = ![(i 0).val / 2, 0, 0] := by decide +kernel
theorem out_index : ∀ i : grid0.Coords, cc0_transform_4 i = ![(i 0).val, (i 1).val] := by decide +kernel

theorem idx0 (t : Fin cfg0.N) : (cfg0.win 0).index t = ![t.val / 3, 0] :=
  (row_index _).trans (by rw [(coords_val t).1, (coords_val t).2.2])
theorem idx1 (t : Fin cfg0.N) : (cfg0.win 1).index t = ![0, t.val % 3] :=
  (weight_index _).trans (by rw [(coords_val t).2.1, (coords_val t).2.2])
theorem idx2 (t : Fin cfg0.N) : (cfg0.win 2).index t = ![t.val / 3 / 2, 0, 0] :=
  (group_index _).trans (by rw [(coords_val t).1])
theorem idx3 (t : Fin cfg0.N) : (cfg0.win 3).index t = ![t.val / 3 / 2, 0, 0] := idx2 t
theorem idx4 (t : Fin cfg0.N) : (cfg0.win 4).index t = ![t.val / 3, t.val % 3] :=
  (out_index _).trans (by rw [(coords_val t).1, (coords_val t).2.1])

theorem covers4 : (cfg0.win 4).Covers := by
  refine Pipeline.Window.covers_of_index_surj _ rfl (fun (a : Fin 2) => ?_) fun β => ?_
  · match a with
    | 0 => exact (by decide : 0 < 1024)
    | 1 => exact (by decide : 0 < 1024)
  · have h0 : (β (0 : Fin 2)).val < (65536 + 1024 - 1) / 1024 := (β (0 : Fin 2)).isLt
    have h1 : (β (1 : Fin 2)).val < (3072 + 1024 - 1) / 1024 := (β (1 : Fin 2)).isLt
    refine ⟨⟨3 * (β (0 : Fin 2)).val + (β (1 : Fin 2)).val, by rw [show cfg0.grid.N = 192 from N_0]; omega⟩, fun (a : Fin 2) => ?_⟩
    rw [idx4]
    match a with
    | 0 => show (3 * (β (0 : Fin 2)).val + (β (1 : Fin 2)).val) / 3 = (β (0 : Fin 2)).val; omega
    | 1 => show (3 * (β (0 : Fin 2)).val + (β (1 : Fin 2)).val) % 3 = (β (1 : Fin 2)).val; omega

/-- The rows reach the kernel as one axis of 65536. -/
theorem V_x (c : Dev nD) : V m c main_v0 = shapeCast S65536x1024 (aX m c) shapeCasts_S32x2048x1024_S65536x1024 := by
  unfold V V0
  simp only [List.flatten_cons, List.flatten_nil, List.cons_append, List.nil_append]
  after_results; rfl
/-- The weights in the narrow format. -/
def weights (w : FVec Ideal S1024x3072 .f32) : FVec Ideal S1024x3072 .bf16 := truncf .bf16 w bitsLt_bf16_f32
theorem V_w (c : Dev nD) : V m c main_v1 = weights (aW m c) := by
  unfold V V0
  simp only [List.flatten_cons, List.flatten_nil, List.cons_append, List.nil_append]
  after_results; rfl
theorem weights_at (w : FVec Ideal S1024x3072 .f32) (k : Fin 1024) (e : Fin 3072) : weights w (ix2 k e) = w (ix2 k e) := by
  pointwise [weights]

/-- A row of the one axis is a row of a group. -/
theorem flat_at (x : Vec Ideal S32x2048x1024 .f32) (b : Fin 32) (l : Fin 2048) (k : Fin 1024) :
    shapeCast S65536x1024 x shapeCasts_S32x2048x1024_S65536x1024 (ix2 ⟨b.val * 2048 + l.val, by omega⟩ k) = x (ix3 b l k) := by
  pointwise
/-- The rows of the result on one axis. -/
theorem one_axis : S32x2048x3072.ShapeCasts S65536x3072 := by decide
theorem wide_at (x : Vec Ideal S32x2048x3072 .bf16) (b : Fin 32) (l : Fin 2048) (e : Fin 3072) :
    shapeCast S65536x3072 x one_axis (ix2 ⟨b.val * 2048 + l.val, by omega⟩ e) = x (ix3 b l e) := by
  pointwise

theorem blk0 (c : Dev nD) (t : Fin cfg0.N) (r k : Fin 1024) (b : Fin 32) (l : Fin 2048) (hr : b.val * 2048 + l.val = t.val / 3 * 1024 + r.val) :
    (show EReal from iblk m c 0 t (ix2 r k)) = aX m c (ix3 b l k) := by
  refine (congrFun (congrArg (((cfg0.win 0).blk t).view.read (Elt Ideal)) (V_x m c)) _).trans ?_
  refine Eq.trans ?_ (flat_at (aX m c) b l k)
  generalize shapeCast S65536x1024 (aX m c) shapeCasts_S32x2048x1024_S65536x1024 = v
  blk_ext [idx0 t]
theorem blk1 (c : Dev nD) (t : Fin cfg0.N) (k : Fin 1024) (e : Fin 1024) (e' : Fin 3072) (he : e'.val = t.val % 3 * 1024 + e.val) :
    (show EReal from iblk m c 1 t (ix2 k e)) = weights (aW m c) (ix2 k e') := by
  refine (congrFun (congrArg (((cfg0.win 1).blk t).view.read (Elt Ideal)) (V_w m c)) _).trans ?_
  generalize weights (aW m c) = v
  blk_ext [idx1 t]
theorem blk2 (c : Dev nD) (t : Fin cfg0.N) (k : Fin 1024) (b : Fin 32) (hb : b.val = t.val / 3 / 2) :
    (show EReal from iblk m c 2 t (ix3 0 0 k)) = aS m c (ix3 b 0 k) := by
  blk_ext [iblk, V, idx2 t]
theorem blk3 (c : Dev nD) (t : Fin cfg0.N) (k : Fin 1024) (b : Fin 32) (hb : b.val = t.val / 3 / 2) :
    (show EReal from iblk m c 3 t (ix3 0 0 k)) = aT m c (ix3 b 0 k) := by
  blk_ext [iblk, V, idx3 t]

/-- The result at group `b`, row `l`, column `e`. -/
def result (c : Dev nD) (b : Fin 32) (l : Fin 2048) (e : Fin 3072) : EReal :=
  Moe.proj (fun k => aX m c (ix3 b l k)) (fun k => aS m c (ix3 b 0 k)) (fun k => aT m c (ix3 b 0 k)) (fun k => weights (aW m c) (ix2 k e))

/-- The array the kernel leaves, its rows on one axis. -/
theorem final (c : Dev nD) (G : Vec Ideal S65536x3072 .bf16)
    (hG : ∀ (b : Fin 32) (l : Fin 2048) (e : Fin 3072), G (ix2 ⟨b.val * 2048 + l.val, by omega⟩ e) = result m c b l e) :
    (dats m 0 c).arrAt 4 cfg0.N = G := by
  refine (dats m 0 c).arrAt_eq_of_covers 4 _ covers4 fun t hf y => ?_
  have ht : t.val < 192 := Nat.lt_of_lt_of_eq t.isLt N_0
  blk_simp
  rw [after0_4]
  obtain ⟨r, e, rfl⟩ : ∃ (r : Fin 1024) (e : Fin 1024), y = ix2 r e := ⟨y (0 : Fin 2), y (1 : Fin 2), eq_ix2 _⟩
  obtain ⟨b, hb⟩ : ∃ b : Fin 32, b.val = t.val / 3 / 2 := ⟨⟨t.val / 3 / 2, by omega⟩, rfl⟩
  obtain ⟨l, hl⟩ : ∃ l : Fin 2048, l.val = t.val / 3 % 2 * 1024 + r.val := ⟨⟨t.val / 3 % 2 * 1024 + r.val, by have := r.isLt; omega⟩, rfl⟩
  obtain ⟨e', he⟩ : ∃ e' : Fin 3072, e'.val = t.val % 3 * 1024 + e.val := ⟨⟨t.val % 3 * 1024 + e.val, by have := e.isLt; omega⟩, rfl⟩
  have hr : b.val * 2048 + l.val = t.val / 3 * 1024 + r.val := by omega
  have hE : G ((((cfg0.win 4).blk t).view.emb (ix2 r e))) = G (ix2 ⟨b.val * 2048 + l.val, by omega⟩ e') := by
    blk_ext [idx4 t]
  refine Eq.trans ?_ hE.symm
  rw [hG]
  frame_out
  exact pay1_of (iblk m c 0 t) (iblk m c 2 t) (iblk m c 3 t) (iblk m c 1 t) r e _ _ _ _ (fun k => blk0 m c t r k b l hr)
    (fun k => blk2 m c t k b hb) (fun k => blk3 m c t k b hb) (fun k => blk1 m c t k e e' he)

end Cert.HyenaInIdeal.Value

end
-- ==== Proof.HyenaInRef.lean ====
/- The projection into the Hyena mixer as the reference computes it, at one group, row and column. -/
module

public import proofs.«01_k».proof.Proof.Gen.HyenaInRefIdeal.Run
public import proofs.«01_k».proof.Proof.ProjMath

@[expose] public section

set_option maxRecDepth 16384

noncomputable section

namespace Cert.HyenaInRefIdeal.Value

open Cert.HyenaInRefIdeal Cert.HyenaInRefIdeal.Gen Idealize.ShloMosaic Idealize.ShloMosaic.TcCoe Idealize.SL.Sem

/-- The modulated rows. -/
def rows (X : FVec Ideal S32x2048x1024 .f32) (S T : FVec Ideal S32x1x1024 .f32) : FVec Ideal S32x2048x1024 .f32 :=
  addf (mulf X (broadcastInDim S32x2048x1024 ![0, 1, 2] bcast_S32x1x1024_S32x2048x1024_0_1_2 (addf (broadcastInDim S32x1x1024 ![] bcast_S_S32x1x1024 (constant S_ .f32 0x3F800000#32)) S))) (broadcastInDim S32x2048x1024 ![0, 1, 2] bcast_S32x1x1024_S32x2048x1024_0_1_2 T)

theorem one_at : Ideal.ofBits FTy.f32 0x3F800000#32 = 1 := by
  have h : Ideal.ofBits FTy.f32 0x3F800000#32 = ((1 : ℝ) : EReal) := by
    simp [Ideal.ofBits, Ideal.ieee, -EReal.coe_mul]; norm_num
  exact h.trans EReal.coe_one

theorem rows_at (X : FVec Ideal S32x2048x1024 .f32) (S T : FVec Ideal S32x1x1024 .f32) (b : Fin 32) (l : Fin 2048) (k : Fin 1024) :
    rows X S T (ix3 b l k) = Moe.modulated (fun k => X (ix3 b l k)) (fun k => S (ix3 b 0 k)) (fun k => T (ix3 b 0 k)) k := by
  pointwise [rows, one_at]
  rfl

/-- The reference's composed term, over its argument arrays. -/
def REF (X : FVec Ideal S32x2048x1024 .f32) (S T : FVec Ideal S32x1x1024 .f32) (W : FVec Ideal S1024x3072 .f32) : FVec Ideal S32x2048x3072 .bf16 :=
  truncf .bf16 (Host.dotGeneral dot_S32x2048x1024_S1024x3072_S32x2048x3072_2_0_01_1_n_n none (rows X S T) W) bitsLt_bf16_f32

theorem dot_at (H : FVec Ideal S32x2048x1024 .f32) (W : FVec Ideal S1024x3072 .f32) (b : Fin 32) (l : Fin 2048) (e : Fin 3072) :
    Host.dotGeneral dot_S32x2048x1024_S1024x3072_S32x2048x3072_2_0_01_1_n_n none H W (ix3 b l e) = ∑ k : Fin 1024, (H (ix3 b l k) * W (ix2 k e) : EReal) := by
  pointwise
theorem ref_at (X : FVec Ideal S32x2048x1024 .f32) (S T : FVec Ideal S32x1x1024 .f32) (W : FVec Ideal S1024x3072 .f32) (b : Fin 32) (l : Fin 2048) (e : Fin 3072) :
    REF X S T W (ix3 b l e) = Moe.proj (fun k => X (ix3 b l k)) (fun k => S (ix3 b 0 k)) (fun k => T (ix3 b 0 k)) (fun k => W (ix2 k e)) := by
  refine (dot_at _ W b l e).trans ?_
  simp only [rows_at]
  rfl

end Cert.HyenaInRefIdeal.Value

end
-- ==== Proof.HyenaInClaim.lean ====
/- The projection into the Hyena mixer leaves what the reference computes. -/
module

public import proofs.«01_k».proof.Defs
public import proofs.«01_k».proof.Proof.HyenaInValue
public import proofs.«01_k».proof.Proof.HyenaInRef
public import Idealize.ShloMosaic.Adequacy
public import Idealize.ShloMosaic.Init
public import Idealize.ShloMosaic.Lib.Claim

@[expose] public section

set_option maxRecDepth 16384

noncomputable section

namespace Cert.HyenaInIdeal.Value

open Cert.HyenaInIdeal Cert.HyenaInIdeal.Gen Idealize.ShloMosaic Idealize.ShloMosaic.TcCoe Idealize.SL.Sem

variable (m : (ℓ : Loc nD τ sig) → Buf (Elt Ideal) ℓ)

/-- The reference's array, over the kernel's arguments. -/
def refArr (c : Dev nD) : Vec Ideal S32x2048x3072 .bf16 := Cert.HyenaInRefIdeal.Value.REF (aX m c) (aS m c) (aT m c) (aW m c)

/-- The reference's array with its rows on one axis is what the kernel leaves. -/
theorem left (c : Dev nD) : (dats m 0 c).arrAt 4 cfg0.N = shapeCast S65536x3072 (refArr m c) one_axis :=
  final m c _ fun b l e => (wide_at (refArr m c) b l e).trans ((Cert.HyenaInRefIdeal.Value.ref_at _ _ _ _ b l e).trans
    (congrArg (Moe.proj _ _ _) (funext fun k => (weights_at (aW m c) k e).symm)))

theorem arr_inj : Function.Injective (Pipeline.arrRef spec0) := by decide

/-- The last host line puts the rows in their groups again. -/
theorem tail (c : Dev nD) : Pipeline.afterTail₀ cfgs (dats m) 0 (V0 m) [hostOps1] c main_v3 = refArr m c := by
  have h := Pipeline.withArrays_arr spec0 arr_inj c (V0 m c) (fun w => (dats m 0 c).arrAt w cfg0.N) 4
  show StableHlo.after hostOps1 (Pipeline.withArrays spec0 c (V0 m c) fun w => (dats m 0 c).arrAt w cfg0.N) (Proc.devRef .tc main_v3) = _
  generalize Pipeline.withArrays spec0 c (V0 m c) (fun w => (dats m 0 c).arrAt w cfg0.N) = W at h ⊢
  after_results
  refine (congrArg (fun u : Vec Ideal S65536x3072 .bf16 => shapeCast S32x2048x3072 u shapeCasts_S65536x3072_S32x2048x3072) (h.trans (left m c))).trans ?_
  exact shapeCast_shapeCast ..

theorem frame_ref : Cert.quiescent_HyenaInRefIdeal := fun m g _ =>
  (θ_run Cert.HyenaInRefIdeal.defs _ _).mono (fun r h => ⟨fun c => (h c).2, sem_eq_zero_of_no_sems (by decide) r.2⟩)
    (Cert.HyenaInRefIdeal.Value.run m g)

/-- The result is the reference's. -/
theorem algebraic : Cert.algebraic_HyenaInIdeal_HyenaInRefIdeal := by
  intro m g m' g' _ hagree
  refine ⟨fun c => refArr m c, ?_, ?_⟩
  · exact (θ_run defs _ _).mono (fun r h c => ⟨((h.2 c).2 main_v3 (by decide)).trans (tail m c), h.1 c⟩)
      (θ_run_and (Gen.unchanged m g) (Gen.run_main m g))
  · refine (θ_run Cert.HyenaInRefIdeal.defs _ _).mono (fun r h c => ⟨(h c).1.trans ?_, (h c).2⟩) (Cert.HyenaInRefIdeal.Value.run m' g')
    obtain ⟨h0, h1, h2, h3⟩ := hagree c
    rw [h0, h1, h2, h3]
    rfl

end Cert.HyenaInIdeal.Value

end
-- ==== Proof.CtxTableOkBits.lean ====
/- On the context stream: the expert table keeps every block the kernel fetches through it inside its array: the same for the program before idealization. -/
module

public import proofs.«01_k».proof.Defs
public import proofs.«01_k».proof.Proof.Gen.CtxKernel.Frame.Runs
public import proofs.«01_k».proof.Proof.Places
public import Idealize.ShloMosaic.Lib.Pointwise

@[expose] public section

set_option maxRecDepth 16384

noncomputable section

namespace Cert.CtxKernel.Value

open Cert.CtxKernel Cert.CtxKernel.Gen Idealize.ShloMosaic Idealize.ShloMosaic.TcCoe Idealize.SL.Sem

variable {F : FTy → Type} [FloatOps F]

/-- The table word a window's index map reads at a grid point is the row tile's. -/
theorem word_at (pf : pre0.Contents (Elt F)) (i : grid0.Coords) :
    pf.at 0 (Rect.unit (s := S40) ![(Scalar.indexCast (BitVec.ofNat 32 (i 0).val)).toNat] S1.size (k0_off1_inb i)) numel1_S1
      = pf 0 (ix1 (i 0)) := by
  have r_i0 : (i 0).val < 40 := (i 0).isLt
  have e : (Scalar.indexCast (BitVec.ofNat 32 (i 0).val)).toNat = (i 0).val :=
    Affine.nat_eq (Affine.indexCast (Affine.ofNat (i 0).val (by omega))) _ rfl
  refine congrArg (pf 0) (funext fun (a : Fin 1) => Fin.ext ?_)
  obtain rfl : a = 0 := Subsingleton.elim _ _
  show (Scalar.indexCast (BitVec.ofNat 32 (i 0).val)).toNat + 1 * 0 = (i 0).val
  omega

/-- Window 1's block: the expert's gate columns, the half the inner coordinate names. -/
theorem index_1 (pf : pre0.Contents (Elt F)) (i : grid0.Coords) :
    cc0_transform_1 k0_off1_inb numel1_S1 pf i = ![(show BitVec 32 from pf 0 (ix1 (i 0))).toNat, 0, (i 1).val] := by
  have h1 : (i 1).val < 2 := (i 1).isLt
  have e : (BitVec.ofNat 32 (i 1).val).toNat = (i 1).val := by rw [BitVec.toNat_ofNat]; omega
  show ![_, _, _] = ![_, _, _]
  rw [word_at pf i, e]
  rfl

/-- Window 2's block: the expert's up columns, the half the inner coordinate names. -/
theorem index_2 (pf : pre0.Contents (Elt F)) (i : grid0.Coords) :
    cc0_transform_2 k0_off1_inb numel1_S1 pf i = ![(show BitVec 32 from pf 0 (ix1 (i 0))).toNat, 0, (i 1).val + 2] := by
  have h1 : (i 1).val < 2 := (i 1).isLt
  have e : (Scalar.addi (BitVec.ofNat 32 (i 1).val) 2#32).toNat = (i 1).val + 2 := by
    show (BitVec.ofNat 32 (i 1).val + 2#32).toNat = _
    rw [BitVec.toNat_add, BitVec.toNat_ofNat, BitVec.toNat_ofNat]; omega
  show ![_, _, _] = ![_, _, _]
  rw [word_at pf i, e]
  rfl

/-- Window 3's block: the expert's rows of the down projection, the half the inner coordinate names. -/
theorem index_3 (pf : pre0.Contents (Elt F)) (i : grid0.Coords) :
    cc0_transform_3 k0_off1_inb numel1_S1 pf i = ![(show BitVec 32 from pf 0 (ix1 (i 0))).toNat, (i 1).val, 0] := by
  have h1 : (i 1).val < 2 := (i 1).isLt
  have e : (BitVec.ofNat 32 (i 1).val).toNat = (i 1).val := by rw [BitVec.toNat_ofNat]; omega
  show ![_, _, _] = ![_, _, _]
  rw [word_at pf i, e]
  rfl

/-- With every word of the table below the number of experts, every block read through it is inside its array. -/
theorem ok_of_lt (pf : pre0.Contents (Elt F)) (h : ∀ y : S40.Idx, (show BitVec 32 from pf 0 y).toNat < 8) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h0 := h (ix1 (i 0))
    have h1 : (i 1).val < 2 := (i 1).isLt
  · rw [index_1]
    fin_cases a
    · show ((show BitVec 32 from pf 0 (ix1 (i 0))).toNat + 1) * 1 ≤ 8; omega
    · show (0 + 1) * 1024 ≤ 1024; omega
    · show ((i 1).val + 1) * 1792 ≤ 7168; omega
  · rw [index_2]
    fin_cases a
    · show ((show BitVec 32 from pf 0 (ix1 (i 0))).toNat + 1) * 1 ≤ 8; omega
    · show (0 + 1) * 1024 ≤ 1024; omega
    · show ((i 1).val + 2 + 1) * 1792 ≤ 7168; omega
  · rw [index_3]
    fin_cases a
    · show ((show BitVec 32 from pf 0 (ix1 (i 0))).toNat + 1) * 1 ≤ 8; omega
    · show ((i 1).val + 1) * 1792 ≤ 3584; omega
    · show (0 + 1) * 1024 ≤ 1024; omega

variable (W : Valuation τ sig (Elt F))

/-- What the host's last stretches leave in the table. -/
theorem s6_table : StableHlo.after hostOps0_6 W (Proc.devRef .tc main_v61) =
    minsi (Host.reduce IntOp.addi (extui 32 (cmpi .sle
        (broadcastInDim S40x8 ![0, 1] bcast_S1x8_S40x8_0_1 (broadcastInDim S1x8 ![1] bcast_S8_S1x8_1 (W (Proc.devRef .tc main_v31))))
        (broadcastInDim S40x8 ![0, 1] bcast_S40x1_S40x8_0_1 (broadcastInDim S40x1 ![0] bcast_S40_S40x1_0
          (muli (iotaInDim S40 32 0) (broadcastInDim S40 ![] bcast_S_S40 (constantI S_ 32 512#32)))))) natLt_1_32) (constantI S_ 32 0#32) reducesTo_S40x8_S40_d1 h_S_) (broadcastInDim S40 ![] bcast_S_S40 (constantI S_ 32 7#32)) := by
  after_results

theorem k7_v61 : StableHlo.after hostOps0_7 W (Proc.devRef .tc main_v61) = W (Proc.devRef .tc main_v61) := by
  after_results

theorem k8_v61 : StableHlo.after hostOps0_8 W (Proc.devRef .tc main_v61) = W (Proc.devRef .tc main_v61) := by
  after_results

/-- Stretches one after another. -/
theorem after_join (l k : List (HloOp τ sig (Elt F))) : StableHlo.after (l ++ k) W = StableHlo.after k (StableHlo.after l W) := by
  induction l generalizing W with
  | nil => rfl
  | cons op l ih => exact ih _

/-- The kernel's table is in range, whatever the arguments hold. -/
theorem ok (m : (ℓ : Loc nD τ sig) → Buf (Elt F) ℓ) : Ok m := by
  refine ok_of_lt _ fun y => ?_
  obtain ⟨t, rfl⟩ : ∃ t : Fin 40, y = ValueIdx.ix1 t := ⟨y (0 : Fin 1), ValueIdx.eq_ix1 y⟩
  have h : ∃ x : Fin 8, (show IVec S40 32 from V m 0 main_v61) (ValueIdx.ix1 t) = BitVec.ofNat 32 x.val := by
    unfold V V0
    simp only [List.flatten_cons, List.flatten_nil, List.append_nil, after_join]
    rw [k8_v61, k7_v61, s6_table]
    exact Moe.table_lt _ _ _ _ _ t
  obtain ⟨x, hx⟩ := h
  show ((show IVec S40 32 from V m 0 main_v61) (ValueIdx.ix1 t)).toNat < 8
  rw [hx, BitVec.toNat_ofNat]
  have := x.isLt
  omega

end Cert.CtxKernel.Value

end
-- ==== Proof.CtxLaunchIdeal.lean ====
/- On the context stream: the launch of the expert program (real arithmetic): what the output's staging buffer and the accumulator hold after
   each grid point (`outsAt0`), the pipeline's proof data (`dats`), the body's obligation at every point, the run (`run_main`)
   and the frame (`frame`). The whole-body runs of the two cases of a grid point come from the generated modules. -/
module

public import proofs.«01_k».proof.Proof.Gen.CtxKernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.CtxKernelIdeal.Launch

open Cert.CtxKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What one run of the body leaves: the first half of the hidden axis (case A) and the second (case B) -/

section FirstHalf

variable (c : Dev nD) (i : grid0.Coords) (arg3 : Memref sig .tc .vmem S512x1024 .bf16) (harg3 : arg3.IsWhole) (arg4 : Memref sig .tc .vmem S1x1024x1792 .bf16) (harg4 : arg4.IsWhole) (arg5 : Memref sig .tc .vmem S1x1024x1792 .bf16) (harg5 : arg5.IsWhole) (arg6 : Memref sig .tc .vmem S1x1792x1024 .bf16) (harg6 : arg6.IsWhole) (arg7 : Memref sig .tc .vmem S512x1 .f32) (harg7 : arg7.IsWhole) (arg8 : Memref sig .tc .vmem S512x1024 .bf16) (harg8 : arg8.IsWhole) (arg9 : Memref sig .tc .vmem S512x1024 .f32) (harg9 : arg9.IsWhole) (hc0 : cond0_0 i) (hc1 : ¬cond0_1 i)
  (x0 : Vec F S512x1024 .bf16) (x1 : Vec F S1x1024x1792 .bf16) (x2 : Vec F S1x1024x1792 .bf16) (x3 : Vec F S1x1792x1024 .bf16) (x4 : Vec F S512x1 .f32) (xt0 : TbBuf0 (F := F) c tbM0_0)

/-- Case A stores nothing into output 5, which is idle there; nothing reads this placeholder. -/
def out0_A_5 : Vec F S512x1024 .bf16 := VO0_5.read (Elt F) (VO0_5.writes (Elt F) VO0_5.junk (kernelRun0_A c i arg3 harg3 arg4 harg4 arg5 harg5 arg6 harg6 arg7 harg7 arg8 harg8 arg9 harg9 hc0 hc1 x0 x1 x2 x3 x4 xt0).1)

/-- Case A's pieces for the accumulator tile it. -/
theorem scover0_A_0 (y : S512x1024.Idx) : ∃ pc ∈ (kernelRun0_A c i arg3 harg3 arg4 harg4 arg5 harg5 arg6 harg6 arg7 harg7 arg8 harg8 arg9 harg9 hc0 hc1 x0 x1 x2 x3 x4 xt0).2.1, y ∈ pc.1.set :=
  View.cover_of_tiledL (kernelRun0_A c i arg3 harg3 arg4 harg4 arg5 harg5 arg6 harg6 arg7 harg7 arg8 harg8 arg9 harg9 hc0 hc1 x0 x1 x2 x3 x4 xt0).2.1 S512x1024.size (by sl_kernel_rfl) y

/-- What case A leaves in the accumulator: its pieces read back. -/
def sout0_A_0 : Vec F S512x1024 .f32 := VS0_0.read (Elt F) (VS0_0.writes (Elt F) VS0_0.junk (kernelRun0_A c i arg3 harg3 arg4 harg4 arg5 harg5 arg6 harg6 arg7 harg7 arg8 harg8 arg9 harg9 hc0 hc1 x0 x1 x2 x3 x4 xt0).2.1)

end FirstHalf

section SecondHalf

variable (c : Dev nD) (i : grid0.Coords) (arg3 : Memref sig .tc .vmem S512x1024 .bf16) (harg3 : arg3.IsWhole) (arg4 : Memref sig .tc .vmem S1x1024x1792 .bf16) (harg4 : arg4.IsWhole) (arg5 : Memref sig .tc .vmem S1x1024x1792 .bf16) (harg5 : arg5.IsWhole) (arg6 : Memref sig .tc .vmem S1x1792x1024 .bf16) (harg6 : arg6.IsWhole) (arg7 : Memref sig .tc .vmem S512x1 .f32) (harg7 : arg7.IsWhole) (arg8 : Memref sig .tc .vmem S512x1024 .bf16) (harg8 : arg8.IsWhole) (arg9 : Memref sig .tc .vmem S512x1024 .f32) (harg9 : arg9.IsWhole) (hc0 : ¬cond0_0 i) (hc1 : cond0_1 i)
  (x0 : Vec F S512x1024 .bf16) (x1 : Vec F S1x1024x1792 .bf16) (x2 : Vec F S1x1024x1792 .bf16) (x3 : Vec F S1x1792x1024 .bf16) (x4 : Vec F S512x1 .f32) (xt0 : TbBuf0 (F := F) c tbM0_0) (xs0 : Vec F S512x1024 .f32)

/-- Case B's pieces for output 5 tile its block. -/
theorem cover0_B_5 (y : S512x1024.Idx) : ∃ pc ∈ (kernelRun0_B c i arg3 harg3 arg4 harg4 arg5 harg5 arg6 harg6 arg7 harg7 arg8 harg8 arg9 harg9 hc0 hc1 x0 x1 x2 x3 x4 xt0 xs0).1, y ∈ pc.1.set :=
  View.cover_of_tiledL (kernelRun0_B c i arg3 harg3 arg4 harg4 arg5 harg5 arg6 harg6 arg7 harg7 arg8 harg8 arg9 harg9 hc0 hc1 x0 x1 x2 x3 x4 xt0 xs0).1 S512x1024.size (by sl_kernel_rfl) y

/-- What case B leaves in output 5's staging buffer: its pieces read back. -/
def out0_B_5 : Vec F S512x1024 .bf16 := VO0_5.read (Elt F) (VO0_5.writes (Elt F) VO0_5.junk (kernelRun0_B c i arg3 harg3 arg4 harg4 arg5 harg5 arg6 harg6 arg7 harg7 arg8 harg8 arg9 harg9 hc0 hc1 x0 x1 x2 x3 x4 xt0 xs0).1)

/-- Case B's pieces for the accumulator tile it. -/
theorem scover0_B_0 (y : S512x1024.Idx) : ∃ pc ∈ (kernelRun0_B c i arg3 harg3 arg4 harg4 arg5 harg5 arg6 harg6 arg7 harg7 arg8 harg8 arg9 harg9 hc0 hc1 x0 x1 x2 x3 x4 xt0 xs0).2.1, y ∈ pc.1.set :=
  View.cover_of_tiledL (kernelRun0_B c i arg3 harg3 arg4 harg4 arg5 harg5 arg6 harg6 arg7 harg7 arg8 harg8 arg9 harg9 hc0 hc1 x0 x1 x2 x3 x4 xt0 xs0).2.1 S512x1024.size (by sl_kernel_rfl) y

/-- What case B leaves in the accumulator: its pieces read back. -/
def sout0_B_0 : Vec F S512x1024 .f32 := VS0_0.read (Elt F) (VS0_0.writes (Elt F) VS0_0.junk (kernelRun0_B c i arg3 harg3 arg4 harg4 arg5 harg5 arg6 harg6 arg7 harg7 arg8 harg8 arg9 harg9 hc0 hc1 x0 x1 x2 x3 x4 xt0 xs0).2.1)

end SecondHalf

/-- What a point of the first half leaves: the output's staging buffer and the accumulator. -/
def left_A (hO : Ok m) (c : Dev nD) (t : Fin (cfgM m hO).N) (h0 : t.val % 2 = 0) (h1 : ¬t.val % 2 = 1) : Vec F S512x1024 .bf16 × Vec F S512x1024 .f32 :=
  (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (tbl m 0),
    sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) ((hcond0_0 t).mpr h0) (fun h => h1 ((hcond0_1 t).mp h)) (iblk m hO c 0 t) (iblk m hO c 1 t) (iblk m hO c 2 t) (iblk m hO c 3 t) (iblk m hO c 4 t) (tbl m 0))

/-- What a point of the second half leaves, over the accumulator `xs` it finds. -/
def left_B (hO : Ok m) (c : Dev nD) (t : Fin (cfgM m hO).N) (h0 : ¬t.val % 2 = 0) (h1 : t.val % 2 = 1) (xs : Vec F S512x1024 .f32) : Vec F S512x1024 .bf16 × Vec F S512x1024 .f32 :=
  (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (tbl m 0) xs,
    sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) (fun h => h0 ((hcond0_0 t).mp h)) ((hcond0_1 t).mpr h1) (iblk m hO c 0 t) (iblk m hO c 1 t) (iblk m hO c 2 t) (iblk m hO c 3 t) (iblk m hO c 4 t) (tbl m 0) xs)

/-! ## What the outputs hold after each point -/

/-- What the output's staging buffer and the accumulator hold after the body at position `n`: the half that position works on, over the
    accumulator the position before left. -/
def outsAt0 (hO : Ok m) (c : Dev nD) : (n : ℕ) → n < (cfgM m hO).N → Vec F S512x1024 .bf16 × Vec F S512x1024 .f32
  | 0, hn => left_A m hO c ⟨0, hn⟩ (Nat.zero_mod _) (by show ¬0 % 2 = 1; decide)
  | n + 1, hn =>
    if h0 : (n + 1) % 2 = 0 then left_A m hO c ⟨n + 1, hn⟩ h0 (by show ¬(n + 1) % 2 = 1; omega)
    else left_B m hO c ⟨n + 1, hn⟩ h0 (by show (n + 1) % 2 = 1; omega) (outsAt0 hO c n (Nat.lt_of_succ_lt hn)).2

/-- `outsAt0` at a point of the first half. -/
theorem outsAt0_A (hO : Ok m) (c : Dev nD) (t : Fin (cfgM m hO).N) (h0 : t.val % 2 = 0) (h1 : ¬t.val % 2 = 1) :
    outsAt0 m hO c t.val t.isLt = left_A m hO c t h0 h1 := by
  obtain ⟨n, hn⟩ := t
  cases n with
  | zero => exact rfl
  | succ n => rw [outsAt0, dif_pos h0]

/-- `outsAt0` at a point of the second half. -/
theorem outsAt0_B (hO : Ok m) (c : Dev nD) (t : Fin (cfgM m hO).N) (h0 : ¬t.val % 2 = 0) (h1 : t.val % 2 = 1) :
    outsAt0 m hO c t.val t.isLt = left_B m hO c t h0 h1 (outsAt0 m hO c (t.val - 1) (Nat.lt_of_le_of_lt (Nat.sub_le _ _) t.isLt)).2 := by
  obtain ⟨n, hn⟩ := t
  cases n with
  | zero => exact absurd (Nat.zero_mod _) h0
  | succ n => rw [outsAt0, dif_neg h0]; rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After point `n` (before point `n + 1`): the carried scratch at that point's contents. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2)) ∗ (∃ r, prngReg c r)) ∗ Pipeline.ΦT pre0 (tbl m) c) := rfl

/-- Before a point that is not the first: the carried scratch at what the point before left. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2)) ∗ (∃ r, prngReg c r)) ∗ Pipeline.ΦT pre0 (tbl m) c) := by
  cases n with
  | zero => exact absurd rfl hz
  | succ n => rfl

/-- The invariant at any point gives the first point's back: what the accumulator holds is forgotten. -/
theorem PhiS_any (hO : Ok m) (c : Dev nD) (n : ℕ) (h : n ≤ (cfgM m hO).N) : PhiS m hO c n h ⊢ iprop(Pipeline.ΦA spec0 c ∗ Pipeline.ΦT pre0 (tbl m) c) := by
  cases n with
  | zero => exact .rfl
  | succ n =>
    rw [PhiS_succ, PhiA0_eq]
    iintro ⟨⟨HS0, Hg⟩, HT⟩
    isplitl [HS0 Hg]
    · isplitl [HS0]
      · iexists _; iexact HS0
      iexact Hg
    iexact HT

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
  Φ t := PhiS m hO c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t.val t.isLt).1 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 80 := lt_of_lt_of_eq t.isLt (show (cfgM m hO).N = 80 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  by_cases h0 : t.val % 2 = 0
  · by_cases h1 : t.val % 2 = 1
    · exfalso; omega
    · rw [Dat.leavesExact_idle (dats m hO 0 c) 5 t (idleAt0_5_A m hO t ((hcond0_0 t).mpr h0) (fun h => h1 ((hcond0_1 t).mp h))) (noFlush0_5_A m hO t ((hcond0_0 t).mpr h0) (fun h => h1 ((hcond0_1 t).mp h)))]
      rw [PhiS_castSucc m hO c t]
      refine (sep_mono (PhiS_any m hO c t.val (Nat.le_of_lt t.isLt)) .rfl).trans ?_
      rw [PhiT0_eq, PhiA0_eq]
      rw [outsAt0_A m hO c t h0 h1]
      unfold left_A sout0_A_0; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (tbl m 0)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HT0]; · iexact HT0
      iintro ⟨H0, H1, H2, H3, H4, H5, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _)
          iexact Hg
        iexact HT0
      isplitl [Ho]; · iexact Ho
      isplitl [H0]; · iexact H0
      isplitl [H1]; · iexact H1
      isplitl [H2]; · iexact H2
      isplitl [H3]; · iexact H3
      isplitl [H4]; · iexact H4
      iexists _; iexact H5
  · by_cases h1 : t.val % 2 = 1
    · rw [show (dats m hO 0 c).leavesExact 5 t = owns (c : Thread nD τ) (ms0_5 m hO t) fullShare ((dats m hO 0 c).after 5 t) from by
      unfold Dat.leavesExact; rw [liveAt0_5_B m hO t (fun h => h0 ((hcond0_0 t).mp h)) ((hcond0_1 t).mpr h1)]; try rfl, after0_5]
      by_cases hz : t.val = 0
      · exfalso; have hN : t.val < 80 := lt_of_lt_of_eq t.isLt (show (cfgM m hO).N = 80 from N_0); omega
      · rw [PhiS_castSucc m hO c t, PhiS_pos m hO c _ _ hz, PhiT0_eq]
        rw [outsAt0_B m hO c t h0 h1]
        unfold left_B out0_B_5 sout0_B_0; (try dsimp only)
        iintro ⟨⟨⟨HS0, Hg⟩, HT0⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (tbl m 0) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HT0]; · iexact HT0
        iintro ⟨H0, H1, H2, H3, H4, ⟨%e5, H5⟩, ⟨%es0, HS0⟩, HT0⟩
        isplitl [HS0 Hg HT0]
        · isplitl [HS0 Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_B_5 c _ _ _ _ _ _ _ _ _ _ _ _ _ _ _ _ _ _ _ _ _ _ _ _)
    · exfalso; omega

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 80 := N_0; omega)

/-! ## The run and the frame -/

-- `θ_run_frameP_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

/-- The frame: every run ends with the argument arrays unchanged and every counter zero, for every prefetched table
    within the side condition `Gen.Ok m`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.CtxKernelIdeal.Launch

end
-- ==== Proof.CtxTableOk.lean ====
/- On the context stream: the expert table keeps every block the kernel fetches through it inside its array. -/
module

public import proofs.«01_k».proof.Defs
public import proofs.«01_k».proof.Proof.Gen.CtxKernelIdeal.Frame.Runs
public import Idealize.ShloMosaic.Lib.Pointwise

@[expose] public section

set_option maxRecDepth 16384

noncomputable section

namespace Cert.CtxKernelIdeal.Value

open Cert.CtxKernelIdeal Cert.CtxKernelIdeal.Gen Idealize.ShloMosaic Idealize.ShloMosaic.TcCoe Idealize.SL.Sem

variable {F : FTy → Type} [FloatOps F]

/-- The table word a window's index map reads at a grid point is the row tile's. -/
theorem word_at (pf : pre0.Contents (Elt F)) (i : grid0.Coords) :
    pf.at 0 (Rect.unit (s := S40) ![(Scalar.indexCast (BitVec.ofNat 32 (i 0).val)).toNat] S1.size (k0_off1_inb i)) numel1_S1
      = pf 0 (ix1 (i 0)) := by
  have r_i0 : (i 0).val < 40 := (i 0).isLt
  have e : (Scalar.indexCast (BitVec.ofNat 32 (i 0).val)).toNat = (i 0).val :=
    Affine.nat_eq (Affine.indexCast (Affine.ofNat (i 0).val (by omega))) _ rfl
  refine congrArg (pf 0) (funext fun (a : Fin 1) => Fin.ext ?_)
  obtain rfl : a = 0 := Subsingleton.elim _ _
  show (Scalar.indexCast (BitVec.ofNat 32 (i 0).val)).toNat + 1 * 0 = (i 0).val
  omega

/-- Window 1's block: the expert's gate columns, the half the inner coordinate names. -/
theorem index_1 (pf : pre0.Contents (Elt F)) (i : grid0.Coords) :
    cc0_transform_1 k0_off1_inb numel1_S1 pf i = ![(show BitVec 32 from pf 0 (ix1 (i 0))).toNat, 0, (i 1).val] := by
  have h1 : (i 1).val < 2 := (i 1).isLt
  have e : (BitVec.ofNat 32 (i 1).val).toNat = (i 1).val := by rw [BitVec.toNat_ofNat]; omega
  show ![_, _, _] = ![_, _, _]
  rw [word_at pf i, e]
  rfl

/-- Window 2's block: the expert's up columns, the half the inner coordinate names. -/
theorem index_2 (pf : pre0.Contents (Elt F)) (i : grid0.Coords) :
    cc0_transform_2 k0_off1_inb numel1_S1 pf i = ![(show BitVec 32 from pf 0 (ix1 (i 0))).toNat, 0, (i 1).val + 2] := by
  have h1 : (i 1).val < 2 := (i 1).isLt
  have e : (Scalar.addi (BitVec.ofNat 32 (i 1).val) 2#32).toNat = (i 1).val + 2 := by
    show (BitVec.ofNat 32 (i 1).val + 2#32).toNat = _
    rw [BitVec.toNat_add, BitVec.toNat_ofNat, BitVec.toNat_ofNat]; omega
  show ![_, _, _] = ![_, _, _]
  rw [word_at pf i, e]
  rfl

/-- Window 3's block: the expert's rows of the down projection, the half the inner coordinate names. -/
theorem index_3 (pf : pre0.Contents (Elt F)) (i : grid0.Coords) :
    cc0_transform_3 k0_off1_inb numel1_S1 pf i = ![(show BitVec 32 from pf 0 (ix1 (i 0))).toNat, (i 1).val, 0] := by
  have h1 : (i 1).val < 2 := (i 1).isLt
  have e : (BitVec.ofNat 32 (i 1).val).toNat = (i 1).val := by rw [BitVec.toNat_ofNat]; omega
  show ![_, _, _] = ![_, _, _]
  rw [word_at pf i, e]
  rfl

/-- With every word of the table below the number of experts, every block read through it is inside its array. -/
theorem ok_of_lt (pf : pre0.Contents (Elt F)) (h : ∀ y : S40.Idx, (show BitVec 32 from pf 0 y).toNat < 8) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h0 := h (ix1 (i 0))
    have h1 : (i 1).val < 2 := (i 1).isLt
  · rw [index_1]
    fin_cases a
    · show ((show BitVec 32 from pf 0 (ix1 (i 0))).toNat + 1) * 1 ≤ 8; omega
    · show (0 + 1) * 1024 ≤ 1024; omega
    · show ((i 1).val + 1) * 1792 ≤ 7168; omega
  · rw [index_2]
    fin_cases a
    · show ((show BitVec 32 from pf 0 (ix1 (i 0))).toNat + 1) * 1 ≤ 8; omega
    · show (0 + 1) * 1024 ≤ 1024; omega
    · show ((i 1).val + 2 + 1) * 1792 ≤ 7168; omega
  · rw [index_3]
    fin_cases a
    · show ((show BitVec 32 from pf 0 (ix1 (i 0))).toNat + 1) * 1 ≤ 8; omega
    · show ((i 1).val + 1) * 1792 ≤ 3584; omega
    · show (0 + 1) * 1024 ≤ 1024; omega

end Cert.CtxKernelIdeal.Value

end
-- ==== Proof.CtxHostStages.lean ====
/- On the context stream: what each stretch of the host's routing leaves in the arrays that the later ones read, from whatever it finds. -/
module

public import proofs.«01_k».proof.Proof.Gen.CtxKernelIdeal.Launch
public import Idealize.ShloMosaic.Lib.Routing.Model
public import Idealize.ShloMosaic.Lib.StableHlo.Run

@[expose] public section

set_option maxRecDepth 16384

noncomputable section

namespace Cert.CtxKernelIdeal.Value

open Cert.CtxKernelIdeal Cert.CtxKernelIdeal.Gen Idealize.ShloMosaic Idealize.ShloMosaic.TcCoe Idealize.SL.Sem

variable {F : FTy → Type} [FloatOps F] (W : Valuation τ sig (Elt F))

theorem s0_pick : StableHlo.after hostOps0 W (Proc.devRef .tc main_v11) =
    shapeCast S16384 (Host.topK S8192x2 1 (FloatOps.cmpfTotal .gt) (W (Proc.devRef .tc main_arg1)) sliceFits_S8192x8_S8192x2).2 shapeCasts_S8192x2_S16384 := by
  after_results; rfl

theorem s0_ones : StableHlo.after hostOps0 W (Proc.devRef .tc main_v18) =
    extui 32 (cmpi .eq (broadcastInDim S16384x8 ![0, 1] bcast_S16384x1_S16384x8_0_1 (broadcastInDim S16384x1 ![0] bcast_S16384_S16384x1_0
        (shapeCast S16384 (Host.topK S8192x2 1 (FloatOps.cmpfTotal .gt) (W (Proc.devRef .tc main_arg1)) sliceFits_S8192x8_S8192x2).2 shapeCasts_S8192x2_S16384)))
      (broadcastInDim S16384x8 ![0, 1] bcast_S1x8_S16384x8_0_1 (broadcastInDim S1x8 ![1] bcast_S8_S1x8_1 (iotaInDim S8 32 0)))) natLt_1_32 := by
  after_results; rfl

theorem s1_sums : StableHlo.after hostOps0_1 W (Proc.devRef .tc main_v19) =
    Host.reduceWindow IntOp.addi ![16384, 1] ![1, 1] ![16383, 0] ![0, 0] (W (Proc.devRef .tc main_v18))
      (broadcastInDim S_ ![] bcast_S_S_ (constantI S_ 32 0#32)) reduceWindows_S16384x8_S16384x8_w16384s1p16383_0_w1s1p0_0 h_S_ := by
  after_results; simp only [StableHlo.TRef.toBuf, StableHlo.TRef.ofBuf, cast_cast, cast_eq]

theorem s2_rank : StableHlo.after hostOps0_2 W (Proc.devRef .tc main_v22) =
    Host.reduce IntOp.addi (muli (subi (W (Proc.devRef .tc main_v19)) (W (Proc.devRef .tc main_v18))) (W (Proc.devRef .tc main_v18))) (constantI S_ 32 0#32) reducesTo_S16384x8_S16384_d1 h_S_ := by
  after_results

theorem s2_upto : StableHlo.after hostOps0_2 W (Proc.devRef .tc main_v27) =
    subi (addi (Host.reduce IntOp.addi (W (Proc.devRef .tc main_v18)) (constantI S_ 32 0#32) reducesTo_S16384x8_S8_d0 h_S_) (broadcastInDim S8 ![] bcast_S_S8 (constantI S_ 32 512#32))) (broadcastInDim S8 ![] bcast_S_S8 (constantI S_ 32 1#32)) := by
  after_results

theorem s2_tile : StableHlo.after hostOps0_2 W (Proc.devRef .tc main_c_5) =
    constantI S_ 32 512#32 := by
  after_results

theorem s3_tiles : StableHlo.after hostOps0_3 W (Proc.devRef .tc main_v28) =
    Routing.pyDiv bcast_S_S8 (W (Proc.devRef .tc main_v27)) (W (Proc.devRef .tc main_c_5)) := by
  after_results; simp only [StableHlo.TRef.toBuf, StableHlo.TRef.ofBuf, cast_cast, cast_eq]; rfl

theorem s4_places : StableHlo.after hostOps0_4 W (Proc.devRef .tc main_v30) =
    muli (W (Proc.devRef .tc main_v28)) (broadcastInDim S8 ![] bcast_S_S8 (constantI S_ 32 512#32)) := by
  after_results

theorem s5_ends : StableHlo.after hostOps0_5 W (Proc.devRef .tc main_v31) =
    Host.reduceWindow IntOp.addi ![8] ![1] ![7] ![0] (W (Proc.devRef .tc main_v30)) (broadcastInDim S_ ![] bcast_S_S_ (constantI S_ 32 0#32)) reduceWindows_S8_S8_w8s1p7_0 h_S_ := by
  after_results; simp only [StableHlo.TRef.toBuf, StableHlo.TRef.ofBuf, cast_cast, cast_eq]

theorem s6_place : StableHlo.after hostOps0_6 W (Proc.devRef .tc main_v40) =
    addi (Host.gather gather_S8_S16384x1_S16384_n_0_n_n_0_1_1 (subi (W (Proc.devRef .tc main_v31)) (W (Proc.devRef .tc main_v30))) (broadcastInDim S16384x1 ![0] bcast_S16384_S16384x1_0
      (select (cmpi .slt (W (Proc.devRef .tc main_v11)) (broadcastInDim S16384 ![] bcast_S_S16384 (constantI S_ 32 0#32))) (addi (W (Proc.devRef .tc main_v11)) (broadcastInDim S16384 ![] bcast_S_S16384 (constantI S_ 32 8#32))) (W (Proc.devRef .tc main_v11))))) (W (Proc.devRef .tc main_v22)) := by
  after_results

theorem s6_pair : StableHlo.after hostOps0_6 W (Proc.devRef .tc main_v49) =
    Host.scatter scatter_S20480_S16384x1_S16384_n_0_0_1 (fun _ b => b) (broadcastInDim S20480 ![] bcast_S_S20480 (constantI S_ 32 0#32)) (broadcastInDim S16384x1 ![0] bcast_S16384_S16384x1_0
      (select (cmpi .slt (StableHlo.after hostOps0_6 W (Proc.devRef .tc main_v40)) (broadcastInDim S16384 ![] bcast_S_S16384 (constantI S_ 32 0#32))) (addi (StableHlo.after hostOps0_6 W (Proc.devRef .tc main_v40)) (broadcastInDim S16384 ![] bcast_S_S16384 (constantI S_ 32 20480#32)))
        (StableHlo.after hostOps0_6 W (Proc.devRef .tc main_v40)))) (iotaInDim S16384 32 0) := by
  after_results

theorem s6_table : StableHlo.after hostOps0_6 W (Proc.devRef .tc main_v61) =
    minsi (Host.reduce IntOp.addi (extui 32 (cmpi .sle
        (broadcastInDim S40x8 ![0, 1] bcast_S1x8_S40x8_0_1 (broadcastInDim S1x8 ![1] bcast_S8_S1x8_1 (W (Proc.devRef .tc main_v31))))
        (broadcastInDim S40x8 ![0, 1] bcast_S40x1_S40x8_0_1 (broadcastInDim S40x1 ![0] bcast_S40_S40x1_0
          (muli (iotaInDim S40 32 0) (broadcastInDim S40 ![] bcast_S_S40 (constantI S_ 32 512#32)))))) natLt_1_32) (constantI S_ 32 0#32) reducesTo_S40x8_S40_d1 h_S_) (broadcastInDim S40 ![] bcast_S_S40 (constantI S_ 32 7#32)) := by
  after_results

theorem s6_two : StableHlo.after hostOps0_6 W (Proc.devRef .tc main_c_15) =
    constantI S_ 32 2#32 := by
  after_results

theorem s7_row : StableHlo.after hostOps0_7 W (Proc.devRef .tc main_v62) =
    Routing.pyDiv bcast_S_S20480 (W (Proc.devRef .tc main_v49)) (W (Proc.devRef .tc main_c_15)) := by
  after_results; simp only [StableHlo.TRef.toBuf, StableHlo.TRef.ofBuf, cast_cast, cast_eq]; rfl

theorem s8_rows : StableHlo.after hostOps0_8 W (Proc.devRef .tc main_v69) =
    Host.gather gather_S8192x1024_S20480x1_S20480x1024_1_0_n_n_0_1_11024 (W (Proc.devRef .tc main_arg0)) (broadcastInDim S20480x1 ![0] bcast_S20480_S20480x1_0
      (select (cmpi .slt (W (Proc.devRef .tc main_v62)) (broadcastInDim S20480 ![] bcast_S_S20480 (constantI S_ 32 0#32))) (addi (W (Proc.devRef .tc main_v62)) (broadcastInDim S20480 ![] bcast_S_S20480 (constantI S_ 32 8192#32))) (W (Proc.devRef .tc main_v62)))) := by
  after_results

theorem s8_weights : StableHlo.after hostOps0_8 W (Proc.devRef .tc main_v78) =
    broadcastInDim S20480x1 ![0] bcast_S20480_S20480x1_0 (Host.gather gather_S16384_S20480x1_S20480_n_0_n_n_0_1_1
      (shapeCast S16384 (W (Proc.devRef .tc main_v10)) shapeCasts_S8192x2_S16384) (broadcastInDim S20480x1 ![0] bcast_S20480_S20480x1_0
      (select (cmpi .slt (W (Proc.devRef .tc main_v49)) (broadcastInDim S20480 ![] bcast_S_S20480 (constantI S_ 32 0#32))) (addi (W (Proc.devRef .tc main_v49)) (broadcastInDim S20480 ![] bcast_S_S20480 (constantI S_ 32 16384#32))) (W (Proc.devRef .tc main_v49))))) := by
  after_results; rfl

theorem s8_gu : StableHlo.after hostOps0_8 W (Proc.devRef .tc main_v79) =
    truncf .bf16 (W (Proc.devRef .tc main_arg2)) bitsLt_bf16_f32 := by
  after_results

theorem s8_down : StableHlo.after hostOps0_8 W (Proc.devRef .tc main_v80) =
    truncf .bf16 (W (Proc.devRef .tc main_arg3)) bitsLt_bf16_f32 := by
  after_results

theorem k1_v10 : StableHlo.after hostOps0_1 W (Proc.devRef .tc main_v10) = W (Proc.devRef .tc main_v10) := by
  after_results

theorem k1_v11 : StableHlo.after hostOps0_1 W (Proc.devRef .tc main_v11) = W (Proc.devRef .tc main_v11) := by
  after_results

theorem k1_v18 : StableHlo.after hostOps0_1 W (Proc.devRef .tc main_v18) = W (Proc.devRef .tc main_v18) := by
  after_results

theorem k1_arg0 : StableHlo.after hostOps0_1 W (Proc.devRef .tc main_arg0) = W (Proc.devRef .tc main_arg0) := by
  after_results

theorem k1_arg2 : StableHlo.after hostOps0_1 W (Proc.devRef .tc main_arg2) = W (Proc.devRef .tc main_arg2) := by
  after_results

theorem k1_arg3 : StableHlo.after hostOps0_1 W (Proc.devRef .tc main_arg3) = W (Proc.devRef .tc main_arg3) := by
  after_results

theorem k2_v10 : StableHlo.after hostOps0_2 W (Proc.devRef .tc main_v10) = W (Proc.devRef .tc main_v10) := by
  after_results

theorem k2_v11 : StableHlo.after hostOps0_2 W (Proc.devRef .tc main_v11) = W (Proc.devRef .tc main_v11) := by
  after_results

theorem k2_arg0 : StableHlo.after hostOps0_2 W (Proc.devRef .tc main_arg0) = W (Proc.devRef .tc main_arg0) := by
  after_results

theorem k2_arg2 : StableHlo.after hostOps0_2 W (Proc.devRef .tc main_arg2) = W (Proc.devRef .tc main_arg2) := by
  after_results

theorem k2_arg3 : StableHlo.after hostOps0_2 W (Proc.devRef .tc main_arg3) = W (Proc.devRef .tc main_arg3) := by
  after_results

theorem k3_v10 : StableHlo.after hostOps0_3 W (Proc.devRef .tc main_v10) = W (Proc.devRef .tc main_v10) := by
  after_results

theorem k3_v11 : StableHlo.after hostOps0_3 W (Proc.devRef .tc main_v11) = W (Proc.devRef .tc main_v11) := by
  after_results

theorem k3_v22 : StableHlo.after hostOps0_3 W (Proc.devRef .tc main_v22) = W (Proc.devRef .tc main_v22) := by
  after_results

theorem k3_arg0 : StableHlo.after hostOps0_3 W (Proc.devRef .tc main_arg0) = W (Proc.devRef .tc main_arg0) := by
  after_results

theorem k3_arg2 : StableHlo.after hostOps0_3 W (Proc.devRef .tc main_arg2) = W (Proc.devRef .tc main_arg2) := by
  after_results

theorem k3_arg3 : StableHlo.after hostOps0_3 W (Proc.devRef .tc main_arg3) = W (Proc.devRef .tc main_arg3) := by
  after_results

theorem k4_v10 : StableHlo.after hostOps0_4 W (Proc.devRef .tc main_v10) = W (Proc.devRef .tc main_v10) := by
  after_results

theorem k4_v11 : StableHlo.after hostOps0_4 W (Proc.devRef .tc main_v11) = W (Proc.devRef .tc main_v11) := by
  after_results

theorem k4_v22 : StableHlo.after hostOps0_4 W (Proc.devRef .tc main_v22) = W (Proc.devRef .tc main_v22) := by
  after_results

theorem k4_arg0 : StableHlo.after hostOps0_4 W (Proc.devRef .tc main_arg0) = W (Proc.devRef .tc main_arg0) := by
  after_results

theorem k4_arg2 : StableHlo.after hostOps0_4 W (Proc.devRef .tc main_arg2) = W (Proc.devRef .tc main_arg2) := by
  after_results

theorem k4_arg3 : StableHlo.after hostOps0_4 W (Proc.devRef .tc main_arg3) = W (Proc.devRef .tc main_arg3) := by
  after_results

theorem k5_v10 : StableHlo.after hostOps0_5 W (Proc.devRef .tc main_v10) = W (Proc.devRef .tc main_v10) := by
  after_results

theorem k5_v11 : StableHlo.after hostOps0_5 W (Proc.devRef .tc main_v11) = W (Proc.devRef .tc main_v11) := by
  after_results

theorem k5_v22 : StableHlo.after hostOps0_5 W (Proc.devRef .tc main_v22) = W (Proc.devRef .tc main_v22) := by
  after_results

theorem k5_v30 : StableHlo.after hostOps0_5 W (Proc.devRef .tc main_v30) = W (Proc.devRef .tc main_v30) := by
  after_results

theorem k5_arg0 : StableHlo.after hostOps0_5 W (Proc.devRef .tc main_arg0) = W (Proc.devRef .tc main_arg0) := by
  after_results

theorem k5_arg2 : StableHlo.after hostOps0_5 W (Proc.devRef .tc main_arg2) = W (Proc.devRef .tc main_arg2) := by
  after_results

theorem k5_arg3 : StableHlo.after hostOps0_5 W (Proc.devRef .tc main_arg3) = W (Proc.devRef .tc main_arg3) := by
  after_results

theorem k6_v10 : StableHlo.after hostOps0_6 W (Proc.devRef .tc main_v10) = W (Proc.devRef .tc main_v10) := by
  after_results

theorem k6_arg0 : StableHlo.after hostOps0_6 W (Proc.devRef .tc main_arg0) = W (Proc.devRef .tc main_arg0) := by
  after_results

theorem k6_arg2 : StableHlo.after hostOps0_6 W (Proc.devRef .tc main_arg2) = W (Proc.devRef .tc main_arg2) := by
  after_results

theorem k6_arg3 : StableHlo.after hostOps0_6 W (Proc.devRef .tc main_arg3) = W (Proc.devRef .tc main_arg3) := by
  after_results

theorem k7_v10 : StableHlo.after hostOps0_7 W (Proc.devRef .tc main_v10) = W (Proc.devRef .tc main_v10) := by
  after_results

theorem k7_v40 : StableHlo.after hostOps0_7 W (Proc.devRef .tc main_v40) = W (Proc.devRef .tc main_v40) := by
  after_results

theorem k7_v49 : StableHlo.after hostOps0_7 W (Proc.devRef .tc main_v49) = W (Proc.devRef .tc main_v49) := by
  after_results

theorem k7_v61 : StableHlo.after hostOps0_7 W (Proc.devRef .tc main_v61) = W (Proc.devRef .tc main_v61) := by
  after_results

theorem k7_arg0 : StableHlo.after hostOps0_7 W (Proc.devRef .tc main_arg0) = W (Proc.devRef .tc main_arg0) := by
  after_results

theorem k7_arg2 : StableHlo.after hostOps0_7 W (Proc.devRef .tc main_arg2) = W (Proc.devRef .tc main_arg2) := by
  after_results

theorem k7_arg3 : StableHlo.after hostOps0_7 W (Proc.devRef .tc main_arg3) = W (Proc.devRef .tc main_arg3) := by
  after_results

theorem k8_v40 : StableHlo.after hostOps0_8 W (Proc.devRef .tc main_v40) = W (Proc.devRef .tc main_v40) := by
  after_results

theorem k8_v61 : StableHlo.after hostOps0_8 W (Proc.devRef .tc main_v61) = W (Proc.devRef .tc main_v61) := by
  after_results

theorem k0_arg0 : StableHlo.after hostOps0 W (Proc.devRef .tc main_arg0) = W (Proc.devRef .tc main_arg0) := by
  after_results

theorem k0_arg2 : StableHlo.after hostOps0 W (Proc.devRef .tc main_arg2) = W (Proc.devRef .tc main_arg2) := by
  after_results

theorem k0_arg3 : StableHlo.after hostOps0 W (Proc.devRef .tc main_arg3) = W (Proc.devRef .tc main_arg3) := by
  after_results

end Cert.CtxKernelIdeal.Value

end
-- ==== Proof.CtxHostPlan.lean ====
/- On the context stream: what the kernel and the last gathers find: the table of the tiles' experts, each pair's place, the rows and weights at the places. -/
module

public import proofs.«01_k».proof.Proof.CtxHostStages
public import proofs.«01_k».proof.Proof.Places
public import proofs.«01_k».proof.Proof.Gen.CtxKernelIdeal.Frame.Runs

@[expose] public section

set_option maxRecDepth 16384

noncomputable section

namespace Cert.CtxKernelIdeal.Value

open Cert.CtxKernelIdeal Cert.CtxKernelIdeal.Gen Idealize.ShloMosaic Idealize.ShloMosaic.TcCoe Idealize.SL.Sem

/-- Stretches one after another. -/
theorem after_join {F : FTy → Type} [FloatOps F] (l k : List (HloOp τ sig (Elt F))) (W : Valuation τ sig (Elt F)) :
    StableHlo.after (l ++ k) W = StableHlo.after k (StableHlo.after l W) := by
  induction l generalizing W with
  | nil => rfl
  | cons op l ih => exact ih _

/-- The two best experts of each row, from its scores. -/
def best (L : FVec Ideal S8192x8 .f32) : IVec S8192x2 32 :=
  (Host.topK S8192x2 1 (FloatOps.cmpfTotal .gt) L sliceFits_S8192x8_S8192x2).2
/-- Pair `i` is row `i / 2`'s choice `i % 2`: the expert it names. -/
def expertOf (L : FVec Ideal S8192x8 .f32) (i : ℕ) : ℕ :=
  if h : i < 16384 then (best L (ValueIdx.ix2 (⟨i / 2, by omega⟩ : Fin 8192) (⟨i % 2, by omega⟩ : Fin 2))).toNat else 0

theorem best_word (L : FVec Ideal S8192x8 .f32) (t : Fin 8192) (k : Fin 2) : ∃ v : Fin 8, best L (ValueIdx.ix2 t k) = BitVec.ofNat 32 v.val :=
  Moe.topK_word _ L _ t k
theorem expertOf_lt (L : FVec Ideal S8192x8 .f32) (i : ℕ) : expertOf L i < 8 := by
  unfold expertOf
  split
  · obtain ⟨v, hv⟩ := best_word L ⟨i / 2, by omega⟩ ⟨i % 2, by omega⟩
    rw [hv, BitVec.toNat_ofNat]
    have := v.isLt
    omega
  · decide
theorem best_eq (L : FVec Ideal S8192x8 .f32) (t : Fin 8192) (k : Fin 2) : best L (ValueIdx.ix2 t k) = BitVec.ofNat 32 (expertOf L (t.val * 2 + k.val)) := by
  have ht := t.isLt
  have hk := k.isLt
  unfold expertOf
  rw [dif_pos (by omega)]
  have e1 : (⟨(t.val * 2 + k.val) / 2, by omega⟩ : Fin 8192) = t := Fin.ext (by show (t.val * 2 + k.val) / 2 = t.val; omega)
  have e2 : (⟨(t.val * 2 + k.val) % 2, by omega⟩ : Fin 2) = k := Fin.ext (by show (t.val * 2 + k.val) % 2 = k.val; omega)
  rw [e1, e2, BitVec.ofNat_toNat, BitVec.setWidth_eq]

theorem pick_at (L : FVec Ideal S8192x8 .f32) (p : Fin 16384) :
    shapeCast S16384 (best L) shapeCasts_S8192x2_S16384 (ValueIdx.ix1 p) = BitVec.ofNat 32 (expertOf L p.val) := by
  have hp := p.isLt
  rw [Routing.cast21 (best L) shapeCasts_S8192x2_S16384 ⟨p.val / 2, by omega⟩ ⟨p.val % 2, by omega⟩ p (by show p.val = p.val / 2 * 2 + p.val % 2; omega), best_eq]
  congr 2
  show p.val / 2 * 2 + p.val % 2 = p.val
  omega

variable (m : (ℓ : Loc nD τ sig) → Buf (Elt Ideal) ℓ) (c : Dev nD)

/-- The rows, their scores, and the two arrays of expert weights. -/
abbrev aH : Vec Ideal S8192x1024 .bf16 := m ((c : Thread nD τ).loc main_arg0)
abbrev aL : Vec Ideal S8192x8 .f32 := m ((c : Thread nD τ).loc main_arg1)
abbrev aW : Vec Ideal S8x1024x7168 .f32 := m ((c : Thread nD τ).loc main_arg2)
abbrev aD : Vec Ideal S8x3584x1024 .f32 := m ((c : Thread nD τ).loc main_arg3)

/-- What the host has after each of its stretches. -/
def W1 : Valuation τ sig (Elt Ideal) := StableHlo.after hostOps0 (fun b => m (c, b))
def W2 : Valuation τ sig (Elt Ideal) := StableHlo.after hostOps0_1 (W1 m c)
def W3 : Valuation τ sig (Elt Ideal) := StableHlo.after hostOps0_2 (W2 m c)
def W4 : Valuation τ sig (Elt Ideal) := StableHlo.after hostOps0_3 (W3 m c)
def W5 : Valuation τ sig (Elt Ideal) := StableHlo.after hostOps0_4 (W4 m c)
def W6 : Valuation τ sig (Elt Ideal) := StableHlo.after hostOps0_5 (W5 m c)
def W7 : Valuation τ sig (Elt Ideal) := StableHlo.after hostOps0_6 (W6 m c)
def W8 : Valuation τ sig (Elt Ideal) := StableHlo.after hostOps0_7 (W7 m c)

theorem V0_eq : V0 m c = StableHlo.after hostOps0_8 (W8 m c) := by
  unfold V0 W8 W7 W6 W5 W4 W3 W2 W1
  simp only [List.flatten_cons, List.flatten_nil, List.append_nil, after_join]
theorem V_eq (b : Ref sig .tc) : V m c b = StableHlo.after hostOps0_8 (W8 m c) (Proc.devRef .tc b) := congrFun (V0_eq m c) _

/-- The expert of a pair. -/
abbrev ex : ℕ → ℕ := expertOf (aL m c)
theorem ex_lt (i : ℕ) : ex m c i < 8 := expertOf_lt _ i

theorem W_pick1 : W1 m c (Proc.devRef .tc main_v11) = shapeCast S16384 (best (aL m c)) shapeCasts_S8192x2_S16384 := s0_pick _
theorem W_pick6 : W6 m c (Proc.devRef .tc main_v11) = shapeCast S16384 (best (aL m c)) shapeCasts_S8192x2_S16384 := by
  unfold W6 W5 W4 W3 W2; rw [k5_v11, k4_v11, k3_v11, k2_v11, k1_v11, W_pick1]

/-- The mask of pairs and experts. -/
abbrev msk : IVec S16384x8 1 :=
  cmpi .eq (broadcastInDim S16384x8 ![0, 1] bcast_S16384x1_S16384x8_0_1 (broadcastInDim S16384x1 ![0] bcast_S16384_S16384x1_0
        (shapeCast S16384 (best (aL m c)) shapeCasts_S8192x2_S16384)))
      (broadcastInDim S16384x8 ![0, 1] bcast_S1x8_S16384x8_0_1 (broadcastInDim S1x8 ![1] bcast_S8_S1x8_1 (iotaInDim S8 32 0)))
theorem msk_at (p : Fin 16384) (q : Fin 8) : msk m c (ValueIdx.ix2 p q) = 1#1 ↔ ex m c p.val = q.val :=
  Moe.mask_at (ex m c) (ex_lt m c) _ (pick_at (aL m c)) _ _ _ _ p q
theorem W_ones1 : W1 m c (Proc.devRef .tc main_v18) = extui 32 (msk m c) natLt_1_32 := s0_ones _
theorem W_ones2 : W2 m c (Proc.devRef .tc main_v18) = extui 32 (msk m c) natLt_1_32 := by
  unfold W2; rw [k1_v18, W_ones1]
theorem W_sums2 : W2 m c (Proc.devRef .tc main_v19) = Host.reduceWindow IntOp.addi ![16384, 1] ![1, 1] ![16383, 0] ![0, 0] (extui 32 (msk m c) natLt_1_32)
      (broadcastInDim S_ ![] bcast_S_S_ (constantI S_ 32 0#32)) reduceWindows_S16384x8_S16384x8_w16384s1p16383_0_w1s1p0_0 h_S_ := by
  unfold W2; rw [s1_sums, W_ones1]
theorem reduces : (Routing.shape2 16384 8).Reduces [1] (Routing.shape1 16384) := by decide
theorem W_rank3 (p : Fin 16384) : (show IVec S16384 32 from W3 m c (Proc.devRef .tc main_v22)) (ValueIdx.ix1 p) = BitVec.ofNat 32 (Moe.chosen (ex m c) (ex m c p.val) p.val) := by
  unfold W3; rw [s2_rank, W_ones2]
  exact Moe.rank_at (ex m c) (ex_lt m c) (msk m c) (msk_at m c) natLt_1_32 rfl _ _ (Routing.bc0 bcast_S_S_ _ _) _ _ (W_sums2 m c) _ reduces _ p
theorem W_rank6 (p : Fin 16384) : (show IVec S16384 32 from W6 m c (Proc.devRef .tc main_v22)) (ValueIdx.ix1 p) = BitVec.ofNat 32 (Moe.chosen (ex m c) (ex m c p.val) p.val) := by
  unfold W6 W5 W4; rw [k5_v22, k4_v22, k3_v22]; exact W_rank3 m c p

theorem W_places5 (q : Fin 8) : (show IVec S8 32 from W5 m c (Proc.devRef .tc main_v30)) (ValueIdx.ix1 q) = BitVec.ofNat 32 (Moe.places (ex m c) 16384 q.val) := by
  refine Moe.places_at (ex m c) (by decide) (Host.reduce IntOp.addi (extui 32 (msk m c) natLt_1_32) (constantI S_ 32 0#32) reducesTo_S16384x8_S8_d0 h_S_)
    (W3 m c (Proc.devRef .tc main_v27)) _ (W3 m c (Proc.devRef .tc main_c_5)) bcast_S_S8
    (fun q => Moe.counts_at (ex m c) (by decide) (msk m c) (msk_at m c) natLt_1_32 _ _ q) ?_ ?_ ?_ q
  · unfold W3; rw [s2_tile]; rfl
  · unfold W3; rw [s2_upto, W_ones2]
  · show W5 m c (Proc.devRef .tc main_v30) = _
    unfold W5 W4; rw [s4_places, s3_tiles]
theorem W_places6 (q : Fin 8) : (show IVec S8 32 from W6 m c (Proc.devRef .tc main_v30)) (ValueIdx.ix1 q) = BitVec.ofNat 32 (Moe.places (ex m c) 16384 q.val) := by
  unfold W6; rw [k5_v30]; exact W_places5 m c q
theorem W_ends6 (q : Fin 8) : (show IVec S8 32 from W6 m c (Proc.devRef .tc main_v31)) (ValueIdx.ix1 q) = BitVec.ofNat 32 (Moe.placesEnd (ex m c) 16384 q.val) := by
  unfold W6; rw [s5_ends]
  exact Moe.ends_at (ex m c) _ (W_places5 m c) _ (Routing.bc0 bcast_S_S_ _ _) _ _ q

theorem W_place7 (p : Fin 16384) : (show IVec S16384 32 from W7 m c (Proc.devRef .tc main_v40)) (ValueIdx.ix1 p) = BitVec.ofNat 32 (Moe.place (ex m c) 16384 p.val) := by
  unfold W7; rw [s6_place, W_pick6]
  exact Moe.place_at (ex m c) (ex_lt m c) _ _ _ _ (pick_at (aL m c)) (W_rank6 m c) (W_places6 m c) (W_ends6 m c) _ rfl rfl rfl rfl _ _ p
theorem W_pair7 (p : Fin 16384) (r : Fin 20480) (hr : r.val = Moe.place (ex m c) 16384 p.val) :
    (show IVec S20480 32 from W7 m c (Proc.devRef .tc main_v49)) (ValueIdx.ix1 r) = BitVec.ofNat 32 p.val := by
  unfold W7; rw [s6_pair]
  exact Moe.pair_at (ex m c) (ex_lt m c) (by decide) (by omega) _ (W_place7 m c) _ rfl rfl rfl _ _ _ p r hr

/-- Each pair's place, as the last gathers read it. -/
theorem V_place (p : Fin 16384) : (show IVec S16384 32 from V m c main_v40) (ValueIdx.ix1 p) = BitVec.ofNat 32 (Moe.place (ex m c) 16384 p.val) := by
  rw [V_eq, k8_v40]; unfold W8; rw [k7_v40]; exact W_place7 m c p

/-- The table names the pair's expert for the tile its place lies in. -/
theorem V_table (p : Fin 16384) (t : Fin 40) (ht : t.val = Moe.place (ex m c) 16384 p.val / 512) :
    (show IVec S40 32 from V m c main_v61) (ValueIdx.ix1 t) = BitVec.ofNat 32 (ex m c p.val) := by
  rw [V_eq, k8_v61]; unfold W8; rw [k7_v61]; unfold W7; rw [s6_table]
  exact Moe.table_at (ex m c) (ex_lt m c) (by decide) (by omega) _ (W_ends6 m c) _ _ _ _ _ _ _ _ p t ht
/-- Every word of the table is an expert's number. -/
theorem V_table_lt (t : Fin 40) : ∃ x : Fin 8, (show IVec S40 32 from V m c main_v61) (ValueIdx.ix1 t) = BitVec.ofNat 32 x.val := by
  rw [V_eq, k8_v61]; unfold W8; rw [k7_v61]; unfold W7; rw [s6_table]
  exact Moe.table_lt _ _ _ _ _ t

theorem W_row8 (p : Fin 16384) (r : Fin 20480) (hr : r.val = Moe.place (ex m c) 16384 p.val) :
    (show IVec S20480 32 from W8 m c (Proc.devRef .tc main_v62)) (ValueIdx.ix1 r) = BitVec.ofNat 32 (p.val / 2) := by
  have hp := p.isLt
  unfold W8; rw [s7_row]
  refine Routing.pyDiv_ap bcast_S_S20480 _ _ _ (W_pair7 m c p r hr) ?_ (by omega) (by decide) (by decide)
  unfold W7; rw [s6_two]; rfl
theorem W_pair8 (p : Fin 16384) (r : Fin 20480) (hr : r.val = Moe.place (ex m c) 16384 p.val) :
    (show IVec S20480 32 from W8 m c (Proc.devRef .tc main_v49)) (ValueIdx.ix1 r) = BitVec.ofNat 32 p.val := by
  unfold W8; rw [k7_v49]; exact W_pair7 m c p r hr

theorem W_rows8 : W8 m c (Proc.devRef .tc main_arg0) = aH m c := by
  unfold W8 W7 W6 W5 W4 W3 W2 W1; rw [k7_arg0, k6_arg0, k5_arg0, k4_arg0, k3_arg0, k2_arg0, k1_arg0, k0_arg0]
theorem W_gu8 : W8 m c (Proc.devRef .tc main_arg2) = aW m c := by
  unfold W8 W7 W6 W5 W4 W3 W2 W1; rw [k7_arg2, k6_arg2, k5_arg2, k4_arg2, k3_arg2, k2_arg2, k1_arg2, k0_arg2]
theorem W_down8 : W8 m c (Proc.devRef .tc main_arg3) = aD m c := by
  unfold W8 W7 W6 W5 W4 W3 W2 W1; rw [k7_arg3, k6_arg3, k5_arg3, k4_arg3, k3_arg3, k2_arg3, k1_arg3, k0_arg3]
theorem W_soft8 : W8 m c (Proc.devRef .tc main_v10) = W1 m c (Proc.devRef .tc main_v10) := by
  unfold W8 W7 W6 W5 W4 W3 W2; rw [k7_v10, k6_v10, k5_v10, k4_v10, k3_v10, k2_v10, k1_v10]

/-- The row at a pair's place is the pair's row. -/
theorem V_rows (p : Fin 16384) (r : Fin 20480) (hr : r.val = Moe.place (ex m c) 16384 p.val) (t : Fin 8192) (ht : t.val = p.val / 2) (k : Fin 1024) :
    (show Vec Ideal S20480x1024 .bf16 from V m c main_v69) (ValueIdx.ix2 r k) = aH m c (ValueIdx.ix2 t k) := by
  have hp := p.isLt
  rw [V_eq, s8_rows, W_rows8]
  refine Routing.gather_row _ rfl rfl rfl rfl rfl (aH m c) _ r k t ?_ (by decide)
  rw [Routing.bcCol, ht]
  exact Moe.wrap_word _ _ _ _ _ (W_row8 m c p r hr) (by omega) (Routing.bc0 bcast_S_S20480 _ _)

/-- The weights of the pairs: the softmax of the two best scores. -/
abbrev soft : Vec Ideal S8192x2 .f32 := W1 m c (Proc.devRef .tc main_v10)
/-- The weight at a pair's place is the pair's. -/
theorem V_weights (p : Fin 16384) (r : Fin 20480) (hr : r.val = Moe.place (ex m c) 16384 p.val) (t : Fin 8192) (k : Fin 2) (ht : p.val = t.val * 2 + k.val) :
    (show Vec Ideal S20480x1 .f32 from V m c main_v78) (ValueIdx.ix2 r (0 : Fin 1)) = soft m c (ValueIdx.ix2 t k) := by
  have hp := p.isLt
  rw [V_eq, s8_weights, W_soft8]
  refine (Routing.bcCol bcast_S20480_S20480x1_0 _ r).trans ?_
  refine (Routing.gather_take1 _ rfl rfl rfl rfl _ _ r p ?_ (by decide)).trans (Routing.cast21 _ shapeCasts_S8192x2_S16384 t k p ht)
  rw [Routing.bcCol]
  exact Moe.wrap_word _ _ _ _ _ (W_pair8 m c p r hr) (by omega) (Routing.bc0 bcast_S_S20480 _ _)

/-- The expert weights reach the kernel unchanged: at this instance the rounding on the host is the identity. -/
theorem V_gu : V m c main_v79 = aW m c := by
  rw [V_eq, s8_gu, W_gu8]; rfl
theorem V_down : V m c main_v80 = aD m c := by
  rw [V_eq, s8_down, W_down8]; rfl

end Cert.CtxKernelIdeal.Value

end
-- ==== Proof.CtxPayloads.lean ====
/- On the context stream: what the feed-forward kernel's three stored values hold, at one row and one column of the tile. -/
module

public import proofs.«01_k».proof.Proof.Gen.CtxKernelIdeal.Skeleton
public import proofs.«01_k».proof.Proof.Swiglu

@[expose] public section

set_option maxRecDepth 16384

noncomputable section

namespace Cert.CtxKernelIdeal.Value

open Cert.CtxKernelIdeal Cert.CtxKernelIdeal.Gen Idealize.ShloMosaic Idealize.ShloMosaic.TcCoe Idealize.SL.Sem

/-- The accumulator is first set to zero. -/
theorem pay1_at (r : Fin 512) (d : Fin 1024) : k0_pay1 (F := Ideal) (ix2 r d) = 0 := by
  pointwise [k0_pay1]

/-- A grid point adds half the expert's hidden units to the accumulator. -/
theorem pay2_at (x : Vec Ideal S512x1024 .bf16) (g u : Vec Ideal S1x1024x1792 .bf16) (a : Vec Ideal S512x1024 .f32) (v : Vec Ideal S1x1792x1024 .bf16) (r : Fin 512) (d : Fin 1024) :
    k0_pay2 x g u a v (ix2 r d) = (show EReal from a (ix2 r d))
      + ∑ f : Fin 1792, Moe.silu (∑ k : Fin 1024, x (ix2 r k) * g (ix3 0 k f)) * (∑ k : Fin 1024, x (ix2 r k) * u (ix3 0 k f)) * v (ix3 0 f d) := by
  pointwise [k0_pay2]
  rfl

/-- The tile is written out times the row's weight. -/
theorem pay3_at (y : Vec Ideal S512x1024 .f32) (s : Vec Ideal S512x1 .f32) (r : Fin 512) (d : Fin 1024) :
    k0_pay3 y s (ix2 r d) = (show EReal from y (ix2 r d)) * s (ix2 r 0) := by
  pointwise [k0_pay3]

end Cert.CtxKernelIdeal.Value

end
-- ==== Proof.CtxKernelValue.lean ====
/- On the context stream: the array the feed-forward kernel leaves, at every row and column. -/
module

public import proofs.«01_k».proof.Proof.CtxLaunchIdeal
public import proofs.«01_k».proof.Proof.CtxTableOk
public import proofs.«01_k».proof.Proof.CtxHostPlan
public import proofs.«01_k».proof.Proof.CtxPayloads
public import Idealize.ShloMosaic.Lib.Pipeline.ValueKit
public import Idealize.ShloMosaic.Lib.Pipeline.Covers

@[expose] public section

set_option maxRecDepth 16384

noncomputable section

namespace Cert.CtxKernelIdeal.Value

open Cert.CtxKernelIdeal Cert.CtxKernelIdeal.Gen Cert.CtxKernelIdeal.Launch Idealize.ShloMosaic Idealize.ShloMosaic.TcCoe Idealize.SL.Sem
open Idealize.ShloMosaic.Pipeline (Dat)

variable (m : (ℓ : Loc nD τ sig) → Buf (Elt Ideal) ℓ)

/-- The expert the table names for row tile `i`. -/
abbrev word (i : Fin 40) : BitVec 32 := V m 0 main_v61 (ix1 i)

/-- The table names experts, whatever the arguments hold. -/
theorem word_lt (i : Fin 40) : ∃ e : Fin 8, word m i = BitVec.ofNat 32 e.val := V_table_lt m 0 i

/-- So the kernel's table is in range. -/
theorem ok : Ok m := by
  refine ok_of_lt _ fun y => ?_
  obtain ⟨t, rfl⟩ : ∃ t : Fin 40, y = ix1 t := ⟨y (0 : Fin 1), funext fun (a : Fin 1) => by match a with | 0 => rfl⟩
  obtain ⟨x, hx⟩ := word_lt m t
  have h := x.isLt
  show (word m t).toNat < 8
  rw [hx, BitVec.toNat_ofNat]
  omega

/-- A grid point's coordinates: the row tile and the half of the hidden axis. -/
theorem coords_val (t : Fin grid0.N) : (grid0.coords t 0).val = t.val / 2 ∧ (grid0.coords t 1).val = t.val % 2 := by
  have ht : t.val < 80 := Nat.lt_of_lt_of_eq t.isLt N_0
  have e0 : (grid0.coords t 0).val = t.val / 2 % 40 := Pipeline.Grid.coords_val t 0 (by decide) rfl
  have e1 : (grid0.coords t 1).val = t.val / 1 % 2 := Pipeline.Grid.coords_val t 1 (by decide) rfl
  omega

variable (hO : Ok m)

theorem idx5 (t : Fin (cfgM m hO).N) : ((cfgM m hO).win 5).index t = ![t.val / 2, 0] := by
  have h := coords_val t
  have ht : t.val < 80 := Nat.lt_of_lt_of_eq t.isLt N_0
  show cc0_transform_5 (grid0.coords t) = _
  unfold cc0_transform_5
  show ![(BitVec.ofNat 32 (grid0.coords t 0).val).toNat, 0] = ![t.val / 2, 0]
  rw [h.1, BitVec.toNat_ofNat, Nat.mod_eq_of_lt (by omega)]

theorem covers5 : ((cfgM m hO).win 5).Covers := by
  refine Pipeline.Window.covers_of_index_surj _ rfl (fun (a : Fin 2) => ?_) fun β => ?_
  · match a with
    | 0 => exact (by decide : 0 < 512)
    | 1 => exact (by decide : 0 < 1024)
  · have h0 : (β (0 : Fin 2)).val < (20480 + 512 - 1) / 512 := (β (0 : Fin 2)).isLt
    have h1 : (β (1 : Fin 2)).val < (1024 + 1024 - 1) / 1024 := (β (1 : Fin 2)).isLt
    refine ⟨⟨2 * (β (0 : Fin 2)).val, by rw [show (cfgM m hO).grid.N = 80 from N_0]; omega⟩, fun (a : Fin 2) => ?_⟩
    rw [idx5]
    match a with
    | 0 => show 2 * (β (0 : Fin 2)).val / 2 = (β (0 : Fin 2)).val; omega
    | 1 => show 0 = (β (1 : Fin 2)).val; omega

theorem idx0 (t : Fin (cfgM m hO).N) : ((cfgM m hO).win 0).index t = ![t.val / 2, 0] := idx5 m hO t
theorem idx4 (t : Fin (cfgM m hO).N) : ((cfgM m hO).win 4).index t = ![t.val / 2, 0] := idx5 m hO t
theorem tile_lt (t : Fin (cfgM m hO).N) : t.val / 2 < 40 := by
  have ht : t.val < 80 := Nat.lt_of_lt_of_eq t.isLt N_0
  omega
theorem coord_eq (t : Fin (cfgM m hO).N) : grid0.coords t 0 = ⟨t.val / 2, tile_lt m hO t⟩ := Fin.ext (coords_val t).1
theorem word_eq (t : Fin (cfgM m hO).N) : (show BitVec 32 from tbl m 0 (ix1 (grid0.coords t 0))) = word m ⟨t.val / 2, tile_lt m hO t⟩ := by
  rw [coord_eq m hO t]
  rfl
theorem idx1 (t : Fin (cfgM m hO).N) : ((cfgM m hO).win 1).index t = ![(word m ⟨t.val / 2, tile_lt m hO t⟩).toNat, 0, t.val % 2] := by
  rw [← word_eq m hO t, ← (coords_val t).2]; exact index_1 _ _
theorem idx2 (t : Fin (cfgM m hO).N) : ((cfgM m hO).win 2).index t = ![(word m ⟨t.val / 2, tile_lt m hO t⟩).toNat, 0, t.val % 2 + 2] := by
  rw [← word_eq m hO t, ← (coords_val t).2]; exact index_2 _ _
theorem idx3 (t : Fin (cfgM m hO).N) : ((cfgM m hO).win 3).index t = ![(word m ⟨t.val / 2, tile_lt m hO t⟩).toNat, t.val % 2, 0] := by
  rw [← word_eq m hO t, ← (coords_val t).2]; exact index_3 _ _

/-- A block of rows, and a block of row weights, read out of any array. -/
theorem read0 (A : Vec Ideal S20480x1024 .bf16) (t : Fin (cfgM m hO).N) (r : Fin 512) (k : Fin 1024) (r' : Fin 20480) (hr : r'.val = t.val / 2 * 512 + r.val) :
    (show EReal from (((cfgM m hO).win 0).blk t).view.read (Elt Ideal) A (ix2 r k)) = (show EReal from A (ix2 r' k)) := by
  blk_ext [idx0 m hO t]
theorem read4 (A : Vec Ideal S20480x1 .f32) (t : Fin (cfgM m hO).N) (r : Fin 512) (r' : Fin 20480) (hr : r'.val = t.val / 2 * 512 + r.val) :
    (show EReal from (((cfgM m hO).win 4).blk t).view.read (Elt Ideal) A (ix2 r 0)) = (show EReal from A (ix2 r' 0)) := by
  blk_ext [idx4 m hO t]
theorem blk0 (c : Dev nD) (t : Fin (cfgM m hO).N) (r : Fin 512) (k : Fin 1024) (r' : Fin 20480) (hr : r'.val = t.val / 2 * 512 + r.val) :
    (show EReal from iblk m hO c 0 t (ix2 r k)) = (show EReal from V m c main_v69 (ix2 r' k)) :=
  read0 m hO (V m c main_v69) t r k r' hr
theorem blk4 (c : Dev nD) (t : Fin (cfgM m hO).N) (r : Fin 512) (r' : Fin 20480) (hr : r'.val = t.val / 2 * 512 + r.val) :
    (show EReal from iblk m hO c 4 t (ix2 r 0)) = (show EReal from V m c main_v78 (ix2 r' 0)) :=
  read4 m hO (V m c main_v78) t r r' hr
theorem blk1 (c : Dev nD) (t : Fin (cfgM m hO).N) (k : Fin 1024) (f : Fin 1792) (e : Fin 8)
    (he : word m ⟨t.val / 2, tile_lt m hO t⟩ = BitVec.ofNat 32 e.val) (f' : Fin 7168) (hf : f'.val = t.val % 2 * 1792 + f.val) :
    (show EReal from iblk m hO c 1 t (ix3 0 k f)) = (show EReal from aW m c (ix3 e k f')) := by
  have hw : (word m ⟨t.val / 2, tile_lt m hO t⟩).toNat = e.val := by rw [he, BitVec.toNat_ofNat]; omega
  refine (congrFun (congrArg ((((cfgM m hO).win 1).blk t).view.read (Elt Ideal)) (V_gu m c)) _).trans ?_
  blk_ext [idx1 m hO t, hw]
theorem blk2 (c : Dev nD) (t : Fin (cfgM m hO).N) (k : Fin 1024) (f : Fin 1792) (e : Fin 8)
    (he : word m ⟨t.val / 2, tile_lt m hO t⟩ = BitVec.ofNat 32 e.val) (f' : Fin 7168) (hf : f'.val = 3584 + t.val % 2 * 1792 + f.val) :
    (show EReal from iblk m hO c 2 t (ix3 0 k f)) = (show EReal from aW m c (ix3 e k f')) := by
  have hw : (word m ⟨t.val / 2, tile_lt m hO t⟩).toNat = e.val := by rw [he, BitVec.toNat_ofNat]; omega
  refine (congrFun (congrArg ((((cfgM m hO).win 2).blk t).view.read (Elt Ideal)) (V_gu m c)) _).trans ?_
  blk_ext [idx2 m hO t, hw]
theorem blk3 (c : Dev nD) (t : Fin (cfgM m hO).N) (f : Fin 1792) (d : Fin 1024) (e : Fin 8)
    (he : word m ⟨t.val / 2, tile_lt m hO t⟩ = BitVec.ofNat 32 e.val) (f' : Fin 3584) (hf : f'.val = t.val % 2 * 1792 + f.val) :
    (show EReal from iblk m hO c 3 t (ix3 0 f d)) = (show EReal from aD m c (ix3 e f' d)) := by
  have hw : (word m ⟨t.val / 2, tile_lt m hO t⟩).toNat = e.val := by rw [he, BitVec.toNat_ofNat]; omega
  refine (congrFun (congrArg ((((cfgM m hO).win 3).blk t).view.read (Elt Ideal)) (V_down m c)) _).trans ?_
  blk_ext [idx3 m hO t, hw]

/-- What the first half leaves in the accumulator, over any blocks. -/
theorem half_A {c : Dev nD} {i : grid0.Coords} {arg3 : Memref sig .tc .vmem S512x1024 .bf16} {harg3 : arg3.IsWhole} {arg4 : Memref sig .tc .vmem S1x1024x1792 .bf16} {harg4 : arg4.IsWhole} {arg5 : Memref sig .tc .vmem S1x1024x1792 .bf16} {harg5 : arg5.IsWhole} {arg6 : Memref sig .tc .vmem S1x1792x1024 .bf16} {harg6 : arg6.IsWhole} {arg7 : Memref sig .tc .vmem S512x1 .f32} {harg7 : arg7.IsWhole} {arg8 : Memref sig .tc .vmem S512x1024 .bf16} {harg8 : arg8.IsWhole} {arg9 : Memref sig .tc .vmem S512x1024 .f32} {harg9 : arg9.IsWhole} {hc0 : cond0_0 i} {hc1 : ¬cond0_1 i}
    {x0 : Vec Ideal S512x1024 .bf16} {x1 : Vec Ideal S1x1024x1792 .bf16} {x2 : Vec Ideal S1x1024x1792 .bf16} {x3 : Vec Ideal S1x1792x1024 .bf16} {x4 : Vec Ideal S512x1 .f32} {xt0 : TbBuf0 (F := Ideal) c tbM0_0} :
    sout0_A_0 c i arg3 harg3 arg4 harg4 arg5 harg5 arg6 harg6 arg7 harg7 arg8 harg8 arg9 harg9 hc0 hc1 x0 x1 x2 x3 x4 xt0 = k0_pay2 x0 x1 x2 (k0_pay1 (F := Ideal)) x3 := by
  frame_out

/-- What the second half stores in the tile's block, over any blocks and accumulator. -/
theorem half_B {c : Dev nD} {i : grid0.Coords} {arg3 : Memref sig .tc .vmem S512x1024 .bf16} {harg3 : arg3.IsWhole} {arg4 : Memref sig .tc .vmem S1x1024x1792 .bf16} {harg4 : arg4.IsWhole} {arg5 : Memref sig .tc .vmem S1x1024x1792 .bf16} {harg5 : arg5.IsWhole} {arg6 : Memref sig .tc .vmem S1x1792x1024 .bf16} {harg6 : arg6.IsWhole} {arg7 : Memref sig .tc .vmem S512x1 .f32} {harg7 : arg7.IsWhole} {arg8 : Memref sig .tc .vmem S512x1024 .bf16} {harg8 : arg8.IsWhole} {arg9 : Memref sig .tc .vmem S512x1024 .f32} {harg9 : arg9.IsWhole} {hc0 : ¬cond0_0 i} {hc1 : cond0_1 i}
    {x0 : Vec Ideal S512x1024 .bf16} {x1 : Vec Ideal S1x1024x1792 .bf16} {x2 : Vec Ideal S1x1024x1792 .bf16} {x3 : Vec Ideal S1x1792x1024 .bf16} {x4 : Vec Ideal S512x1 .f32} {xt0 : TbBuf0 (F := Ideal) c tbM0_0} {xs0 : Vec Ideal S512x1024 .f32} :
    out0_B_5 c i arg3 harg3 arg4 harg4 arg5 harg5 arg6 harg6 arg7 harg7 arg8 harg8 arg9 harg9 hc0 hc1 x0 x1 x2 x3 x4 xt0 xs0 = k0_pay3 (k0_pay2 x0 x1 x2 xs0 x3) x4 := by
  frame_out

/-- What the first half leaves in the accumulator. -/
theorem acc_A (c : Dev nD) (t : Fin (cfgM m hO).N) (h0 : t.val % 2 = 0) (h1 : ¬t.val % 2 = 1) :
    (outsAt0 m hO c t.val t.isLt).2 = k0_pay2 (iblk m hO c 0 t) (iblk m hO c 1 t) (iblk m hO c 2 t) (k0_pay1 (F := Ideal)) (iblk m hO c 3 t) := by
  rw [outsAt0_A m hO c t h0 h1, left_A]; dsimp only; exact half_A

/-- What the second half stores in the tile's block. -/
theorem out_B (c : Dev nD) (t : Fin (cfgM m hO).N) (h0 : ¬t.val % 2 = 0) (h1 : t.val % 2 = 1) (t' : Fin (cfgM m hO).N) (ht : t'.val = t.val - 1) :
    (outsAt0 m hO c t.val t.isLt).1 = k0_pay3 (k0_pay2 (iblk m hO c 0 t) (iblk m hO c 1 t) (iblk m hO c 2 t) (outsAt0 m hO c t'.val t'.isLt).2 (iblk m hO c 3 t)) (iblk m hO c 4 t) := by
  have hlt : t.val - 1 < (cfgM m hO).N := ht ▸ t'.isLt
  obtain rfl : t' = ⟨t.val - 1, hlt⟩ := Fin.ext ht
  rw [outsAt0_B m hO c t h0 h1, left_B]; dsimp only; exact half_B

/-- The rows gathered for the kernel and their weights. -/
abbrev aX (c : Dev nD) : Vec Ideal S20480x1024 .bf16 := V m c main_v69
abbrev aR (c : Dev nD) : Vec Ideal S20480x1 .f32 := V m c main_v78

/-- One half's product at a row and column, as units of the row's expert: `φ` places the half's units on the hidden axis. -/
theorem half_at (x : Vec Ideal S512x1024 .bf16) (g u : Vec Ideal S1x1024x1792 .bf16) (a : Vec Ideal S512x1024 .f32)
    (v : Vec Ideal S1x1792x1024 .bf16) (r : Fin 512) (d : Fin 1024) (X : Fin 1024 → EReal) (W : Fin 1024 → Fin 7168 → EReal)
    (D : Fin 3584 → Fin 1024 → EReal) (φ : Fin 1792 → Fin 3584) (hx : ∀ k, x (ix2 r k) = X k)
    (hg : ∀ k f, g (ix3 0 k f) = W k ⟨(φ f).val, by omega⟩) (hu : ∀ k f, u (ix3 0 k f) = W k ⟨3584 + (φ f).val, by omega⟩)
    (hv : ∀ f, v (ix3 0 f d) = D (φ f) d) :
    k0_pay2 x g u a v (ix2 r d) = a (ix2 r d) + ∑ f : Fin 1792, Moe.unit X W D d (φ f) := by
  refine (pay2_at x g u a v r d).trans ?_
  simp only [hx, hg, hu, hv]
  rfl

theorem half (c : Dev nD) (t : Fin (cfgM m hO).N) (r : Fin 512) (d : Fin 1024) (r' : Fin 20480) (hr : r'.val = t.val / 2 * 512 + r.val)
    (e : Fin 8) (he : word m ⟨t.val / 2, tile_lt m hO t⟩ = BitVec.ofNat 32 e.val) (a : Vec Ideal S512x1024 .f32) (φ : Fin 1792 → Fin 3584)
    (hφ : ∀ f, (φ f).val = t.val % 2 * 1792 + f.val) :
    k0_pay2 (iblk m hO c 0 t) (iblk m hO c 1 t) (iblk m hO c 2 t) a (iblk m hO c 3 t) (ix2 r d) =
      a (ix2 r d) + ∑ f : Fin 1792, Moe.unit (fun k => aX m c (ix2 r' k)) (fun k f => aW m c (ix3 e k f)) (fun f d => aD m c (ix3 e f d)) d (φ f) :=
  half_at (iblk m hO c 0 t) (iblk m hO c 1 t) (iblk m hO c 2 t) a (iblk m hO c 3 t) r d _ _ _ φ
    (fun k => blk0 m hO c t r k r' hr) (fun k f => blk1 m hO c t k f e he _ (hφ f))
    (fun k f => blk2 m hO c t k f e he _ (by show 3584 + (φ f).val = _; rw [hφ f]; omega))
    (fun f => blk3 m hO c t f d e he _ (hφ f))

/-- The array the kernel leaves is any array which at each row and column holds the row's weight times what the expert of the
    row's tile makes of the row. -/
theorem final (c : Dev nD) (G : Vec Ideal S20480x1024 .bf16) (hlt : ∀ i, ∃ e : Fin 8, word m i = BitVec.ofNat 32 e.val)
    (hG : ∀ (r : Fin 20480) (d : Fin 1024) (e : Fin 8), word m ⟨r.val / 512, by omega⟩ = BitVec.ofNat 32 e.val →
      G (ix2 r d) = (aR m c (ix2 r 0) *
        Moe.expertOut (fun k => aX m c (ix2 r k)) (fun k f => aW m c (ix3 e k f)) (fun f d => aD m c (ix3 e f d)) d : EReal)) :
    (dats m hO 0 c).arrAt 5 (cfgM m hO).N = G := by
  refine (dats m hO 0 c).arrAt_eq_of_covers 5 _ (covers5 m hO) fun t hf y => ?_
  have h1 : t.val % 2 = 1 := (flush0_5 (adm m hO) t).1 hf
  have h80 : t.val < 80 := Nat.lt_of_lt_of_eq t.isLt N_0
  have hN : t.val - 1 < (cfgM m hO).N := Nat.lt_of_le_of_lt (Nat.sub_le _ _) t.isLt
  have h0 : (t.val - 1) % 2 = 0 := by omega
  have hd : (t.val - 1) / 2 = t.val / 2 := by omega
  blk_simp
  rw [after0_5, out_B m hO c t (by omega) h1 ⟨t.val - 1, hN⟩ rfl, acc_A m hO c ⟨t.val - 1, hN⟩ h0 (by show ¬(t.val - 1) % 2 = 1; omega)]
  obtain ⟨r, d, rfl⟩ : ∃ (r : Fin 512) (d : Fin 1024), y = ix2 r d := ⟨y (0 : Fin 2), y (1 : Fin 2), eq_ix2 _⟩
  obtain ⟨r', hr⟩ : ∃ r' : Fin 20480, r'.val = t.val / 2 * 512 + r.val := ⟨⟨t.val / 2 * 512 + r.val, by have := r.isLt; omega⟩, rfl⟩
  have hE : G ((((cfgM m hO).win 5).blk t).view.emb (ix2 r d)) = G (ix2 r' d) := by
    blk_ext [idx5 m hO t]
  obtain ⟨e, he⟩ := hlt ⟨t.val / 2, tile_lt m hO t⟩
  have he' : word m ⟨(t.val - 1) / 2, tile_lt m hO ⟨t.val - 1, hN⟩⟩ = BitVec.ofNat 32 e.val := by
    rw [← he]; congr 2
  refine Eq.trans ?_ hE.symm
  refine Eq.trans ?_ (hG r' d e (by rw [← he]; congr 2; have := r.isLt; omega)).symm
  refine ((pay3_at _ _ r d).trans (mul_comm (G := EReal) _ _)).trans ?_
  rw [Moe.expertOut_halves]
  refine congr_arg₂ (fun a b : EReal => a * b) (blk4 m hO c t r r' hr) ?_
  rw [half m hO c t r d r' hr e he _ (fun f => ⟨1792 + f.val, by omega⟩) (fun f => by show 1792 + f.val = _; omega),
    half m hO c ⟨t.val - 1, hN⟩ r d r' (by rw [hr]; show _ = (t.val - 1) / 2 * 512 + r.val; omega) e he' _ (fun f => ⟨f.val, by omega⟩)
      (fun f => by show f.val = (t.val - 1) % 2 * 1792 + f.val; omega), pay1_at, zero_add]

end Cert.CtxKernelIdeal.Value

end
-- ==== Proof.CtxHostTail.lean ====
/- On the context stream: the lines after the kernel: each row takes its two pairs' rows back from their places. -/
module

public import proofs.«01_k».proof.Proof.Gen.CtxKernelIdeal.Launch
public import proofs.«01_k».proof.Proof.HostWords

@[expose] public section

set_option maxRecDepth 16384

noncomputable section

namespace Cert.CtxKernelIdeal.Value

open Cert.CtxKernelIdeal Cert.CtxKernelIdeal.Gen Idealize.ShloMosaic Idealize.ShloMosaic.TcCoe Idealize.SL.Sem

variable {F : FTy → Type} [FloatOps F]

/-- The places of the first and of the second choices, out of all places. -/
def firsts (P : IVec S16384 32) : IVec S8192 32 :=
  shapeCast S8192 (extractStridedSlice S8192x1 ![0, 0] (shapeCast S8192x2 P shapeCasts_S16384_S8192x2) slices_S8192x2_S8192x1_0_0) shapeCasts_S8192x1_S8192
def seconds (P : IVec S16384 32) : IVec S8192 32 :=
  shapeCast S8192 (extractStridedSlice S8192x1 ![0, 1] (shapeCast S8192x2 P shapeCasts_S16384_S8192x2) slices_S8192x2_S8192x1_0_1) shapeCasts_S8192x1_S8192

/-- The rows of an array at given places. -/
def taken (Y : Vec F S20480x1024 .bf16) (p : IVec S8192 32) : Vec F S8192x1024 .bf16 :=
  Host.gather gather_S20480x1024_S8192x1_S8192x1024_1_0_n_n_0_1_11024 Y (broadcastInDim S8192x1 ![0] bcast_S8192_S8192x1_0
    (select (cmpi .slt p (broadcastInDim S8192 ![] bcast_S_S8192 (constantI S_ 32 0#32))) (addi p (broadcastInDim S8192 ![] bcast_S_S8192 (constantI S_ 32 20480#32))) p))

theorem tail_first (W : Valuation τ sig (Elt F)) : StableHlo.after hostOps1 W (Proc.devRef .tc main_v91) =
    taken (F := F) (W (Proc.devRef .tc main_v81)) (firsts (W (Proc.devRef .tc main_v40))) := by
  after_results; rfl
theorem tail_second (W : Valuation τ sig (Elt F)) : StableHlo.after hostOps1 W (Proc.devRef .tc main_v100) =
    taken (F := F) (W (Proc.devRef .tc main_v81)) (seconds (W (Proc.devRef .tc main_v40))) := by
  after_results; rfl

theorem slice_second {α : Type} (x : S8192x2.Idx → α) (t : Fin 8192) :
    extractStridedSlice S8192x1 ![0, 1] x slices_S8192x2_S8192x1_0_1 (ValueIdx.ix2 t (0 : Fin 1)) = x (ValueIdx.ix2 t (1 : Fin 2)) := by
  unfold extractStridedSlice
  refine congrArg x (funext fun (a : Fin 2) => Fin.ext ?_)
  match a with
  | 0 => show 0 + t.val = t.val; exact Nat.zero_add _
  | 1 => rfl

theorem firsts_at (P : IVec S16384 32) (t : Fin 8192) (p : Fin 16384) (hp : p.val = t.val * 2 + 0) : firsts P (ValueIdx.ix1 t) = P (ValueIdx.ix1 p) := by
  unfold firsts
  refine (Routing.cast21 _ shapeCasts_S8192x1_S8192 t (0 : Fin 1) t (by show t.val = t.val * 1 + 0; omega)).trans ?_
  refine (Routing.slice_col0 _ slices_S8192x2_S8192x1_0_0 t (by decide)).trans ?_
  exact Routing.cast12 P shapeCasts_S16384_S8192x2 t (0 : Fin 2) p hp
theorem seconds_at (P : IVec S16384 32) (t : Fin 8192) (p : Fin 16384) (hp : p.val = t.val * 2 + 1) : seconds P (ValueIdx.ix1 t) = P (ValueIdx.ix1 p) := by
  unfold seconds
  refine (Routing.cast21 _ shapeCasts_S8192x1_S8192 t (0 : Fin 1) t (by show t.val = t.val * 1 + 0; omega)).trans ?_
  refine (slice_second _ t).trans ?_
  exact Routing.cast12 P shapeCasts_S16384_S8192x2 t (1 : Fin 2) p hp

theorem taken_at (Y : Vec F S20480x1024 .bf16) (p : IVec S8192 32) (t : Fin 8192) (d : Fin 1024) (r : Fin 20480)
    (hr : p (ValueIdx.ix1 t) = BitVec.ofNat 32 r.val) : taken (F := F) Y p (ValueIdx.ix2 t d) = Y (ValueIdx.ix2 r d) := by
  have h := r.isLt
  unfold taken
  refine Routing.gather_row _ rfl rfl rfl rfl rfl Y _ t d r ?_ (by decide)
  rw [Routing.bcCol]
  exact Moe.wrap_word _ _ _ _ _ hr (by omega) (Routing.bc0 bcast_S_S8192 _ _)

end Cert.CtxKernelIdeal.Value

end
-- ==== Proof.CtxRefTerm.lean ====
/- On the context stream: the reference's two results, read at one row and one column: the row's weight for its choice times the SwiGLU output of the
   expert it chooses. -/
module

public import proofs.«01_k».proof.Proof.Gen.CtxReferenceIdeal.Run
public import proofs.«01_k».proof.Proof.Swiglu

@[expose] public section

set_option maxRecDepth 16384

noncomputable section

namespace Cert.CtxReferenceIdeal.Value

open Cert.CtxReferenceIdeal Cert.CtxReferenceIdeal.Gen Idealize.ShloMosaic Idealize.ShloMosaic.TcCoe Idealize.SL.Sem

/-- The exponentials of two scores less their greater. -/
def raised (T : FVec Ideal S8192x2 .f32) : FVec Ideal S8192x2 .f32 :=
  Host.exp (subf T (broadcastInDim S8192x2 ![0, 1] bcast_S8192x1_S8192x2_0_1 (broadcastInDim S8192x1 ![0] bcast_S8192_S8192x1_0 (maximumf (broadcastInDim S8192 ![] bcast_S_S8192 (constant S_ .f32 0xFF800000#32)) (Host.reduce FloatOps.maximumf T (constant S_ .f32 0xFF800000#32) reducesTo_S8192x2_S8192_d1 h_S_)))))
/-- The softmax of each row's two best scores. -/
def SOFT (L : FVec Ideal S8192x8 .f32) : FVec Ideal S8192x2 .f32 :=
  Host.divf (raised ((Host.topK S8192x2 1 (FloatOps.cmpfTotal .gt) L sliceFits_S8192x8_S8192x2).1)) (broadcastInDim S8192x2 ![0, 1] bcast_S8192x1_S8192x2_0_1 (broadcastInDim S8192x1 ![0] bcast_S8192_S8192x1_0 (Host.reduceAdd (raised ((Host.topK S8192x2 1 (FloatOps.cmpfTotal .gt) L sliceFits_S8192x8_S8192x2).1)) (constant S_ .f32 0x00000000#32) reducesTo_S8192x2_S8192_d1 h_S_)))
/-- Each row's two best experts. -/
def PICK (L : FVec Ideal S8192x8 .f32) : IVec S8192x2 32 := (Host.topK S8192x2 1 (FloatOps.cmpfTotal .gt) L sliceFits_S8192x8_S8192x2).2
/-- Every expert's gate and up projections of every row. -/
def both (X : FVec Ideal S8192x1024 .bf16) (W : FVec Ideal S8x1024x7168 .f32) : FVec Ideal S8x7168x8192 .f32 :=
  Host.dotGeneral dot_S8x1024x7168_S8192x1024_S8x7168x8192_1_1_02_0_n_n none W (extf .f32 X bitsLt_bf16_f32)
/-- Every expert's output on every row. -/
def OUTS (X : FVec Ideal S8192x1024 .bf16) (W : FVec Ideal S8x1024x7168 .f32) (D : FVec Ideal S8x3584x1024 .f32) : FVec Ideal S8x8192x1024 .f32 :=
  Host.dotGeneral dot_S8x8192x3584_S8x3584x1024_S8x8192x1024_2_1_1_2_0_0 none (mulf (mulf (extractStridedSlice S8x8192x3584 ![0, 0, 0] (transpose S8x8192x7168 [0, 2, 1] (both X W) transposes_S8x7168x8192_S8x8192x7168_0_2_1) slices_S8x8192x7168_S8x8192x3584_0_0_0) (Host.divf (broadcastInDim S8x8192x3584 ![] bcast_S_S8x8192x3584 (constant S_ .f32 0x3F800000#32)) (addf (broadcastInDim S8x8192x3584 ![] bcast_S_S8x8192x3584 (constant S_ .f32 0x3F800000#32)) (Host.exp (Host.negf (extractStridedSlice S8x8192x3584 ![0, 0, 0] (transpose S8x8192x7168 [0, 2, 1] (both X W) transposes_S8x7168x8192_S8x8192x7168_0_2_1) slices_S8x8192x7168_S8x8192x3584_0_0_0)))))) (extractStridedSlice S8x8192x3584 ![0, 0, 3584] (transpose S8x8192x7168 [0, 2, 1] (both X W) transposes_S8x7168x8192_S8x8192x7168_0_2_1) slices_S8x8192x7168_S8x8192x3584_0_0_3584)) D
/-- The experts' outputs weighted by the gates of each choice. -/
def MIX (G : FVec Ideal S8192x2 .f32) (P : IVec S8192x2 32) (Y : FVec Ideal S8x8192x1024 .f32) : FVec Ideal S8192x1024x2 .f32 :=
  Host.dotGeneral dot_S8x8192x1024_S8192x2x8_S8192x1024x2_0_2_2_1_1_0 none Y (mulf (broadcastInDim S8192x2x8 ![0, 1, 2] bcast_S8192x2x1_S8192x2x8_0_1_2 (broadcastInDim S8192x2x1 ![0, 1] bcast_S8192x2_S8192x2x1_0_1 G)) (uitofp .f32 (cmpi .eq (broadcastInDim S8192x2x8 ![0, 1, 2] bcast_S8192x2x1_S8192x2x8_0_1_2 (broadcastInDim S8192x2x1 ![0, 1] bcast_S8192x2_S8192x2x1_0_1 P)) (broadcastInDim S8192x2x8 ![0, 1, 2] bcast_S1x1x8_S8192x2x8_0_1_2 (iotaInDim S1x1x8 32 2)))))
/-- The first and the second choice's share. -/
def SHARE0 (M : FVec Ideal S8192x1024x2 .f32) : FVec Ideal S8192x1024 .bf16 :=
  truncf .bf16 (shapeCast _ (extractStridedSlice S1x8192x1024 ![0, 0, 0] (transpose S2x8192x1024 [2, 0, 1] (M) transposes_S8192x1024x2_S2x8192x1024_2_0_1) slices_S2x8192x1024_S1x8192x1024_0_0_0) shapeCasts_S1x8192x1024_S8192x1024) bitsLt_bf16_f32
def SHARE1 (M : FVec Ideal S8192x1024x2 .f32) : FVec Ideal S8192x1024 .bf16 :=
  truncf .bf16 (shapeCast _ (extractStridedSlice S1x8192x1024 ![1, 0, 0] (transpose S2x8192x1024 [2, 0, 1] (M) transposes_S8192x1024x2_S2x8192x1024_2_0_1) slices_S2x8192x1024_S1x8192x1024_1_0_0) shapeCasts_S1x8192x1024_S8192x1024) bitsLt_bf16_f32

/-- The reference's two results over its four argument arrays. -/
def REF0 (X : FVec Ideal S8192x1024 .bf16) (L : FVec Ideal S8192x8 .f32) (W : FVec Ideal S8x1024x7168 .f32) (D : FVec Ideal S8x3584x1024 .f32) : FVec Ideal S8192x1024 .bf16 :=
  SHARE0 (MIX (SOFT L) (PICK L) (OUTS X W D))
def REF1 (X : FVec Ideal S8192x1024 .bf16) (L : FVec Ideal S8192x8 .f32) (W : FVec Ideal S8x1024x7168 .f32) (D : FVec Ideal S8x3584x1024 .f32) : FVec Ideal S8192x1024 .bf16 :=
  SHARE1 (MIX (SOFT L) (PICK L) (OUTS X W D))

theorem share0_at (M : FVec Ideal S8192x1024x2 .f32) (t : Fin 8192) (d : Fin 1024) : SHARE0 M (ix2 t d) = M (ix3 t d 0) := by
  pointwise [SHARE0]
theorem share1_at (M : FVec Ideal S8192x1024x2 .f32) (t : Fin 8192) (d : Fin 1024) : SHARE1 M (ix2 t d) = M (ix3 t d 1) := by
  pointwise [SHARE1]

theorem outs_at (X : FVec Ideal S8192x1024 .bf16) (W : FVec Ideal S8x1024x7168 .f32) (D : FVec Ideal S8x3584x1024 .f32) (e : Fin 8) (t : Fin 8192) (d : Fin 1024) :
    OUTS X W D (ix3 e t d) = Moe.expertOut (fun k => X (ix2 t k)) (fun k f => W (ix3 e k f)) (fun f d => D (ix3 e f d)) d := by
  have hc : ∀ (e : Fin 8) (j : Fin 7168), (∑ k : Fin 1024, W (ix3 e k j) * X (ix2 t k) : EReal) = ∑ k : Fin 1024, X (ix2 t k) * W (ix3 e k j) :=
    fun e j => Finset.sum_congr rfl fun k _ => mul_comm _ _
  pointwise [OUTS, both]
  simp only [hc]
  exact Finset.sum_congr rfl fun f _ => rfl

/-- An expert number names itself and no other expert. -/
theorem expert_eq (e x : Fin 8) : (BitVec.ofNat 32 e.val = BitVec.ofNat 32 x.val) ↔ x = e := by
  revert e x; decide

theorem bit_zero : (FloatOps.uitofp (F := Ideal) .f32 (0#1) : EReal) = 0 := by
  show (((0#1 : BitVec 1).toNat : ℝ) : EReal) = 0
  simp
theorem bit_one : (FloatOps.uitofp (F := Ideal) .f32 (1#1) : EReal) = 1 := by
  show (((1#1 : BitVec 1).toNat : ℝ) : EReal) = 1
  simp

/-- Of the sum over the experts only the one chosen survives: every other gate is zero. -/
theorem mix_at (G : FVec Ideal S8192x2 .f32) (P : IVec S8192x2 32) (Y : FVec Ideal S8x8192x1024 .f32) (t : Fin 8192) (d : Fin 1024) (k : Fin 2)
    (e : Fin 8) (he : P (ix2 t k) = BitVec.ofNat 32 e.val) : MIX G P Y (ix3 t d k) = (G (ix2 t k) * Y (ix3 e t d) : EReal) := by
  pointwise [MIX]
  simp only [he, IntOp.cmpi, expert_eq, BitVec.ofBool]
  refine (Finset.sum_eq_single e (fun x _ hx => ?_) (fun h => absurd (Finset.mem_univ _) h)).trans ?_
  · have hne : (BitVec.ofNat 32 e.val == BitVec.ofNat 32 x.val) = false :=
      beq_eq_false_iff_ne.2 fun h => hx ((expert_eq e x).1 h)
    rw [hne]
    show (Y (ix3 x t d) * (G (ix2 t k) * FloatOps.uitofp (F := Ideal) .f32 (0#1)) : EReal) = 0
    rw [bit_zero, mul_zero, mul_zero]
  · rw [beq_self_eq_true]
    show (Y (ix3 e t d) * (G (ix2 t k) * FloatOps.uitofp (F := Ideal) .f32 (1#1)) : EReal) = G (ix2 t k) * Y (ix3 e t d)
    rw [bit_one, mul_one, mul_comm]

/-- Each result is the choice's weight times the output of the expert chosen. -/
theorem ref0_at (X : FVec Ideal S8192x1024 .bf16) (L : FVec Ideal S8192x8 .f32) (W : FVec Ideal S8x1024x7168 .f32) (D : FVec Ideal S8x3584x1024 .f32)
    (t : Fin 8192) (d : Fin 1024) (e : Fin 8) (he : PICK L (ix2 t 0) = BitVec.ofNat 32 e.val) :
    REF0 X L W D (ix2 t d) = (SOFT L (ix2 t 0) * Moe.expertOut (fun k => X (ix2 t k)) (fun k f => W (ix3 e k f)) (fun f d => D (ix3 e f d)) d : EReal) := by
  unfold REF0
  rw [share0_at, mix_at _ _ _ t d 0 e he, outs_at]
theorem ref1_at (X : FVec Ideal S8192x1024 .bf16) (L : FVec Ideal S8192x8 .f32) (W : FVec Ideal S8x1024x7168 .f32) (D : FVec Ideal S8x3584x1024 .f32)
    (t : Fin 8192) (d : Fin 1024) (e : Fin 8) (he : PICK L (ix2 t 1) = BitVec.ofNat 32 e.val) :
    REF1 X L W D (ix2 t d) = (SOFT L (ix2 t 1) * Moe.expertOut (fun k => X (ix2 t k)) (fun k f => W (ix3 e k f)) (fun f d => D (ix3 e f d)) d : EReal) := by
  unfold REF1
  rw [share1_at, mix_at _ _ _ t d 1 e he, outs_at]

end Cert.CtxReferenceIdeal.Value

end
-- ==== Proof.CtxKernelClaim.lean ====
/- On the context stream: the expert program ends with the reference's two results. -/
module

public import proofs.«01_k».proof.Proof.CtxKernelValue
public import proofs.«01_k».proof.Proof.CtxHostTail
public import proofs.«01_k».proof.Proof.CtxRefTerm
public import Idealize.ShloMosaic.Adequacy
public import Idealize.ShloMosaic.Init
public import Idealize.ShloMosaic.Lib.Claim

@[expose] public section

set_option maxRecDepth 16384

noncomputable section

namespace Cert.CtxKernelIdeal.Value

open Cert.CtxKernelIdeal Cert.CtxKernelIdeal.Gen Cert.CtxKernelIdeal.Launch Idealize.ShloMosaic Idealize.ShloMosaic.TcCoe Idealize.SL.Sem
open Idealize.ShloMosaic.Pipeline (Dat)

variable (m : (ℓ : Loc nD τ sig) → Buf (Elt Ideal) ℓ)

/-- The expert of a row's tile. -/
def tileExpert (r : Fin 20480) : Fin 8 := ⟨(word m ⟨r.val / 512, by omega⟩).toNat % 8, by omega⟩
theorem tileExpert_eq (r : Fin 20480) (e : Fin 8) (he : word m ⟨r.val / 512, by omega⟩ = BitVec.ofNat 32 e.val) : tileExpert m r = e := by
  have h := e.isLt
  refine Fin.ext ?_
  show (word m ⟨r.val / 512, _⟩).toNat % 8 = e.val
  rw [he, BitVec.toNat_ofNat]
  omega

/-- The array the kernel fills: at each row the row's weight times what its tile's expert makes of it. -/
def filled (c : Dev nD) : Vec Ideal S20480x1024 .bf16 := fun (i : S20480x1024.Idx) =>
  (aR m c (ix2 (i 0) 0) * Moe.expertOut (fun k => aX m c (ix2 (i 0) k)) (fun k f => aW m c (ix3 (tileExpert m (i 0)) k f))
    (fun f d => aD m c (ix3 (tileExpert m (i 0)) f d)) (i 1) : EReal)
theorem filled_at (c : Dev nD) (r : Fin 20480) (d : Fin 1024) (e : Fin 8) (he : tileExpert m r = e) : filled m c (ix2 r d) =
    (aR m c (ix2 r 0) * Moe.expertOut (fun k => aX m c (ix2 r k)) (fun k f => aW m c (ix3 e k f)) (fun f d => aD m c (ix3 e f d)) d : EReal) := by
  subst he; rfl
theorem kernel_arr (c : Dev nD) : (dats m (ok m) 0 c).arrAt 5 (cfgM m (ok m)).N = filled m c :=
  final m (ok m) c _ (word_lt m) fun r d e he => filled_at m c r d e (tileExpert_eq m r e he)

/-- At a pair's place stands the pair's weight times what its expert makes of its row. -/
theorem filled_place (c : Dev nD) (p : Fin 16384) (r : Fin 20480) (hr : r.val = Moe.place (ex m c) 16384 p.val) (t : Fin 8192) (k : Fin 2)
    (hp : p.val = t.val * 2 + k.val) (d : Fin 1024) (e : Fin 8) (he : e.val = ex m c p.val) : filled m c (ix2 r d) =
    (soft m c (ix2 t k) * Moe.expertOut (fun k => aH m c (ix2 t k)) (fun k f => aW m c (ix3 e k f)) (fun f d => aD m c (ix3 e f d)) d : EReal) := by
  obtain rfl : c = 0 := Subsingleton.elim _ _
  have hk := k.isLt
  have hw : word m ⟨r.val / 512, by omega⟩ = BitVec.ofNat 32 e.val := by
    rw [he]; exact V_table m 0 p ⟨r.val / 512, by omega⟩ (by show r.val / 512 = _; rw [hr])
  refine (filled_at m 0 r d e (tileExpert_eq m r e hw)).trans ?_
  refine congr_arg₂ (fun a b : EReal => a * b) (V_weights m 0 p r hr t k hp) ?_
  exact congrArg (fun x => Moe.expertOut x _ _ d) (funext fun j => V_rows m 0 p r hr t (by omega) j)

/-- The weights are the reference's softmax of the two best scores, the choices its choices. -/
theorem soft_stage (W : Valuation τ sig (Elt Ideal)) : StableHlo.after hostOps0 W (Proc.devRef .tc main_v10) =
    Cert.CtxReferenceIdeal.Value.SOFT (W (Proc.devRef .tc main_arg1)) := by
  after_results; rfl
theorem soft_eq (c : Dev nD) : soft m c = Cert.CtxReferenceIdeal.Value.SOFT (aL m c) := soft_stage _
theorem pick_eq (c : Dev nD) (t : Fin 8192) (k : Fin 2) : Cert.CtxReferenceIdeal.Value.PICK (aL m c) (ix2 t k) = BitVec.ofNat 32 (ex m c (t.val * 2 + k.val)) :=
  best_eq (aL m c) t k

/-- The reference's results over the kernel's arguments. -/
def refFirst (c : Dev nD) : Vec Ideal S8192x1024 .bf16 := Cert.CtxReferenceIdeal.Value.REF0 (aH m c) (aL m c) (aW m c) (aD m c)
def refSecond (c : Dev nD) : Vec Ideal S8192x1024 .bf16 := Cert.CtxReferenceIdeal.Value.REF1 (aH m c) (aL m c) (aW m c) (aD m c)

theorem first_eq (c : Dev nD) (P : IVec S16384 32) (hP : ∀ p : Fin 16384, P (ValueIdx.ix1 p) = BitVec.ofNat 32 (Moe.place (ex m c) 16384 p.val)) :
    taken (F := Ideal) (filled m c) (firsts P) = refFirst m c := by
  funext i
  obtain ⟨t, d, rfl⟩ : ∃ (t : Fin 8192) (d : Fin 1024), i = ix2 t d := ⟨i (0 : Fin 2), i (1 : Fin 2), eq_ix2 i⟩
  have ht := t.isLt
  have hp : t.val * 2 + 0 < 16384 := by omega
  have hr := Moe.place_lt (ex m c) 16384 (ex_lt m c) hp
  refine (taken_at (F := Ideal) (filled m c) _ t d ⟨Moe.place (ex m c) 16384 (t.val * 2 + 0), hr⟩ ((firsts_at P t ⟨t.val * 2 + 0, hp⟩ rfl).trans (hP _))).trans ?_
  refine (filled_place m c ⟨t.val * 2 + 0, hp⟩ ⟨_, hr⟩ rfl t 0 rfl d ⟨ex m c (t.val * 2 + 0), ex_lt m c _⟩ rfl).trans ?_
  rw [soft_eq]
  exact (Cert.CtxReferenceIdeal.Value.ref0_at (aH m c) (aL m c) (aW m c) (aD m c) t d ⟨ex m c (t.val * 2 + 0), ex_lt m c _⟩ (pick_eq m c t 0)).symm
theorem second_eq (c : Dev nD) (P : IVec S16384 32) (hP : ∀ p : Fin 16384, P (ValueIdx.ix1 p) = BitVec.ofNat 32 (Moe.place (ex m c) 16384 p.val)) :
    taken (F := Ideal) (filled m c) (seconds P) = refSecond m c := by
  funext i
  obtain ⟨t, d, rfl⟩ : ∃ (t : Fin 8192) (d : Fin 1024), i = ix2 t d := ⟨i (0 : Fin 2), i (1 : Fin 2), eq_ix2 i⟩
  have ht := t.isLt
  have hp : t.val * 2 + 1 < 16384 := by omega
  have hr := Moe.place_lt (ex m c) 16384 (ex_lt m c) hp
  refine (taken_at (F := Ideal) (filled m c) _ t d ⟨Moe.place (ex m c) 16384 (t.val * 2 + 1), hr⟩ ((seconds_at P t ⟨t.val * 2 + 1, hp⟩ rfl).trans (hP _))).trans ?_
  refine (filled_place m c ⟨t.val * 2 + 1, hp⟩ ⟨_, hr⟩ rfl t 1 rfl d ⟨ex m c (t.val * 2 + 1), ex_lt m c _⟩ rfl).trans ?_
  rw [soft_eq]
  exact (Cert.CtxReferenceIdeal.Value.ref1_at (aH m c) (aL m c) (aW m c) (aD m c) t d ⟨ex m c (t.val * 2 + 1), ex_lt m c _⟩ (pick_eq m c t 1)).symm

/-- What the region leaves, as the last lines find it. -/
def left (c : Dev nD) : Valuation τ sig (Elt Ideal) :=
  Pipeline.withArrays (Pipeline.pin pcfgs (fun _ => adm m (ok m)) 0).spec c (V0 m c) fun w => (dats m (ok m) 0 c).arrAt w (cfgM m (ok m)).N
theorem left_arr (c : Dev nD) : left m c (Proc.devRef .tc main_v81) = filled m c := by
  refine Eq.trans ?_ (kernel_arr m c)
  exact Pipeline.withArrays_arr_shared (Pipeline.pin pcfgs (fun _ => adm m (ok m)) 0).spec c (V0 m c)
    (fun w => (dats m (ok m) 0 c).arrAt w (cfgM m (ok m)).N)
    ((dats m (ok m) 0 c).arrAt_sharedIn sharedIn0 (V0 m c) (A_eq m (ok m) c) _) 5
theorem left_place (c : Dev nD) : left m c (Proc.devRef .tc main_v40) = V m c main_v40 :=
  Pipeline.withArrays_of_ne _ c (V0 m c) _ main_v40 (by exact (by decide : ∀ w, Pipeline.arrRef spec0 w ≠ main_v40))

theorem tail0 (c : Dev nD) : Pipeline.afterTail pcfgs (fun _ => adm m (ok m)) (dats m (ok m)) 0 (V0 m) [hostOps1] c main_v91 = refFirst m c := by
  show StableHlo.after hostOps1 (left m c) (Proc.devRef .tc main_v91) = _
  rw [tail_first, left_arr, left_place]
  exact first_eq m c _ (V_place m c)
theorem tail1 (c : Dev nD) : Pipeline.afterTail pcfgs (fun _ => adm m (ok m)) (dats m (ok m)) 0 (V0 m) [hostOps1] c main_v100 = refSecond m c := by
  show StableHlo.after hostOps1 (left m c) (Proc.devRef .tc main_v100) = _
  rw [tail_second, left_arr, left_place]
  exact second_eq m c _ (V_place m c)

theorem frame_ref : Cert.quiescent_CtxReferenceIdeal := fun m g _ =>
  (θ_run Cert.CtxReferenceIdeal.defs _ _).mono (fun r h => ⟨fun c => (h c).2.2, sem_eq_zero_of_no_sems (by decide) r.2⟩)
    (Cert.CtxReferenceIdeal.Value.run m g)

/-- Both results are the reference's. -/
theorem algebraic : Cert.algebraic_CtxKernelIdeal_CtxReferenceIdeal := by
  intro m g m' g' _ hagree
  refine ⟨fun c => refFirst m c, fun c => refSecond m c, ?_, ?_⟩
  · exact (θ_run defs _ _).mono (fun r h c => ⟨((h.2 c).2 main_v91 (show main_v91 ∈ Pipeline.restRefs sig spec0 by decide)).trans (tail0 m c), ((h.2 c).2 main_v100 (show main_v100 ∈ Pipeline.restRefs sig spec0 by decide)).trans (tail1 m c), h.1 c⟩)
      (θ_run_and (unchanged m g (ok m)) (run_main m g (ok m)))
  · refine (θ_run Cert.CtxReferenceIdeal.defs _ _).mono (fun r h c => ⟨(h c).1.trans ?_, (h c).2.1.trans ?_, (h c).2.2⟩) (Cert.CtxReferenceIdeal.Value.run m' g')
    all_goals
      obtain ⟨h0, h1, h2, h3⟩ := hagree c
      rw [h0, h1, h2, h3]
      rfl

end Cert.CtxKernelIdeal.Value

end
-- ==== Proof.CtxRouteValue.lean ====
/- On the context stream: the two arrays the routing kernel leaves: the modulated rows, and their products with the router. -/
module

public import proofs.«01_k».proof.Proof.Gen.CtxRouteIdeal.Frame
public import Idealize.ShloMosaic.Lib.Pointwise
public import Idealize.ShloMosaic.Lib.Pipeline.ValueKit
public import Idealize.ShloMosaic.Lib.Pipeline.Covers

@[expose] public section

set_option maxRecDepth 16384

noncomputable section

namespace Cert.CtxRouteIdeal.Value

open Cert.CtxRouteIdeal Cert.CtxRouteIdeal.Gen Idealize.ShloMosaic Idealize.ShloMosaic.TcCoe Idealize.SL.Sem
open Idealize.ShloMosaic.Pipeline (Dat)

/-- The modulated row that the kernel stores. -/
theorem pay2_of (x : Vec Ideal S1024x1024 .f32) (s t : Vec Ideal S1x1x1024 .f32) (r d : Fin 1024) (X S T : EReal) (hx : x (ix2 r d) = X)
    (hs : s (ix3 0 0 d) = S) (ht : t (ix3 0 0 d) = T) : k0_pay2 x s t (ix2 r d) = X * (1 + S) + T := by
  subst hx hs ht
  pointwise [k0_pay2, k0_pay1]

/-- The logits that the kernel stores. -/
theorem pay3_of (x : Vec Ideal S1024x1024 .f32) (s t : Vec Ideal S1x1x1024 .f32) (w : Vec Ideal S1024x128 .f32) (r : Fin 1024) (e : Fin 128)
    (X S T W : Fin 1024 → EReal) (hx : ∀ k, x (ix2 r k) = X k) (hs : ∀ k, s (ix3 0 0 k) = S k) (ht : ∀ k, t (ix3 0 0 k) = T k)
    (hw : ∀ k, w (ix2 k e) = W k) : k0_pay3 x s t w (ix2 r e) = ∑ k, (X k * (1 + S k) + T k) * W k := by
  pointwise [k0_pay3, k0_pay1]
  simp only [hx, hs, ht, hw]

variable (m : (ℓ : Loc nD τ sig) → Buf (Elt Ideal) ℓ)

abbrev aX (c : Dev nD) : Vec Ideal S32x256x1024 .f32 := m ((c : Thread nD τ).loc main_arg0)
abbrev aS (c : Dev nD) : Vec Ideal S1x1x1024 .f32 := m ((c : Thread nD τ).loc main_arg1)
abbrev aT (c : Dev nD) : Vec Ideal S1x1x1024 .f32 := m ((c : Thread nD τ).loc main_arg2)
abbrev aW (c : Dev nD) : Vec Ideal S1024x8 .f32 := m ((c : Thread nD τ).loc main_arg3)

/-- A grid point's one coordinate is its number. -/
theorem coords_val (t : Fin grid0.N) : (grid0.coords t 0).val = t.val := by
  have ht : t.val < 8 := Nat.lt_of_lt_of_eq t.isLt N_0
  have e0 : (grid0.coords t 0).val = t.val / 1 % 8 := Pipeline.Grid.coords_val t 0 (by decide) rfl
  omega

theorem idx_tile (t : Fin cfg0.N) : cc0_transform_0 (grid0.coords t) = ![t.val, 0] := by
  have h := coords_val t
  have ht : t.val < 8 := Nat.lt_of_lt_of_eq t.isLt N_0
  unfold cc0_transform_0
  show ![(BitVec.ofNat 32 (grid0.coords t 0).val).toNat, 0] = ![t.val, 0]
  rw [h, BitVec.toNat_ofNat, Nat.mod_eq_of_lt (by omega)]
theorem idx0 (t : Fin cfg0.N) : (cfg0.win 0).index t = ![t.val, 0] := idx_tile t
theorem idx4 (t : Fin cfg0.N) : (cfg0.win 4).index t = ![t.val, 0] := idx_tile t
theorem idx5 (t : Fin cfg0.N) : (cfg0.win 5).index t = ![t.val, 0] := idx_tile t
/-- All rows share one scale and shift. -/
theorem group_index : ∀ i : grid0.Coords, cc0_transform_1 i = ![0, 0, 0] := by decide +kernel
theorem idx1 (t : Fin cfg0.N) : (cfg0.win 1).index t = ![0, 0, 0] := by
  exact group_index _
theorem idx2 (t : Fin cfg0.N) : (cfg0.win 2).index t = ![0, 0, 0] := idx1 t
theorem idx3 (t : Fin cfg0.N) : (cfg0.win 3).index t = ![0, 0] := rfl

theorem covers4 : (cfg0.win 4).Covers := by
  refine Pipeline.Window.covers_of_index_surj _ rfl (fun (a : Fin 2) => ?_) fun β => ?_
  · match a with
    | 0 => exact (by decide : 0 < 1024)
    | 1 => exact (by decide : 0 < 1024)
  · have h0 : (β (0 : Fin 2)).val < (8192 + 1024 - 1) / 1024 := (β (0 : Fin 2)).isLt
    have h1 : (β (1 : Fin 2)).val < (1024 + 1024 - 1) / 1024 := (β (1 : Fin 2)).isLt
    refine ⟨⟨(β (0 : Fin 2)).val, by rw [show cfg0.grid.N = 8 from N_0]; omega⟩, fun (a : Fin 2) => ?_⟩
    rw [idx4]
    match a with
    | 0 => rfl
    | 1 => show 0 = (β (1 : Fin 2)).val; omega

theorem covers5 : (cfg0.win 5).Covers := by
  refine Pipeline.Window.covers_of_index_surj _ rfl (fun (a : Fin 2) => ?_) fun β => ?_
  · match a with
    | 0 => exact (by decide : 0 < 1024)
    | 1 => exact (by decide : 0 < 128)
  · have h0 : (β (0 : Fin 2)).val < (8192 + 1024 - 1) / 1024 := (β (0 : Fin 2)).isLt
    have h1 : (β (1 : Fin 2)).val < (128 + 128 - 1) / 128 := (β (1 : Fin 2)).isLt
    refine ⟨⟨(β (0 : Fin 2)).val, by rw [show cfg0.grid.N = 8 from N_0]; omega⟩, fun (a : Fin 2) => ?_⟩
    rw [idx5]
    match a with
    | 0 => rfl
    | 1 => show 0 = (β (1 : Fin 2)).val; omega

/-- The rows reach the kernel as one axis of 8192, and the router with 120 columns more. -/
theorem V_x (c : Dev nD) : V m c main_v0 = shapeCast S8192x1024 (aX m c) shapeCasts_S32x256x1024_S8192x1024 := by
  show StableHlo.after hostOps0 (fun b => m (c, b)) (Proc.devRef .tc main_v0) = _
  after_results; rfl
theorem V_w (c : Dev nD) : V m c main_v1 = pad S1024x128 ![0, 0] ![0, 120] ![0, 0] (aW m c) (sitofp (F := Ideal) .f32 (constantI S_ 32 0#32)) pads_S1024x8_S1024x128_000_01200 h_S_ := by
  unfold V V0
  simp only [List.flatten_cons, List.flatten_nil, List.cons_append, List.nil_append]
  after_results; rfl

/-- The padded router's first eight columns are the router. -/
theorem pad_at (w : Vec Ideal S1024x8 .f32) (v : Vec Ideal S_ .f32) (k : Fin 1024) (e : Fin 8) :
    pad S1024x128 ![0, 0] ![0, 120] ![0, 0] w v pads_S1024x8_S1024x128_000_01200 h_S_ (ix2 k ⟨e.val, by omega⟩) = w (ix2 k e) := by
  pointwise

/-- A row of the one axis is a row of a group. -/
theorem flat_at (x : Vec Ideal S32x256x1024 .f32) (b : Fin 32) (l : Fin 256) (k : Fin 1024) :
    shapeCast S8192x1024 x shapeCasts_S32x256x1024_S8192x1024 (ix2 ⟨b.val * 256 + l.val, by omega⟩ k) = x (ix3 b l k) := by
  pointwise

theorem blk0 (c : Dev nD) (t : Fin cfg0.N) (r k : Fin 1024) (b : Fin 32) (l : Fin 256) (hr : b.val * 256 + l.val = t.val * 1024 + r.val) :
    (show EReal from iblk m c 0 t (ix2 r k)) = aX m c (ix3 b l k) := by
  refine (congrFun (congrArg (((cfg0.win 0).blk t).view.read (Elt Ideal)) (V_x m c)) _).trans ?_
  refine Eq.trans ?_ (flat_at (aX m c) b l k)
  generalize shapeCast S8192x1024 (aX m c) shapeCasts_S32x256x1024_S8192x1024 = v
  blk_ext [idx0 t]
theorem blk1 (c : Dev nD) (t : Fin cfg0.N) (k : Fin 1024) :
    (show EReal from iblk m c 1 t (ix3 0 0 k)) = aS m c (ix3 0 0 k) := by
  blk_ext [iblk, V, idx1 t]
theorem blk2 (c : Dev nD) (t : Fin cfg0.N) (k : Fin 1024) :
    (show EReal from iblk m c 2 t (ix3 0 0 k)) = aT m c (ix3 0 0 k) := by
  blk_ext [iblk, V, idx2 t]
theorem blk3 (c : Dev nD) (t : Fin cfg0.N) (k : Fin 1024) (e : Fin 128) :
    (show EReal from iblk m c 3 t (ix2 k e)) = V m c main_v1 (ix2 k e) := by
  unfold iblk
  generalize V m c (Pipeline.arrRef spec0 3) = v
  blk_ext [idx3 t]

/-- The modulated row `l` of group `b`. -/
def modulated (c : Dev nD) (b : Fin 32) (l : Fin 256) (k : Fin 1024) : EReal :=
  aX m c (ix3 b l k) * (1 + aS m c (ix3 0 0 k)) + aT m c (ix3 0 0 k)

/-- A row of a tile, as a row of a group. -/
theorem row_exists (t : Fin cfg0.N) (r : Fin 1024) : ∃ (b : Fin 32) (l : Fin 256), b.val * 256 + l.val = t.val * 1024 + r.val := by
  have h8 : t.val < 8 := Nat.lt_of_lt_of_eq t.isLt N_0
  exact ⟨⟨t.val * 4 + r.val / 256, by omega⟩, ⟨r.val % 256, by omega⟩, by dsimp only; omega⟩

/-- The first array the kernel leaves: the modulated rows, on one axis. -/
theorem final4 (c : Dev nD) (G : Vec Ideal S8192x1024 .bf16)
    (hG : ∀ (b : Fin 32) (l : Fin 256) (d : Fin 1024), G (ix2 ⟨b.val * 256 + l.val, by omega⟩ d) = modulated m c b l d) :
    (dats m 0 c).arrAt 4 cfg0.N = G := by
  refine (dats m 0 c).arrAt_eq_of_covers 4 _ covers4 fun t hf y => ?_
  blk_simp
  rw [after0_4]
  obtain ⟨r, d, rfl⟩ : ∃ (r : Fin 1024) (d : Fin 1024), y = ix2 r d := ⟨y (0 : Fin 2), y (1 : Fin 2), eq_ix2 _⟩
  obtain ⟨b, l, hr⟩ := row_exists t r
  have hE : G ((((cfg0.win 4).blk t).view.emb (ix2 r d))) = G (ix2 ⟨b.val * 256 + l.val, by omega⟩ d) := by
    blk_ext [idx4 t]
  refine Eq.trans ?_ hE.symm
  rw [hG]
  frame_out
  exact pay2_of (iblk m c 0 t) (iblk m c 1 t) (iblk m c 2 t) r d _ _ _ (blk0 m c t r d b l hr) (blk1 m c t d) (blk2 m c t d)

/-- The second: the products of the modulated rows with the padded router. -/
theorem final5 (c : Dev nD) (G : Vec Ideal S8192x128 .f32)
    (hG : ∀ (b : Fin 32) (l : Fin 256) (e : Fin 128), G (ix2 ⟨b.val * 256 + l.val, by omega⟩ e) =
      ∑ k : Fin 1024, modulated m c b l k * (show EReal from V m c main_v1 (ix2 k e))) :
    (dats m 0 c).arrAt 5 cfg0.N = G := by
  refine (dats m 0 c).arrAt_eq_of_covers 5 _ covers5 fun t hf y => ?_
  blk_simp
  rw [after0_5]
  obtain ⟨r, e, rfl⟩ : ∃ (r : Fin 1024) (e : Fin 128), y = ix2 r e := ⟨y (0 : Fin 2), y (1 : Fin 2), eq_ix2 _⟩
  obtain ⟨b, l, hr⟩ := row_exists t r
  have hE : G ((((cfg0.win 5).blk t).view.emb (ix2 r e))) = G (ix2 ⟨b.val * 256 + l.val, by omega⟩ e) := by
    blk_ext [idx5 t]
  refine Eq.trans ?_ hE.symm
  rw [hG]
  frame_out
  exact pay3_of (iblk m c 0 t) (iblk m c 1 t) (iblk m c 2 t) (iblk m c 3 t) r e _ _ _ _ (fun k => blk0 m c t r k b l hr)
    (fun k => blk1 m c t k) (fun k => blk2 m c t k) (fun k => blk3 m c t k e)

end Cert.CtxRouteIdeal.Value

end
-- ==== Proof.CtxRouteRef.lean ====
/- On the context stream: the modulated rows and their products with the router as the reference computes them. -/
module

public import proofs.«01_k».proof.Proof.Gen.CtxRouteRefIdeal.Run
public import Idealize.ShloMosaic.Lib.Pointwise

@[expose] public section

set_option maxRecDepth 16384

noncomputable section

namespace Cert.CtxRouteRefIdeal.Value

open Cert.CtxRouteRefIdeal Cert.CtxRouteRefIdeal.Gen Idealize.ShloMosaic Idealize.ShloMosaic.TcCoe Idealize.SL.Sem

/-- The modulated rows, on one axis. -/
def REFH (X : FVec Ideal S32x256x1024 .f32) (S T : FVec Ideal S1x1x1024 .f32) : FVec Ideal S8192x1024 .f32 :=
  shapeCast _ (addf (mulf X (broadcastInDim S32x256x1024 ![0, 1, 2] bcast_S1x1x1024_S32x256x1024_0_1_2 (addf (broadcastInDim S1x1x1024 ![] bcast_S_S1x1x1024 (constant S_ .f32 0x3F800000#32)) S))) (broadcastInDim S32x256x1024 ![0, 1, 2] bcast_S1x1x1024_S32x256x1024_0_1_2 T)) shapeCasts_S32x256x1024_S8192x1024
/-- The first result: those rows in the narrow format. -/
def REF0 (X : FVec Ideal S32x256x1024 .f32) (S T : FVec Ideal S1x1x1024 .f32) : FVec Ideal S8192x1024 .bf16 :=
  truncf .bf16 (REFH X S T) bitsLt_bf16_f32
/-- The second: the routing scores. -/
def REF1 (X : FVec Ideal S32x256x1024 .f32) (S T : FVec Ideal S1x1x1024 .f32) (W : FVec Ideal S1024x8 .f32) : FVec Ideal S8192x8 .f32 :=
  Host.dotGeneral dot_S8192x1024_S1024x8_S8192x8_1_0_0_1_n_n none (REFH X S T) W

theorem one_at : Ideal.ofBits FTy.f32 0x3F800000#32 = 1 := by
  have h : Ideal.ofBits FTy.f32 0x3F800000#32 = ((1 : ℝ) : EReal) := by
    simp [Ideal.ofBits, Ideal.ieee, -EReal.coe_mul]; norm_num
  exact h.trans EReal.coe_one

theorem refh_at (X : FVec Ideal S32x256x1024 .f32) (S T : FVec Ideal S1x1x1024 .f32) (b : Fin 32) (l : Fin 256) (d : Fin 1024) :
    REFH X S T (ix2 ⟨b.val * 256 + l.val, by omega⟩ d) = (X (ix3 b l d) * (1 + S (ix3 0 0 d)) + T (ix3 0 0 d) : EReal) := by
  pointwise [REFH, one_at]

theorem ref1_at (X : FVec Ideal S32x256x1024 .f32) (S T : FVec Ideal S1x1x1024 .f32) (W : FVec Ideal S1024x8 .f32) (b : Fin 32) (l : Fin 256) (e : Fin 8) :
    REF1 X S T W (ix2 ⟨b.val * 256 + l.val, by omega⟩ e) =
      ∑ k : Fin 1024, ((X (ix3 b l k) * (1 + S (ix3 0 0 k)) + T (ix3 0 0 k)) * W (ix2 k e) : EReal) := by
  have h : ∀ H : FVec Ideal S8192x1024 .f32, Host.dotGeneral dot_S8192x1024_S1024x8_S8192x8_1_0_0_1_n_n none H W (ix2 ⟨b.val * 256 + l.val, by omega⟩ e) =
      ∑ k : Fin 1024, (H (ix2 ⟨b.val * 256 + l.val, by omega⟩ k) * W (ix2 k e) : EReal) := fun H => by pointwise
  refine (h _).trans ?_
  simp only [refh_at]

end Cert.CtxRouteRefIdeal.Value

end
-- ==== Proof.CtxRouteClaim.lean ====
/- On the context stream: the routing call leaves what the reference computes: the modulated rows and their scores. -/
module

public import proofs.«01_k».proof.Defs
public import proofs.«01_k».proof.Proof.CtxRouteValue
public import proofs.«01_k».proof.Proof.CtxRouteRef
public import Idealize.ShloMosaic.Adequacy
public import Idealize.ShloMosaic.Init
public import Idealize.ShloMosaic.Lib.Claim

@[expose] public section

set_option maxRecDepth 16384

noncomputable section

namespace Cert.CtxRouteIdeal.Value

open Cert.CtxRouteIdeal Cert.CtxRouteIdeal.Gen Idealize.ShloMosaic Idealize.ShloMosaic.TcCoe Idealize.SL.Sem

variable (m : (ℓ : Loc nD τ sig) → Buf (Elt Ideal) ℓ)

/-- The reference's first array, over the kernel's arguments. -/
def refRows (c : Dev nD) : Vec Ideal S8192x1024 .bf16 := Cert.CtxRouteRefIdeal.Value.REF0 (aX m c) (aS m c) (aT m c)
/-- The reference's second. -/
def refScores (c : Dev nD) : Vec Ideal S8192x8 .f32 := Cert.CtxRouteRefIdeal.Value.REF1 (aX m c) (aS m c) (aT m c) (aW m c)

theorem rows (c : Dev nD) : (dats m 0 c).arrAt 4 cfg0.N = refRows m c :=
  final4 m c _ fun b l d => Cert.CtxRouteRefIdeal.Value.refh_at _ _ _ b l d

/-- The scores with the padded columns. -/
def wide (c : Dev nD) : Vec Ideal S8192x128 .f32 := fun (i : S8192x128.Idx) => (∑ k : Fin 1024,
  modulated m c ⟨(i 0).val / 256, by have : (i 0).val < 8192 := (i 0).isLt; omega⟩ ⟨(i 0).val % 256, by omega⟩ k * (show EReal from V m c main_v1 (ix2 k (i 1))) : EReal)
theorem wide_at (c : Dev nD) (b : Fin 32) (l : Fin 256) (e : Fin 128) : wide m c (ix2 ⟨b.val * 256 + l.val, by omega⟩ e) =
    ∑ k : Fin 1024, modulated m c b l k * (show EReal from V m c main_v1 (ix2 k e)) := by
  show (∑ k : Fin 1024, modulated m c ⟨(b.val * 256 + l.val) / 256, _⟩ ⟨(b.val * 256 + l.val) % 256, _⟩ k * (show EReal from V m c main_v1 (ix2 k e)) : EReal) = _
  have hb : (b.val * 256 + l.val) / 256 = b.val := by omega
  have hl : (b.val * 256 + l.val) % 256 = l.val := by omega
  simp only [hb, hl]

/-- The kernel's result after its padded columns are cut off. -/
theorem scores (c : Dev nD) (u : Vec Ideal S8192x128 .f32) (hu : u = wide m c) :
    extractStridedSlice S8192x8 ![0, 0] u slices_S8192x128_S8192x8_0_0 = refScores m c := by
  funext i
  obtain ⟨b, l, e, rfl⟩ : ∃ (b : Fin 32) (l : Fin 256) (e : Fin 8), i = ix2 ⟨b.val * 256 + l.val, by omega⟩ e := by
    have h0 : (i (0 : Fin 2)).val < 8192 := (i (0 : Fin 2)).isLt
    refine ⟨⟨(i (0 : Fin 2)).val / 256, by omega⟩, ⟨(i (0 : Fin 2)).val % 256, by omega⟩, i (1 : Fin 2), (eq_ix2 i).trans ?_⟩
    congr 1
    exact Fin.ext (by dsimp only; omega)
  have h1 : extractStridedSlice S8192x8 ![0, 0] u slices_S8192x128_S8192x8_0_0 (ix2 ⟨b.val * 256 + l.val, by omega⟩ e) = u (ix2 ⟨b.val * 256 + l.val, by omega⟩ ⟨e.val, by omega⟩) := by
    pointwise
  rw [h1, hu, wide_at, V_w]
  refine Eq.trans ?_ (Cert.CtxRouteRefIdeal.Value.ref1_at _ _ _ _ b l e).symm
  refine Finset.sum_congr rfl fun k _ => ?_
  exact congrArg (fun v : EReal => modulated m c b l k * v) (pad_at (aW m c) _ k e)

theorem arr_inj : Function.Injective (Pipeline.arrRef spec0) := by decide

/-- What the last host line leaves. -/
theorem tail (c : Dev nD) : Pipeline.afterTail₀ cfgs (dats m) 0 (V0 m) [hostOps1] c main_v3 = refScores m c := by
  refine Eq.trans ?_ (scores m c _ (final5 m c _ (wide_at m c)))
  show StableHlo.after hostOps1 (Pipeline.withArrays spec0 c (V0 m c) fun w => (dats m 0 c).arrAt w cfg0.N) (Proc.devRef .tc main_v3) = _
  have h := Pipeline.withArrays_arr spec0 arr_inj c (V0 m c) (fun w => (dats m 0 c).arrAt w cfg0.N) 5
  generalize Pipeline.withArrays spec0 c (V0 m c) (fun w => (dats m 0 c).arrAt w cfg0.N) = W at h ⊢
  after_results
  exact congrArg (fun u : Vec Ideal S8192x128 .f32 => extractStridedSlice S8192x8 ![0, 0] u slices_S8192x128_S8192x8_0_0) h

theorem frame_ref : Cert.quiescent_CtxRouteRefIdeal := fun m g _ =>
  (θ_run Cert.CtxRouteRefIdeal.defs _ _).mono (fun r h => ⟨fun c => (h c).2.2, sem_eq_zero_of_no_sems (by decide) r.2⟩)
    (Cert.CtxRouteRefIdeal.Value.run m g)

/-- Both results are the reference's. -/
theorem algebraic : Cert.algebraic_CtxRouteIdeal_CtxRouteRefIdeal := by
  intro m g m' g' _ hagree
  refine ⟨fun c => refRows m c, fun c => refScores m c, ?_, ?_⟩
  · exact (θ_run defs _ _).mono (fun r h c => ⟨((h.2 c).1 4).trans (rows m c), ((h.2 c).2 main_v3 (by decide)).trans (tail m c), h.1 c⟩)
      (θ_run_and (Gen.unchanged m g) (Gen.run_main m g))
  · refine (θ_run Cert.CtxRouteRefIdeal.defs _ _).mono (fun r h c => ⟨(h c).1.trans ?_, (h c).2.1.trans ?_, (h c).2.2⟩) (Cert.CtxRouteRefIdeal.Value.run m' g')
    all_goals
      obtain ⟨h0, h1, h2, h3⟩ := hagree c
      rw [h0, h1, h2]
      try rw [h3]
      rfl

end Cert.CtxRouteIdeal.Value

end
-- ==== Proof.CtxCombineValue.lean ====
/- On the context stream: the array the combining kernel leaves: at every row the layer norm of the scaled residual. -/
module

public import proofs.«01_k».proof.Proof.Gen.CtxCombineIdeal.Frame
public import proofs.«01_k».proof.Proof.LayerNorm
public import Idealize.ShloMosaic.Lib.Pipeline.ValueKit
public import Idealize.ShloMosaic.Lib.Pipeline.Covers

@[expose] public section

set_option maxRecDepth 16384

noncomputable section

namespace Cert.CtxCombineIdeal.Value

open Cert.CtxCombineIdeal Cert.CtxCombineIdeal.Gen Idealize.ShloMosaic Idealize.ShloMosaic.TcCoe Idealize.SL.Sem
open Idealize.ShloMosaic.Pipeline (Dat)

/-- What the kernel stores, at one row and column of its block. -/
theorem pay1_at (y0 y1 : Vec Ideal S1024x1024 .bf16) (x : Vec Ideal S1024x1024 .f32) (gate : Vec Ideal S1x1x1024 .f32) (g b : Vec Ideal S1x1024 .f32) (r d : Fin 1024) :
    k0_pay1 y0 y1 x gate g b (ix2 r d) = Moe.layerNorm (Moe.residual (fun k => x (ix2 r k)) (fun k => gate (ix3 0 0 k)) (fun k => y0 (ix2 r k)) (fun k => y1 (ix2 r k)))
      (fun k => g (ix2 0 k)) (fun k => b (ix2 0 k)) d := by
  pointwise [k0_pay1]
  rfl

/-- The same, with each block's entries named. -/
theorem pay1_of (y0 y1 : Vec Ideal S1024x1024 .bf16) (x : Vec Ideal S1024x1024 .f32) (gate : Vec Ideal S1x1x1024 .f32) (g b : Vec Ideal S1x1024 .f32) (r d : Fin 1024)
    (X Q Y0 Y1 S B : Fin 1024 → EReal) (hx : ∀ k, x (ix2 r k) = X k) (hq : ∀ k, gate (ix3 0 0 k) = Q k) (h0 : ∀ k, y0 (ix2 r k) = Y0 k)
    (h1 : ∀ k, y1 (ix2 r k) = Y1 k) (hs : ∀ k, g (ix2 0 k) = S k) (hb : ∀ k, b (ix2 0 k) = B k) :
    k0_pay1 y0 y1 x gate g b (ix2 r d) = Moe.layerNorm (Moe.residual X Q Y0 Y1) S B d := by
  refine (pay1_at y0 y1 x gate g b r d).trans ?_
  simp only [hx, hq, h0, h1, hs, hb]

variable (m : (ℓ : Loc nD τ sig) → Buf (Elt Ideal) ℓ)

abbrev aX (c : Dev nD) : Vec Ideal S32x256x1024 .f32 := m ((c : Thread nD τ).loc main_arg0)
abbrev aY0 (c : Dev nD) : Vec Ideal S8192x1024 .bf16 := m ((c : Thread nD τ).loc main_arg1)
abbrev aY1 (c : Dev nD) : Vec Ideal S8192x1024 .bf16 := m ((c : Thread nD τ).loc main_arg2)
abbrev aG (c : Dev nD) : Vec Ideal S1x1x1024 .f32 := m ((c : Thread nD τ).loc main_arg3)
abbrev aS (c : Dev nD) : Vec Ideal S1x1024 .f32 := m ((c : Thread nD τ).loc main_arg4)
abbrev aB (c : Dev nD) : Vec Ideal S1x1024 .f32 := m ((c : Thread nD τ).loc main_arg5)

/-- A grid point's one coordinate is its number. -/
theorem coords_val (t : Fin grid0.N) : (grid0.coords t 0).val = t.val := by
  have ht : t.val < 8 := Nat.lt_of_lt_of_eq t.isLt N_0
  have e0 : (grid0.coords t 0).val = t.val / 1 % 8 := Pipeline.Grid.coords_val t 0 (by decide) rfl
  omega

theorem idx_tile (t : Fin cfg0.N) : cc0_transform_0 (grid0.coords t) = ![t.val, 0] := by
  have h := coords_val t
  have ht : t.val < 8 := Nat.lt_of_lt_of_eq t.isLt N_0
  unfold cc0_transform_0
  show ![(BitVec.ofNat 32 (grid0.coords t 0).val).toNat, 0] = ![t.val, 0]
  rw [h, BitVec.toNat_ofNat, Nat.mod_eq_of_lt (by omega)]
theorem idx0 (t : Fin cfg0.N) : (cfg0.win 0).index t = ![t.val, 0] := idx_tile t
theorem idx1 (t : Fin cfg0.N) : (cfg0.win 1).index t = ![t.val, 0] := idx_tile t
theorem idx2 (t : Fin cfg0.N) : (cfg0.win 2).index t = ![t.val, 0] := idx_tile t
theorem idx6 (t : Fin cfg0.N) : (cfg0.win 6).index t = ![t.val, 0] := idx_tile t
/-- All rows share one gate. -/
theorem group_index : ∀ i : grid0.Coords, cc0_transform_3 i = ![0, 0, 0] := by decide +kernel
theorem idx3 (t : Fin cfg0.N) : (cfg0.win 3).index t = ![0, 0, 0] := by
  exact group_index _
theorem idx4 (t : Fin cfg0.N) : (cfg0.win 4).index t = ![0, 0] := rfl
theorem idx5 (t : Fin cfg0.N) : (cfg0.win 5).index t = ![0, 0] := rfl

theorem covers6 : (cfg0.win 6).Covers := by
  refine Pipeline.Window.covers_of_index_surj _ rfl (fun (a : Fin 2) => ?_) fun β => ?_
  · match a with
    | 0 => exact (by decide : 0 < 1024)
    | 1 => exact (by decide : 0 < 1024)
  · have h0 : (β (0 : Fin 2)).val < (8192 + 1024 - 1) / 1024 := (β (0 : Fin 2)).isLt
    have h1 : (β (1 : Fin 2)).val < (1024 + 1024 - 1) / 1024 := (β (1 : Fin 2)).isLt
    refine ⟨⟨(β (0 : Fin 2)).val, by rw [show cfg0.grid.N = 8 from N_0]; omega⟩, fun (a : Fin 2) => ?_⟩
    rw [idx6]
    match a with
    | 0 => rfl
    | 1 => show 0 = (β (1 : Fin 2)).val; omega

/-- The rows reach the kernel as one axis of 8192. -/
theorem V_x (c : Dev nD) : V m c main_v0 = shapeCast S8192x1024 (aX m c) shapeCasts_S32x256x1024_S8192x1024 := by
  show StableHlo.after hostOps0 (fun b => m (c, b)) (Proc.devRef .tc main_v0) = _
  after_results; rfl

/-- A row of the one axis is a row of a group. -/
theorem flat_at (x : Vec Ideal S32x256x1024 .f32) (b : Fin 32) (l : Fin 256) (k : Fin 1024) :
    shapeCast S8192x1024 x shapeCasts_S32x256x1024_S8192x1024 (ix2 ⟨b.val * 256 + l.val, by omega⟩ k) = x (ix3 b l k) := by
  pointwise

theorem blk0 (c : Dev nD) (t : Fin cfg0.N) (r k : Fin 1024) (b : Fin 32) (l : Fin 256) (hr : b.val * 256 + l.val = t.val * 1024 + r.val) :
    (show EReal from iblk m c 0 t (ix2 r k)) = aX m c (ix3 b l k) := by
  refine (congrFun (congrArg (((cfg0.win 0).blk t).view.read (Elt Ideal)) (V_x m c)) _).trans ?_
  refine Eq.trans ?_ (flat_at (aX m c) b l k)
  generalize shapeCast S8192x1024 (aX m c) shapeCasts_S32x256x1024_S8192x1024 = v
  blk_ext [idx0 t]
theorem blk1 (c : Dev nD) (t : Fin cfg0.N) (r k : Fin 1024) (r' : Fin 8192) (hr : r'.val = t.val * 1024 + r.val) :
    (show EReal from iblk m c 1 t (ix2 r k)) = aY0 m c (ix2 r' k) := by
  blk_ext [iblk, V, idx1 t]
theorem blk2 (c : Dev nD) (t : Fin cfg0.N) (r k : Fin 1024) (r' : Fin 8192) (hr : r'.val = t.val * 1024 + r.val) :
    (show EReal from iblk m c 2 t (ix2 r k)) = aY1 m c (ix2 r' k) := by
  blk_ext [iblk, V, idx2 t]
theorem blk3 (c : Dev nD) (t : Fin cfg0.N) (k : Fin 1024) :
    (show EReal from iblk m c 3 t (ix3 0 0 k)) = aG m c (ix3 0 0 k) := by
  blk_ext [iblk, V, idx3 t]
theorem blk4 (c : Dev nD) (t : Fin cfg0.N) (k : Fin 1024) : (show EReal from iblk m c 4 t (ix2 0 k)) = aS m c (ix2 0 k) := by
  blk_ext [iblk, V, idx4 t]
theorem blk5 (c : Dev nD) (t : Fin cfg0.N) (k : Fin 1024) : (show EReal from iblk m c 5 t (ix2 0 k)) = aB m c (ix2 0 k) := by
  blk_ext [iblk, V, idx5 t]

/-- The result at group `b`, row `l`, column `d`. -/
def result (c : Dev nD) (b : Fin 32) (l : Fin 256) (d : Fin 1024) : EReal :=
  Moe.layerNorm (Moe.residual (fun k => aX m c (ix3 b l k)) (fun k => aG m c (ix3 0 0 k))
      (fun k => aY0 m c (ix2 ⟨b.val * 256 + l.val, by omega⟩ k)) (fun k => aY1 m c (ix2 ⟨b.val * 256 + l.val, by omega⟩ k)))
    (fun k => aS m c (ix2 0 k)) (fun k => aB m c (ix2 0 k)) d

/-- The array the kernel leaves, its rows on one axis. -/
theorem final (c : Dev nD) (G : Vec Ideal S8192x1024 .f32)
    (hG : ∀ (b : Fin 32) (l : Fin 256) (d : Fin 1024), G (ix2 ⟨b.val * 256 + l.val, by omega⟩ d) = result m c b l d) :
    (dats m 0 c).arrAt 6 cfg0.N = G := by
  refine (dats m 0 c).arrAt_eq_of_covers 6 _ covers6 fun t hf y => ?_
  have h8 : t.val < 8 := Nat.lt_of_lt_of_eq t.isLt N_0
  blk_simp
  rw [after0_6]
  obtain ⟨r, d, rfl⟩ : ∃ (r : Fin 1024) (d : Fin 1024), y = ix2 r d := ⟨y (0 : Fin 2), y (1 : Fin 2), eq_ix2 _⟩
  obtain ⟨b, hb⟩ : ∃ b : Fin 32, b.val = t.val * 4 + r.val / 256 := ⟨⟨t.val * 4 + r.val / 256, by have := r.isLt; omega⟩, rfl⟩
  obtain ⟨l, hl⟩ : ∃ l : Fin 256, l.val = r.val % 256 := ⟨⟨r.val % 256, by omega⟩, rfl⟩
  have hr : b.val * 256 + l.val = t.val * 1024 + r.val := by omega
  have hE : G ((((cfg0.win 6).blk t).view.emb (ix2 r d))) = G (ix2 ⟨b.val * 256 + l.val, by omega⟩ d) := by
    blk_ext [idx6 t]
  refine Eq.trans ?_ hE.symm
  rw [hG]
  frame_out
  exact pay1_of (iblk m c 1 t) (iblk m c 2 t) (iblk m c 0 t) (iblk m c 3 t) (iblk m c 4 t) (iblk m c 5 t) r d _ _ _ _ _ _
    (fun k => blk0 m c t r k b l hr) (fun k => blk3 m c t k) (fun k => blk1 m c t r k _ hr) (fun k => blk2 m c t r k _ hr)
    (fun k => blk4 m c t k) (fun k => blk5 m c t k)

end Cert.CtxCombineIdeal.Value

end
-- ==== Proof.CtxCombineRef.lean ====
/- On the context stream: the layer norm of the combination as the reference computes it, at one group, row and column. -/
module

public import proofs.«01_k».proof.Proof.Gen.CtxCombineRefIdeal.Run
public import proofs.«01_k».proof.Proof.LayerNorm

@[expose] public section

set_option maxRecDepth 16384

noncomputable section

namespace Cert.CtxCombineRefIdeal.Value

open Cert.CtxCombineRefIdeal Cert.CtxCombineRefIdeal.Gen Idealize.ShloMosaic Idealize.ShloMosaic.TcCoe Idealize.SL.Sem

/-- The reference's composed term, over its argument arrays. -/
def REF (X : FVec Ideal S32x256x1024 .f32) (Y0 Y1 : FVec Ideal S8192x1024 .bf16) (Q : FVec Ideal S1x1x1024 .f32) (S B : FVec Ideal S1x1024 .f32) : FVec Ideal S32x256x1024 .f32 :=
  addf (mulf (mulf (subf (addf (mulf (broadcastInDim S32x256x1024 ![] bcast_S_S32x256x1024 (Host.sqrt (Host.sqrt (constant S_ .f32 0x41000000#32)))) X) (mulf (broadcastInDim S32x256x1024 ![0, 1, 2] bcast_S1x1x1024_S32x256x1024_0_1_2 Q) (shapeCast _ (addf (extf .f32 Y0 bitsLt_bf16_f32) (extf .f32 Y1 bitsLt_bf16_f32)) shapeCasts_S8192x1024_S32x256x1024))) (broadcastInDim S32x256x1024 ![0, 1, 2] bcast_S32x256x1_S32x256x1024_0_1_2 (Host.divf (broadcastInDim S32x256x1 ![0, 1] bcast_S32x256_S32x256x1_0_1 (Host.reduceAdd (addf (mulf (broadcastInDim S32x256x1024 ![] bcast_S_S32x256x1024 (Host.sqrt (Host.sqrt (constant S_ .f32 0x41000000#32)))) X) (mulf (broadcastInDim S32x256x1024 ![0, 1, 2] bcast_S1x1x1024_S32x256x1024_0_1_2 Q) (shapeCast _ (addf (extf .f32 Y0 bitsLt_bf16_f32) (extf .f32 Y1 bitsLt_bf16_f32)) shapeCasts_S8192x1024_S32x256x1024))) (constant S_ .f32 0x00000000#32) reducesTo_S32x256x1024_S32x256_d2 h_S_)) (broadcastInDim S32x256x1 ![] bcast_S_S32x256x1 (constant S_ .f32 0x44800000#32))))) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (subf (addf (mulf (broadcastInDim S32x256x1024 ![] bcast_S_S32x256x1024 (Host.sqrt (Host.sqrt (constant S_ .f32 0x41000000#32)))) X) (mulf (broadcastInDim S32x256x1024 ![0, 1, 2] bcast_S1x1x1024_S32x256x1024_0_1_2 Q) (shapeCast _ (addf (extf .f32 Y0 bitsLt_bf16_f32) (extf .f32 Y1 bitsLt_bf16_f32)) shapeCasts_S8192x1024_S32x256x1024))) (broadcastInDim S32x256x1024 ![0, 1, 2] bcast_S32x256x1_S32x256x1024_0_1_2 (Host.divf (broadcastInDim S32x256x1 ![0, 1] bcast_S32x256_S32x256x1_0_1 (Host.reduceAdd (addf (mulf (broadcastInDim S32x256x1024 ![] bcast_S_S32x256x1024 (Host.sqrt (Host.sqrt (constant S_ .f32 0x41000000#32)))) X) (mulf (broadcastInDim S32x256x1024 ![0, 1, 2] bcast_S1x1x1024_S32x256x1024_0_1_2 Q) (shapeCast _ (addf (extf .f32 Y0 bitsLt_bf16_f32) (extf .f32 Y1 bitsLt_bf16_f32)) shapeCasts_S8192x1024_S32x256x1024))) (constant S_ .f32 0x00000000#32) reducesTo_S32x256x1024_S32x256_d2 h_S_)) (broadcastInDim S32x256x1 ![] bcast_S_S32x256x1 (constant S_ .f32 0x44800000#32))))) (subf (addf (mulf (broadcastInDim S32x256x1024 ![] bcast_S_S32x256x1024 (Host.sqrt (Host.sqrt (constant S_ .f32 0x41000000#32)))) X) (mulf (broadcastInDim S32x256x1024 ![0, 1, 2] bcast_S1x1x1024_S32x256x1024_0_1_2 Q) (shapeCast _ (addf (extf .f32 Y0 bitsLt_bf16_f32) (extf .f32 Y1 bitsLt_bf16_f32)) shapeCasts_S8192x1024_S32x256x1024))) (broadcastInDim S32x256x1024 ![0, 1, 2] bcast_S32x256x1_S32x256x1024_0_1_2 (Host.divf (broadcastInDim S32x256x1 ![0, 1] bcast_S32x256_S32x256x1_0_1 (Host.reduceAdd (addf (mulf (broadcastInDim S32x256x1024 ![] bcast_S_S32x256x1024 (Host.sqrt (Host.sqrt (constant S_ .f32 0x41000000#32)))) X) (mulf (broadcastInDim S32x256x1024 ![0, 1, 2] bcast_S1x1x1024_S32x256x1024_0_1_2 Q) (shapeCast _ (addf (extf .f32 Y0 bitsLt_bf16_f32) (extf .f32 Y1 bitsLt_bf16_f32)) shapeCasts_S8192x1024_S32x256x1024))) (constant S_ .f32 0x00000000#32) reducesTo_S32x256x1024_S32x256_d2 h_S_)) (broadcastInDim S32x256x1 ![] bcast_S_S32x256x1 (constant S_ .f32 0x44800000#32)))))) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x3727C5AC#32)))))) (broadcastInDim S32x256x1024 ![0, 1, 2] bcast_S1x1x1024_S32x256x1024_0_1_2 (broadcastInDim S1x1x1024 ![2] bcast_S1024_S1x1x1024_2 (shapeCast _ S shapeCasts_S1x1024_S1024)))) (broadcastInDim S32x256x1024 ![0, 1, 2] bcast_S1x1x1024_S32x256x1024_0_1_2 (broadcastInDim S1x1x1024 ![2] bcast_S1024_S1x1x1024_2 (shapeCast _ B shapeCasts_S1x1024_S1024)))

/-- The reference's scale of the residual is the fourth root of 8. -/
theorem fourth_root : Ideal.sqrt (Ideal.sqrt (Ideal.ofBits FTy.f32 0x41000000#32)) = ((Real.sqrt (Real.sqrt 8) : ℝ) : EReal) := by
  have h8 : Ideal.ofBits FTy.f32 0x41000000#32 = ((8 : ℝ) : EReal) := by
    simp [Ideal.ofBits, Ideal.ieee, -EReal.coe_mul]; norm_num
  rw [h8, Ideal.sqrt_coe, if_neg (by norm_num), Ideal.sqrt_coe, if_neg (not_lt.2 (Real.sqrt_nonneg _))]

theorem ref_at (X : FVec Ideal S32x256x1024 .f32) (Y0 Y1 : FVec Ideal S8192x1024 .bf16) (Q : FVec Ideal S1x1x1024 .f32) (S B : FVec Ideal S1x1024 .f32)
    (b : Fin 32) (l : Fin 256) (d : Fin 1024) :
    REF X Y0 Y1 Q S B (ix3 b l d) =
      Moe.layerNorm (Moe.residual (fun k => X (ix3 b l k)) (fun k => Q (ix3 0 0 k)) (fun k => Y0 (ix2 ⟨b.val * 256 + l.val, by omega⟩ k))
        (fun k => Y1 (ix2 ⟨b.val * 256 + l.val, by omega⟩ k))) (fun k => S (ix2 0 k)) (fun k => B (ix2 0 k)) d := by
  pointwise [REF]
  rw [fourth_root]
  rfl

end Cert.CtxCombineRefIdeal.Value

end
-- ==== Proof.CtxCombineClaim.lean ====
/- On the context stream: the combining call leaves what the reference computes: the layer norm of the combination. -/
module

public import proofs.«01_k».proof.Defs
public import proofs.«01_k».proof.Proof.CtxCombineValue
public import proofs.«01_k».proof.Proof.CtxCombineRef
public import Idealize.ShloMosaic.Adequacy
public import Idealize.ShloMosaic.Init
public import Idealize.ShloMosaic.Lib.Claim

@[expose] public section

set_option maxRecDepth 16384

noncomputable section

namespace Cert.CtxCombineIdeal.Value

open Cert.CtxCombineIdeal Cert.CtxCombineIdeal.Gen Idealize.ShloMosaic Idealize.ShloMosaic.TcCoe Idealize.SL.Sem

variable (m : (ℓ : Loc nD τ sig) → Buf (Elt Ideal) ℓ)

/-- The reference's array, over the kernel's arguments. -/
def refArr (c : Dev nD) : Vec Ideal S32x256x1024 .f32 := Cert.CtxCombineRefIdeal.Value.REF (aX m c) (aY0 m c) (aY1 m c) (aG m c) (aS m c) (aB m c)

/-- The reference's array with its rows on one axis is what the kernel leaves. -/
theorem rows (c : Dev nD) : (dats m 0 c).arrAt 6 cfg0.N = shapeCast S8192x1024 (refArr m c) shapeCasts_S32x256x1024_S8192x1024 :=
  final m c _ fun b l d => (flat_at (refArr m c) b l d).trans (Cert.CtxCombineRefIdeal.Value.ref_at _ _ _ _ _ _ b l d)

theorem arr_inj : Function.Injective (Pipeline.arrRef spec0) := by decide

/-- What the last host line leaves: the rows in their groups again. -/
theorem tail (c : Dev nD) : Pipeline.afterTail₀ cfgs (dats m) 0 (V0 m) [hostOps1] c main_v2 = refArr m c := by
  have h := Pipeline.withArrays_arr spec0 arr_inj c (V0 m c) (fun w => (dats m 0 c).arrAt w cfg0.N) 6
  show StableHlo.after hostOps1 (Pipeline.withArrays spec0 c (V0 m c) fun w => (dats m 0 c).arrAt w cfg0.N) (Proc.devRef .tc main_v2) = _
  generalize Pipeline.withArrays spec0 c (V0 m c) (fun w => (dats m 0 c).arrAt w cfg0.N) = W at h ⊢
  after_results
  refine (congrArg (fun u : Vec Ideal S8192x1024 .f32 => shapeCast S32x256x1024 u shapeCasts_S8192x1024_S32x256x1024) (h.trans (rows m c))).trans ?_
  exact shapeCast_shapeCast ..

theorem frame_ref : Cert.quiescent_CtxCombineRefIdeal := fun m g _ =>
  (θ_run Cert.CtxCombineRefIdeal.defs _ _).mono (fun r h => ⟨fun c => (h c).2, sem_eq_zero_of_no_sems (by decide) r.2⟩)
    (Cert.CtxCombineRefIdeal.Value.run m g)

/-- The scale of the residual is printed rounded; the rule names it as the fourth root of 8. -/
theorem preserves : Cert.preserves_CtxCombine_CtxCombineIdeal :=
  IdealRules.named_const.statement Cert.CtxCombineIdeal.κ "alpha" .f32 0x3FD744FD#32 ((Real.sqrt (Real.sqrt 8) : ℝ) : EReal) rfl

/-- The result is the reference's. -/
theorem algebraic : Cert.algebraic_CtxCombineIdeal_CtxCombineRefIdeal := by
  intro m g m' g' _ hagree
  refine ⟨fun c => refArr m c, ?_, ?_⟩
  · exact (θ_run defs _ _).mono (fun r h c => ⟨((h.2 c).2 main_v2 (by decide)).trans (tail m c), h.1 c⟩)
      (θ_run_and (Gen.unchanged m g) (Gen.run_main m g))
  · refine (θ_run Cert.CtxCombineRefIdeal.defs _ _).mono (fun r h c => ⟨(h c).1.trans ?_, (h c).2⟩) (Cert.CtxCombineRefIdeal.Value.run m' g')
    obtain ⟨h0, h1, h2, h3, h4, h5⟩ := hagree c
    unfold Cert.CtxCombineRefIdeal.Value.res_main_v34
    rw [h0, h1, h2, h3, h4, h5]
    rfl

end Cert.CtxCombineIdeal.Value

end
-- ==== Proof.CtxDenseTable.lean ====
/- On the context stream: the dense call prefetches a table of zeros: its windows on the weights stay inside them (idealized program). -/
module

public import proofs.«01_k».proof.Defs
public import proofs.«01_k».proof.Proof.Gen.CtxDenseIdeal.Frame.Runs
public import Idealize.ShloMosaic.Lib.Pointwise

@[expose] public section

set_option maxRecDepth 16384

noncomputable section

namespace Cert.CtxDenseIdeal.Value

open Cert.CtxDenseIdeal Cert.CtxDenseIdeal.Gen Idealize.ShloMosaic Idealize.ShloMosaic.TcCoe Idealize.SL.Sem

variable {F : FTy → Type} [FloatOps F] [Named F]

/-- Where the dense kernel's windows on the weights read the table: the word of the row tile. -/
theorem word_at (pf : pre0.Contents (Elt F)) (i : grid0.Coords) :
    pf.at 0 (Rect.unit (s := S16) ![(Scalar.indexCast (BitVec.ofNat 32 (i 0).val)).toNat] S1.size (k0_off1_inb i)) numel1_S1
      = pf 0 (ValueIdx.ix1 (i 0)) := by
  have hi : (i 0).val < 16 := (i 0).isLt
  have e : (Scalar.indexCast (BitVec.ofNat 32 (i 0).val)).toNat = (i 0).val :=
    Affine.nat_eq (Affine.indexCast (Affine.ofNat (i 0).val (by omega))) _ rfl
  refine congrArg (pf 0) (funext fun (a : Fin 1) => Fin.ext ?_)
  obtain rfl : a = 0 := Subsingleton.elim _ _
  show (Scalar.indexCast (BitVec.ofNat 32 (i 0).val)).toNat + 1 * 0 = (i 0).val
  omega

/-- With a table of zeros the weights' windows are on the one set of weights, at the half the inner coordinate names. -/
theorem index_gate (pf : pre0.Contents (Elt F)) (h : ∀ y : S16.Idx, (show BitVec 32 from pf 0 y) = 0#32) (i : grid0.Coords) :
    cc0_transform_1 k0_off1_inb numel1_S1 pf i = ![0, 0, (i 1).val] := by
  have h1 : (i 1).val < 2 := (i 1).isLt
  have e : (BitVec.ofNat 32 (i 1).val).toNat = (i 1).val := by rw [BitVec.toNat_ofNat]; omega
  show ![_, _, _] = ![_, _, _]
  rw [word_at pf i, e]
  show ![(show BitVec 32 from pf 0 (ValueIdx.ix1 (i 0))).toNat, _, _] = _
  rw [h]
  rfl
theorem index_up (pf : pre0.Contents (Elt F)) (h : ∀ y : S16.Idx, (show BitVec 32 from pf 0 y) = 0#32) (i : grid0.Coords) :
    cc0_transform_2 k0_off1_inb numel1_S1 pf i = ![0, 0, (i 1).val + 2] := by
  have h1 : (i 1).val < 2 := (i 1).isLt
  have e : (Scalar.addi (BitVec.ofNat 32 (i 1).val) 2#32).toNat = (i 1).val + 2 := by
    show (BitVec.ofNat 32 (i 1).val + 2#32).toNat = _
    rw [BitVec.toNat_add, BitVec.toNat_ofNat]
    show ((i 1).val % 4294967296 + 2) % 4294967296 = _
    omega
  show ![_, _, _] = ![_, _, _]
  rw [word_at pf i, e]
  show ![(show BitVec 32 from pf 0 (ValueIdx.ix1 (i 0))).toNat, _, _] = _
  rw [h]
  rfl
theorem index_down (pf : pre0.Contents (Elt F)) (h : ∀ y : S16.Idx, (show BitVec 32 from pf 0 y) = 0#32) (i : grid0.Coords) :
    cc0_transform_3 k0_off1_inb numel1_S1 pf i = ![0, (i 1).val, 0] := by
  have h1 : (i 1).val < 2 := (i 1).isLt
  have e : (BitVec.ofNat 32 (i 1).val).toNat = (i 1).val := by rw [BitVec.toNat_ofNat]; omega
  show ![_, _, _] = ![_, _, _]
  rw [word_at pf i, e]
  show ![(show BitVec 32 from pf 0 (ValueIdx.ix1 (i 0))).toNat, _, _] = _
  rw [h]
  rfl

/-- So every block read through such a table is inside its array. -/
theorem ok_of_zero (pf : pre0.Contents (Elt F)) (h : ∀ y : S16.Idx, (show BitVec 32 from pf 0 y) = 0#32) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  all_goals
    have h1 : (i 1).val < 2 := (i 1).isLt
  · rw [index_gate pf h]
    fin_cases a
    · show (0 + 1) * 1 ≤ 1; omega
    · show (0 + 1) * 1024 ≤ 1024; omega
    · show ((i 1).val + 1) * 1408 ≤ 5632; omega
  · rw [index_up pf h]
    fin_cases a
    · show (0 + 1) * 1 ≤ 1; omega
    · show (0 + 1) * 1024 ≤ 1024; omega
    · show ((i 1).val + 2 + 1) * 1408 ≤ 5632; omega
  · rw [index_down pf h]
    fin_cases a
    · show (0 + 1) * 1 ≤ 1; omega
    · show ((i 1).val + 1) * 1408 ≤ 2816; omega
    · show (0 + 1) * 1024 ≤ 1024; omega

variable (m : (ℓ : Loc nD τ sig) → Buf (Elt F) ℓ)

/-- The host fills the table with zeros. -/
theorem table_zero (c : Dev nD) : V m c main_v0 = broadcastInDim S16 ![] bcast_S_S16 (constantI S_ 32 0#32) := by
  show StableHlo.after hostOps0 (fun b => m (c, b)) (Proc.devRef .tc main_v0) = _
  after_results
theorem word_zero (y : S16.Idx) : (show BitVec 32 from tbl m 0 y) = 0#32 :=
  (congrFun (table_zero m 0) y).trans rfl

/-- The kernel's table is in range. -/
theorem ok : Ok m := ok_of_zero _ (word_zero m)

end Cert.CtxDenseIdeal.Value

end
-- ==== Proof.CtxDenseValue.lean ====
/- On the context stream: the array the dense feed-forward kernel leaves, at every row and column. -/
module

public import proofs.«01_k».proof.Proof.Gen.CtxDenseIdeal.Frame
public import proofs.«01_k».proof.Proof.CtxDenseTable
public import proofs.«01_k».proof.Proof.DenseMath
public import Idealize.ShloMosaic.Lib.Pipeline.ValueKit
public import Idealize.ShloMosaic.Lib.Pipeline.Covers

@[expose] public section

set_option maxRecDepth 16384

noncomputable section

namespace Cert.CtxDenseIdeal.Value

open Cert.CtxDenseIdeal Cert.CtxDenseIdeal.Gen Idealize.ShloMosaic Idealize.ShloMosaic.TcCoe Idealize.SL.Sem
open Idealize.ShloMosaic.Pipeline (Dat)

theorem one_at : Ideal.ofBits FTy.f32 0x3F800000#32 = 1 := by
  have h : Ideal.ofBits FTy.f32 0x3F800000#32 = ((1 : ℝ) : EReal) := by
    simp [Ideal.ofBits, Ideal.ieee, -EReal.coe_mul]; norm_num
  exact h.trans EReal.coe_one

/-- The accumulator is first set to zero. -/
theorem pay3_at (r : Fin 512) (d : Fin 1024) : k0_pay3 (F := Ideal) (ix2 r d) = 0 := by
  pointwise [k0_pay3]

/-- A grid point adds half the hidden units to the accumulator, over the modulated rows. -/
theorem pay4_at (x : Vec Ideal S512x1024 .f32) (s h : Vec Ideal S1x1x1024 .f32) (g u : Vec Ideal S1x1024x1408 .bf16) (a : Vec Ideal S512x1024 .f32) (v : Vec Ideal S1x1408x1024 .bf16) (r : Fin 512) (d : Fin 1024) :
    k0_pay1 (k0_pay4 x s h g u a v) (ix2 r d) = (show EReal from a (ix2 r d))
      + ∑ f : Fin 1408, Moe.silu (∑ k : Fin 1024, (x (ix2 r k) * (1 + s (ix3 0 0 k)) + h (ix3 0 0 k)) * g (ix3 0 k f))
        * (∑ k : Fin 1024, (x (ix2 r k) * (1 + s (ix3 0 0 k)) + h (ix3 0 0 k)) * u (ix3 0 k f)) * v (ix3 0 f d) := by
  pointwise [k0_pay1, k0_pay4, one_at]
  rfl

/-- The last half normalizes the scaled residual with the gated accumulator. -/
theorem pay2_at (a x : Vec Ideal S512x1024 .f32) (gate : Vec Ideal S1x1x1024 .f32) (g b : Vec Ideal S1x1024 .f32) (r : Fin 512) (d : Fin 1024) :
    k0_pay2 a x gate g b (ix2 r d) = Moe.layerNorm (Moe.residualOne (fun k => x (ix2 r k)) (fun k => gate (ix3 0 0 k)) (fun k => a (ix2 r k)))
      (fun k => g (ix2 0 k)) (fun k => b (ix2 0 k)) d := by
  pointwise [k0_pay2]
  rfl

/-- The same, with each block's entries named. -/
theorem pay2_of (a x : Vec Ideal S512x1024 .f32) (gate : Vec Ideal S1x1x1024 .f32) (g b : Vec Ideal S1x1024 .f32) (r : Fin 512) (d : Fin 1024)
    (X Q Y S B : Fin 1024 → EReal) (hx : ∀ k, x (ix2 r k) = X k) (hq : ∀ k, gate (ix3 0 0 k) = Q k) (hy : ∀ k, a (ix2 r k) = Y k)
    (hs : ∀ k, g (ix2 0 k) = S k) (hb : ∀ k, b (ix2 0 k) = B k) :
    k0_pay2 a x gate g b (ix2 r d) = Moe.layerNorm (Moe.residualOne X Q Y) S B d := by
  refine (pay2_at a x gate g b r d).trans ?_
  simp only [hx, hq, hy, hs, hb]

/-- One half's product at a row and column, as hidden units: `φ` places the half's units on the hidden axis. -/
theorem half_at (x : Vec Ideal S512x1024 .f32) (s h : Vec Ideal S1x1x1024 .f32) (g u : Vec Ideal S1x1024x1408 .bf16) (a : Vec Ideal S512x1024 .f32)
    (v : Vec Ideal S1x1408x1024 .bf16) (r : Fin 512) (d : Fin 1024) (X S H : Fin 1024 → EReal) (W : Fin 1024 → Fin 5632 → EReal)
    (D : Fin 2816 → Fin 1024 → EReal) (φ : Fin 1408 → Fin 2816) (hx : ∀ k, x (ix2 r k) = X k) (hs : ∀ k, s (ix3 0 0 k) = S k) (hh : ∀ k, h (ix3 0 0 k) = H k)
    (hg : ∀ k f, g (ix3 0 k f) = W k ⟨(φ f).val, by omega⟩) (hu : ∀ k f, u (ix3 0 k f) = W k ⟨2816 + (φ f).val, by omega⟩)
    (hv : ∀ f, v (ix3 0 f d) = D (φ f) d) :
    k0_pay1 (k0_pay4 x s h g u a v) (ix2 r d) = a (ix2 r d) + ∑ f : Fin 1408, Moe.denseUnit (Moe.modulated X S H) W D d (φ f) := by
  refine (pay4_at x s h g u a v r d).trans ?_
  simp only [hx, hs, hh, hg, hu, hv]
  rfl

variable (m : (ℓ : Loc nD τ sig) → Buf (Elt Ideal) ℓ)

abbrev aX (c : Dev nD) : Vec Ideal S32x256x1024 .f32 := m ((c : Thread nD τ).loc main_arg0)
abbrev aS (c : Dev nD) : Vec Ideal S1x1x1024 .f32 := m ((c : Thread nD τ).loc main_arg1)
abbrev aH (c : Dev nD) : Vec Ideal S1x1x1024 .f32 := m ((c : Thread nD τ).loc main_arg2)
abbrev aQ (c : Dev nD) : Vec Ideal S1x1x1024 .f32 := m ((c : Thread nD τ).loc main_arg3)
abbrev aG (c : Dev nD) : Vec Ideal S1x1024 .f32 := m ((c : Thread nD τ).loc main_arg4)
abbrev aB (c : Dev nD) : Vec Ideal S1x1024 .f32 := m ((c : Thread nD τ).loc main_arg5)
abbrev aW (c : Dev nD) : Vec Ideal S1024x5632 .f32 := m ((c : Thread nD τ).loc main_arg6)
abbrev aD (c : Dev nD) : Vec Ideal S2816x1024 .f32 := m ((c : Thread nD τ).loc main_arg7)

/-- A grid point's coordinates: the row tile and the half of the hidden axis. -/
theorem coords_val (t : Fin grid0.N) : (grid0.coords t 0).val = t.val / 2 ∧ (grid0.coords t 1).val = t.val % 2 := by
  have ht : t.val < 32 := Nat.lt_of_lt_of_eq t.isLt N_0
  have e0 : (grid0.coords t 0).val = t.val / 2 % 16 := Pipeline.Grid.coords_val t 0 (by decide) rfl
  have e1 : (grid0.coords t 1).val = t.val / 1 % 2 := Pipeline.Grid.coords_val t 1 (by decide) rfl
  omega

variable (hO : Ok m)

theorem idx9 (t : Fin (cfgM m hO).N) : ((cfgM m hO).win 9).index t = ![t.val / 2, 0] := by
  have h := coords_val t
  have ht : t.val < 32 := Nat.lt_of_lt_of_eq t.isLt N_0
  show cc0_transform_9 (grid0.coords t) = _
  unfold cc0_transform_9
  show ![(BitVec.ofNat 32 (grid0.coords t 0).val).toNat, 0] = ![t.val / 2, 0]
  rw [h.1, BitVec.toNat_ofNat, Nat.mod_eq_of_lt (by omega)]
theorem idx0 (t : Fin (cfgM m hO).N) : ((cfgM m hO).win 0).index t = ![t.val / 2, 0] := idx9 m hO t
theorem idx1 (t : Fin (cfgM m hO).N) : ((cfgM m hO).win 1).index t = ![0, 0, t.val % 2] := by
  rw [← (coords_val t).2]; exact index_gate _ (word_zero m) _
theorem idx2 (t : Fin (cfgM m hO).N) : ((cfgM m hO).win 2).index t = ![0, 0, t.val % 2 + 2] := by
  rw [← (coords_val t).2]; exact index_up _ (word_zero m) _
theorem idx3 (t : Fin (cfgM m hO).N) : ((cfgM m hO).win 3).index t = ![0, t.val % 2, 0] := by
  rw [← (coords_val t).2]; exact index_down _ (word_zero m) _
/-- All rows share one scale, shift and gate. -/
theorem group_index : ∀ i : grid0.Coords, cc0_transform_4 i = ![0, 0, 0] := by decide +kernel
theorem idx4 (t : Fin (cfgM m hO).N) : ((cfgM m hO).win 4).index t = ![0, 0, 0] := by
  exact group_index _
theorem idx5 (t : Fin (cfgM m hO).N) : ((cfgM m hO).win 5).index t = ![0, 0, 0] := idx4 m hO t
theorem idx6 (t : Fin (cfgM m hO).N) : ((cfgM m hO).win 6).index t = ![0, 0, 0] := idx4 m hO t
theorem idx7 (t : Fin (cfgM m hO).N) : ((cfgM m hO).win 7).index t = ![0, 0] := rfl
theorem idx8 (t : Fin (cfgM m hO).N) : ((cfgM m hO).win 8).index t = ![0, 0] := rfl

theorem covers9 : ((cfgM m hO).win 9).Covers := by
  refine Pipeline.Window.covers_of_index_surj _ rfl (fun (a : Fin 2) => ?_) fun β => ?_
  · match a with
    | 0 => exact (by decide : 0 < 512)
    | 1 => exact (by decide : 0 < 1024)
  · have h0 : (β (0 : Fin 2)).val < (8192 + 512 - 1) / 512 := (β (0 : Fin 2)).isLt
    have h1 : (β (1 : Fin 2)).val < (1024 + 1024 - 1) / 1024 := (β (1 : Fin 2)).isLt
    refine ⟨⟨2 * (β (0 : Fin 2)).val, by rw [show (cfgM m hO).grid.N = 32 from N_0]; omega⟩, fun (a : Fin 2) => ?_⟩
    rw [idx9]
    match a with
    | 0 => show 2 * (β (0 : Fin 2)).val / 2 = (β (0 : Fin 2)).val; omega
    | 1 => show 0 = (β (1 : Fin 2)).val; omega

/-- The rows reach the kernel as one axis of 8192. -/
theorem V_x (c : Dev nD) : V m c main_v1 = shapeCast S8192x1024 (aX m c) shapeCasts_S32x256x1024_S8192x1024 := by
  show StableHlo.after hostOps0 (fun b => m (c, b)) (Proc.devRef .tc main_v1) = _
  after_results; rfl
/-- The weights in the narrow format, with a leading axis of one. -/
def gu (w : FVec Ideal S1024x5632 .f32) : FVec Ideal S1x1024x5632 .bf16 :=
  broadcastInDim S1x1024x5632 ![1, 2] bcast_S1024x5632_S1x1024x5632_1_2 (truncf .bf16 w bitsLt_bf16_f32)
def down (w : FVec Ideal S2816x1024 .f32) : FVec Ideal S1x2816x1024 .bf16 :=
  broadcastInDim S1x2816x1024 ![1, 2] bcast_S2816x1024_S1x2816x1024_1_2 (truncf .bf16 w bitsLt_bf16_f32)
theorem V_gu (c : Dev nD) : V m c main_v3 = gu (aW m c) := by
  show StableHlo.after hostOps0 (fun b => m (c, b)) (Proc.devRef .tc main_v3) = _
  after_results; rfl
theorem V_down (c : Dev nD) : V m c main_v5 = down (aD m c) := by
  show StableHlo.after hostOps0 (fun b => m (c, b)) (Proc.devRef .tc main_v5) = _
  after_results; rfl
theorem flat_at (x : Vec Ideal S32x256x1024 .f32) (b : Fin 32) (l : Fin 256) (k : Fin 1024) :
    shapeCast S8192x1024 x shapeCasts_S32x256x1024_S8192x1024 (ix2 ⟨b.val * 256 + l.val, by omega⟩ k) = x (ix3 b l k) := by
  pointwise
theorem gu_at (w : FVec Ideal S1024x5632 .f32) (k : Fin 1024) (f : Fin 5632) : gu w (ix3 0 k f) = w (ix2 k f) := by
  pointwise [gu]
theorem down_at (w : FVec Ideal S2816x1024 .f32) (f : Fin 2816) (d : Fin 1024) : down w (ix3 0 f d) = w (ix2 f d) := by
  pointwise [down]

/-- The windows' blocks, read out of any array. -/
theorem read0 (A : Vec Ideal S8192x1024 .f32) (t : Fin (cfgM m hO).N) (r : Fin 512) (k : Fin 1024) (r' : Fin 8192) (hr : r'.val = t.val / 2 * 512 + r.val) :
    (show EReal from (((cfgM m hO).win 0).blk t).view.read (Elt Ideal) A (ix2 r k)) = (show EReal from A (ix2 r' k)) := by
  blk_ext [idx0 m hO t]
theorem read1 (A : Vec Ideal S1x1024x5632 .bf16) (t : Fin (cfgM m hO).N) (k : Fin 1024) (f : Fin 1408) (f' : Fin 5632) (hf : f'.val = t.val % 2 * 1408 + f.val) :
    (show EReal from (((cfgM m hO).win 1).blk t).view.read (Elt Ideal) A (ix3 0 k f)) = (show EReal from A (ix3 0 k f')) := by
  blk_ext [idx1 m hO t]
theorem read2 (A : Vec Ideal S1x1024x5632 .bf16) (t : Fin (cfgM m hO).N) (k : Fin 1024) (f : Fin 1408) (f' : Fin 5632) (hf : f'.val = 2816 + t.val % 2 * 1408 + f.val) :
    (show EReal from (((cfgM m hO).win 2).blk t).view.read (Elt Ideal) A (ix3 0 k f)) = (show EReal from A (ix3 0 k f')) := by
  blk_ext [idx2 m hO t]
theorem read3 (A : Vec Ideal S1x2816x1024 .bf16) (t : Fin (cfgM m hO).N) (f : Fin 1408) (d : Fin 1024) (f' : Fin 2816) (hf : f'.val = t.val % 2 * 1408 + f.val) :
    (show EReal from (((cfgM m hO).win 3).blk t).view.read (Elt Ideal) A (ix3 0 f d)) = (show EReal from A (ix3 0 f' d)) := by
  blk_ext [idx3 m hO t]
theorem read4 (A : Vec Ideal S1x1x1024 .f32) (t : Fin (cfgM m hO).N) (k : Fin 1024) :
    (show EReal from (((cfgM m hO).win 4).blk t).view.read (Elt Ideal) A (ix3 0 0 k)) = (show EReal from A (ix3 0 0 k)) := by
  blk_ext [idx4 m hO t]
theorem read7 (A : Vec Ideal S1x1024 .f32) (t : Fin (cfgM m hO).N) (k : Fin 1024) :
    (show EReal from (((cfgM m hO).win 7).blk t).view.read (Elt Ideal) A (ix2 0 k)) = (show EReal from A (ix2 0 k)) := by
  blk_ext [idx7 m hO t]

theorem blk0 (c : Dev nD) (t : Fin (cfgM m hO).N) (r : Fin 512) (k : Fin 1024) (b : Fin 32) (l : Fin 256) (hr : b.val * 256 + l.val = t.val / 2 * 512 + r.val) :
    (show EReal from iblk m hO c 0 t (ix2 r k)) = aX m c (ix3 b l k) :=
  (read0 m hO (V m c main_v1) t r k ⟨b.val * 256 + l.val, by omega⟩ hr).trans ((congrFun (V_x m c) _).trans (flat_at (aX m c) b l k))
theorem blk1 (c : Dev nD) (t : Fin (cfgM m hO).N) (k : Fin 1024) (f : Fin 1408) (f' : Fin 5632) (hf : f'.val = t.val % 2 * 1408 + f.val) :
    (show EReal from iblk m hO c 1 t (ix3 0 k f)) = aW m c (ix2 k f') :=
  (read1 m hO (V m c main_v3) t k f f' hf).trans ((congrFun (V_gu m c) _).trans (gu_at (aW m c) k f'))
theorem blk2 (c : Dev nD) (t : Fin (cfgM m hO).N) (k : Fin 1024) (f : Fin 1408) (f' : Fin 5632) (hf : f'.val = 2816 + t.val % 2 * 1408 + f.val) :
    (show EReal from iblk m hO c 2 t (ix3 0 k f)) = aW m c (ix2 k f') :=
  (read2 m hO (V m c main_v3) t k f f' hf).trans ((congrFun (V_gu m c) _).trans (gu_at (aW m c) k f'))
theorem blk3 (c : Dev nD) (t : Fin (cfgM m hO).N) (f : Fin 1408) (d : Fin 1024) (f' : Fin 2816) (hf : f'.val = t.val % 2 * 1408 + f.val) :
    (show EReal from iblk m hO c 3 t (ix3 0 f d)) = aD m c (ix2 f' d) :=
  (read3 m hO (V m c main_v5) t f d f' hf).trans ((congrFun (V_down m c) _).trans (down_at (aD m c) f' d))
theorem blk4 (c : Dev nD) (t : Fin (cfgM m hO).N) (k : Fin 1024) :
    (show EReal from iblk m hO c 4 t (ix3 0 0 k)) = aS m c (ix3 0 0 k) := read4 m hO (V m c main_arg1) t k
theorem blk5 (c : Dev nD) (t : Fin (cfgM m hO).N) (k : Fin 1024) :
    (show EReal from iblk m hO c 5 t (ix3 0 0 k)) = aH m c (ix3 0 0 k) := read4 m hO (V m c main_arg2) t k
theorem blk6 (c : Dev nD) (t : Fin (cfgM m hO).N) (k : Fin 1024) :
    (show EReal from iblk m hO c 6 t (ix3 0 0 k)) = aQ m c (ix3 0 0 k) := read4 m hO (V m c main_arg3) t k
theorem blk7 (c : Dev nD) (t : Fin (cfgM m hO).N) (k : Fin 1024) : (show EReal from iblk m hO c 7 t (ix2 0 k)) = aG m c (ix2 0 k) :=
  read7 m hO (V m c main_arg4) t k
theorem blk8 (c : Dev nD) (t : Fin (cfgM m hO).N) (k : Fin 1024) : (show EReal from iblk m hO c 8 t (ix2 0 k)) = aB m c (ix2 0 k) :=
  read7 m hO (V m c main_arg5) t k

/-- What the first half leaves in the accumulator, over any blocks. -/
theorem half_A {c : Dev nD} {i : grid0.Coords} {arg3 : Memref sig .tc .vmem S512x1024 .f32} {harg3 : arg3.IsWhole} {arg4 : Memref sig .tc .vmem S1x1024x1408 .bf16} {harg4 : arg4.IsWhole} {arg5 : Memref sig .tc .vmem S1x1024x1408 .bf16} {harg5 : arg5.IsWhole} {arg6 : Memref sig .tc .vmem S1x1408x1024 .bf16} {harg6 : arg6.IsWhole} {arg7 : Memref sig .tc .vmem S1x1x1024 .f32} {harg7 : arg7.IsWhole} {arg8 : Memref sig .tc .vmem S1x1x1024 .f32} {harg8 : arg8.IsWhole} {arg9 : Memref sig .tc .vmem S1x1x1024 .f32} {harg9 : arg9.IsWhole} {arg10 : Memref sig .tc .vmem S1x1024 .f32} {harg10 : arg10.IsWhole} {arg11 : Memref sig .tc .vmem S1x1024 .f32} {harg11 : arg11.IsWhole} {arg12 : Memref sig .tc .vmem S512x1024 .f32} {harg12 : arg12.IsWhole} {arg13 : Memref sig .tc .vmem S512x1024 .f32} {harg13 : arg13.IsWhole} {hc0 : cond0_0 i} {hc1 : ¬cond0_1 i}
    {x0 : Vec Ideal S512x1024 .f32} {x1 : Vec Ideal S1x1024x1408 .bf16} {x2 : Vec Ideal S1x1024x1408 .bf16} {x3 : Vec Ideal S1x1408x1024 .bf16} {x4 : Vec Ideal S1x1x1024 .f32} {x5 : Vec Ideal S1x1x1024 .f32} {x6 : Vec Ideal S1x1x1024 .f32} {x7 : Vec Ideal S1x1024 .f32} {x8 : Vec Ideal S1x1024 .f32} {xt0 : TbBuf0 (F := Ideal) c tbM0_0} :
    sout0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xt0 = k0_pay1 (k0_pay4 x0 x4 x5 x1 x2 (k0_pay3 (F := Ideal)) x3) := by
  frame_out
/-- What the second half stores in the tile's block, over any blocks and accumulator. -/
theorem half_B {c : Dev nD} {i : grid0.Coords} {arg3 : Memref sig .tc .vmem S512x1024 .f32} {harg3 : arg3.IsWhole} {arg4 : Memref sig .tc .vmem S1x1024x1408 .bf16} {harg4 : arg4.IsWhole} {arg5 : Memref sig .tc .vmem S1x1024x1408 .bf16} {harg5 : arg5.IsWhole} {arg6 : Memref sig .tc .vmem S1x1408x1024 .bf16} {harg6 : arg6.IsWhole} {arg7 : Memref sig .tc .vmem S1x1x1024 .f32} {harg7 : arg7.IsWhole} {arg8 : Memref sig .tc .vmem S1x1x1024 .f32} {harg8 : arg8.IsWhole} {arg9 : Memref sig .tc .vmem S1x1x1024 .f32} {harg9 : arg9.IsWhole} {arg10 : Memref sig .tc .vmem S1x1024 .f32} {harg10 : arg10.IsWhole} {arg11 : Memref sig .tc .vmem S1x1024 .f32} {harg11 : arg11.IsWhole} {arg12 : Memref sig .tc .vmem S512x1024 .f32} {harg12 : arg12.IsWhole} {arg13 : Memref sig .tc .vmem S512x1024 .f32} {harg13 : arg13.IsWhole} {hc0 : ¬cond0_0 i} {hc1 : cond0_1 i}
    {x0 : Vec Ideal S512x1024 .f32} {x1 : Vec Ideal S1x1024x1408 .bf16} {x2 : Vec Ideal S1x1024x1408 .bf16} {x3 : Vec Ideal S1x1408x1024 .bf16} {x4 : Vec Ideal S1x1x1024 .f32} {x5 : Vec Ideal S1x1x1024 .f32} {x6 : Vec Ideal S1x1x1024 .f32} {x7 : Vec Ideal S1x1024 .f32} {x8 : Vec Ideal S1x1024 .f32} {xt0 : TbBuf0 (F := Ideal) c tbM0_0} {xs0 : Vec Ideal S512x1024 .f32} :
    out0_B_9 c i arg3 harg3 arg4 harg4 arg5 harg5 arg6 harg6 arg7 harg7 arg8 harg8 arg9 harg9 arg10 harg10 arg11 harg11 arg12 harg12 arg13 harg13 hc0 hc1 x0 x1 x2 x3 x4 x5 x6 x7 x8 xt0 xs0 = k0_pay2 (k0_pay1 (k0_pay4 x0 x4 x5 x1 x2 xs0 x3)) x0 x6 x7 x8 := by
  frame_out

/-- What the first half leaves in the accumulator. -/
theorem acc_A (c : Dev nD) (t : Fin (cfgM m hO).N) (h0 : t.val % 2 = 0) (h1 : ¬t.val % 2 = 1) :
    (outsAt0 m hO c t.val t.isLt).2 = k0_pay1 (k0_pay4 (iblk m hO c 0 t) (iblk m hO c 4 t) (iblk m hO c 5 t) (iblk m hO c 1 t) (iblk m hO c 2 t) (k0_pay3 (F := Ideal)) (iblk m hO c 3 t)) := by
  rw [outsAt0_A m hO c t h0 h1]; dsimp only; exact half_A

/-- What the second half stores in the tile's block. -/
theorem out_B (c : Dev nD) (t : Fin (cfgM m hO).N) (h0 : ¬t.val % 2 = 0) (h1 : t.val % 2 = 1) (t' : Fin (cfgM m hO).N) (ht : t'.val = t.val - 1) :
    (outsAt0 m hO c t.val t.isLt).1 = k0_pay2 (k0_pay1 (k0_pay4 (iblk m hO c 0 t) (iblk m hO c 4 t) (iblk m hO c 5 t) (iblk m hO c 1 t) (iblk m hO c 2 t) (outsAt0 m hO c t'.val t'.isLt).2 (iblk m hO c 3 t))) (iblk m hO c 0 t) (iblk m hO c 6 t) (iblk m hO c 7 t) (iblk m hO c 8 t) := by
  have hlt : t.val - 1 < (cfgM m hO).N := ht ▸ t'.isLt
  obtain rfl : t' = ⟨t.val - 1, hlt⟩ := Fin.ext ht
  rw [outsAt0_B m hO c t h0 h1]; dsimp only; exact half_B

/-- One half at a grid point, as hidden units of the row's feed-forward. -/
theorem half (c : Dev nD) (t : Fin (cfgM m hO).N) (r : Fin 512) (d : Fin 1024) (b : Fin 32) (l : Fin 256) (hr : b.val * 256 + l.val = t.val / 2 * 512 + r.val)
    (a : Vec Ideal S512x1024 .f32) (φ : Fin 1408 → Fin 2816) (hφ : ∀ f, (φ f).val = t.val % 2 * 1408 + f.val) :
    k0_pay1 (k0_pay4 (iblk m hO c 0 t) (iblk m hO c 4 t) (iblk m hO c 5 t) (iblk m hO c 1 t) (iblk m hO c 2 t) a (iblk m hO c 3 t)) (ix2 r d) =
      a (ix2 r d) + ∑ f : Fin 1408, Moe.denseUnit (Moe.modulated (fun k => aX m c (ix3 b l k)) (fun k => aS m c (ix3 0 0 k)) (fun k => aH m c (ix3 0 0 k)))
        (fun k f => aW m c (ix2 k f)) (fun f d => aD m c (ix2 f d)) d (φ f) :=
  half_at (iblk m hO c 0 t) (iblk m hO c 4 t) (iblk m hO c 5 t) (iblk m hO c 1 t) (iblk m hO c 2 t) a (iblk m hO c 3 t) r d _ _ _ _ _ φ
    (fun k => blk0 m hO c t r k b l hr) (fun k => blk4 m hO c t k) (fun k => blk5 m hO c t k)
    (fun k f => blk1 m hO c t k f _ (hφ f)) (fun k f => blk2 m hO c t k f _ (by show 2816 + (φ f).val = _; rw [hφ f]; omega))
    (fun f => blk3 m hO c t f d _ (hφ f))

/-- The result at group `b`, row `l`, column `d`. -/
def result (c : Dev nD) (b : Fin 32) (l : Fin 256) (d : Fin 1024) : EReal :=
  Moe.denseRow (fun k => aX m c (ix3 b l k)) (fun k => aS m c (ix3 0 0 k)) (fun k => aH m c (ix3 0 0 k)) (fun k => aQ m c (ix3 0 0 k))
    (fun k => aG m c (ix2 0 k)) (fun k => aB m c (ix2 0 k)) (fun k f => aW m c (ix2 k f)) (fun f d => aD m c (ix2 f d)) d

/-- The array the kernel leaves, its rows on one axis. -/
theorem final (c : Dev nD) (G : Vec Ideal S8192x1024 .f32)
    (hG : ∀ (b : Fin 32) (l : Fin 256) (d : Fin 1024), G (ix2 ⟨b.val * 256 + l.val, by omega⟩ d) = result m c b l d) :
    (dats m hO 0 c).arrAt 9 (cfgM m hO).N = G := by
  refine (dats m hO 0 c).arrAt_eq_of_covers 9 _ (covers9 m hO) fun t hf y => ?_
  have h1 : t.val % 2 = 1 := (flush0_9 (adm m hO) t).1 hf
  have h32 : t.val < 32 := Nat.lt_of_lt_of_eq t.isLt N_0
  have hN : t.val - 1 < (cfgM m hO).N := Nat.lt_of_le_of_lt (Nat.sub_le _ _) t.isLt
  have h0 : (t.val - 1) % 2 = 0 := by omega
  have hd : (t.val - 1) / 2 = t.val / 2 := by omega
  blk_simp
  rw [after0_9, out_B m hO c t (by omega) h1 ⟨t.val - 1, hN⟩ rfl, acc_A m hO c ⟨t.val - 1, hN⟩ h0 (by show ¬(t.val - 1) % 2 = 1; omega)]
  obtain ⟨r, d, rfl⟩ : ∃ (r : Fin 512) (d : Fin 1024), y = ix2 r d := ⟨y (0 : Fin 2), y (1 : Fin 2), eq_ix2 _⟩
  obtain ⟨b, hb⟩ : ∃ b : Fin 32, b.val = t.val / 2 * 2 + r.val / 256 := ⟨⟨t.val / 2 * 2 + r.val / 256, by have := r.isLt; omega⟩, rfl⟩
  obtain ⟨l, hl⟩ : ∃ l : Fin 256, l.val = r.val % 256 := ⟨⟨r.val % 256, by omega⟩, rfl⟩
  have hr : b.val * 256 + l.val = t.val / 2 * 512 + r.val := by omega
  have hE : G ((((cfgM m hO).win 9).blk t).view.emb (ix2 r d)) = G (ix2 ⟨b.val * 256 + l.val, by omega⟩ d) := by
    blk_ext [idx9 m hO t]
  refine Eq.trans ?_ hE.symm
  rw [hG]
  refine pay2_of _ (iblk m hO c 0 t) (iblk m hO c 6 t) (iblk m hO c 7 t) (iblk m hO c 8 t) r d _ _ _ _ _ (fun k => blk0 m hO c t r k b l hr) (fun k => blk6 m hO c t k) (fun k => ?_)
    (fun k => blk7 m hO c t k) (fun k => blk8 m hO c t k)
  rw [Moe.denseOut_halves]
  rw [half m hO c t r k b l hr _ (fun f => ⟨1408 + f.val, by omega⟩) (fun f => by show 1408 + f.val = _; omega),
    half m hO c ⟨t.val - 1, hN⟩ r k b l (by rw [hr]; show _ = (t.val - 1) / 2 * 512 + r.val; omega) _ (fun f => ⟨f.val, by omega⟩)
      (fun f => by show f.val = (t.val - 1) % 2 * 1408 + f.val; omega), pay3_at, zero_add]

end Cert.CtxDenseIdeal.Value

end
-- ==== Proof.CtxDenseRef.lean ====
/- On the context stream: the dense feed-forward block as the reference computes it, at one group, row and column. -/
module

public import proofs.«01_k».proof.Proof.Gen.CtxDenseRefIdeal.Run
public import proofs.«01_k».proof.Proof.DenseMath

@[expose] public section

set_option maxRecDepth 16384

noncomputable section

namespace Cert.CtxDenseRefIdeal.Value

open Cert.CtxDenseRefIdeal Cert.CtxDenseRefIdeal.Gen Idealize.ShloMosaic Idealize.ShloMosaic.TcCoe Idealize.SL.Sem

/-- The modulated rows. -/
def rows (X : FVec Ideal S32x256x1024 .f32) (S T : FVec Ideal S1x1x1024 .f32) : FVec Ideal S32x256x1024 .f32 :=
  addf (mulf X (broadcastInDim S32x256x1024 ![0, 1, 2] bcast_S1x1x1024_S32x256x1024_0_1_2 (addf (broadcastInDim S1x1x1024 ![] bcast_S_S1x1x1024 (constant S_ .f32 0x3F800000#32)) S))) (broadcastInDim S32x256x1024 ![0, 1, 2] bcast_S1x1x1024_S32x256x1024_0_1_2 T)
/-- Their gate and up projections. -/
def both (H : FVec Ideal S32x256x1024 .f32) (W : FVec Ideal S1024x5632 .f32) : FVec Ideal S32x256x5632 .f32 :=
  Host.dotGeneral dot_S32x256x1024_S1024x5632_S32x256x5632_2_0_01_1_n_n none H W
/-- The feed-forward's output. -/
def outs (Z : FVec Ideal S32x256x5632 .f32) (D : FVec Ideal S2816x1024 .f32) : FVec Ideal S32x256x1024 .f32 :=
  Host.dotGeneral dot_S32x256x2816_S2816x1024_S32x256x1024_2_0_01_1_n_n none (mulf (mulf (extractStridedSlice S32x256x2816 ![0, 0, 0] Z slices_S32x256x5632_S32x256x2816_0_0_0) (Host.divf (broadcastInDim S32x256x2816 ![] bcast_S_S32x256x2816 (constant S_ .f32 0x3F800000#32)) (addf (broadcastInDim S32x256x2816 ![] bcast_S_S32x256x2816 (constant S_ .f32 0x3F800000#32)) (Host.exp (Host.negf (extractStridedSlice S32x256x2816 ![0, 0, 0] Z slices_S32x256x5632_S32x256x2816_0_0_0)))))) (extractStridedSlice S32x256x2816 ![0, 0, 2816] Z slices_S32x256x5632_S32x256x2816_0_0_2816)) D
/-- The scaled residual with the gated output. -/
def resid (X : FVec Ideal S32x256x1024 .f32) (Q : FVec Ideal S1x1x1024 .f32) (Y : FVec Ideal S32x256x1024 .f32) : FVec Ideal S32x256x1024 .f32 :=
  addf (mulf (broadcastInDim S32x256x1024 ![] bcast_S_S32x256x1024 (Host.sqrt (Host.sqrt (constant S_ .f32 0x41000000#32)))) X) (mulf (broadcastInDim S32x256x1024 ![0, 1, 2] bcast_S1x1x1024_S32x256x1024_0_1_2 Q) Y)
/-- The layer norm. -/
def normed (R : FVec Ideal S32x256x1024 .f32) (G B : FVec Ideal S1x1024 .f32) : FVec Ideal S32x256x1024 .f32 :=
  addf (mulf (mulf (subf R (broadcastInDim S32x256x1024 ![0, 1, 2] bcast_S32x256x1_S32x256x1024_0_1_2 (Host.divf (broadcastInDim S32x256x1 ![0, 1] bcast_S32x256_S32x256x1_0_1 (Host.reduceAdd R (constant S_ .f32 0x00000000#32) reducesTo_S32x256x1024_S32x256_d2 h_S_)) (broadcastInDim S32x256x1 ![] bcast_S_S32x256x1 (constant S_ .f32 0x44800000#32))))) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (subf R (broadcastInDim S32x256x1024 ![0, 1, 2] bcast_S32x256x1_S32x256x1024_0_1_2 (Host.divf (broadcastInDim S32x256x1 ![0, 1] bcast_S32x256_S32x256x1_0_1 (Host.reduceAdd R (constant S_ .f32 0x00000000#32) reducesTo_S32x256x1024_S32x256_d2 h_S_)) (broadcastInDim S32x256x1 ![] bcast_S_S32x256x1 (constant S_ .f32 0x44800000#32))))) (subf R (broadcastInDim S32x256x1024 ![0, 1, 2] bcast_S32x256x1_S32x256x1024_0_1_2 (Host.divf (broadcastInDim S32x256x1 ![0, 1] bcast_S32x256_S32x256x1_0_1 (Host.reduceAdd R (constant S_ .f32 0x00000000#32) reducesTo_S32x256x1024_S32x256_d2 h_S_)) (broadcastInDim S32x256x1 ![] bcast_S_S32x256x1 (constant S_ .f32 0x44800000#32)))))) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x3727C5AC#32)))))) (broadcastInDim S32x256x1024 ![0, 1, 2] bcast_S1x1x1024_S32x256x1024_0_1_2 (broadcastInDim S1x1x1024 ![2] bcast_S1024_S1x1x1024_2 (shapeCast _ G shapeCasts_S1x1024_S1024)))) (broadcastInDim S32x256x1024 ![0, 1, 2] bcast_S1x1x1024_S32x256x1024_0_1_2 (broadcastInDim S1x1x1024 ![2] bcast_S1024_S1x1x1024_2 (shapeCast _ B shapeCasts_S1x1024_S1024)))
/-- The reference's composed term, over its argument arrays. -/
def REF (X : FVec Ideal S32x256x1024 .f32) (S T Q : FVec Ideal S1x1x1024 .f32) (G B : FVec Ideal S1x1024 .f32) (W : FVec Ideal S1024x5632 .f32) (D : FVec Ideal S2816x1024 .f32) : FVec Ideal S32x256x1024 .f32 :=
  normed (resid X Q (outs (both (rows X S T) W) D)) G B

theorem one_at : Ideal.ofBits FTy.f32 0x3F800000#32 = 1 := by
  have h : Ideal.ofBits FTy.f32 0x3F800000#32 = ((1 : ℝ) : EReal) := by
    simp [Ideal.ofBits, Ideal.ieee, -EReal.coe_mul]; norm_num
  exact h.trans EReal.coe_one

/-- The reference's scale of the residual is the fourth root of 8. -/
theorem fourth_root : Ideal.sqrt (Ideal.sqrt (Ideal.ofBits FTy.f32 0x41000000#32)) = ((Real.sqrt (Real.sqrt 8) : ℝ) : EReal) := by
  have h8 : Ideal.ofBits FTy.f32 0x41000000#32 = ((8 : ℝ) : EReal) := by
    simp [Ideal.ofBits, Ideal.ieee, -EReal.coe_mul]; norm_num
  rw [h8, Ideal.sqrt_coe, if_neg (by norm_num), Ideal.sqrt_coe, if_neg (not_lt.2 (Real.sqrt_nonneg _))]

theorem rows_at (X : FVec Ideal S32x256x1024 .f32) (S T : FVec Ideal S1x1x1024 .f32) (b : Fin 32) (l : Fin 256) (k : Fin 1024) :
    rows X S T (ix3 b l k) = Moe.modulated (fun k => X (ix3 b l k)) (fun k => S (ix3 0 0 k)) (fun k => T (ix3 0 0 k)) k := by
  pointwise [rows, one_at]
  rfl
theorem both_at (H : FVec Ideal S32x256x1024 .f32) (W : FVec Ideal S1024x5632 .f32) (b : Fin 32) (l : Fin 256) (f : Fin 5632) :
    both H W (ix3 b l f) = ∑ k : Fin 1024, (H (ix3 b l k) * W (ix2 k f) : EReal) := by
  pointwise [both]
theorem outs_at (Z : FVec Ideal S32x256x5632 .f32) (D : FVec Ideal S2816x1024 .f32) (b : Fin 32) (l : Fin 256) (d : Fin 1024) :
    outs Z D (ix3 b l d) = ∑ f : Fin 2816, (Moe.silu (Z (ix3 b l ⟨f.val, by omega⟩)) * Z (ix3 b l ⟨2816 + f.val, by omega⟩) * D (ix2 f d) : EReal) := by
  pointwise [outs]
  exact Finset.sum_congr rfl fun f _ => rfl
theorem resid_at (X : FVec Ideal S32x256x1024 .f32) (Q : FVec Ideal S1x1x1024 .f32) (Y : FVec Ideal S32x256x1024 .f32) (b : Fin 32) (l : Fin 256) (k : Fin 1024) :
    resid X Q Y (ix3 b l k) = Moe.residualOne (fun k => X (ix3 b l k)) (fun k => Q (ix3 0 0 k)) (fun k => Y (ix3 b l k)) k := by
  pointwise [resid]
  rw [fourth_root]
  rfl
theorem normed_at (R : FVec Ideal S32x256x1024 .f32) (G B : FVec Ideal S1x1024 .f32) (b : Fin 32) (l : Fin 256) (d : Fin 1024) :
    normed R G B (ix3 b l d) = Moe.layerNorm (fun k => R (ix3 b l k)) (fun k => G (ix2 0 k)) (fun k => B (ix2 0 k)) d := by
  pointwise [normed]
  rfl

theorem ref_at (X : FVec Ideal S32x256x1024 .f32) (S T Q : FVec Ideal S1x1x1024 .f32) (G B : FVec Ideal S1x1024 .f32) (W : FVec Ideal S1024x5632 .f32) (D : FVec Ideal S2816x1024 .f32) (b : Fin 32) (l : Fin 256) (d : Fin 1024) :
    REF X S T Q G B W D (ix3 b l d) = Moe.denseRow (fun k => X (ix3 b l k)) (fun k => S (ix3 0 0 k)) (fun k => T (ix3 0 0 k)) (fun k => Q (ix3 0 0 k))
      (fun k => G (ix2 0 k)) (fun k => B (ix2 0 k)) (fun k f => W (ix2 k f)) (fun f d => D (ix2 f d)) d := by
  refine (normed_at _ G B b l d).trans ?_
  refine congrArg (fun R => Moe.layerNorm R _ _ d) (funext fun k => (resid_at X Q _ b l k).trans ?_)
  refine congrArg (fun Y => Moe.residualOne _ _ Y k) (funext fun j => (outs_at _ D b l j).trans ?_)
  refine Finset.sum_congr rfl fun f _ => ?_
  simp only [both_at, rows_at]
  rfl

end Cert.CtxDenseRefIdeal.Value

end
-- ==== Proof.CtxDenseClaim.lean ====
/- On the context stream: the dense call leaves what the reference computes. -/
module

public import proofs.«01_k».proof.Defs
public import proofs.«01_k».proof.Proof.CtxDenseValue
public import proofs.«01_k».proof.Proof.CtxDenseRef
public import Idealize.ShloMosaic.Adequacy
public import Idealize.ShloMosaic.Init
public import Idealize.ShloMosaic.Lib.Claim

@[expose] public section

set_option maxRecDepth 16384

noncomputable section

namespace Cert.CtxDenseIdeal.Value

open Cert.CtxDenseIdeal Cert.CtxDenseIdeal.Gen Idealize.ShloMosaic Idealize.ShloMosaic.TcCoe Idealize.SL.Sem
open Idealize.ShloMosaic.Pipeline (Dat)

variable (m : (ℓ : Loc nD τ sig) → Buf (Elt Ideal) ℓ)

/-- The reference's array, over the kernel's arguments. -/
def refArr (c : Dev nD) : Vec Ideal S32x256x1024 .f32 :=
  Cert.CtxDenseRefIdeal.Value.REF (aX m c) (aS m c) (aH m c) (aQ m c) (aG m c) (aB m c) (aW m c) (aD m c)

/-- The reference's array with its rows on one axis is what the kernel leaves. -/
theorem rows (c : Dev nD) : (dats m (ok m) 0 c).arrAt 9 (cfgM m (ok m)).N = shapeCast S8192x1024 (refArr m c) shapeCasts_S32x256x1024_S8192x1024 :=
  final m (ok m) c _ fun b l d => (flat_at (refArr m c) b l d).trans (Cert.CtxDenseRefIdeal.Value.ref_at _ _ _ _ _ _ _ _ b l d)

/-- What the region leaves, as the last line finds it. -/
def left (c : Dev nD) : Valuation τ sig (Elt Ideal) :=
  Pipeline.withArrays (Pipeline.pin pcfgs (fun _ => adm m (ok m)) 0).spec c (V0 m c) fun w => (dats m (ok m) 0 c).arrAt w (cfgM m (ok m)).N
theorem left_arr (c : Dev nD) : left m c (Proc.devRef .tc main_v6) = shapeCast S8192x1024 (refArr m c) shapeCasts_S32x256x1024_S8192x1024 := by
  refine Eq.trans ?_ (rows m c)
  exact Pipeline.withArrays_arr_shared (Pipeline.pin pcfgs (fun _ => adm m (ok m)) 0).spec c (V0 m c)
    (fun w => (dats m (ok m) 0 c).arrAt w (cfgM m (ok m)).N)
    ((dats m (ok m) 0 c).arrAt_sharedIn sharedIn0 (V0 m c) (A_eq m (ok m) c) _) 9
/-- The last line puts the rows in their groups again. -/
theorem last_line (W : Valuation τ sig (Elt Ideal)) : StableHlo.after hostOps1 W (Proc.devRef .tc main_v7) =
    shapeCast S32x256x1024 (show Vec Ideal S8192x1024 .f32 from W (Proc.devRef .tc main_v6)) shapeCasts_S8192x1024_S32x256x1024 := by
  after_results; rfl
theorem tail (c : Dev nD) : Pipeline.afterTail pcfgs (fun _ => adm m (ok m)) (dats m (ok m)) 0 (V0 m) [hostOps1] c main_v7 = refArr m c := by
  show StableHlo.after hostOps1 (left m c) (Proc.devRef .tc main_v7) = _
  refine (last_line _).trans ?_
  refine (congrArg (fun u : Vec Ideal S8192x1024 .f32 => shapeCast S32x256x1024 u shapeCasts_S8192x1024_S32x256x1024) (left_arr m c)).trans ?_
  exact shapeCast_shapeCast ..

theorem frame_ref : Cert.quiescent_CtxDenseRefIdeal := fun m g _ =>
  (θ_run Cert.CtxDenseRefIdeal.defs _ _).mono (fun r h => ⟨fun c => (h c).2, sem_eq_zero_of_no_sems (by decide) r.2⟩)
    (Cert.CtxDenseRefIdeal.Value.run m g)

/-- The scale of the residual is printed rounded; the rule names it as the fourth root of 8. -/
theorem preserves : Cert.preserves_CtxDense_CtxDenseIdeal :=
  IdealRules.named_const.statement Cert.CtxDenseIdeal.κ "alpha" .f32 0x3FD744FD#32 ((Real.sqrt (Real.sqrt 8) : ℝ) : EReal) rfl

/-- The result is the reference's. -/
theorem algebraic : Cert.algebraic_CtxDenseIdeal_CtxDenseRefIdeal := by
  intro m g m' g' _ hagree
  refine ⟨fun c => refArr m c, ?_, ?_⟩
  · exact (θ_run defs _ _).mono (fun r h c => ⟨((h.2 c).2 main_v7 (show main_v7 ∈ Pipeline.restRefs sig spec0 by decide)).trans (tail m c), h.1 c⟩)
      (θ_run_and (unchanged m g (ok m)) (run_main m g (ok m)))
  · refine (θ_run Cert.CtxDenseRefIdeal.defs _ _).mono (fun r h c => ⟨(h c).1.trans ?_, (h c).2⟩) (Cert.CtxDenseRefIdeal.Value.run m' g')
    obtain ⟨h0, h1, h2, h3, h4, h5, h6, h7⟩ := hagree c
    unfold Cert.CtxDenseRefIdeal.Value.res_main_v42
    rw [h0, h1, h2, h3, h4, h5, h6, h7]
    rfl

end Cert.CtxDenseIdeal.Value

end
-- ==== Proof.CtxOutValue.lean ====
/- On the context stream: the array the output projection leaves: at every row the layer norm of the scaled residual with the gated product. -/
module

public import proofs.«01_k».proof.Proof.Gen.CtxOutIdeal.Frame
public import proofs.«01_k».proof.Proof.ProjMath
public import Idealize.ShloMosaic.Lib.Pipeline.ValueKit
public import Idealize.ShloMosaic.Lib.Pipeline.Covers

@[expose] public section

set_option maxRecDepth 16384

noncomputable section

namespace Cert.CtxOutIdeal.Value

open Cert.CtxOutIdeal Cert.CtxOutIdeal.Gen Idealize.ShloMosaic Idealize.ShloMosaic.TcCoe Idealize.SL.Sem
open Idealize.ShloMosaic.Pipeline (Dat)

/-- What the kernel stores, at one row and column of its block. -/
theorem pay1_at (y w : Vec Ideal S1024x1024 .bf16) (x : Vec Ideal S1024x1024 .f32) (gate : Vec Ideal S1x1x1024 .f32) (g b : Vec Ideal S1x1024 .f32) (r d : Fin 1024) :
    k0_pay1 y w x gate g b (ix2 r d) = Moe.outRow (fun k => y (ix2 r k)) (fun k d => w (ix2 k d)) (fun k => x (ix2 r k)) (fun k => gate (ix3 0 0 k))
      (fun k => g (ix2 0 k)) (fun k => b (ix2 0 k)) d := by
  pointwise [k0_pay1]
  rfl

/-- The same, with each block's entries named. -/
theorem pay1_of (y w : Vec Ideal S1024x1024 .bf16) (x : Vec Ideal S1024x1024 .f32) (gate : Vec Ideal S1x1x1024 .f32) (g b : Vec Ideal S1x1024 .f32) (r d : Fin 1024)
    (Y X Q G B : Fin 1024 → EReal) (W : Fin 1024 → Fin 1024 → EReal) (hy : ∀ k, y (ix2 r k) = Y k) (hw : ∀ k d, w (ix2 k d) = W k d)
    (hx : ∀ k, x (ix2 r k) = X k) (hq : ∀ k, gate (ix3 0 0 k) = Q k) (hg : ∀ k, g (ix2 0 k) = G k) (hb : ∀ k, b (ix2 0 k) = B k) :
    k0_pay1 y w x gate g b (ix2 r d) = Moe.outRow Y W X Q G B d := by
  refine (pay1_at y w x gate g b r d).trans ?_
  simp only [hx, hq, hy, hw, hg, hb]

variable (m : (ℓ : Loc nD τ sig) → Buf (Elt Ideal) ℓ)

abbrev aY (c : Dev nD) : Vec Ideal S32x256x1024 .bf16 := m ((c : Thread nD τ).loc main_arg0)
abbrev aW (c : Dev nD) : Vec Ideal S1024x1024 .f32 := m ((c : Thread nD τ).loc main_arg1)
abbrev aX (c : Dev nD) : Vec Ideal S32x256x1024 .f32 := m ((c : Thread nD τ).loc main_arg2)
abbrev aQ (c : Dev nD) : Vec Ideal S1x1x1024 .f32 := m ((c : Thread nD τ).loc main_arg3)
abbrev aG (c : Dev nD) : Vec Ideal S1x1024 .f32 := m ((c : Thread nD τ).loc main_arg4)
abbrev aB (c : Dev nD) : Vec Ideal S1x1024 .f32 := m ((c : Thread nD τ).loc main_arg5)

/-- A grid point's first coordinate is its number, the others are zero. -/
theorem coords_val (t : Fin grid0.N) : (grid0.coords t 0).val = t.val ∧ (grid0.coords t 1).val = 0 ∧ (grid0.coords t 2).val = 0 := by
  have ht : t.val < 8 := Nat.lt_of_lt_of_eq t.isLt N_0
  have e0 : (grid0.coords t 0).val = t.val / 1 % 8 := Pipeline.Grid.coords_val t 0 (by decide) rfl
  have e1 : (grid0.coords t 1).val = t.val / 1 % 1 := Pipeline.Grid.coords_val t 1 (by decide) rfl
  have e2 : (grid0.coords t 2).val = t.val / 1 % 1 := Pipeline.Grid.coords_val t 2 (by decide) rfl
  omega

theorem row_index : ∀ i : grid0.Coords, cc0_transform_0 i = ![(i 0).val, (i 2).val] := by decide +kernel
theorem weight_index : ∀ i : grid0.Coords, cc0_transform_1 i = ![(i 2).val, (i 1).val] := by decide +kernel
theorem res_index : ∀ i : grid0.Coords, cc0_transform_2 i = ![(i 0).val, 0] := by decide +kernel
/-- All rows share one gate. -/
theorem group_index : ∀ i : grid0.Coords, cc0_transform_3 i = ![0, 0, 0] := by decide +kernel
theorem out_index : ∀ i : grid0.Coords, cc0_transform_6 i = ![(i 0).val, (i 1).val] := by decide +kernel

theorem idx0 (t : Fin cfg0.N) : (cfg0.win 0).index t = ![t.val, 0] :=
  (row_index _).trans (by rw [(coords_val t).1, (coords_val t).2.2])
theorem idx1 (t : Fin cfg0.N) : (cfg0.win 1).index t = ![0, 0] :=
  (weight_index _).trans (by rw [(coords_val t).2.1, (coords_val t).2.2])
theorem idx2 (t : Fin cfg0.N) : (cfg0.win 2).index t = ![t.val, 0] :=
  (res_index _).trans (by rw [(coords_val t).1])
theorem idx3 (t : Fin cfg0.N) : (cfg0.win 3).index t = ![0, 0, 0] :=
  group_index _
theorem idx4 (t : Fin cfg0.N) : (cfg0.win 4).index t = ![0, 0] := rfl
theorem idx5 (t : Fin cfg0.N) : (cfg0.win 5).index t = ![0, 0] := rfl
theorem idx6 (t : Fin cfg0.N) : (cfg0.win 6).index t = ![t.val, 0] :=
  (out_index _).trans (by rw [(coords_val t).1, (coords_val t).2.1])

theorem covers6 : (cfg0.win 6).Covers := by
  refine Pipeline.Window.covers_of_index_surj _ rfl (fun (a : Fin 2) => ?_) fun β => ?_
  · match a with
    | 0 => exact (by decide : 0 < 1024)
    | 1 => exact (by decide : 0 < 1024)
  · have h0 : (β (0 : Fin 2)).val < (8192 + 1024 - 1) / 1024 := (β (0 : Fin 2)).isLt
    have h1 : (β (1 : Fin 2)).val < (1024 + 1024 - 1) / 1024 := (β (1 : Fin 2)).isLt
    refine ⟨⟨(β (0 : Fin 2)).val, by rw [show cfg0.grid.N = 8 from N_0]; omega⟩, fun (a : Fin 2) => ?_⟩
    rw [idx6]
    match a with
    | 0 => rfl
    | 1 => show 0 = (β (1 : Fin 2)).val; omega

/-- The rows and the residual reach the kernel as one axis of 8192, the weights in the narrow format. -/
theorem V_y (c : Dev nD) : V m c main_v0 = shapeCast S8192x1024 (aY m c) shapeCasts_S32x256x1024_S8192x1024 := by
  show StableHlo.after hostOps0 (fun b => m (c, b)) (Proc.devRef .tc main_v0) = _
  after_results; rfl
theorem V_x (c : Dev nD) : V m c main_v1 = shapeCast S8192x1024 (aX m c) shapeCasts_S32x256x1024_S8192x1024 := by
  show StableHlo.after hostOps0 (fun b => m (c, b)) (Proc.devRef .tc main_v1) = _
  after_results; rfl
def weights (w : FVec Ideal S1024x1024 .f32) : FVec Ideal S1024x1024 .bf16 := truncf .bf16 w bitsLt_bf16_f32
theorem V_w (c : Dev nD) : V m c main_v2 = weights (aW m c) := by
  show StableHlo.after hostOps0 (fun b => m (c, b)) (Proc.devRef .tc main_v2) = _
  after_results; rfl
theorem weights_at (w : FVec Ideal S1024x1024 .f32) (k d : Fin 1024) : weights w (ix2 k d) = w (ix2 k d) := by
  pointwise [weights]

/-- A row of the one axis is a row of a group. -/
theorem flat_at (x : Vec Ideal S32x256x1024 .f32) (b : Fin 32) (l : Fin 256) (k : Fin 1024) :
    shapeCast S8192x1024 x shapeCasts_S32x256x1024_S8192x1024 (ix2 ⟨b.val * 256 + l.val, by omega⟩ k) = x (ix3 b l k) := by
  pointwise
theorem flat_y (x : Vec Ideal S32x256x1024 .bf16) (b : Fin 32) (l : Fin 256) (k : Fin 1024) :
    shapeCast S8192x1024 x shapeCasts_S32x256x1024_S8192x1024 (ix2 ⟨b.val * 256 + l.val, by omega⟩ k) = x (ix3 b l k) := by
  pointwise

theorem blk0 (c : Dev nD) (t : Fin cfg0.N) (r k : Fin 1024) (b : Fin 32) (l : Fin 256) (hr : b.val * 256 + l.val = t.val * 1024 + r.val) :
    (show EReal from iblk m c 0 t (ix2 r k)) = aY m c (ix3 b l k) := by
  refine (congrFun (congrArg (((cfg0.win 0).blk t).view.read (Elt Ideal)) (V_y m c)) _).trans ?_
  refine Eq.trans ?_ (flat_y (aY m c) b l k)
  generalize shapeCast S8192x1024 (aY m c) shapeCasts_S32x256x1024_S8192x1024 = v
  blk_ext [idx0 t]
theorem blk1 (c : Dev nD) (t : Fin cfg0.N) (k d : Fin 1024) : (show EReal from iblk m c 1 t (ix2 k d)) = aW m c (ix2 k d) := by
  refine (congrFun (congrArg (((cfg0.win 1).blk t).view.read (Elt Ideal)) (V_w m c)) _).trans ?_
  refine Eq.trans ?_ (weights_at (aW m c) k d)
  generalize weights (aW m c) = v
  blk_ext [idx1 t]
theorem blk2 (c : Dev nD) (t : Fin cfg0.N) (r k : Fin 1024) (b : Fin 32) (l : Fin 256) (hr : b.val * 256 + l.val = t.val * 1024 + r.val) :
    (show EReal from iblk m c 2 t (ix2 r k)) = aX m c (ix3 b l k) := by
  refine (congrFun (congrArg (((cfg0.win 2).blk t).view.read (Elt Ideal)) (V_x m c)) _).trans ?_
  refine Eq.trans ?_ (flat_at (aX m c) b l k)
  generalize shapeCast S8192x1024 (aX m c) shapeCasts_S32x256x1024_S8192x1024 = v
  blk_ext [idx2 t]
theorem blk3 (c : Dev nD) (t : Fin cfg0.N) (k : Fin 1024) :
    (show EReal from iblk m c 3 t (ix3 0 0 k)) = aQ m c (ix3 0 0 k) := by
  blk_ext [iblk, V, idx3 t]
theorem blk4 (c : Dev nD) (t : Fin cfg0.N) (k : Fin 1024) : (show EReal from iblk m c 4 t (ix2 0 k)) = aG m c (ix2 0 k) := by
  blk_ext [iblk, V, idx4 t]
theorem blk5 (c : Dev nD) (t : Fin cfg0.N) (k : Fin 1024) : (show EReal from iblk m c 5 t (ix2 0 k)) = aB m c (ix2 0 k) := by
  blk_ext [iblk, V, idx5 t]

/-- The result at group `b`, row `l`, column `d`. -/
def result (c : Dev nD) (b : Fin 32) (l : Fin 256) (d : Fin 1024) : EReal :=
  Moe.outRow (fun k => aY m c (ix3 b l k)) (fun k d => aW m c (ix2 k d)) (fun k => aX m c (ix3 b l k)) (fun k => aQ m c (ix3 0 0 k))
    (fun k => aG m c (ix2 0 k)) (fun k => aB m c (ix2 0 k)) d

/-- The array the kernel leaves, its rows on one axis. -/
theorem final (c : Dev nD) (G : Vec Ideal S8192x1024 .f32)
    (hG : ∀ (b : Fin 32) (l : Fin 256) (d : Fin 1024), G (ix2 ⟨b.val * 256 + l.val, by omega⟩ d) = result m c b l d) :
    (dats m 0 c).arrAt 6 cfg0.N = G := by
  refine (dats m 0 c).arrAt_eq_of_covers 6 _ covers6 fun t hf y => ?_
  have h8 : t.val < 8 := Nat.lt_of_lt_of_eq t.isLt N_0
  blk_simp
  rw [after0_6]
  obtain ⟨r, d, rfl⟩ : ∃ (r : Fin 1024) (d : Fin 1024), y = ix2 r d := ⟨y (0 : Fin 2), y (1 : Fin 2), eq_ix2 _⟩
  obtain ⟨b, hb⟩ : ∃ b : Fin 32, b.val = t.val * 4 + r.val / 256 := ⟨⟨t.val * 4 + r.val / 256, by have := r.isLt; omega⟩, rfl⟩
  obtain ⟨l, hl⟩ : ∃ l : Fin 256, l.val = r.val % 256 := ⟨⟨r.val % 256, by omega⟩, rfl⟩
  have hr : b.val * 256 + l.val = t.val * 1024 + r.val := by omega
  have hE : G ((((cfg0.win 6).blk t).view.emb (ix2 r d))) = G (ix2 ⟨b.val * 256 + l.val, by omega⟩ d) := by
    blk_ext [idx6 t]
  refine Eq.trans ?_ hE.symm
  rw [hG]
  frame_out
  exact pay1_of (iblk m c 0 t) (iblk m c 1 t) (iblk m c 2 t) (iblk m c 3 t) (iblk m c 4 t) (iblk m c 5 t) r d _ _ _ _ _ _
    (fun k => blk0 m c t r k b l hr) (fun k d => blk1 m c t k d) (fun k => blk2 m c t r k b l hr) (fun k => blk3 m c t k)
    (fun k => blk4 m c t k) (fun k => blk5 m c t k)

end Cert.CtxOutIdeal.Value

end
-- ==== Proof.CtxOutRef.lean ====
/- On the context stream: the output projection with its layer norm as the reference computes it, at one group, row and column. -/
module

public import proofs.«01_k».proof.Proof.Gen.CtxOutRefIdeal.Run
public import proofs.«01_k».proof.Proof.ProjMath

@[expose] public section

set_option maxRecDepth 16384

noncomputable section

namespace Cert.CtxOutRefIdeal.Value

open Cert.CtxOutRefIdeal Cert.CtxOutRefIdeal.Gen Idealize.ShloMosaic Idealize.ShloMosaic.TcCoe Idealize.SL.Sem

/-- The product with the weights. -/
def outs (Y : FVec Ideal S32x256x1024 .bf16) (W : FVec Ideal S1024x1024 .f32) : FVec Ideal S32x256x1024 .f32 :=
  Host.dotGeneral dot_S32x256x1024_S1024x1024_S32x256x1024_2_0_01_1_n_n none (extf .f32 Y bitsLt_bf16_f32) W
/-- The scaled residual with the gated output. -/
def resid (X : FVec Ideal S32x256x1024 .f32) (Q : FVec Ideal S1x1x1024 .f32) (Y : FVec Ideal S32x256x1024 .f32) : FVec Ideal S32x256x1024 .f32 :=
  addf (mulf (broadcastInDim S32x256x1024 ![] bcast_S_S32x256x1024 (Host.sqrt (Host.sqrt (constant S_ .f32 0x41000000#32)))) X) (mulf (broadcastInDim S32x256x1024 ![0, 1, 2] bcast_S1x1x1024_S32x256x1024_0_1_2 Q) Y)
/-- The layer norm. -/
def normed (R : FVec Ideal S32x256x1024 .f32) (G B : FVec Ideal S1x1024 .f32) : FVec Ideal S32x256x1024 .f32 :=
  addf (mulf (mulf (subf R (broadcastInDim S32x256x1024 ![0, 1, 2] bcast_S32x256x1_S32x256x1024_0_1_2 (Host.divf (broadcastInDim S32x256x1 ![0, 1] bcast_S32x256_S32x256x1_0_1 (Host.reduceAdd R (constant S_ .f32 0x00000000#32) reducesTo_S32x256x1024_S32x256_d2 h_S_)) (broadcastInDim S32x256x1 ![] bcast_S_S32x256x1 (constant S_ .f32 0x44800000#32))))) (broadcastInDim S32x256x1024 ![0, 1, 2] bcast_S32x256x1_S32x256x1024_0_1_2 (Host.rsqrt (addf (Host.divf (broadcastInDim S32x256x1 ![0, 1] bcast_S32x256_S32x256x1_0_1 (Host.reduceAdd (mulf (subf R (broadcastInDim S32x256x1024 ![0, 1, 2] bcast_S32x256x1_S32x256x1024_0_1_2 (Host.divf (broadcastInDim S32x256x1 ![0, 1] bcast_S32x256_S32x256x1_0_1 (Host.reduceAdd R (constant S_ .f32 0x00000000#32) reducesTo_S32x256x1024_S32x256_d2 h_S_)) (broadcastInDim S32x256x1 ![] bcast_S_S32x256x1 (constant S_ .f32 0x44800000#32))))) (subf R (broadcastInDim S32x256x1024 ![0, 1, 2] bcast_S32x256x1_S32x256x1024_0_1_2 (Host.divf (broadcastInDim S32x256x1 ![0, 1] bcast_S32x256_S32x256x1_0_1 (Host.reduceAdd R (constant S_ .f32 0x00000000#32) reducesTo_S32x256x1024_S32x256_d2 h_S_)) (broadcastInDim S32x256x1 ![] bcast_S_S32x256x1 (constant S_ .f32 0x44800000#32)))))) (constant S_ .f32 0x00000000#32) reducesTo_S32x256x1024_S32x256_d2 h_S_)) (broadcastInDim S32x256x1 ![] bcast_S_S32x256x1 (constant S_ .f32 0x44800000#32))) (broadcastInDim S32x256x1 ![] bcast_S_S32x256x1 (constant S_ .f32 0x3727C5AC#32)))))) (broadcastInDim S32x256x1024 ![0, 1, 2] bcast_S1x1x1024_S32x256x1024_0_1_2 (broadcastInDim S1x1x1024 ![2] bcast_S1024_S1x1x1024_2 (shapeCast _ G shapeCasts_S1x1024_S1024)))) (broadcastInDim S32x256x1024 ![0, 1, 2] bcast_S1x1x1024_S32x256x1024_0_1_2 (broadcastInDim S1x1x1024 ![2] bcast_S1024_S1x1x1024_2 (shapeCast _ B shapeCasts_S1x1024_S1024)))
/-- The reference's composed term, over its argument arrays. -/
def REF (Y : FVec Ideal S32x256x1024 .bf16) (W : FVec Ideal S1024x1024 .f32) (X : FVec Ideal S32x256x1024 .f32) (Q : FVec Ideal S1x1x1024 .f32) (G B : FVec Ideal S1x1024 .f32) : FVec Ideal S32x256x1024 .f32 :=
  normed (resid X Q (outs Y W)) G B

/-- The reference's scale of the residual is the fourth root of 8. -/
theorem fourth_root : Ideal.sqrt (Ideal.sqrt (Ideal.ofBits FTy.f32 0x41000000#32)) = ((Real.sqrt (Real.sqrt 8) : ℝ) : EReal) := by
  have h8 : Ideal.ofBits FTy.f32 0x41000000#32 = ((8 : ℝ) : EReal) := by
    simp [Ideal.ofBits, Ideal.ieee, -EReal.coe_mul]; norm_num
  rw [h8, Ideal.sqrt_coe, if_neg (by norm_num), Ideal.sqrt_coe, if_neg (not_lt.2 (Real.sqrt_nonneg _))]

theorem outs_at (Y : FVec Ideal S32x256x1024 .bf16) (W : FVec Ideal S1024x1024 .f32) (b : Fin 32) (l : Fin 256) (d : Fin 1024) :
    outs Y W (ix3 b l d) = ∑ k : Fin 1024, (Y (ix3 b l k) * W (ix2 k d) : EReal) := by
  pointwise [outs]
theorem resid_at (X : FVec Ideal S32x256x1024 .f32) (Q : FVec Ideal S1x1x1024 .f32) (Y : FVec Ideal S32x256x1024 .f32) (b : Fin 32) (l : Fin 256) (k : Fin 1024) :
    resid X Q Y (ix3 b l k) = Moe.residualOne (fun k => X (ix3 b l k)) (fun k => Q (ix3 0 0 k)) (fun k => Y (ix3 b l k)) k := by
  pointwise [resid]
  rw [fourth_root]
  rfl
theorem normed_at (R : FVec Ideal S32x256x1024 .f32) (G B : FVec Ideal S1x1024 .f32) (b : Fin 32) (l : Fin 256) (d : Fin 1024) :
    normed R G B (ix3 b l d) = Moe.layerNorm (fun k => R (ix3 b l k)) (fun k => G (ix2 0 k)) (fun k => B (ix2 0 k)) d := by
  pointwise [normed]
  rfl

theorem ref_at (Y : FVec Ideal S32x256x1024 .bf16) (W : FVec Ideal S1024x1024 .f32) (X : FVec Ideal S32x256x1024 .f32) (Q : FVec Ideal S1x1x1024 .f32) (G B : FVec Ideal S1x1024 .f32)
    (b : Fin 32) (l : Fin 256) (d : Fin 1024) :
    REF Y W X Q G B (ix3 b l d) = Moe.outRow (fun k => Y (ix3 b l k)) (fun k d => W (ix2 k d)) (fun k => X (ix3 b l k)) (fun k => Q (ix3 0 0 k))
      (fun k => G (ix2 0 k)) (fun k => B (ix2 0 k)) d := by
  refine (normed_at _ G B b l d).trans ?_
  refine congrArg (fun R => Moe.layerNorm R _ _ d) (funext fun k => (resid_at X Q _ b l k).trans ?_)
  exact congrArg (fun Y => Moe.residualOne _ _ Y k) (funext fun j => outs_at Y W b l j)

end Cert.CtxOutRefIdeal.Value

end
-- ==== Proof.CtxOutClaim.lean ====
/- On the context stream: the output projection leaves what the reference computes. -/
module

public import proofs.«01_k».proof.Defs
public import proofs.«01_k».proof.Proof.CtxOutValue
public import proofs.«01_k».proof.Proof.CtxOutRef
public import Idealize.ShloMosaic.Adequacy
public import Idealize.ShloMosaic.Init
public import Idealize.ShloMosaic.Lib.Claim

@[expose] public section

set_option maxRecDepth 16384

noncomputable section

namespace Cert.CtxOutIdeal.Value

open Cert.CtxOutIdeal Cert.CtxOutIdeal.Gen Idealize.ShloMosaic Idealize.ShloMosaic.TcCoe Idealize.SL.Sem

variable (m : (ℓ : Loc nD τ sig) → Buf (Elt Ideal) ℓ)

/-- The reference's array, over the kernel's arguments. -/
def refArr (c : Dev nD) : Vec Ideal S32x256x1024 .f32 := Cert.CtxOutRefIdeal.Value.REF (aY m c) (aW m c) (aX m c) (aQ m c) (aG m c) (aB m c)

/-- The reference's array with its rows on one axis is what the kernel leaves. -/
theorem rows (c : Dev nD) : (dats m 0 c).arrAt 6 cfg0.N = shapeCast S8192x1024 (refArr m c) shapeCasts_S32x256x1024_S8192x1024 :=
  final m c _ fun b l d => (flat_at (refArr m c) b l d).trans (Cert.CtxOutRefIdeal.Value.ref_at _ _ _ _ _ _ b l d)

theorem arr_inj : Function.Injective (Pipeline.arrRef spec0) := by decide

/-- What the last host line leaves: the rows in their groups again. -/
theorem tail (c : Dev nD) : Pipeline.afterTail₀ cfgs (dats m) 0 (V0 m) [hostOps1] c main_v4 = refArr m c := by
  have h := Pipeline.withArrays_arr spec0 arr_inj c (V0 m c) (fun w => (dats m 0 c).arrAt w cfg0.N) 6
  show StableHlo.after hostOps1 (Pipeline.withArrays spec0 c (V0 m c) fun w => (dats m 0 c).arrAt w cfg0.N) (Proc.devRef .tc main_v4) = _
  generalize Pipeline.withArrays spec0 c (V0 m c) (fun w => (dats m 0 c).arrAt w cfg0.N) = W at h ⊢
  after_results
  refine (congrArg (fun u : Vec Ideal S8192x1024 .f32 => shapeCast S32x256x1024 u shapeCasts_S8192x1024_S32x256x1024) (h.trans (rows m c))).trans ?_
  exact shapeCast_shapeCast ..

theorem frame_ref : Cert.quiescent_CtxOutRefIdeal := fun m g _ =>
  (θ_run Cert.CtxOutRefIdeal.defs _ _).mono (fun r h => ⟨fun c => (h c).2, sem_eq_zero_of_no_sems (by decide) r.2⟩)
    (Cert.CtxOutRefIdeal.Value.run m g)

/-- The scale of the residual is printed rounded; the rule names it as the fourth root of 8. -/
theorem preserves : Cert.preserves_CtxOut_CtxOutIdeal :=
  IdealRules.named_const.statement Cert.CtxOutIdeal.κ "alpha" .f32 0x3FD744FD#32 ((Real.sqrt (Real.sqrt 8) : ℝ) : EReal) rfl

/-- The result is the reference's. -/
theorem algebraic : Cert.algebraic_CtxOutIdeal_CtxOutRefIdeal := by
  intro m g m' g' _ hagree
  refine ⟨fun c => refArr m c, ?_, ?_⟩
  · exact (θ_run defs _ _).mono (fun r h c => ⟨((h.2 c).2 main_v4 (by decide)).trans (tail m c), h.1 c⟩)
      (θ_run_and (Gen.unchanged m g) (Gen.run_main m g))
  · refine (θ_run Cert.CtxOutRefIdeal.defs _ _).mono (fun r h c => ⟨(h c).1.trans ?_, (h c).2⟩) (Cert.CtxOutRefIdeal.Value.run m' g')
    obtain ⟨h0, h1, h2, h3, h4, h5⟩ := hagree c
    unfold Cert.CtxOutRefIdeal.Value.res_main_v32
    rw [h0, h1, h2, h3, h4, h5]
    rfl

end Cert.CtxOutIdeal.Value

end
-- ==== Proof.CtxGlaInValue.lean ====
/- On the context stream: the array the projection into the gated linear attention mixer leaves: every modulated row times every column of the weights. -/
module

public import proofs.«01_k».proof.Proof.Gen.CtxGlaInIdeal.Frame
public import proofs.«01_k».proof.Proof.ProjMath
public import Idealize.ShloMosaic.Lib.Pipeline.ValueKit
public import Idealize.ShloMosaic.Lib.Pipeline.Covers

@[expose] public section

set_option maxRecDepth 16384

noncomputable section

namespace Cert.CtxGlaInIdeal.Value

open Cert.CtxGlaInIdeal Cert.CtxGlaInIdeal.Gen Idealize.ShloMosaic Idealize.ShloMosaic.TcCoe Idealize.SL.Sem
open Idealize.ShloMosaic.Pipeline (Dat)

/-- What the kernel stores, each block's entries named. -/
theorem pay1_of (x : Vec Ideal S1024x1024 .f32) (s t : Vec Ideal S1x1x1024 .f32) (w : Vec Ideal S1024x640 .bf16) (r : Fin 1024) (e : Fin 640)
    (X S T W : Fin 1024 → EReal) (hx : ∀ k, x (ix2 r k) = X k) (hs : ∀ k, s (ix3 0 0 k) = S k) (ht : ∀ k, t (ix3 0 0 k) = T k)
    (hw : ∀ k, w (ix2 k e) = W k) : k0_pay1 x s t w (ix2 r e) = Moe.proj X S T W := by
  pointwise [k0_pay1]
  simp only [hx, hs, ht, hw]
  rfl

variable (m : (ℓ : Loc nD τ sig) → Buf (Elt Ideal) ℓ)

abbrev aX (c : Dev nD) : Vec Ideal S32x256x1024 .f32 := m ((c : Thread nD τ).loc main_arg0)
abbrev aS (c : Dev nD) : Vec Ideal S1x1x1024 .f32 := m ((c : Thread nD τ).loc main_arg1)
abbrev aT (c : Dev nD) : Vec Ideal S1x1x1024 .f32 := m ((c : Thread nD τ).loc main_arg2)
abbrev aW (c : Dev nD) : Vec Ideal S1024x3072 .f32 := m ((c : Thread nD τ).loc main_arg3)
abbrev aG (c : Dev nD) : Vec Ideal S2x1024x16 .f32 := m ((c : Thread nD τ).loc main_arg4)

/-- A grid point's coordinates: the row tile, the column tile, and the one step of the contracted axis. -/
theorem coords_val (t : Fin grid0.N) : (grid0.coords t 0).val = t.val / 5 ∧ (grid0.coords t 1).val = t.val % 5 ∧ (grid0.coords t 2).val = 0 := by
  have ht : t.val < 40 := Nat.lt_of_lt_of_eq t.isLt N_0
  have e0 : (grid0.coords t 0).val = t.val / 5 % 8 := Pipeline.Grid.coords_val t 0 (by decide) rfl
  have e1 : (grid0.coords t 1).val = t.val / 1 % 5 := Pipeline.Grid.coords_val t 1 (by decide) rfl
  have e2 : (grid0.coords t 2).val = t.val / 1 % 1 := Pipeline.Grid.coords_val t 2 (by decide) rfl
  omega

theorem row_index : ∀ i : grid0.Coords, cc0_transform_0 i = ![(i 0).val, (i 2).val] := by decide +kernel
theorem weight_index : ∀ i : grid0.Coords, cc0_transform_1 i = ![(i 2).val, (i 1).val] := by decide +kernel
/-- All rows share one scale and shift. -/
theorem group_index : ∀ i : grid0.Coords, cc0_transform_2 i = ![0, 0, 0] := by decide +kernel
theorem out_index : ∀ i : grid0.Coords, cc0_transform_4 i = ![(i 0).val, (i 1).val] := by decide +kernel

theorem idx0 (t : Fin cfg0.N) : (cfg0.win 0).index t = ![t.val / 5, 0] :=
  (row_index _).trans (by rw [(coords_val t).1, (coords_val t).2.2])
theorem idx1 (t : Fin cfg0.N) : (cfg0.win 1).index t = ![0, t.val % 5] :=
  (weight_index _).trans (by rw [(coords_val t).2.1, (coords_val t).2.2])
theorem idx2 (t : Fin cfg0.N) : (cfg0.win 2).index t = ![0, 0, 0] :=
  group_index _
theorem idx3 (t : Fin cfg0.N) : (cfg0.win 3).index t = ![0, 0, 0] := idx2 t
theorem idx4 (t : Fin cfg0.N) : (cfg0.win 4).index t = ![t.val / 5, t.val % 5] :=
  (out_index _).trans (by rw [(coords_val t).1, (coords_val t).2.1])

theorem covers4 : (cfg0.win 4).Covers := by
  refine Pipeline.Window.covers_of_index_surj _ rfl (fun (a : Fin 2) => ?_) fun β => ?_
  · match a with
    | 0 => exact (by decide : 0 < 1024)
    | 1 => exact (by decide : 0 < 640)
  · have h0 : (β (0 : Fin 2)).val < (8192 + 1024 - 1) / 1024 := (β (0 : Fin 2)).isLt
    have h1 : (β (1 : Fin 2)).val < (3200 + 640 - 1) / 640 := (β (1 : Fin 2)).isLt
    refine ⟨⟨5 * (β (0 : Fin 2)).val + (β (1 : Fin 2)).val, by rw [show cfg0.grid.N = 40 from N_0]; omega⟩, fun (a : Fin 2) => ?_⟩
    rw [idx4]
    match a with
    | 0 => show (5 * (β (0 : Fin 2)).val + (β (1 : Fin 2)).val) / 5 = (β (0 : Fin 2)).val; omega
    | 1 => show (5 * (β (0 : Fin 2)).val + (β (1 : Fin 2)).val) % 5 = (β (1 : Fin 2)).val; omega

/-- The rows reach the kernel as one axis of 8192. -/
theorem V_x (c : Dev nD) : V m c main_v5 = shapeCast S8192x1024 (aX m c) shapeCasts_S32x256x1024_S8192x1024 := by
  unfold V V0
  simp only [List.flatten_cons, List.flatten_nil, List.cons_append, List.nil_append]
  after_results; rfl
/-- The weights and the two gates' first factors side by side in the narrow format, with 96 columns of zeros behind them. -/
def weights (w : FVec Ideal S1024x3072 .f32) (g : FVec Ideal S2x1024x16 .f32) : FVec Ideal S1024x3200 .bf16 :=
  pad S1024x3200 ![0, 0] ![0, 96] ![0, 0] (truncf .bf16 (concatenate S1024x3104 1 [⟨S1024x3072, w⟩,
    ⟨S1024x16, shapeCast S1024x16 (extractStridedSlice S1x1024x16 ![0, 0, 0] g slices_S2x1024x16_S1x1024x16_0_0_0) shapeCasts_S1x1024x16_S1024x16⟩,
    ⟨S1024x16, shapeCast S1024x16 (extractStridedSlice S1x1024x16 ![1, 0, 0] g slices_S2x1024x16_S1x1024x16_1_0_0) shapeCasts_S1x1024x16_S1024x16⟩]
    concatenates_S1024x3072_S1024x16_S1024x16_S1024x3104_d1 : FVec Ideal S1024x3104 .f32) bitsLt_bf16_f32 : FVec Ideal S1024x3104 .bf16) (sitofp (F := Ideal) .bf16 (constantI S_ 32 0#32)) pads_S1024x3104_S1024x3200_000_0960 h_S_
theorem V_w (c : Dev nD) : V m c main_v7 = weights (aW m c) (aG m c) := by
  unfold V V0
  simp only [List.flatten_cons, List.flatten_nil, List.cons_append, List.nil_append]
  after_results; rfl
theorem weights_at (w : FVec Ideal S1024x3072 .f32) (g : FVec Ideal S2x1024x16 .f32) (k : Fin 1024) (e : Fin 3200) :
    weights w g (ix2 k e) = Moe.beside (fun k f => w (ix2 k f)) (fun d k f => g (ix3 d k f)) e.val k := by
  pointwise [weights, Moe.beside]
  rw [Moe.int_zero]
  have he := e.isLt
  split_ifs <;> first | with_reducible rfl | omega | (rw [dif_pos (show e.val - 3072 - 16 < 16 by omega)])

/-- A row of the one axis is a row of a group. -/
theorem flat_at (x : Vec Ideal S32x256x1024 .f32) (b : Fin 32) (l : Fin 256) (k : Fin 1024) :
    shapeCast S8192x1024 x shapeCasts_S32x256x1024_S8192x1024 (ix2 ⟨b.val * 256 + l.val, by omega⟩ k) = x (ix3 b l k) := by
  pointwise
/-- The rows of the result on one axis. -/
theorem one_axis : S32x256x3200.ShapeCasts S8192x3200 := by decide
theorem wide_at (x : Vec Ideal S32x256x3200 .bf16) (b : Fin 32) (l : Fin 256) (e : Fin 3200) :
    shapeCast S8192x3200 x one_axis (ix2 ⟨b.val * 256 + l.val, by omega⟩ e) = x (ix3 b l e) := by
  pointwise

theorem blk0 (c : Dev nD) (t : Fin cfg0.N) (r k : Fin 1024) (b : Fin 32) (l : Fin 256) (hr : b.val * 256 + l.val = t.val / 5 * 1024 + r.val) :
    (show EReal from iblk m c 0 t (ix2 r k)) = aX m c (ix3 b l k) := by
  refine (congrFun (congrArg (((cfg0.win 0).blk t).view.read (Elt Ideal)) (V_x m c)) _).trans ?_
  refine Eq.trans ?_ (flat_at (aX m c) b l k)
  generalize shapeCast S8192x1024 (aX m c) shapeCasts_S32x256x1024_S8192x1024 = v
  blk_ext [idx0 t]
theorem blk1 (c : Dev nD) (t : Fin cfg0.N) (k : Fin 1024) (e : Fin 640) (e' : Fin 3200) (he : e'.val = t.val % 5 * 640 + e.val) :
    (show EReal from iblk m c 1 t (ix2 k e)) = weights (aW m c) (aG m c) (ix2 k e') := by
  refine (congrFun (congrArg (((cfg0.win 1).blk t).view.read (Elt Ideal)) (V_w m c)) _).trans ?_
  generalize weights (aW m c) (aG m c) = v
  blk_ext [idx1 t]
theorem blk2 (c : Dev nD) (t : Fin cfg0.N) (k : Fin 1024) :
    (show EReal from iblk m c 2 t (ix3 0 0 k)) = aS m c (ix3 0 0 k) := by
  blk_ext [iblk, V, idx2 t]
theorem blk3 (c : Dev nD) (t : Fin cfg0.N) (k : Fin 1024) :
    (show EReal from iblk m c 3 t (ix3 0 0 k)) = aT m c (ix3 0 0 k) := by
  blk_ext [iblk, V, idx3 t]

/-- The result at group `b`, row `l`, column `e`. -/
def result (c : Dev nD) (b : Fin 32) (l : Fin 256) (e : Fin 3200) : EReal :=
  Moe.proj (fun k => aX m c (ix3 b l k)) (fun k => aS m c (ix3 0 0 k)) (fun k => aT m c (ix3 0 0 k)) (fun k => weights (aW m c) (aG m c) (ix2 k e))

/-- The array the kernel leaves, its rows on one axis. -/
theorem final (c : Dev nD) (G : Vec Ideal S8192x3200 .bf16)
    (hG : ∀ (b : Fin 32) (l : Fin 256) (e : Fin 3200), G (ix2 ⟨b.val * 256 + l.val, by omega⟩ e) = result m c b l e) :
    (dats m 0 c).arrAt 4 cfg0.N = G := by
  refine (dats m 0 c).arrAt_eq_of_covers 4 _ covers4 fun t hf y => ?_
  have ht : t.val < 40 := Nat.lt_of_lt_of_eq t.isLt N_0
  blk_simp
  rw [after0_4]
  obtain ⟨r, e, rfl⟩ : ∃ (r : Fin 1024) (e : Fin 640), y = ix2 r e := ⟨y (0 : Fin 2), y (1 : Fin 2), eq_ix2 _⟩
  obtain ⟨b, hb⟩ : ∃ b : Fin 32, b.val = t.val / 5 * 4 + r.val / 256 := ⟨⟨t.val / 5 * 4 + r.val / 256, by have := r.isLt; omega⟩, rfl⟩
  obtain ⟨l, hl⟩ : ∃ l : Fin 256, l.val = r.val % 256 := ⟨⟨r.val % 256, by omega⟩, rfl⟩
  obtain ⟨e', he⟩ : ∃ e' : Fin 3200, e'.val = t.val % 5 * 640 + e.val := ⟨⟨t.val % 5 * 640 + e.val, by have := e.isLt; omega⟩, rfl⟩
  have hr : b.val * 256 + l.val = t.val / 5 * 1024 + r.val := by omega
  have hE : G ((((cfg0.win 4).blk t).view.emb (ix2 r e))) = G (ix2 ⟨b.val * 256 + l.val, by omega⟩ e') := by
    blk_ext [idx4 t]
  refine Eq.trans ?_ hE.symm
  rw [hG]
  frame_out
  exact pay1_of (iblk m c 0 t) (iblk m c 2 t) (iblk m c 3 t) (iblk m c 1 t) r e _ _ _ _ (fun k => blk0 m c t r k b l hr)
    (fun k => blk2 m c t k) (fun k => blk3 m c t k) (fun k => blk1 m c t k e e' he)

end Cert.CtxGlaInIdeal.Value

end
-- ==== Proof.CtxGlaInRef.lean ====
/- On the context stream: the projection into the gated linear attention mixer as the reference computes it, at one group, row and column. -/
module

public import proofs.«01_k».proof.Proof.Gen.CtxGlaInRefIdeal.Run
public import proofs.«01_k».proof.Proof.ProjMath

@[expose] public section

set_option maxRecDepth 16384

noncomputable section

namespace Cert.CtxGlaInRefIdeal.Value

open Cert.CtxGlaInRefIdeal Cert.CtxGlaInRefIdeal.Gen Idealize.ShloMosaic Idealize.ShloMosaic.TcCoe Idealize.SL.Sem

/-- The modulated rows. -/
def rows (X : FVec Ideal S32x256x1024 .f32) (S T : FVec Ideal S1x1x1024 .f32) : FVec Ideal S32x256x1024 .f32 :=
  addf (mulf X (broadcastInDim S32x256x1024 ![0, 1, 2] bcast_S1x1x1024_S32x256x1024_0_1_2 (addf (broadcastInDim S1x1x1024 ![] bcast_S_S1x1x1024 (constant S_ .f32 0x3F800000#32)) S))) (broadcastInDim S32x256x1024 ![0, 1, 2] bcast_S1x1x1024_S32x256x1024_0_1_2 T)

theorem one_at : Ideal.ofBits FTy.f32 0x3F800000#32 = 1 := by
  have h : Ideal.ofBits FTy.f32 0x3F800000#32 = ((1 : ℝ) : EReal) := by
    simp [Ideal.ofBits, Ideal.ieee, -EReal.coe_mul]; norm_num
  exact h.trans EReal.coe_one

theorem rows_at (X : FVec Ideal S32x256x1024 .f32) (S T : FVec Ideal S1x1x1024 .f32) (b : Fin 32) (l : Fin 256) (k : Fin 1024) :
    rows X S T (ix3 b l k) = Moe.modulated (fun k => X (ix3 b l k)) (fun k => S (ix3 0 0 k)) (fun k => T (ix3 0 0 k)) k := by
  pointwise [rows, one_at]
  rfl

/-- The two gates' products. -/
def gate0 (H : FVec Ideal S32x256x1024 .f32) (G : FVec Ideal S2x1024x16 .f32) : FVec Ideal S32x256x16 .f32 :=
  Host.dotGeneral dot_S32x256x1024_S1024x16_S32x256x16_2_0_01_1_n_n none H (shapeCast S1024x16 (extractStridedSlice S1x1024x16 ![0, 0, 0] G slices_S2x1024x16_S1x1024x16_0_0_0) shapeCasts_S1x1024x16_S1024x16)
def gate1 (H : FVec Ideal S32x256x1024 .f32) (G : FVec Ideal S2x1024x16 .f32) : FVec Ideal S32x256x16 .f32 :=
  Host.dotGeneral dot_S32x256x1024_S1024x16_S32x256x16_2_0_01_1_n_n none H (shapeCast S1024x16 (extractStridedSlice S1x1024x16 ![1, 0, 0] G slices_S2x1024x16_S1x1024x16_1_0_0) shapeCasts_S1x1024x16_S1024x16)
/-- The main product. -/
def main_cols (H : FVec Ideal S32x256x1024 .f32) (W : FVec Ideal S1024x3072 .f32) : FVec Ideal S32x256x3072 .f32 :=
  Host.dotGeneral dot_S32x256x1024_S1024x3072_S32x256x3072_2_0_01_1_n_n none H W
/-- The three side by side, with 96 columns of zeros behind them. -/
def side (A : FVec Ideal S32x256x3072 .f32) (B C : FVec Ideal S32x256x16 .f32) : FVec Ideal S32x256x3200 .f32 :=
  pad S32x256x3200 ![0, 0, 0] ![0, 0, 96] ![0, 0, 0] (concatenate S32x256x3104 2 [⟨S32x256x3072, A⟩, ⟨S32x256x16, B⟩, ⟨S32x256x16, C⟩]
    concatenates_S32x256x3072_S32x256x16_S32x256x16_S32x256x3104_d2) (sitofp (F := Ideal) .f32 (constantI S_ 32 0#32)) pads_S32x256x3104_S32x256x3200_000_000_0960 h_S_
/-- The reference's composed term, over its argument arrays. -/
def REF (X : FVec Ideal S32x256x1024 .f32) (S T : FVec Ideal S1x1x1024 .f32) (W : FVec Ideal S1024x3072 .f32) (G : FVec Ideal S2x1024x16 .f32) : FVec Ideal S32x256x3200 .bf16 :=
  truncf .bf16 (side (main_cols (rows X S T) W) (gate0 (rows X S T) G) (gate1 (rows X S T) G)) bitsLt_bf16_f32

theorem gate0_at (H : FVec Ideal S32x256x1024 .f32) (G : FVec Ideal S2x1024x16 .f32) (b : Fin 32) (l : Fin 256) (e : Fin 16) :
    gate0 H G (ix3 b l e) = ∑ k : Fin 1024, (H (ix3 b l k) * G (ix3 0 k e) : EReal) := by
  pointwise [gate0]
theorem gate1_at (H : FVec Ideal S32x256x1024 .f32) (G : FVec Ideal S2x1024x16 .f32) (b : Fin 32) (l : Fin 256) (e : Fin 16) :
    gate1 H G (ix3 b l e) = ∑ k : Fin 1024, (H (ix3 b l k) * G (ix3 1 k e) : EReal) := by
  pointwise [gate1]
theorem main_at (H : FVec Ideal S32x256x1024 .f32) (W : FVec Ideal S1024x3072 .f32) (b : Fin 32) (l : Fin 256) (e : Fin 3072) :
    main_cols H W (ix3 b l e) = ∑ k : Fin 1024, (H (ix3 b l k) * W (ix2 k e) : EReal) := by
  pointwise [main_cols]
theorem side_at (A : FVec Ideal S32x256x3072 .f32) (B C : FVec Ideal S32x256x16 .f32) (b : Fin 32) (l : Fin 256) (e : Fin 3200) :
    side A B C (ix3 b l e) = if h : e.val < 3072 then (A (ix3 b l ⟨e.val, h⟩) : EReal) else if h : e.val - 3072 < 16 then B (ix3 b l ⟨e.val - 3072, h⟩)
      else if h : e.val - 3072 - 16 < 16 then C (ix3 b l ⟨e.val - 3072 - 16, h⟩) else 0 := by
  pointwise [side]
  rw [Moe.int_zero]
  have he := e.isLt
  split_ifs <;> first | with_reducible rfl | omega | (rw [dif_pos (show e.val - 3072 - 16 < 16 by omega)])

theorem ref_at (X : FVec Ideal S32x256x1024 .f32) (S T : FVec Ideal S1x1x1024 .f32) (W : FVec Ideal S1024x3072 .f32) (G : FVec Ideal S2x1024x16 .f32) (b : Fin 32) (l : Fin 256) (e : Fin 3200) :
    REF X S T W G (ix3 b l e) = Moe.proj (fun k => X (ix3 b l k)) (fun k => S (ix3 0 0 k)) (fun k => T (ix3 0 0 k)) (Moe.beside (fun k f => W (ix2 k f)) (fun d k f => G (ix3 d k f)) e.val) := by
  refine (side_at _ _ _ b l e).trans ?_
  unfold Moe.beside
  split
  · refine (main_at _ W b l _).trans ?_
    simp only [rows_at]
    rfl
  split
  · refine (gate0_at _ G b l _).trans ?_
    simp only [rows_at]
    rfl
  split
  · refine (gate1_at _ G b l _).trans ?_
    simp only [rows_at]
    rfl
  · exact (Moe.proj_zero _ _ _).symm

end Cert.CtxGlaInRefIdeal.Value

end
-- ==== Proof.CtxGlaInClaim.lean ====
/- On the context stream: the projection into the gated linear attention mixer leaves what the reference computes. -/
module

public import proofs.«01_k».proof.Defs
public import proofs.«01_k».proof.Proof.CtxGlaInValue
public import proofs.«01_k».proof.Proof.CtxGlaInRef
public import Idealize.ShloMosaic.Adequacy
public import Idealize.ShloMosaic.Init
public import Idealize.ShloMosaic.Lib.Claim

@[expose] public section

set_option maxRecDepth 16384

noncomputable section

namespace Cert.CtxGlaInIdeal.Value

open Cert.CtxGlaInIdeal Cert.CtxGlaInIdeal.Gen Idealize.ShloMosaic Idealize.ShloMosaic.TcCoe Idealize.SL.Sem

variable (m : (ℓ : Loc nD τ sig) → Buf (Elt Ideal) ℓ)

/-- The reference's array, over the kernel's arguments. -/
def refArr (c : Dev nD) : Vec Ideal S32x256x3200 .bf16 := Cert.CtxGlaInRefIdeal.Value.REF (aX m c) (aS m c) (aT m c) (aW m c) (aG m c)

/-- The reference's array with its rows on one axis is what the kernel leaves. -/
theorem left (c : Dev nD) : (dats m 0 c).arrAt 4 cfg0.N = shapeCast S8192x3200 (refArr m c) one_axis :=
  final m c _ fun b l e => (wide_at (refArr m c) b l e).trans ((Cert.CtxGlaInRefIdeal.Value.ref_at _ _ _ _ _ b l e).trans
    (congrArg (Moe.proj _ _ _) (funext fun k => (weights_at (aW m c) (aG m c) k e).symm)))

theorem arr_inj : Function.Injective (Pipeline.arrRef spec0) := by decide

/-- The last host line puts the rows in their groups again. -/
theorem tail (c : Dev nD) : Pipeline.afterTail₀ cfgs (dats m) 0 (V0 m) [hostOps1] c main_v9 = refArr m c := by
  have h := Pipeline.withArrays_arr spec0 arr_inj c (V0 m c) (fun w => (dats m 0 c).arrAt w cfg0.N) 4
  show StableHlo.after hostOps1 (Pipeline.withArrays spec0 c (V0 m c) fun w => (dats m 0 c).arrAt w cfg0.N) (Proc.devRef .tc main_v9) = _
  generalize Pipeline.withArrays spec0 c (V0 m c) (fun w => (dats m 0 c).arrAt w cfg0.N) = W at h ⊢
  after_results
  refine (congrArg (fun u : Vec Ideal S8192x3200 .bf16 => shapeCast S32x256x3200 u shapeCasts_S8192x3200_S32x256x3200) (h.trans (left m c))).trans ?_
  exact shapeCast_shapeCast ..

theorem frame_ref : Cert.quiescent_CtxGlaInRefIdeal := fun m g _ =>
  (θ_run Cert.CtxGlaInRefIdeal.defs _ _).mono (fun r h => ⟨fun c => (h c).2, sem_eq_zero_of_no_sems (by decide) r.2⟩)
    (Cert.CtxGlaInRefIdeal.Value.run m g)

/-- The result is the reference's. -/
theorem algebraic : Cert.algebraic_CtxGlaInIdeal_CtxGlaInRefIdeal := by
  intro m g m' g' _ hagree
  refine ⟨fun c => refArr m c, ?_, ?_⟩
  · exact (θ_run defs _ _).mono (fun r h c => ⟨((h.2 c).2 main_v9 (by decide)).trans (tail m c), h.1 c⟩)
      (θ_run_and (Gen.unchanged m g) (Gen.run_main m g))
  · refine (θ_run Cert.CtxGlaInRefIdeal.defs _ _).mono (fun r h c => ⟨(h c).1.trans ?_, (h c).2⟩) (Cert.CtxGlaInRefIdeal.Value.run m' g')
    obtain ⟨h0, h1, h2, h3, h4⟩ := hagree c
    rw [h0, h1, h2, h3, h4]
    rfl

end Cert.CtxGlaInIdeal.Value

end
-- ==== Proof.CtxDeltaInValue.lean ====
/- On the context stream: the array the projection into the DeltaNet mixer leaves: every modulated row times every column of the weights. -/
module

public import proofs.«01_k».proof.Proof.Gen.CtxDeltaInIdeal.Frame
public import proofs.«01_k».proof.Proof.ProjMath
public import Idealize.ShloMosaic.Lib.Pipeline.ValueKit
public import Idealize.ShloMosaic.Lib.Pipeline.Covers

@[expose] public section

set_option maxRecDepth 16384

noncomputable section

namespace Cert.CtxDeltaInIdeal.Value

open Cert.CtxDeltaInIdeal Cert.CtxDeltaInIdeal.Gen Idealize.ShloMosaic Idealize.ShloMosaic.TcCoe Idealize.SL.Sem
open Idealize.ShloMosaic.Pipeline (Dat)

/-- What the kernel stores, each block's entries named. -/
theorem pay1_of (x : Vec Ideal S1024x1024 .f32) (s t : Vec Ideal S1x1x1024 .f32) (w : Vec Ideal S1024x1408 .bf16) (r : Fin 1024) (e : Fin 1408)
    (X S T W : Fin 1024 → EReal) (hx : ∀ k, x (ix2 r k) = X k) (hs : ∀ k, s (ix3 0 0 k) = S k) (ht : ∀ k, t (ix3 0 0 k) = T k)
    (hw : ∀ k, w (ix2 k e) = W k) : k0_pay1 x s t w (ix2 r e) = Moe.proj X S T W := by
  pointwise [k0_pay1]
  simp only [hx, hs, ht, hw]
  rfl

variable (m : (ℓ : Loc nD τ sig) → Buf (Elt Ideal) ℓ)

abbrev aX (c : Dev nD) : Vec Ideal S32x256x1024 .f32 := m ((c : Thread nD τ).loc main_arg0)
abbrev aS (c : Dev nD) : Vec Ideal S1x1x1024 .f32 := m ((c : Thread nD τ).loc main_arg1)
abbrev aT (c : Dev nD) : Vec Ideal S1x1x1024 .f32 := m ((c : Thread nD τ).loc main_arg2)
abbrev aW (c : Dev nD) : Vec Ideal S1024x4128 .f32 := m ((c : Thread nD τ).loc main_arg3)

/-- A grid point's coordinates: the row tile, the column tile, and the one step of the contracted axis. -/
theorem coords_val (t : Fin grid0.N) : (grid0.coords t 0).val = t.val / 3 ∧ (grid0.coords t 1).val = t.val % 3 ∧ (grid0.coords t 2).val = 0 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  have e2 : (grid0.coords t 2).val = t.val / 1 % 1 := Pipeline.Grid.coords_val t 2 (by decide) rfl
  omega

theorem row_index : ∀ i : grid0.Coords, cc0_transform_0 i = ![(i 0).val, (i 2).val] := by decide +kernel
theorem weight_index : ∀ i : grid0.Coords, cc0_transform_1 i = ![(i 2).val, (i 1).val] := by decide +kernel
/-- All rows share one scale and shift. -/
theorem group_index : ∀ i : grid0.Coords, cc0_transform_2 i = ![0, 0, 0] := by decide +kernel
theorem out_index : ∀ i : grid0.Coords, cc0_transform_4 i = ![(i 0).val, (i 1).val] := by decide +kernel

theorem idx0 (t : Fin cfg0.N) : (cfg0.win 0).index t = ![t.val / 3, 0] :=
  (row_index _).trans (by rw [(coords_val t).1, (coords_val t).2.2])
theorem idx1 (t : Fin cfg0.N) : (cfg0.win 1).index t = ![0, t.val % 3] :=
  (weight_index _).trans (by rw [(coords_val t).2.1, (coords_val t).2.2])
theorem idx2 (t : Fin cfg0.N) : (cfg0.win 2).index t = ![0, 0, 0] :=
  group_index _
theorem idx3 (t : Fin cfg0.N) : (cfg0.win 3).index t = ![0, 0, 0] := idx2 t
theorem idx4 (t : Fin cfg0.N) : (cfg0.win 4).index t = ![t.val / 3, t.val % 3] :=
  (out_index _).trans (by rw [(coords_val t).1, (coords_val t).2.1])

theorem covers4 : (cfg0.win 4).Covers := by
  refine Pipeline.Window.covers_of_index_surj _ rfl (fun (a : Fin 2) => ?_) fun β => ?_
  · match a with
    | 0 => exact (by decide : 0 < 1024)
    | 1 => exact (by decide : 0 < 1408)
  · have h0 : (β (0 : Fin 2)).val < (8192 + 1024 - 1) / 1024 := (β (0 : Fin 2)).isLt
    have h1 : (β (1 : Fin 2)).val < (4224 + 1408 - 1) / 1408 := (β (1 : Fin 2)).isLt
    refine ⟨⟨3 * (β (0 : Fin 2)).val + (β (1 : Fin 2)).val, by rw [show cfg0.grid.N = 24 from N_0]; omega⟩, fun (a : Fin 2) => ?_⟩
    rw [idx4]
    match a with
    | 0 => show (3 * (β (0 : Fin 2)).val + (β (1 : Fin 2)).val) / 3 = (β (0 : Fin 2)).val; omega
    | 1 => show (3 * (β (0 : Fin 2)).val + (β (1 : Fin 2)).val) % 3 = (β (1 : Fin 2)).val; omega

/-- The rows reach the kernel as one axis of 8192. -/
theorem V_x (c : Dev nD) : V m c main_v0 = shapeCast S8192x1024 (aX m c) shapeCasts_S32x256x1024_S8192x1024 := by
  unfold V V0
  simp only [List.flatten_cons, List.flatten_nil, List.cons_append, List.nil_append]
  after_results; rfl
/-- The weights in the narrow format, with 96 columns of zeros behind them. -/
def weights (w : FVec Ideal S1024x4128 .f32) : FVec Ideal S1024x4224 .bf16 :=
  pad S1024x4224 ![0, 0] ![0, 96] ![0, 0] (truncf .bf16 w bitsLt_bf16_f32 : FVec Ideal S1024x4128 .bf16) (sitofp (F := Ideal) .bf16 (constantI S_ 32 0#32)) pads_S1024x4128_S1024x4224_000_0960 h_S_
theorem V_w (c : Dev nD) : V m c main_v2 = weights (aW m c) := by
  unfold V V0
  simp only [List.flatten_cons, List.flatten_nil, List.cons_append, List.nil_append]
  after_results; rfl
theorem weights_at (w : FVec Ideal S1024x4128 .f32) (k : Fin 1024) (e : Fin 4224) : weights w (ix2 k e) = Moe.behind (fun k f => w (ix2 k f)) e.val k := by
  pointwise [weights, Moe.behind]
  rw [Moe.int_zero]

/-- A row of the one axis is a row of a group. -/
theorem flat_at (x : Vec Ideal S32x256x1024 .f32) (b : Fin 32) (l : Fin 256) (k : Fin 1024) :
    shapeCast S8192x1024 x shapeCasts_S32x256x1024_S8192x1024 (ix2 ⟨b.val * 256 + l.val, by omega⟩ k) = x (ix3 b l k) := by
  pointwise
/-- The rows of the result on one axis. -/
theorem one_axis : S32x256x4224.ShapeCasts S8192x4224 := by decide
theorem wide_at (x : Vec Ideal S32x256x4224 .f32) (b : Fin 32) (l : Fin 256) (e : Fin 4224) :
    shapeCast S8192x4224 x one_axis (ix2 ⟨b.val * 256 + l.val, by omega⟩ e) = x (ix3 b l e) := by
  pointwise

theorem blk0 (c : Dev nD) (t : Fin cfg0.N) (r k : Fin 1024) (b : Fin 32) (l : Fin 256) (hr : b.val * 256 + l.val = t.val / 3 * 1024 + r.val) :
    (show EReal from iblk m c 0 t (ix2 r k)) = aX m c (ix3 b l k) := by
  refine (congrFun (congrArg (((cfg0.win 0).blk t).view.read (Elt Ideal)) (V_x m c)) _).trans ?_
  refine Eq.trans ?_ (flat_at (aX m c) b l k)
  generalize shapeCast S8192x1024 (aX m c) shapeCasts_S32x256x1024_S8192x1024 = v
  blk_ext [idx0 t]
theorem blk1 (c : Dev nD) (t : Fin cfg0.N) (k : Fin 1024) (e : Fin 1408) (e' : Fin 4224) (he : e'.val = t.val % 3 * 1408 + e.val) :
    (show EReal from iblk m c 1 t (ix2 k e)) = weights (aW m c) (ix2 k e') := by
  refine (congrFun (congrArg (((cfg0.win 1).blk t).view.read (Elt Ideal)) (V_w m c)) _).trans ?_
  generalize weights (aW m c) = v
  blk_ext [idx1 t]
theorem blk2 (c : Dev nD) (t : Fin cfg0.N) (k : Fin 1024) :
    (show EReal from iblk m c 2 t (ix3 0 0 k)) = aS m c (ix3 0 0 k) := by
  blk_ext [iblk, V, idx2 t]
theorem blk3 (c : Dev nD) (t : Fin cfg0.N) (k : Fin 1024) :
    (show EReal from iblk m c 3 t (ix3 0 0 k)) = aT m c (ix3 0 0 k) := by
  blk_ext [iblk, V, idx3 t]

/-- The result at group `b`, row `l`, column `e`. -/
def result (c : Dev nD) (b : Fin 32) (l : Fin 256) (e : Fin 4224) : EReal :=
  Moe.proj (fun k => aX m c (ix3 b l k)) (fun k => aS m c (ix3 0 0 k)) (fun k => aT m c (ix3 0 0 k)) (fun k => weights (aW m c) (ix2 k e))

/-- The array the kernel leaves, its rows on one axis. -/
theorem final (c : Dev nD) (G : Vec Ideal S8192x4224 .f32)
    (hG : ∀ (b : Fin 32) (l : Fin 256) (e : Fin 4224), G (ix2 ⟨b.val * 256 + l.val, by omega⟩ e) = result m c b l e) :
    (dats m 0 c).arrAt 4 cfg0.N = G := by
  refine (dats m 0 c).arrAt_eq_of_covers 4 _ covers4 fun t hf y => ?_
  have ht : t.val < 24 := Nat.lt_of_lt_of_eq t.isLt N_0
  blk_simp
  rw [after0_4]
  obtain ⟨r, e, rfl⟩ : ∃ (r : Fin 1024) (e : Fin 1408), y = ix2 r e := ⟨y (0 : Fin 2), y (1 : Fin 2), eq_ix2 _⟩
  obtain ⟨b, hb⟩ : ∃ b : Fin 32, b.val = t.val / 3 * 4 + r.val / 256 := ⟨⟨t.val / 3 * 4 + r.val / 256, by have := r.isLt; omega⟩, rfl⟩
  obtain ⟨l, hl⟩ : ∃ l : Fin 256, l.val = r.val % 256 := ⟨⟨r.val % 256, by omega⟩, rfl⟩
  obtain ⟨e', he⟩ : ∃ e' : Fin 4224, e'.val = t.val % 3 * 1408 + e.val := ⟨⟨t.val % 3 * 1408 + e.val, by have := e.isLt; omega⟩, rfl⟩
  have hr : b.val * 256 + l.val = t.val / 3 * 1024 + r.val := by omega
  have hE : G ((((cfg0.win 4).blk t).view.emb (ix2 r e))) = G (ix2 ⟨b.val * 256 + l.val, by omega⟩ e') := by
    blk_ext [idx4 t]
  refine Eq.trans ?_ hE.symm
  rw [hG]
  frame_out
  exact pay1_of (iblk m c 0 t) (iblk m c 2 t) (iblk m c 3 t) (iblk m c 1 t) r e _ _ _ _ (fun k => blk0 m c t r k b l hr)
    (fun k => blk2 m c t k) (fun k => blk3 m c t k) (fun k => blk1 m c t k e e' he)

end Cert.CtxDeltaInIdeal.Value

end
-- ==== Proof.CtxDeltaInRef.lean ====
/- On the context stream: the projection into the DeltaNet mixer as the reference computes it, at one group, row and column. -/
module

public import proofs.«01_k».proof.Proof.Gen.CtxDeltaInRefIdeal.Run
public import proofs.«01_k».proof.Proof.ProjMath

@[expose] public section

set_option maxRecDepth 16384

noncomputable section

namespace Cert.CtxDeltaInRefIdeal.Value

open Cert.CtxDeltaInRefIdeal Cert.CtxDeltaInRefIdeal.Gen Idealize.ShloMosaic Idealize.ShloMosaic.TcCoe Idealize.SL.Sem

/-- The modulated rows. -/
def rows (X : FVec Ideal S32x256x1024 .f32) (S T : FVec Ideal S1x1x1024 .f32) : FVec Ideal S32x256x1024 .f32 :=
  addf (mulf X (broadcastInDim S32x256x1024 ![0, 1, 2] bcast_S1x1x1024_S32x256x1024_0_1_2 (addf (broadcastInDim S1x1x1024 ![] bcast_S_S1x1x1024 (constant S_ .f32 0x3F800000#32)) S))) (broadcastInDim S32x256x1024 ![0, 1, 2] bcast_S1x1x1024_S32x256x1024_0_1_2 T)

theorem one_at : Ideal.ofBits FTy.f32 0x3F800000#32 = 1 := by
  have h : Ideal.ofBits FTy.f32 0x3F800000#32 = ((1 : ℝ) : EReal) := by
    simp [Ideal.ofBits, Ideal.ieee, -EReal.coe_mul]; norm_num
  exact h.trans EReal.coe_one

theorem rows_at (X : FVec Ideal S32x256x1024 .f32) (S T : FVec Ideal S1x1x1024 .f32) (b : Fin 32) (l : Fin 256) (k : Fin 1024) :
    rows X S T (ix3 b l k) = Moe.modulated (fun k => X (ix3 b l k)) (fun k => S (ix3 0 0 k)) (fun k => T (ix3 0 0 k)) k := by
  pointwise [rows, one_at]
  rfl

/-- The reference's composed term, over its argument arrays. -/
def REF (X : FVec Ideal S32x256x1024 .f32) (S T : FVec Ideal S1x1x1024 .f32) (W : FVec Ideal S1024x4128 .f32) : FVec Ideal S32x256x4224 .f32 :=
  pad S32x256x4224 ![0, 0, 0] ![0, 0, 96] ![0, 0, 0] (Host.dotGeneral dot_S32x256x1024_S1024x4128_S32x256x4128_2_0_01_1_n_n none (rows X S T) W) (sitofp (F := Ideal) .f32 (constantI S_ 32 0#32)) pads_S32x256x4128_S32x256x4224_000_000_0960 h_S_

theorem dot_at (H : FVec Ideal S32x256x1024 .f32) (W : FVec Ideal S1024x4128 .f32) (b : Fin 32) (l : Fin 256) (e : Fin 4128) :
    Host.dotGeneral dot_S32x256x1024_S1024x4128_S32x256x4128_2_0_01_1_n_n none H W (ix3 b l e) = ∑ k : Fin 1024, (H (ix3 b l k) * W (ix2 k e) : EReal) := by
  pointwise
theorem pad_at (Z : FVec Ideal S32x256x4128 .f32) (b : Fin 32) (l : Fin 256) (e : Fin 4224) :
    pad S32x256x4224 ![0, 0, 0] ![0, 0, 96] ![0, 0, 0] Z (sitofp (F := Ideal) .f32 (constantI S_ 32 0#32)) pads_S32x256x4128_S32x256x4224_000_000_0960 h_S_ (ix3 b l e) =
      if h : e.val < 4128 then (Z (ix3 b l ⟨e.val, h⟩) : EReal) else 0 := by
  pointwise
  rw [Moe.int_zero]
theorem ref_at (X : FVec Ideal S32x256x1024 .f32) (S T : FVec Ideal S1x1x1024 .f32) (W : FVec Ideal S1024x4128 .f32) (b : Fin 32) (l : Fin 256) (e : Fin 4224) :
    REF X S T W (ix3 b l e) = Moe.proj (fun k => X (ix3 b l k)) (fun k => S (ix3 0 0 k)) (fun k => T (ix3 0 0 k)) (Moe.behind (fun k f => W (ix2 k f)) e.val) := by
  refine (pad_at _ b l e).trans ?_
  unfold Moe.behind
  split
  · refine (dot_at _ W b l _).trans ?_
    simp only [rows_at]
    rfl
  · exact (Moe.proj_zero _ _ _).symm

end Cert.CtxDeltaInRefIdeal.Value

end
-- ==== Proof.CtxDeltaInClaim.lean ====
/- On the context stream: the projection into the DeltaNet mixer leaves what the reference computes. -/
module

public import proofs.«01_k».proof.Defs
public import proofs.«01_k».proof.Proof.CtxDeltaInValue
public import proofs.«01_k».proof.Proof.CtxDeltaInRef
public import Idealize.ShloMosaic.Adequacy
public import Idealize.ShloMosaic.Init
public import Idealize.ShloMosaic.Lib.Claim

@[expose] public section

set_option maxRecDepth 16384

noncomputable section

namespace Cert.CtxDeltaInIdeal.Value

open Cert.CtxDeltaInIdeal Cert.CtxDeltaInIdeal.Gen Idealize.ShloMosaic Idealize.ShloMosaic.TcCoe Idealize.SL.Sem

variable (m : (ℓ : Loc nD τ sig) → Buf (Elt Ideal) ℓ)

/-- The reference's array, over the kernel's arguments. -/
def refArr (c : Dev nD) : Vec Ideal S32x256x4224 .f32 := Cert.CtxDeltaInRefIdeal.Value.REF (aX m c) (aS m c) (aT m c) (aW m c)

/-- The reference's array with its rows on one axis is what the kernel leaves. -/
theorem left (c : Dev nD) : (dats m 0 c).arrAt 4 cfg0.N = shapeCast S8192x4224 (refArr m c) one_axis :=
  final m c _ fun b l e => (wide_at (refArr m c) b l e).trans ((Cert.CtxDeltaInRefIdeal.Value.ref_at _ _ _ _ b l e).trans
    (congrArg (Moe.proj _ _ _) (funext fun k => (weights_at (aW m c) k e).symm)))

theorem arr_inj : Function.Injective (Pipeline.arrRef spec0) := by decide

/-- The last host line puts the rows in their groups again. -/
theorem tail (c : Dev nD) : Pipeline.afterTail₀ cfgs (dats m) 0 (V0 m) [hostOps1] c main_v4 = refArr m c := by
  have h := Pipeline.withArrays_arr spec0 arr_inj c (V0 m c) (fun w => (dats m 0 c).arrAt w cfg0.N) 4
  show StableHlo.after hostOps1 (Pipeline.withArrays spec0 c (V0 m c) fun w => (dats m 0 c).arrAt w cfg0.N) (Proc.devRef .tc main_v4) = _
  generalize Pipeline.withArrays spec0 c (V0 m c) (fun w => (dats m 0 c).arrAt w cfg0.N) = W at h ⊢
  after_results
  refine (congrArg (fun u : Vec Ideal S8192x4224 .f32 => shapeCast S32x256x4224 u shapeCasts_S8192x4224_S32x256x4224) (h.trans (left m c))).trans ?_
  exact shapeCast_shapeCast ..

theorem frame_ref : Cert.quiescent_CtxDeltaInRefIdeal := fun m g _ =>
  (θ_run Cert.CtxDeltaInRefIdeal.defs _ _).mono (fun r h => ⟨fun c => (h c).2, sem_eq_zero_of_no_sems (by decide) r.2⟩)
    (Cert.CtxDeltaInRefIdeal.Value.run m g)

/-- The result is the reference's. -/
theorem algebraic : Cert.algebraic_CtxDeltaInIdeal_CtxDeltaInRefIdeal := by
  intro m g m' g' _ hagree
  refine ⟨fun c => refArr m c, ?_, ?_⟩
  · exact (θ_run defs _ _).mono (fun r h c => ⟨((h.2 c).2 main_v4 (by decide)).trans (tail m c), h.1 c⟩)
      (θ_run_and (Gen.unchanged m g) (Gen.run_main m g))
  · refine (θ_run Cert.CtxDeltaInRefIdeal.defs _ _).mono (fun r h c => ⟨(h c).1.trans ?_, (h c).2⟩) (Cert.CtxDeltaInRefIdeal.Value.run m' g')
    obtain ⟨h0, h1, h2, h3⟩ := hagree c
    rw [h0, h1, h2, h3]
    rfl

end Cert.CtxDeltaInIdeal.Value

end
-- ==== Proof.CtxHyenaInValue.lean ====
/- On the context stream: the array the projection into the Hyena mixer leaves: every modulated row times every column of the weights. -/
module

public import proofs.«01_k».proof.Proof.Gen.CtxHyenaInIdeal.Frame
public import proofs.«01_k».proof.Proof.ProjMath
public import Idealize.ShloMosaic.Lib.Pipeline.ValueKit
public import Idealize.ShloMosaic.Lib.Pipeline.Covers

@[expose] public section

set_option maxRecDepth 16384

noncomputable section

namespace Cert.CtxHyenaInIdeal.Value

open Cert.CtxHyenaInIdeal Cert.CtxHyenaInIdeal.Gen Idealize.ShloMosaic Idealize.ShloMosaic.TcCoe Idealize.SL.Sem
open Idealize.ShloMosaic.Pipeline (Dat)

/-- What the kernel stores, each block's entries named. -/
theorem pay1_of (x : Vec Ideal S1024x1024 .f32) (s t : Vec Ideal S1x1x1024 .f32) (w : Vec Ideal S1024x1024 .bf16) (r : Fin 1024) (e : Fin 1024)
    (X S T W : Fin 1024 → EReal) (hx : ∀ k, x (ix2 r k) = X k) (hs : ∀ k, s (ix3 0 0 k) = S k) (ht : ∀ k, t (ix3 0 0 k) = T k)
    (hw : ∀ k, w (ix2 k e) = W k) : k0_pay1 x s t w (ix2 r e) = Moe.proj X S T W := by
  pointwise [k0_pay1]
  simp only [hx, hs, ht, hw]
  rfl

variable (m : (ℓ : Loc nD τ sig) → Buf (Elt Ideal) ℓ)

abbrev aX (c : Dev nD) : Vec Ideal S32x256x1024 .f32 := m ((c : Thread nD τ).loc main_arg0)
abbrev aS (c : Dev nD) : Vec Ideal S1x1x1024 .f32 := m ((c : Thread nD τ).loc main_arg1)
abbrev aT (c : Dev nD) : Vec Ideal S1x1x1024 .f32 := m ((c : Thread nD τ).loc main_arg2)
abbrev aW (c : Dev nD) : Vec Ideal S1024x3072 .f32 := m ((c : Thread nD τ).loc main_arg3)

/-- A grid point's coordinates: the row tile, the column tile, and the one step of the contracted axis. -/
theorem coords_val (t : Fin grid0.N) : (grid0.coords t 0).val = t.val / 3 ∧ (grid0.coords t 1).val = t.val % 3 ∧ (grid0.coords t 2).val = 0 := by
  have ht : t.val < 24 := Nat.lt_of_lt_of_eq t.isLt N_0
  have e0 : (grid0.coords t 0).val = t.val / 3 % 8 := Pipeline.Grid.coords_val t 0 (by decide) rfl
  have e1 : (grid0.coords t 1).val = t.val / 1 % 3 := Pipeline.Grid.coords_val t 1 (by decide) rfl
  have e2 : (grid0.coords t 2).val = t.val / 1 % 1 := Pipeline.Grid.coords_val t 2 (by decide) rfl
  omega

theorem row_index : ∀ i : grid0.Coords, cc0_transform_0 i = ![(i 0).val, (i 2).val] := by decide +kernel
theorem weight_index : ∀ i : grid0.Coords, cc0_transform_1 i = ![(i 2).val, (i 1).val] := by decide +kernel
/-- All rows share one scale and shift. -/
theorem group_index : ∀ i : grid0.Coords, cc0_transform_2 i = ![0, 0, 0] := by decide +kernel
theorem out_index : ∀ i : grid0.Coords, cc0_transform_4 i = ![(i 0).val, (i 1).val] := by decide +kernel

theorem idx0 (t : Fin cfg0.N) : (cfg0.win 0).index t = ![t.val / 3, 0] :=
  (row_index _).trans (by rw [(coords_val t).1, (coords_val t).2.2])
theorem idx1 (t : Fin cfg0.N) : (cfg0.win 1).index t = ![0, t.val % 3] :=
  (weight_index _).trans (by rw [(coords_val t).2.1, (coords_val t).2.2])
theorem idx2 (t : Fin cfg0.N) : (cfg0.win 2).index t = ![0, 0, 0] :=
  group_index _
theorem idx3 (t : Fin cfg0.N) : (cfg0.win 3).index t = ![0, 0, 0] := idx2 t
theorem idx4 (t : Fin cfg0.N) : (cfg0.win 4).index t = ![t.val / 3, t.val % 3] :=
  (out_index _).trans (by rw [(coords_val t).1, (coords_val t).2.1])

theorem covers4 : (cfg0.win 4).Covers := by
  refine Pipeline.Window.covers_of_index_surj _ rfl (fun (a : Fin 2) => ?_) fun β => ?_
  · match a with
    | 0 => exact (by decide : 0 < 1024)
    | 1 => exact (by decide : 0 < 1024)
  · have h0 : (β (0 : Fin 2)).val < (8192 + 1024 - 1) / 1024 := (β (0 : Fin 2)).isLt
    have h1 : (β (1 : Fin 2)).val < (3072 + 1024 - 1) / 1024 := (β (1 : Fin 2)).isLt
    refine ⟨⟨3 * (β (0 : Fin 2)).val + (β (1 : Fin 2)).val, by rw [show cfg0.grid.N = 24 from N_0]; omega⟩, fun (a : Fin 2) => ?_⟩
    rw [idx4]
    match a with
    | 0 => show (3 * (β (0 : Fin 2)).val + (β (1 : Fin 2)).val) / 3 = (β (0 : Fin 2)).val; omega
    | 1 => show (3 * (β (0 : Fin 2)).val + (β (1 : Fin 2)).val) % 3 = (β (1 : Fin 2)).val; omega

/-- The rows reach the kernel as one axis of 8192. -/
theorem V_x (c : Dev nD) : V m c main_v0 = shapeCast S8192x1024 (aX m c) shapeCasts_S32x256x1024_S8192x1024 := by
  unfold V V0
  simp only [List.flatten_cons, List.flatten_nil, List.cons_append, List.nil_append]
  after_results; rfl
/-- The weights in the narrow format. -/
def weights (w : FVec Ideal S1024x3072 .f32) : FVec Ideal S1024x3072 .bf16 := truncf .bf16 w bitsLt_bf16_f32
theorem V_w (c : Dev nD) : V m c main_v1 = weights (aW m c) := by
  unfold V V0
  simp only [List.flatten_cons, List.flatten_nil, List.cons_append, List.nil_append]
  after_results; rfl
theorem weights_at (w : FVec Ideal S1024x3072 .f32) (k : Fin 1024) (e : Fin 3072) : weights w (ix2 k e) = w (ix2 k e) := by
  pointwise [weights]

/-- A row of the one axis is a row of a group. -/
theorem flat_at (x : Vec Ideal S32x256x1024 .f32) (b : Fin 32) (l : Fin 256) (k : Fin 1024) :
    shapeCast S8192x1024 x shapeCasts_S32x256x1024_S8192x1024 (ix2 ⟨b.val * 256 + l.val, by omega⟩ k) = x (ix3 b l k) := by
  pointwise
/-- The rows of the result on one axis. -/
theorem one_axis : S32x256x3072.ShapeCasts S8192x3072 := by decide
theorem wide_at (x : Vec Ideal S32x256x3072 .bf16) (b : Fin 32) (l : Fin 256) (e : Fin 3072) :
    shapeCast S8192x3072 x one_axis (ix2 ⟨b.val * 256 + l.val, by omega⟩ e) = x (ix3 b l e) := by
  pointwise

theorem blk0 (c : Dev nD) (t : Fin cfg0.N) (r k : Fin 1024) (b : Fin 32) (l : Fin 256) (hr : b.val * 256 + l.val = t.val / 3 * 1024 + r.val) :
    (show EReal from iblk m c 0 t (ix2 r k)) = aX m c (ix3 b l k) := by
  refine (congrFun (congrArg (((cfg0.win 0).blk t).view.read (Elt Ideal)) (V_x m c)) _).trans ?_
  refine Eq.trans ?_ (flat_at (aX m c) b l k)
  generalize shapeCast S8192x1024 (aX m c) shapeCasts_S32x256x1024_S8192x1024 = v
  blk_ext [idx0 t]
theorem blk1 (c : Dev nD) (t : Fin cfg0.N) (k : Fin 1024) (e : Fin 1024) (e' : Fin 3072) (he : e'.val = t.val % 3 * 1024 + e.val) :
    (show EReal from iblk m c 1 t (ix2 k e)) = weights (aW m c) (ix2 k e') := by
  refine (congrFun (congrArg (((cfg0.win 1).blk t).view.read (Elt Ideal)) (V_w m c)) _).trans ?_
  generalize weights (aW m c) = v
  blk_ext [idx1 t]
theorem blk2 (c : Dev nD) (t : Fin cfg0.N) (k : Fin 1024) :
    (show EReal from iblk m c 2 t (ix3 0 0 k)) = aS m c (ix3 0 0 k) := by
  blk_ext [iblk, V, idx2 t]
theorem blk3 (c : Dev nD) (t : Fin cfg0.N) (k : Fin 1024) :
    (show EReal from iblk m c 3 t (ix3 0 0 k)) = aT m c (ix3 0 0 k) := by
  blk_ext [iblk, V, idx3 t]

/-- The result at group `b`, row `l`, column `e`. -/
def result (c : Dev nD) (b : Fin 32) (l : Fin 256) (e : Fin 3072) : EReal :=
  Moe.proj (fun k => aX m c (ix3 b l k)) (fun k => aS m c (ix3 0 0 k)) (fun k => aT m c (ix3 0 0 k)) (fun k => weights (aW m c) (ix2 k e))

/-- The array the kernel leaves, its rows on one axis. -/
theorem final (c : Dev nD) (G : Vec Ideal S8192x3072 .bf16)
    (hG : ∀ (b : Fin 32) (l : Fin 256) (e : Fin 3072), G (ix2 ⟨b.val * 256 + l.val, by omega⟩ e) = result m c b l e) :
    (dats m 0 c).arrAt 4 cfg0.N = G := by
  refine (dats m 0 c).arrAt_eq_of_covers 4 _ covers4 fun t hf y => ?_
  have ht : t.val < 24 := Nat.lt_of_lt_of_eq t.isLt N_0
  blk_simp
  rw [after0_4]
  obtain ⟨r, e, rfl⟩ : ∃ (r : Fin 1024) (e : Fin 1024), y = ix2 r e := ⟨y (0 : Fin 2), y (1 : Fin 2), eq_ix2 _⟩
  obtain ⟨b, hb⟩ : ∃ b : Fin 32, b.val = t.val / 3 * 4 + r.val / 256 := ⟨⟨t.val / 3 * 4 + r.val / 256, by have := r.isLt; omega⟩, rfl⟩
  obtain ⟨l, hl⟩ : ∃ l : Fin 256, l.val = r.val % 256 := ⟨⟨r.val % 256, by omega⟩, rfl⟩
  obtain ⟨e', he⟩ : ∃ e' : Fin 3072, e'.val = t.val % 3 * 1024 + e.val := ⟨⟨t.val % 3 * 1024 + e.val, by have := e.isLt; omega⟩, rfl⟩
  have hr : b.val * 256 + l.val = t.val / 3 * 1024 + r.val := by omega
  have hE : G ((((cfg0.win 4).blk t).view.emb (ix2 r e))) = G (ix2 ⟨b.val * 256 + l.val, by omega⟩ e') := by
    blk_ext [idx4 t]
  refine Eq.trans ?_ hE.symm
  rw [hG]
  frame_out
  exact pay1_of (iblk m c 0 t) (iblk m c 2 t) (iblk m c 3 t) (iblk m c 1 t) r e _ _ _ _ (fun k => blk0 m c t r k b l hr)
    (fun k => blk2 m c t k) (fun k => blk3 m c t k) (fun k => blk1 m c t k e e' he)

end Cert.CtxHyenaInIdeal.Value

end
-- ==== Proof.CtxHyenaInRef.lean ====
/- On the context stream: the projection into the Hyena mixer as the reference computes it, at one group, row and column. -/
module

public import proofs.«01_k».proof.Proof.Gen.CtxHyenaInRefIdeal.Run
public import proofs.«01_k».proof.Proof.ProjMath

@[expose] public section

set_option maxRecDepth 16384

noncomputable section

namespace Cert.CtxHyenaInRefIdeal.Value

open Cert.CtxHyenaInRefIdeal Cert.CtxHyenaInRefIdeal.Gen Idealize.ShloMosaic Idealize.ShloMosaic.TcCoe Idealize.SL.Sem

/-- The modulated rows. -/
def rows (X : FVec Ideal S32x256x1024 .f32) (S T : FVec Ideal S1x1x1024 .f32) : FVec Ideal S32x256x1024 .f32 :=
  addf (mulf X (broadcastInDim S32x256x1024 ![0, 1, 2] bcast_S1x1x1024_S32x256x1024_0_1_2 (addf (broadcastInDim S1x1x1024 ![] bcast_S_S1x1x1024 (constant S_ .f32 0x3F800000#32)) S))) (broadcastInDim S32x256x1024 ![0, 1, 2] bcast_S1x1x1024_S32x256x1024_0_1_2 T)

theorem one_at : Ideal.ofBits FTy.f32 0x3F800000#32 = 1 := by
  have h : Ideal.ofBits FTy.f32 0x3F800000#32 = ((1 : ℝ) : EReal) := by
    simp [Ideal.ofBits, Ideal.ieee, -EReal.coe_mul]; norm_num
  exact h.trans EReal.coe_one

theorem rows_at (X : FVec Ideal S32x256x1024 .f32) (S T : FVec Ideal S1x1x1024 .f32) (b : Fin 32) (l : Fin 256) (k : Fin 1024) :
    rows X S T (ix3 b l k) = Moe.modulated (fun k => X (ix3 b l k)) (fun k => S (ix3 0 0 k)) (fun k => T (ix3 0 0 k)) k := by
  pointwise [rows, one_at]
  rfl

/-- The reference's composed term, over its argument arrays. -/
def REF (X : FVec Ideal S32x256x1024 .f32) (S T : FVec Ideal S1x1x1024 .f32) (W : FVec Ideal S1024x3072 .f32) : FVec Ideal S32x256x3072 .bf16 :=
  truncf .bf16 (Host.dotGeneral dot_S32x256x1024_S1024x3072_S32x256x3072_2_0_01_1_n_n none (rows X S T) W) bitsLt_bf16_f32

theorem dot_at (H : FVec Ideal S32x256x1024 .f32) (W : FVec Ideal S1024x3072 .f32) (b : Fin 32) (l : Fin 256) (e : Fin 3072) :
    Host.dotGeneral dot_S32x256x1024_S1024x3072_S32x256x3072_2_0_01_1_n_n none H W (ix3 b l e) = ∑ k : Fin 1024, (H (ix3 b l k) * W (ix2 k e) : EReal) := by
  pointwise
theorem ref_at (X : FVec Ideal S32x256x1024 .f32) (S T : FVec Ideal S1x1x1024 .f32) (W : FVec Ideal S1024x3072 .f32) (b : Fin 32) (l : Fin 256) (e : Fin 3072) :
    REF X S T W (ix3 b l e) = Moe.proj (fun k => X (ix3 b l k)) (fun k => S (ix3 0 0 k)) (fun k => T (ix3 0 0 k)) (fun k => W (ix2 k e)) := by
  refine (dot_at _ W b l e).trans ?_
  simp only [rows_at]
  rfl

end Cert.CtxHyenaInRefIdeal.Value

end
-- ==== Proof.CtxHyenaInClaim.lean ====
/- On the context stream: the projection into the Hyena mixer leaves what the reference computes. -/
module

public import proofs.«01_k».proof.Defs
public import proofs.«01_k».proof.Proof.CtxHyenaInValue
public import proofs.«01_k».proof.Proof.CtxHyenaInRef
public import Idealize.ShloMosaic.Adequacy
public import Idealize.ShloMosaic.Init
public import Idealize.ShloMosaic.Lib.Claim

@[expose] public section

set_option maxRecDepth 16384

noncomputable section

namespace Cert.CtxHyenaInIdeal.Value

open Cert.CtxHyenaInIdeal Cert.CtxHyenaInIdeal.Gen Idealize.ShloMosaic Idealize.ShloMosaic.TcCoe Idealize.SL.Sem

variable (m : (ℓ : Loc nD τ sig) → Buf (Elt Ideal) ℓ)

/-- The reference's array, over the kernel's arguments. -/
def refArr (c : Dev nD) : Vec Ideal S32x256x3072 .bf16 := Cert.CtxHyenaInRefIdeal.Value.REF (aX m c) (aS m c) (aT m c) (aW m c)

/-- The reference's array with its rows on one axis is what the kernel leaves. -/
theorem left (c : Dev nD) : (dats m 0 c).arrAt 4 cfg0.N = shapeCast S8192x3072 (refArr m c) one_axis :=
  final m c _ fun b l e => (wide_at (refArr m c) b l e).trans ((Cert.CtxHyenaInRefIdeal.Value.ref_at _ _ _ _ b l e).trans
    (congrArg (Moe.proj _ _ _) (funext fun k => (weights_at (aW m c) k e).symm)))

theorem arr_inj : Function.Injective (Pipeline.arrRef spec0) := by decide

/-- The last host line puts the rows in their groups again. -/
theorem tail (c : Dev nD) : Pipeline.afterTail₀ cfgs (dats m) 0 (V0 m) [hostOps1] c main_v3 = refArr m c := by
  have h := Pipeline.withArrays_arr spec0 arr_inj c (V0 m c) (fun w => (dats m 0 c).arrAt w cfg0.N) 4
  show StableHlo.after hostOps1 (Pipeline.withArrays spec0 c (V0 m c) fun w => (dats m 0 c).arrAt w cfg0.N) (Proc.devRef .tc main_v3) = _
  generalize Pipeline.withArrays spec0 c (V0 m c) (fun w => (dats m 0 c).arrAt w cfg0.N) = W at h ⊢
  after_results
  refine (congrArg (fun u : Vec Ideal S8192x3072 .bf16 => shapeCast S32x256x3072 u shapeCasts_S8192x3072_S32x256x3072) (h.trans (left m c))).trans ?_
  exact shapeCast_shapeCast ..

theorem frame_ref : Cert.quiescent_CtxHyenaInRefIdeal := fun m g _ =>
  (θ_run Cert.CtxHyenaInRefIdeal.defs _ _).mono (fun r h => ⟨fun c => (h c).2, sem_eq_zero_of_no_sems (by decide) r.2⟩)
    (Cert.CtxHyenaInRefIdeal.Value.run m g)

/-- The result is the reference's. -/
theorem algebraic : Cert.algebraic_CtxHyenaInIdeal_CtxHyenaInRefIdeal := by
  intro m g m' g' _ hagree
  refine ⟨fun c => refArr m c, ?_, ?_⟩
  · exact (θ_run defs _ _).mono (fun r h c => ⟨((h.2 c).2 main_v3 (by decide)).trans (tail m c), h.1 c⟩)
      (θ_run_and (Gen.unchanged m g) (Gen.run_main m g))
  · refine (θ_run Cert.CtxHyenaInRefIdeal.defs _ _).mono (fun r h c => ⟨(h c).1.trans ?_, (h c).2⟩) (Cert.CtxHyenaInRefIdeal.Value.run m' g')
    obtain ⟨h0, h1, h2, h3⟩ := hagree c
    rw [h0, h1, h2, h3]
    rfl

end Cert.CtxHyenaInIdeal.Value

end
-- ==== Proof.lean ====
/- The claims of the calls, assembled: the frames of the programs and, for each call, the idealized kernel's results
   equal to the reference's. -/
module

public import proofs.«01_k».proof.Defs
public import proofs.«01_k».proof.Proof.Gen.ReferenceIdeal.Run
public import proofs.«01_k».proof.Proof.Gen.Combine.Frame
public import proofs.«01_k».proof.Proof.Gen.CombineIdeal.Frame
public import proofs.«01_k».proof.Proof.Gen.Route.Frame
public import proofs.«01_k».proof.Proof.Gen.RouteIdeal.Frame
public import proofs.«01_k».proof.Proof.Gen.CombineRefIdeal.Run
public import proofs.«01_k».proof.Proof.Gen.RouteRefIdeal.Run
public import proofs.«01_k».proof.Proof.Gen.Dense.Frame
public import proofs.«01_k».proof.Proof.Gen.DenseIdeal.Frame
public import proofs.«01_k».proof.Proof.Gen.DenseRefIdeal.Run
public import proofs.«01_k».proof.Proof.Gen.Out.Frame
public import proofs.«01_k».proof.Proof.Gen.OutIdeal.Frame
public import proofs.«01_k».proof.Proof.Gen.OutRefIdeal.Run
public import proofs.«01_k».proof.Proof.Gen.GlaIn.Frame
public import proofs.«01_k».proof.Proof.Gen.GlaInIdeal.Frame
public import proofs.«01_k».proof.Proof.Gen.GlaInRefIdeal.Run
public import proofs.«01_k».proof.Proof.Gen.DeltaIn.Frame
public import proofs.«01_k».proof.Proof.Gen.DeltaInIdeal.Frame
public import proofs.«01_k».proof.Proof.Gen.DeltaInRefIdeal.Run
public import proofs.«01_k».proof.Proof.Gen.HyenaIn.Frame
public import proofs.«01_k».proof.Proof.Gen.HyenaInIdeal.Frame
public import proofs.«01_k».proof.Proof.Gen.HyenaInRefIdeal.Run
public import proofs.«01_k».proof.Proof.TableOkBits
public import proofs.«01_k».proof.Proof.LaunchBits
public import proofs.«01_k».proof.Proof.KernelClaim
public import proofs.«01_k».proof.Proof.RouteClaim
public import proofs.«01_k».proof.Proof.CombineClaim
public import proofs.«01_k».proof.Proof.DenseTableBits
public import proofs.«01_k».proof.Proof.DenseClaim
public import proofs.«01_k».proof.Proof.OutClaim
public import proofs.«01_k».proof.Proof.GlaInClaim
public import proofs.«01_k».proof.Proof.DeltaInClaim
public import proofs.«01_k».proof.Proof.HyenaInClaim
public import proofs.«01_k».proof.Proof.Gen.CtxCombine.Frame
public import proofs.«01_k».proof.Proof.Gen.CtxRoute.Frame
public import proofs.«01_k».proof.Proof.CtxTableOkBits
public import proofs.«01_k».proof.Proof.CtxLaunchBits
public import proofs.«01_k».proof.Proof.CtxKernelClaim
public import proofs.«01_k».proof.Proof.CtxRouteClaim
public import proofs.«01_k».proof.Proof.CtxCombineClaim
public import proofs.«01_k».proof.Proof.Gen.CtxDense.Frame
public import proofs.«01_k».proof.Proof.Gen.CtxOut.Frame
public import proofs.«01_k».proof.Proof.Gen.CtxGlaIn.Frame
public import proofs.«01_k».proof.Proof.Gen.CtxDeltaIn.Frame
public import proofs.«01_k».proof.Proof.Gen.CtxHyenaIn.Frame
public import proofs.«01_k».proof.Proof.CtxDenseTableBits
public import proofs.«01_k».proof.Proof.CtxDenseClaim
public import proofs.«01_k».proof.Proof.CtxOutClaim
public import proofs.«01_k».proof.Proof.CtxGlaInClaim
public import proofs.«01_k».proof.Proof.CtxDeltaInClaim
public import proofs.«01_k».proof.Proof.CtxHyenaInClaim
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem

theorem claim : Cert.Claim :=
  ⟨Cert.Kernel.Gen.facts, Cert.KernelIdeal.Gen.facts, Cert.ReferenceIdeal.Gen.facts, Cert.Combine.Gen.facts, Cert.CombineIdeal.Gen.facts,
    Cert.CombineRefIdeal.Gen.facts, Cert.Route.Gen.facts, Cert.RouteIdeal.Gen.facts, Cert.RouteRefIdeal.Gen.facts,
    Cert.Dense.Gen.facts, Cert.DenseIdeal.Gen.facts, Cert.DenseRefIdeal.Gen.facts,
    Cert.Out.Gen.facts, Cert.OutIdeal.Gen.facts, Cert.OutRefIdeal.Gen.facts,
    Cert.GlaIn.Gen.facts, Cert.GlaInIdeal.Gen.facts, Cert.GlaInRefIdeal.Gen.facts,
    Cert.DeltaIn.Gen.facts, Cert.DeltaInIdeal.Gen.facts, Cert.DeltaInRefIdeal.Gen.facts,
    Cert.HyenaIn.Gen.facts, Cert.HyenaInIdeal.Gen.facts, Cert.HyenaInRefIdeal.Gen.facts,
    Cert.CtxKernel.Gen.facts, Cert.CtxKernelIdeal.Gen.facts, Cert.CtxReferenceIdeal.Gen.facts,
    Cert.CtxCombine.Gen.facts, Cert.CtxCombineIdeal.Gen.facts, Cert.CtxCombineRefIdeal.Gen.facts,
    Cert.CtxRoute.Gen.facts, Cert.CtxRouteIdeal.Gen.facts, Cert.CtxRouteRefIdeal.Gen.facts,
    Cert.CtxDense.Gen.facts, Cert.CtxDenseIdeal.Gen.facts, Cert.CtxDenseRefIdeal.Gen.facts,
    Cert.CtxOut.Gen.facts, Cert.CtxOutIdeal.Gen.facts, Cert.CtxOutRefIdeal.Gen.facts,
    Cert.CtxGlaIn.Gen.facts, Cert.CtxGlaInIdeal.Gen.facts, Cert.CtxGlaInRefIdeal.Gen.facts,
    Cert.CtxDeltaIn.Gen.facts, Cert.CtxDeltaInIdeal.Gen.facts, Cert.CtxDeltaInRefIdeal.Gen.facts,
    Cert.CtxHyenaIn.Gen.facts, Cert.CtxHyenaInIdeal.Gen.facts, Cert.CtxHyenaInRefIdeal.Gen.facts,
    fun m g _ => Cert.Kernel.Launch.frame m g (Cert.Kernel.Value.ok m), fun m g _ => Cert.KernelIdeal.Launch.frame m g (Cert.KernelIdeal.Value.ok m),
    Cert.KernelIdeal.Value.frame_ref,
    fun m g _ => Cert.Combine.Gen.frame m g, fun m g _ => Cert.CombineIdeal.Gen.frame m g, Cert.CombineIdeal.Value.frame_ref,
    fun m g _ => Cert.Route.Gen.frame m g, fun m g _ => Cert.RouteIdeal.Gen.frame m g, Cert.RouteIdeal.Value.frame_ref,
    fun m g _ => Cert.Dense.Gen.frame m g (Cert.Dense.Value.ok m), fun m g _ => Cert.DenseIdeal.Gen.frame m g (Cert.DenseIdeal.Value.ok m), Cert.DenseIdeal.Value.frame_ref,
    fun m g _ => Cert.Out.Gen.frame m g, fun m g _ => Cert.OutIdeal.Gen.frame m g, Cert.OutIdeal.Value.frame_ref,
    fun m g _ => Cert.GlaIn.Gen.frame m g, fun m g _ => Cert.GlaInIdeal.Gen.frame m g, Cert.GlaInIdeal.Value.frame_ref,
    fun m g _ => Cert.DeltaIn.Gen.frame m g, fun m g _ => Cert.DeltaInIdeal.Gen.frame m g, Cert.DeltaInIdeal.Value.frame_ref,
    fun m g _ => Cert.HyenaIn.Gen.frame m g, fun m g _ => Cert.HyenaInIdeal.Gen.frame m g, Cert.HyenaInIdeal.Value.frame_ref,
    fun m g _ => Cert.CtxKernel.Launch.frame m g (Cert.CtxKernel.Value.ok m), fun m g _ => Cert.CtxKernelIdeal.Launch.frame m g (Cert.CtxKernelIdeal.Value.ok m),
    Cert.CtxKernelIdeal.Value.frame_ref,
    fun m g _ => Cert.CtxCombine.Gen.frame m g, fun m g _ => Cert.CtxCombineIdeal.Gen.frame m g, Cert.CtxCombineIdeal.Value.frame_ref,
    fun m g _ => Cert.CtxRoute.Gen.frame m g, fun m g _ => Cert.CtxRouteIdeal.Gen.frame m g, Cert.CtxRouteIdeal.Value.frame_ref,
    fun m g _ => Cert.CtxDense.Gen.frame m g (Cert.CtxDense.Value.ok m), fun m g _ => Cert.CtxDenseIdeal.Gen.frame m g (Cert.CtxDenseIdeal.Value.ok m), Cert.CtxDenseIdeal.Value.frame_ref,
    fun m g _ => Cert.CtxOut.Gen.frame m g, fun m g _ => Cert.CtxOutIdeal.Gen.frame m g, Cert.CtxOutIdeal.Value.frame_ref,
    fun m g _ => Cert.CtxGlaIn.Gen.frame m g, fun m g _ => Cert.CtxGlaInIdeal.Gen.frame m g, Cert.CtxGlaInIdeal.Value.frame_ref,
    fun m g _ => Cert.CtxDeltaIn.Gen.frame m g, fun m g _ => Cert.CtxDeltaInIdeal.Gen.frame m g, Cert.CtxDeltaInIdeal.Value.frame_ref,
    fun m g _ => Cert.CtxHyenaIn.Gen.frame m g, fun m g _ => Cert.CtxHyenaInIdeal.Gen.frame m g, Cert.CtxHyenaInIdeal.Value.frame_ref,
    trivial, Cert.KernelIdeal.Value.algebraic, Cert.CombineIdeal.Value.preserves, Cert.CombineIdeal.Value.algebraic,
    trivial, Cert.RouteIdeal.Value.algebraic, Cert.DenseIdeal.Value.preserves, Cert.DenseIdeal.Value.algebraic,
    Cert.OutIdeal.Value.preserves, Cert.OutIdeal.Value.algebraic, trivial, Cert.GlaInIdeal.Value.algebraic,
    trivial, Cert.DeltaInIdeal.Value.algebraic, trivial, Cert.HyenaInIdeal.Value.algebraic,
    trivial, Cert.CtxKernelIdeal.Value.algebraic, Cert.CtxCombineIdeal.Value.preserves, Cert.CtxCombineIdeal.Value.algebraic,
    trivial, Cert.CtxRouteIdeal.Value.algebraic,
    Cert.CtxDenseIdeal.Value.preserves, Cert.CtxDenseIdeal.Value.algebraic,
    Cert.CtxOutIdeal.Value.preserves, Cert.CtxOutIdeal.Value.algebraic,
    trivial, Cert.CtxGlaInIdeal.Value.algebraic,
    trivial, Cert.CtxDeltaInIdeal.Value.algebraic,
    trivial, Cert.CtxHyenaInIdeal.Value.algebraic⟩

end Cert.Proof

end
